-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)) →
    ∃ (v0 : (c : Dev Cert.Kernel1Ideal.nD) → Buf (Elt Ideal) ((c.tc : Thread Cert.Kernel1Ideal.nD Cert.Kernel1Ideal.τ).loc Cert.Kernel1Ideal.main_v3_0)) (v1 : (c : Dev Cert.Kernel1Ideal.nD) → Buf (Elt Ideal) ((c.tc : Thread Cert.Kernel1Ideal.nD Cert.Kernel1Ideal.τ).loc Cert.Kernel1Ideal.main_v3_1)) (v2 : (c : Dev Cert.Kernel1Ideal.nD) → Buf (Elt Ideal) ((c.tc : Thread Cert.Kernel1Ideal.nD Cert.Kernel1Ideal.τ).loc Cert.Kernel1Ideal.main_v3_2)) (v3 : (c : Dev Cert.Kernel1Ideal.nD) → Buf (Elt Ideal) ((c.tc : Thread Cert.Kernel1Ideal.nD Cert.Kernel1Ideal.τ).loc Cert.Kernel1Ideal.main_v4_0)) (v4 : (c : Dev Cert.Kernel1Ideal.nD) → Buf (Elt Ideal) ((c.tc : Thread Cert.Kernel1Ideal.nD Cert.Kernel1Ideal.τ).loc Cert.Kernel1Ideal.main_v4_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v3_0) = v0 c
          ∧ r.2.mem ((c.tc : Thread Cert.Kernel1Ideal.nD Cert.Kernel1Ideal.τ).loc Cert.Kernel1Ideal.main_v3_1) = v1 c
          ∧ r.2.mem ((c.tc : Thread Cert.Kernel1Ideal.nD Cert.Kernel1Ideal.τ).loc Cert.Kernel1Ideal.main_v3_2) = v2 c
          ∧ r.2.mem ((c.tc : Thread Cert.Kernel1Ideal.nD Cert.Kernel1Ideal.τ).loc Cert.Kernel1Ideal.main_v4_0) = v3 c
          ∧ r.2.mem ((c.tc : Thread Cert.Kernel1Ideal.nD Cert.Kernel1Ideal.τ).loc Cert.Kernel1Ideal.main_v4_1) = v4 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v22) = v0 c
          ∧ r.2.mem ((c.tc : Thread Cert.Reference1Ideal.nD Cert.Reference1Ideal.τ).loc Cert.Reference1Ideal.main_v0) = v1 c
          ∧ r.2.mem ((c.tc : Thread Cert.Reference1Ideal.nD Cert.Reference1Ideal.τ).loc Cert.Reference1Ideal.main_v1) = v2 c
          ∧ r.2.mem ((c.tc : Thread Cert.Reference1Ideal.nD Cert.Reference1Ideal.τ).loc Cert.Reference1Ideal.main_v23) = v3 c
          ∧ r.2.mem ((c.tc : Thread Cert.Reference1Ideal.nD Cert.Reference1Ideal.τ).loc Cert.Reference1Ideal.main_v24) = v4 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v6_0)) (v5 : (c : Dev Cert.Kernel4Ideal.nD) → Buf (Elt Ideal) ((c.tc : Thread Cert.Kernel4Ideal.nD Cert.Kernel4Ideal.τ).loc Cert.Kernel4Ideal.main_v6_1)) (v6 : (c : Dev Cert.Kernel4Ideal.nD) → Buf (Elt Ideal) ((c.tc : Thread Cert.Kernel4Ideal.nD Cert.Kernel4Ideal.τ).loc Cert.Kernel4Ideal.main_v6_2)) (v7 : (c : Dev Cert.Kernel4Ideal.nD) → Buf (Elt Ideal) ((c.tc : Thread Cert.Kernel4Ideal.nD Cert.Kernel4Ideal.τ).loc Cert.Kernel4Ideal.main_v6_3)) (v8 : (c : Dev Cert.Kernel4Ideal.nD) → Buf (Elt Ideal) ((c.tc : Thread Cert.Kernel4Ideal.nD Cert.Kernel4Ideal.τ).loc Cert.Kernel4Ideal.main_v6_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v6_0) = v4 c
          ∧ r.2.mem ((c.tc : Thread Cert.Kernel4Ideal.nD Cert.Kernel4Ideal.τ).loc Cert.Kernel4Ideal.main_v6_1) = v5 c
          ∧ r.2.mem ((c.tc : Thread Cert.Kernel4Ideal.nD Cert.Kernel4Ideal.τ).loc Cert.Kernel4Ideal.main_v6_2) = v6 c
          ∧ r.2.mem ((c.tc : Thread Cert.Kernel4Ideal.nD Cert.Kernel4Ideal.τ).loc Cert.Kernel4Ideal.main_v6_3) = v7 c
          ∧ r.2.mem ((c.tc : Thread Cert.Kernel4Ideal.nD Cert.Kernel4Ideal.τ).loc Cert.Kernel4Ideal.main_v6_4) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v139) = v2 c
          ∧ r.2.mem ((c.tc : Thread Cert.Reference4Ideal.nD Cert.Reference4Ideal.τ).loc Cert.Reference4Ideal.main_v140) = v3 c
          ∧ r.2.mem ((c.tc : Thread Cert.Reference4Ideal.nD Cert.Reference4Ideal.τ).loc Cert.Reference4Ideal.main_v136) = v4 c
          ∧ r.2.mem ((c.tc : Thread Cert.Reference4Ideal.nD Cert.Reference4Ideal.τ).loc Cert.Reference4Ideal.main_v128) = v5 c
          ∧ r.2.mem ((c.tc : Thread Cert.Reference4Ideal.nD Cert.Reference4Ideal.τ).loc Cert.Reference4Ideal.main_v141) = v6 c
          ∧ r.2.mem ((c.tc : Thread Cert.Reference4Ideal.nD Cert.Reference4Ideal.τ).loc Cert.Reference4Ideal.main_v142) = v7 c
          ∧ r.2.mem ((c.tc : Thread Cert.Reference4Ideal.nD Cert.Reference4Ideal.τ).loc Cert.Reference4Ideal.main_v143) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel6_Kernel6Ideal : Prop :=
  IdealRules.named_const.Statement Cert.Kernel6Ideal.κ "log_gamma_2" .f32 0xBC0080AC#32 ((Real.log (127 / 128) : ℝ) : EReal)
  ∧ IdealRules.named_const.Statement Cert.Kernel6Ideal.κ "log_gamma_3" .f32 0xBB80402B#32 ((Real.log (255 / 256) : ℝ) : EReal)
  ∧ IdealRules.named_const.Statement Cert.Kernel6Ideal.κ "log_gamma_1" .f32 0xBC8102B3#32 ((Real.log (63 / 64) : ℝ) : EReal)
  ∧ IdealRules.named_const.Statement Cert.Kernel6Ideal.κ "log_gamma_0" .f32 0xBD020AEC#32 ((Real.log (31 / 32) : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17_2)) (v1 : (c : Dev Cert.Kernel6Ideal.nD) → Buf (Elt Ideal) ((c.tc : Thread Cert.Kernel6Ideal.nD Cert.Kernel6Ideal.τ).loc Cert.Kernel6Ideal.main_v18_0)) (v2 : (c : Dev Cert.Kernel6Ideal.nD) → Buf (Elt Ideal) ((c.tc : Thread Cert.Kernel6Ideal.nD Cert.Kernel6Ideal.τ).loc Cert.Kernel6Ideal.main_v18_1)) (v3 : (c : Dev Cert.Kernel6Ideal.nD) → Buf (Elt Ideal) ((c.tc : Thread Cert.Kernel6Ideal.nD Cert.Kernel6Ideal.τ).loc Cert.Kernel6Ideal.main_v18_2)) (v4 : (c : Dev Cert.Kernel6Ideal.nD) → Buf (Elt Ideal) ((c.tc : Thread Cert.Kernel6Ideal.nD Cert.Kernel6Ideal.τ).loc Cert.Kernel6Ideal.main_v18_3)) (v5 : (c : Dev Cert.Kernel6Ideal.nD) → Buf (Elt Ideal) ((c.tc : Thread Cert.Kernel6Ideal.nD Cert.Kernel6Ideal.τ).loc Cert.Kernel6Ideal.main_v18_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_2) = v0 c
          ∧ r.2.mem ((c.tc : Thread Cert.Kernel6Ideal.nD Cert.Kernel6Ideal.τ).loc Cert.Kernel6Ideal.main_v18_0) = v1 c
          ∧ r.2.mem ((c.tc : Thread Cert.Kernel6Ideal.nD Cert.Kernel6Ideal.τ).loc Cert.Kernel6Ideal.main_v18_1) = v2 c
          ∧ r.2.mem ((c.tc : Thread Cert.Kernel6Ideal.nD Cert.Kernel6Ideal.τ).loc Cert.Kernel6Ideal.main_v18_2) = v3 c
          ∧ r.2.mem ((c.tc : Thread Cert.Kernel6Ideal.nD Cert.Kernel6Ideal.τ).loc Cert.Kernel6Ideal.main_v18_3) = v4 c
          ∧ r.2.mem ((c.tc : Thread Cert.Kernel6Ideal.nD Cert.Kernel6Ideal.τ).loc Cert.Kernel6Ideal.main_v18_4) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v167) = v0 c
          ∧ r.2.mem ((c.tc : Thread Cert.Reference6Ideal.nD Cert.Reference6Ideal.τ).loc Cert.Reference6Ideal.main_v277) = v1 c
          ∧ r.2.mem ((c.tc : Thread Cert.Reference6Ideal.nD Cert.Reference6Ideal.τ).loc Cert.Reference6Ideal.main_v276) = v2 c
          ∧ r.2.mem ((c.tc : Thread Cert.Reference6Ideal.nD Cert.Reference6Ideal.τ).loc Cert.Reference6Ideal.main_v275) = v3 c
          ∧ r.2.mem ((c.tc : Thread Cert.Reference6Ideal.nD Cert.Reference6Ideal.τ).loc Cert.Reference6Ideal.main_v174) = v4 c
          ∧ r.2.mem ((c.tc : Thread Cert.Reference6Ideal.nD Cert.Reference6Ideal.τ).loc Cert.Reference6Ideal.main_v206) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)) (v2 : (c : Dev Cert.Kernel9Ideal.nD) → Buf (Elt Ideal) ((c.tc : Thread Cert.Kernel9Ideal.nD Cert.Kernel9Ideal.τ).loc Cert.Kernel9Ideal.main_v11_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_v11_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v33) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)) (v1 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_v1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite2 : Cert.Pre_finite2.Facts) (hPre_finite3 : Cert.Pre_finite3.Facts) (hPre_finite6 : Cert.Pre_finite6.Facts) (hPre_finite5 : Cert.Pre_finite5.Facts),
    quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite2.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S4096x1024 .f32) (main_arg2 : FVec F S1x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite3.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S1x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite5.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite6.lean ====
abbrev S4096x1024 : Shape := ⟨2, ![4096, 1024]⟩
abbrev S4096x3072 : Shape := ⟨2, ![4096, 3072]⟩
abbrev S1x512 : Shape := ⟨2, ![1, 512]⟩
abbrev S4096x512 : Shape := ⟨2, ![4096, 512]⟩
abbrev S_ : Shape := ⟨0, ![]⟩
abbrev S4096x2048 : Shape := ⟨2, ![4096, 2048]⟩

class Facts : Prop where
  slices_S4096x1024_S4096x512_0_0 : S4096x1024.Slices ![0, 0] S4096x512
  bcast_S_S4096x512 : S_.BroadcastsInDim S4096x512 (![] : Fin 0 → Fin S4096x512.rank)
  reducesTo_S4096x512_S_d0_1 : S4096x512.ReducesTo [0, 1] S_
  h_S_ : 0 < S_.numel
  slices_S4096x3072_S4096x2048_0_0 : S4096x3072.Slices ![0, 0] S4096x2048
  bcast_S_S4096x2048 : S_.BroadcastsInDim S4096x2048 (![] : Fin 0 → Fin S4096x2048.rank)
  reducesTo_S4096x2048_S_d0_1 : S4096x2048.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S4096x1024 .f32) (main_arg1 : FVec F S4096x3072 .f32) (main_arg2 : FVec F S1x512 .f32) : IVec S_ 1 :=
  let main_v0 : FVec F S4096x512 .f32 := (extractStridedSlice S4096x512 ![0, 0] · slices_S4096x1024_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x2048 .f32 := (extractStridedSlice S4096x2048 ![0, 0] · slices_S4096x3072_S4096x2048_0_0) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S1x512 .f32 := Host.absf main_arg2
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_c_3 : IVec S_ 1 := constantI S_ 1 1#1
  let main_v14 : IVec S_ 1 := (fun x v => Host.reduce IntOp.andi x v reducesTo_S1x512_S_d0_1 h_S_) main_v13 main_c_3
  let main_v15 : IVec S_ 1 := andi main_v10 main_v14
  main_v15
-- ==== Kernel1.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 13
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference1Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x1024, .f32⟩
  | .hbm, ⟨73, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel4.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x16x64 : Shape := ⟨3, ![64, 16, 64]⟩
abbrev S64x1x64 : Shape := ⟨3, ![64, 1, 64]⟩

abbrev nBuf : Space → Nat
  | .hbm => 23
  | .vmem => 23
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1, .f32⟩
  | .hbm, ⟨10, _⟩ => ⟨S64x16x64, .f32⟩
  | .hbm, ⟨11, _⟩ => ⟨S64x16x64, .f32⟩
  | .hbm, ⟨12, _⟩ => ⟨S64x16x64, .f32⟩
  | .hbm, ⟨13, _⟩ => ⟨S64x16x64, .f32⟩
  | .hbm, ⟨14, _⟩ => ⟨S64x64, .f32⟩
  | .hbm, ⟨15, _⟩ => ⟨S64x64, .f32⟩
  | .hbm, ⟨16, _⟩ => ⟨S64x16x64, .f32⟩
  | .hbm, ⟨17, _⟩ => ⟨S64x16x64, .f32⟩
  | .hbm, ⟨18, _⟩ => ⟨S64x64, .f32⟩
  | .hbm, ⟨19, _⟩ => ⟨S64x64, .f32⟩
  | .hbm, ⟨20, _⟩ => ⟨S64x1, .f32⟩
  | .hbm, ⟨21, _⟩ => ⟨S64x16x64, .f32⟩
  | .hbm, ⟨22, _⟩ => ⟨S64x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x64, .f32⟩
  | .local _ .vmem, ⟨6, _⟩ => ⟨S64x64, .f32⟩
  | .local _ .vmem, ⟨7, _⟩ => ⟨S64x16x64, .f32⟩
  | .local _ .vmem, ⟨8, _⟩ => ⟨S64x16x64, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S64x16x64, .f32⟩
  | .local _ .vmem, ⟨13, _⟩ => ⟨S64x16x64, .f32⟩
  | .local _ .vmem, ⟨14, _⟩ => ⟨S64x64, .f32⟩
  | .local _ .vmem, ⟨15, _⟩ => ⟨S64x64, .f32⟩
  | .local _ .vmem, ⟨16, _⟩ => ⟨S64x16x64, .f32⟩
  | .local _ .vmem, ⟨17, _⟩ => ⟨S64x16x64, .f32⟩
  | .local _ .vmem, ⟨18, _⟩ => ⟨S64x64, .f32⟩
  | .local _ .vmem, ⟨19, _⟩ => ⟨S64x64, .f32⟩
  | .local _ .vmem, ⟨20, _⟩ => ⟨S64x1, .f32⟩
  | .local _ .vmem, ⟨21, _⟩ => ⟨S64x16x64, .f32⟩
  | .local _ .vmem, ⟨22, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := .none

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x16x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x16x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S64x16x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S64x16x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
-- ==== Reference4Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x16x64 : Shape := ⟨3, ![64, 16, 64]⟩

abbrev nBuf : Space → Nat
  | .hbm => 166
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64x1, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64x1, .f32⟩
  | 48 => ⟨S64x64x16, .f32⟩
  | 49 => ⟨S64x64x16, .f32⟩
  | 50 => ⟨S64x64x16, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S_, .f32⟩
  | 64 => ⟨S64x64, .f32⟩
  | 65 => ⟨S64x64x1, .f32⟩
  | 66 => ⟨S64x64x16, .f32⟩
  | 67 => ⟨S64x64x16, .f32⟩
  | 68 => ⟨S64x64x16, .f32⟩
  | 69 => ⟨S_, .f32⟩
  | 70 => ⟨S64x64, .f32⟩
  | 71 => ⟨S64x64x1, .f32⟩
  | 72 => ⟨S64x64x16, .f32⟩
  | 73 => ⟨S64x64x16, .f32⟩
  | 74 => ⟨S64x64x16, .f32⟩
  | 75 => ⟨S64x64x16, .f32⟩
  | 76 => ⟨S64x64x16, .f32⟩
  | 77 => ⟨S64x64x16, .f32⟩
  | 78 => ⟨S_, .f32⟩
  | 79 => ⟨S64x64, .f32⟩
  | 80 => ⟨S64x64x1, .f32⟩
  | 81 => ⟨S64x64x1, .f32⟩
  | 82 => ⟨S64x64x16, .f32⟩
  | 83 => ⟨S64x64x16, .f32⟩
  | 84 => ⟨S64x64x16, .f32⟩
  | 85 => ⟨S64x64x16, .f32⟩
  | 86 => ⟨S_, .f32⟩
  | 87 => ⟨S64x64, .f32⟩
  | 88 => ⟨S64x64x1, .f32⟩
  | 89 => ⟨S64x64x1, .f32⟩
  | 90 => ⟨S_, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S_, .f32⟩
  | 3 => ⟨S64, .f32⟩
  | 4 => ⟨S64x1, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S_, .f32⟩
  | 15 => ⟨S64, .f32⟩
  | 16 => ⟨S64x1, .f32⟩
  | 17 => ⟨S64x1, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S_, .f32⟩
  | 24 => ⟨S64, .f32⟩
  | 25 => ⟨S64x1, .f32⟩
  | 26 => ⟨S64x1, .f32⟩
  | 27 => ⟨S64x64, .f32⟩
  | 28 => ⟨S64x64, .f32⟩
  | 29 => ⟨S64x64, .f32⟩
  | 30 => ⟨S_, .f32⟩
  | 31 => ⟨S64, .f32⟩
  | 32 => ⟨S64, .f32⟩
  | 33 => ⟨S64x16x64, .f32⟩
  | 34 => ⟨S64x16x64, .f32⟩
  | 35 => ⟨S64x1, .f32⟩
  | 36 => ⟨S64x16x64, .f32⟩
  | 37 => ⟨S64x16x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_7 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_8 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_9 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_10 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_11 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩

abbrev nD : Nat := 1
abbrev τ : Topo := Topo.v7x

variable {F : FTy → Type} [FloatOps F]
-- ==== Kernel6.lean ====
abbrev S4096x1024 : Shape := ⟨2, ![4096, 1024]⟩
abbrev S4096x3072 : Shape := ⟨2, ![4096, 3072]⟩
abbrev S1x512 : Shape := ⟨2, ![1, 512]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4096x512 : Shape := ⟨2, ![4096, 512]⟩
abbrev S2x4x16x128x128 : Shape := ⟨5, ![2, 4, 16, 128, 128]⟩
abbrev S4096x128 : Shape := ⟨2, ![4096, 128]⟩
abbrev S1x128 : Shape := ⟨2, ![1, 128]⟩
abbrev S2x1x16x128x128 : Shape := ⟨5, ![2, 1, 16, 128, 128]⟩
abbrev S128x128 : Shape := ⟨2, ![128, 128]⟩
abbrev S128x1 : Shape := ⟨2, ![128, 1]⟩
abbrev S1x1x1x128x128 : Shape := ⟨5, ![1, 1, 1, 128, 128]⟩
abbrev S128 : Shape := ⟨1, ![128]⟩

abbrev nBuf : Space → Nat
  | .hbm => 30
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1x512, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S4096x512, .f32⟩
  | .hbm, ⟨23, _⟩ => ⟨S2x4x16x128x128, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S2x1x16x128x128, .f32⟩
  | .local _ .vmem, ⟨15, _⟩ => ⟨S2x1x16x128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S2x1x16x128x128, .f32⟩
  | .local _ .vmem, ⟨23, _⟩ => ⟨S2x1x16x128x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S2048x128, .f32⟩
  | .local _ .vmem, ⟨33, _⟩ => ⟨S2048x128, .f32⟩
  | .local _ .vmem, ⟨34, _⟩ => ⟨S1x128, .f32⟩
  | .local _ .vmem, ⟨35, _⟩ => ⟨S1x128, .f32⟩
  | .local _ .vmem, ⟨36, _⟩ => ⟨S4096x128, .f32⟩
  | .local _ .vmem, ⟨37, _⟩ => ⟨S4096x128, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | .local _ .vmem, ⟨42, _⟩ => ⟨S4096x128, .f32⟩
  | .local _ .vmem, ⟨43, _⟩ => ⟨S4096x128, .f32⟩
  | .local _ .vmem, ⟨44, _⟩ => ⟨S1x128, .f32⟩
  | .local _ .vmem, ⟨45, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg14_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_10 : BitVec 32 := 0#32
  let c16_i32 : BitVec 32 := 16#32
  let v34 : BitVec 32 := Scalar.addi c0_i32_10 c16_i32
  let c1_i32_11 : BitVec 32 := 1#32
  ⟨c0_i32_10, v34, c1_i32_11⟩
def k0_mult1 (k0_t1 : Fin k0_t1_loop.trips) : BitVec 32 :=
  let c0_i32_13 : BitVec 32 := 0#32
  let c0_i32_10 : BitVec 32 := 0#32
  let c1_i32_11 : BitVec 32 := 1#32
  let arg11 : BitVec 32 := Scf.iv c0_i32_10 c1_i32_11 k0_t1
  let c128_i32 : BitVec 32 := 128#32
  let v36 : BitVec 32 := Scalar.muli arg11 c128_i32
  let v37 : BitVec 32 := Scalar.addi c0_i32_13 v36
  v37
def k0_mult2 (k0_t1 : Fin k0_t1_loop.trips) : BitVec 32 :=
  let c0_i32_10 : BitVec 32 := 0#32
  let c1_i32_11 : BitVec 32 := 1#32
  let arg11 : BitVec 32 := Scf.iv c0_i32_10 c1_i32_11 k0_t1
  let c128_i32_14 : BitVec 32 := 128#32
  let v39 : BitVec 32 := Scalar.muli arg11 c128_i32_14
  v39
def k0_off1 (k0_t1 : Fin k0_t1_loop.trips) : Fin 2 → Nat :=
  let c0_i32_10 : BitVec 32 := 0#32
  let c1_i32_11 : BitVec 32 := 1#32
  let arg11 : BitVec 32 := Scf.iv c0_i32_10 c1_i32_11 k0_t1
  let c128_i32_14 : BitVec 32 := 128#32
  let v39 : BitVec 32 := Scalar.muli arg11 c128_i32_14
  let v40 : BitVec 32 := v39
  let v41 : Index := Scalar.indexCast v40
  let c0_15 : Index := 0#32
  ![v41.toNat, 0]
def k0_off2 (k0_t1 : Fin k0_t1_loop.trips) (c0_i32_13 : BitVec 32) : Fin 2 → Nat :=
  let c0_i32_10 : BitVec 32 := 0#32
  let c1_i32_11 : BitVec 32 := 1#32
  let arg11 : BitVec 32 := Scf.iv c0_i32_10 c1_i32_11 k0_t1
  let c128_i32 : BitVec 32 := 128#32
  let v36 : BitVec 32 := Scalar.muli arg11 c128_i32
  let v37 : BitVec 32 := Scalar.addi c0_i32_13 v36
  let v38 : BitVec 32 := v37
  let v47 : Index := Scalar.indexCast v38
  let c0_17 : Index := 0#32
  ![v47.toNat, 0]
def k0_off3 (k0_t1 : Fin k0_t1_loop.trips) : Fin 5 → Nat :=
  let c0_23 : Index := 0#32
  let c0_24 : Index := 0#32
  let c0_i32_10 : BitVec 32 := 0#32
  let c1_i32_11 : BitVec 32 := 1#32
  let arg11 : BitVec 32 := Scf.iv c0_i32_10 c1_i32_11 k0_t1
  let v68 : Index := Scalar.indexCast arg11
  let c0_25 : Index := 0#32
  let c0_26 : Index := 0#32
  ![0, 0, v68.toNat, 0, 0]
def k0_mult3 (k0_t1 : Fin k0_t1_loop.trips) : BitVec 32 :=
  let c2048_i32 : BitVec 32 := 2048#32
  let c0_i32_10 : BitVec 32 := 0#32
  let c1_i32_11 : BitVec 32 := 1#32
  let arg11 : BitVec 32 := Scf.iv c0_i32_10 c1_i32_11 k0_t1
  let c128_i32_38 : BitVec 32 := 128#32
  let v114 : BitVec 32 := Scalar.muli arg11 c128_i32_38
  let v115 : BitVec 32 := Scalar.addi c2048_i32 v114
  v115
def k0_mult4 (k0_t1 : Fin k0_t1_loop.trips) : BitVec 32 :=
  let c0_i32_10 : BitVec 32 := 0#32
  let c1_i32_11 : BitVec 32 := 1#32
  let arg11 : BitVec 32 := Scf.iv c0_i32_10 c1_i32_11 k0_t1
  let c128_i32_39 : BitVec 32 := 128#32
  let v117 : BitVec 32 := Scalar.muli arg11 c128_i32_39
  v117
def k0_off4 (k0_t1 : Fin k0_t1_loop.trips) : Fin 5 → Nat :=
  let c1 : Index := 1#32
  let c0_49 : Index := 0#32
  let c0_i32_10 : BitVec 32 := 0#32
  let c1_i32_11 : BitVec 32 := 1#32
  let arg11 : BitVec 32 := Scf.iv c0_i32_10 c1_i32_11 k0_t1
  let v146 : Index := Scalar.indexCast arg11
  let c0_50 : Index := 0#32
  let c0_51 : Index := 0#32
  ![1, 0, v146.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

@[reducible] def k1_t1_loop : Scf.Loop 32 :=
  let c0_i32_11 : BitVec 32 := 0#32
  let c16_i32 : BitVec 32 := 16#32
  let v35 : BitVec 32 := Scalar.addi c0_i32_11 c16_i32
  let c1_i32_12 : BitVec 32 := 1#32
  ⟨c0_i32_11, v35, c1_i32_12⟩
def k1_mult1 (k1_t1 : Fin k1_t1_loop.trips) : BitVec 32 :=
  let c0_i32_17 : BitVec 32 := 0#32
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32 : BitVec 32 := 128#32
  let v42 : BitVec 32 := Scalar.muli v41 c128_i32
  let v43 : BitVec 32 := Scalar.addi c0_i32_17 v42
  v43
def k1_mult2 (k1_t1 : Fin k1_t1_loop.trips) : BitVec 32 :=
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32_18 : BitVec 32 := 128#32
  let v45 : BitVec 32 := Scalar.muli v41 c128_i32_18
  v45
def k1_off1 (k1_t1 : Fin k1_t1_loop.trips) : Fin 2 → Nat :=
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32_18 : BitVec 32 := 128#32
  let v45 : BitVec 32 := Scalar.muli v41 c128_i32_18
  let v46 : BitVec 32 := v45
  let v47 : Index := Scalar.indexCast v46
  let c0_19 : Index := 0#32
  ![v47.toNat, 0]
def k1_off2 (k1_t1 : Fin k1_t1_loop.trips) (c0_i32_17 : BitVec 32) : Fin 2 → Nat :=
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32 : BitVec 32 := 128#32
  let v42 : BitVec 32 := Scalar.muli v41 c128_i32
  let v43 : BitVec 32 := Scalar.addi c0_i32_17 v42
  let v44 : BitVec 32 := v43
  let v53 : Index := Scalar.indexCast v44
  let c0_21 : Index := 0#32
  ![v53.toNat, 0]
def k1_off3 (k1_t1 : Fin k1_t1_loop.trips) : Fin 5 → Nat :=
  let c0_43 : Index := 0#32
  let c0_44 : Index := 0#32
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let v136 : Index := Scalar.indexCast v41
  let c0_45 : Index := 0#32
  let c0_46 : Index := 0#32
  ![0, 0, v136.toNat, 0, 0]
def k1_mult3 (k1_t1 : Fin k1_t1_loop.trips) : BitVec 32 :=
  let c2048_i32 : BitVec 32 := 2048#32
  let c15_i32_61 : BitVec 32 := 15#32
  let c0_i32_11 : BitVec 32 := 0#32
  let c1_i32_12 : BitVec 32 := 1#32
  let arg16 : BitVec 32 := Scf.iv c0_i32_11 c1_i32_12 k1_t1
  let v184 : BitVec 32 := Scalar.subi c15_i32_61 arg16
  let c128_i32_62 : BitVec 32 := 128#32
  let v185 : BitVec 32 := Scalar.muli v184 c128_i32_62
  let v186 : BitVec 32 := Scalar.addi c2048_i32 v185
  v186
def k1_mult4 (k1_t1 : Fin k1_t1_loop.trips) : BitVec 32 :=
  let c15_i32_61 : BitVec 32 := 15#32
  let c0_i32_11 : BitVec 32 := 0#32
  let c1_i32_12 : BitVec 32 := 1#32
  let arg16 : BitVec 32 := Scf.iv c0_i32_11 c1_i32_12 k1_t1
  let v184 : BitVec 32 := Scalar.subi c15_i32_61 arg16
  let c128_i32_63 : BitVec 32 := 128#32
  let v188 : BitVec 32 := Scalar.muli v184 c128_i32_63
  v188
def k1_off4 (k1_t1 : Fin k1_t1_loop.trips) : Fin 5 → Nat :=
  let c1 : Index := 1#32
  let c0_89 : Index := 0#32
  let c15_i32_61 : BitVec 32 := 15#32
  let c0_i32_11 : BitVec 32 := 0#32
  let c1_i32_12 : BitVec 32 := 1#32
  let arg16 : BitVec 32 := Scf.iv c0_i32_11 c1_i32_12 k1_t1
  let v184 : BitVec 32 := Scalar.subi c15_i32_61 arg16
  let v279 : Index := Scalar.indexCast v184
  let c0_90 : Index := 0#32
  let c0_91 : Index := 0#32
  ![1, 0, v279.toNat, 0, 0]
def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_11 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_12 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_13 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x16x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2048x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4096x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4096x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4096x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4096x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== Kernel6Ideal.lean ====
variable {F : FTy → Type} [FloatOps F] [Named F]
def κ : String → Option EReal := fun
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== Reference6Ideal.lean ====
abbrev S4096x1024 : Shape := ⟨2, ![4096, 1024]⟩
abbrev S4096x3072 : Shape := ⟨2, ![4096, 3072]⟩
abbrev S1x512 : Shape := ⟨2, ![1, 512]⟩
abbrev S4096x512 : Shape := ⟨2, ![4096, 512]⟩
abbrev S2x2048x4x128 : Shape := ⟨4, ![2, 2048, 4, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S2x2048x4x64 : Shape := ⟨4, ![2, 2048, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S2x16x128x4x128 : Shape := ⟨5, ![2, 16, 128, 4, 128]⟩
abbrev S2x4x16x128x128 : Shape := ⟨5, ![2, 4, 16, 128, 128]⟩
abbrev S1x4x1x128x128 : Shape := ⟨5, ![1, 4, 1, 128, 128]⟩
abbrev S2x16x4x128x128 : Shape := ⟨5, ![2, 16, 4, 128, 128]⟩
abbrev S4x1 : Shape := ⟨2, ![4, 1]⟩
abbrev S4x128 : Shape := ⟨2, ![4, 128]⟩
abbrev S128x4 : Shape := ⟨2, ![128, 4]⟩
abbrev S1x1x128x4x1 : Shape := ⟨5, ![1, 1, 128, 4, 1]⟩
abbrev S16x2x4x128x128 : Shape := ⟨5, ![16, 2, 4, 128, 128]⟩
abbrev S1x4x1x1 : Shape := ⟨4, ![1, 4, 1, 1]⟩
abbrev S2x4x128x128 : Shape := ⟨4, ![2, 4, 128, 128]⟩
abbrev S1x2x4x128x128 : Shape := ⟨5, ![1, 2, 4, 128, 128]⟩
abbrev S512 : Shape := ⟨1, ![512]⟩
abbrev S2x2048x4 : Shape := ⟨3, ![2, 2048, 4]⟩
abbrev S2x2048x4x1 : Shape := ⟨4, ![2, 2048, 4, 1]⟩
abbrev S2x2048x512 : Shape := ⟨3, ![2, 2048, 512]⟩
abbrev S1x1x512 : Shape := ⟨3, ![1, 1, 512]⟩

abbrev nBuf : Space → Nat
  | .hbm => 390
  | .vmem => 0
  | .smem => 0
  | _ => 0

abbrev hbmTy0_0 (i : Nat) : BufTy := match i % 128 with
  | 0 => ⟨S4096x1024, .f32⟩
  | 1 => ⟨S4096x3072, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S2x2048x4x128, .f32⟩
  | 8 => ⟨S2x2048x4x128, .f32⟩
  | 9 => ⟨S2x2048x4x128, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S2048, .f32⟩
  | 19 => ⟨S2048x1, .f32⟩
  | 20 => ⟨S1x64, .f32⟩
  | 21 => ⟨S2048x64, .f32⟩
  | 22 => ⟨S2048x64, .f32⟩
  | 23 => ⟨S2048x64, .f32⟩
  | 24 => ⟨S2048x64, .f32⟩
  | 25 => ⟨S1x2048x1x64, .f32⟩
  | 26 => ⟨S2048x64, .f32⟩
  | 27 => ⟨S1x2048x1x64, .f32⟩
  | 28 => ⟨S2x2048x4x64, .f32⟩
  | 29 => ⟨S2x2048x4x64, .f32⟩
  | 30 => ⟨S2x2048x4x64, .f32⟩
  | 31 => ⟨S2x2048x4x64, .f32⟩
  | 32 => ⟨S2x2048x4x64, .f32⟩
  | 33 => ⟨S2x2048x4x64, .f32⟩
  | 34 => ⟨S2x2048x4x64, .f32⟩
  | 35 => ⟨S2x2048x4x64, .f32⟩
  | 36 => ⟨S2x2048x4x64, .f32⟩
  | 37 => ⟨S2x2048x4x64, .f32⟩
  | 38 => ⟨S2x2048x4x64, .f32⟩
  | 39 => ⟨S2x2048x4x64, .f32⟩
  | 40 => ⟨S2x2048x4x128, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S2048, .f32⟩
  | 50 => ⟨S2048x1, .f32⟩
  | 51 => ⟨S1x64, .f32⟩
  | 52 => ⟨S2048x64, .f32⟩
  | 53 => ⟨S2048x64, .f32⟩
  | 54 => ⟨S2048x64, .f32⟩
  | 55 => ⟨S2048x64, .f32⟩
  | 56 => ⟨S1x2048x1x64, .f32⟩
  | 57 => ⟨S2048x64, .f32⟩
  | 58 => ⟨S1x2048x1x64, .f32⟩
  | 59 => ⟨S2x2048x4x64, .f32⟩
  | 60 => ⟨S2x2048x4x64, .f32⟩
  | 61 => ⟨S2x2048x4x64, .f32⟩
  | 62 => ⟨S2x2048x4x64, .f32⟩
  | 63 => ⟨S2x2048x4x64, .f32⟩
  | 64 => ⟨S2x2048x4x64, .f32⟩
  | 65 => ⟨S2x2048x4x64, .f32⟩
  | 66 => ⟨S2x2048x4x64, .f32⟩
  | 67 => ⟨S2x2048x4x64, .f32⟩
  | 68 => ⟨S2x2048x4x64, .f32⟩
  | 69 => ⟨S2x2048x4x64, .f32⟩
  | 70 => ⟨S2x2048x4x64, .f32⟩
  | 71 => ⟨S2x2048x4x128, .f32⟩
  | 72 => ⟨S_, .f32⟩
  | 73 => ⟨S2x2048x4x128, .f32⟩
  | 74 => ⟨S2x2048x4x128, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S4, .f32⟩
  | 84 => ⟨S128, .f32⟩
  | 85 => ⟨S128x1, .f32⟩
  | 86 => ⟨S1x128, .f32⟩
  | 87 => ⟨S128x128, .f32⟩
  | 88 => ⟨S128x128, .f32⟩
  | 89 => ⟨S128x128, .f32⟩
  | 90 => ⟨S_, .f32⟩
  | 91 => ⟨S128x128, .f32⟩
  | 92 => ⟨S128x128, .i1⟩
  | 93 => ⟨S4x1x1, .f32⟩
  | 94 => ⟨S_, .f32⟩
  | 95 => ⟨S128x128, .f32⟩
  | 96 => ⟨S128x128, .f32⟩
  | 97 => ⟨S1x128x128, .f32⟩
  | 98 => ⟨S4x128x128, .f32⟩
  | 99 => ⟨S4x128x128, .f32⟩
  | 100 => ⟨S4x128x128, .f32⟩
  | 101 => ⟨S4x128x128, .f32⟩
  | 102 => ⟨S_, .f32⟩
  | 103 => ⟨S_, .f32⟩
  | 104 => ⟨S4x128x128, .i1⟩
  | 105 => ⟨S4x128x128, .f32⟩
  | 106 => ⟨S4x128x128, .f32⟩
  | 107 => ⟨S2x16x128x4x128, .f32⟩
  | 108 => ⟨S2x16x128x4x128, .f32⟩
  | 109 => ⟨S2x16x128x4x128, .f32⟩
  | 110 => ⟨S2x4x16x128x128, .f32⟩
  | 111 => ⟨S1x4x1x128x128, .f32⟩
  | 112 => ⟨S2x4x16x128x128, .f32⟩
  | 113 => ⟨S2x4x16x128x128, .f32⟩
  | 114 => ⟨S2x16x4x128x128, .f32⟩
  | 115 => ⟨S2x16x128x4x128, .f32⟩
  | 116 => ⟨S4x1, .f32⟩
  | 117 => ⟨S_, .f32⟩
  | 118 => ⟨S128, .f32⟩
  | 119 => ⟨S128, .f32⟩
  | 120 => ⟨S1x128, .f32⟩
  | 121 => ⟨S4x128, .f32⟩
  | 122 => ⟨S4x128, .f32⟩
  | 123 => ⟨S4x128, .f32⟩
  | 124 => ⟨S4x128, .f32⟩
  | 125 => ⟨S128x4, .f32⟩
  | 126 => ⟨S1x1x128x4x1, .f32⟩
  | 127 => ⟨S2x16x128x4x128, .f32⟩
  | _ => ⟨S4096x1024, .f32⟩

abbrev hbmTy0_1 (i : Nat) : BufTy := match i % 128 with
  | 0 => ⟨S2x16x128x4x128, .f32⟩
  | 1 => ⟨S16x2x4x128x128, .f32⟩
  | 2 => ⟨S_, .f32⟩
  | 3 => ⟨S4, .f32⟩
  | 4 => ⟨S4, .f32⟩
  | 5 => ⟨S4, .f32⟩
  | 6 => ⟨S1x4x1x1, .f32⟩
  | 7 => ⟨S_, .f32⟩
  | 8 => ⟨S2x4x128x128, .f32⟩
  | 9 => ⟨S_, .f32⟩
  | 10 => ⟨S16x2x4x128x128, .f32⟩
  | 11 => ⟨S_, .i32⟩
  | 12 => ⟨S16x2x4x128x128, .f32⟩
  | 13 => ⟨S1x4x1x1, .f32⟩
  | 14 => ⟨S_, .i32⟩
  | 15 => ⟨S2x4x128x128, .f32⟩
  | 16 => ⟨S16x2x4x128x128, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S1x2x4x128x128, .f32⟩
  | 24 => ⟨S2x4x128x128, .f32⟩
  | 25 => ⟨S2x4x128x128, .f32⟩
  | 26 => ⟨S2x4x128x128, .f32⟩
  | 27 => ⟨S2x4x128x128, .f32⟩
  | 28 => ⟨S1x2x4x128x128, .f32⟩
  | 29 => ⟨S_, .i32⟩
  | 30 => ⟨S_, .i32⟩
  | 31 => ⟨S_, .i32⟩
  | 32 => ⟨S_, .i32⟩
  | 33 => ⟨S16x2x4x128x128, .f32⟩
  | 34 => ⟨S_, .i32⟩
  | 35 => ⟨S_, .i32⟩
  | 36 => ⟨S4x1, .f32⟩
  | 37 => ⟨S_, .f32⟩
  | 38 => ⟨S128, .f32⟩
  | 39 => ⟨S128, .f32⟩
  | 40 => ⟨S1x128, .f32⟩
  | 41 => ⟨S4x128, .f32⟩
  | 42 => ⟨S4x128, .f32⟩
  | 43 => ⟨S4x128, .f32⟩
  | 44 => ⟨S4x128, .f32⟩
  | 45 => ⟨S128x4, .f32⟩
  | 46 => ⟨S1x1x128x4x1, .f32⟩
  | 47 => ⟨S2x16x128x4x128, .f32⟩
  | 48 => ⟨S2x16x128x4x128, .f32⟩
  | 49 => ⟨S2x16x4x128x128, .f32⟩
  | 50 => ⟨S2x16x128x4x128, .f32⟩
  | 51 => ⟨S2x16x128x4x128, .f32⟩
  | 52 => ⟨S2x2048x4x128, .f32⟩
  | 53 => ⟨S512, .f32⟩
  | 54 => ⟨S_, .f32⟩
  | 55 => ⟨S2x2048x4, .f32⟩
  | 56 => ⟨S2x2048x4x1, .f32⟩
  | 57 => ⟨S_, .f32⟩
  | 58 => ⟨S2x2048x4x1, .f32⟩
  | 59 => ⟨S2x2048x4x1, .f32⟩
  | 60 => ⟨S2x2048x4x128, .f32⟩
  | 61 => ⟨S2x2048x4x128, .f32⟩
  | 62 => ⟨S2x2048x4x128, .f32⟩
  | 63 => ⟨S_, .f32⟩
  | 64 => ⟨S2x2048x4x128, .f32⟩
  | 65 => ⟨S2x2048x4x128, .f32⟩
  | 66 => ⟨S_, .f32⟩
  | 67 => ⟨S2x2048x4, .f32⟩
  | 68 => ⟨S2x2048x4x1, .f32⟩
  | 69 => ⟨S_, .f32⟩
  | 70 => ⟨S2x2048x4x1, .f32⟩
  | 71 => ⟨S2x2048x4x1, .f32⟩
  | 72 => ⟨S2x2048x4x128, .f32⟩
  | 73 => ⟨S2x2048x4x128, .f32⟩
  | 74 => ⟨S_, .f32⟩
  | 75 => ⟨S2x2048x4x1, .f32⟩
  | 76 => ⟨S2x2048x4x1, .f32⟩
  | 77 => ⟨S2x2048x4x1, .f32⟩
  | 78 => ⟨S2x2048x4x1, .f32⟩
  | 79 => ⟨S_, .f32⟩
  | 80 => ⟨S2x2048x4x1, .f32⟩
  | 81 => ⟨S2x2048x4x1, .f32⟩
  | 82 => ⟨S2x2048x4x128, .f32⟩
  | 83 => ⟨S2x2048x4x128, .f32⟩
  | 84 => ⟨S2x2048x512, .f32⟩
  | 85 => ⟨S1x1x512, .f32⟩
  | 86 => ⟨S2x2048x512, .f32⟩
  | 87 => ⟨S2x2048x512, .f32⟩
  | 88 => ⟨S2x2048x512, .f32⟩
  | 89 => ⟨S2x2048x512, .f32⟩
  | 90 => ⟨S2x2048x512, .f32⟩
  | 91 => ⟨S_, .f32⟩
  | 92 => ⟨S2x2048x512, .f32⟩
  | 93 => ⟨S2x2048x512, .f32⟩
  | 94 => ⟨S_, .f32⟩
  | 95 => ⟨S2x2048x512, .f32⟩
  | 96 => ⟨S2x2048x512, .f32⟩
  | 97 => ⟨S_, .f32⟩
  | 98 => ⟨S2x2048x512, .f32⟩
  | 99 => ⟨S2x2048x512, .f32⟩
  | 100 => ⟨S2x2048x512, .f32⟩
  | 101 => ⟨S2x2048x512, .f32⟩
  | 102 => ⟨S2x2048x512, .f32⟩
  | 103 => ⟨S4096x512, .f32⟩
  | 104 => ⟨S4096x512, .f32⟩
  | 105 => ⟨S_, .f32⟩
  | 106 => ⟨S2x4x128x128, .f32⟩
  | 107 => ⟨S2x2048x512, .f32⟩
  | 108 => ⟨S2x2048x512, .f32⟩
  | 109 => ⟨S2x2048x512, .f32⟩
  | 110 => ⟨S2x2048x512, .f32⟩
  | 111 => ⟨S2x2048x512, .f32⟩
  | 112 => ⟨S2x2048x512, .f32⟩
  | 113 => ⟨S2x2048x512, .f32⟩
  | 114 => ⟨S4096x512, .f32⟩
  | 115 => ⟨S2x2048x512, .f32⟩
  | 116 => ⟨S_, .f32⟩
  | 117 => ⟨S512, .f32⟩
  | 118 => ⟨S1x1x512, .f32⟩
  | 119 => ⟨S2x2048x512, .f32⟩
  | 120 => ⟨S2x2048x512, .f32⟩
  | 121 => ⟨S_, .f32⟩
  | 122 => ⟨S512, .f32⟩
  | 123 => ⟨S2x2048x4x128, .f32⟩
  | 124 => ⟨S2x2048x4x128, .f32⟩
  | 125 => ⟨S_, .f32⟩
  | 126 => ⟨S2x2048x4, .f32⟩
  | 127 => ⟨S2x2048x4x1, .f32⟩
  | _ => ⟨S4096x1024, .f32⟩

abbrev hbmTy0_2 (i : Nat) : BufTy := match i % 128 with
  | 0 => ⟨S2x2048x4x128, .f32⟩
  | 1 => ⟨S2x2048x4x128, .f32⟩
  | 2 => ⟨S2x2048x4x1, .f32⟩
  | 3 => ⟨S2x2048x4x128, .f32⟩
  | 4 => ⟨S_, .f32⟩
  | 5 => ⟨S2x2048x4, .f32⟩
  | 6 => ⟨S2x2048x4x1, .f32⟩
  | 7 => ⟨S_, .f32⟩
  | 8 => ⟨S2x2048x4x1, .f32⟩
  | 9 => ⟨S2x2048x4x1, .f32⟩
  | 10 => ⟨S_, .f32⟩
  | 11 => ⟨S2x2048x4, .f32⟩
  | 12 => ⟨S2x2048x4x128, .f32⟩
  | 13 => ⟨S2x2048x4x128, .f32⟩
  | 14 => ⟨S2x2048x4x128, .f32⟩
  | 15 => ⟨S_, .f32⟩
  | 16 => ⟨S2x2048x4, .f32⟩
  | 17 => ⟨S2x2048x4x1, .f32⟩
  | 18 => ⟨S2x2048x4x128, .f32⟩
  | 19 => ⟨S2x2048x4x1, .f32⟩
  | 20 => ⟨S_, .f32⟩
  | 21 => ⟨S2x2048x4x1, .f32⟩
  | 22 => ⟨S2x2048x4x1, .f32⟩
  | 23 => ⟨S_, .f32⟩
  | 24 => ⟨S2x2048x4, .f32⟩
  | 25 => ⟨S2x2048x4x128, .f32⟩
  | 26 => ⟨S2x2048x4x128, .f32⟩
  | 27 => ⟨S1x512, .f32⟩
  | 28 => ⟨S2x16x128x4x128, .f32⟩
  | 29 => ⟨S2x16x4x128x128, .f32⟩
  | 30 => ⟨S2x16x4x128x128, .f32⟩
  | 31 => ⟨S2x16x128x4x128, .f32⟩
  | 32 => ⟨S2x16x4x128x128, .f32⟩
  | 33 => ⟨S16x2x4x128x128, .f32⟩
  | 34 => ⟨S2x16x128x4x128, .f32⟩
  | 35 => ⟨S2x16x128x4x128, .f32⟩
  | 36 => ⟨S_, .f32⟩
  | 37 => ⟨S2x4x128x128, .f32⟩
  | 38 => ⟨S_, .f32⟩
  | 39 => ⟨S16x2x4x128x128, .f32⟩
  | 40 => ⟨S_, .i32⟩
  | 41 => ⟨S16x2x4x128x128, .f32⟩
  | 42 => ⟨S1x4x1x1, .f32⟩
  | 43 => ⟨S_, .i32⟩
  | 44 => ⟨S2x4x128x128, .f32⟩
  | 45 => ⟨S16x2x4x128x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S1x2x4x128x128, .f32⟩
  | 57 => ⟨S2x4x128x128, .f32⟩
  | 58 => ⟨S2x4x128x128, .f32⟩
  | 59 => ⟨S2x4x128x128, .f32⟩
  | 60 => ⟨S2x4x128x128, .f32⟩
  | 61 => ⟨S1x2x4x128x128, .f32⟩
  | 62 => ⟨S_, .i32⟩
  | 63 => ⟨S_, .i32⟩
  | 64 => ⟨S_, .i32⟩
  | 65 => ⟨S_, .i32⟩
  | 66 => ⟨S16x2x4x128x128, .f32⟩
  | 67 => ⟨S_, .i32⟩
  | 68 => ⟨S_, .i32⟩
  | 69 => ⟨S16x2x4x128x128, .f32⟩
  | 70 => ⟨S2x16x128x4x128, .f32⟩
  | 71 => ⟨S16x2x4x128x128, .f32⟩
  | 72 => ⟨S2x16x128x4x128, .f32⟩
  | 73 => ⟨S2x16x128x4x128, .f32⟩
  | 74 => ⟨S2x16x128x4x128, .f32⟩
  | 75 => ⟨S2x16x4x128x128, .f32⟩
  | 76 => ⟨S2x16x4x128x128, .f32⟩
  | 77 => ⟨S2x4x16x128x128, .f32⟩
  | 78 => ⟨S2x16x4x128x128, .f32⟩
  | 79 => ⟨S2x16x128x4x128, .f32⟩
  | 80 => ⟨S2x16x128x4x128, .f32⟩
  | 81 => ⟨S2x4x16x128x128, .f32⟩
  | 82 => ⟨S2x4x16x128x128, .f32⟩
  | 83 => ⟨S2x4x16x128x128, .f32⟩
  | 84 => ⟨S2x16x128x4x128, .f32⟩
  | 85 => ⟨S2x16x128x4x128, .f32⟩
  | 86 => ⟨S2x4x16x128x128, .f32⟩
  | 87 => ⟨S2x16x128x4x128, .f32⟩
  | 88 => ⟨S2x16x128x4x128, .f32⟩
  | 89 => ⟨S2x2048x4x128, .f32⟩
  | 90 => ⟨S2x2048x4x128, .f32⟩
  | 91 => ⟨S2x2048x4x128, .f32⟩
  | 92 => ⟨S_, .f32⟩
  | 93 => ⟨S2x2048x4x128, .f32⟩
  | 94 => ⟨S2x2048x4x128, .f32⟩
  | 95 => ⟨S2x2048x4x64, .f32⟩
  | 96 => ⟨S2x2048x4x64, .f32⟩
  | 97 => ⟨S2x2048x4x64, .f32⟩
  | 98 => ⟨S2x2048x4x64, .f32⟩
  | 99 => ⟨S2x2048x4x64, .f32⟩
  | 100 => ⟨S2x2048x4x64, .f32⟩
  | 101 => ⟨S2x2048x4x64, .f32⟩
  | 102 => ⟨S2x2048x4x64, .f32⟩
  | 103 => ⟨S2x2048x4x64, .f32⟩
  | 104 => ⟨S2x2048x4x64, .f32⟩
  | 105 => ⟨S2x2048x4x64, .f32⟩
  | 106 => ⟨S2x2048x4x64, .f32⟩
  | 107 => ⟨S2x2048x4x64, .f32⟩
  | 108 => ⟨S_, .f32⟩
  | 109 => ⟨S2x2048x4x128, .f32⟩
  | 110 => ⟨S_, .f32⟩
  | 111 => ⟨S2x2048x4x128, .f32⟩
  | 112 => ⟨S2x2048x4x128, .f32⟩
  | 113 => ⟨S2x2048x4x64, .f32⟩
  | 114 => ⟨S2x2048x4x64, .f32⟩
  | 115 => ⟨S2x2048x4x64, .f32⟩
  | 116 => ⟨S2x2048x4x64, .f32⟩
  | 117 => ⟨S2x2048x4x64, .f32⟩
  | 118 => ⟨S2x2048x4x64, .f32⟩
  | 119 => ⟨S2x2048x4x64, .f32⟩
  | 120 => ⟨S2x2048x4x64, .f32⟩
  | 121 => ⟨S2x2048x4x64, .f32⟩
  | 122 => ⟨S2x2048x4x64, .f32⟩
  | 123 => ⟨S2x2048x4x64, .f32⟩
  | 124 => ⟨S2x2048x4x64, .f32⟩
  | 125 => ⟨S2x2048x4x64, .f32⟩
  | 126 => ⟨S_, .f32⟩
  | 127 => ⟨S2x2048x4x128, .f32⟩
  | _ => ⟨S4096x1024, .f32⟩

abbrev hbmTy0_3 (i : Nat) : BufTy := match i % 128 with
  | 0 => ⟨S_, .f32⟩
  | 1 => ⟨S2x2048x4x128, .f32⟩
  | 2 => ⟨S2x2048x4x128, .f32⟩
  | 3 => ⟨S4096x512, .f32⟩
  | 4 => ⟨S4096x512, .f32⟩
  | 5 => ⟨S4096x512, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_3 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_4 : Ref sig .tc := ⟨.hbm, 76, rfl⟩
abbrev main_v68 : Ref sig .tc := ⟨.hbm, 77, rfl⟩
abbrev main_v69 : Ref sig .tc := ⟨.hbm, 78, rfl⟩
abbrev main_cst_5 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_6 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_8 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_cst_9 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_10 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_11 : Ref sig .tc := ⟨.hbm, 135, rfl⟩
abbrev main_v117 : Ref sig .tc := ⟨.hbm, 136, rfl⟩
abbrev main_cst_12 : Ref sig .tc := ⟨.hbm, 137, rfl⟩
abbrev main_v118 : Ref sig .tc := ⟨.hbm, 138, rfl⟩
abbrev main_c : Ref sig .tc := ⟨.hbm, 139, rfl⟩
abbrev main_v119_0 : Ref sig .tc := ⟨.hbm, 140, rfl⟩
abbrev main_v119_1 : Ref sig .tc := ⟨.hbm, 141, rfl⟩
abbrev main_v119_2 : Ref sig .tc := ⟨.hbm, 142, rfl⟩
abbrev main_v119_3 : Ref sig .tc := ⟨.hbm, 143, rfl⟩
abbrev main_v119_4 : Ref sig .tc := ⟨.hbm, 144, rfl⟩
abbrev main_while0c_c_43 : Ref sig .tc := ⟨.hbm, 145, rfl⟩
abbrev main_while0c_v278 : Ref sig .tc := ⟨.hbm, 146, rfl⟩
abbrev main_while0b_call1_c : Ref sig .tc := ⟨.hbm, 147, rfl⟩
abbrev main_while0b_call1_c_0 : Ref sig .tc := ⟨.hbm, 148, rfl⟩
abbrev main_while0b_call1_c_1 : Ref sig .tc := ⟨.hbm, 149, rfl⟩
abbrev main_while0b_call1_c_2 : Ref sig .tc := ⟨.hbm, 150, rfl⟩
abbrev main_while0b_call1_v0 : Ref sig .tc := ⟨.hbm, 151, rfl⟩
abbrev main_while0b_v278 : Ref sig .tc := ⟨.hbm, 152, rfl⟩
abbrev main_while0b_v279 : Ref sig .tc := ⟨.hbm, 153, rfl⟩
abbrev main_while0b_v280 : Ref sig .tc := ⟨.hbm, 154, rfl⟩
abbrev main_while0b_v281 : Ref sig .tc := ⟨.hbm, 155, rfl⟩
abbrev main_while0b_call2_v0 : Ref sig .tc := ⟨.hbm, 156, rfl⟩
abbrev main_while0b_call2_c : Ref sig .tc := ⟨.hbm, 157, rfl⟩
abbrev main_while0b_call2_c_0 : Ref sig .tc := ⟨.hbm, 158, rfl⟩
abbrev main_while0b_call2_c_1 : Ref sig .tc := ⟨.hbm, 159, rfl⟩
abbrev main_while0b_call2_c_2 : Ref sig .tc := ⟨.hbm, 160, rfl⟩
abbrev main_while0b_v282 : Ref sig .tc := ⟨.hbm, 161, rfl⟩
abbrev main_while0b_c_43 : Ref sig .tc := ⟨.hbm, 162, rfl⟩
abbrev main_while0b_v283 : Ref sig .tc := ⟨.hbm, 163, rfl⟩
abbrev main_v120 : Ref sig .tc := ⟨.hbm, 164, rfl⟩
abbrev main_cst_13 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_14 : Ref sig .tc := ⟨.hbm, 182, rfl⟩
abbrev main_v137 : Ref sig .tc := ⟨.hbm, 183, rfl⟩
abbrev main_v138 : Ref sig .tc := ⟨.hbm, 184, rfl⟩
abbrev main_cst_15 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_16 : Ref sig .tc := ⟨.hbm, 191, rfl⟩
abbrev main_v144 : Ref sig .tc := ⟨.hbm, 192, rfl⟩
abbrev main_v145 : Ref sig .tc := ⟨.hbm, 193, rfl⟩
abbrev main_cst_17 : Ref sig .tc := ⟨.hbm, 194, rfl⟩
abbrev main_v146 : Ref sig .tc := ⟨.hbm, 195, rfl⟩
abbrev main_v147 : Ref sig .tc := ⟨.hbm, 196, rfl⟩
abbrev main_cst_18 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_19 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_20 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_call3_v0 : Ref sig .tc := ⟨.hbm, 217, rfl⟩
abbrev main_call3_v1 : Ref sig .tc := ⟨.hbm, 218, rfl⟩
abbrev main_call3_cst : Ref sig .tc := ⟨.hbm, 219, rfl⟩
abbrev main_call3_v2 : Ref sig .tc := ⟨.hbm, 220, rfl⟩
abbrev main_call3_v3 : Ref sig .tc := ⟨.hbm, 221, rfl⟩
abbrev main_call3_cst_0 : Ref sig .tc := ⟨.hbm, 222, rfl⟩
abbrev main_call3_v4 : Ref sig .tc := ⟨.hbm, 223, rfl⟩
abbrev main_v165_2 : Ref sig .tc := ⟨.hbm, 224, rfl⟩
abbrev main_call3_cst_1 : Ref sig .tc := ⟨.hbm, 225, rfl⟩
abbrev main_call3_v6 : Ref sig .tc := ⟨.hbm, 226, rfl⟩
abbrev main_call3_v7 : Ref sig .tc := ⟨.hbm, 227, rfl⟩
abbrev main_v165_1 : Ref sig .tc := ⟨.hbm, 228, rfl⟩
abbrev main_v165_0 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_21 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_call4_v0 : Ref sig .tc := ⟨.hbm, 238, rfl⟩
abbrev main_call4_v1 : Ref sig .tc := ⟨.hbm, 239, rfl⟩
abbrev main_call4_v2 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_cst_22 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_23 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_cst_24 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_cst_25 : Ref sig .tc := ⟨.hbm, 260, rfl⟩
abbrev main_v189 : Ref sig .tc := ⟨.hbm, 261, rfl⟩
abbrev main_v190 : Ref sig .tc := ⟨.hbm, 262, rfl⟩
abbrev main_cst_26 : Ref sig .tc := ⟨.hbm, 263, rfl⟩
abbrev main_v191 : Ref sig .tc := ⟨.hbm, 264, rfl⟩
abbrev main_v192 : Ref sig .tc := ⟨.hbm, 265, rfl⟩
abbrev main_cst_27 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_cst_28 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_29 : Ref sig .tc := ⟨.hbm, 276, rfl⟩
abbrev main_v201 : Ref sig .tc := ⟨.hbm, 277, rfl⟩
abbrev main_v202 : Ref sig .tc := ⟨.hbm, 278, rfl⟩
abbrev main_cst_30 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_cst_31 : Ref sig .tc := ⟨.hbm, 292, rfl⟩
abbrev main_v215 : Ref sig .tc := ⟨.hbm, 293, rfl⟩
abbrev main_cst_32 : Ref sig .tc := ⟨.hbm, 294, rfl⟩
abbrev main_v216 : Ref sig .tc := ⟨.hbm, 295, rfl⟩
abbrev main_c_33 : Ref sig .tc := ⟨.hbm, 296, rfl⟩
abbrev main_v217_0 : Ref sig .tc := ⟨.hbm, 297, rfl⟩
abbrev main_v217_1 : Ref sig .tc := ⟨.hbm, 298, rfl⟩
abbrev main_v217_2 : Ref sig .tc := ⟨.hbm, 299, rfl⟩
abbrev main_v217_3 : Ref sig .tc := ⟨.hbm, 300, rfl⟩
abbrev main_v217_4 : Ref sig .tc := ⟨.hbm, 301, rfl⟩
abbrev main_while1c_c_43 : Ref sig .tc := ⟨.hbm, 302, rfl⟩
abbrev main_while1c_v278 : Ref sig .tc := ⟨.hbm, 303, rfl⟩
abbrev main_while1b_c_43 : Ref sig .tc := ⟨.hbm, 304, rfl⟩
abbrev main_while1b_v278 : Ref sig .tc := ⟨.hbm, 305, rfl⟩
abbrev main_while1b_c_44 : Ref sig .tc := ⟨.hbm, 306, rfl⟩
abbrev main_while1b_v279 : Ref sig .tc := ⟨.hbm, 307, rfl⟩
abbrev main_while1b_call5_c : Ref sig .tc := ⟨.hbm, 308, rfl⟩
abbrev main_while1b_call5_c_0 : Ref sig .tc := ⟨.hbm, 309, rfl⟩
abbrev main_while1b_call5_c_1 : Ref sig .tc := ⟨.hbm, 310, rfl⟩
abbrev main_while1b_call5_c_2 : Ref sig .tc := ⟨.hbm, 311, rfl⟩
abbrev main_while1b_call5_v0 : Ref sig .tc := ⟨.hbm, 312, rfl⟩
abbrev main_while1b_v280 : Ref sig .tc := ⟨.hbm, 313, rfl⟩
abbrev main_while1b_v281 : Ref sig .tc := ⟨.hbm, 314, rfl⟩
abbrev main_while1b_v282 : Ref sig .tc := ⟨.hbm, 315, rfl⟩
abbrev main_while1b_v283 : Ref sig .tc := ⟨.hbm, 316, rfl⟩
abbrev main_while1b_call6_v0 : Ref sig .tc := ⟨.hbm, 317, rfl⟩
abbrev main_while1b_call6_c : Ref sig .tc := ⟨.hbm, 318, rfl⟩
abbrev main_while1b_call6_c_0 : Ref sig .tc := ⟨.hbm, 319, rfl⟩
abbrev main_while1b_call6_c_1 : Ref sig .tc := ⟨.hbm, 320, rfl⟩
abbrev main_while1b_call6_c_2 : Ref sig .tc := ⟨.hbm, 321, rfl⟩
abbrev main_while1b_v284 : Ref sig .tc := ⟨.hbm, 322, rfl⟩
abbrev main_while1b_c_45 : Ref sig .tc := ⟨.hbm, 323, rfl⟩
abbrev main_while1b_v285 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_cst_34 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_cst_35 : Ref sig .tc := ⟨.hbm, 364, rfl⟩
abbrev main_v256 : Ref sig .tc := ⟨.hbm, 365, rfl⟩
abbrev main_cst_36 : Ref sig .tc := ⟨.hbm, 366, rfl⟩
abbrev main_v257 : Ref sig .tc := ⟨.hbm, 367, rfl⟩
abbrev main_v258 : Ref sig .tc := ⟨.hbm, 368, rfl⟩
abbrev main_v259 : Ref sig .tc := ⟨.hbm, 369, rfl⟩
abbrev main_v260 : Ref sig .tc := ⟨.hbm, 370, rfl⟩
abbrev main_v261 : Ref sig .tc := ⟨.hbm, 371, rfl⟩
abbrev main_v262 : Ref sig .tc := ⟨.hbm, 372, rfl⟩
abbrev main_v263 : Ref sig .tc := ⟨.hbm, 373, rfl⟩
abbrev main_v264 : Ref sig .tc := ⟨.hbm, 374, rfl⟩
abbrev main_v265 : Ref sig .tc := ⟨.hbm, 375, rfl⟩
abbrev main_v266 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_cst_37 : Ref sig .tc := ⟨.hbm, 382, rfl⟩
abbrev main_v272 : Ref sig .tc := ⟨.hbm, 383, rfl⟩
abbrev main_cst_38 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩

abbrev nD : Nat := 1
abbrev τ : Topo := Topo.v7x

variable {F : FTy → Type} [FloatOps F]

abbrev main_while0_count : Scf.Loop 32 := ⟨0#32, 16#32, 1#32⟩

abbrev main_while1_count : Scf.Loop 32 := ⟨0#32, 16#32, 1#32⟩
-- ==== Kernel5.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S_ : Shape := ⟨0, ![]⟩
abbrev S8x384x1024 : Shape := ⟨3, ![8, 384, 1024]⟩
abbrev S4096 : Shape := ⟨1, ![4096]⟩
abbrev S4096x1 : Shape := ⟨2, ![4096, 1]⟩
abbrev S4x768x1024 : Shape := ⟨3, ![4, 768, 1024]⟩
abbrev S4x768x4096 : Shape := ⟨3, ![4, 768, 4096]⟩
abbrev S4x4096x768 : Shape := ⟨3, ![4, 4096, 768]⟩
abbrev S1024x4096 : Shape := ⟨2, ![1024, 4096]⟩
abbrev S256x1024 : Shape := ⟨2, ![256, 1024]⟩
abbrev S4x256x768 : Shape := ⟨3, ![4, 256, 768]⟩
abbrev S1024x256 : Shape := ⟨2, ![1024, 256]⟩
abbrev S4x768x256 : Shape := ⟨3, ![4, 768, 256]⟩
abbrev S24 : Shape := ⟨1, ![24]⟩
abbrev S1 : Shape := ⟨1, ![1]⟩
abbrev S256 : Shape := ⟨1, ![256]⟩
abbrev S256x1 : Shape := ⟨2, ![256, 1]⟩
abbrev S1x768x1024 : Shape := ⟨3, ![1, 768, 1024]⟩
abbrev S768x1024 : Shape := ⟨2, ![768, 1024]⟩
abbrev S256x768 : Shape := ⟨2, ![256, 768]⟩
abbrev S1x256x768 : Shape := ⟨3, ![1, 256, 768]⟩
abbrev S768x256 : Shape := ⟨2, ![768, 256]⟩
abbrev S1x768x256 : Shape := ⟨3, ![1, 768, 256]⟩
abbrev S1024 : Shape := ⟨1, ![1024]⟩

abbrev nBuf : Space → Nat
  | .hbm => 54
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2816x1024, .bf16⟩
  | .hbm, ⟨10, _⟩ => ⟨S8x352x1024, .bf16⟩
  | .hbm, ⟨11, _⟩ => ⟨S_, .i32⟩
  | .hbm, ⟨12, _⟩ => ⟨S_, .bf16⟩
  | .hbm, ⟨13, _⟩ => ⟨S8x384x1024, .bf16⟩
  | .hbm, ⟨14, _⟩ => ⟨S2816x1024, .bf16⟩
  | .hbm, ⟨15, _⟩ => ⟨S8x352x1024, .bf16⟩
  | .hbm, ⟨16, _⟩ => ⟨S_, .i32⟩
  | .hbm, ⟨17, _⟩ => ⟨S_, .bf16⟩
  | .hbm, ⟨18, _⟩ => ⟨S8x384x1024, .bf16⟩
  | .hbm, ⟨19, _⟩ => ⟨S8x352x1024, .bf16⟩
  | .hbm, ⟨20, _⟩ => ⟨S_, .i32⟩
  | .hbm, ⟨21, _⟩ => ⟨S_, .bf16⟩
  | .hbm, ⟨22, _⟩ => ⟨S8x384x1024, .bf16⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4x768x1024, .bf16⟩
  | .hbm, ⟨40, _⟩ => ⟨S4x768x4096, .f32⟩
  | .hbm, ⟨41, _⟩ => ⟨S4x4096x768, .f32⟩
  | .hbm, ⟨42, _⟩ => ⟨S4x4096x768, .bf16⟩
  | .hbm, ⟨43, _⟩ => ⟨S4x768x1024, .bf16⟩
  | .hbm, ⟨44, _⟩ => ⟨S4x768x4096, .f32⟩
  | .hbm, ⟨45, _⟩ => ⟨S4x4096x768, .f32⟩
  | .hbm, ⟨46, _⟩ => ⟨S4x4096x768, .bf16⟩
  | .hbm, ⟨47, _⟩ => ⟨S4096x1024, .f32⟩
  | .hbm, ⟨48, _⟩ => ⟨S1x1024, .f32⟩
  | .hbm, ⟨49, _⟩ => ⟨S1024x4096, .bf16⟩
  | .hbm, ⟨50, _⟩ => ⟨S4096x1024, .bf16⟩
  | .hbm, ⟨51, _⟩ => ⟨S4x768x4096, .bf16⟩
  | .hbm, ⟨52, _⟩ => ⟨S4x4096x768, .bf16⟩
  | .hbm, ⟨53, _⟩ => ⟨S4x4096x768, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x256x768, .bf16⟩
  | .local _ .vmem, ⟨6, _⟩ => ⟨S4x256x768, .bf16⟩
  | .local _ .vmem, ⟨7, _⟩ => ⟨S4x256x768, .bf16⟩
  | .local _ .vmem, ⟨8, _⟩ => ⟨S4x256x768, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .bf16⟩
  | .local _ .vmem, ⟨16, _⟩ => ⟨S4x768x256, .bf16⟩
  | .local _ .vmem, ⟨17, _⟩ => ⟨S4x768x256, .bf16⟩
  | .local _ .vmem, ⟨18, _⟩ => ⟨S4x256x768, .bf16⟩
  | .local _ .vmem, ⟨19, _⟩ => ⟨S4x256x768, .bf16⟩
  | .local _ .vmem, ⟨20, _⟩ => ⟨S4x256x768, .bf16⟩
  | .local _ .vmem, ⟨21, _⟩ => ⟨S4x256x768, .bf16⟩
  | .local _ .vmem, ⟨22, _⟩ => ⟨S4x768x1024, .bf16⟩
  | .local _ .vmem, ⟨23, _⟩ => ⟨S4x768x1024, .bf16⟩
  | .local _ .vmem, ⟨24, _⟩ => ⟨S4x768x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev main_v32_4 : Ref sig .tc := ⟨.hbm, 51, rfl⟩
abbrev main_v32_5 : Ref sig .tc := ⟨.hbm, 52, rfl⟩
abbrev main_v32_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x1024, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S_ : Shape := ⟨0, ![]⟩
abbrev S8x384x1024 : Shape := ⟨3, ![8, 384, 1024]⟩
abbrev S4x4096x768 : Shape := ⟨3, ![4, 4096, 768]⟩
abbrev S512x1024 : Shape := ⟨2, ![512, 1024]⟩
abbrev S4x512x768 : Shape := ⟨3, ![4, 512, 768]⟩
abbrev S4x768x1024 : Shape := ⟨3, ![4, 768, 1024]⟩
abbrev S24 : Shape := ⟨1, ![24]⟩
abbrev S1 : Shape := ⟨1, ![1]⟩
abbrev S512 : Shape := ⟨1, ![512]⟩
abbrev S512x1 : Shape := ⟨2, ![512, 1]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩

abbrev nBuf : Space → Nat
  | .hbm => 25
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S2816x1024, .bf16⟩
  | .hbm, ⟨9, _⟩ => ⟨S8x352x1024, .bf16⟩
  | .hbm, ⟨10, _⟩ => ⟨S_, .i32⟩
  | .hbm, ⟨11, _⟩ => ⟨S_, .bf16⟩
  | .hbm, ⟨12, _⟩ => ⟨S8x384x1024, .bf16⟩
  | .hbm, ⟨13, _⟩ => ⟨S2816x1024, .bf16⟩
  | .hbm, ⟨14, _⟩ => ⟨S8x352x1024, .bf16⟩
  | .hbm, ⟨15, _⟩ => ⟨S_, .i32⟩
  | .hbm, ⟨16, _⟩ => ⟨S_, .bf16⟩
  | .hbm, ⟨17, _⟩ => ⟨S8x384x1024, .bf16⟩
  | .hbm, ⟨18, _⟩ => ⟨S8x352x1024, .bf16⟩
  | .hbm, ⟨19, _⟩ => ⟨S_, .i32⟩
  | .hbm, ⟨20, _⟩ => ⟨S_, .bf16⟩
  | .hbm, ⟨21, _⟩ => ⟨S8x384x1024, .bf16⟩
  | .hbm, ⟨22, _⟩ => ⟨S4096x1024, .f32⟩
  | .hbm, ⟨23, _⟩ => ⟨S4x4096x768, .bf16⟩
  | .hbm, ⟨24, _⟩ => ⟨S4x4096x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4x512x768, .bf16⟩
  | .local _ .vmem, ⟨6, _⟩ => ⟨S4x512x768, .bf16⟩
  | .local _ .vmem, ⟨7, _⟩ => ⟨S4x512x768, .bf16⟩
  | .local _ .vmem, ⟨8, _⟩ => ⟨S4x512x768, .bf16⟩
  | .local _ .vmem, ⟨9, _⟩ => ⟨S4x768x1024, .bf16⟩
  | .local _ .vmem, ⟨10, _⟩ => ⟨S4x768x1024, .bf16⟩
  | .local _ .vmem, ⟨11, _⟩ => ⟨S4x768x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x2x352 : Shape := ⟨4, ![4096, 4, 2, 352]⟩
abbrev S4096x4x2x384 : Shape := ⟨4, ![4096, 4, 2, 384]⟩
abbrev S4096x4x768 : Shape := ⟨3, ![4096, 4, 768]⟩
abbrev S4x4096x768 : Shape := ⟨3, ![4, 4096, 768]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x2816, .f32⟩
  | .hbm, ⟨40, _⟩ => ⟨S4096x4x2x352, .f32⟩
  | .hbm, ⟨41, _⟩ => ⟨S_, .i32⟩
  | .hbm, ⟨42, _⟩ => ⟨S_, .f32⟩
  | .hbm, ⟨43, _⟩ => ⟨S4096x4x2x384, .f32⟩
  | .hbm, ⟨44, _⟩ => ⟨S4096x4x768, .f32⟩
  | .hbm, ⟨45, _⟩ => ⟨S4x4096x768, .f32⟩
  | .hbm, ⟨46, _⟩ => ⟨S4x4096x768, .bf16⟩
  | .hbm, ⟨47, _⟩ => ⟨S4096x2816, .f32⟩
  | .hbm, ⟨48, _⟩ => ⟨S4096x4x2x352, .f32⟩
  | .hbm, ⟨49, _⟩ => ⟨S_, .i32⟩
  | .hbm, ⟨50, _⟩ => ⟨S_, .f32⟩
  | .hbm, ⟨51, _⟩ => ⟨S4096x4x2x384, .f32⟩
  | .hbm, ⟨52, _⟩ => ⟨S4096x4x768, .f32⟩
  | .hbm, ⟨53, _⟩ => ⟨S4x4096x768, .f32⟩
  | .hbm, ⟨54, _⟩ => ⟨S4x4096x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_3 : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference10Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.GluValue.lean ====
/-
  What the GLU's two calls leave: `p = y·wa`, `q = y·wb`, `x + p·σ(q)`, and the gate's gradients `dp` and `dq`, block by block.
-/
module

public import proofs.«01_k».proof.Defs
public import proofs.«01_k».proof.Proof.Gen.Kernel1Ideal.Frame
public import Idealize.ShloMosaic.Lib.Tactic
public import Idealize.ShloMosaic.Lib.Pointwise
public import Idealize.ShloMosaic.Lib.Pipeline.Value

@[expose] public section

set_option maxRecDepth 16384

noncomputable section

namespace Cert.Kernel1Ideal.Glu

open Cert.Kernel1Ideal Cert.Kernel1Ideal.Gen Idealize.ShloMosaic Idealize.ShloMosaic.TcCoe Idealize.SL.Sem
open Idealize.ShloMosaic.Pipeline (Dat)
open Idealize.SL.BI
open scoped BigOperators

theorem hz : (![0, 0] : Fin 2 → Nat) = fun _ => 0 := funext fun a => by fin_cases a <;> rfl

/-- A rank-2 index is the pair of its two coordinates. -/
theorem eta2 (j : S512x1024.Idx) : j = ix2 (n0 := 512) (n1 := 1024) ⟨(j 0).val, (j 0).isLt⟩ ⟨(j 1).val, (j 1).isLt⟩ := by
  funext x
  match x with
  | ⟨0, _⟩ => rfl
  | ⟨1, _⟩ => rfl

/-! ## The first call -/

section First

variable (V : (c : Dev nD) → (b : Ref sig .tc) → Buf (Elt Ideal) ((c : Thread nD τ).loc b))

/-- Row `a` of block `t`, in the whole array. -/
abbrev row0 (t : Fin cfg0.N) (a : Fin 512) : Fin 4096 := ⟨512 * t.val + a.val, by have := t.isLt; have : cfg0.N = 8 := N_0; omega⟩

theorem idx0 : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, _)

theorem blk0_0 (c : Dev nD) (t : Fin cfg0.N) (a : Fin 512) (b : Fin 1024) :
    (iblk0 V c 0 t : FVec Ideal S512x1024 .bf16) (ix2 a b) = (V c main_v0 : FVec Ideal S4096x1024 .bf16) (ix2 (row0 t a) b) := by
  have h := (idx0 t).1
  unfold iblk0
  rw [View.read_apply]
  show V c main_v0 _ = V c main_v0 _
  congr 1
  funext x
  apply Fin.ext
  match x with
  | ⟨0, _⟩ => show win0_0.index t 0 * 512 + 1 * a.val = 512 * t.val + a.val; rw [h.1]; omega
  | ⟨1, _⟩ => show win0_0.index t 1 * 1024 + 1 * b.val = b.val; rw [h.2]; omega

theorem blk0_1 (c : Dev nD) (t : Fin cfg0.N) (a : Fin 1024) (b : Fin 1024) :
    (iblk0 V c 1 t : FVec Ideal S1024x1024 .bf16) (ix2 a b) = (V c main_v1 : FVec Ideal S1024x1024 .bf16) (ix2 a b) := by
  have h := (idx0 t).2.1
  unfold iblk0
  rw [View.read_apply]
  show V c main_v1 _ = V c main_v1 _
  congr 1
  funext x
  apply Fin.ext
  match x with
  | ⟨0, _⟩ => show win0_1.index t 0 * 1024 + 1 * a.val = a.val; rw [h.1]; omega
  | ⟨1, _⟩ => show win0_1.index t 1 * 1024 + 1 * b.val = b.val; rw [h.2]; omega

theorem blk0_2 (c : Dev nD) (t : Fin cfg0.N) (a : Fin 1024) (b : Fin 1024) :
    (iblk0 V c 2 t : FVec Ideal S1024x1024 .bf16) (ix2 a b) = (V c main_v2 : FVec Ideal S1024x1024 .bf16) (ix2 a b) := by
  have h := (idx0 t).2.2.1
  unfold iblk0
  rw [View.read_apply]
  show V c main_v2 _ = V c main_v2 _
  congr 1
  funext x
  apply Fin.ext
  match x with
  | ⟨0, _⟩ => show win0_2.index t 0 * 1024 + 1 * a.val = a.val; rw [h.1]; omega
  | ⟨1, _⟩ => show win0_2.index t 1 * 1024 + 1 * b.val = b.val; rw [h.2]; omega

theorem blk0_3 (c : Dev nD) (t : Fin cfg0.N) (a : Fin 512) (b : Fin 1024) :
    (iblk0 V c 3 t : FVec Ideal S512x1024 .f32) (ix2 a b) = (V c main_arg3 : FVec Ideal S4096x1024 .f32) (ix2 (row0 t a) b) := by
  have h := (idx0 t).2.2.2.1
  unfold iblk0
  rw [View.read_apply]
  show V c main_arg3 _ = V c main_arg3 _
  congr 1
  funext x
  apply Fin.ext
  match x with
  | ⟨0, _⟩ => show win0_3.index t 0 * 512 + 1 * a.val = 512 * t.val + a.val; rw [h.1]; omega
  | ⟨1, _⟩ => show win0_3.index t 1 * 1024 + 1 * b.val = b.val; rw [h.2]; omega

/-- A product of two of the arrays, at an index. -/
abbrev prod (y : FVec Ideal S4096x1024 .bf16) (w : FVec Ideal S1024x1024 .bf16) : FVec Ideal S4096x1024 .f32 := fun i =>
  0 + ∑ k : Fin 1024, y (ix2 (i 0) k) * w (ix2 k (i 1))

/-- The gated output. -/
abbrev gated (x p q : FVec Ideal S4096x1024 .f32) : FVec Ideal S4096x1024 .f32 := fun i =>
  x i + p i * (FloatOps.logistic (q i) : EReal)

theorem pay1_apply (y : FVec Ideal S512x1024 .bf16) (w : FVec Ideal S1024x1024 .bf16) (a : Fin 512) (b : Fin 1024) :
    k0_pay1 (F := Ideal) y w (ix2 a b) = 0 + ∑ k : Fin 1024, y (ix2 a k) * w (ix2 k b) := by
  pointwise [k0_pay1]

theorem pay2_apply (y : FVec Ideal S512x1024 .bf16) (w : FVec Ideal S1024x1024 .bf16) (a : Fin 512) (b : Fin 1024) :
    k0_pay2 (F := Ideal) y w (ix2 a b) = 0 + ∑ k : Fin 1024, y (ix2 a k) * w (ix2 k b) := by
  pointwise [k0_pay2]

theorem pay3_apply (y : FVec Ideal S512x1024 .bf16) (wa wb : FVec Ideal S1024x1024 .bf16) (x : FVec Ideal S512x1024 .f32)
    (a : Fin 512) (b : Fin 1024) : k0_pay3 (F := Ideal) y wa y wb x (ix2 a b) =
      x (ix2 a b) + k0_pay1 (F := Ideal) y wa (ix2 a b) * (FloatOps.logistic (k0_pay2 (F := Ideal) y wb (ix2 a b)) : EReal) := rfl

/-- What the first call leaves of `p`, `q` and the output. -/
abbrev P0 (c : Dev nD) : FVec Ideal S4096x1024 .f32 := prod (V c main_v0) (V c main_v1)
abbrev Q0 (c : Dev nD) : FVec Ideal S4096x1024 .f32 := prod (V c main_v0) (V c main_v2)
abbrev O0 (c : Dev nD) : FVec Ideal S4096x1024 .f32 := gated (V c main_arg3) (P0 V c) (Q0 V c)

theorem left_p (c : Dev nD) (t : Fin cfg0.N) (a : Fin 512) (b : Fin 1024) :
    out0_5 (iblk0 V c 0 t) (iblk0 V c 1 t) (iblk0 V c 2 t) (iblk0 V c 3 t) (ix2 a b) = P0 V c (ix2 (row0 t a) b) := by
  unfold out0_5
  rw [View.canon_unit_zero hz, View.ld_unit_zero (S := S512x1024) hz, View.ld_unit_zero (S := S1024x1024) hz, pay1_apply]
  simp only [blk0_0, blk0_1]
  rfl

theorem left_q (c : Dev nD) (t : Fin cfg0.N) (a : Fin 512) (b : Fin 1024) :
    out0_6 (iblk0 V c 0 t) (iblk0 V c 1 t) (iblk0 V c 2 t) (iblk0 V c 3 t) (ix2 a b) = Q0 V c (ix2 (row0 t a) b) := by
  unfold out0_6
  rw [View.canon_unit_zero hz, View.ld_unit_zero (S := S512x1024) hz, View.ld_unit_zero (S := S1024x1024) hz, pay2_apply]
  simp only [blk0_0, blk0_2]
  rfl

theorem left_o (c : Dev nD) (t : Fin cfg0.N) (a : Fin 512) (b : Fin 1024) :
    out0_4 (iblk0 V c 0 t) (iblk0 V c 1 t) (iblk0 V c 2 t) (iblk0 V c 3 t) (ix2 a b) = O0 V c (ix2 (row0 t a) b) := by
  unfold out0_4
  rw [View.canon_unit_zero hz]
  simp only [View.ld_unit_zero (S := S512x1024) hz, View.ld_unit_zero (S := S1024x1024) hz]
  rw [pay3_apply, pay1_apply, pay2_apply]
  simp only [blk0_0, blk0_1, blk0_2, blk0_3]
  rfl

theorem size0 : ∀ t : Fin cfg0.N,
    (win0_4.size 0 = 512 ∧ win0_4.size 1 = 1024 ∧ win0_4.xsize (grid0.coords t) 0 = 512 ∧ win0_4.xsize (grid0.coords t) 1 = 1024
      ∧ (cfg0.win 4).flush t = true)
    ∧ (win0_5.size 0 = 512 ∧ win0_5.size 1 = 1024 ∧ win0_5.xsize (grid0.coords t) 0 = 512 ∧ win0_5.xsize (grid0.coords t) 1 = 1024
      ∧ (cfg0.win 5).flush t = true)
    ∧ (win0_6.size 0 = 512 ∧ win0_6.size 1 = 1024 ∧ win0_6.xsize (grid0.coords t) 0 = 512 ∧ win0_6.xsize (grid0.coords t) 1 = 1024
      ∧ (cfg0.win 6).flush t = true) :=
  (by decide +kernel : ∀ t : Fin grid0.N, _)

theorem final_o (c : Dev nD) : (dat0 V c).arrAt 4 cfg0.N = O0 V c :=
  (dat0 V c).arrAt_eq_of_cover 4 (O0 V c) (fun t _ => by
    have h := (idx0 t).2.2.2.2.1
    show (cfg0.win 4).cut (grid0.coords t) ((dat0 V c).after 4 t) = _
    rw [after0_4]
    funext j
    rw [View.read_apply]
    show out0_4 (iblk0 V c 0 t) (iblk0 V c 1 t) (iblk0 V c 2 t) (iblk0 V c 3 t) j = O0 V c _
    rw [eta2 j, left_o]
    refine congrArg (O0 V c) ?_
    funext x
    apply Fin.ext
    match x with
    | ⟨0, _⟩ => show 512 * t.val + (j 0).val = win0_4.index t 0 * 512 + 1 * (j 0).val; rw [h.1]; omega
    | ⟨1, _⟩ => show (j 1).val = win0_4.index t 1 * 1024 + 1 * (j 1).val; rw [h.2]; omega) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨s0, s1, x0, x1, hf⟩ := (size0 t).1
    have hi := (idx0 t).2.2.2.2.1
    have ht : t.val = (i 0 : Nat) / 512 := rfl
    refine ⟨t, hf, ?_⟩
    show i ∈ ((View.whole main_v3_0).slice (win0_4.rect t)).set
    rw [View.set_slice_whole, Rect.mem_set_unit]
    intro a
    match a with
    | ⟨0, _⟩ => show win0_4.index t 0 * win0_4.size 0 ≤ (i 0 : Nat) ∧ (i 0 : Nat) < win0_4.index t 0 * win0_4.size 0 + win0_4.xsize (grid0.coords t) 0
                rw [hi.1, s0, x0]; omega
    | ⟨1, _⟩ => show win0_4.index t 1 * win0_4.size 1 ≤ (i 1 : Nat) ∧ (i 1 : Nat) < win0_4.index t 1 * win0_4.size 1 + win0_4.xsize (grid0.coords t) 1
                rw [hi.2, s1, x1]; omega

theorem final_p (c : Dev nD) : (dat0 V c).arrAt 5 cfg0.N = P0 V c :=
  (dat0 V c).arrAt_eq_of_cover 5 (P0 V c) (fun t _ => by
    have h := (idx0 t).2.2.2.2.2.1
    show (cfg0.win 5).cut (grid0.coords t) ((dat0 V c).after 5 t) = _
    rw [after0_5]
    funext j
    rw [View.read_apply]
    show out0_5 (iblk0 V c 0 t) (iblk0 V c 1 t) (iblk0 V c 2 t) (iblk0 V c 3 t) j = P0 V c _
    rw [eta2 j, left_p]
    refine congrArg (P0 V c) ?_
    funext x
    apply Fin.ext
    match x with
    | ⟨0, _⟩ => show 512 * t.val + (j 0).val = win0_5.index t 0 * 512 + 1 * (j 0).val; rw [h.1]; omega
    | ⟨1, _⟩ => show (j 1).val = win0_5.index t 1 * 1024 + 1 * (j 1).val; rw [h.2]; omega) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨s0, s1, x0, x1, hf⟩ := (size0 t).2.1
    have hi := (idx0 t).2.2.2.2.2.1
    have ht : t.val = (i 0 : Nat) / 512 := rfl
    refine ⟨t, hf, ?_⟩
    show i ∈ ((View.whole main_v3_1).slice (win0_5.rect t)).set
    rw [View.set_slice_whole, Rect.mem_set_unit]
    intro a
    match a with
    | ⟨0, _⟩ => show win0_5.index t 0 * win0_5.size 0 ≤ (i 0 : Nat) ∧ (i 0 : Nat) < win0_5.index t 0 * win0_5.size 0 + win0_5.xsize (grid0.coords t) 0
                rw [hi.1, s0, x0]; omega
    | ⟨1, _⟩ => show win0_5.index t 1 * win0_5.size 1 ≤ (i 1 : Nat) ∧ (i 1 : Nat) < win0_5.index t 1 * win0_5.size 1 + win0_5.xsize (grid0.coords t) 1
                rw [hi.2, s1, x1]; omega

theorem final_q (c : Dev nD) : (dat0 V c).arrAt 6 cfg0.N = Q0 V c :=
  (dat0 V c).arrAt_eq_of_cover 6 (Q0 V c) (fun t _ => by
    have h := (idx0 t).2.2.2.2.2.2
    show (cfg0.win 6).cut (grid0.coords t) ((dat0 V c).after 6 t) = _
    rw [after0_6]
    funext j
    rw [View.read_apply]
    show out0_6 (iblk0 V c 0 t) (iblk0 V c 1 t) (iblk0 V c 2 t) (iblk0 V c 3 t) j = Q0 V c _
    rw [eta2 j, left_q]
    refine congrArg (Q0 V c) ?_
    funext x
    apply Fin.ext
    match x with
    | ⟨0, _⟩ => show 512 * t.val + (j 0).val = win0_6.index t 0 * 512 + 1 * (j 0).val; rw [h.1]; omega
    | ⟨1, _⟩ => show (j 1).val = win0_6.index t 1 * 1024 + 1 * (j 1).val; rw [h.2]; omega) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨s0, s1, x0, x1, hf⟩ := (size0 t).2.2
    have hi := (idx0 t).2.2.2.2.2.2
    have ht : t.val = (i 0 : Nat) / 512 := rfl
    refine ⟨t, hf, ?_⟩
    show i ∈ ((View.whole main_v3_2).slice (win0_6.rect t)).set
    rw [View.set_slice_whole, Rect.mem_set_unit]
    intro a
    match a with
    | ⟨0, _⟩ => show win0_6.index t 0 * win0_6.size 0 ≤ (i 0 : Nat) ∧ (i 0 : Nat) < win0_6.index t 0 * win0_6.size 0 + win0_6.xsize (grid0.coords t) 0
                rw [hi.1, s0, x0]; omega
    | ⟨1, _⟩ => show win0_6.index t 1 * win0_6.size 1 ≤ (i 1 : Nat) ∧ (i 1 : Nat) < win0_6.index t 1 * win0_6.size 1 + win0_6.xsize (grid0.coords t) 1
                rw [hi.2, s1, x1]; omega

/-! ## The second call -/

abbrev row1 (t : Fin cfg1.N) (a : Fin 512) : Fin 4096 := ⟨512 * t.val + a.val, by have := t.isLt; have : cfg1.N = 8 := N_1; omega⟩

theorem idx1 : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = t.val ∧ win1_4.index t 1 = 0) :=
  (by decide +kernel : ∀ t : Fin grid1.N, _)

theorem blk1_0 (c : Dev nD) (t : Fin cfg1.N) (a : Fin 512) (b : Fin 1024) :
    (iblk1 V c 0 t : FVec Ideal S512x1024 .f32) (ix2 a b) = (V c main_arg4 : FVec Ideal S4096x1024 .f32) (ix2 (row1 t a) b) := by
  have h := (idx1 t).1
  unfold iblk1
  rw [View.read_apply]
  show V c main_arg4 _ = V c main_arg4 _
  congr 1
  funext x
  apply Fin.ext
  match x with
  | ⟨0, _⟩ => show win1_0.index t 0 * 512 + 1 * a.val = 512 * t.val + a.val; rw [h.1]; omega
  | ⟨1, _⟩ => show win1_0.index t 1 * 1024 + 1 * b.val = b.val; rw [h.2]; omega

theorem blk1_1 (c : Dev nD) (t : Fin cfg1.N) (a : Fin 512) (b : Fin 1024) :
    (iblk1 V c 1 t : FVec Ideal S512x1024 .f32) (ix2 a b) = (V c main_v3_1 : FVec Ideal S4096x1024 .f32) (ix2 (row1 t a) b) := by
  have h := (idx1 t).2.1
  unfold iblk1
  rw [View.read_apply]
  show V c main_v3_1 _ = V c main_v3_1 _
  congr 1
  funext x
  apply Fin.ext
  match x with
  | ⟨0, _⟩ => show win1_1.index t 0 * 512 + 1 * a.val = 512 * t.val + a.val; rw [h.1]; omega
  | ⟨1, _⟩ => show win1_1.index t 1 * 1024 + 1 * b.val = b.val; rw [h.2]; omega

theorem blk1_2 (c : Dev nD) (t : Fin cfg1.N) (a : Fin 512) (b : Fin 1024) :
    (iblk1 V c 2 t : FVec Ideal S512x1024 .f32) (ix2 a b) = (V c main_v3_2 : FVec Ideal S4096x1024 .f32) (ix2 (row1 t a) b) := by
  have h := (idx1 t).2.2.1
  unfold iblk1
  rw [View.read_apply]
  show V c main_v3_2 _ = V c main_v3_2 _
  congr 1
  funext x
  apply Fin.ext
  match x with
  | ⟨0, _⟩ => show win1_2.index t 0 * 512 + 1 * a.val = 512 * t.val + a.val; rw [h.1]; omega
  | ⟨1, _⟩ => show win1_2.index t 1 * 1024 + 1 * b.val = b.val; rw [h.2]; omega

/-- The logistic function of an extended real, and one, as the program has them. -/
abbrev sg (x : EReal) : EReal := (FloatOps.logistic (F := Ideal) (φ := .f32) x : EReal)
abbrev one : EReal := (FloatOps.ofBits (F := Ideal) .f32 0x3F800000#32 : EReal)

abbrev dP (ct q : FVec Ideal S4096x1024 .f32) : FVec Ideal S4096x1024 .bf16 := fun i => ct i * sg (q i)
abbrev dQ (ct p q : FVec Ideal S4096x1024 .f32) : FVec Ideal S4096x1024 .bf16 := fun i =>
  ct i * p i * sg (q i) * (one - sg (q i))

theorem pay_dp (ct q : FVec Ideal S512x1024 .f32) (a : Fin 512) (b : Fin 1024) :
    k1_pay2 (F := Ideal) ct q (ix2 a b) = ct (ix2 a b) * sg (q (ix2 a b)) := by
  pointwise [k1_pay2, k1_pay1]

theorem pay_dq (ct p q : FVec Ideal S512x1024 .f32) (a : Fin 512) (b : Fin 1024) :
    k1_pay3 (F := Ideal) ct p q (ix2 a b) =
      ct (ix2 a b) * p (ix2 a b) * sg (q (ix2 a b)) * (one - sg (q (ix2 a b))) := by
  pointwise [k1_pay3, k1_pay1]

theorem left_dp (c : Dev nD) (t : Fin cfg1.N) (a : Fin 512) (b : Fin 1024) :
    (out1_3 (iblk1 V c 0 t) (iblk1 V c 1 t) (iblk1 V c 2 t) : FVec Ideal S512x1024 .bf16) (ix2 a b)
      = dP (V c main_arg4) (V c main_v3_2) (ix2 (row1 t a) b) := by
  unfold out1_3
  rw [View.canon_unit_zero hz]
  simp only [View.ld_unit_zero (S := S512x1024) hz]
  rw [pay_dp, blk1_0, blk1_2]

theorem left_dq (c : Dev nD) (t : Fin cfg1.N) (a : Fin 512) (b : Fin 1024) :
    (out1_4 (iblk1 V c 0 t) (iblk1 V c 1 t) (iblk1 V c 2 t) : FVec Ideal S512x1024 .bf16) (ix2 a b)
      = dQ (V c main_arg4) (V c main_v3_1) (V c main_v3_2) (ix2 (row1 t a) b) := by
  unfold out1_4
  rw [View.canon_unit_zero hz]
  simp only [View.ld_unit_zero (S := S512x1024) hz]
  rw [pay_dq, blk1_0, blk1_1, blk1_2]

theorem size1 : ∀ t : Fin cfg1.N,
    (win1_3.size 0 = 512 ∧ win1_3.size 1 = 1024 ∧ win1_3.xsize (grid1.coords t) 0 = 512 ∧ win1_3.xsize (grid1.coords t) 1 = 1024
      ∧ (cfg1.win 3).flush t = true)
    ∧ (win1_4.size 0 = 512 ∧ win1_4.size 1 = 1024 ∧ win1_4.xsize (grid1.coords t) 0 = 512 ∧ win1_4.xsize (grid1.coords t) 1 = 1024
      ∧ (cfg1.win 4).flush t = true) :=
  (by decide +kernel : ∀ t : Fin grid1.N, _)

theorem final_dp (c : Dev nD) : (dat1 V c).arrAt 3 cfg1.N = dP (V c main_arg4) (V c main_v3_2) :=
  (dat1 V c).arrAt_eq_of_cover 3 (dP (V c main_arg4) (V c main_v3_2)) (fun t _ => by
    have h := (idx1 t).2.2.2.1
    show (cfg1.win 3).cut (grid1.coords t) ((dat1 V c).after 3 t) = _
    rw [after1_3]
    funext j
    rw [View.read_apply]
    show out1_3 (iblk1 V c 0 t) (iblk1 V c 1 t) (iblk1 V c 2 t) j = dP (V c main_arg4) (V c main_v3_2) _
    rw [eta2 j, left_dp]
    refine congrArg (dP (V c main_arg4) (V c main_v3_2)) ?_
    funext x
    apply Fin.ext
    match x with
    | ⟨0, _⟩ => show 512 * t.val + (j 0).val = win1_3.index t 0 * 512 + 1 * (j 0).val; rw [h.1]; omega
    | ⟨1, _⟩ => show (j 1).val = win1_3.index t 1 * 1024 + 1 * (j 1).val; rw [h.2]; omega) fun i => by
    have h0 : (i 0 : Nat) < 4096 := (i 0).isLt
    have h1 : (i 1 : Nat) < 1024 := (i 1).isLt
    have hN : cfg1.N = 8 := N_1
    let t : Fin cfg1.N := ⟨(i 0 : Nat) / 512, by omega⟩
    obtain ⟨s0, s1, x0, x1, hf⟩ := (size1 t).1
    have hi := (idx1 t).2.2.2.1
    have ht : t.val = (i 0 : Nat) / 512 := rfl
    refine ⟨t, hf, ?_⟩
    show i ∈ ((View.whole main_v4_0).slice (win1_3.rect t)).set
    rw [View.set_slice_whole, Rect.mem_set_unit]
    intro a
    match a with
    | ⟨0, _⟩ => show win1_3.index t 0 * win1_3.size 0 ≤ (i 0 : Nat) ∧ (i 0 : Nat) < win1_3.index t 0 * win1_3.size 0 + win1_3.xsize (grid1.coords t) 0
                rw [hi.1, s0, x0]; omega
    | ⟨1, _⟩ => show win1_3.index t 1 * win1_3.size 1 ≤ (i 1 : Nat) ∧ (i 1 : Nat) < win1_3.index t 1 * win1_3.size 1 + win1_3.xsize (grid1.coords t) 1
                rw [hi.2, s1, x1]; omega

theorem final_dq (c : Dev nD) : (dat1 V c).arrAt 4 cfg1.N = dQ (V c main_arg4) (V c main_v3_1) (V c main_v3_2) :=
  (dat1 V c).arrAt_eq_of_cover 4 (dQ (V c main_arg4) (V c main_v3_1) (V c main_v3_2)) (fun t _ => by
    have h := (idx1 t).2.2.2.2
    show (cfg1.win 4).cut (grid1.coords t) ((dat1 V c).after 4 t) = _
    rw [after1_4]
    funext j
    rw [View.read_apply]
    show out1_4 (iblk1 V c 0 t) (iblk1 V c 1 t) (iblk1 V c 2 t) j = dQ (V c main_arg4) (V c main_v3_1) (V c main_v3_2) _
    rw [eta2 j, left_dq]
    refine congrArg (dQ (V c main_arg4) (V c main_v3_1) (V c main_v3_2)) ?_
    funext x
    apply Fin.ext
    match x with
    | ⟨0, _⟩ => show 512 * t.val + (j 0).val = win1_4.index t 0 * 512 + 1 * (j 0).val; rw [h.1]; omega
    | ⟨1, _⟩ => show (j 1).val = win1_4.index t 1 * 1024 + 1 * (j 1).val; rw [h.2]; omega) fun i => by
    have h0 : (i 0 : Nat) < 4096 := (i 0).isLt
    have h1 : (i 1 : Nat) < 1024 := (i 1).isLt
    have hN : cfg1.N = 8 := N_1
    let t : Fin cfg1.N := ⟨(i 0 : Nat) / 512, by omega⟩
    obtain ⟨s0, s1, x0, x1, hf⟩ := (size1 t).2
    have hi := (idx1 t).2.2.2.2
    have ht : t.val = (i 0 : Nat) / 512 := rfl
    refine ⟨t, hf, ?_⟩
    show i ∈ ((View.whole main_v4_1).slice (win1_4.rect t)).set
    rw [View.set_slice_whole, Rect.mem_set_unit]
    intro a
    match a with
    | ⟨0, _⟩ => show win1_4.index t 0 * win1_4.size 0 ≤ (i 0 : Nat) ∧ (i 0 : Nat) < win1_4.index t 0 * win1_4.size 0 + win1_4.xsize (grid1.coords t) 0
                rw [hi.1, s0, x0]; omega
    | ⟨1, _⟩ => show win1_4.index t 1 * win1_4.size 1 ≤ (i 1 : Nat) ∧ (i 1 : Nat) < win1_4.index t 1 * win1_4.size 1 + win1_4.xsize (grid1.coords t) 1
                rw [hi.2, s1, x1]; omega

end First

end Cert.Kernel1Ideal.Glu

end
-- ==== Proof.GluClaim.lean ====
/-
  The GLU's forward call and its gate's gradient are the reference's.
-/
module

public import proofs.«01_k».proof.Proof.GluValue
public import proofs.«01_k».proof.Proof.Gen.Reference1Ideal.Run

@[expose] public section

set_option maxRecDepth 16384

noncomputable section

namespace Cert.Kernel1Ideal.Glu

open Cert.Kernel1Ideal Cert.Kernel1Ideal.Gen Idealize.ShloMosaic Idealize.ShloMosaic.TcCoe Idealize.SL.Sem
open Idealize.SL.BI
open scoped BigOperators

/-! ## The run, with every buffer at its last contents -/

section Run

open Idealize.ShloMosaic.Tactic Idealize.SL Idealize.SL.RA
open scoped Idealize.SL.BI
open Idealize.SL.BI.BIBase Idealize.SL.BI.Laws Idealize.SL.ProofMode Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at the contents folded through the two calls. -/
theorem run_mem : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Run

/-! ## The contents at the end -/

variable (m : (ℓ : Loc nD τ sig) → Buf (Elt Ideal) ℓ) (ρ : Dev nD → PrngReg)

abbrev Y (c : Dev nD) : FVec Ideal S4096x1024 .f32 := m ((c : Thread nD τ).loc main_arg0)
abbrev WA (c : Dev nD) : FVec Ideal S1024x1024 .f32 := m ((c : Thread nD τ).loc main_arg1)
abbrev WB (c : Dev nD) : FVec Ideal S1024x1024 .f32 := m ((c : Thread nD τ).loc main_arg2)
abbrev X (c : Dev nD) : FVec Ideal S4096x1024 .f32 := m ((c : Thread nD τ).loc main_arg3)
abbrev CT (c : Dev nD) : FVec Ideal S4096x1024 .f32 := m ((c : Thread nD τ).loc main_arg4)

theorem V1_y (c : Dev nD) : (V1 m ρ c main_v0 : FVec Ideal S4096x1024 .bf16) = Y m c := by
  show W1 m ρ c (Proc.devRef .tc main_v0) = _
  unfold W1
  after_results
  rfl
theorem V1_wa (c : Dev nD) : (V1 m ρ c main_v1 : FVec Ideal S1024x1024 .bf16) = WA m c := by
  show W1 m ρ c (Proc.devRef .tc main_v1) = _
  unfold W1
  after_results
  rfl
theorem V1_wb (c : Dev nD) : (V1 m ρ c main_v2 : FVec Ideal S1024x1024 .bf16) = WB m c := by
  show W1 m ρ c (Proc.devRef .tc main_v2) = _
  unfold W1
  after_results
  rfl
theorem V1_x (c : Dev nD) : (V1 m ρ c main_arg3 : FVec Ideal S4096x1024 .f32) = X m c := W1_args m ρ c main_arg3 (by decide)

theorem V2_o (c : Dev nD) : W2 m ρ c (Proc.devRef .tc main_v3_0) = gated (X m c) (prod (Y m c) (WA m c)) (prod (Y m c) (WB m c)) := by
  refine (W2_arr m ρ c 4).trans ((final_o (V1 m ρ) c).trans ?_)
  unfold O0 P0 Q0
  rw [V1_y, V1_wa, V1_wb, V1_x]
theorem V2_p (c : Dev nD) : W2 m ρ c (Proc.devRef .tc main_v3_1) = prod (Y m c) (WA m c) := by
  refine (W2_arr m ρ c 5).trans ((final_p (V1 m ρ) c).trans ?_)
  unfold P0
  rw [V1_y, V1_wa]
theorem V2_q (c : Dev nD) : W2 m ρ c (Proc.devRef .tc main_v3_2) = prod (Y m c) (WB m c) := by
  refine (W2_arr m ρ c 6).trans ((final_q (V1 m ρ) c).trans ?_)
  unfold Q0
  rw [V1_y, V1_wb]
theorem V2_ct (c : Dev nD) : W2 m ρ c (Proc.devRef .tc main_arg4) = CT m c := W2_args m ρ c main_arg4 (by decide)

theorem V3_dp (c : Dev nD) : W3 m ρ c (Proc.devRef .tc main_v4_0) = dP (CT m c) (prod (Y m c) (WB m c)) := by
  refine (W3_arr m ρ c 3).trans ((final_dp (V2 m ρ) c).trans ?_)
  show dP (W2 m ρ c (Proc.devRef .tc main_arg4)) (W2 m ρ c (Proc.devRef .tc main_v3_2)) = _
  rw [V2_q, V2_ct]
theorem V3_dq (c : Dev nD) :
    W3 m ρ c (Proc.devRef .tc main_v4_1) = dQ (CT m c) (prod (Y m c) (WA m c)) (prod (Y m c) (WB m c)) := by
  refine (W3_arr m ρ c 4).trans ((final_dq (V2 m ρ) c).trans ?_)
  show dQ (W2 m ρ c (Proc.devRef .tc main_arg4)) (W2 m ρ c (Proc.devRef .tc main_v3_1)) (W2 m ρ c (Proc.devRef .tc main_v3_2)) = _
  rw [V2_p, V2_q, V2_ct]
theorem V3_o (c : Dev nD) : W3 m ρ c (Proc.devRef .tc main_v3_0) = gated (X m c) (prod (Y m c) (WA m c)) (prod (Y m c) (WB m c)) :=
  (W3_of m ρ c main_v3_0 (by decide)).trans (V2_o m ρ c)
theorem V3_p (c : Dev nD) : W3 m ρ c (Proc.devRef .tc main_v3_1) = prod (Y m c) (WA m c) :=
  (W3_of m ρ c main_v3_1 (by decide)).trans (V2_p m ρ c)
theorem V3_q (c : Dev nD) : W3 m ρ c (Proc.devRef .tc main_v3_2) = prod (Y m c) (WB m c) :=
  (W3_of m ρ c main_v3_2 (by decide)).trans (V2_q m ρ c)

set_option maxHeartbeats 2000000 in
/-- The claim: both programs run, and their five results are equal. -/
theorem algebraic : Cert.algebraic_Kernel1Ideal_Reference1Ideal (hKernel1Ideal := Cert.Kernel1Ideal.Gen.facts)
    (hReference1Ideal := Cert.Reference1Ideal.Gen.facts) := by
  intro m ρ m' ρ' hpre hag
  refine ⟨fun c => gated (X m c) (prod (Y m c) (WA m c)) (prod (Y m c) (WB m c)), fun c => prod (Y m c) (WA m c),
    fun c => prod (Y m c) (WB m c), fun c => dP (CT m c) (prod (Y m c) (WB m c)),
    fun c => dQ (CT m c) (prod (Y m c) (WA m c)) (prod (Y m c) (WB m c)), ?_, ?_⟩
  · refine (θ_run _ _ _).mono (fun r h c => ?_) (run_mem (F := Ideal) m ρ)
    exact ⟨(h c _ (mem_uc main_v3_0 (by decide))).trans (V3_o m ρ c), (h c _ (mem_uc main_v3_1 (by decide))).trans (V3_p m ρ c),
      (h c _ (mem_uc main_v3_2 (by decide))).trans (V3_q m ρ c), (h c _ (mem_uc main_v4_0 (by decide))).trans (V3_dp m ρ c),
      (h c _ (mem_uc main_v4_1 (by decide))).trans (V3_dq m ρ c),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c),
      (h c _ (mem_uc main_arg4 (by decide))).trans (W3_main_arg4 m ρ c)⟩
  · refine (θ_run _ _ _).mono (fun r h c => ?_) (Cert.Reference1Ideal.Value.run (F := Ideal) m' ρ')
    obtain ⟨a0, a1, a2, a3, a4⟩ := hag c
    obtain ⟨h0, h1, h2, h3, h4, hrest⟩ := h c
    refine ⟨h0.trans ?_, h1.trans ?_, h2.trans ?_, h3.trans ?_, h4.trans ?_, hrest⟩
    · rw [a0, a1, a2, a3]
      funext i
      idx_vars i
      trans X m c (ix2 i0 i1) + prod (Y m c) (WA m c) (ix2 i0 i1) * sg (prod (Y m c) (WB m c) (ix2 i0 i1))
      · unfold prod sg
        pointwise []
        rfl
      · rfl
    · rw [a0, a1]
      funext i
      idx_vars i
      pointwise []
    · rw [a0, a2]
      funext i
      idx_vars i
      pointwise []
    · rw [a0, a2, a4]
      funext i
      idx_vars i
      trans CT m c (ix2 i0 i1) * sg (prod (Y m c) (WB m c) (ix2 i0 i1))
      · unfold prod sg
        pointwise []
        rfl
      · rfl
    · rw [a0, a1, a2, a4]
      funext i
      idx_vars i
      trans prod (Y m c) (WA m c) (ix2 i0 i1) * CT m c (ix2 i0 i1) *
          (sg (prod (Y m c) (WB m c) (ix2 i0 i1)) * (one - sg (prod (Y m c) (WB m c) (ix2 i0 i1))))
      · unfold prod sg one
        pointwise []
        rfl
      · unfold dQ
        rw [mul_comm (prod _ _ _) (CT m c _), mul_assoc (CT m c _ * _)]

end Cert.Kernel1Ideal.Glu

end
-- ==== Proof.Finite.lean ====
/-
  Finite extended reals. The gradients of the norms are equal to the derivative's formula only over the real numbers, so
  a claim with a finiteness precondition is proved by naming the real number behind each element, moving the coercion to
  the outside, and finishing in `ℝ`. This module has the coercions of the operations that the programs use, the printed
  constants as real numbers, and the reading of the printed precondition `jnp.all(jnp.abs(a) < jnp.inf)`.
-/
module

public import Idealize.ShloMosaic.Lib.Pointwise
public import Idealize.ShloMosaic.Lib.ReduceAll
public import Idealize.ShloMosaic.PureOps.Ideal

@[expose] public section

noncomputable section

namespace Cert.Fin

open Idealize.ShloMosaic
open scoped BigOperators

/-- A sum of real numbers, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The reciprocal square root of a positive real number. -/
theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.2 ha.le), if_neg ha.ne']

/-- An extended real below `+∞` in absolute value is a real number. -/
theorem exists_real_of_abs_lt (x : EReal) (h : max x (-x) < ⊤) : ∃ r : ℝ, x = (r : EReal) := by
  induction x using EReal.rec with
  | bot => simp at h
  | top => simp at h
  | coe r => exact ⟨r, rfl⟩

/-- The pattern of `+∞`. -/
theorem ofBits_inf : Ideal.ofBits .f32 0x7F800000#32 = ⊤ := by simp [Ideal.ofBits, Ideal.ieee]

/-- One element of the printed precondition: the comparison `|x| < +∞` gives a real number. -/
theorem exists_real_of_cmp (x : EReal) (h : Ideal.cmp .olt (max x (-x)) (Ideal.ofBits .f32 0x7F800000#32) = 1#1) :
    ∃ r : ℝ, x = (r : EReal) := by
  rw [ofBits_inf] at h
  refine exists_real_of_abs_lt x ?_
  by_contra hn
  simp [Ideal.cmp, hn] at h

/-- The number `1e-6` in single precision, the norms' `ε`: its value. -/
def eps : ℝ := 8796093 * (2 : ℝ) ^ (-43 : Int)

theorem eps_pos : 0 < eps := by unfold eps; positivity

theorem ofBits_eps : Ideal.ofBits .f32 0x358637BD#32 = ((eps : ℝ) : EReal) := by
  unfold eps; simp [Ideal.ofBits, Ideal.ieee]

theorem ofBits_1024 : Ideal.ofBits .f32 0x44800000#32 = ((1024 : ℝ) : EReal) := by
  simp [Ideal.ofBits, Ideal.ieee]
  rw [← EReal.coe_mul, EReal.coe_eq_coe_iff]; norm_num

theorem ofBits_neg_half : Ideal.ofBits .f32 0xBF000000#32 = ((-(1 / 2) : ℝ) : EReal) := by
  simp [Ideal.ofBits, Ideal.ieee]
  rw [← EReal.coe_mul, EReal.coe_eq_coe_iff]; norm_num

theorem ofBits_half : Ideal.ofBits .f32 0x3F000000#32 = ((1 / 2 : ℝ) : EReal) := by
  simp [Ideal.ofBits, Ideal.ieee]
  rw [← EReal.coe_mul, EReal.coe_eq_coe_iff]; norm_num

theorem ofBits_1024th : Ideal.ofBits .f32 0x3A800000#32 = ((1 / 1024 : ℝ) : EReal) := by
  simp [Ideal.ofBits, Ideal.ieee]
  rw [← EReal.coe_mul, EReal.coe_eq_coe_iff]; norm_num

theorem ofBits_2048th : Ideal.ofBits .f32 0x3A000000#32 = ((1 / 2048 : ℝ) : EReal) := by
  simp [Ideal.ofBits, Ideal.ieee]
  rw [← EReal.coe_mul, EReal.coe_eq_coe_iff]; norm_num

theorem ofBits_one : Ideal.ofBits .f32 0x3F800000#32 = ((1 : ℝ) : EReal) := by
  simp [Ideal.ofBits, Ideal.ieee]
  rw [← EReal.coe_mul, ← EReal.coe_one, EReal.coe_eq_coe_iff]; norm_num

theorem ofBits_two : Ideal.ofBits .f32 0x40000000#32 = ((2 : ℝ) : EReal) := by
  simp [Ideal.ofBits, Ideal.ieee]
  rw [← EReal.coe_mul, EReal.coe_eq_coe_iff]; norm_num

end Cert.Fin

end
-- ==== Proof.RmsMath.lean ====
/-
  The gradient of `y = x · rsqrt(mean(x²) + ε) · g` on one row, in real numbers: the step's form, which multiplies by the
  reciprocal root three times, is the form automatic differentiation gives, which divides it by `mean(x²) + ε`.
-/
module

public import proofs.«01_k».proof.Proof.Finite

@[expose] public section

noncomputable section

namespace Cert.Rms

open Cert.Fin Idealize.ShloMosaic
open scoped BigOperators

variable {n : ℕ}

/-- `mean(x²) + ε` of a row of 1024 real numbers. -/
def ms (x : Fin n → ℝ) : ℝ := (∑ k, x k * x k) / 1024 + eps

theorem ms_pos (x : Fin n → ℝ) : 0 < ms x :=
  add_pos_of_nonneg_of_pos (div_nonneg (Finset.sum_nonneg fun k _ => mul_self_nonneg (x k)) (by norm_num)) eps_pos

/-- The row's reciprocal root mean square. -/
def rr (x : Fin n → ℝ) : ℝ := (Real.sqrt (ms x))⁻¹

theorem rr_sq (x : Fin n → ℝ) : rr x * rr x = (ms x)⁻¹ := by
  unfold rr; rw [← mul_inv, Real.mul_self_sqrt (ms_pos x).le]

/-- The same of a row of extended reals, in the operations' terms. -/
def er (x : Fin n → EReal) : EReal :=
  Ideal.rsqrt (Ideal.div (∑ k, x k * x k) (Ideal.ofBits .f32 0x44800000#32) + Ideal.ofBits .f32 0x358637BD#32)

theorem ems_coe (x : Fin n → ℝ) : Ideal.div (∑ k, (x k : EReal) * (x k : EReal)) (Ideal.ofBits .f32 0x44800000#32)
    + Ideal.ofBits .f32 0x358637BD#32 = ((ms x : ℝ) : EReal) := by
  simp only [← EReal.coe_mul]
  rw [coe_sum, ofBits_1024, ofBits_eps, div_coe _ _ (by norm_num), ← EReal.coe_add]; rfl

theorem er_coe (x : Fin n → ℝ) : er (fun k => (x k : EReal)) = ((rr x : ℝ) : EReal) := by
  unfold er; rw [ems_coe, rsqrt_coe _ (ms_pos x)]; rfl

/-- The step's gradient of a row, without the residual's term: `r · (d − xn · mean(d · xn))`, `d = dh · g`. -/
def dxK (dh x g : Fin n → EReal) (j : Fin n) : EReal :=
  er x * (dh j * g j - x j * er x * Ideal.div (∑ k, dh k * g k * (x k * er x)) (Ideal.ofBits .f32 0x44800000#32))

/-- The quotient that automatic differentiation gives the row's mean square: `Σ x d · (−½ r / (mean(x²) + ε)) / 1024`. -/
def cR (dh x g : Fin n → EReal) : EReal :=
  Ideal.div ((∑ k, x k * (dh k * g k)) * (Ideal.ofBits .f32 0xBF000000#32 *
      Ideal.div (er x) (Ideal.div (∑ k, x k * x k) (Ideal.ofBits .f32 0x44800000#32) + Ideal.ofBits .f32 0x358637BD#32)))
    (Ideal.ofBits .f32 0x44800000#32)

/-- The two gradients of a row of real numbers agree. -/
theorem dx_eq (dh x g : Fin n → EReal) (hd : ∀ k, ∃ r : ℝ, dh k = r) (hx : ∀ k, ∃ r : ℝ, x k = r) (hg : ∀ k, ∃ r : ℝ, g k = r)
    (j : Fin n) : dxK dh x g j = dh j * g j * er x + x j * cR dh x g + cR dh x g * x j := by
  choose d hd using hd
  choose u hx using hx
  choose w hg using hg
  obtain rfl : dh = fun k => (d k : EReal) := funext hd
  obtain rfl : x = fun k => (u k : EReal) := funext hx
  obtain rfl : g = fun k => (w k : EReal) := funext hg
  unfold dxK cR
  rw [ems_coe]
  simp only [er_coe, ofBits_1024, ofBits_neg_half, ← EReal.coe_mul, coe_sum, div_coe _ _ (show (1024 : ℝ) ≠ 0 by norm_num),
    div_coe _ _ (ms_pos u).ne', ← EReal.coe_sub, ← EReal.coe_add, EReal.coe_eq_coe_iff]
  have h : ∑ k, d k * w k * (u k * rr u) = rr u * ∑ k, u k * (d k * w k) := by
    rw [Finset.mul_sum]; exact Finset.sum_congr rfl fun k _ => by ring
  rw [h, div_eq_mul_inv (rr u) (ms u), ← rr_sq]
  ring

end Cert.Rms

end
-- ==== Proof.Sums.lean ====
/-
  Sums over the rows of an array, block by block.
-/
module

public import Mathlib.Data.EReal.Operations
public import Mathlib.Algebra.BigOperators.Fin

@[expose] public section

namespace Cert.Sums

open scoped BigOperators

variable {M : Type} [AddCommMonoid M] {N : ℕ}

/-- `f` on the numbers below `N`, zero from `N` on. -/
noncomputable def ext (f : Fin N → M) (r : ℕ) : M := if h : r < N then f ⟨r, h⟩ else 0

theorem ext_of_lt (f : Fin N → M) {r : ℕ} (h : r < N) : ext f r = f ⟨r, h⟩ := dif_pos h

/-- The sum of the first `r` rows. -/
noncomputable def upto (f : Fin N → M) (r : ℕ) : M := ∑ k ∈ Finset.range r, ext f k

theorem upto_zero (f : Fin N → M) : upto f 0 = 0 := Finset.sum_range_zero _

/-- The sum of all rows. -/
theorem upto_all (f : Fin N → M) : upto f N = ∑ k, f k := by
  unfold upto
  rw [Finset.sum_range]
  exact Finset.sum_congr rfl fun k _ => ext_of_lt f k.isLt

/-- One block of `B` rows more. -/
theorem upto_add (f : Fin N → M) (r B : ℕ) (h : r + B ≤ N) :
    upto f (r + B) = upto f r + ∑ a : Fin B, f ⟨r + a.val, lt_of_lt_of_le (Nat.add_lt_add_left a.isLt r) h⟩ := by
  unfold upto
  rw [Finset.sum_range_add, Finset.sum_range (fun x => ext f (r + x))]
  congr 1
  exact Finset.sum_congr rfl fun a _ => ext_of_lt f _

end Cert.Sums
-- ==== Proof.NormValue.lean ====
/-
  What the norm's gradient kernel leaves: `dx` block by block, `dg` as the sum over all rows.
-/
module

public import proofs.«01_k».proof.Proof.RmsMath
public import proofs.«01_k».proof.Proof.Sums
public import proofs.«01_k».proof.Defs
public import proofs.«01_k».proof.Proof.Gen.Kernel2Ideal.Value
public import Idealize.ShloMosaic.Lib.Tactic
public import Idealize.ShloMosaic.Lib.Pointwise

@[expose] public section

set_option maxRecDepth 16384

noncomputable section

namespace Cert.Kernel2Ideal.Norm

open Cert.Kernel2Ideal Cert.Kernel2Ideal.Gen Idealize.ShloMosaic Idealize.ShloMosaic.TcCoe Idealize.SL.Sem
open Idealize.ShloMosaic.Pipeline (Dat)
open scoped BigOperators

theorem hz : (![0, 0] : Fin 2 → Nat) = fun _ => 0 := funext fun a => by fin_cases a <;> rfl

section AnyF

variable {F : FTy → Type} [FloatOps F]

/-- The block of `dx` that the first point leaves: the body's payload of the four input blocks. -/
theorem out_A_4 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1024 .f32) (h3 : a3.IsWhole)
    (a4 : Memref sig .tc .vmem S512x1024 .f32) (h4 : a4.IsWhole) (a5 : Memref sig .tc .vmem S512x1024 .f32) (h5 : a5.IsWhole)
    (a6 : Memref sig .tc .vmem S1x1024 .f32) (h6 : a6.IsWhole) (hc : cond0_0 i)
    (x0 x1 : Vec F S512x1024 .f32) (x2 : Vec F S1x1024 .f32) (x3 : Vec F S512x1024 .f32) :
    out0_A_4 c i a1 h1 a2 h2 a3 h3 a4 h4 a5 h5 a6 h6 hc x0 x1 x2 x3 = k0_pay3 x2 x1 x0 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz,
    View.ld_unit_zero (S := S1x1024) hz]

/-- The same at a later point. -/
theorem out_B_4 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1024 .f32) (h3 : a3.IsWhole)
    (a4 : Memref sig .tc .vmem S512x1024 .f32) (h4 : a4.IsWhole) (a5 : Memref sig .tc .vmem S512x1024 .f32) (h5 : a5.IsWhole)
    (a6 : Memref sig .tc .vmem S1x1024 .f32) (h6 : a6.IsWhole) (hc : ¬cond0_0 i)
    (x0 x1 : Vec F S512x1024 .f32) (x2 : Vec F S1x1024 .f32) (x3 : Vec F S512x1024 .f32) (x5 : Vec F S1x1024 .f32) :
    out0_B_4 c i a1 h1 a2 h2 a3 h3 a4 h4 a5 h5 a6 h6 hc x0 x1 x2 x3 x5 = k0_pay3 x2 x1 x0 x3 := by
  unfold out0_B_4
  rw [View.read_writes_eq_canon _ _ _ (cover0_B_4 c i a1 h1 a2 h2 a3 h3 a4 h4 a5 h5 a6 h6 hc x0 x1 x2 x3 x5)]
  unfold kernelRun0_B
  dsimp only
  sl_unfold_words
  rw [View.canon_unit_zero hz]
  simp only [View.readAt_eq_ld, h1.read_unread, h2.read_unread, h3.read_unread, h4.read_unread, View.ld_unit_zero (S := S512x1024) hz,
    View.ld_unit_zero (S := S1x1024) hz]

/-- `dg` after the first point: the block's sum over its rows, onto the zero the body has just stored. -/
theorem out_A_5 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1024 .f32) (h3 : a3.IsWhole)
    (a4 : Memref sig .tc .vmem S512x1024 .f32) (h4 : a4.IsWhole) (a5 : Memref sig .tc .vmem S512x1024 .f32) (h5 : a5.IsWhole)
    (a6 : Memref sig .tc .vmem S1x1024 .f32) (h6 : a6.IsWhole) (hc : cond0_0 i)
    (x0 x1 : Vec F S512x1024 .f32) (x2 : Vec F S1x1024 .f32) (x3 : Vec F S512x1024 .f32) :
    out0_A_5 c i a1 h1 a2 h2 a3 h3 a4 h4 a5 h5 a6 h6 hc x0 x1 x2 x3 = k0_pay5 x1 x0 (k0_pay4 (F := F)) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, View.ld_unit_zero (S := S512x1024) hz,
    View.ld_unit_zero (S := S1x1024) hz]

/-- `dg` after a later point: the block's sum onto what the point before left. -/
theorem out_B_5 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1024 .f32) (h3 : a3.IsWhole)
    (a4 : Memref sig .tc .vmem S512x1024 .f32) (h4 : a4.IsWhole) (a5 : Memref sig .tc .vmem S512x1024 .f32) (h5 : a5.IsWhole)
    (a6 : Memref sig .tc .vmem S1x1024 .f32) (h6 : a6.IsWhole) (hc : ¬cond0_0 i)
    (x0 x1 : Vec F S512x1024 .f32) (x2 : Vec F S1x1024 .f32) (x3 : Vec F S512x1024 .f32) (x5 : Vec F S1x1024 .f32) :
    out0_B_5 c i a1 h1 a2 h2 a3 h3 a4 h4 a5 h5 a6 h6 hc x0 x1 x2 x3 x5 = k0_pay5 x1 x0 x5 := by
  unfold out0_B_5
  rw [View.read_writes_eq_canon _ _ _ (cover0_B_5 c i a1 h1 a2 h2 a3 h3 a4 h4 a5 h5 a6 h6 hc x0 x1 x2 x3 x5)]
  unfold kernelRun0_B
  dsimp only
  sl_unfold_words
  rw [View.canon_unit_zero hz]
  simp only [View.readAt_eq_ld, h1.read_unread, h2.read_unread, h3.read_unread, h4.read_unread, h6.read_unread,
    View.ld_unit_zero (S := S512x1024) hz, View.ld_unit_zero (S := S1x1024) hz]

end AnyF

variable (m : (ℓ : Loc nD τ sig) → Buf (Elt Ideal) ℓ)

/-- The arguments, as arrays of extended reals. -/
abbrev DH (c : Dev nD) : FVec Ideal S4096x1024 .f32 := m ((c : Thread nD τ).loc main_arg0)
abbrev X (c : Dev nD) : FVec Ideal S4096x1024 .f32 := m ((c : Thread nD τ).loc main_arg1)
abbrev G (c : Dev nD) : FVec Ideal S1x1024 .f32 := m ((c : Thread nD τ).loc main_arg2)
abbrev DR (c : Dev nD) : FVec Ideal S4096x1024 .f32 := m ((c : Thread nD τ).loc main_arg3)

/-- Row `a` of block `t`, in the whole array. -/
abbrev row (t : Fin cfg0.N) (a : Fin 512) : Fin 4096 := ⟨512 * t.val + a.val, by have := t.isLt; have : cfg0.N = 8 := N_0; omega⟩

theorem idx_row : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0) :=
  (by decide +kernel : ∀ t : Fin grid0.N, _)

theorem blk0 (c : Dev nD) (t : Fin cfg0.N) (a : Fin 512) (b : Fin 1024) :
    (iblk m c 0 t : FVec Ideal S512x1024 .f32) (ix2 a b) = DH m c (ix2 (row t a) b) := by
  have h := (idx_row t).1
  unfold iblk
  rw [View.read_apply]
  show V m c main_arg0 _ = m _ _
  unfold V
  congr 1
  funext x
  apply Fin.ext
  match x with
  | ⟨0, _⟩ => show win0_0.index t 0 * 512 + 1 * a.val = 512 * t.val + a.val; rw [h.1]; omega
  | ⟨1, _⟩ => show win0_0.index t 1 * 1024 + 1 * b.val = b.val; rw [h.2]; omega

theorem blk1 (c : Dev nD) (t : Fin cfg0.N) (a : Fin 512) (b : Fin 1024) :
    (iblk m c 1 t : FVec Ideal S512x1024 .f32) (ix2 a b) = X m c (ix2 (row t a) b) := by
  have h := (idx_row t).2.1
  unfold iblk
  rw [View.read_apply]
  show V m c main_arg1 _ = m _ _
  unfold V
  congr 1
  funext x
  apply Fin.ext
  match x with
  | ⟨0, _⟩ => show win0_1.index t 0 * 512 + 1 * a.val = 512 * t.val + a.val; rw [h.1]; omega
  | ⟨1, _⟩ => show win0_1.index t 1 * 1024 + 1 * b.val = b.val; rw [h.2]; omega

theorem blk2 (c : Dev nD) (t : Fin cfg0.N) (a : Fin 1) (b : Fin 1024) :
    (iblk m c 2 t : FVec Ideal S1x1024 .f32) (ix2 a b) = G m c (ix2 0 b) := by
  have h := (idx_row t).2.2.1
  unfold iblk
  rw [View.read_apply]
  show V m c main_arg2 _ = m _ _
  unfold V
  congr 1
  funext x
  apply Fin.ext
  match x with
  | ⟨0, _⟩ => show win0_2.index t 0 * 1 + 1 * a.val = 0; rw [h.1]; omega
  | ⟨1, _⟩ => show win0_2.index t 1 * 1024 + 1 * b.val = b.val; rw [h.2]; omega

theorem blk3 (c : Dev nD) (t : Fin cfg0.N) (a : Fin 512) (b : Fin 1024) :
    (iblk m c 3 t : FVec Ideal S512x1024 .f32) (ix2 a b) = DR m c (ix2 (row t a) b) := by
  have h := (idx_row t).2.2.2.1
  unfold iblk
  rw [View.read_apply]
  show V m c main_arg3 _ = m _ _
  unfold V
  congr 1
  funext x
  apply Fin.ext
  match x with
  | ⟨0, _⟩ => show win0_3.index t 0 * 512 + 1 * a.val = 512 * t.val + a.val; rw [h.1]; omega
  | ⟨1, _⟩ => show win0_3.index t 1 * 1024 + 1 * b.val = b.val; rw [h.2]; omega

/-- `dx`: the residual's gradient and the row's gradient of the norm. -/
def dx (c : Dev nD) : FVec Ideal S4096x1024 .f32 := fun i =>
  DR m c i + Rms.dxK (fun k => DH m c (ix2 (i 0) k)) (fun k => X m c (ix2 (i 0) k)) (fun k => G m c (ix2 0 k)) (i 1)

/-- One row's part of `dg`. -/
def dgRow (c : Dev nD) (r : Fin 4096) (j : Fin 1024) : EReal :=
  DH m c (ix2 r j) * (X m c (ix2 r j) * Rms.er fun k => X m c (ix2 r k))

/-- `dg`: the sum over the rows. -/
def dg (c : Dev nD) : FVec Ideal S1x1024 .f32 := fun i => ∑ r : Fin 4096, dgRow m c r (i 1)

/-- The payload of a block's `dx` at an index. -/
theorem pay3_apply (x0 x1 x3 : FVec Ideal S512x1024 .f32) (x2 : FVec Ideal S1x1024 .f32) (a : Fin 512) (b : Fin 1024) :
    k0_pay3 x2 x1 x0 x3 (ix2 a b) = x3 (ix2 a b) +
      Rms.dxK (fun k => x0 (ix2 a k)) (fun k => x1 (ix2 a k)) (fun k => x2 (ix2 0 k)) b := by
  unfold Rms.dxK Rms.er
  pointwise [k0_pay3, k0_pay2, k0_pay1]

/-- The payload of a block's `dg` at an index. -/
theorem pay5_apply (x0 x1 : FVec Ideal S512x1024 .f32) (acc : FVec Ideal S1x1024 .f32) (b : Fin 1024) :
    k0_pay5 x1 x0 acc (ix2 0 b) = acc (ix2 0 b) + ∑ a : Fin 512, x0 (ix2 a b) * (x1 (ix2 a b) * Rms.er fun k => x1 (ix2 a k)) := by
  unfold Rms.er
  pointwise [k0_pay5, k0_pay2, k0_pay1]

theorem pay4_apply (i : S1x1024.Idx) : k0_pay4 (F := Ideal) i = 0 := by
  pointwise [k0_pay4]

/-- What the two outputs' buffers hold after point `n`: the block of `dx`, and the sum of `dg`'s rows so far. -/
theorem outs_dx (c : Dev nD) (t : Fin cfg0.N) (a : Fin 512) (b : Fin 1024) :
    (outsAt0 m c t.val t.isLt).1 (ix2 a b) = dx m c (ix2 (row t a) b) := by
  have h : (outsAt0 m c t.val t.isLt).1 = k0_pay3 (iblk m c 2 t) (iblk m c 1 t) (iblk m c 0 t) (iblk m c 3 t) := by
    by_cases h0 : t.val % 8 = 0
    · rw [outsAt0_A m c t h0]; dsimp only; rw [out_A_4]
    · rw [outsAt0_B m c t h0]; dsimp only; rw [out_B_4]
  rw [h, pay3_apply]
  simp only [blk0, blk1, blk2, blk3]
  rfl

theorem outs_dg (c : Dev nD) : ∀ (n : ℕ) (h : n < cfg0.N) (b : Fin 1024),
    (outsAt0 m c n h).2 (ix2 0 b) = Sums.upto (fun r => dgRow m c r b) (512 * n + 512)
  | 0, h, b => by
    rw [outsAt0_A m c ⟨0, h⟩ rfl]
    dsimp only
    rw [out_A_5, pay5_apply, pay4_apply, Sums.upto_add _ _ _ (by norm_num)]
    simp only [blk0, blk1]
    rfl
  | n + 1, h, b => by
    have hN : cfg0.N = 8 := N_0
    have hB : ¬(⟨n + 1, h⟩ : Fin cfg0.N).val % 8 = 0 := by dsimp only; omega
    rw [outsAt0_B m c ⟨n + 1, h⟩ hB]
    dsimp only
    rw [out_B_5, pay5_apply, Sums.upto_add _ _ _ (by omega)]
    refine congrArg₂ (· + ·) (outs_dg c n (Nat.lt_of_succ_lt h) b) ?_
    simp only [blk0, blk1]
    rfl

/-- Every point writes its block of `dx`; -/
theorem flushed_dx (c : Dev nD) (t : Fin cfg0.N) (_ : (cfg0.win 4).flush t = true) :
    (dats m 0 c).flushed 4 t = ((cfg0.win 4).blk t).view.read (Elt Ideal) (dx m c) := by
  rw [Value.flushed4]
  funext j
  have h := (idx_row t).2.2.2.2.1
  have e : j = ix2 (n0 := 512) (n1 := 1024) ⟨(j 0).val, (j 0).isLt⟩ ⟨(j 1).val, (j 1).isLt⟩ := by
    funext x
    match x with
    | ⟨0, _⟩ => rfl
    | ⟨1, _⟩ => rfl
  rw [View.read_apply]
  show (outsAt0 m c t.val t.isLt).1 j = dx m c _
  rw [e, outs_dx m c t]
  congr 1
  funext x
  apply Fin.ext
  match x with
  | ⟨0, _⟩ => show 512 * t.val + (j 0).val = win0_4.index t 0 * 512 + 1 * (j 0).val; rw [h.1]; omega
  | ⟨1, _⟩ => show (j 1).val = win0_4.index t 1 * 1024 + 1 * (j 1).val; rw [h.2]; omega

theorem size_4 : ∀ t : Fin cfg0.N, win0_4.size 0 = 512 ∧ win0_4.size 1 = 1024 ∧ win0_4.xsize (grid0.coords t) 0 = 512
    ∧ win0_4.xsize (grid0.coords t) 1 = 1024 ∧ (cfg0.win 4).flush t = true :=
  (by decide +kernel : ∀ t : Fin grid0.N, _)

/-- and the blocks are the whole array. -/
theorem final_dx (c : Dev nD) : (dats m 0 c).arrAt 4 cfg0.N = dx m c :=
  (dats m 0 c).arrAt_eq_of_cover 4 (dx m c) (flushed_dx m c) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨s0, s1, x0, x1, hf⟩ := size_4 t
    have hi := (idx_row t).2.2.2.2.1
    have ht : t.val = (i 0 : Nat) / 512 := rfl
    refine ⟨t, hf, ?_⟩
    show i ∈ ((View.whole main_v0_0).slice (win0_4.rect t)).set
    rw [View.set_slice_whole, Rect.mem_set_unit]
    intro a
    match a with
    | ⟨0, _⟩ => show win0_4.index t 0 * win0_4.size 0 ≤ (i 0 : Nat) ∧ (i 0 : Nat) < win0_4.index t 0 * win0_4.size 0 + win0_4.xsize (grid0.coords t) 0
                rw [hi.1, s0, x0]; omega
    | ⟨1, _⟩ => show win0_4.index t 1 * win0_4.size 1 ≤ (i 1 : Nat) ∧ (i 1 : Nat) < win0_4.index t 1 * win0_4.size 1 + win0_4.xsize (grid0.coords t) 1
                rw [hi.2, s1, x1]; omega

theorem last_5 : ∀ t : Fin cfg0.N, (cfg0.win 5).flush t = true → t.val = 7 :=
  (by decide +kernel : ∀ t : Fin grid0.N, _)

theorem size_5 : ∀ t : Fin cfg0.N, win0_5.size 0 = 1 ∧ win0_5.size 1 = 1024 ∧ win0_5.xsize (grid0.coords t) 0 = 1
    ∧ win0_5.xsize (grid0.coords t) 1 = 1024 ∧ (t.val = 7 → (cfg0.win 5).flush t = true) :=
  (by decide +kernel : ∀ t : Fin grid0.N, _)

/-- The last point writes `dg`, when all rows are in; -/
theorem flushed_dg (c : Dev nD) (t : Fin cfg0.N) (hf : (cfg0.win 5).flush t = true) :
    (dats m 0 c).flushed 5 t = ((cfg0.win 5).blk t).view.read (Elt Ideal) (dg m c) := by
  have h7 := last_5 t hf
  rw [Value.flushed5]
  funext j
  have h := (idx_row t).2.2.2.2.2
  have hj : (j 0).val = 0 := Nat.lt_one_iff.mp (j 0).isLt
  rw [View.read_apply]
  have e : j = ix2 (n0 := 1) (n1 := 1024) 0 ⟨(j 1).val, (j 1).isLt⟩ := by
    funext x
    match x with
    | ⟨0, _⟩ => exact Fin.ext hj
    | ⟨1, _⟩ => rfl
  show (outsAt0 m c t.val t.isLt).2 j = dg m c _
  rw [e, outs_dg m c t.val t.isLt, h7]
  refine (Sums.upto_all _).trans ?_
  unfold dg
  have e1 : ∀ k : Fin 1024, k.val = win0_5.index t 1 * 1024 + 1 * k.val := fun k => by rw [h.2]; omega
  exact Finset.sum_congr rfl fun r _ => congrArg (dgRow m c r) (Fin.ext (e1 _))

/-- and its block is the whole array. -/
theorem final_dg (c : Dev nD) : (dats m 0 c).arrAt 5 cfg0.N = dg m c :=
  (dats m 0 c).arrAt_eq_of_cover 5 (dg m c) (flushed_dg m c) fun i => by
    have h0 : (i 0 : Nat) < 1 := (i 0).isLt
    have h1 : (i 1 : Nat) < 1024 := (i 1).isLt
    have hN : cfg0.N = 8 := N_0
    let t : Fin cfg0.N := ⟨7, by omega⟩
    obtain ⟨s0, s1, x0, x1, hf⟩ := size_5 t
    have hi := (idx_row t).2.2.2.2.2
    refine ⟨t, hf rfl, ?_⟩
    show i ∈ ((View.whole main_v0_1).slice (win0_5.rect t)).set
    rw [View.set_slice_whole, Rect.mem_set_unit]
    intro a
    match a with
    | ⟨0, _⟩ => show win0_5.index t 0 * win0_5.size 0 ≤ (i 0 : Nat) ∧ (i 0 : Nat) < win0_5.index t 0 * win0_5.size 0 + win0_5.xsize (grid0.coords t) 0
                rw [hi.1, s0, x0]; omega
    | ⟨1, _⟩ => show win0_5.index t 1 * win0_5.size 1 ≤ (i 1 : Nat) ∧ (i 1 : Nat) < win0_5.index t 1 * win0_5.size 1 + win0_5.xsize (grid0.coords t) 1
                rw [hi.2, s1, x1]; omega

end Cert.Kernel2Ideal.Norm

end
-- ==== Proof.NormClaim.lean ====
/-
  The norm's gradient is the reference's: the two results of the step's kernel and of `jax.vjp` of the norm agree for finite
  `dh`, `x` and `g`.
-/
module

public import proofs.«01_k».proof.Proof.NormValue
public import proofs.«01_k».proof.Proof.Gen.Reference2Ideal.Run
public import proofs.«01_k».proof.Proof.Gen.Pre_finite2
public import Idealize.ShloMosaic.Lib.ReduceAll

@[expose] public section

set_option maxRecDepth 16384

noncomputable section

namespace Cert.NormClaim

open Idealize.ShloMosaic Idealize.ShloMosaic.TcCoe Idealize.SL.Sem
open scoped BigOperators

/-- A printed `jnp.all(jnp.abs(a) < jnp.inf)` that is one: `a` is real everywhere. -/
theorem pre_real {dh x dr : FVec Ideal Cert.Pre_finite2.S4096x1024 .f32} {g : FVec Ideal Cert.Pre_finite2.S1x1024 .f32}
    (h : Cert.Pre_finite2.fn (F := Ideal) dh x g dr = fun _ => 1#1) :
    (∀ i, ∃ r : ℝ, dh i = r) ∧ (∀ i, ∃ r : ℝ, x i = r) ∧ (∀ i, ∃ r : ℝ, g i = r) := by
  have e := congrFun h ix0
  unfold Cert.Pre_finite2.fn at e
  dsimp only at e
  obtain ⟨e12, e3⟩ := IntOp.andi_eq_one.1 e
  obtain ⟨e1, e2⟩ := IntOp.andi_eq_one.1 e12
  exact ⟨fun i => Fin.exists_real_of_cmp _ (Host.reduce_andi_all _ _ _ _ _ e1 i),
    fun i => Fin.exists_real_of_cmp _ (Host.reduce_andi_all _ _ _ _ _ e2 i),
    fun i => Fin.exists_real_of_cmp _ (Host.reduce_andi_all _ _ _ _ _ e3 i)⟩

variable (m' : (ℓ : Loc Cert.Reference2Ideal.nD Cert.Reference2Ideal.τ Cert.Reference2Ideal.sig) → Buf (Elt Ideal) ℓ)

section Reference

open Cert.Reference2Ideal Cert.Reference2Ideal.Gen

/-- The arguments, as arrays of extended reals. -/
abbrev dh (c : Dev nD) : FVec Ideal S4096x1024 .f32 := m' ((c.tc : Thread nD τ).loc main_arg0)
abbrev x (c : Dev nD) : FVec Ideal S4096x1024 .f32 := m' ((c.tc : Thread nD τ).loc main_arg1)
abbrev g (c : Dev nD) : FVec Ideal S1x1024 .f32 := m' ((c.tc : Thread nD τ).loc main_arg2)
abbrev dr (c : Dev nD) : FVec Ideal S4096x1024 .f32 := m' ((c.tc : Thread nD τ).loc main_arg3)

/-- The reference's `dx` at an index. -/
theorem ref_dx (c : Dev nD) (r : Fin 4096) (l : Fin 1024) : (Value.res_main_v37 m' c : FVec Ideal S4096x1024 .f32) (ix2 r l) =
    dr m' c (ix2 r l) + dh m' c (ix2 r l) * g m' c (ix2 0 l) * Rms.er (fun k => x m' c (ix2 r k))
      + x m' c (ix2 r l) * Rms.cR (fun k => dh m' c (ix2 r k)) (fun k => x m' c (ix2 r k)) (fun k => g m' c (ix2 0 k))
      + Rms.cR (fun k => dh m' c (ix2 r k)) (fun k => x m' c (ix2 r k)) (fun k => g m' c (ix2 0 k)) * x m' c (ix2 r l) := by
  unfold Value.res_main_v37 Rms.cR Rms.er
  pointwise []
  simp only [Fin.sum_univ_one]

end Reference

open Cert.Kernel2Ideal.Norm in
/-- The claim: both programs run, and their two results are equal. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hpre hag
  refine ⟨fun c => dx m c, fun c => dg m c, ?_, ?_⟩
  · refine (θ_run _ _ _).mono (fun r h c => ?_) (Cert.Kernel2Ideal.Value.run_blocks (F := Ideal) m ρ)
    exact ⟨(h c).1.trans (final_dx m c), (h c).2.1.trans (final_dg m c), (h c).2.2⟩
  · refine (θ_run _ _ _).mono (fun r h c => ?_) (Cert.Reference2Ideal.Value.run (F := Ideal) m' ρ')
    obtain ⟨a0, a1, a2, a3⟩ := hag c
    obtain ⟨f0, f1, f2⟩ := pre_real (hpre c)
    refine ⟨(h c).1.trans ?_, (h c).2.1.trans ?_, (h c).2.2⟩
    · funext i
      idx_vars i
      refine (ref_dx m' c _ _).trans ?_
      unfold dh x g dr
      rw [a0, a1, a2, a3]
      unfold dx
      rw [add_assoc, add_assoc, ← add_assoc (_ * _ * _)]
      exact congrArg _ (Rms.dx_eq _ _ _ (fun k => f0 _) (fun k => f1 _) (fun k => f2 _) _).symm
    · funext i
      idx_vars i
      rw [a0, a1]
      unfold dg dgRow Rms.er
      pointwise []
      simp only [Fin.sum_univ_one]
      exact Finset.sum_congr rfl fun r _ => mul_comm _ _

end Cert.NormClaim

end
-- ==== Proof.LossValue.lean ====
/-
  What the last norm's kernel leaves: the loss and `dg` as sums over all rows, `dx` block by block.
-/
module

public import proofs.«01_k».proof.Proof.RmsMath
public import proofs.«01_k».proof.Proof.Sums
public import proofs.«01_k».proof.Defs
public import proofs.«01_k».proof.Proof.Gen.Kernel3Ideal.Value
public import Idealize.ShloMosaic.Lib.Tactic
public import Idealize.ShloMosaic.Lib.Pointwise

@[expose] public section

set_option maxRecDepth 16384

noncomputable section

namespace Cert.Kernel3Ideal.Loss

open Cert.Kernel3Ideal Cert.Kernel3Ideal.Gen Idealize.ShloMosaic Idealize.ShloMosaic.TcCoe Idealize.SL.Sem
open Idealize.ShloMosaic.Pipeline (Dat)
open scoped BigOperators

theorem hz : (![0, 0] : Fin 2 → Nat) = fun _ => 0 := funext fun a => by fin_cases a <;> rfl

section AnyF

variable {F : FTy → Type} [FloatOps F] (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S1x128 .f32) (h4 : a4.IsWhole)
  (a5 : Memref sig .tc .vmem S512x1024 .f32) (h5 : a5.IsWhole) (a6 : Memref sig .tc .vmem S1x1024 .f32) (h6 : a6.IsWhole)
  (x0 : Vec F S512x1024 .f32) (x1 : Vec F S1x1024 .f32) (x2 : Vec F S512x1024 .f32)

/-- The loss after the first point: the block's sum, onto the zero the body has just stored. -/
theorem out_A_3 (hc : cond0_0 i) :
    out0_A_3 c i a1 h1 a2 h2 a3 h3 a4 h4 a5 h5 a6 h6 hc x0 x1 x2 = k0_pay2 (k0_pay5 x1 x0 x2) (k0_pay10 (F := F)) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S512x1024) hz,
    View.ld_unit_zero (S := S1x1024) hz, View.ld_unit_zero (S := S1x128) hz]

/-- The loss after a later point: the block's sum onto what the point before left. -/
theorem out_B_3 (hc : ¬cond0_0 i) (xo3 : Vec F S1x128 .f32) (xo5 : Vec F S1x1024 .f32) :
    out0_B_3 c i a1 h1 a2 h2 a3 h3 a4 h4 a5 h5 a6 h6 hc x0 x1 x2 xo3 xo5 = k0_pay2 (k0_pay5 x1 x0 x2) xo3 := by
  unfold out0_B_3
  rw [View.read_writes_eq_canon _ _ _ (cover0_B_3 c i a1 h1 a2 h2 a3 h3 a4 h4 a5 h5 a6 h6 hc x0 x1 x2 xo3 xo5)]
  unfold kernelRun0_B
  dsimp only
  sl_unfold_words
  rw [View.canon_unit_zero hz]
  simp only [View.readAt_eq_ld, h1.read_unread, h2.read_unread, h3.read_unread, h4.read_unread, View.ld_unit_zero (S := S512x1024) hz,
    View.ld_unit_zero (S := S1x1024) hz, View.ld_unit_zero (S := S1x128) hz]

/-- The block of `dx` that the first point leaves. -/
theorem out_A_4 (hc : cond0_0 i) :
    out0_A_4 c i a1 h1 a2 h2 a3 h3 a4 h4 a5 h5 a6 h6 hc x0 x1 x2 = k0_pay7 x1 x0 x2 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, View.ld_unit_zero (S := S512x1024) hz,
    View.ld_unit_zero (S := S1x1024) hz, View.ld_unit_zero (S := S1x128) hz]

/-- The block of `dx` that a later point leaves. -/
theorem out_B_4 (hc : ¬cond0_0 i) (xo3 : Vec F S1x128 .f32) (xo5 : Vec F S1x1024 .f32) :
    out0_B_4 c i a1 h1 a2 h2 a3 h3 a4 h4 a5 h5 a6 h6 hc x0 x1 x2 xo3 xo5 = k0_pay7 x1 x0 x2 := by
  unfold out0_B_4
  rw [View.read_writes_eq_canon _ _ _ (cover0_B_4 c i a1 h1 a2 h2 a3 h3 a4 h4 a5 h5 a6 h6 hc x0 x1 x2 xo3 xo5)]
  unfold kernelRun0_B
  dsimp only
  sl_unfold_words
  rw [View.canon_unit_zero hz]
  simp only [View.readAt_eq_ld, h1.read_unread, h2.read_unread, h3.read_unread, View.ld_unit_zero (S := S512x1024) hz,
    View.ld_unit_zero (S := S1x1024) hz, View.ld_unit_zero (S := S1x128) hz]

/-- `dg` after the first point. -/
theorem out_A_5 (hc : cond0_0 i) :
    out0_A_5 c i a1 h1 a2 h2 a3 h3 a4 h4 a5 h5 a6 h6 hc x0 x1 x2 = k0_pay1 (k0_pay8 x1 x0 x2) (k0_pay9 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S512x1024) hz,
    View.ld_unit_zero (S := S1x1024) hz, View.ld_unit_zero (S := S1x128) hz]

/-- `dg` after a later point. -/
theorem out_B_5 (hc : ¬cond0_0 i) (xo3 : Vec F S1x128 .f32) (xo5 : Vec F S1x1024 .f32) :
    out0_B_5 c i a1 h1 a2 h2 a3 h3 a4 h4 a5 h5 a6 h6 hc x0 x1 x2 xo3 xo5 = k0_pay1 (k0_pay8 x1 x0 x2) xo5 := by
  unfold out0_B_5
  rw [View.read_writes_eq_canon _ _ _ (cover0_B_5 c i a1 h1 a2 h2 a3 h3 a4 h4 a5 h5 a6 h6 hc x0 x1 x2 xo3 xo5)]
  unfold kernelRun0_B
  dsimp only
  sl_unfold_words
  rw [View.canon_unit_zero hz]
  simp only [View.readAt_eq_ld, h1.read_unread, h2.read_unread, h3.read_unread, h6.read_unread, View.ld_unit_zero (S := S512x1024) hz,
    View.ld_unit_zero (S := S1x1024) hz, View.ld_unit_zero (S := S1x128) hz]

end AnyF

variable (m : (ℓ : Loc nD τ sig) → Buf (Elt Ideal) ℓ)

/-- The arguments, as arrays of extended reals. -/
abbrev X (c : Dev nD) : FVec Ideal S4096x1024 .f32 := m ((c : Thread nD τ).loc main_arg0)
abbrev G (c : Dev nD) : FVec Ideal S1x1024 .f32 := m ((c : Thread nD τ).loc main_arg1)
abbrev T (c : Dev nD) : FVec Ideal S4096x1024 .f32 := m ((c : Thread nD τ).loc main_arg2)

/-- Row `a` of block `t`, in the whole array. -/
abbrev row (t : Fin cfg0.N) (a : Fin 512) : Fin 4096 := ⟨512 * t.val + a.val, by have := t.isLt; have : cfg0.N = 8 := N_0; omega⟩

theorem idx_row : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0) :=
  (by decide +kernel : ∀ t : Fin grid0.N, _)

theorem blk0 (c : Dev nD) (t : Fin cfg0.N) (a : Fin 512) (b : Fin 1024) :
    (iblk m c 0 t : FVec Ideal S512x1024 .f32) (ix2 a b) = X m c (ix2 (row t a) b) := by
  have h := (idx_row t).1
  unfold iblk
  rw [View.read_apply]
  show V m c main_arg0 _ = m _ _
  unfold V
  congr 1
  funext x
  apply Fin.ext
  match x with
  | ⟨0, _⟩ => show win0_0.index t 0 * 512 + 1 * a.val = 512 * t.val + a.val; rw [h.1]; omega
  | ⟨1, _⟩ => show win0_0.index t 1 * 1024 + 1 * b.val = b.val; rw [h.2]; omega

theorem blk1 (c : Dev nD) (t : Fin cfg0.N) (a : Fin 1) (b : Fin 1024) :
    (iblk m c 1 t : FVec Ideal S1x1024 .f32) (ix2 a b) = G m c (ix2 0 b) := by
  have h := (idx_row t).2.1
  unfold iblk
  rw [View.read_apply]
  show V m c main_arg1 _ = m _ _
  unfold V
  congr 1
  funext x
  apply Fin.ext
  match x with
  | ⟨0, _⟩ => show win0_1.index t 0 * 1 + 1 * a.val = 0; rw [h.1]; omega
  | ⟨1, _⟩ => show win0_1.index t 1 * 1024 + 1 * b.val = b.val; rw [h.2]; omega

theorem blk2 (c : Dev nD) (t : Fin cfg0.N) (a : Fin 512) (b : Fin 1024) :
    (iblk m c 2 t : FVec Ideal S512x1024 .f32) (ix2 a b) = T m c (ix2 (row t a) b) := by
  have h := (idx_row t).2.2.1
  unfold iblk
  rw [View.read_apply]
  show V m c main_arg2 _ = m _ _
  unfold V
  congr 1
  funext x
  apply Fin.ext
  match x with
  | ⟨0, _⟩ => show win0_2.index t 0 * 512 + 1 * a.val = 512 * t.val + a.val; rw [h.1]; omega
  | ⟨1, _⟩ => show win0_2.index t 1 * 1024 + 1 * b.val = b.val; rw [h.2]; omega

/-- The error of an element: the normalised row, scaled, minus the target. -/
def er1 (x g t : Fin 1024 → EReal) (j : Fin 1024) : EReal := x j * Rms.er x * g j - t j

/-- The error's gradient: over the number of columns. -/
def de (x g t : Fin 1024 → EReal) (j : Fin 1024) : EReal := er1 x g t j * Ideal.ofBits .f32 0x3A800000#32

/-- Rows of the arguments. -/
abbrev xr (c : Dev nD) (r : Fin 4096) : Fin 1024 → EReal := fun k => X m c (ix2 r k)
abbrev gr (c : Dev nD) : Fin 1024 → EReal := fun k => G m c (ix2 0 k)
abbrev tr (c : Dev nD) (r : Fin 4096) : Fin 1024 → EReal := fun k => T m c (ix2 r k)

def dx (c : Dev nD) : FVec Ideal S4096x1024 .f32 := fun i => Rms.dxK (de (xr m c (i 0)) (gr m c) (tr m c (i 0))) (xr m c (i 0)) (gr m c) (i 1)

/-- One row's part of `dg`. -/
def dgRow (c : Dev nD) (r : Fin 4096) (j : Fin 1024) : EReal :=
  de (xr m c r) (gr m c) (tr m c r) j * (X m c (ix2 r j) * Rms.er (xr m c r))

def dg (c : Dev nD) : FVec Ideal S1x1024 .f32 := fun i => ∑ r : Fin 4096, dgRow m c r (i 1)

/-- One row's sum of squared errors. -/
def sq (c : Dev nD) (r : Fin 4096) : EReal := ∑ j, er1 (xr m c r) (gr m c) (tr m c r) j * er1 (xr m c r) (gr m c) (tr m c r) j

/-- The loss after point `n`: each block's sum scaled, then added. -/
def lossUpto (c : Dev nD) : (n : ℕ) → n < cfg0.N → EReal
  | 0, h => 0 + Ideal.ofBits .f32 0x3A000000#32 * ∑ a : Fin 512, sq m c (row ⟨0, h⟩ a)
  | n + 1, h => lossUpto c n (Nat.lt_of_succ_lt h) + Ideal.ofBits .f32 0x3A000000#32 * ∑ a : Fin 512, sq m c (row ⟨n + 1, h⟩ a)

/-- The loss, in every lane. -/
def loss (c : Dev nD) : FVec Ideal S1x128 .f32 := fun _ => lossUpto m c 7 (by rw [show cfg0.N = 8 from N_0]; decide)

theorem pay7_apply (x0 x2 : FVec Ideal S512x1024 .f32) (x1 : FVec Ideal S1x1024 .f32) (a : Fin 512) (b : Fin 1024) :
    k0_pay7 (F := Ideal) x1 x0 x2 (ix2 a b) =
      Rms.dxK (de (fun k => x0 (ix2 a k)) (fun k => x1 (ix2 0 k)) fun k => x2 (ix2 a k)) (fun k => x0 (ix2 a k)) (fun k => x1 (ix2 0 k)) b := by
  unfold Rms.dxK de er1 Rms.er
  pointwise [k0_pay7, k0_pay6, k0_pay5, k0_pay4, k0_pay3]

theorem pay1_apply (x0 x2 : FVec Ideal S512x1024 .f32) (x1 acc : FVec Ideal S1x1024 .f32) (b : Fin 1024) :
    k0_pay1 (F := Ideal) (k0_pay8 (F := Ideal) x1 x0 x2) acc (ix2 0 b) = acc (ix2 0 b) + ∑ a : Fin 512,
      de (fun k => x0 (ix2 a k)) (fun k => x1 (ix2 0 k)) (fun k => x2 (ix2 a k)) b * (x0 (ix2 a b) * Rms.er fun k => x0 (ix2 a k)) := by
  unfold de er1 Rms.er
  pointwise [k0_pay1, k0_pay8, k0_pay6, k0_pay5, k0_pay4, k0_pay3]

theorem pay9_apply (i : S1x1024.Idx) : k0_pay9 (F := Ideal) i = 0 := by
  pointwise [k0_pay9]

theorem pay10_apply (i : S1x128.Idx) : k0_pay10 (F := Ideal) i = 0 := by
  pointwise [k0_pay10]

theorem pay2_apply (x0 x2 : FVec Ideal S512x1024 .f32) (x1 : FVec Ideal S1x1024 .f32) (acc : FVec Ideal S1x128 .f32) (b : Fin 128) :
    k0_pay2 (F := Ideal) (k0_pay5 (F := Ideal) x1 x0 x2) acc (ix2 0 b) = acc (ix2 0 b) + Ideal.ofBits .f32 0x3A000000#32 * ∑ a : Fin 512, ∑ j : Fin 1024,
      er1 (fun k => x0 (ix2 a k)) (fun k => x1 (ix2 0 k)) (fun k => x2 (ix2 a k)) j
        * er1 (fun k => x0 (ix2 a k)) (fun k => x1 (ix2 0 k)) (fun k => x2 (ix2 a k)) j := by
  unfold er1 Rms.er
  pointwise [k0_pay2, k0_pay5, k0_pay4, k0_pay3]

theorem outs_dx (c : Dev nD) (t : Fin cfg0.N) (a : Fin 512) (b : Fin 1024) :
    (outsAt0 m c t.val t.isLt).2.1 (ix2 a b) = dx m c (ix2 (row t a) b) := by
  have h : (outsAt0 m c t.val t.isLt).2.1 = k0_pay7 (iblk m c 1 t) (iblk m c 0 t) (iblk m c 2 t) := by
    by_cases h0 : t.val % 8 = 0
    · rw [outsAt0_A m c t h0]; dsimp only; rw [out_A_4]
    · rw [outsAt0_B m c t h0]; dsimp only; rw [out_B_4]
  rw [h, pay7_apply]
  simp only [blk0, blk1, blk2]
  rfl

theorem outs_dg (c : Dev nD) : ∀ (n : ℕ) (h : n < cfg0.N) (b : Fin 1024),
    (outsAt0 m c n h).2.2 (ix2 0 b) = Sums.upto (fun r => dgRow m c r b) (512 * n + 512)
  | 0, h, b => by
    rw [outsAt0_A m c ⟨0, h⟩ rfl]
    dsimp only
    rw [out_A_5, pay1_apply, pay9_apply, Sums.upto_add _ _ _ (by norm_num)]
    simp only [blk0, blk1, blk2]
    rfl
  | n + 1, h, b => by
    have hN : cfg0.N = 8 := N_0
    have hB : ¬(⟨n + 1, h⟩ : Fin cfg0.N).val % 8 = 0 := by dsimp only; omega
    rw [outsAt0_B m c ⟨n + 1, h⟩ hB]
    dsimp only
    rw [out_B_5, pay1_apply, Sums.upto_add _ _ _ (by omega)]
    refine congrArg₂ (· + ·) (outs_dg c n (Nat.lt_of_succ_lt h) b) ?_
    simp only [blk0, blk1, blk2]
    rfl

theorem outs_loss (c : Dev nD) : ∀ (n : ℕ) (h : n < cfg0.N) (b : Fin 128), (outsAt0 m c n h).1 (ix2 0 b) = lossUpto m c n h
  | 0, h, b => by
    rw [outsAt0_A m c ⟨0, h⟩ rfl]
    dsimp only
    rw [out_A_3, pay2_apply, pay10_apply]
    simp only [blk0, blk1, blk2]
    rfl
  | n + 1, h, b => by
    have hN : cfg0.N = 8 := N_0
    have hB : ¬(⟨n + 1, h⟩ : Fin cfg0.N).val % 8 = 0 := by dsimp only; omega
    rw [outsAt0_B m c ⟨n + 1, h⟩ hB]
    dsimp only
    rw [out_B_3, pay2_apply]
    refine congrArg₂ (· + ·) (outs_loss c n (Nat.lt_of_succ_lt h) b) ?_
    simp only [blk0, blk1, blk2]
    rfl

/-- Every point writes its block of `dx`; -/
theorem flushed_dx (c : Dev nD) (t : Fin cfg0.N) (_ : (cfg0.win 4).flush t = true) :
    (dats m 0 c).flushed 4 t = ((cfg0.win 4).blk t).view.read (Elt Ideal) (dx m c) := by
  rw [Value.flushed4]
  funext j
  have h := (idx_row t).2.2.2.2.1
  have e : j = ix2 (n0 := 512) (n1 := 1024) ⟨(j 0).val, (j 0).isLt⟩ ⟨(j 1).val, (j 1).isLt⟩ := by
    funext x
    match x with
    | ⟨0, _⟩ => rfl
    | ⟨1, _⟩ => rfl
  rw [View.read_apply]
  show (outsAt0 m c t.val t.isLt).2.1 j = dx m c _
  rw [e, outs_dx m c t]
  congr 1
  funext x
  apply Fin.ext
  match x with
  | ⟨0, _⟩ => show 512 * t.val + (j 0).val = win0_4.index t 0 * 512 + 1 * (j 0).val; rw [h.1]; omega
  | ⟨1, _⟩ => show (j 1).val = win0_4.index t 1 * 1024 + 1 * (j 1).val; rw [h.2]; omega

theorem size_4 : ∀ t : Fin cfg0.N, win0_4.size 0 = 512 ∧ win0_4.size 1 = 1024 ∧ win0_4.xsize (grid0.coords t) 0 = 512
    ∧ win0_4.xsize (grid0.coords t) 1 = 1024 ∧ (cfg0.win 4).flush t = true :=
  (by decide +kernel : ∀ t : Fin grid0.N, _)

/-- and the blocks are the whole array. -/
theorem final_dx (c : Dev nD) : (dats m 0 c).arrAt 4 cfg0.N = dx m c :=
  (dats m 0 c).arrAt_eq_of_cover 4 (dx m c) (flushed_dx m c) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨s0, s1, x0, x1, hf⟩ := size_4 t
    have hi := (idx_row t).2.2.2.2.1
    have ht : t.val = (i 0 : Nat) / 512 := rfl
    refine ⟨t, hf, ?_⟩
    show i ∈ ((View.whole main_v0_1).slice (win0_4.rect t)).set
    rw [View.set_slice_whole, Rect.mem_set_unit]
    intro a
    match a with
    | ⟨0, _⟩ => show win0_4.index t 0 * win0_4.size 0 ≤ (i 0 : Nat) ∧ (i 0 : Nat) < win0_4.index t 0 * win0_4.size 0 + win0_4.xsize (grid0.coords t) 0
                rw [hi.1, s0, x0]; omega
    | ⟨1, _⟩ => show win0_4.index t 1 * win0_4.size 1 ≤ (i 1 : Nat) ∧ (i 1 : Nat) < win0_4.index t 1 * win0_4.size 1 + win0_4.xsize (grid0.coords t) 1
                rw [hi.2, s1, x1]; omega

theorem last_5 : ∀ t : Fin cfg0.N, (cfg0.win 5).flush t = true → t.val = 7 :=
  (by decide +kernel : ∀ t : Fin grid0.N, _)

theorem size_5 : ∀ t : Fin cfg0.N, win0_5.size 0 = 1 ∧ win0_5.size 1 = 1024 ∧ win0_5.xsize (grid0.coords t) 0 = 1
    ∧ win0_5.xsize (grid0.coords t) 1 = 1024 ∧ (t.val = 7 → (cfg0.win 5).flush t = true) :=
  (by decide +kernel : ∀ t : Fin grid0.N, _)

/-- The last point writes `dg`, when all rows are in; -/
theorem flushed_dg (c : Dev nD) (t : Fin cfg0.N) (hf : (cfg0.win 5).flush t = true) :
    (dats m 0 c).flushed 5 t = ((cfg0.win 5).blk t).view.read (Elt Ideal) (dg m c) := by
  have h7 := last_5 t hf
  rw [Value.flushed5]
  funext j
  have h := (idx_row t).2.2.2.2.2
  have hj : (j 0).val = 0 := Nat.lt_one_iff.mp (j 0).isLt
  rw [View.read_apply]
  have e : j = ix2 (n0 := 1) (n1 := 1024) 0 ⟨(j 1).val, (j 1).isLt⟩ := by
    funext x
    match x with
    | ⟨0, _⟩ => exact Fin.ext hj
    | ⟨1, _⟩ => rfl
  show (outsAt0 m c t.val t.isLt).2.2 j = dg m c _
  rw [e, outs_dg m c t.val t.isLt, h7]
  refine (Sums.upto_all _).trans ?_
  unfold dg
  have e1 : ∀ k : Fin 1024, k.val = win0_5.index t 1 * 1024 + 1 * k.val := fun k => by rw [h.2]; omega
  exact Finset.sum_congr rfl fun r _ => congrArg (dgRow m c r) (Fin.ext (e1 _))

/-- and its block is the whole array. -/
theorem final_dg (c : Dev nD) : (dats m 0 c).arrAt 5 cfg0.N = dg m c :=
  (dats m 0 c).arrAt_eq_of_cover 5 (dg m c) (flushed_dg m c) fun i => by
    have h0 : (i 0 : Nat) < 1 := (i 0).isLt
    have h1 : (i 1 : Nat) < 1024 := (i 1).isLt
    have hN : cfg0.N = 8 := N_0
    let t : Fin cfg0.N := ⟨7, by omega⟩
    obtain ⟨s0, s1, x0, x1, hf⟩ := size_5 t
    have hi := (idx_row t).2.2.2.2.2
    refine ⟨t, hf rfl, ?_⟩
    show i ∈ ((View.whole main_v0_2).slice (win0_5.rect t)).set
    rw [View.set_slice_whole, Rect.mem_set_unit]
    intro a
    match a with
    | ⟨0, _⟩ => show win0_5.index t 0 * win0_5.size 0 ≤ (i 0 : Nat) ∧ (i 0 : Nat) < win0_5.index t 0 * win0_5.size 0 + win0_5.xsize (grid0.coords t) 0
                rw [hi.1, s0, x0]; omega
    | ⟨1, _⟩ => show win0_5.index t 1 * win0_5.size 1 ≤ (i 1 : Nat) ∧ (i 1 : Nat) < win0_5.index t 1 * win0_5.size 1 + win0_5.xsize (grid0.coords t) 1
                rw [hi.2, s1, x1]; omega

theorem last_3 : ∀ t : Fin cfg0.N, (cfg0.win 3).flush t = true → t.val = 7 :=
  (by decide +kernel : ∀ t : Fin grid0.N, _)

theorem size_3 : ∀ t : Fin cfg0.N, win0_3.size 0 = 1 ∧ win0_3.size 1 = 128 ∧ win0_3.xsize (grid0.coords t) 0 = 1
    ∧ win0_3.xsize (grid0.coords t) 1 = 128 ∧ (t.val = 7 → (cfg0.win 3).flush t = true) :=
  (by decide +kernel : ∀ t : Fin grid0.N, _)

/-- The last point writes the loss; -/
theorem flushed_loss (c : Dev nD) (t : Fin cfg0.N) (hf : (cfg0.win 3).flush t = true) :
    (dats m 0 c).flushed 3 t = ((cfg0.win 3).blk t).view.read (Elt Ideal) (loss m c) := by
  have h7 := last_3 t hf
  obtain rfl : t = ⟨7, by rw [show cfg0.N = 8 from N_0]; decide⟩ := Fin.ext h7
  rw [Value.flushed3]
  funext j
  have hj : (j 0).val = 0 := Nat.lt_one_iff.mp (j 0).isLt
  rw [View.read_apply]
  have e : j = ix2 (n0 := 1) (n1 := 128) 0 ⟨(j 1).val, (j 1).isLt⟩ := by
    funext x
    match x with
    | ⟨0, _⟩ => exact Fin.ext hj
    | ⟨1, _⟩ => rfl
  show (outsAt0 m c 7 _).1 j = lossUpto m c 7 _
  rw [e]
  exact outs_loss m c 7 _ _

/-- and its block is the whole array. -/
theorem final_loss (c : Dev nD) : (dats m 0 c).arrAt 3 cfg0.N = loss m c :=
  (dats m 0 c).arrAt_eq_of_cover 3 (loss m c) (flushed_loss m c) fun i => by
    have h0 : (i 0 : Nat) < 1 := (i 0).isLt
    have h1 : (i 1 : Nat) < 128 := (i 1).isLt
    have hN : cfg0.N = 8 := N_0
    let t : Fin cfg0.N := ⟨7, by omega⟩
    obtain ⟨s0, s1, x0, x1, hf⟩ := size_3 t
    have hi := (idx_row t).2.2.2.1
    refine ⟨t, hf rfl, ?_⟩
    show i ∈ ((View.whole main_v0_0).slice (win0_3.rect t)).set
    rw [View.set_slice_whole, Rect.mem_set_unit]
    intro a
    match a with
    | ⟨0, _⟩ => show win0_3.index t 0 * win0_3.size 0 ≤ (i 0 : Nat) ∧ (i 0 : Nat) < win0_3.index t 0 * win0_3.size 0 + win0_3.xsize (grid0.coords t) 0
                rw [hi.1, s0, x0]; omega
    | ⟨1, _⟩ => show win0_3.index t 1 * win0_3.size 1 ≤ (i 1 : Nat) ∧ (i 1 : Nat) < win0_3.index t 1 * win0_3.size 1 + win0_3.xsize (grid0.coords t) 1
                rw [hi.2, s1, x1]; omega

/-- When the squared errors are real, the blocks' scaled sums are the scaled sum over all rows. -/
theorem lossUpto_coe (c : Dev nD) (q : Fin 4096 → ℝ) (hq : ∀ r, sq m c r = (q r : EReal)) : ∀ (n : ℕ) (h : n < cfg0.N),
    lossUpto m c n h = (((1 / 2048 : ℝ) * Sums.upto q (512 * n + 512) : ℝ) : EReal)
  | 0, h => by
    unfold lossUpto
    simp only [hq, Fin.coe_sum, Fin.ofBits_2048th, ← EReal.coe_mul, zero_add]
    rw [Sums.upto_add q (512 * 0) 512 (by norm_num)]
    simp only [Nat.mul_zero, Sums.upto_zero, zero_add]
    rfl
  | n + 1, h => by
    have hN : cfg0.N = 8 := N_0
    unfold lossUpto
    rw [lossUpto_coe c q hq n, Sums.upto_add q (512 * (n + 1)) 512 (by omega)]
    simp only [hq, Fin.coe_sum, Fin.ofBits_2048th, ← EReal.coe_mul, ← EReal.coe_add, EReal.coe_eq_coe_iff]
    rw [mul_add]
    rfl

end Cert.Kernel3Ideal.Loss

end
-- ==== Proof.LossClaim.lean ====
/-
  The last norm and the loss are the reference's: the loss and its two gradients agree for a finite state, scale and target.
-/
module

public import proofs.«01_k».proof.Proof.LossValue
public import proofs.«01_k».proof.Proof.Gen.Reference3Ideal.Run
public import proofs.«01_k».proof.Proof.Gen.Pre_finite3
public import Idealize.ShloMosaic.Lib.ReduceAll

@[expose] public section

set_option maxRecDepth 16384

noncomputable section

namespace Cert.LossClaim

open Idealize.ShloMosaic Idealize.ShloMosaic.TcCoe Idealize.SL.Sem
open scoped BigOperators

/-- A printed `jnp.all(jnp.abs(a) < jnp.inf)` that is one: `a` is real everywhere. -/
theorem pre_real {x t : FVec Ideal Cert.Pre_finite3.S4096x1024 .f32} {g : FVec Ideal Cert.Pre_finite3.S1x1024 .f32}
    (h : Cert.Pre_finite3.fn (F := Ideal) x g t = fun _ => 1#1) :
    (∀ i, ∃ r : ℝ, x i = r) ∧ (∀ i, ∃ r : ℝ, g i = r) ∧ (∀ i, ∃ r : ℝ, t i = r) := by
  have e := congrFun h ix0
  unfold Cert.Pre_finite3.fn at e
  dsimp only at e
  obtain ⟨e12, e3⟩ := IntOp.andi_eq_one.1 e
  obtain ⟨e1, e2⟩ := IntOp.andi_eq_one.1 e12
  exact ⟨fun i => Fin.exists_real_of_cmp _ (Host.reduce_andi_all _ _ _ _ _ e1 i),
    fun i => Fin.exists_real_of_cmp _ (Host.reduce_andi_all _ _ _ _ _ e2 i),
    fun i => Fin.exists_real_of_cmp _ (Host.reduce_andi_all _ _ _ _ _ e3 i)⟩

variable (m' : (ℓ : Loc Cert.Reference3Ideal.nD Cert.Reference3Ideal.τ Cert.Reference3Ideal.sig) → Buf (Elt Ideal) ℓ)

open Cert.Kernel3Ideal.Loss (er1 de)

/-- The reference's gradient of an error: half, over the columns, times twice the error. -/
def dr (x g t : Fin 1024 → EReal) (j : Fin 1024) : EReal :=
  Ideal.div (Ideal.ofBits .f32 0x3F000000#32 * Ideal.ofBits .f32 0x3F800000#32) (Ideal.ofBits .f32 0x44800000#32)
    * (Ideal.ofBits .f32 0x40000000#32 * er1 x g t j)

/-- A row whose elements are real has real errors. -/
theorem er1_real (x g t : Fin 1024 → EReal) (hx : ∀ k, ∃ r : ℝ, x k = r) (hg : ∀ k, ∃ r : ℝ, g k = r) (ht : ∀ k, ∃ r : ℝ, t k = r) :
    ∀ k, ∃ r : ℝ, er1 x g t k = r := by
  choose u hx using hx
  obtain rfl : x = fun k => (u k : EReal) := funext hx
  intro k
  obtain ⟨w, hw⟩ := hg k
  obtain ⟨v, hv⟩ := ht k
  unfold er1
  rw [Rms.er_coe, hw, hv, ← EReal.coe_mul, ← EReal.coe_mul, ← EReal.coe_sub]
  exact ⟨_, rfl⟩

theorem de_real (x g t : Fin 1024 → EReal) (he : ∀ k, ∃ r : ℝ, er1 x g t k = r) : ∀ k, ∃ r : ℝ, de x g t k = r := by
  intro k
  obtain ⟨e, h⟩ := he k
  unfold de
  rw [h, Fin.ofBits_1024th, ← EReal.coe_mul]
  exact ⟨_, rfl⟩

theorem dr_eq (x g t : Fin 1024 → EReal) (he : ∀ k, ∃ r : ℝ, er1 x g t k = r) : dr x g t = de x g t := by
  funext k
  obtain ⟨e, h⟩ := he k
  unfold dr de
  rw [h, Fin.ofBits_half, Fin.ofBits_one, Fin.ofBits_1024, Fin.ofBits_two, Fin.ofBits_1024th]
  simp only [← EReal.coe_mul]
  rw [Fin.div_coe _ _ (by norm_num)]
  simp only [← EReal.coe_mul, EReal.coe_eq_coe_iff]
  ring

section Reference

open Cert.Reference3Ideal Cert.Reference3Ideal.Gen

abbrev x (c : Dev nD) (r : Fin 4096) : Fin 1024 → EReal := fun k => (m' ((c.tc : Thread nD τ).loc main_arg0) : FVec Ideal S4096x1024 .f32) (ix2 r k)
abbrev g (c : Dev nD) : Fin 1024 → EReal := fun k => (m' ((c.tc : Thread nD τ).loc main_arg1) : FVec Ideal S1x1024 .f32) (ix2 0 k)
abbrev t (c : Dev nD) (r : Fin 4096) : Fin 1024 → EReal := fun k => (m' ((c.tc : Thread nD τ).loc main_arg2) : FVec Ideal S4096x1024 .f32) (ix2 r k)

/-- The reference's `dx` at an index. -/
theorem ref_dx (c : Dev nD) (r : Fin 4096) (l : Fin 1024) : (Value.res_main_v51 m' c : FVec Ideal S4096x1024 .f32) (ix2 r l) =
    dr (x m' c r) (g m' c) (t m' c r) l * g m' c l * Rms.er (x m' c r)
      + x m' c r l * Rms.cR (dr (x m' c r) (g m' c) (t m' c r)) (x m' c r) (g m' c)
      + Rms.cR (dr (x m' c r) (g m' c) (t m' c r)) (x m' c r) (g m' c) * x m' c r l := by
  unfold Value.res_main_v51 Rms.cR dr er1 Rms.er
  pointwise []
  simp only [Fin.sum_univ_one]

end Reference

set_option maxHeartbeats 2000000 in
open Cert.Kernel3Ideal.Loss in
/-- The claim: both programs run, and their three results are equal. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m ρ m' ρ' hpre hag
  refine ⟨fun c => loss m c, fun c => dx m c, fun c => dg m c, ?_, ?_⟩
  · refine (θ_run _ _ _).mono (fun r h c => ?_) (Cert.Kernel3Ideal.Value.run_blocks (F := Ideal) m ρ)
    exact ⟨(h c).1.trans (final_loss m c), (h c).2.1.trans (final_dx m c), (h c).2.2.1.trans (final_dg m c), (h c).2.2.2⟩
  · refine (θ_run _ _ _).mono (fun r h c => ?_) (Cert.Reference3Ideal.Value.run (F := Ideal) m' ρ')
    obtain ⟨a0, a1, a2⟩ := hag c
    obtain ⟨f0, f1, f2⟩ := pre_real (hpre c)
    have he : ∀ r, ∀ k, ∃ s : ℝ, er1 (xr m c r) (gr m c) (tr m c r) k = s := fun r => er1_real _ _ _ (fun k => f0 _) (fun k => f1 _) (fun k => f2 _)
    refine ⟨(h c).1.trans ?_, (h c).2.1.trans ?_, (h c).2.2.1.trans ?_, (h c).2.2.2⟩
    · choose e he using he
      have hsq : ∀ r, Cert.Kernel3Ideal.Loss.sq m c r = ((∑ k, e r k * e r k : ℝ) : EReal) := fun r => by
        unfold Cert.Kernel3Ideal.Loss.sq
        simp only [he, ← EReal.coe_mul, Fin.coe_sum]
      funext i
      idx_vars i
      show _ = lossUpto m c 7 _
      rw [lossUpto_coe m c _ hsq 7, a0, a1, a2]
      trans Ideal.ofBits .f32 0x3F000000#32 * ∑ r, Ideal.div (Cert.Kernel3Ideal.Loss.sq m c r) (Ideal.ofBits .f32 0x44800000#32)
      · unfold Cert.Kernel3Ideal.Loss.sq er1 Rms.er
        pointwise []
      · simp only [hsq, Fin.ofBits_1024, Fin.ofBits_half, Fin.div_coe _ _ (show (1024 : ℝ) ≠ 0 by norm_num), Fin.coe_sum, ← EReal.coe_mul,
          EReal.coe_eq_coe_iff]
        rw [show 512 * 7 + 512 = 4096 from rfl, Sums.upto_all, ← Finset.sum_div]
        ring
    · funext i
      idx_vars i
      refine (ref_dx m' c _ _).trans ?_
      unfold x g t
      rw [a0, a1, a2]
      rw [show dr _ _ _ = de _ _ _ from dr_eq (xr m c _) (gr m c) (tr m c _) (he _)]
      unfold dx
      exact (Rms.dx_eq _ _ _ (de_real _ _ _ (he _)) (fun k => f0 _) (fun k => f1 _) _).symm
    · funext i
      idx_vars i
      rw [a0, a1, a2]
      trans ∑ r, X m c (ix2 r i1) * Rms.er (xr m c r) * dr (xr m c r) (gr m c) (tr m c r) i1
      · unfold dr er1 Rms.er
        pointwise []
        simp only [Fin.sum_univ_one]
      · unfold dg dgRow
        refine Finset.sum_congr rfl fun r _ => ?_
        rw [dr_eq _ _ _ (he r)]
        exact mul_comm _ _

end Cert.LossClaim

end
-- ==== Proof.DiscOps.lean ====
/-
  Arrays as functions of their coordinates: every operation of the S5 discretisation and of its gradient, applied to such
  arrays, is again such an array.
-/
module

public import proofs.«01_k».proof.Defs
public import Idealize.ShloMosaic.Lib.Tactic
public import Idealize.ShloMosaic.Lib.Pointwise

@[expose] public section

set_option maxRecDepth 16384

noncomputable section

namespace Cert.Disc

open Idealize.ShloMosaic
open scoped BigOperators

/-- An array as a function of its coordinates. -/
def of1 {n : Nat} (f : Fin n → EReal) : FVec Ideal ⟨1, ![n]⟩ .f32 := fun i => f ⟨(i 0).val, (i 0).isLt⟩
def of2 {n k : Nat} (f : Fin n → Fin k → EReal) : FVec Ideal ⟨2, ![n, k]⟩ .f32 :=
  fun i => f ⟨(i 0).val, (i 0).isLt⟩ ⟨(i 1).val, (i 1).isLt⟩
def of3 {n k l : Nat} (f : Fin n → Fin k → Fin l → EReal) : FVec Ideal ⟨3, ![n, k, l]⟩ .f32 :=
  fun i => f ⟨(i 0).val, (i 0).isLt⟩ ⟨(i 1).val, (i 1).isLt⟩ ⟨(i 2).val, (i 2).isLt⟩

/-- The coordinates of an array. -/
def at1 {n : Nat} (x : FVec Ideal ⟨1, ![n]⟩ .f32) : Fin n → EReal := fun a => x (ix1 a)
def at2 {n k : Nat} (x : FVec Ideal ⟨2, ![n, k]⟩ .f32) : Fin n → Fin k → EReal := fun a b => x (ix2 a b)
def at3 {n k l : Nat} (x : FVec Ideal ⟨3, ![n, k, l]⟩ .f32) : Fin n → Fin k → Fin l → EReal := fun a b c => x (ix3 a b c)

theorem of1_at1 {n : Nat} (x : FVec Ideal ⟨1, ![n]⟩ .f32) : of1 (at1 x) = x := by
  funext i
  show x _ = x i
  congr 1
  funext a
  match a with
  | ⟨0, _⟩ => rfl
theorem of2_at2 {n k : Nat} (x : FVec Ideal ⟨2, ![n, k]⟩ .f32) : of2 (at2 x) = x := by
  funext i
  show x _ = x i
  congr 1
  funext a
  match a with
  | ⟨0, _⟩ => rfl
  | ⟨1, _⟩ => rfl
theorem of3_at3 {n k l : Nat} (x : FVec Ideal ⟨3, ![n, k, l]⟩ .f32) : of3 (at3 x) = x := by
  funext i
  show x _ = x i
  congr 1
  funext a
  match a with
  | ⟨0, _⟩ => rfl
  | ⟨1, _⟩ => rfl
  | ⟨2, _⟩ => rfl

/-- A word's value, and the functions kept as they are, of numbers. -/
def wd (b : BitVec 32) : EReal := Ideal.ofBits .f32 b
def ex (x : EReal) : EReal := (FloatOps.exp (F := Ideal) (φ := .f32) x : EReal)
def dv (x y : EReal) : EReal := (FloatOps.divf (F := Ideal) (φ := .f32) x y : EReal)
def co (x : EReal) : EReal := (FloatOps.cos (F := Ideal) (φ := .f32) x : EReal)
def si (x : EReal) : EReal := (FloatOps.sin (F := Ideal) (φ := .f32) x : EReal)

theorem wd_zero : wd 0x00000000#32 = 0 := by unfold wd; pointwise []
theorem neg_eq (x : EReal) : (0 : EReal) - x = -x := by rw [sub_eq_add_neg, zero_add]

section Same
variable {n k l : Nat} (f g : Fin n → EReal) (f2 g2 : Fin n → Fin k → EReal) (f3 g3 : Fin n → Fin k → Fin l → EReal)

theorem mul1 : mulf (of1 f) (of1 g) = of1 fun a => f a * g a := rfl
theorem mul2 : mulf (of2 f2) (of2 g2) = of2 fun a b => f2 a b * g2 a b := rfl
theorem mul3 : mulf (of3 f3) (of3 g3) = of3 fun a b c => f3 a b c * g3 a b c := rfl
theorem add2 : addf (of2 f2) (of2 g2) = of2 fun a b => f2 a b + g2 a b := rfl
theorem add3 : addf (of3 f3) (of3 g3) = of3 fun a b c => f3 a b c + g3 a b c := rfl
theorem sub2 : subf (of2 f2) (of2 g2) = of2 fun a b => f2 a b - g2 a b := rfl
theorem sub3 : subf (of3 f3) (of3 g3) = of3 fun a b c => f3 a b c - g3 a b c := rfl
theorem neg2 : Host.negf (of2 f2) = of2 fun a b => - f2 a b := rfl
theorem neg3 : Host.negf (of3 f3) = of3 fun a b c => - f3 a b c := rfl
theorem div2 : divf (of2 f2) (of2 g2) = of2 fun a b => dv (f2 a b) (g2 a b) := rfl
theorem hdiv2 : Host.divf (of2 f2) (of2 g2) = of2 fun a b => dv (f2 a b) (g2 a b) := rfl
theorem exp2 : exp (of2 f2) = of2 fun a b => ex (f2 a b) := rfl
theorem hexp1 : Host.exp (of1 f) = of1 fun a => ex (f a) := rfl
theorem hexp2 : Host.exp (of2 f2) = of2 fun a b => ex (f2 a b) := rfl
theorem cos2 : cos (of2 f2) = of2 fun a b => co (f2 a b) := rfl
theorem hcos2 : Host.cos (of2 f2) = of2 fun a b => co (f2 a b) := rfl
theorem sin2 : sin (of2 f2) = of2 fun a b => si (f2 a b) := rfl
theorem hsin2 : Host.sin (of2 f2) = of2 fun a b => si (f2 a b) := rfl
theorem splat2 (b : BitVec 32) :
    (broadcast ⟨2, ![n, k]⟩ (Scalar.ofBits .f32 b : Ideal .f32) : FVec Ideal ⟨2, ![n, k]⟩ .f32) = of2 fun _ _ => wd b := rfl
theorem splat3 (b : BitVec 32) :
    (broadcast ⟨3, ![n, k, l]⟩ (Scalar.ofBits .f32 b : Ideal .f32) : FVec Ideal ⟨3, ![n, k, l]⟩ .f32) = of3 fun _ _ _ => wd b := rfl
theorem hsplat2 (b : BitVec 32) (h) :
    (broadcastInDim ⟨2, ![n, k]⟩ ![] h (constant (F := Ideal) ⟨0, ![]⟩ .f32 b) : FVec Ideal ⟨2, ![n, k]⟩ .f32) = of2 fun _ _ => wd b := rfl

end Same

section Shapes
variable (f1 : Fin 64 → EReal) (f2 : Fin 64 → Fin 64 → EReal) (c2 : Fin 64 → Fin 1 → EReal)
  (k3 : Fin 64 → Fin 16 → Fin 64 → EReal) (r3 : Fin 64 → Fin 64 → Fin 16 → EReal)
  (m3 : Fin 64 → Fin 1 → Fin 64 → EReal) (l3 : Fin 64 → Fin 64 → Fin 1 → EReal)

theorem cast_same (h) : shapeCast ⟨3, ![64, 16, 64]⟩ (of3 k3) h = of3 k3 := by
  funext i; idx_vars i; pointwise []
theorem cast_rsame (h) : shapeCast ⟨3, ![64, 64, 16]⟩ (of3 r3) h = of3 r3 := by
  funext i; idx_vars i; pointwise []
theorem cast_csame (h) : shapeCast ⟨2, ![64, 1]⟩ (of2 c2) h = of2 c2 := by
  funext i; idx_vars i; pointwise []
theorem cast_mid (h) : shapeCast ⟨3, ![64, 1, 64]⟩ (of2 f2) h = of3 fun a _ c => f2 a c := by
  funext i; idx_vars i; pointwise []; rfl
theorem cast_last (h) : shapeCast ⟨3, ![64, 64, 1]⟩ (of2 f2) h = of3 fun a b _ => f2 a b := by
  funext i; idx_vars i; pointwise []; rfl
theorem cast_col (h) : shapeCast ⟨2, ![64, 1]⟩ (of1 f1) h = of2 fun a _ => f1 a := by
  funext i; idx_vars i; pointwise []; rfl
theorem bc_col (h) : broadcastTo ⟨2, ![64, 64]⟩ (of2 c2) h = of2 fun a _ => c2 a 0 := by
  funext i; idx_vars i; pointwise []; rfl
theorem bc_mid (h) : broadcastTo ⟨3, ![64, 16, 64]⟩ (of3 m3) h = of3 fun a _ c => m3 a 0 c := by
  funext i; idx_vars i; pointwise []; rfl
theorem hbc_col (h) : broadcastInDim ⟨2, ![64, 64]⟩ ![0, 1] h (of2 c2) = of2 fun a _ => c2 a 0 := by
  funext i; idx_vars i; pointwise []; rfl
theorem hbc_one (h) : broadcastInDim ⟨2, ![64, 1]⟩ ![0] h (of1 f1) = of2 fun a _ => f1 a := by
  funext i; idx_vars i; pointwise []; rfl
theorem hbc_last (h) : broadcastInDim ⟨3, ![64, 64, 1]⟩ ![0, 1] h (of2 f2) = of3 fun a b _ => f2 a b := by
  funext i; idx_vars i; pointwise []; rfl
theorem hbc_chan (h) : broadcastInDim ⟨3, ![64, 64, 16]⟩ ![0, 1, 2] h (of3 l3) = of3 fun a b _ => l3 a b 0 := by
  funext i; idx_vars i; pointwise []; rfl
theorem swap (h) : transpose ⟨3, ![64, 16, 64]⟩ [0, 2, 1] (of3 r3) h = of3 fun a b c => r3 a c b := by
  funext i; idx_vars i; pointwise []; rfl

theorem sum_chan (h) : multiReduction .add [1] ⟨2, ![64, 64]⟩ (of3 k3) 0x00000000#32 h (.inl rfl) rfl = of2 fun a b => ∑ k, k3 a k b := by
  funext i; idx_vars i; pointwise []; rfl
theorem sum_mid (h) : multiReduction .add [1] ⟨2, ![64, 64]⟩ (of3 m3) 0x00000000#32 h (.inl rfl) rfl = of2 fun a b => m3 a 0 b := by
  funext i; idx_vars i; pointwise []; exact Fin.sum_univ_one _
theorem sum_row (h) : multiReduction .add [1] ⟨1, ![64]⟩ (of2 f2) 0x00000000#32 h (.inl rfl) rfl = of1 fun a => ∑ k, f2 a k := by
  funext i; idx_vars i; pointwise []; rfl
/-- The same sums as the bare sum over an axis. -/
theorem sum_chan' (h : Shape.Reduces ⟨3, ![64, 16, 64]⟩ [1] ⟨2, ![64, 64]⟩) :
    (FloatOps.reduceAdd (F := Ideal) (φ := .f32) [1] h (of3 k3) : FVec Ideal ⟨2, ![64, 64]⟩ .f32) = of2 fun a b => ∑ k, k3 a k b := sum_chan k3 h
theorem sum_mid' (h : Shape.Reduces ⟨3, ![64, 1, 64]⟩ [1] ⟨2, ![64, 64]⟩) :
    (FloatOps.reduceAdd (F := Ideal) (φ := .f32) [1] h (of3 m3) : FVec Ideal ⟨2, ![64, 64]⟩ .f32) = of2 fun a b => m3 a 0 b := sum_mid m3 h
theorem sum_row' (h : Shape.Reduces ⟨2, ![64, 64]⟩ [1] ⟨1, ![64]⟩) :
    (FloatOps.reduceAdd (F := Ideal) (φ := .f32) [1] h (of2 f2) : FVec Ideal ⟨1, ![64]⟩ .f32) = of1 fun a => ∑ k, f2 a k := sum_row f2 h
theorem hsum_chan (h : Shape.ReducesTo ⟨3, ![64, 64, 16]⟩ [2] ⟨2, ![64, 64]⟩) (h1) : Host.reduceAdd (of3 r3) (constant (F := Ideal) ⟨0, ![]⟩ .f32 0x00000000#32) h h1
    = (of2 fun a b => ∑ k, r3 a b k : FVec Ideal ⟨2, ![64, 64]⟩ .f32) := by
  funext i; idx_vars i; pointwise []; rfl
theorem hsum_last (h : Shape.ReducesTo ⟨3, ![64, 64, 1]⟩ [2] ⟨2, ![64, 64]⟩) (h1) : Host.reduceAdd (of3 l3) (constant (F := Ideal) ⟨0, ![]⟩ .f32 0x00000000#32) h h1
    = (of2 fun a b => l3 a b 0 : FVec Ideal ⟨2, ![64, 64]⟩ .f32) := by
  funext i; idx_vars i; pointwise []; exact Fin.sum_univ_one _
theorem hsum_row (h : Shape.ReducesTo ⟨2, ![64, 64]⟩ [1] ⟨1, ![64]⟩) (h1) : Host.reduceAdd (of2 f2) (constant (F := Ideal) ⟨0, ![]⟩ .f32 0x00000000#32) h h1
    = (of1 fun a => ∑ k, f2 a k : FVec Ideal ⟨1, ![64]⟩ .f32) := by
  funext i; idx_vars i; pointwise []; rfl
theorem hsum_col (h : Shape.ReducesTo ⟨2, ![64, 1]⟩ [1] ⟨1, ![64]⟩) (h1) : Host.reduceAdd (of2 c2) (constant (F := Ideal) ⟨0, ![]⟩ .f32 0x00000000#32) h h1
    = (of1 fun a => c2 a 0 : FVec Ideal ⟨1, ![64]⟩ .f32) := by
  funext i; idx_vars i; pointwise []; exact Fin.sum_univ_one _

end Shapes

end Cert.Disc

end
-- ==== Proof.DiscValue.lean ====
/-
  What the two S5 parameter calls leave: each window is a whole array, so each result is the body's own term of the arrays.
-/
module

public import proofs.«01_k».proof.Defs
public import proofs.«01_k».proof.Proof.Gen.Kernel4Ideal.Frame
public import Idealize.ShloMosaic.Lib.Tactic
public import Idealize.ShloMosaic.Lib.Pipeline.Value

@[expose] public section

set_option maxRecDepth 16384

noncomputable section

namespace Cert.Disc

open Cert.Kernel4Ideal Cert.Kernel4Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- A coordinate below the size is in the only block. -/
theorem whole_mem {n i : Nat} (h : i < n) : 0 * n ≤ i ∧ i < 0 * n + n := by omega

/-- A window that is a whole array reads the array. -/
theorem blk0_0 (c : Dev nD) (t : Fin cfg0.N) : (iblk0 V c 0 t : FVec Ideal S64x64 .f32) = V c main_arg0 := by
  funext j
  unfold iblk0
  rw [View.read_apply]
  show V c main_arg0 _ = V c main_arg0 _
  congr 1
  funext x
  apply Fin.ext
  show 0 * _ + 1 * (j x).val = (j x).val
  omega
theorem blk0_1 (c : Dev nD) (t : Fin cfg0.N) : (iblk0 V c 1 t : FVec Ideal S64x64 .f32) = V c main_arg1 := by
  funext j
  unfold iblk0
  rw [View.read_apply]
  show V c main_arg1 _ = V c main_arg1 _
  congr 1
  funext x
  apply Fin.ext
  show 0 * _ + 1 * (j x).val = (j x).val
  omega
theorem blk0_2 (c : Dev nD) (t : Fin cfg0.N) : (iblk0 V c 2 t : FVec Ideal S64x1 .f32) = V c main_v0 := by
  funext j
  unfold iblk0
  rw [View.read_apply]
  show V c main_v0 _ = V c main_v0 _
  congr 1
  funext x
  apply Fin.ext
  show 0 * _ + 1 * (j x).val = (j x).val
  omega
theorem blk0_3 (c : Dev nD) (t : Fin cfg0.N) : (iblk0 V c 3 t : FVec Ideal S64x16x64 .f32) = V c main_v1 := by
  funext j
  unfold iblk0
  rw [View.read_apply]
  show V c main_v1 _ = V c main_v1 _
  congr 1
  funext x
  apply Fin.ext
  show 0 * _ + 1 * (j x).val = (j x).val
  omega
theorem blk0_4 (c : Dev nD) (t : Fin cfg0.N) : (iblk0 V c 4 t : FVec Ideal S64x16x64 .f32) = V c main_v2 := by
  funext j
  unfold iblk0
  rw [View.read_apply]
  show V c main_v2 _ = V c main_v2 _
  congr 1
  funext x
  apply Fin.ext
  show 0 * _ + 1 * (j x).val = (j x).val
  omega
theorem blk1_0 (c : Dev nD) (t : Fin cfg1.N) : (iblk1 V c 0 t : FVec Ideal S64x64 .f32) = V c main_arg0 := by
  funext j
  unfold iblk1
  rw [View.read_apply]
  show V c main_arg0 _ = V c main_arg0 _
  congr 1
  funext x
  apply Fin.ext
  show 0 * _ + 1 * (j x).val = (j x).val
  omega
theorem blk1_1 (c : Dev nD) (t : Fin cfg1.N) : (iblk1 V c 1 t : FVec Ideal S64x64 .f32) = V c main_arg1 := by
  funext j
  unfold iblk1
  rw [View.read_apply]
  show V c main_arg1 _ = V c main_arg1 _
  congr 1
  funext x
  apply Fin.ext
  show 0 * _ + 1 * (j x).val = (j x).val
  omega
theorem blk1_2 (c : Dev nD) (t : Fin cfg1.N) : (iblk1 V c 2 t : FVec Ideal S64x1 .f32) = V c main_v0 := by
  funext j
  unfold iblk1
  rw [View.read_apply]
  show V c main_v0 _ = V c main_v0 _
  congr 1
  funext x
  apply Fin.ext
  show 0 * _ + 1 * (j x).val = (j x).val
  omega
theorem blk1_3 (c : Dev nD) (t : Fin cfg1.N) : (iblk1 V c 3 t : FVec Ideal S64x16x64 .f32) = V c main_v1 := by
  funext j
  unfold iblk1
  rw [View.read_apply]
  show V c main_v1 _ = V c main_v1 _
  congr 1
  funext x
  apply Fin.ext
  show 0 * _ + 1 * (j x).val = (j x).val
  omega
theorem blk1_4 (c : Dev nD) (t : Fin cfg1.N) : (iblk1 V c 4 t : FVec Ideal S64x16x64 .f32) = V c main_v2 := by
  funext j
  unfold iblk1
  rw [View.read_apply]
  show V c main_v2 _ = V c main_v2 _
  congr 1
  funext x
  apply Fin.ext
  show 0 * _ + 1 * (j x).val = (j x).val
  omega
theorem blk1_5 (c : Dev nD) (t : Fin cfg1.N) : (iblk1 V c 5 t : FVec Ideal S64x64 .f32) = V c main_arg5 := by
  funext j
  unfold iblk1
  rw [View.read_apply]
  show V c main_arg5 _ = V c main_arg5 _
  congr 1
  funext x
  apply Fin.ext
  show 0 * _ + 1 * (j x).val = (j x).val
  omega
theorem blk1_6 (c : Dev nD) (t : Fin cfg1.N) : (iblk1 V c 6 t : FVec Ideal S64x64 .f32) = V c main_arg6 := by
  funext j
  unfold iblk1
  rw [View.read_apply]
  show V c main_arg6 _ = V c main_arg6 _
  congr 1
  funext x
  apply Fin.ext
  show 0 * _ + 1 * (j x).val = (j x).val
  omega
theorem blk1_7 (c : Dev nD) (t : Fin cfg1.N) : (iblk1 V c 7 t : FVec Ideal S64x16x64 .f32) = V c main_v3 := by
  funext j
  unfold iblk1
  rw [View.read_apply]
  show V c main_v3 _ = V c main_v3 _
  congr 1
  funext x
  apply Fin.ext
  show 0 * _ + 1 * (j x).val = (j x).val
  omega
theorem blk1_8 (c : Dev nD) (t : Fin cfg1.N) : (iblk1 V c 8 t : FVec Ideal S64x16x64 .f32) = V c main_v4 := by
  funext j
  unfold iblk1
  rw [View.read_apply]
  show V c main_v4 _ = V c main_v4 _
  congr 1
  funext x
  apply Fin.ext
  show 0 * _ + 1 * (j x).val = (j x).val
  omega

/-! ## Each result -/

theorem final0_5 (c : Dev nD) : (dat0 V c).arrAt 5 cfg0.N
    = out0_5 (V c main_arg0) (V c main_arg1) (V c main_v0) (V c main_v1) (V c main_v2) :=
  (dat0 V c).arrAt_eq_of_cover 5 _ (fun t _ => by
    show (cfg0.win 5).cut (grid0.coords t) ((dat0 V c).after 5 t) = _
    rw [after0_5, blk0_0, blk0_1, blk0_2, blk0_3, blk0_4]
    funext j
    rw [View.read_apply]
    show out0_5 (V c main_arg0) (V c main_arg1) (V c main_v0) (V c main_v1) (V c main_v2) j
      = out0_5 (V c main_arg0) (V c main_arg1) (V c main_v0) (V c main_v1) (V c main_v2) _
    congr 1
    funext x
    apply Fin.ext
    show (j x).val = 0 * _ + 1 * (j x).val
    omega) fun i => by
    refine ⟨t0_0, flush0_5 t0_0, ?_⟩
    show i ∈ ((View.whole main_v5_0).slice (win0_5.rect t0_0)).set
    rw [View.set_slice_whole, Rect.mem_set_unit]
    exact fun a => whole_mem (i a).isLt

theorem final0_6 (c : Dev nD) : (dat0 V c).arrAt 6 cfg0.N
    = out0_6 (V c main_arg0) (V c main_arg1) (V c main_v0) (V c main_v1) (V c main_v2) :=
  (dat0 V c).arrAt_eq_of_cover 6 _ (fun t _ => by
    show (cfg0.win 6).cut (grid0.coords t) ((dat0 V c).after 6 t) = _
    rw [after0_6, blk0_0, blk0_1, blk0_2, blk0_3, blk0_4]
    funext j
    rw [View.read_apply]
    show out0_6 (V c main_arg0) (V c main_arg1) (V c main_v0) (V c main_v1) (V c main_v2) j
      = out0_6 (V c main_arg0) (V c main_arg1) (V c main_v0) (V c main_v1) (V c main_v2) _
    congr 1
    funext x
    apply Fin.ext
    show (j x).val = 0 * _ + 1 * (j x).val
    omega) fun i => by
    refine ⟨t0_0, flush0_6 t0_0, ?_⟩
    show i ∈ ((View.whole main_v5_1).slice (win0_6.rect t0_0)).set
    rw [View.set_slice_whole, Rect.mem_set_unit]
    exact fun a => whole_mem (i a).isLt

theorem final0_7 (c : Dev nD) : (dat0 V c).arrAt 7 cfg0.N
    = out0_7 (V c main_arg0) (V c main_arg1) (V c main_v0) (V c main_v1) (V c main_v2) :=
  (dat0 V c).arrAt_eq_of_cover 7 _ (fun t _ => by
    show (cfg0.win 7).cut (grid0.coords t) ((dat0 V c).after 7 t) = _
    rw [after0_7, blk0_0, blk0_1, blk0_2, blk0_3, blk0_4]
    funext j
    rw [View.read_apply]
    show out0_7 (V c main_arg0) (V c main_arg1) (V c main_v0) (V c main_v1) (V c main_v2) j
      = out0_7 (V c main_arg0) (V c main_arg1) (V c main_v0) (V c main_v1) (V c main_v2) _
    congr 1
    funext x
    apply Fin.ext
    show (j x).val = 0 * _ + 1 * (j x).val
    omega) fun i => by
    refine ⟨t0_0, flush0_7 t0_0, ?_⟩
    show i ∈ ((View.whole main_v5_2).slice (win0_7.rect t0_0)).set
    rw [View.set_slice_whole, Rect.mem_set_unit]
    exact fun a => whole_mem (i a).isLt

theorem final0_8 (c : Dev nD) : (dat0 V c).arrAt 8 cfg0.N
    = out0_8 (V c main_arg0) (V c main_arg1) (V c main_v0) (V c main_v1) (V c main_v2) :=
  (dat0 V c).arrAt_eq_of_cover 8 _ (fun t _ => by
    show (cfg0.win 8).cut (grid0.coords t) ((dat0 V c).after 8 t) = _
    rw [after0_8, blk0_0, blk0_1, blk0_2, blk0_3, blk0_4]
    funext j
    rw [View.read_apply]
    show out0_8 (V c main_arg0) (V c main_arg1) (V c main_v0) (V c main_v1) (V c main_v2) j
      = out0_8 (V c main_arg0) (V c main_arg1) (V c main_v0) (V c main_v1) (V c main_v2) _
    congr 1
    funext x
    apply Fin.ext
    show (j x).val = 0 * _ + 1 * (j x).val
    omega) fun i => by
    refine ⟨t0_0, flush0_8 t0_0, ?_⟩
    show i ∈ ((View.whole main_v5_3).slice (win0_8.rect t0_0)).set
    rw [View.set_slice_whole, Rect.mem_set_unit]
    exact fun a => whole_mem (i a).isLt

theorem final1_9 (c : Dev nD) : (dat1 V c).arrAt 9 cfg1.N
    = out1_9 (V c main_arg0) (V c main_arg1) (V c main_v0) (V c main_v1) (V c main_v2) (V c main_arg5) (V c main_arg6) (V c main_v3) (V c main_v4) :=
  (dat1 V c).arrAt_eq_of_cover 9 _ (fun t _ => by
    show (cfg1.win 9).cut (grid1.coords t) ((dat1 V c).after 9 t) = _
    rw [after1_9, blk1_0, blk1_1, blk1_2, blk1_3, blk1_4, blk1_5, blk1_6, blk1_7, blk1_8]
    funext j
    rw [View.read_apply]
    show out1_9 (V c main_arg0) (V c main_arg1) (V c main_v0) (V c main_v1) (V c main_v2) (V c main_arg5) (V c main_arg6) (V c main_v3) (V c main_v4) j
      = out1_9 (V c main_arg0) (V c main_arg1) (V c main_v0) (V c main_v1) (V c main_v2) (V c main_arg5) (V c main_arg6) (V c main_v3) (V c main_v4) _
    congr 1
    funext x
    apply Fin.ext
    show (j x).val = 0 * _ + 1 * (j x).val
    omega) fun i => by
    refine ⟨t1_0, flush1_9 t1_0, ?_⟩
    show i ∈ ((View.whole main_v6_0).slice (win1_9.rect t1_0)).set
    rw [View.set_slice_whole, Rect.mem_set_unit]
    exact fun a => whole_mem (i a).isLt

theorem final1_10 (c : Dev nD) : (dat1 V c).arrAt 10 cfg1.N
    = out1_10 (V c main_arg0) (V c main_arg1) (V c main_v0) (V c main_v1) (V c main_v2) (V c main_arg5) (V c main_arg6) (V c main_v3) (V c main_v4) :=
  (dat1 V c).arrAt_eq_of_cover 10 _ (fun t _ => by
    show (cfg1.win 10).cut (grid1.coords t) ((dat1 V c).after 10 t) = _
    rw [after1_10, blk1_0, blk1_1, blk1_2, blk1_3, blk1_4, blk1_5, blk1_6, blk1_7, blk1_8]
    funext j
    rw [View.read_apply]
    show out1_10 (V c main_arg0) (V c main_arg1) (V c main_v0) (V c main_v1) (V c main_v2) (V c main_arg5) (V c main_arg6) (V c main_v3) (V c main_v4) j
      = out1_10 (V c main_arg0) (V c main_arg1) (V c main_v0) (V c main_v1) (V c main_v2) (V c main_arg5) (V c main_arg6) (V c main_v3) (V c main_v4) _
    congr 1
    funext x
    apply Fin.ext
    show (j x).val = 0 * _ + 1 * (j x).val
    omega) fun i => by
    refine ⟨t1_0, flush1_10 t1_0, ?_⟩
    show i ∈ ((View.whole main_v6_1).slice (win1_10.rect t1_0)).set
    rw [View.set_slice_whole, Rect.mem_set_unit]
    exact fun a => whole_mem (i a).isLt

theorem final1_11 (c : Dev nD) : (dat1 V c).arrAt 11 cfg1.N
    = out1_11 (V c main_arg0) (V c main_arg1) (V c main_v0) (V c main_v1) (V c main_v2) (V c main_arg5) (V c main_arg6) (V c main_v3) (V c main_v4) :=
  (dat1 V c).arrAt_eq_of_cover 11 _ (fun t _ => by
    show (cfg1.win 11).cut (grid1.coords t) ((dat1 V c).after 11 t) = _
    rw [after1_11, blk1_0, blk1_1, blk1_2, blk1_3, blk1_4, blk1_5, blk1_6, blk1_7, blk1_8]
    funext j
    rw [View.read_apply]
    show out1_11 (V c main_arg0) (V c main_arg1) (V c main_v0) (V c main_v1) (V c main_v2) (V c main_arg5) (V c main_arg6) (V c main_v3) (V c main_v4) j
      = out1_11 (V c main_arg0) (V c main_arg1) (V c main_v0) (V c main_v1) (V c main_v2) (V c main_arg5) (V c main_arg6) (V c main_v3) (V c main_v4) _
    congr 1
    funext x
    apply Fin.ext
    show (j x).val = 0 * _ + 1 * (j x).val
    omega) fun i => by
    refine ⟨t1_0, flush1_11 t1_0, ?_⟩
    show i ∈ ((View.whole main_v6_2).slice (win1_11.rect t1_0)).set
    rw [View.set_slice_whole, Rect.mem_set_unit]
    exact fun a => whole_mem (i a).isLt

theorem final1_12 (c : Dev nD) : (dat1 V c).arrAt 12 cfg1.N
    = out1_12 (V c main_arg0) (V c main_arg1) (V c main_v0) (V c main_v1) (V c main_v2) (V c main_arg5) (V c main_arg6) (V c main_v3) (V c main_v4) :=
  (dat1 V c).arrAt_eq_of_cover 12 _ (fun t _ => by
    show (cfg1.win 12).cut (grid1.coords t) ((dat1 V c).after 12 t) = _
    rw [after1_12, blk1_0, blk1_1, blk1_2, blk1_3, blk1_4, blk1_5, blk1_6, blk1_7, blk1_8]
    funext j
    rw [View.read_apply]
    show out1_12 (V c main_arg0) (V c main_arg1) (V c main_v0) (V c main_v1) (V c main_v2) (V c main_arg5) (V c main_arg6) (V c main_v3) (V c main_v4) j
      = out1_12 (V c main_arg0) (V c main_arg1) (V c main_v0) (V c main_v1) (V c main_v2) (V c main_arg5) (V c main_arg6) (V c main_v3) (V c main_v4) _
    congr 1
    funext x
    apply Fin.ext
    show (j x).val = 0 * _ + 1 * (j x).val
    omega) fun i => by
    refine ⟨t1_0, flush1_12 t1_0, ?_⟩
    show i ∈ ((View.whole main_v6_3).slice (win1_12.rect t1_0)).set
    rw [View.set_slice_whole, Rect.mem_set_unit]
    exact fun a => whole_mem (i a).isLt

theorem final1_13 (c : Dev nD) : (dat1 V c).arrAt 13 cfg1.N
    = out1_13 (V c main_arg0) (V c main_arg1) (V c main_v0) (V c main_v1) (V c main_v2) (V c main_arg5) (V c main_arg6) (V c main_v3) (V c main_v4) :=
  (dat1 V c).arrAt_eq_of_cover 13 _ (fun t _ => by
    show (cfg1.win 13).cut (grid1.coords t) ((dat1 V c).after 13 t) = _
    rw [after1_13, blk1_0, blk1_1, blk1_2, blk1_3, blk1_4, blk1_5, blk1_6, blk1_7, blk1_8]
    funext j
    rw [View.read_apply]
    show out1_13 (V c main_arg0) (V c main_arg1) (V c main_v0) (V c main_v1) (V c main_v2) (V c main_arg5) (V c main_arg6) (V c main_v3) (V c main_v4) j
      = out1_13 (V c main_arg0) (V c main_arg1) (V c main_v0) (V c main_v1) (V c main_v2) (V c main_arg5) (V c main_arg6) (V c main_v3) (V c main_v4) _
    congr 1
    funext x
    apply Fin.ext
    show (j x).val = 0 * _ + 1 * (j x).val
    omega) fun i => by
    refine ⟨t1_0, flush1_13 t1_0, ?_⟩
    show i ∈ ((View.whole main_v6_4).slice (win1_13.rect t1_0)).set
    rw [View.set_slice_whole, Rect.mem_set_unit]
    exact fun a => whole_mem (i a).isLt

end Cert.Disc

end
-- ==== Proof.DiscClaim.lean ====
/-
  The S5 discretisation and its gradient are the reference's.
-/
module

public import proofs.«01_k».proof.Proof.DiscOps
public import proofs.«01_k».proof.Proof.DiscValue
public import proofs.«01_k».proof.Proof.Gen.Reference4Ideal.Run

@[expose] public section

set_option maxRecDepth 16384

noncomputable section

namespace Cert.Disc

open Cert.Kernel4Ideal Cert.Kernel4Ideal.Gen Idealize.ShloMosaic Idealize.ShloMosaic.TcCoe Idealize.SL.Sem
open Idealize.SL.BI
open scoped BigOperators

/-! ## The run, with every buffer at its last contents -/

section Run

open Idealize.ShloMosaic.Tactic Idealize.SL Idealize.SL.RA
open scoped Idealize.SL.BI
open Idealize.SL.BI.BIBase Idealize.SL.BI.Laws Idealize.SL.ProofMode Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at the contents folded through the two calls. -/
theorem run_mem : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Run

/-! ## The contents at the end -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The arguments, as functions of their coordinates. -/
abbrev LR (c : Dev nD) : Fin 64 → Fin 64 → EReal := at2 (m ((c : Thread nD τ).loc main_arg0))
abbrev LI (c : Dev nD) : Fin 64 → Fin 64 → EReal := at2 (m ((c : Thread nD τ).loc main_arg1))
abbrev LD (c : Dev nD) : Fin 64 → EReal := at1 (m ((c : Thread nD τ).loc main_arg2))
abbrev BR (c : Dev nD) : Fin 64 → Fin 64 → Fin 16 → EReal := at3 (m ((c : Thread nD τ).loc main_arg3))
abbrev BI (c : Dev nD) : Fin 64 → Fin 64 → Fin 16 → EReal := at3 (m ((c : Thread nD τ).loc main_arg4))
abbrev ER (c : Dev nD) : Fin 64 → Fin 64 → EReal := at2 (m ((c : Thread nD τ).loc main_arg5))
abbrev EI (c : Dev nD) : Fin 64 → Fin 64 → EReal := at2 (m ((c : Thread nD τ).loc main_arg6))
abbrev FR (c : Dev nD) : Fin 64 → Fin 64 → Fin 16 → EReal := at3 (m ((c : Thread nD τ).loc main_arg7))
abbrev FI (c : Dev nD) : Fin 64 → Fin 64 → Fin 16 → EReal := at3 (m ((c : Thread nD τ).loc main_arg8))

/-- The arguments as the calls take them: the step sizes as a column, the matrices with the channel in the middle. -/
abbrev col (f : Fin 64 → EReal) : FVec Ideal S64x1 .f32 := of2 fun a _ => f a
abbrev mid (f : Fin 64 → Fin 64 → Fin 16 → EReal) : FVec Ideal S64x16x64 .f32 := of3 fun a b c => f a c b

theorem V1_lr (c : Dev nD) : V1 m ρ c main_arg0 = of2 (LR m c) := (W1_args m ρ c main_arg0 (by decide)).trans (of2_at2 _).symm
theorem V1_li (c : Dev nD) : V1 m ρ c main_arg1 = of2 (LI m c) := (W1_args m ρ c main_arg1 (by decide)).trans (of2_at2 _).symm
theorem V1_er (c : Dev nD) : V1 m ρ c main_arg5 = of2 (ER m c) := (W1_args m ρ c main_arg5 (by decide)).trans (of2_at2 _).symm
theorem V1_ei (c : Dev nD) : V1 m ρ c main_arg6 = of2 (EI m c) := (W1_args m ρ c main_arg6 (by decide)).trans (of2_at2 _).symm
theorem V1_ld (c : Dev nD) : V1 m ρ c main_v0 = col (LD m c) := by
  refine Eq.trans (b := shapeCast S64x1 (m ((c : Thread nD τ).loc main_arg2) : FVec Ideal S64 .f32) shapeCasts_S64_S64x1) ?_ ?_
  · show W1 m ρ c (Proc.devRef .tc main_v0) = _
    unfold W1
    after_results
    rfl
  · rw [← of1_at1 (m ((c : Thread nD τ).loc main_arg2)), cast_col]
theorem V1_br (c : Dev nD) : V1 m ρ c main_v1 = mid (BR m c) := by
  refine Eq.trans (b := transpose S64x16x64 [0, 2, 1] (m ((c : Thread nD τ).loc main_arg3) : FVec Ideal S64x64x16 .f32) transposes_S64x64x16_S64x16x64_0_2_1) ?_ ?_
  · show W1 m ρ c (Proc.devRef .tc main_v1) = _
    unfold W1
    after_results
  · rw [← of3_at3 (m ((c : Thread nD τ).loc main_arg3)), swap]
theorem V1_bi (c : Dev nD) : V1 m ρ c main_v2 = mid (BI m c) := by
  refine Eq.trans (b := transpose S64x16x64 [0, 2, 1] (m ((c : Thread nD τ).loc main_arg4) : FVec Ideal S64x64x16 .f32) transposes_S64x64x16_S64x16x64_0_2_1) ?_ ?_
  · show W1 m ρ c (Proc.devRef .tc main_v2) = _
    unfold W1
    after_results
  · rw [← of3_at3 (m ((c : Thread nD τ).loc main_arg4)), swap]
theorem V1_fr (c : Dev nD) : V1 m ρ c main_v3 = mid (FR m c) := by
  refine Eq.trans (b := transpose S64x16x64 [0, 2, 1] (m ((c : Thread nD τ).loc main_arg7) : FVec Ideal S64x64x16 .f32) transposes_S64x64x16_S64x16x64_0_2_1) ?_ ?_
  · show W1 m ρ c (Proc.devRef .tc main_v3) = _
    unfold W1
    after_results
  · rw [← of3_at3 (m ((c : Thread nD τ).loc main_arg7)), swap]
theorem V1_fi (c : Dev nD) : V1 m ρ c main_v4 = mid (FI m c) := by
  refine Eq.trans (b := transpose S64x16x64 [0, 2, 1] (m ((c : Thread nD τ).loc main_arg8) : FVec Ideal S64x64x16 .f32) transposes_S64x64x16_S64x16x64_0_2_1) ?_ ?_
  · show W1 m ρ c (Proc.devRef .tc main_v4) = _
    unfold W1
    after_results
  · rw [← of3_at3 (m ((c : Thread nD τ).loc main_arg8)), swap]

/-- The second call's arrays are the first's: it writes none of them. -/
theorem V2_lr (c : Dev nD) : V2 m ρ c main_arg0 = of2 (LR m c) := (W2_of m ρ c main_arg0 (by decide)).trans (V1_lr m ρ c)
theorem V2_li (c : Dev nD) : V2 m ρ c main_arg1 = of2 (LI m c) := (W2_of m ρ c main_arg1 (by decide)).trans (V1_li m ρ c)
theorem V2_ld (c : Dev nD) : V2 m ρ c main_v0 = col (LD m c) := (W2_of m ρ c main_v0 (by decide)).trans (V1_ld m ρ c)
theorem V2_br (c : Dev nD) : V2 m ρ c main_v1 = mid (BR m c) := (W2_of m ρ c main_v1 (by decide)).trans (V1_br m ρ c)
theorem V2_bi (c : Dev nD) : V2 m ρ c main_v2 = mid (BI m c) := (W2_of m ρ c main_v2 (by decide)).trans (V1_bi m ρ c)
theorem V2_er (c : Dev nD) : V2 m ρ c main_arg5 = of2 (ER m c) := (W2_of m ρ c main_arg5 (by decide)).trans (V1_er m ρ c)
theorem V2_ei (c : Dev nD) : V2 m ρ c main_arg6 = of2 (EI m c) := (W2_of m ρ c main_arg6 (by decide)).trans (V1_ei m ρ c)
theorem V2_fr (c : Dev nD) : V2 m ρ c main_v3 = mid (FR m c) := (W2_of m ρ c main_v3 (by decide)).trans (V1_fr m ρ c)
theorem V2_fi (c : Dev nD) : V2 m ρ c main_v4 = mid (FI m c) := (W2_of m ρ c main_v4 (by decide)).trans (V1_fi m ρ c)

/-! ## Each result -/

theorem end0_5 (c : Dev nD) : W3 m ρ c (Proc.devRef .tc main_v5_0) = out0_5 (of2 (LR m c)) (of2 (LI m c)) (col (LD m c)) (mid (BR m c)) (mid (BI m c)) := by
  refine (W3_of m ρ c main_v5_0 (by decide)).trans ((W2_arr m ρ c 5).trans ((final0_5 (V1 m ρ) c).trans ?_))
  rw [V1_lr, V1_li, V1_ld, V1_br, V1_bi]
theorem end0_6 (c : Dev nD) : W3 m ρ c (Proc.devRef .tc main_v5_1) = out0_6 (of2 (LR m c)) (of2 (LI m c)) (col (LD m c)) (mid (BR m c)) (mid (BI m c)) := by
  refine (W3_of m ρ c main_v5_1 (by decide)).trans ((W2_arr m ρ c 6).trans ((final0_6 (V1 m ρ) c).trans ?_))
  rw [V1_lr, V1_li, V1_ld, V1_br, V1_bi]
theorem end0_7 (c : Dev nD) : W3 m ρ c (Proc.devRef .tc main_v5_2) = out0_7 (of2 (LR m c)) (of2 (LI m c)) (col (LD m c)) (mid (BR m c)) (mid (BI m c)) := by
  refine (W3_of m ρ c main_v5_2 (by decide)).trans ((W2_arr m ρ c 7).trans ((final0_7 (V1 m ρ) c).trans ?_))
  rw [V1_lr, V1_li, V1_ld, V1_br, V1_bi]
theorem end0_8 (c : Dev nD) : W3 m ρ c (Proc.devRef .tc main_v5_3) = out0_8 (of2 (LR m c)) (of2 (LI m c)) (col (LD m c)) (mid (BR m c)) (mid (BI m c)) := by
  refine (W3_of m ρ c main_v5_3 (by decide)).trans ((W2_arr m ρ c 8).trans ((final0_8 (V1 m ρ) c).trans ?_))
  rw [V1_lr, V1_li, V1_ld, V1_br, V1_bi]
theorem end1_9 (c : Dev nD) : W3 m ρ c (Proc.devRef .tc main_v6_0) = out1_9 (of2 (LR m c)) (of2 (LI m c)) (col (LD m c)) (mid (BR m c)) (mid (BI m c)) (of2 (ER m c)) (of2 (EI m c)) (mid (FR m c)) (mid (FI m c)) := by
  refine (W3_arr m ρ c 9).trans ((final1_9 (V2 m ρ) c).trans ?_)
  rw [V2_lr, V2_li, V2_ld, V2_br, V2_bi, V2_er, V2_ei, V2_fr, V2_fi]
theorem end1_10 (c : Dev nD) : W3 m ρ c (Proc.devRef .tc main_v6_1) = out1_10 (of2 (LR m c)) (of2 (LI m c)) (col (LD m c)) (mid (BR m c)) (mid (BI m c)) (of2 (ER m c)) (of2 (EI m c)) (mid (FR m c)) (mid (FI m c)) := by
  refine (W3_arr m ρ c 10).trans ((final1_10 (V2 m ρ) c).trans ?_)
  rw [V2_lr, V2_li, V2_ld, V2_br, V2_bi, V2_er, V2_ei, V2_fr, V2_fi]
theorem end1_11 (c : Dev nD) : W3 m ρ c (Proc.devRef .tc main_v6_2) = out1_11 (of2 (LR m c)) (of2 (LI m c)) (col (LD m c)) (mid (BR m c)) (mid (BI m c)) (of2 (ER m c)) (of2 (EI m c)) (mid (FR m c)) (mid (FI m c)) := by
  refine (W3_arr m ρ c 11).trans ((final1_11 (V2 m ρ) c).trans ?_)
  rw [V2_lr, V2_li, V2_ld, V2_br, V2_bi, V2_er, V2_ei, V2_fr, V2_fi]
theorem end1_12 (c : Dev nD) : W3 m ρ c (Proc.devRef .tc main_v6_3) = out1_12 (of2 (LR m c)) (of2 (LI m c)) (col (LD m c)) (mid (BR m c)) (mid (BI m c)) (of2 (ER m c)) (of2 (EI m c)) (mid (FR m c)) (mid (FI m c)) := by
  refine (W3_arr m ρ c 12).trans ((final1_12 (V2 m ρ) c).trans ?_)
  rw [V2_lr, V2_li, V2_ld, V2_br, V2_bi, V2_er, V2_ei, V2_fr, V2_fi]
theorem end1_13 (c : Dev nD) : W3 m ρ c (Proc.devRef .tc main_v6_4) = out1_13 (of2 (LR m c)) (of2 (LI m c)) (col (LD m c)) (mid (BR m c)) (mid (BI m c)) (of2 (ER m c)) (of2 (EI m c)) (mid (FR m c)) (mid (FI m c)) := by
  refine (W3_arr m ρ c 13).trans ((final1_13 (V2 m ρ) c).trans ?_)
  rw [V2_lr, V2_li, V2_ld, V2_br, V2_bi, V2_er, V2_ei, V2_fr, V2_fi]

set_option backward.isDefEq.respectTransparency.types false in
set_option maxHeartbeats 16000000 in
/-- The claim: both programs run, and their nine results are equal. -/
theorem algebraic : Cert.algebraic_Kernel4Ideal_Reference4Ideal (hKernel4Ideal := Cert.Kernel4Ideal.Gen.facts)
    (hReference4Ideal := Cert.Reference4Ideal.Gen.facts) := by
  intro m ρ m' ρ' hpre hag
  refine ⟨fun c => out0_5 (of2 (LR m c)) (of2 (LI m c)) (col (LD m c)) (mid (BR m c)) (mid (BI m c)),
    fun c => out0_6 (of2 (LR m c)) (of2 (LI m c)) (col (LD m c)) (mid (BR m c)) (mid (BI m c)),
    fun c => out0_7 (of2 (LR m c)) (of2 (LI m c)) (col (LD m c)) (mid (BR m c)) (mid (BI m c)),
    fun c => out0_8 (of2 (LR m c)) (of2 (LI m c)) (col (LD m c)) (mid (BR m c)) (mid (BI m c)),
    fun c => out1_9 (of2 (LR m c)) (of2 (LI m c)) (col (LD m c)) (mid (BR m c)) (mid (BI m c)) (of2 (ER m c)) (of2 (EI m c)) (mid (FR m c)) (mid (FI m c)),
    fun c => out1_10 (of2 (LR m c)) (of2 (LI m c)) (col (LD m c)) (mid (BR m c)) (mid (BI m c)) (of2 (ER m c)) (of2 (EI m c)) (mid (FR m c)) (mid (FI m c)),
    fun c => out1_11 (of2 (LR m c)) (of2 (LI m c)) (col (LD m c)) (mid (BR m c)) (mid (BI m c)) (of2 (ER m c)) (of2 (EI m c)) (mid (FR m c)) (mid (FI m c)),
    fun c => out1_12 (of2 (LR m c)) (of2 (LI m c)) (col (LD m c)) (mid (BR m c)) (mid (BI m c)) (of2 (ER m c)) (of2 (EI m c)) (mid (FR m c)) (mid (FI m c)),
    fun c => out1_13 (of2 (LR m c)) (of2 (LI m c)) (col (LD m c)) (mid (BR m c)) (mid (BI m c)) (of2 (ER m c)) (of2 (EI m c)) (mid (FR m c)) (mid (FI m c)), ?_, ?_⟩
  · refine (θ_run _ _ _).mono (fun r h c => ?_) (run_mem (F := Ideal) m ρ)
    exact ⟨(h c _ (mem_uc main_v5_0 (by decide))).trans (end0_5 m ρ c),
      (h c _ (mem_uc main_v5_1 (by decide))).trans (end0_6 m ρ c),
      (h c _ (mem_uc main_v5_2 (by decide))).trans (end0_7 m ρ c),
      (h c _ (mem_uc main_v5_3 (by decide))).trans (end0_8 m ρ c),
      (h c _ (mem_uc main_v6_0 (by decide))).trans (end1_9 m ρ c),
      (h c _ (mem_uc main_v6_1 (by decide))).trans (end1_10 m ρ c),
      (h c _ (mem_uc main_v6_2 (by decide))).trans (end1_11 m ρ c),
      (h c _ (mem_uc main_v6_3 (by decide))).trans (end1_12 m ρ c),
      (h c _ (mem_uc main_v6_4 (by decide))).trans (end1_13 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩
  · refine (θ_run _ _ _).mono (fun r h c => ?_) (Cert.Reference4Ideal.Value.run (F := Ideal) m' ρ')
    obtain ⟨a0, a1, a2, a3, a4, a5, a6, a7, a8⟩ := hag c
    obtain ⟨h0, h1, h2, h3, h4, h5, h6, h7, h8, hrest⟩ := h c
    replace a0 := a0.trans (of2_at2 _).symm
    replace a1 := a1.trans (of2_at2 _).symm
    replace a2 := a2.trans (of1_at1 _).symm
    replace a3 := a3.trans (of3_at3 _).symm
    replace a4 := a4.trans (of3_at3 _).symm
    replace a5 := a5.trans (of2_at2 _).symm
    replace a6 := a6.trans (of2_at2 _).symm
    replace a7 := a7.trans (of3_at3 _).symm
    replace a8 := a8.trans (of3_at3 _).symm
    refine ⟨h0.trans ?_, h1.trans ?_, h2.trans ?_, h3.trans ?_, h4.trans ?_, h5.trans ?_, h6.trans ?_, h7.trans ?_, h8.trans ?_, hrest⟩
    · beta_reduce
      unfold out0_5
      rw [View.canon_unit_zero (S := S64x64) hz2]
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
    · beta_reduce
      unfold out0_6
      rw [View.canon_unit_zero (S := S64x64) hz2]
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
    · beta_reduce
      unfold out0_7
      rw [View.canon_unit_zero (S := S64x16x64) hz3]
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
    · beta_reduce
      unfold out0_8
      rw [View.canon_unit_zero (S := S64x16x64) hz3]
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
    · beta_reduce
      unfold_out out1_9
      rw [View.canon_unit_zero (S := S64x64) hz2]
      unfold Cert.Reference4Ideal.Value.res_main_v136
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
    · beta_reduce
      unfold_out out1_10
      rw [View.canon_unit_zero (S := S64x64) hz2]
      unfold Cert.Reference4Ideal.Value.res_main_v128
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
    · beta_reduce
      unfold_out out1_11
      rw [View.canon_unit_zero (S := S64x1) hz2]
      unfold Cert.Reference4Ideal.Value.res_main_v141
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
      exact cast_col _ _
    · beta_reduce
      unfold_out out1_12
      rw [View.canon_unit_zero (S := S64x16x64) hz3]
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]
    · beta_reduce
      unfold_out out1_13
      rw [View.canon_unit_zero (S := S64x16x64) hz3]
      simp only [a0, a1, a2, a3, a4, a5, a6, a7, a8, View.ld_unit_zero (S := S64x64) hz2, View.ld_unit_zero (S := S64x1) hz2, View.ld_unit_zero (S := S64x16x64) hz3]
      unfold_payloads
      simp only [mul1, mul2, mul3, add2, add3, sub2, sub3, neg2, neg3, div2, hdiv2, exp2, hexp1, hexp2, cos2, hcos2, sin2, hsin2,
        splat2, splat3, hsplat2, cast_same, cast_rsame, cast_csame, cast_mid, cast_last, cast_col, bc_col, bc_mid, hbc_col,
        hbc_one, hbc_last, hbc_chan, swap, multiReduction, (fun f => sum_chan' f reduces_S64x16x64_S64x64), (fun f => sum_mid' f
        reduces_S64x1x64_S64x64), (fun f => sum_row' f reduces_S64x64_S64), hsum_chan, hsum_last, hsum_row, hsum_col, wd_zero,
        neg_eq, (fun f => hbc_col f Cert.Reference4Ideal.Gen.bcast_S64x1_S64x64_0_1), (fun f => hbc_one f
        Cert.Reference4Ideal.Gen.bcast_S64_S64x1_0), (fun f => hbc_last f Cert.Reference4Ideal.Gen.bcast_S64x64_S64x64x1_0_1),
        (fun f => hbc_chan f Cert.Reference4Ideal.Gen.bcast_S64x64x1_S64x64x16_0_1_2), (fun b => hsplat2 (n := 64) (k := 64) b
        Cert.Reference4Ideal.Gen.bcast_S_S64x64), (fun f => swap f Cert.Reference4Ideal.Gen.transposes_S64x64x16_S64x16x64_0_2_1),
        (fun f => cast_rsame f Cert.Reference4Ideal.Gen.shapeCasts_S64x64x16_S64x64x16), (fun f => cast_last f
        Cert.Reference4Ideal.Gen.shapeCasts_S64x64_S64x64x1), (fun f => cast_col f Cert.Reference4Ideal.Gen.shapeCasts_S64_S64x1),
        (fun f => hsum_chan f Cert.Reference4Ideal.Gen.reducesTo_S64x64x16_S64x64_d2 Cert.Reference4Ideal.Gen.h_S_), (fun f =>
        hsum_last f Cert.Reference4Ideal.Gen.reducesTo_S64x64x1_S64x64_d2 Cert.Reference4Ideal.Gen.h_S_), (fun f => hsum_row f
        Cert.Reference4Ideal.Gen.reducesTo_S64x64_S64_d1 Cert.Reference4Ideal.Gen.h_S_), (fun f => hsum_col f
        Cert.Reference4Ideal.Gen.reducesTo_S64x1_S64_d1 Cert.Reference4Ideal.Gen.h_S_)]

end Cert.Disc

end
-- ==== Proof.RetMath.lean ====
/-
  The mathematics of chunkwise retention on one head: the rotary turn, the scores inside a chunk, the carried state, the
  norm of the output, the gate, and the derivative of each, over the extended reals.
-/
module

public import proofs.«01_k».proof.Defs
public import Idealize.ShloMosaic.Lib.Tactic
public import Idealize.ShloMosaic.Lib.Pointwise

@[expose] public section

set_option maxRecDepth 16384

noncomputable section

namespace Cert.Ret

open Idealize.ShloMosaic
open scoped BigOperators

/-- A block of 128 rows and 128 columns. -/
abbrev Mat := Fin 128 → Fin 128 → EReal
/-- One number per row or per column of a block. -/
abbrev Col := Fin 128 → EReal

/-- The words of 128, of the norm's guard and of the scale of the keys. -/
abbrev c128 : EReal := Ideal.ofBits .f32 1124073472#32
abbrev guard : EReal := Ideal.ofBits .f32 897988541#32
abbrev scale : EReal := Ideal.ofBits .f32 1035273459#32

/-- The column 64 places before, round the row. -/
def half (c : Fin 128) : Fin 128 := ⟨(c.val + 128 - 64) % 128, Nat.mod_lt _ (by decide)⟩

/-- The rotary turn and its transpose. -/
def rope (x co si : Mat) : Mat := fun r c => x r c * co r c + x r (half c) * si r c
def ropeT (x co si : Mat) : Mat := fun r c => x r c * co r c + x r (half c) * si r (half c)
def scaled (x : Mat) : Mat := fun r c => x r c * scale

/-- The decayed scores, the output of a chunk and the state after it. -/
def score (D qr kr : Mat) : Mat := fun r c => (∑ x, qr r x * kr c x) * D r c
def outp (D qr kr v R : Mat) (qd : Col) : Mat := fun r c =>
  ∑ x, score D qr kr r x * v x c + ∑ x, qr r x * qd r * R x c
def next (gc : EReal) (kd : Col) (kr v R : Mat) : Mat := fun r c => R r c * gc + ∑ x, kr x r * kd x * v x c

/-- The norm of a row. -/
def mean (x : Mat) : Col := fun r => Ideal.div (∑ c, x r c) c128
def center (o : Mat) : Mat := fun r c => o r c - mean o r
def rstd (o : Mat) : Col := fun r => Ideal.rsqrt (Ideal.div (∑ c, center o r c * center o r c) c128 + guard)
def normed (o : Mat) : Mat := fun r c => center o r c * rstd o r

/-- The gate. -/
def silu (x : EReal) : EReal := x * Ideal.logistic x
def merged (o gate : Mat) (g : Col) : Mat := fun r c => normed o r c * g c * silu (gate r c)

/-- The derivatives. -/
def dnormed (dm gate : Mat) (g : Col) : Mat := fun r c => dm r c * g c * silu (gate r c)
def dgate (o dm gate : Mat) (g : Col) : Mat := fun r c => dm r c * normed o r c * g c
  * (Ideal.logistic (gate r c) * (1 + gate r c * (1 - Ideal.logistic (gate r c))))
def dgain (o dm gate : Mat) (acc : Col) : Col := fun c => acc c + ∑ x, dm x c * normed o x c * silu (gate x c)
def dout (o d : Mat) : Mat := fun r c =>
  rstd o r * (d r c - mean d r - normed o r c * mean (fun r c => d r c * normed o r c) r)
def dscore (D dO v : Mat) : Mat := fun r c => (∑ x, dO r x * v c x) * D r c
def dquery (D dO v kr R : Mat) (qd : Col) : Mat := fun r c =>
  ∑ x, dscore D dO v r x * kr x c + (∑ x, dO r x * R c x) * qd r
def dkey (D dO v qr dR : Mat) (kd : Col) : Mat := fun r c =>
  ∑ x, dscore D dO v x r * qr x c + (∑ x, v r x * dR c x) * kd r
def dvalue (D qr kr dO dR : Mat) (kd : Col) : Mat := fun r c =>
  ∑ x, score D qr kr x r * dO x c + ∑ x, kr r x * kd r * dR x c
def dnext (gc : EReal) (qd : Col) (qr dO dR : Mat) : Mat := fun r c => dR r c * gc + ∑ x, qr x r * qd x * dO x c

/-! ### One head: two sequences of 16 chunks of 128 rows -/

def row (b : Fin 2) (n : ℕ) (r : Fin 128) : Fin 4096 := ⟨(2048 * b.val + 128 * n + r.val) % 4096, Nat.mod_lt _ (by decide)⟩
def pos (n : ℕ) (r : Fin 128) : Fin 2048 := ⟨(128 * n + r.val) % 2048, Nat.mod_lt _ (by decide)⟩

/-- A column block over all rows of both sequences. -/
abbrev Rows := Fin 4096 → Fin 128 → EReal
def chunk (X : Rows) (b : Fin 2) (n : ℕ) : Mat := fun r c => X (row b n r) c
def unchunk (f : Fin 2 → ℕ → Mat) : Rows := fun i c =>
  f ⟨i.val / 2048, by omega⟩ (i.val % 2048 / 128) ⟨i.val % 128, by omega⟩ c

theorem unchunk_row (f : Fin 2 → ℕ → Mat) (b : Fin 2) (n : ℕ) (hn : n < 16) (r c : Fin 128) :
    unchunk f (row b n r) c = f b n r c := by
  have hb := b.isLt
  have hr := r.isLt
  have e : (row b n r).val = 2048 * b.val + 128 * n + r.val := Nat.mod_eq_of_lt (by omega)
  have e1 : (⟨(row b n r).val / 2048, by omega⟩ : Fin 2) = b := Fin.ext (by show (row b n r).val / 2048 = b.val; omega)
  have e2 : (row b n r).val % 2048 / 128 = n := by rw [e]; omega
  have e3 : (⟨(row b n r).val % 128, by omega⟩ : Fin 128) = r := Fin.ext (by show (row b n r).val % 128 = r.val; omega)
  show f ⟨(row b n r).val / 2048, _⟩ ((row b n r).val % 2048 / 128) ⟨(row b n r).val % 128, _⟩ c = _
  rw [e1, e2, e3]

theorem chunk_unchunk (f : Fin 2 → ℕ → Mat) (b : Fin 2) (n : ℕ) (hn : n < 16) : chunk (unchunk f) b n = f b n :=
  funext fun r => funext fun c => unchunk_row f b n hn r c

/-- What a head reads: its decays, and its columns of the projections, of the rotary tables and of the gain. -/
structure Head where
  decay : Mat
  kd : Col
  qd : Col
  gc : EReal
  q : Rows
  k : Rows
  v : Rows
  gate : Rows
  co : Fin 2048 → Fin 128 → EReal
  si : Fin 2048 → Fin 128 → EReal
  g : Col

namespace Head

variable (H : Head)

def con (n : ℕ) : Mat := fun r c => H.co (pos n r) c
def sin (n : ℕ) : Mat := fun r c => H.si (pos n r) c
def qr (b : Fin 2) (n : ℕ) : Mat := rope (chunk H.q b n) (H.con n) (H.sin n)
def kr (b : Fin 2) (n : ℕ) : Mat := scaled (rope (chunk H.k b n) (H.con n) (H.sin n))

/-- The state before chunk `n`, the output of chunk `n`, and the gated output. -/
def state (b : Fin 2) : ℕ → Mat
  | 0 => fun _ _ => 0
  | n + 1 => next H.gc H.kd (H.kr b n) (chunk H.v b n) (state b n)
def out (b : Fin 2) (n : ℕ) : Mat := outp H.decay (H.qr b n) (H.kr b n) (chunk H.v b n) (H.state b n) H.qd
def mer (b : Fin 2) (n : ℕ) : Mat := merged (H.out b n) (chunk H.gate b n) H.g

/-! The backward pass, from the cotangent `dm`, the saved outputs `o` and the saved states `rp`. -/

variable (dm o : Rows) (rp : Fin 2 → ℕ → Mat)

def dO (b : Fin 2) (n : ℕ) : Mat := dout (chunk o b n) (dnormed (chunk dm b n) (chunk H.gate b n) H.g)
/-- The state's cotangent after `t` chunks from the end, and the gain's sum. -/
def dstate (b : Fin 2) : ℕ → Mat
  | 0 => fun _ _ => 0
  | t + 1 => dnext H.gc H.qd (H.qr b (15 - t)) (H.dO dm o b (15 - t)) (dstate b t)
def dg (b : Fin 2) : ℕ → Col
  | 0 => fun _ => 0
  | t + 1 => dgain (chunk o b (15 - t)) (chunk dm b (15 - t)) (chunk H.gate b (15 - t)) (dg b t)
def dq (b : Fin 2) (n : ℕ) : Mat :=
  ropeT (dquery H.decay (H.dO dm o b n) (chunk H.v b n) (H.kr b n) (rp b n) H.qd) (H.con n) (H.sin n)
def dk (b : Fin 2) (n : ℕ) : Mat :=
  ropeT (scaled (dkey H.decay (H.dO dm o b n) (chunk H.v b n) (H.qr b n) (H.dstate dm o b (15 - n)) H.kd)) (H.con n) (H.sin n)
def dv (b : Fin 2) (n : ℕ) : Mat :=
  dvalue H.decay (H.qr b n) (H.kr b n) (H.dO dm o b n) (H.dstate dm o b (15 - n)) H.kd
def dgt (b : Fin 2) (n : ℕ) : Mat := dgate (chunk o b n) (chunk dm b n) (chunk H.gate b n) H.g

end Head

end Cert.Ret

end
-- ==== Proof.RetHost.lean ====
/-
  The stretches of the retention reference between its named intermediate values, each as a function of the values before it.
-/
module

public import proofs.«01_k».proof.Proof.RetMath
public import proofs.«01_k».proof.Proof.Gen.Reference6Ideal
public import Idealize.ShloMosaic.Lib.Tactic
public import Idealize.ShloMosaic.Lib.Pointwise

@[expose] public section

set_option maxRecDepth 16384

noncomputable section

namespace Cert.Reference6Ideal.Ret

open Cert.Reference6Ideal Cert.Reference6Ideal.Gen Idealize.ShloMosaic Idealize.ShloMosaic.TcCoe Idealize.SL.Sem
open scoped BigOperators

/-- the queries -/
def qIn (x0 : FVec Ideal S4096x3072 .f32) : FVec Ideal S2x2048x4x128 .f32 :=
  shapeCast S2x2048x4x128 (extractStridedSlice S4096x512 ![0, 0] x0 slices_S4096x3072_S4096x512_0_0) shapeCasts_S4096x512_S2x2048x4x128

/-- the keys -/
def kIn (x0 : FVec Ideal S4096x3072 .f32) : FVec Ideal S2x2048x4x128 .f32 :=
  shapeCast S2x2048x4x128 (extractStridedSlice S4096x512 ![0, 512] x0 slices_S4096x3072_S4096x512_0_512) shapeCasts_S4096x512_S2x2048x4x128

/-- the values -/
def vIn (x0 : FVec Ideal S4096x3072 .f32) : FVec Ideal S2x2048x4x128 .f32 :=
  shapeCast S2x2048x4x128 (extractStridedSlice S4096x512 ![0, 1024] x0 slices_S4096x3072_S4096x512_0_1024) shapeCasts_S4096x512_S2x2048x4x128

/-- the cosines -/
def cosT  : FVec Ideal S1x2048x1x64 .f32 :=
  broadcastInDim S1x2048x1x64 ![1, 3] bcast_S2048x64_S1x2048x1x64_1_3 (Host.cos (mulf (broadcastInDim S2048x64 ![0, 1] bcast_S2048x1_S2048x64_0_1 (broadcastInDim S2048x1 ![0] bcast_S2048_S2048x1_0 (sitofp .f32 (iotaInDim S2048 32 0) : FVec Ideal S2048 .f32))) (broadcastInDim S2048x64 ![0, 1] bcast_S1x64_S2048x64_0_1 (broadcastInDim S1x64 ![1] bcast_S64_S1x64_1 (Host.powf (broadcastInDim S64 ![] bcast_S_S64 (constant S_ .f32 0x461C4000#32 : FVec Ideal S_ .f32)) (Host.divf (Host.negf (sitofp .f32 (iotaInDim S64 32 0) : FVec Ideal S64 .f32)) (broadcastInDim S64 ![] bcast_S_S64 (constant S_ .f32 0x42800000#32 : FVec Ideal S_ .f32))))))))

/-- the sines -/
def sinT  : FVec Ideal S1x2048x1x64 .f32 :=
  broadcastInDim S1x2048x1x64 ![1, 3] bcast_S2048x64_S1x2048x1x64_1_3 (Host.sin (mulf (broadcastInDim S2048x64 ![0, 1] bcast_S2048x1_S2048x64_0_1 (broadcastInDim S2048x1 ![0] bcast_S2048_S2048x1_0 (sitofp .f32 (iotaInDim S2048 32 0) : FVec Ideal S2048 .f32))) (broadcastInDim S2048x64 ![0, 1] bcast_S1x64_S2048x64_0_1 (broadcastInDim S1x64 ![1] bcast_S64_S1x64_1 (Host.powf (broadcastInDim S64 ![] bcast_S_S64 (constant S_ .f32 0x461C4000#32 : FVec Ideal S_ .f32)) (Host.divf (Host.negf (sitofp .f32 (iotaInDim S64 32 0) : FVec Ideal S64 .f32)) (broadcastInDim S64 ![] bcast_S_S64 (constant S_ .f32 0x42800000#32 : FVec Ideal S_ .f32))))))))

/-- the rotary turn -/
def rope4 (x0 : FVec Ideal S2x2048x4x128 .f32) (x1 : FVec Ideal S1x2048x1x64 .f32) (x2 : FVec Ideal S1x2048x1x64 .f32) : FVec Ideal S2x2048x4x128 .f32 :=
  concatenate S2x2048x4x128 3 [⟨S2x2048x4x64, (subf (mulf (extractStridedSlice S2x2048x4x64 ![0, 0, 0, 0] x0 slices_S2x2048x4x128_S2x2048x4x64_0_0_0_0) (broadcastInDim S2x2048x4x64 ![0, 1, 2, 3] bcast_S1x2048x1x64_S2x2048x4x64_0_1_2_3 x1)) (mulf (extractStridedSlice S2x2048x4x64 ![0, 0, 0, 64] x0 slices_S2x2048x4x128_S2x2048x4x64_0_0_0_64) (broadcastInDim S2x2048x4x64 ![0, 1, 2, 3] bcast_S1x2048x1x64_S2x2048x4x64_0_1_2_3 x2)))⟩, ⟨S2x2048x4x64, (addf (mulf (extractStridedSlice S2x2048x4x64 ![0, 0, 0, 0] x0 slices_S2x2048x4x128_S2x2048x4x64_0_0_0_0) (broadcastInDim S2x2048x4x64 ![0, 1, 2, 3] bcast_S1x2048x1x64_S2x2048x4x64_0_1_2_3 x2)) (mulf (extractStridedSlice S2x2048x4x64 ![0, 0, 0, 64] x0 slices_S2x2048x4x128_S2x2048x4x64_0_0_0_64) (broadcastInDim S2x2048x4x64 ![0, 1, 2, 3] bcast_S1x2048x1x64_S2x2048x4x64_0_1_2_3 x1)))⟩] concatenates_S2x2048x4x64_S2x2048x4x64_S2x2048x4x128_d3

/-- the scale of the keys -/
def scl4 (x0 : FVec Ideal S2x2048x4x128 .f32) : FVec Ideal S2x2048x4x128 .f32 :=
  mulf x0 (broadcastInDim S2x2048x4x128 ![] bcast_S_S2x2048x4x128 (constant S_ .f32 0x3DB504F3#32 : FVec Ideal S_ .f32))

/-- the heads' decays per row -/
def lgT  : FVec Ideal S4 .f32 :=
  Host.log1p (Host.negf (Host.powf (broadcastInDim S4 ![] bcast_S_S4 (constant S_ .f32 0x40000000#32 : FVec Ideal S_ .f32)) (subf (broadcastInDim S4 ![] bcast_S_S4 (constant S_ .f32 0xC0A00000#32 : FVec Ideal S_ .f32)) (sitofp .f32 (iotaInDim S4 32 0) : FVec Ideal S4 .f32))))

/-- the decays inside a chunk -/
def decT (x0 : FVec Ideal S4 .f32) : FVec Ideal S1x4x1x128x128 .f32 :=
  broadcastInDim S1x4x1x128x128 ![1, 3, 4] bcast_S4x128x128_S1x4x1x128x128_1_3_4 (select (broadcastInDim S4x128x128 ![1, 2] bcast_S128x128_S4x128x128_1_2 (cmpf .oge (subf (broadcastInDim S128x128 ![0, 1] bcast_S128x1_S128x128_0_1 (broadcastInDim S128x1 ![0] bcast_S128_S128x1_0 (sitofp .f32 (iotaInDim S128 32 0) : FVec Ideal S128 .f32))) (broadcastInDim S128x128 ![0, 1] bcast_S1x128_S128x128_0_1 (broadcastInDim S1x128 ![1] bcast_S128_S1x128_1 (sitofp .f32 (iotaInDim S128 32 0) : FVec Ideal S128 .f32)))) (broadcastInDim S128x128 ![] bcast_S_S128x128 (constant S_ .f32 0x00000000#32 : FVec Ideal S_ .f32)))) (Host.exp (mulf (broadcastInDim S4x128x128 ![0, 1, 2] bcast_S4x1x1_S4x128x128_0_1_2 (broadcastInDim S4x1x1 ![0] bcast_S4_S4x1x1_0 x0)) (broadcastInDim S4x128x128 ![0, 1, 2] bcast_S1x128x128_S4x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp .f32 (iotaInDim S128 32 0) : FVec Ideal S128 .f32))) (broadcastInDim S128x128 ![0, 1] bcast_S1x128_S128x128_0_1 (broadcastInDim S1x128 ![1] bcast_S128_S1x128_1 (sitofp .f32 (iotaInDim S128 32 0) : FVec Ideal S128 .f32)))) (broadcastInDim S128x128 ![] bcast_S_S128x128 (constant S_ .f32 0x00000000#32 : FVec Ideal S_ .f32))))))) (broadcastInDim S4x128x128 ![] bcast_S_S4x128x128 (constant S_ .f32 0x00000000#32 : FVec Ideal S_ .f32)))

/-- the chunks of a sequence -/
def chunk5 (x0 : FVec Ideal S2x2048x4x128 .f32) : FVec Ideal S2x16x128x4x128 .f32 :=
  shapeCast S2x16x128x4x128 x0 shapeCasts_S2x2048x4x128_S2x16x128x4x128

/-- the decayed scores -/
def sco5 (x0 : FVec Ideal S2x16x128x4x128 .f32) (x1 : FVec Ideal S2x16x128x4x128 .f32) (x2 : FVec Ideal S1x4x1x128x128 .f32) : FVec Ideal S2x4x16x128x128 .f32 :=
  mulf (Host.dotGeneral dot_S2x16x128x4x128_S2x16x128x4x128_S2x4x16x128x128_4_4_2_2_031_031 none x0 x1) (broadcastInDim S2x4x16x128x128 ![0, 1, 2, 3, 4] bcast_S1x4x1x128x128_S2x4x16x128x128_0_1_2_3_4 x2)

/-- what a chunk gives itself -/
def intra5 (x0 : FVec Ideal S2x16x128x4x128 .f32) (x1 : FVec Ideal S2x4x16x128x128 .f32) : FVec Ideal S2x16x128x4x128 .f32 :=
  transpose S2x16x128x4x128 [0, 1, 4, 2, 3] (Host.dotGeneral dot_S2x16x128x4x128_S2x4x16x128x128_S2x16x4x128x128_2_4_4_3_013_021 none x0 x1) transposes_S2x16x4x128x128_S2x16x128x4x128_0_1_4_2_3

/-- the decays of the keys -/
def kdT (x0 : FVec Ideal S4 .f32) : FVec Ideal S1x1x128x4x1 .f32 :=
  broadcastInDim S1x1x128x4x1 ![2, 3] bcast_S128x4_S1x1x128x4x1_2_3 (transpose S128x4 [1, 0] (Host.exp (mulf (broadcastInDim S4x128 ![0, 1] bcast_S4x1_S4x128_0_1 (broadcastInDim S4x1 ![0] bcast_S4_S4x1_0 x0)) (broadcastInDim S4x128 ![0, 1] bcast_S1x128_S4x128_0_1 (broadcastInDim S1x128 ![1] bcast_S128_S1x128_1 (subf (broadcastInDim S128 ![] bcast_S_S128 (constant S_ .f32 0x42FE0000#32 : FVec Ideal S_ .f32)) (sitofp .f32 (iotaInDim S128 32 0) : FVec Ideal S128 .f32)))))) transposes_S4x128_S128x4_1_0)

/-- rows weighed by a decay -/
def dec5 (x0 : FVec Ideal S2x16x128x4x128 .f32) (x1 : FVec Ideal S1x1x128x4x1 .f32) : FVec Ideal S2x16x128x4x128 .f32 :=
  mulf x0 (broadcastInDim S2x16x128x4x128 ![0, 1, 2, 3, 4] bcast_S1x1x128x4x1_S2x16x128x4x128_0_1_2_3_4 x1)

/-- what a chunk adds to the state -/
def kv5 (x0 : FVec Ideal S2x16x128x4x128 .f32) (x1 : FVec Ideal S2x16x128x4x128 .f32) : FVec Ideal S16x2x4x128x128 .f32 :=
  Host.dotGeneral dot_S2x16x128x4x128_S2x16x128x4x128_S16x2x4x128x128_2_2_4_4_103_103 none x0 x1

/-- the decay over a chunk -/
def gcT (x0 : FVec Ideal S4 .f32) : FVec Ideal S1x4x1x1 .f32 :=
  broadcastInDim S1x4x1x1 ![1] bcast_S4_S1x4x1x1_1 (Host.exp (mulf x0 (broadcastInDim S4 ![] bcast_S_S4 (constant S_ .f32 0x43000000#32 : FVec Ideal S_ .f32))))

/-- the state at the start -/
def zero4  : FVec Ideal S2x4x128x128 .f32 :=
  broadcastInDim S2x4x128x128 ![] bcast_S_S2x4x128x128 (constant S_ .f32 0x00000000#32 : FVec Ideal S_ .f32)

/-- the states before the loop -/
def zero5  : FVec Ideal S16x2x4x128x128 .f32 :=
  broadcastInDim S16x2x4x128x128 ![] bcast_S_S16x2x4x128x128 (constant S_ .f32 0x00000000#32 : FVec Ideal S_ .f32)

/-- the rows of a chunk -/
def posT  : FVec Ideal S128 .f32 :=
  sitofp .f32 (iotaInDim S128 32 0)

/-- the decays of the queries -/
def qdT (x0 : FVec Ideal S4 .f32) (x1 : FVec Ideal S128 .f32) : FVec Ideal S1x1x128x4x1 .f32 :=
  broadcastInDim S1x1x128x4x1 ![2, 3] bcast_S128x4_S1x1x128x4x1_2_3 (transpose S128x4 [1, 0] (Host.exp (mulf (broadcastInDim S4x128 ![0, 1] bcast_S4x1_S4x128_0_1 (broadcastInDim S4x1 ![0] bcast_S4_S4x1_0 x0)) (broadcastInDim S4x128 ![0, 1] bcast_S1x128_S4x128_0_1 (broadcastInDim S1x128 ![1] bcast_S128_S1x128_1 (addf x1 (broadcastInDim S128 ![] bcast_S_S128 (constant S_ .f32 0x3F800000#32 : FVec Ideal S_ .f32))))))) transposes_S4x128_S128x4_1_0)

/-- what the state gives a chunk -/
def cross5 (x0 : FVec Ideal S16x2x4x128x128 .f32) (x1 : FVec Ideal S2x16x128x4x128 .f32) : FVec Ideal S2x16x128x4x128 .f32 :=
  transpose S2x16x128x4x128 [0, 1, 4, 2, 3] (Host.dotGeneral dot_S16x2x4x128x128_S2x16x128x4x128_S2x16x4x128x128_3_4_4_2_102_013 none x0 x1) transposes_S2x16x4x128x128_S2x16x128x4x128_0_1_4_2_3

/-- the output -/
def out4 (x0 : FVec Ideal S2x16x128x4x128 .f32) (x1 : FVec Ideal S2x16x128x4x128 .f32) : FVec Ideal S2x2048x4x128 .f32 :=
  shapeCast S2x2048x4x128 (addf x0 x1) shapeCasts_S2x16x128x4x128_S2x2048x4x128

/-- the mean of a row -/
def mu4 (x0 : FVec Ideal S2x2048x4x128 .f32) : FVec Ideal S2x2048x4x1 .f32 :=
  Host.divf (broadcastInDim S2x2048x4x1 ![0, 1, 2] bcast_S2x2048x4_S2x2048x4x1_0_1_2 (Host.reduceAdd x0 (constant S_ .f32 0x00000000#32 : FVec Ideal S_ .f32) reducesTo_S2x2048x4x128_S2x2048x4_d3 h_S_)) (broadcastInDim S2x2048x4x1 ![] bcast_S_S2x2048x4x1 (constant S_ .f32 0x43000000#32 : FVec Ideal S_ .f32))

/-- a row less its mean -/
def cen4 (x0 : FVec Ideal S2x2048x4x128 .f32) (x1 : FVec Ideal S2x2048x4x1 .f32) : FVec Ideal S2x2048x4x128 .f32 :=
  subf x0 (broadcastInDim S2x2048x4x128 ![0, 1, 2, 3] bcast_S2x2048x4x1_S2x2048x4x128_0_1_2_3 x1)

/-- the guarded variance of a row -/
def var4 (x0 : FVec Ideal S2x2048x4x128 .f32) : FVec Ideal S2x2048x4x1 .f32 :=
  addf (Host.divf (broadcastInDim S2x2048x4x1 ![0, 1, 2] bcast_S2x2048x4_S2x2048x4x1_0_1_2 (Host.reduceAdd (mulf x0 x0) (constant S_ .f32 0x00000000#32 : FVec Ideal S_ .f32) reducesTo_S2x2048x4x128_S2x2048x4_d3 h_S_)) (broadcastInDim S2x2048x4x1 ![] bcast_S_S2x2048x4x1 (constant S_ .f32 0x43000000#32 : FVec Ideal S_ .f32))) (broadcastInDim S2x2048x4x1 ![] bcast_S_S2x2048x4x1 (constant S_ .f32 0x358637BD#32 : FVec Ideal S_ .f32))

/-- its reciprocal root -/
def rst4 (x0 : FVec Ideal S2x2048x4x1 .f32) : FVec Ideal S2x2048x4x1 .f32 :=
  Host.rsqrt x0

/-- the root's derivative -/
def slope4 (x0 : FVec Ideal S2x2048x4x1 .f32) (x1 : FVec Ideal S2x2048x4x1 .f32) : FVec Ideal S2x2048x4x1 .f32 :=
  mulf (broadcastInDim S2x2048x4x1 ![] bcast_S_S2x2048x4x1 (constant S_ .f32 0xBF000000#32 : FVec Ideal S_ .f32)) (Host.divf x1 x0)

/-- the square's derivative -/
def twice4 (x0 : FVec Ideal S2x2048x4x128 .f32) : FVec Ideal S2x2048x4x128 .f32 :=
  mulf (broadcastInDim S2x2048x4x128 ![] bcast_S_S2x2048x4x128 (constant S_ .f32 0x40000000#32 : FVec Ideal S_ .f32)) x0

/-- the norm of a row -/
def nrm3 (x0 : FVec Ideal S2x2048x4x128 .f32) (x1 : FVec Ideal S2x2048x4x1 .f32) : FVec Ideal S2x2048x512 .f32 :=
  shapeCast S2x2048x512 (mulf x0 (broadcastInDim S2x2048x4x128 ![0, 1, 2, 3] bcast_S2x2048x4x1_S2x2048x4x128_0_1_2_3 x1)) shapeCasts_S2x2048x4x128_S2x2048x512

/-- the gains -/
def gain3 (x0 : FVec Ideal S1x512 .f32) : FVec Ideal S1x1x512 .f32 :=
  broadcastInDim S1x1x512 ![2] bcast_S512_S1x1x512_2 (shapeCast S512 x0 shapeCasts_S1x512_S512)

/-- the norm times the gains -/
def gn3 (x0 : FVec Ideal S2x2048x512 .f32) (x1 : FVec Ideal S1x1x512 .f32) : FVec Ideal S2x2048x512 .f32 :=
  mulf x0 (broadcastInDim S2x2048x512 ![0, 1, 2] bcast_S1x1x512_S2x2048x512_0_1_2 x1)

/-- the gate -/
def gate3 (x0 : FVec Ideal S4096x512 .f32) : FVec Ideal S2x2048x512 .f32 :=
  shapeCast S2x2048x512 x0 shapeCasts_S4096x512_S2x2048x512

/-- the gate's columns -/
def gIn (x0 : FVec Ideal S4096x3072 .f32) : FVec Ideal S4096x512 .f32 :=
  extractStridedSlice S4096x512 ![0, 1536] x0 slices_S4096x3072_S4096x512_0_1536

/-- the logistic function of the gate -/
def sig3 (x0 : FVec Ideal S2x2048x512 .f32) : FVec Ideal S2x2048x512 .f32 :=
  Host.divf (broadcastInDim S2x2048x512 ![] bcast_S_S2x2048x512 (constant S_ .f32 0x3F800000#32 : FVec Ideal S_ .f32)) (addf (broadcastInDim S2x2048x512 ![] bcast_S_S2x2048x512 (constant S_ .f32 0x3F800000#32 : FVec Ideal S_ .f32)) (Host.exp (Host.negf x0)))

/-- its derivative -/
def dsig3 (x0 : FVec Ideal S2x2048x512 .f32) : FVec Ideal S2x2048x512 .f32 :=
  mulf x0 (subf (broadcastInDim S2x2048x512 ![] bcast_S_S2x2048x512 (constant S_ .f32 0x3F800000#32 : FVec Ideal S_ .f32)) x0)

/-- the gate's weight -/
def silu3 (x0 : FVec Ideal S2x2048x512 .f32) (x1 : FVec Ideal S2x2048x512 .f32) : FVec Ideal S2x2048x512 .f32 :=
  mulf x0 x1

/-- the gated output -/
def mer2 (x0 : FVec Ideal S2x2048x512 .f32) (x1 : FVec Ideal S2x2048x512 .f32) : FVec Ideal S4096x512 .f32 :=
  shapeCast S4096x512 (mulf x0 x1) shapeCasts_S2x2048x512_S4096x512

/-- the cotangent -/
def dm3 (x0 : FVec Ideal S4096x1024 .f32) : FVec Ideal S2x2048x512 .f32 :=
  shapeCast S2x2048x512 (extractStridedSlice S4096x512 ![0, 0] x0 slices_S4096x1024_S4096x512_0_0) shapeCasts_S4096x512_S2x2048x512

/-- the gate's gradient -/
def dgt2 (x0 : FVec Ideal S2x2048x512 .f32) (x1 : FVec Ideal S2x2048x512 .f32) (x2 : FVec Ideal S2x2048x512 .f32) (x3 : FVec Ideal S2x2048x512 .f32) (x4 : FVec Ideal S2x2048x512 .f32) : FVec Ideal S4096x512 .f32 :=
  shapeCast S4096x512 (addf (mulf (mulf x0 x1) x3) (mulf (mulf x2 (mulf x0 x1)) x4)) shapeCasts_S2x2048x512_S4096x512

/-- the cotangent of the norm times the gains -/
def dn3 (x0 : FVec Ideal S2x2048x512 .f32) (x1 : FVec Ideal S2x2048x512 .f32) : FVec Ideal S2x2048x512 .f32 :=
  mulf x0 x1

/-- the gain's gradient -/
def dgn2 (x0 : FVec Ideal S2x2048x512 .f32) (x1 : FVec Ideal S2x2048x512 .f32) : FVec Ideal S1x512 .f32 :=
  broadcastInDim S1x512 ![1] bcast_S512_S1x512_1 (Host.reduceAdd (shapeCast S1x1x512 (Host.reduceAdd (mulf x0 x1) (constant S_ .f32 0x00000000#32 : FVec Ideal S_ .f32) reducesTo_S2x2048x512_S512_d0_1 h_S_) shapeCasts_S512_S1x1x512) (constant S_ .f32 0x00000000#32 : FVec Ideal S_ .f32) reducesTo_S1x1x512_S512_d0_1 h_S_)

/-- the cotangent of the norm -/
def d4 (x0 : FVec Ideal S2x2048x512 .f32) (x1 : FVec Ideal S1x1x512 .f32) : FVec Ideal S2x2048x4x128 .f32 :=
  shapeCast S2x2048x4x128 (mulf x0 (broadcastInDim S2x2048x512 ![0, 1, 2] bcast_S1x1x512_S2x2048x512_0_1_2 x1)) shapeCasts_S2x2048x512_S2x2048x4x128

/-- the norm's first part of the gradient -/
def pull4 (x0 : FVec Ideal S2x2048x4x128 .f32) (x1 : FVec Ideal S2x2048x4x1 .f32) : FVec Ideal S2x2048x4x128 .f32 :=
  mulf x0 (broadcastInDim S2x2048x4x128 ![0, 1, 2, 3] bcast_S2x2048x4x1_S2x2048x4x128_0_1_2_3 x1)

/-- the cotangent of the guarded variance -/
def coef4 (x0 : FVec Ideal S2x2048x4x128 .f32) (x1 : FVec Ideal S2x2048x4x128 .f32) (x2 : FVec Ideal S2x2048x4x1 .f32) : FVec Ideal S2x2048x4x1 .f32 :=
  mulf (shapeCast S2x2048x4x1 (Host.reduceAdd (mulf x0 x1) (constant S_ .f32 0x00000000#32 : FVec Ideal S_ .f32) reducesTo_S2x2048x4x128_S2x2048x4_d3 h_S_) shapeCasts_S2x2048x4_S2x2048x4x1) x2

/-- the norm's second part of the gradient -/
def back4 (x0 : FVec Ideal S2x2048x4x1 .f32) (x1 : FVec Ideal S2x2048x4x128 .f32) : FVec Ideal S2x2048x4x128 .f32 :=
  mulf (broadcastInDim S2x2048x4x128 ![0, 1, 2] bcast_S2x2048x4_S2x2048x4x128_0_1_2 (Host.reduceAdd (Host.divf x0 (broadcastInDim S2x2048x4x1 ![] bcast_S_S2x2048x4x1 (constant S_ .f32 0x43000000#32 : FVec Ideal S_ .f32))) (constant S_ .f32 0x00000000#32 : FVec Ideal S_ .f32) reducesTo_S2x2048x4x1_S2x2048x4_d3 h_S_)) x1

/-- the gradient of the output -/
def dout4 (x0 : FVec Ideal S2x2048x4x128 .f32) (x1 : FVec Ideal S2x2048x4x128 .f32) : FVec Ideal S2x2048x4x128 .f32 :=
  addf (addf x0 x1) (broadcastInDim S2x2048x4x128 ![0, 1, 2] bcast_S2x2048x4_S2x2048x4x128_0_1_2 (Host.reduceAdd (Host.divf (addf (shapeCast S2x2048x4x1 (Host.reduceAdd (Host.negf x0) (constant S_ .f32 0x00000000#32 : FVec Ideal S_ .f32) reducesTo_S2x2048x4x128_S2x2048x4_d3 h_S_) shapeCasts_S2x2048x4_S2x2048x4x1) (shapeCast S2x2048x4x1 (Host.reduceAdd (Host.negf x1) (constant S_ .f32 0x00000000#32 : FVec Ideal S_ .f32) reducesTo_S2x2048x4x128_S2x2048x4_d3 h_S_) shapeCasts_S2x2048x4_S2x2048x4x1)) (broadcastInDim S2x2048x4x1 ![] bcast_S_S2x2048x4x1 (constant S_ .f32 0x43000000#32 : FVec Ideal S_ .f32))) (constant S_ .f32 0x00000000#32 : FVec Ideal S_ .f32) reducesTo_S2x2048x4x1_S2x2048x4_d3 h_S_))

/-- rows last -/
def tr5 (x0 : FVec Ideal S2x16x128x4x128 .f32) : FVec Ideal S2x16x4x128x128 .f32 :=
  transpose S2x16x4x128x128 [0, 1, 3, 4, 2] x0 transposes_S2x16x128x4x128_S2x16x4x128x128_0_1_3_4_2

/-- the queries' gradient through the state -/
def dq1 (x0 : FVec Ideal S2x16x4x128x128 .f32) (x1 : FVec Ideal S16x2x4x128x128 .f32) : FVec Ideal S2x16x128x4x128 .f32 :=
  transpose S2x16x128x4x128 [0, 1, 3, 2, 4] (Host.dotGeneral dot_S2x16x4x128x128_S16x2x4x128x128_S2x16x4x128x128_3_4_4_3_012_102 none x0 x1) transposes_S2x16x4x128x128_S2x16x128x4x128_0_1_3_2_4

/-- the state's gradient from a chunk -/
def dkv5 (x0 : FVec Ideal S2x16x4x128x128 .f32) (x1 : FVec Ideal S2x16x128x4x128 .f32) : FVec Ideal S16x2x4x128x128 .f32 :=
  transpose S16x2x4x128x128 [1, 0, 2, 4, 3] (Host.dotGeneral dot_S2x16x4x128x128_S2x16x128x4x128_S2x16x4x128x128_4_2_3_4_012_013 none x0 x1) transposes_S2x16x4x128x128_S16x2x4x128x128_1_0_2_4_3

/-- the values' gradient through the state -/
def dv1 (x0 : FVec Ideal S16x2x4x128x128 .f32) (x1 : FVec Ideal S2x16x128x4x128 .f32) : FVec Ideal S2x16x128x4x128 .f32 :=
  transpose S2x16x128x4x128 [1, 0, 4, 2, 3] (Host.dotGeneral dot_S16x2x4x128x128_S2x16x128x4x128_S16x2x4x128x128_3_4_4_2_012_103 none x0 x1) transposes_S16x2x4x128x128_S2x16x128x4x128_1_0_4_2_3

/-- the keys' gradient through the state -/
def dk1 (x0 : FVec Ideal S16x2x4x128x128 .f32) (x1 : FVec Ideal S2x16x128x4x128 .f32) : FVec Ideal S2x16x128x4x128 .f32 :=
  transpose S2x16x128x4x128 [1, 0, 4, 2, 3] (Host.dotGeneral dot_S16x2x4x128x128_S2x16x128x4x128_S16x2x4x128x128_4_4_3_2_012_103 none x0 x1) transposes_S16x2x4x128x128_S2x16x128x4x128_1_0_4_2_3

/-- the scores' gradient -/
def ds5 (x0 : FVec Ideal S2x16x4x128x128 .f32) (x1 : FVec Ideal S2x16x128x4x128 .f32) (x2 : FVec Ideal S1x4x1x128x128 .f32) : FVec Ideal S2x4x16x128x128 .f32 :=
  mulf (transpose S2x4x16x128x128 [0, 2, 1, 3, 4] (Host.dotGeneral dot_S2x16x4x128x128_S2x16x128x4x128_S2x16x4x128x128_3_4_4_2_012_013 none x0 x1) transposes_S2x16x4x128x128_S2x4x16x128x128_0_2_1_3_4) (broadcastInDim S2x4x16x128x128 ![0, 1, 2, 3, 4] bcast_S1x4x1x128x128_S2x4x16x128x128_0_1_2_3_4 x2)

/-- the values' gradient inside a chunk -/
def dv2 (x0 : FVec Ideal S2x16x4x128x128 .f32) (x1 : FVec Ideal S2x4x16x128x128 .f32) : FVec Ideal S2x16x128x4x128 .f32 :=
  transpose S2x16x128x4x128 [0, 1, 4, 2, 3] (Host.dotGeneral dot_S2x16x4x128x128_S2x4x16x128x128_S2x16x4x128x128_4_3_3_4_012_021 none x0 x1) transposes_S2x16x4x128x128_S2x16x128x4x128_0_1_4_2_3

/-- the keys' gradient inside a chunk -/
def dk2 (x0 : FVec Ideal S2x4x16x128x128 .f32) (x1 : FVec Ideal S2x16x128x4x128 .f32) : FVec Ideal S2x16x128x4x128 .f32 :=
  transpose S2x16x128x4x128 [0, 2, 3, 1, 4] (Host.dotGeneral dot_S2x4x16x128x128_S2x16x128x4x128_S2x4x16x128x128_3_2_4_4_012_031 none x0 x1) transposes_S2x4x16x128x128_S2x16x128x4x128_0_2_3_1_4

/-- the queries' gradient inside a chunk -/
def dq2 (x0 : FVec Ideal S2x4x16x128x128 .f32) (x1 : FVec Ideal S2x16x128x4x128 .f32) : FVec Ideal S2x16x128x4x128 .f32 :=
  transpose S2x16x128x4x128 [0, 2, 3, 1, 4] (Host.dotGeneral dot_S2x4x16x128x128_S2x16x128x4x128_S2x4x16x128x128_4_2_3_4_012_031 none x0 x1) transposes_S2x4x16x128x128_S2x16x128x4x128_0_2_3_1_4

/-- the sum of the two parts -/
def sum4 (x0 : FVec Ideal S2x16x128x4x128 .f32) (x1 : FVec Ideal S2x16x128x4x128 .f32) : FVec Ideal S2x2048x4x128 .f32 :=
  shapeCast S2x2048x4x128 (addf x0 x1) shapeCasts_S2x16x128x4x128_S2x2048x4x128

/-- the sum of the two parts, scaled -/
def dkx4 (x0 : FVec Ideal S2x16x128x4x128 .f32) (x1 : FVec Ideal S2x16x128x4x128 .f32) : FVec Ideal S2x2048x4x128 .f32 :=
  mulf (shapeCast S2x2048x4x128 (addf x0 x1) shapeCasts_S2x16x128x4x128_S2x2048x4x128) (broadcastInDim S2x2048x4x128 ![] bcast_S_S2x2048x4x128 (constant S_ .f32 0x3DB504F3#32 : FVec Ideal S_ .f32))

/-- rows and columns -/
def flat2 (x0 : FVec Ideal S2x2048x4x128 .f32) : FVec Ideal S4096x512 .f32 :=
  shapeCast S4096x512 x0 shapeCasts_S2x2048x4x128_S4096x512

/-- the rotary turn's transpose -/
def ropeT4 (x0 : FVec Ideal S2x2048x4x128 .f32) (x1 : FVec Ideal S1x2048x1x64 .f32) (x2 : FVec Ideal S1x2048x1x64 .f32) : FVec Ideal S2x2048x4x128 .f32 :=
  addf (pad S2x2048x4x128 ![0, 0, 0, 64] ![0, 0, 0, 0] ![0, 0, 0, 0] (addf (mulf (extractStridedSlice S2x2048x4x64 ![0, 0, 0, 64] x0 slices_S2x2048x4x128_S2x2048x4x64_0_0_0_64) (broadcastInDim S2x2048x4x64 ![0, 1, 2, 3] bcast_S1x2048x1x64_S2x2048x4x64_0_1_2_3 x1)) (mulf (Host.negf (extractStridedSlice S2x2048x4x64 ![0, 0, 0, 0] x0 slices_S2x2048x4x128_S2x2048x4x64_0_0_0_0)) (broadcastInDim S2x2048x4x64 ![0, 1, 2, 3] bcast_S1x2048x1x64_S2x2048x4x64_0_1_2_3 x2))) (constant S_ .f32 0x00000000#32 : FVec Ideal S_ .f32) pads_S2x2048x4x64_S2x2048x4x128_000_000_000_6400 h_S_) (pad S2x2048x4x128 ![0, 0, 0, 0] ![0, 0, 0, 64] ![0, 0, 0, 0] (addf (mulf (extractStridedSlice S2x2048x4x64 ![0, 0, 0, 64] x0 slices_S2x2048x4x128_S2x2048x4x64_0_0_0_64) (broadcastInDim S2x2048x4x64 ![0, 1, 2, 3] bcast_S1x2048x1x64_S2x2048x4x64_0_1_2_3 x2)) (mulf (extractStridedSlice S2x2048x4x64 ![0, 0, 0, 0] x0 slices_S2x2048x4x128_S2x2048x4x64_0_0_0_0) (broadcastInDim S2x2048x4x64 ![0, 1, 2, 3] bcast_S1x2048x1x64_S2x2048x4x64_0_1_2_3 x1))) (constant S_ .f32 0x00000000#32 : FVec Ideal S_ .f32) pads_S2x2048x4x64_S2x2048x4x128_000_000_000_0640 h_S_)

theorem qIn_at (x0 : FVec Ideal S4096x3072 .f32) (a : Fin 2) (b : Fin 2048) (c : Fin 4) (d : Fin 128) : qIn x0 (ix4 a b c d) = (x0 (ix2 ⟨a.val * 2048 + b.val, by omega⟩ ⟨c.val * 128 + d.val, by omega⟩) : EReal) := by
  unfold qIn
  pointwise []

theorem kIn_at (x0 : FVec Ideal S4096x3072 .f32) (a : Fin 2) (b : Fin 2048) (c : Fin 4) (d : Fin 128) : kIn x0 (ix4 a b c d) = (x0 (ix2 ⟨a.val * 2048 + b.val, by omega⟩ ⟨512 + (c.val * 128 + d.val), by omega⟩) : EReal) := by
  unfold kIn
  pointwise []

theorem vIn_at (x0 : FVec Ideal S4096x3072 .f32) (a : Fin 2) (b : Fin 2048) (c : Fin 4) (d : Fin 128) : vIn x0 (ix4 a b c d) = (x0 (ix2 ⟨a.val * 2048 + b.val, by omega⟩ ⟨1024 + (c.val * 128 + d.val), by omega⟩) : EReal) := by
  unfold vIn
  pointwise []

theorem cosT_at  (a : Fin 1) (b : Fin 2048) (c : Fin 1) (d : Fin 64) : cosT  (ix4 a b c d) = (Ideal.cos (FloatOps.sitofp (F := Ideal) FTy.f32 (BitVec.ofNat 32 b.val) * Ideal.pow (Ideal.ofBits FTy.f32 1176256512#32) (Ideal.div (-FloatOps.sitofp (F := Ideal) FTy.f32 (BitVec.ofNat 32 d.val)) (Ideal.ofBits FTy.f32 1115684864#32))) : EReal) := by
  unfold cosT
  pointwise []

theorem sinT_at  (a : Fin 1) (b : Fin 2048) (c : Fin 1) (d : Fin 64) : sinT  (ix4 a b c d) = (Ideal.sin (FloatOps.sitofp (F := Ideal) FTy.f32 (BitVec.ofNat 32 b.val) * Ideal.pow (Ideal.ofBits FTy.f32 1176256512#32) (Ideal.div (-FloatOps.sitofp (F := Ideal) FTy.f32 (BitVec.ofNat 32 d.val)) (Ideal.ofBits FTy.f32 1115684864#32))) : EReal) := by
  unfold sinT
  pointwise []

theorem scl4_at (x0 : FVec Ideal S2x2048x4x128 .f32) (a : Fin 2) (b : Fin 2048) (c : Fin 4) (d : Fin 128) : scl4 x0 (ix4 a b c d) = (x0 (ix4 a b c d) * Ideal.ofBits FTy.f32 1035273459#32 : EReal) := by
  unfold scl4
  pointwise []

theorem lgT_at  (a : Fin 4) : lgT  (ix1 a) = (Ideal.log1p (-Ideal.pow (Ideal.ofBits FTy.f32 1073741824#32) (Ideal.ofBits FTy.f32 3231711232#32 - FloatOps.sitofp (F := Ideal) FTy.f32 (BitVec.ofNat 32 a.val))) : EReal) := by
  unfold lgT
  pointwise []

theorem decT_at (x0 : FVec Ideal S4 .f32) (a : Fin 1) (b : Fin 4) (c : Fin 1) (d : Fin 128) (e : Fin 128) : decT x0 (ix5 a b c d e) = ((if 0 ≤ FloatOps.sitofp (F := Ideal) FTy.f32 (BitVec.ofNat 32 d.val) - FloatOps.sitofp (F := Ideal) FTy.f32 (BitVec.ofNat 32 e.val) then Ideal.exp (x0 (ix1 b) * max (FloatOps.sitofp (F := Ideal) FTy.f32 (BitVec.ofNat 32 d.val) - FloatOps.sitofp (F := Ideal) FTy.f32 (BitVec.ofNat 32 e.val)) 0) else 0) : EReal) := by
  unfold decT
  pointwise []

theorem chunk5_at (x0 : FVec Ideal S2x2048x4x128 .f32) (a : Fin 2) (b : Fin 16) (c : Fin 128) (d : Fin 4) (e : Fin 128) : chunk5 x0 (ix5 a b c d e) = (x0 (ix4 a ⟨b.val * 128 + c.val, by omega⟩ d e) : EReal) := by
  unfold chunk5
  pointwise []

theorem sco5_at (x0 : FVec Ideal S2x16x128x4x128 .f32) (x1 : FVec Ideal S2x16x128x4x128 .f32) (x2 : FVec Ideal S1x4x1x128x128 .f32) (a : Fin 2) (b : Fin 4) (c : Fin 16) (d : Fin 128) (e : Fin 128) : sco5 x0 x1 x2 (ix5 a b c d e) = ((∑ x, x0 (ix5 a c d b x) * x1 (ix5 a c e b x)) * x2 (ix5 0 b 0 d e) : EReal) := by
  unfold sco5
  pointwise []

theorem intra5_at (x0 : FVec Ideal S2x16x128x4x128 .f32) (x1 : FVec Ideal S2x4x16x128x128 .f32) (a : Fin 2) (b : Fin 16) (c : Fin 128) (d : Fin 4) (e : Fin 128) : intra5 x0 x1 (ix5 a b c d e) = (∑ x, x0 (ix5 a b x d e) * x1 (ix5 a d b c x) : EReal) := by
  unfold intra5
  pointwise []

theorem kdT_at (x0 : FVec Ideal S4 .f32) (a : Fin 1) (b : Fin 1) (c : Fin 128) (d : Fin 4) (e : Fin 1) : kdT x0 (ix5 a b c d e) = (Ideal.exp (x0 (ix1 d) * (Ideal.ofBits FTy.f32 1123942400#32 - FloatOps.sitofp (F := Ideal) FTy.f32 (BitVec.ofNat 32 c.val))) : EReal) := by
  unfold kdT
  pointwise []

theorem dec5_at (x0 : FVec Ideal S2x16x128x4x128 .f32) (x1 : FVec Ideal S1x1x128x4x1 .f32) (a : Fin 2) (b : Fin 16) (c : Fin 128) (d : Fin 4) (e : Fin 128) : dec5 x0 x1 (ix5 a b c d e) = (x0 (ix5 a b c d e) * x1 (ix5 0 0 c d 0) : EReal) := by
  unfold dec5
  pointwise []

theorem kv5_at (x0 : FVec Ideal S2x16x128x4x128 .f32) (x1 : FVec Ideal S2x16x128x4x128 .f32) (a : Fin 16) (b : Fin 2) (c : Fin 4) (d : Fin 128) (e : Fin 128) : kv5 x0 x1 (ix5 a b c d e) = (∑ x, x0 (ix5 b a x c d) * x1 (ix5 b a x c e) : EReal) := by
  unfold kv5
  pointwise []

theorem gcT_at (x0 : FVec Ideal S4 .f32) (a : Fin 1) (b : Fin 4) (c : Fin 1) (d : Fin 1) : gcT x0 (ix4 a b c d) = (Ideal.exp (x0 (ix1 b) * Ideal.ofBits FTy.f32 1124073472#32) : EReal) := by
  unfold gcT
  pointwise []

theorem zero4_at  (a : Fin 2) (b : Fin 4) (c : Fin 128) (d : Fin 128) : zero4  (ix4 a b c d) = (0 : EReal) := by
  unfold zero4
  pointwise []

theorem posT_at  (a : Fin 128) : posT  (ix1 a) = (FloatOps.sitofp (F := Ideal) FTy.f32 (BitVec.ofNat 32 a.val) : EReal) := by
  unfold posT
  pointwise []

theorem qdT_at (x0 : FVec Ideal S4 .f32) (x1 : FVec Ideal S128 .f32) (a : Fin 1) (b : Fin 1) (c : Fin 128) (d : Fin 4) (e : Fin 1) : qdT x0 x1 (ix5 a b c d e) = (Ideal.exp (x0 (ix1 d) * (x1 (ix1 c) + 1)) : EReal) := by
  unfold qdT
  pointwise []

theorem cross5_at (x0 : FVec Ideal S16x2x4x128x128 .f32) (x1 : FVec Ideal S2x16x128x4x128 .f32) (a : Fin 2) (b : Fin 16) (c : Fin 128) (d : Fin 4) (e : Fin 128) : cross5 x0 x1 (ix5 a b c d e) = (∑ x, x0 (ix5 b a d x e) * x1 (ix5 a b c d x) : EReal) := by
  unfold cross5
  pointwise []

theorem out4_at (x0 : FVec Ideal S2x16x128x4x128 .f32) (x1 : FVec Ideal S2x16x128x4x128 .f32) (a : Fin 2) (b : Fin 2048) (c : Fin 4) (d : Fin 128) : out4 x0 x1 (ix4 a b c d) = (x0 (ix5 a ⟨b.val / 128, by omega⟩ ⟨b.val % 128, by omega⟩ c d) + x1 (ix5 a ⟨b.val / 128, by omega⟩ ⟨b.val % 128, by omega⟩ c d) : EReal) := by
  unfold out4
  pointwise []

theorem mu4_at (x0 : FVec Ideal S2x2048x4x128 .f32) (a : Fin 2) (b : Fin 2048) (c : Fin 4) (d : Fin 1) : mu4 x0 (ix4 a b c d) = (Ideal.div (∑ x, x0 (ix4 a b c x)) (Ideal.ofBits FTy.f32 1124073472#32) : EReal) := by
  unfold mu4
  pointwise []

theorem cen4_at (x0 : FVec Ideal S2x2048x4x128 .f32) (x1 : FVec Ideal S2x2048x4x1 .f32) (a : Fin 2) (b : Fin 2048) (c : Fin 4) (d : Fin 128) : cen4 x0 x1 (ix4 a b c d) = (x0 (ix4 a b c d) - x1 (ix4 a b c 0) : EReal) := by
  unfold cen4
  pointwise []

theorem var4_at (x0 : FVec Ideal S2x2048x4x128 .f32) (a : Fin 2) (b : Fin 2048) (c : Fin 4) (d : Fin 1) : var4 x0 (ix4 a b c d) = (Ideal.div (∑ x, x0 (ix4 a b c x) * x0 (ix4 a b c x)) (Ideal.ofBits FTy.f32 1124073472#32) + Ideal.ofBits FTy.f32 897988541#32 : EReal) := by
  unfold var4
  pointwise []

theorem rst4_at (x0 : FVec Ideal S2x2048x4x1 .f32) (a : Fin 2) (b : Fin 2048) (c : Fin 4) (d : Fin 1) : rst4 x0 (ix4 a b c d) = (Ideal.rsqrt (x0 (ix4 a b c d)) : EReal) := by
  unfold rst4
  pointwise []

theorem slope4_at (x0 : FVec Ideal S2x2048x4x1 .f32) (x1 : FVec Ideal S2x2048x4x1 .f32) (a : Fin 2) (b : Fin 2048) (c : Fin 4) (d : Fin 1) : slope4 x0 x1 (ix4 a b c d) = (Ideal.ofBits FTy.f32 3204448256#32 * Ideal.div (x1 (ix4 a b c d)) (x0 (ix4 a b c d)) : EReal) := by
  unfold slope4
  pointwise []

theorem twice4_at (x0 : FVec Ideal S2x2048x4x128 .f32) (a : Fin 2) (b : Fin 2048) (c : Fin 4) (d : Fin 128) : twice4 x0 (ix4 a b c d) = (Ideal.ofBits FTy.f32 1073741824#32 * x0 (ix4 a b c d) : EReal) := by
  unfold twice4
  pointwise []

theorem nrm3_at (x0 : FVec Ideal S2x2048x4x128 .f32) (x1 : FVec Ideal S2x2048x4x1 .f32) (a : Fin 2) (b : Fin 2048) (c : Fin 512) : nrm3 x0 x1 (ix3 a b c) = (x0 (ix4 a b ⟨c.val / 128, by omega⟩ ⟨c.val % 128, by omega⟩) * x1 (ix4 a b ⟨c.val / 128, by omega⟩ 0) : EReal) := by
  unfold nrm3
  pointwise []

theorem gain3_at (x0 : FVec Ideal S1x512 .f32) (a : Fin 1) (b : Fin 1) (c : Fin 512) : gain3 x0 (ix3 a b c) = (x0 (ix2 0 c) : EReal) := by
  unfold gain3
  pointwise []

theorem gn3_at (x0 : FVec Ideal S2x2048x512 .f32) (x1 : FVec Ideal S1x1x512 .f32) (a : Fin 2) (b : Fin 2048) (c : Fin 512) : gn3 x0 x1 (ix3 a b c) = (x0 (ix3 a b c) * x1 (ix3 0 0 c) : EReal) := by
  unfold gn3
  pointwise []

theorem gate3_at (x0 : FVec Ideal S4096x512 .f32) (a : Fin 2) (b : Fin 2048) (c : Fin 512) : gate3 x0 (ix3 a b c) = (x0 (ix2 ⟨a.val * 2048 + b.val, by omega⟩ c) : EReal) := by
  unfold gate3
  pointwise []

theorem gIn_at (x0 : FVec Ideal S4096x3072 .f32) (a : Fin 4096) (b : Fin 512) : gIn x0 (ix2 a b) = (x0 (ix2 a ⟨1536 + b.val, by omega⟩) : EReal) := by
  unfold gIn
  pointwise []

theorem sig3_at (x0 : FVec Ideal S2x2048x512 .f32) (a : Fin 2) (b : Fin 2048) (c : Fin 512) : sig3 x0 (ix3 a b c) = (Ideal.div 1 (1 + Ideal.exp (-x0 (ix3 a b c))) : EReal) := by
  unfold sig3
  pointwise []

theorem dsig3_at (x0 : FVec Ideal S2x2048x512 .f32) (a : Fin 2) (b : Fin 2048) (c : Fin 512) : dsig3 x0 (ix3 a b c) = (x0 (ix3 a b c) * (1 - x0 (ix3 a b c)) : EReal) := by
  unfold dsig3
  pointwise []

theorem silu3_at (x0 : FVec Ideal S2x2048x512 .f32) (x1 : FVec Ideal S2x2048x512 .f32) (a : Fin 2) (b : Fin 2048) (c : Fin 512) : silu3 x0 x1 (ix3 a b c) = (x0 (ix3 a b c) * x1 (ix3 a b c) : EReal) := by
  unfold silu3
  pointwise []

theorem mer2_at (x0 : FVec Ideal S2x2048x512 .f32) (x1 : FVec Ideal S2x2048x512 .f32) (a : Fin 4096) (b : Fin 512) : mer2 x0 x1 (ix2 a b) = (x0 (ix3 ⟨a.val / 2048, by omega⟩ ⟨a.val % 2048, by omega⟩ b) * x1 (ix3 ⟨a.val / 2048, by omega⟩ ⟨a.val % 2048, by omega⟩ b) : EReal) := by
  unfold mer2
  pointwise []

theorem dm3_at (x0 : FVec Ideal S4096x1024 .f32) (a : Fin 2) (b : Fin 2048) (c : Fin 512) : dm3 x0 (ix3 a b c) = (x0 (ix2 ⟨a.val * 2048 + b.val, by omega⟩ ⟨c.val, by omega⟩) : EReal) := by
  unfold dm3
  pointwise []

theorem dgt2_at (x0 : FVec Ideal S2x2048x512 .f32) (x1 : FVec Ideal S2x2048x512 .f32) (x2 : FVec Ideal S2x2048x512 .f32) (x3 : FVec Ideal S2x2048x512 .f32) (x4 : FVec Ideal S2x2048x512 .f32) (a : Fin 4096) (b : Fin 512) : dgt2 x0 x1 x2 x3 x4 (ix2 a b) = (x0 (ix3 ⟨a.val / 2048, by omega⟩ ⟨a.val % 2048, by omega⟩ b) * x1 (ix3 ⟨a.val / 2048, by omega⟩ ⟨a.val % 2048, by omega⟩ b) * x3 (ix3 ⟨a.val / 2048, by omega⟩ ⟨a.val % 2048, by omega⟩ b) + x2 (ix3 ⟨a.val / 2048, by omega⟩ ⟨a.val % 2048, by omega⟩ b) * (x0 (ix3 ⟨a.val / 2048, by omega⟩ ⟨a.val % 2048, by omega⟩ b) * x1 (ix3 ⟨a.val / 2048, by omega⟩ ⟨a.val % 2048, by omega⟩ b)) * x4 (ix3 ⟨a.val / 2048, by omega⟩ ⟨a.val % 2048, by omega⟩ b) : EReal) := by
  unfold dgt2
  pointwise []

theorem dn3_at (x0 : FVec Ideal S2x2048x512 .f32) (x1 : FVec Ideal S2x2048x512 .f32) (a : Fin 2) (b : Fin 2048) (c : Fin 512) : dn3 x0 x1 (ix3 a b c) = (x0 (ix3 a b c) * x1 (ix3 a b c) : EReal) := by
  unfold dn3
  pointwise []

theorem d4_at (x0 : FVec Ideal S2x2048x512 .f32) (x1 : FVec Ideal S1x1x512 .f32) (a : Fin 2) (b : Fin 2048) (c : Fin 4) (d : Fin 128) : d4 x0 x1 (ix4 a b c d) = (x0 (ix3 a b ⟨c.val * 128 + d.val, by omega⟩) * x1 (ix3 0 0 ⟨c.val * 128 + d.val, by omega⟩) : EReal) := by
  unfold d4
  pointwise []

theorem pull4_at (x0 : FVec Ideal S2x2048x4x128 .f32) (x1 : FVec Ideal S2x2048x4x1 .f32) (a : Fin 2) (b : Fin 2048) (c : Fin 4) (d : Fin 128) : pull4 x0 x1 (ix4 a b c d) = (x0 (ix4 a b c d) * x1 (ix4 a b c 0) : EReal) := by
  unfold pull4
  pointwise []

theorem coef4_at (x0 : FVec Ideal S2x2048x4x128 .f32) (x1 : FVec Ideal S2x2048x4x128 .f32) (x2 : FVec Ideal S2x2048x4x1 .f32) (a : Fin 2) (b : Fin 2048) (c : Fin 4) (d : Fin 1) : coef4 x0 x1 x2 (ix4 a b c d) = ((∑ x, x0 (ix4 a b c x) * x1 (ix4 a b c x)) * x2 (ix4 a b c d) : EReal) := by
  unfold coef4
  pointwise []

theorem back4_at (x0 : FVec Ideal S2x2048x4x1 .f32) (x1 : FVec Ideal S2x2048x4x128 .f32) (a : Fin 2) (b : Fin 2048) (c : Fin 4) (d : Fin 128) : back4 x0 x1 (ix4 a b c d) = ((∑ x, Ideal.div (x0 (ix4 a b c x)) (Ideal.ofBits FTy.f32 1124073472#32)) * x1 (ix4 a b c d) : EReal) := by
  unfold back4
  pointwise []

theorem dout4_at (x0 : FVec Ideal S2x2048x4x128 .f32) (x1 : FVec Ideal S2x2048x4x128 .f32) (a : Fin 2) (b : Fin 2048) (c : Fin 4) (d : Fin 128) : dout4 x0 x1 (ix4 a b c d) = (x0 (ix4 a b c d) + x1 (ix4 a b c d) + ∑ _ : Fin 1, Ideal.div (∑ x, -x0 (ix4 a b c x) + ∑ x, -x1 (ix4 a b c x)) (Ideal.ofBits FTy.f32 1124073472#32) : EReal) := by
  unfold dout4
  pointwise []

theorem tr5_at (x0 : FVec Ideal S2x16x128x4x128 .f32) (a : Fin 2) (b : Fin 16) (c : Fin 4) (d : Fin 128) (e : Fin 128) : tr5 x0 (ix5 a b c d e) = (x0 (ix5 a b e c d) : EReal) := by
  unfold tr5
  pointwise []

theorem dq1_at (x0 : FVec Ideal S2x16x4x128x128 .f32) (x1 : FVec Ideal S16x2x4x128x128 .f32) (a : Fin 2) (b : Fin 16) (c : Fin 128) (d : Fin 4) (e : Fin 128) : dq1 x0 x1 (ix5 a b c d e) = (∑ x, x0 (ix5 a b d x c) * x1 (ix5 b a d e x) : EReal) := by
  unfold dq1
  pointwise []

theorem dkv5_at (x0 : FVec Ideal S2x16x4x128x128 .f32) (x1 : FVec Ideal S2x16x128x4x128 .f32) (a : Fin 16) (b : Fin 2) (c : Fin 4) (d : Fin 128) (e : Fin 128) : dkv5 x0 x1 (ix5 a b c d e) = (∑ x, x0 (ix5 b a c e x) * x1 (ix5 b a x c d) : EReal) := by
  unfold dkv5
  pointwise []

theorem dv1_at (x0 : FVec Ideal S16x2x4x128x128 .f32) (x1 : FVec Ideal S2x16x128x4x128 .f32) (a : Fin 2) (b : Fin 16) (c : Fin 128) (d : Fin 4) (e : Fin 128) : dv1 x0 x1 (ix5 a b c d e) = (∑ x, x0 (ix5 b a d x e) * x1 (ix5 a b c d x) : EReal) := by
  unfold dv1
  pointwise []

theorem dk1_at (x0 : FVec Ideal S16x2x4x128x128 .f32) (x1 : FVec Ideal S2x16x128x4x128 .f32) (a : Fin 2) (b : Fin 16) (c : Fin 128) (d : Fin 4) (e : Fin 128) : dk1 x0 x1 (ix5 a b c d e) = (∑ x, x0 (ix5 b a d e x) * x1 (ix5 a b c d x) : EReal) := by
  unfold dk1
  pointwise []

theorem ds5_at (x0 : FVec Ideal S2x16x4x128x128 .f32) (x1 : FVec Ideal S2x16x128x4x128 .f32) (x2 : FVec Ideal S1x4x1x128x128 .f32) (a : Fin 2) (b : Fin 4) (c : Fin 16) (d : Fin 128) (e : Fin 128) : ds5 x0 x1 x2 (ix5 a b c d e) = ((∑ x, x0 (ix5 a c b x d) * x1 (ix5 a c e b x)) * x2 (ix5 0 b 0 d e) : EReal) := by
  unfold ds5
  pointwise []

theorem dv2_at (x0 : FVec Ideal S2x16x4x128x128 .f32) (x1 : FVec Ideal S2x4x16x128x128 .f32) (a : Fin 2) (b : Fin 16) (c : Fin 128) (d : Fin 4) (e : Fin 128) : dv2 x0 x1 (ix5 a b c d e) = (∑ x, x0 (ix5 a b d e x) * x1 (ix5 a d b x c) : EReal) := by
  unfold dv2
  pointwise []

theorem dk2_at (x0 : FVec Ideal S2x4x16x128x128 .f32) (x1 : FVec Ideal S2x16x128x4x128 .f32) (a : Fin 2) (b : Fin 16) (c : Fin 128) (d : Fin 4) (e : Fin 128) : dk2 x0 x1 (ix5 a b c d e) = (∑ x, x0 (ix5 a d b x c) * x1 (ix5 a b x d e) : EReal) := by
  unfold dk2
  pointwise []

theorem dq2_at (x0 : FVec Ideal S2x4x16x128x128 .f32) (x1 : FVec Ideal S2x16x128x4x128 .f32) (a : Fin 2) (b : Fin 16) (c : Fin 128) (d : Fin 4) (e : Fin 128) : dq2 x0 x1 (ix5 a b c d e) = (∑ x, x0 (ix5 a d b c x) * x1 (ix5 a b x d e) : EReal) := by
  unfold dq2
  pointwise []

theorem sum4_at (x0 : FVec Ideal S2x16x128x4x128 .f32) (x1 : FVec Ideal S2x16x128x4x128 .f32) (a : Fin 2) (b : Fin 2048) (c : Fin 4) (d : Fin 128) : sum4 x0 x1 (ix4 a b c d) = (x0 (ix5 a ⟨b.val / 128, by omega⟩ ⟨b.val % 128, by omega⟩ c d) + x1 (ix5 a ⟨b.val / 128, by omega⟩ ⟨b.val % 128, by omega⟩ c d) : EReal) := by
  unfold sum4
  pointwise []

theorem dkx4_at (x0 : FVec Ideal S2x16x128x4x128 .f32) (x1 : FVec Ideal S2x16x128x4x128 .f32) (a : Fin 2) (b : Fin 2048) (c : Fin 4) (d : Fin 128) : dkx4 x0 x1 (ix4 a b c d) = ((x0 (ix5 a ⟨b.val / 128, by omega⟩ ⟨b.val % 128, by omega⟩ c d) + x1 (ix5 a ⟨b.val / 128, by omega⟩ ⟨b.val % 128, by omega⟩ c d)) * Ideal.ofBits FTy.f32 1035273459#32 : EReal) := by
  unfold dkx4
  pointwise []

theorem flat2_at (x0 : FVec Ideal S2x2048x4x128 .f32) (a : Fin 4096) (b : Fin 512) : flat2 x0 (ix2 a b) = (x0 (ix4 ⟨a.val / 2048, by omega⟩ ⟨a.val % 2048, by omega⟩ ⟨b.val / 128, by omega⟩ ⟨b.val % 128, by omega⟩) : EReal) := by
  unfold flat2
  pointwise []

end Cert.Reference6Ideal.Ret

end
-- ==== Proof.RetOps.lean ====
/-
  The retention reference as lists of operations: @main is three runs of plain operations with one counted loop between
  each two, written out stretch by stretch (the module-local functions @main calls are read in place), and the equations
  that say so.
-/
module

public import proofs.«01_k».proof.Proof.Gen.Reference6Ideal
public import Idealize.ShloMosaic.Lib.StableHlo.RunLoop
public import Idealize.ShloMosaic.Lib.Pipeline.Regions

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (binary binary_bufs_sub nullary nullary_bufs_sub reshape reshape_bufs_sub ternary ternary_bufs_sub unary unary_bufs_sub)

variable {F : FTy → Type} [FloatOps F]

local notation "𝔸" T:max => BufTy.Contents (Elt F) T
local notation "𝔽" T:max => BufTy.Contents (Elt F) (BufTy.mk T EltTy.f32)

/-- The operations of @main before the first loop, stretch 0. -/
abbrev pre0 : List (HloOp τ sig (Elt F)) :=
  [ unary main_arg1 main_v0 ((extractStridedSlice S4096x512 ![0, 0] · slices_S4096x3072_S4096x512_0_0) : 𝔽 S4096x3072 → 𝔽 S4096x512),
    unary main_arg1 main_v1 ((extractStridedSlice S4096x512 ![0, 512] · slices_S4096x3072_S4096x512_0_512) : 𝔽 S4096x3072 → 𝔽 S4096x512),
    unary main_arg1 main_v2 ((extractStridedSlice S4096x512 ![0, 1024] · slices_S4096x3072_S4096x512_0_1024) : 𝔽 S4096x3072 → 𝔽 S4096x512),
    unary main_arg1 main_v3 ((extractStridedSlice S4096x512 ![0, 1536] · slices_S4096x3072_S4096x512_0_1536) : 𝔽 S4096x3072 → 𝔽 S4096x512),
    reshape main_v0 main_v4 (rfl : (.f32 : EltTy) = .f32) shapeCasts_S4096x512_S2x2048x4x128,
    reshape main_v1 main_v5 (rfl : (.f32 : EltTy) = .f32) shapeCasts_S4096x512_S2x2048x4x128,
    reshape main_v2 main_v6 (rfl : (.f32 : EltTy) = .f32) shapeCasts_S4096x512_S2x2048x4x128,
    nullary main_v7 (sitofp .f32 (iotaInDim S64 32 0)),
    unary main_v7 main_v8 (Host.negf : 𝔽 S64 → 𝔽 S64),
    nullary main_cst (constant S_ .f32 0x42800000#32),
    unary main_cst main_v9 (broadcastInDim S64 ![] bcast_S_S64 : 𝔽 S_ → 𝔽 S64),
    binary main_v8 main_v9 main_v10 (Host.divf : 𝔽 S64 → 𝔽 S64 → 𝔽 S64),
    nullary main_cst_0 (constant S_ .f32 0x461C4000#32),
    unary main_cst_0 main_v11 (broadcastInDim S64 ![] bcast_S_S64 : 𝔽 S_ → 𝔽 S64),
    binary main_v11 main_v10 main_v12 (Host.powf : 𝔽 S64 → 𝔽 S64 → 𝔽 S64),
    nullary main_v13 (sitofp .f32 (iotaInDim S2048 32 0)),
    unary main_v13 main_v14 (broadcastInDim S2048x1 ![0] bcast_S2048_S2048x1_0 : 𝔽 S2048 → 𝔽 S2048x1),
    unary main_v12 main_v15 (broadcastInDim S1x64 ![1] bcast_S64_S1x64_1 : 𝔽 S64 → 𝔽 S1x64),
    unary main_v14 main_v16 (broadcastInDim S2048x64 ![0, 1] bcast_S2048x1_S2048x64_0_1 : 𝔽 S2048x1 → 𝔽 S2048x64),
    unary main_v15 main_v17 (broadcastInDim S2048x64 ![0, 1] bcast_S1x64_S2048x64_0_1 : 𝔽 S1x64 → 𝔽 S2048x64),
    binary main_v16 main_v17 main_v18 (mulf : 𝔽 S2048x64 → 𝔽 S2048x64 → 𝔽 S2048x64),
    unary main_v18 main_v19 (Host.cos : 𝔽 S2048x64 → 𝔽 S2048x64),
    unary main_v19 main_v20 (broadcastInDim S1x2048x1x64 ![1, 3] bcast_S2048x64_S1x2048x1x64_1_3 : 𝔽 S2048x64 → 𝔽 S1x2048x1x64),
    unary main_v18 main_v21 (Host.sin : 𝔽 S2048x64 → 𝔽 S2048x64),
    unary main_v21 main_v22 (broadcastInDim S1x2048x1x64 ![1, 3] bcast_S2048x64_S1x2048x1x64_1_3 : 𝔽 S2048x64 → 𝔽 S1x2048x1x64),
    unary main_v4 main_v23 ((extractStridedSlice S2x2048x4x64 ![0, 0, 0, 0] · slices_S2x2048x4x128_S2x2048x4x64_0_0_0_0) : 𝔽 S2x2048x4x128 → 𝔽 S2x2048x4x64),
    unary main_v4 main_v24 ((extractStridedSlice S2x2048x4x64 ![0, 0, 0, 64] · slices_S2x2048x4x128_S2x2048x4x64_0_0_0_64) : 𝔽 S2x2048x4x128 → 𝔽 S2x2048x4x64),
    unary main_v20 main_v25 (broadcastInDim S2x2048x4x64 ![0, 1, 2, 3] bcast_S1x2048x1x64_S2x2048x4x64_0_1_2_3 : 𝔽 S1x2048x1x64 → 𝔽 S2x2048x4x64),
    binary main_v23 main_v25 main_v26 (mulf : 𝔽 S2x2048x4x64 → 𝔽 S2x2048x4x64 → 𝔽 S2x2048x4x64),
    unary main_v22 main_v27 (broadcastInDim S2x2048x4x64 ![0, 1, 2, 3] bcast_S1x2048x1x64_S2x2048x4x64_0_1_2_3 : 𝔽 S1x2048x1x64 → 𝔽 S2x2048x4x64),
    binary main_v24 main_v27 main_v28 (mulf : 𝔽 S2x2048x4x64 → 𝔽 S2x2048x4x64 → 𝔽 S2x2048x4x64),
    binary main_v26 main_v28 main_v29 (subf : 𝔽 S2x2048x4x64 → 𝔽 S2x2048x4x64 → 𝔽 S2x2048x4x64),
    unary main_v22 main_v30 (broadcastInDim S2x2048x4x64 ![0, 1, 2, 3] bcast_S1x2048x1x64_S2x2048x4x64_0_1_2_3 : 𝔽 S1x2048x1x64 → 𝔽 S2x2048x4x64),
    binary main_v23 main_v30 main_v31 (mulf : 𝔽 S2x2048x4x64 → 𝔽 S2x2048x4x64 → 𝔽 S2x2048x4x64),
    unary main_v20 main_v32 (broadcastInDim S2x2048x4x64 ![0, 1, 2, 3] bcast_S1x2048x1x64_S2x2048x4x64_0_1_2_3 : 𝔽 S1x2048x1x64 → 𝔽 S2x2048x4x64),
    binary main_v24 main_v32 main_v33 (mulf : 𝔽 S2x2048x4x64 → 𝔽 S2x2048x4x64 → 𝔽 S2x2048x4x64),
    binary main_v31 main_v33 main_v34 (addf : 𝔽 S2x2048x4x64 → 𝔽 S2x2048x4x64 → 𝔽 S2x2048x4x64),
    binary main_v29 main_v34 main_v35 ((fun a b => concatenate S2x2048x4x128 3 [⟨S2x2048x4x64, a⟩, ⟨S2x2048x4x64, b⟩] concatenates_S2x2048x4x64_S2x2048x4x64_S2x2048x4x128_d3) : 𝔽 S2x2048x4x64 → 𝔽 S2x2048x4x64 → 𝔽 S2x2048x4x128),
    nullary main_v36 (sitofp .f32 (iotaInDim S64 32 0)),
    unary main_v36 main_v37 (Host.negf : 𝔽 S64 → 𝔽 S64),
    nullary main_cst_1 (constant S_ .f32 0x42800000#32),
    unary main_cst_1 main_v38 (broadcastInDim S64 ![] bcast_S_S64 : 𝔽 S_ → 𝔽 S64),
    binary main_v37 main_v38 main_v39 (Host.divf : 𝔽 S64 → 𝔽 S64 → 𝔽 S64),
    nullary main_cst_2 (constant S_ .f32 0x461C4000#32),
    unary main_cst_2 main_v40 (broadcastInDim S64 ![] bcast_S_S64 : 𝔽 S_ → 𝔽 S64),
    binary main_v40 main_v39 main_v41 (Host.powf : 𝔽 S64 → 𝔽 S64 → 𝔽 S64),
    nullary main_v42 (sitofp .f32 (iotaInDim S2048 32 0)),
    unary main_v42 main_v43 (broadcastInDim S2048x1 ![0] bcast_S2048_S2048x1_0 : 𝔽 S2048 → 𝔽 S2048x1),
    unary main_v41 main_v44 (broadcastInDim S1x64 ![1] bcast_S64_S1x64_1 : 𝔽 S64 → 𝔽 S1x64),
    unary main_v43 main_v45 (broadcastInDim S2048x64 ![0, 1] bcast_S2048x1_S2048x64_0_1 : 𝔽 S2048x1 → 𝔽 S2048x64),
    unary main_v44 main_v46 (broadcastInDim S2048x64 ![0, 1] bcast_S1x64_S2048x64_0_1 : 𝔽 S1x64 → 𝔽 S2048x64),
    binary main_v45 main_v46 main_v47 (mulf : 𝔽 S2048x64 → 𝔽 S2048x64 → 𝔽 S2048x64),
    unary main_v47 main_v48 (Host.cos : 𝔽 S2048x64 → 𝔽 S2048x64),
    unary main_v48 main_v49 (broadcastInDim S1x2048x1x64 ![1, 3] bcast_S2048x64_S1x2048x1x64_1_3 : 𝔽 S2048x64 → 𝔽 S1x2048x1x64),
    unary main_v47 main_v50 (Host.sin : 𝔽 S2048x64 → 𝔽 S2048x64),
    unary main_v50 main_v51 (broadcastInDim S1x2048x1x64 ![1, 3] bcast_S2048x64_S1x2048x1x64_1_3 : 𝔽 S2048x64 → 𝔽 S1x2048x1x64),
    unary main_v5 main_v52 ((extractStridedSlice S2x2048x4x64 ![0, 0, 0, 0] · slices_S2x2048x4x128_S2x2048x4x64_0_0_0_0) : 𝔽 S2x2048x4x128 → 𝔽 S2x2048x4x64),
    unary main_v5 main_v53 ((extractStridedSlice S2x2048x4x64 ![0, 0, 0, 64] · slices_S2x2048x4x128_S2x2048x4x64_0_0_0_64) : 𝔽 S2x2048x4x128 → 𝔽 S2x2048x4x64),
    unary main_v49 main_v54 (broadcastInDim S2x2048x4x64 ![0, 1, 2, 3] bcast_S1x2048x1x64_S2x2048x4x64_0_1_2_3 : 𝔽 S1x2048x1x64 → 𝔽 S2x2048x4x64),
    binary main_v52 main_v54 main_v55 (mulf : 𝔽 S2x2048x4x64 → 𝔽 S2x2048x4x64 → 𝔽 S2x2048x4x64) ]

theorem pre0_sub : (pre0 (F := F)).Forall fun op => op.bufs ⊆ StableHlo.tcRefs τ sig := by
  simp only [List.Forall, binary_bufs_sub, nullary_bufs_sub, reshape_bufs_sub, unary_bufs_sub, and_self]

/-- The operations of @main before the first loop, stretch 1. -/
abbrev pre1 : List (HloOp τ sig (Elt F)) :=
  [ unary main_v51 main_v56 (broadcastInDim S2x2048x4x64 ![0, 1, 2, 3] bcast_S1x2048x1x64_S2x2048x4x64_0_1_2_3 : 𝔽 S1x2048x1x64 → 𝔽 S2x2048x4x64),
    binary main_v53 main_v56 main_v57 (mulf : 𝔽 S2x2048x4x64 → 𝔽 S2x2048x4x64 → 𝔽 S2x2048x4x64),
    binary main_v55 main_v57 main_v58 (subf : 𝔽 S2x2048x4x64 → 𝔽 S2x2048x4x64 → 𝔽 S2x2048x4x64),
    unary main_v51 main_v59 (broadcastInDim S2x2048x4x64 ![0, 1, 2, 3] bcast_S1x2048x1x64_S2x2048x4x64_0_1_2_3 : 𝔽 S1x2048x1x64 → 𝔽 S2x2048x4x64),
    binary main_v52 main_v59 main_v60 (mulf : 𝔽 S2x2048x4x64 → 𝔽 S2x2048x4x64 → 𝔽 S2x2048x4x64),
    unary main_v49 main_v61 (broadcastInDim S2x2048x4x64 ![0, 1, 2, 3] bcast_S1x2048x1x64_S2x2048x4x64_0_1_2_3 : 𝔽 S1x2048x1x64 → 𝔽 S2x2048x4x64),
    binary main_v53 main_v61 main_v62 (mulf : 𝔽 S2x2048x4x64 → 𝔽 S2x2048x4x64 → 𝔽 S2x2048x4x64),
    binary main_v60 main_v62 main_v63 (addf : 𝔽 S2x2048x4x64 → 𝔽 S2x2048x4x64 → 𝔽 S2x2048x4x64),
    binary main_v58 main_v63 main_v64 ((fun a b => concatenate S2x2048x4x128 3 [⟨S2x2048x4x64, a⟩, ⟨S2x2048x4x64, b⟩] concatenates_S2x2048x4x64_S2x2048x4x64_S2x2048x4x128_d3) : 𝔽 S2x2048x4x64 → 𝔽 S2x2048x4x64 → 𝔽 S2x2048x4x128),
    nullary main_cst_3 (constant S_ .f32 0x3DB504F3#32),
    unary main_cst_3 main_v65 (broadcastInDim S2x2048x4x128 ![] bcast_S_S2x2048x4x128 : 𝔽 S_ → 𝔽 S2x2048x4x128),
    binary main_v64 main_v65 main_v66 (mulf : 𝔽 S2x2048x4x128 → 𝔽 S2x2048x4x128 → 𝔽 S2x2048x4x128),
    nullary main_v67 (sitofp .f32 (iotaInDim S4 32 0)),
    nullary main_cst_4 (constant S_ .f32 0xC0A00000#32),
    unary main_cst_4 main_v68 (broadcastInDim S4 ![] bcast_S_S4 : 𝔽 S_ → 𝔽 S4),
    binary main_v68 main_v67 main_v69 (subf : 𝔽 S4 → 𝔽 S4 → 𝔽 S4),
    nullary main_cst_5 (constant S_ .f32 0x40000000#32),
    unary main_cst_5 main_v70 (broadcastInDim S4 ![] bcast_S_S4 : 𝔽 S_ → 𝔽 S4),
    binary main_v70 main_v69 main_v71 (Host.powf : 𝔽 S4 → 𝔽 S4 → 𝔽 S4),
    unary main_v71 main_v72 (Host.negf : 𝔽 S4 → 𝔽 S4),
    unary main_v72 main_v73 (Host.log1p : 𝔽 S4 → 𝔽 S4),
    nullary main_v74 (sitofp .f32 (iotaInDim S128 32 0)),
    unary main_v74 main_v75 (broadcastInDim S128x1 ![0] bcast_S128_S128x1_0 : 𝔽 S128 → 𝔽 S128x1),
    unary main_v74 main_v76 (broadcastInDim S1x128 ![1] bcast_S128_S1x128_1 : 𝔽 S128 → 𝔽 S1x128),
    unary main_v75 main_v77 (broadcastInDim S128x128 ![0, 1] bcast_S128x1_S128x128_0_1 : 𝔽 S128x1 → 𝔽 S128x128),
    unary main_v76 main_v78 (broadcastInDim S128x128 ![0, 1] bcast_S1x128_S128x128_0_1 : 𝔽 S1x128 → 𝔽 S128x128),
    binary main_v77 main_v78 main_v79 (subf : 𝔽 S128x128 → 𝔽 S128x128 → 𝔽 S128x128),
    nullary main_cst_6 (constant S_ .f32 0x00000000#32),
    unary main_cst_6 main_v80 (broadcastInDim S128x128 ![] bcast_S_S128x128 : 𝔽 S_ → 𝔽 S128x128),
    binary main_v79 main_v80 main_v81 (cmpf .oge : 𝔽 S128x128 → 𝔽 S128x128 → 𝔸 ⟨S128x128, .i1⟩),
    unary main_v73 main_v82 (broadcastInDim S4x1x1 ![0] bcast_S4_S4x1x1_0 : 𝔽 S4 → 𝔽 S4x1x1),
    nullary main_cst_7 (constant S_ .f32 0x00000000#32),
    unary main_cst_7 main_v83 (broadcastInDim S128x128 ![] bcast_S_S128x128 : 𝔽 S_ → 𝔽 S128x128),
    binary main_v79 main_v83 main_v84 (maximumf : 𝔽 S128x128 → 𝔽 S128x128 → 𝔽 S128x128),
    unary main_v84 main_v85 (broadcastInDim S1x128x128 ![1, 2] bcast_S128x128_S1x128x128_1_2 : 𝔽 S128x128 → 𝔽 S1x128x128),
    unary main_v82 main_v86 (broadcastInDim S4x128x128 ![0, 1, 2] bcast_S4x1x1_S4x128x128_0_1_2 : 𝔽 S4x1x1 → 𝔽 S4x128x128),
    unary main_v85 main_v87 (broadcastInDim S4x128x128 ![0, 1, 2] bcast_S1x128x128_S4x128x128_0_1_2 : 𝔽 S1x128x128 → 𝔽 S4x128x128),
    binary main_v86 main_v87 main_v88 (mulf : 𝔽 S4x128x128 → 𝔽 S4x128x128 → 𝔽 S4x128x128),
    unary main_v88 main_v89 (Host.exp : 𝔽 S4x128x128 → 𝔽 S4x128x128),
    nullary main_cst_8 (constant S_ .f32 0x00000000#32),
    unary main_cst_8 main_call0_v0 (id : 𝔽 S_ → 𝔽 S_),
    unary main_v81 main_call0_v1 ((broadcastInDim S4x128x128 ![1, 2] bcast_S128x128_S4x128x128_1_2) : 𝔸 ⟨S128x128, .i1⟩ → 𝔸 ⟨S4x128x128, .i1⟩),
    unary main_call0_v0 main_call0_v2 ((broadcastInDim S4x128x128 ![] bcast_S_S4x128x128) : 𝔽 S_ → 𝔽 S4x128x128),
    ternary main_call0_v1 main_v89 main_call0_v2 main_v90 (select : 𝔸 ⟨S4x128x128, .i1⟩ → 𝔽 S4x128x128 → 𝔽 S4x128x128 → 𝔽 S4x128x128),
    reshape main_v35 main_v91 (rfl : (.f32 : EltTy) = .f32) shapeCasts_S2x2048x4x128_S2x16x128x4x128,
    reshape main_v66 main_v92 (rfl : (.f32 : EltTy) = .f32) shapeCasts_S2x2048x4x128_S2x16x128x4x128,
    reshape main_v6 main_v93 (rfl : (.f32 : EltTy) = .f32) shapeCasts_S2x2048x4x128_S2x16x128x4x128,
    binary main_v91 main_v92 main_v94 ((fun l r => Host.dotGeneral dot_S2x16x128x4x128_S2x16x128x4x128_S2x4x16x128x128_4_4_2_2_031_031 none l r) : 𝔽 S2x16x128x4x128 → 𝔽 S2x16x128x4x128 → 𝔽 S2x4x16x128x128),
    unary main_v90 main_v95 (broadcastInDim S1x4x1x128x128 ![1, 3, 4] bcast_S4x128x128_S1x4x1x128x128_1_3_4 : 𝔽 S4x128x128 → 𝔽 S1x4x1x128x128),
    unary main_v95 main_v96 (broadcastInDim S2x4x16x128x128 ![0, 1, 2, 3, 4] bcast_S1x4x1x128x128_S2x4x16x128x128_0_1_2_3_4 : 𝔽 S1x4x1x128x128 → 𝔽 S2x4x16x128x128),
    binary main_v94 main_v96 main_v97 (mulf : 𝔽 S2x4x16x128x128 → 𝔽 S2x4x16x128x128 → 𝔽 S2x4x16x128x128),
    binary main_v93 main_v97 main_v98 ((fun l r => Host.dotGeneral dot_S2x16x128x4x128_S2x4x16x128x128_S2x16x4x128x128_2_4_4_3_013_021 none l r) : 𝔽 S2x16x128x4x128 → 𝔽 S2x4x16x128x128 → 𝔽 S2x16x4x128x128),
    unary main_v98 main_v99 ((transpose S2x16x128x4x128 [0, 1, 4, 2, 3] · transposes_S2x16x4x128x128_S2x16x128x4x128_0_1_4_2_3) : 𝔽 S2x16x4x128x128 → 𝔽 S2x16x128x4x128),
    unary main_v73 main_v100 (broadcastInDim S4x1 ![0] bcast_S4_S4x1_0 : 𝔽 S4 → 𝔽 S4x1),
    nullary main_cst_9 (constant S_ .f32 0x42FE0000#32),
    unary main_cst_9 main_v101 (broadcastInDim S128 ![] bcast_S_S128 : 𝔽 S_ → 𝔽 S128),
    binary main_v101 main_v74 main_v102 (subf : 𝔽 S128 → 𝔽 S128 → 𝔽 S128),
    unary main_v102 main_v103 (broadcastInDim S1x128 ![1] bcast_S128_S1x128_1 : 𝔽 S128 → 𝔽 S1x128),
    unary main_v100 main_v104 (broadcastInDim S4x128 ![0, 1] bcast_S4x1_S4x128_0_1 : 𝔽 S4x1 → 𝔽 S4x128),
    unary main_v103 main_v105 (broadcastInDim S4x128 ![0, 1] bcast_S1x128_S4x128_0_1 : 𝔽 S1x128 → 𝔽 S4x128),
    binary main_v104 main_v105 main_v106 (mulf : 𝔽 S4x128 → 𝔽 S4x128 → 𝔽 S4x128),
    unary main_v106 main_v107 (Host.exp : 𝔽 S4x128 → 𝔽 S4x128),
    unary main_v107 main_v108 ((transpose S128x4 [1, 0] · transposes_S4x128_S128x4_1_0) : 𝔽 S4x128 → 𝔽 S128x4) ]

theorem pre1_sub : (pre1 (F := F)).Forall fun op => op.bufs ⊆ StableHlo.tcRefs τ sig := by
  simp only [List.Forall, binary_bufs_sub, nullary_bufs_sub, reshape_bufs_sub, ternary_bufs_sub, unary_bufs_sub, and_self]

/-- The operations of @main before the first loop, stretch 2. -/
abbrev pre2 : List (HloOp τ sig (Elt F)) :=
  [ unary main_v108 main_v109 (broadcastInDim S1x1x128x4x1 ![2, 3] bcast_S128x4_S1x1x128x4x1_2_3 : 𝔽 S128x4 → 𝔽 S1x1x128x4x1),
    unary main_v109 main_v110 (broadcastInDim S2x16x128x4x128 ![0, 1, 2, 3, 4] bcast_S1x1x128x4x1_S2x16x128x4x128_0_1_2_3_4 : 𝔽 S1x1x128x4x1 → 𝔽 S2x16x128x4x128),
    binary main_v92 main_v110 main_v111 (mulf : 𝔽 S2x16x128x4x128 → 𝔽 S2x16x128x4x128 → 𝔽 S2x16x128x4x128),
    binary main_v111 main_v93 main_v112 ((fun l r => Host.dotGeneral dot_S2x16x128x4x128_S2x16x128x4x128_S16x2x4x128x128_2_2_4_4_103_103 none l r) : 𝔽 S2x16x128x4x128 → 𝔽 S2x16x128x4x128 → 𝔽 S16x2x4x128x128),
    nullary main_cst_10 (constant S_ .f32 0x43000000#32),
    unary main_cst_10 main_v113 (broadcastInDim S4 ![] bcast_S_S4 : 𝔽 S_ → 𝔽 S4),
    binary main_v73 main_v113 main_v114 (mulf : 𝔽 S4 → 𝔽 S4 → 𝔽 S4),
    unary main_v114 main_v115 (Host.exp : 𝔽 S4 → 𝔽 S4),
    unary main_v115 main_v116 (broadcastInDim S1x4x1x1 ![1] bcast_S4_S1x4x1x1_1 : 𝔽 S4 → 𝔽 S1x4x1x1),
    nullary main_cst_11 (constant S_ .f32 0x00000000#32),
    unary main_cst_11 main_v117 (broadcastInDim S2x4x128x128 ![] bcast_S_S2x4x128x128 : 𝔽 S_ → 𝔽 S2x4x128x128),
    nullary main_cst_12 (constant S_ .f32 0x00000000#32),
    unary main_cst_12 main_v118 (broadcastInDim S16x2x4x128x128 ![] bcast_S_S16x2x4x128x128 : 𝔽 S_ → 𝔽 S16x2x4x128x128),
    nullary main_c (constantI S_ 32 0#32),
    unary main_v112 main_v119_0 id,
    unary main_v116 main_v119_1 id,
    unary main_c main_v119_2 id,
    unary main_v117 main_v119_3 id,
    unary main_v118 main_v119_4 id ]

theorem pre2_sub : (pre2 (F := F)).Forall fun op => op.bufs ⊆ StableHlo.tcRefs τ sig := by
  simp only [List.Forall, binary_bufs_sub, nullary_bufs_sub, unary_bufs_sub, and_self]

/-- The operations of @main between the loops, stretch 0. -/
abbrev mid0 : List (HloOp τ sig (Elt F)) :=
  [ unary main_v73 main_v120 (broadcastInDim S4x1 ![0] bcast_S4_S4x1_0 : 𝔽 S4 → 𝔽 S4x1),
    nullary main_cst_13 (constant S_ .f32 0x3F800000#32),
    unary main_cst_13 main_v121 (broadcastInDim S128 ![] bcast_S_S128 : 𝔽 S_ → 𝔽 S128),
    binary main_v74 main_v121 main_v122 (addf : 𝔽 S128 → 𝔽 S128 → 𝔽 S128),
    unary main_v122 main_v123 (broadcastInDim S1x128 ![1] bcast_S128_S1x128_1 : 𝔽 S128 → 𝔽 S1x128),
    unary main_v120 main_v124 (broadcastInDim S4x128 ![0, 1] bcast_S4x1_S4x128_0_1 : 𝔽 S4x1 → 𝔽 S4x128),
    unary main_v123 main_v125 (broadcastInDim S4x128 ![0, 1] bcast_S1x128_S4x128_0_1 : 𝔽 S1x128 → 𝔽 S4x128),
    binary main_v124 main_v125 main_v126 (mulf : 𝔽 S4x128 → 𝔽 S4x128 → 𝔽 S4x128),
    unary main_v126 main_v127 (Host.exp : 𝔽 S4x128 → 𝔽 S4x128),
    unary main_v127 main_v128 ((transpose S128x4 [1, 0] · transposes_S4x128_S128x4_1_0) : 𝔽 S4x128 → 𝔽 S128x4),
    unary main_v128 main_v129 (broadcastInDim S1x1x128x4x1 ![2, 3] bcast_S128x4_S1x1x128x4x1_2_3 : 𝔽 S128x4 → 𝔽 S1x1x128x4x1),
    unary main_v129 main_v130 (broadcastInDim S2x16x128x4x128 ![0, 1, 2, 3, 4] bcast_S1x1x128x4x1_S2x16x128x4x128_0_1_2_3_4 : 𝔽 S1x1x128x4x1 → 𝔽 S2x16x128x4x128),
    binary main_v91 main_v130 main_v131 (mulf : 𝔽 S2x16x128x4x128 → 𝔽 S2x16x128x4x128 → 𝔽 S2x16x128x4x128),
    binary main_v119_4 main_v131 main_v132 ((fun l r => Host.dotGeneral dot_S16x2x4x128x128_S2x16x128x4x128_S2x16x4x128x128_3_4_4_2_102_013 none l r) : 𝔽 S16x2x4x128x128 → 𝔽 S2x16x128x4x128 → 𝔽 S2x16x4x128x128),
    unary main_v132 main_v133 ((transpose S2x16x128x4x128 [0, 1, 4, 2, 3] · transposes_S2x16x4x128x128_S2x16x128x4x128_0_1_4_2_3) : 𝔽 S2x16x4x128x128 → 𝔽 S2x16x128x4x128),
    binary main_v99 main_v133 main_v134 (addf : 𝔽 S2x16x128x4x128 → 𝔽 S2x16x128x4x128 → 𝔽 S2x16x128x4x128),
    reshape main_v134 main_v135 (rfl : (.f32 : EltTy) = .f32) shapeCasts_S2x16x128x4x128_S2x2048x4x128,
    reshape main_arg2 main_v136 (rfl : (.f32 : EltTy) = .f32) shapeCasts_S1x512_S512,
    nullary main_cst_14 (constant S_ .f32 0x00000000#32),
    binary main_v135 main_cst_14 main_v137 ((fun x v => Host.reduceAdd x v reducesTo_S2x2048x4x128_S2x2048x4_d3 h_S_) : 𝔽 S2x2048x4x128 → 𝔽 S_ → 𝔽 S2x2048x4),
    unary main_v137 main_v138 (broadcastInDim S2x2048x4x1 ![0, 1, 2] bcast_S2x2048x4_S2x2048x4x1_0_1_2 : 𝔽 S2x2048x4 → 𝔽 S2x2048x4x1),
    nullary main_cst_15 (constant S_ .f32 0x43000000#32),
    unary main_cst_15 main_v139 (broadcastInDim S2x2048x4x1 ![] bcast_S_S2x2048x4x1 : 𝔽 S_ → 𝔽 S2x2048x4x1),
    binary main_v138 main_v139 main_v140 (Host.divf : 𝔽 S2x2048x4x1 → 𝔽 S2x2048x4x1 → 𝔽 S2x2048x4x1),
    unary main_v140 main_v141 (broadcastInDim S2x2048x4x128 ![0, 1, 2, 3] bcast_S2x2048x4x1_S2x2048x4x128_0_1_2_3 : 𝔽 S2x2048x4x1 → 𝔽 S2x2048x4x128),
    binary main_v135 main_v141 main_v142 (subf : 𝔽 S2x2048x4x128 → 𝔽 S2x2048x4x128 → 𝔽 S2x2048x4x128),
    binary main_v142 main_v142 main_v143 (mulf : 𝔽 S2x2048x4x128 → 𝔽 S2x2048x4x128 → 𝔽 S2x2048x4x128),
    nullary main_cst_16 (constant S_ .f32 0x40000000#32),
    unary main_cst_16 main_v144 (broadcastInDim S2x2048x4x128 ![] bcast_S_S2x2048x4x128 : 𝔽 S_ → 𝔽 S2x2048x4x128),
    binary main_v144 main_v142 main_v145 (mulf : 𝔽 S2x2048x4x128 → 𝔽 S2x2048x4x128 → 𝔽 S2x2048x4x128),
    nullary main_cst_17 (constant S_ .f32 0x00000000#32),
    binary main_v143 main_cst_17 main_v146 ((fun x v => Host.reduceAdd x v reducesTo_S2x2048x4x128_S2x2048x4_d3 h_S_) : 𝔽 S2x2048x4x128 → 𝔽 S_ → 𝔽 S2x2048x4),
    unary main_v146 main_v147 (broadcastInDim S2x2048x4x1 ![0, 1, 2] bcast_S2x2048x4_S2x2048x4x1_0_1_2 : 𝔽 S2x2048x4 → 𝔽 S2x2048x4x1),
    nullary main_cst_18 (constant S_ .f32 0x43000000#32),
    unary main_cst_18 main_v148 (broadcastInDim S2x2048x4x1 ![] bcast_S_S2x2048x4x1 : 𝔽 S_ → 𝔽 S2x2048x4x1),
    binary main_v147 main_v148 main_v149 (Host.divf : 𝔽 S2x2048x4x1 → 𝔽 S2x2048x4x1 → 𝔽 S2x2048x4x1),
    unary main_v140 main_v150 (broadcastInDim S2x2048x4x128 ![0, 1, 2, 3] bcast_S2x2048x4x1_S2x2048x4x128_0_1_2_3 : 𝔽 S2x2048x4x1 → 𝔽 S2x2048x4x128),
    binary main_v135 main_v150 main_v151 (subf : 𝔽 S2x2048x4x128 → 𝔽 S2x2048x4x128 → 𝔽 S2x2048x4x128),
    nullary main_cst_19 (constant S_ .f32 0x358637BD#32),
    unary main_cst_19 main_v152 (broadcastInDim S2x2048x4x1 ![] bcast_S_S2x2048x4x1 : 𝔽 S_ → 𝔽 S2x2048x4x1) ]

theorem mid0_sub : (mid0 (F := F)).Forall fun op => op.bufs ⊆ StableHlo.tcRefs τ sig := by
  simp only [List.Forall, binary_bufs_sub, nullary_bufs_sub, reshape_bufs_sub, unary_bufs_sub, and_self]

/-- The operations of @main between the loops, stretch 1. -/
abbrev mid1 : List (HloOp τ sig (Elt F)) :=
  [ binary main_v149 main_v152 main_v153 (addf : 𝔽 S2x2048x4x1 → 𝔽 S2x2048x4x1 → 𝔽 S2x2048x4x1),
    unary main_v153 main_v154 (Host.rsqrt : 𝔽 S2x2048x4x1 → 𝔽 S2x2048x4x1),
    binary main_v154 main_v153 main_v155 (Host.divf : 𝔽 S2x2048x4x1 → 𝔽 S2x2048x4x1 → 𝔽 S2x2048x4x1),
    nullary main_cst_20 (constant S_ .f32 0xBF000000#32),
    unary main_cst_20 main_v156 (broadcastInDim S2x2048x4x1 ![] bcast_S_S2x2048x4x1 : 𝔽 S_ → 𝔽 S2x2048x4x1),
    binary main_v156 main_v155 main_v157 (mulf : 𝔽 S2x2048x4x1 → 𝔽 S2x2048x4x1 → 𝔽 S2x2048x4x1),
    unary main_v154 main_v158 (broadcastInDim S2x2048x4x128 ![0, 1, 2, 3] bcast_S2x2048x4x1_S2x2048x4x128_0_1_2_3 : 𝔽 S2x2048x4x1 → 𝔽 S2x2048x4x128),
    binary main_v151 main_v158 main_v159 (mulf : 𝔽 S2x2048x4x128 → 𝔽 S2x2048x4x128 → 𝔽 S2x2048x4x128),
    reshape main_v159 main_v160 (rfl : (.f32 : EltTy) = .f32) shapeCasts_S2x2048x4x128_S2x2048x512,
    unary main_v136 main_v161 (broadcastInDim S1x1x512 ![2] bcast_S512_S1x1x512_2 : 𝔽 S512 → 𝔽 S1x1x512),
    unary main_v161 main_v162 (broadcastInDim S2x2048x512 ![0, 1, 2] bcast_S1x1x512_S2x2048x512_0_1_2 : 𝔽 S1x1x512 → 𝔽 S2x2048x512),
    binary main_v160 main_v162 main_v163 (mulf : 𝔽 S2x2048x512 → 𝔽 S2x2048x512 → 𝔽 S2x2048x512),
    reshape main_v3 main_v164 (rfl : (.f32 : EltTy) = .f32) shapeCasts_S4096x512_S2x2048x512,
    unary main_v164 main_call3_v0 (Host.negf : 𝔽 S2x2048x512 → 𝔽 S2x2048x512),
    unary main_call3_v0 main_call3_v1 (Host.exp : 𝔽 S2x2048x512 → 𝔽 S2x2048x512),
    nullary main_call3_cst (constant S_ .f32 0x3F800000#32),
    unary main_call3_cst main_call3_v2 ((broadcastInDim S2x2048x512 ![] bcast_S_S2x2048x512) : 𝔽 S_ → 𝔽 S2x2048x512),
    binary main_call3_v2 main_call3_v1 main_call3_v3 (addf : 𝔽 S2x2048x512 → 𝔽 S2x2048x512 → 𝔽 S2x2048x512),
    nullary main_call3_cst_0 (constant S_ .f32 0x3F800000#32),
    unary main_call3_cst_0 main_call3_v4 ((broadcastInDim S2x2048x512 ![] bcast_S_S2x2048x512) : 𝔽 S_ → 𝔽 S2x2048x512),
    binary main_call3_v4 main_call3_v3 main_v165_2 (Host.divf : 𝔽 S2x2048x512 → 𝔽 S2x2048x512 → 𝔽 S2x2048x512),
    nullary main_call3_cst_1 (constant S_ .f32 0x3F800000#32),
    unary main_call3_cst_1 main_call3_v6 ((broadcastInDim S2x2048x512 ![] bcast_S_S2x2048x512) : 𝔽 S_ → 𝔽 S2x2048x512),
    binary main_call3_v6 main_v165_2 main_call3_v7 (subf : 𝔽 S2x2048x512 → 𝔽 S2x2048x512 → 𝔽 S2x2048x512),
    binary main_v165_2 main_call3_v7 main_v165_1 (mulf : 𝔽 S2x2048x512 → 𝔽 S2x2048x512 → 𝔽 S2x2048x512),
    binary main_v164 main_v165_2 main_v165_0 (mulf : 𝔽 S2x2048x512 → 𝔽 S2x2048x512 → 𝔽 S2x2048x512),
    binary main_v163 main_v165_0 main_v166 (mulf : 𝔽 S2x2048x512 → 𝔽 S2x2048x512 → 𝔽 S2x2048x512),
    reshape main_v166 main_v167 (rfl : (.f32 : EltTy) = .f32) shapeCasts_S2x2048x512_S4096x512,
    unary main_arg0 main_v168 ((extractStridedSlice S4096x512 ![0, 0] · slices_S4096x1024_S4096x512_0_0) : 𝔽 S4096x1024 → 𝔽 S4096x512),
    nullary main_cst_21 (constant S_ .f32 0x00000000#32),
    unary main_cst_21 main_v169 (broadcastInDim S2x4x128x128 ![] bcast_S_S2x4x128x128 : 𝔽 S_ → 𝔽 S2x4x128x128),
    reshape main_v168 main_v170 (rfl : (.f32 : EltTy) = .f32) shapeCasts_S4096x512_S2x2048x512,
    binary main_v163 main_v170 main_v171 (mulf : 𝔽 S2x2048x512 → 𝔽 S2x2048x512 → 𝔽 S2x2048x512),
    binary main_v170 main_v165_0 main_v172 (mulf : 𝔽 S2x2048x512 → 𝔽 S2x2048x512 → 𝔽 S2x2048x512),
    binary main_v164 main_v171 main_call4_v0 (mulf : 𝔽 S2x2048x512 → 𝔽 S2x2048x512 → 𝔽 S2x2048x512),
    binary main_v171 main_v165_2 main_call4_v1 (mulf : 𝔽 S2x2048x512 → 𝔽 S2x2048x512 → 𝔽 S2x2048x512),
    binary main_call4_v0 main_v165_1 main_call4_v2 (mulf : 𝔽 S2x2048x512 → 𝔽 S2x2048x512 → 𝔽 S2x2048x512),
    binary main_call4_v1 main_call4_v2 main_v173 (addf : 𝔽 S2x2048x512 → 𝔽 S2x2048x512 → 𝔽 S2x2048x512),
    reshape main_v173 main_v174 (rfl : (.f32 : EltTy) = .f32) shapeCasts_S2x2048x512_S4096x512,
    binary main_v160 main_v172 main_v175 (mulf : 𝔽 S2x2048x512 → 𝔽 S2x2048x512 → 𝔽 S2x2048x512),
    nullary main_cst_22 (constant S_ .f32 0x00000000#32),
    binary main_v175 main_cst_22 main_v176 ((fun x v => Host.reduceAdd x v reducesTo_S2x2048x512_S512_d0_1 h_S_) : 𝔽 S2x2048x512 → 𝔽 S_ → 𝔽 S512),
    reshape main_v176 main_v177 (rfl : (.f32 : EltTy) = .f32) shapeCasts_S512_S1x1x512,
    unary main_v161 main_v178 (broadcastInDim S2x2048x512 ![0, 1, 2] bcast_S1x1x512_S2x2048x512_0_1_2 : 𝔽 S1x1x512 → 𝔽 S2x2048x512),
    binary main_v172 main_v178 main_v179 (mulf : 𝔽 S2x2048x512 → 𝔽 S2x2048x512 → 𝔽 S2x2048x512),
    nullary main_cst_23 (constant S_ .f32 0x00000000#32),
    binary main_v177 main_cst_23 main_v180 ((fun x v => Host.reduceAdd x v reducesTo_S1x1x512_S512_d0_1 h_S_) : 𝔽 S1x1x512 → 𝔽 S_ → 𝔽 S512),
    reshape main_v179 main_v181 (rfl : (.f32 : EltTy) = .f32) shapeCasts_S2x2048x512_S2x2048x4x128,
    binary main_v151 main_v181 main_v182 (mulf : 𝔽 S2x2048x4x128 → 𝔽 S2x2048x4x128 → 𝔽 S2x2048x4x128),
    nullary main_cst_24 (constant S_ .f32 0x00000000#32),
    binary main_v182 main_cst_24 main_v183 ((fun x v => Host.reduceAdd x v reducesTo_S2x2048x4x128_S2x2048x4_d3 h_S_) : 𝔽 S2x2048x4x128 → 𝔽 S_ → 𝔽 S2x2048x4),
    reshape main_v183 main_v184 (rfl : (.f32 : EltTy) = .f32) shapeCasts_S2x2048x4_S2x2048x4x1,
    unary main_v154 main_v185 (broadcastInDim S2x2048x4x128 ![0, 1, 2, 3] bcast_S2x2048x4x1_S2x2048x4x128_0_1_2_3 : 𝔽 S2x2048x4x1 → 𝔽 S2x2048x4x128),
    binary main_v181 main_v185 main_v186 (mulf : 𝔽 S2x2048x4x128 → 𝔽 S2x2048x4x128 → 𝔽 S2x2048x4x128),
    binary main_v184 main_v157 main_v187 (mulf : 𝔽 S2x2048x4x1 → 𝔽 S2x2048x4x1 → 𝔽 S2x2048x4x1),
    unary main_v186 main_v188 (Host.negf : 𝔽 S2x2048x4x128 → 𝔽 S2x2048x4x128),
    nullary main_cst_25 (constant S_ .f32 0x00000000#32),
    binary main_v188 main_cst_25 main_v189 ((fun x v => Host.reduceAdd x v reducesTo_S2x2048x4x128_S2x2048x4_d3 h_S_) : 𝔽 S2x2048x4x128 → 𝔽 S_ → 𝔽 S2x2048x4),
    reshape main_v189 main_v190 (rfl : (.f32 : EltTy) = .f32) shapeCasts_S2x2048x4_S2x2048x4x1,
    nullary main_cst_26 (constant S_ .f32 0x43000000#32),
    unary main_cst_26 main_v191 (broadcastInDim S2x2048x4x1 ![] bcast_S_S2x2048x4x1 : 𝔽 S_ → 𝔽 S2x2048x4x1),
    binary main_v187 main_v191 main_v192 (Host.divf : 𝔽 S2x2048x4x1 → 𝔽 S2x2048x4x1 → 𝔽 S2x2048x4x1),
    nullary main_cst_27 (constant S_ .f32 0x00000000#32),
    binary main_v192 main_cst_27 main_v193 ((fun x v => Host.reduceAdd x v reducesTo_S2x2048x4x1_S2x2048x4_d3 h_S_) : 𝔽 S2x2048x4x1 → 𝔽 S_ → 𝔽 S2x2048x4),
    unary main_v193 main_v194 (broadcastInDim S2x2048x4x128 ![0, 1, 2] bcast_S2x2048x4_S2x2048x4x128_0_1_2 : 𝔽 S2x2048x4 → 𝔽 S2x2048x4x128),
    binary main_v194 main_v145 main_v195 (mulf : 𝔽 S2x2048x4x128 → 𝔽 S2x2048x4x128 → 𝔽 S2x2048x4x128),
    unary main_v195 main_v196 (Host.negf : 𝔽 S2x2048x4x128 → 𝔽 S2x2048x4x128),
    nullary main_cst_28 (constant S_ .f32 0x00000000#32),
    binary main_v196 main_cst_28 main_v197 ((fun x v => Host.reduceAdd x v reducesTo_S2x2048x4x128_S2x2048x4_d3 h_S_) : 𝔽 S2x2048x4x128 → 𝔽 S_ → 𝔽 S2x2048x4),
    reshape main_v197 main_v198 (rfl : (.f32 : EltTy) = .f32) shapeCasts_S2x2048x4_S2x2048x4x1,
    binary main_v186 main_v195 main_v199 (addf : 𝔽 S2x2048x4x128 → 𝔽 S2x2048x4x128 → 𝔽 S2x2048x4x128),
    binary main_v190 main_v198 main_v200 (addf : 𝔽 S2x2048x4x1 → 𝔽 S2x2048x4x1 → 𝔽 S2x2048x4x1),
    nullary main_cst_29 (constant S_ .f32 0x43000000#32),
    unary main_cst_29 main_v201 (broadcastInDim S2x2048x4x1 ![] bcast_S_S2x2048x4x1 : 𝔽 S_ → 𝔽 S2x2048x4x1),
    binary main_v200 main_v201 main_v202 (Host.divf : 𝔽 S2x2048x4x1 → 𝔽 S2x2048x4x1 → 𝔽 S2x2048x4x1) ]

theorem mid1_sub : (mid1 (F := F)).Forall fun op => op.bufs ⊆ StableHlo.tcRefs τ sig := by
  simp only [List.Forall, binary_bufs_sub, nullary_bufs_sub, reshape_bufs_sub, unary_bufs_sub, and_self]

/-- The operations of @main between the loops, stretch 2. -/
abbrev mid2 : List (HloOp τ sig (Elt F)) :=
  [ nullary main_cst_30 (constant S_ .f32 0x00000000#32),
    binary main_v202 main_cst_30 main_v203 ((fun x v => Host.reduceAdd x v reducesTo_S2x2048x4x1_S2x2048x4_d3 h_S_) : 𝔽 S2x2048x4x1 → 𝔽 S_ → 𝔽 S2x2048x4),
    unary main_v203 main_v204 (broadcastInDim S2x2048x4x128 ![0, 1, 2] bcast_S2x2048x4_S2x2048x4x128_0_1_2 : 𝔽 S2x2048x4 → 𝔽 S2x2048x4x128),
    binary main_v199 main_v204 main_v205 (addf : 𝔽 S2x2048x4x128 → 𝔽 S2x2048x4x128 → 𝔽 S2x2048x4x128),
    unary main_v180 main_v206 (broadcastInDim S1x512 ![1] bcast_S512_S1x512_1 : 𝔽 S512 → 𝔽 S1x512),
    reshape main_v205 main_v207 (rfl : (.f32 : EltTy) = .f32) shapeCasts_S2x2048x4x128_S2x16x128x4x128,
    unary main_v207 main_v208 ((transpose S2x16x4x128x128 [0, 1, 3, 4, 2] · transposes_S2x16x128x4x128_S2x16x4x128x128_0_1_3_4_2) : 𝔽 S2x16x128x4x128 → 𝔽 S2x16x4x128x128),
    binary main_v208 main_v119_4 main_v209 ((fun l r => Host.dotGeneral dot_S2x16x4x128x128_S16x2x4x128x128_S2x16x4x128x128_3_4_4_3_012_102 none l r) : 𝔽 S2x16x4x128x128 → 𝔽 S16x2x4x128x128 → 𝔽 S2x16x4x128x128),
    unary main_v209 main_v210 ((transpose S2x16x128x4x128 [0, 1, 3, 2, 4] · transposes_S2x16x4x128x128_S2x16x128x4x128_0_1_3_2_4) : 𝔽 S2x16x4x128x128 → 𝔽 S2x16x128x4x128),
    binary main_v208 main_v131 main_v211 ((fun l r => Host.dotGeneral dot_S2x16x4x128x128_S2x16x128x4x128_S2x16x4x128x128_4_2_3_4_012_013 none l r) : 𝔽 S2x16x4x128x128 → 𝔽 S2x16x128x4x128 → 𝔽 S2x16x4x128x128),
    unary main_v211 main_v212 ((transpose S16x2x4x128x128 [1, 0, 2, 4, 3] · transposes_S2x16x4x128x128_S16x2x4x128x128_1_0_2_4_3) : 𝔽 S2x16x4x128x128 → 𝔽 S16x2x4x128x128),
    unary main_v129 main_v213 (broadcastInDim S2x16x128x4x128 ![0, 1, 2, 3, 4] bcast_S1x1x128x4x1_S2x16x128x4x128_0_1_2_3_4 : 𝔽 S1x1x128x4x1 → 𝔽 S2x16x128x4x128),
    binary main_v210 main_v213 main_v214 (mulf : 𝔽 S2x16x128x4x128 → 𝔽 S2x16x128x4x128 → 𝔽 S2x16x128x4x128),
    nullary main_cst_31 (constant S_ .f32 0x00000000#32),
    unary main_cst_31 main_v215 (broadcastInDim S2x4x128x128 ![] bcast_S_S2x4x128x128 : 𝔽 S_ → 𝔽 S2x4x128x128),
    nullary main_cst_32 (constant S_ .f32 0x00000000#32),
    unary main_cst_32 main_v216 (broadcastInDim S16x2x4x128x128 ![] bcast_S_S16x2x4x128x128 : 𝔽 S_ → 𝔽 S16x2x4x128x128),
    nullary main_c_33 (constantI S_ 32 0#32),
    unary main_v212 main_v217_0 id,
    unary main_v116 main_v217_1 id,
    unary main_c_33 main_v217_2 id,
    unary main_v215 main_v217_3 id,
    unary main_v216 main_v217_4 id ]

theorem mid2_sub : (mid2 (F := F)).Forall fun op => op.bufs ⊆ StableHlo.tcRefs τ sig := by
  simp only [List.Forall, binary_bufs_sub, nullary_bufs_sub, reshape_bufs_sub, unary_bufs_sub, and_self]

/-- The operations of @main after the second loop, stretch 0. -/
abbrev post0 : List (HloOp τ sig (Elt F)) :=
  [ binary main_v217_4 main_v111 main_v218 ((fun l r => Host.dotGeneral dot_S16x2x4x128x128_S2x16x128x4x128_S16x2x4x128x128_3_4_4_2_012_103 none l r) : 𝔽 S16x2x4x128x128 → 𝔽 S2x16x128x4x128 → 𝔽 S16x2x4x128x128),
    unary main_v218 main_v219 ((transpose S2x16x128x4x128 [1, 0, 4, 2, 3] · transposes_S16x2x4x128x128_S2x16x128x4x128_1_0_4_2_3) : 𝔽 S16x2x4x128x128 → 𝔽 S2x16x128x4x128),
    binary main_v217_4 main_v93 main_v220 ((fun l r => Host.dotGeneral dot_S16x2x4x128x128_S2x16x128x4x128_S16x2x4x128x128_4_4_3_2_012_103 none l r) : 𝔽 S16x2x4x128x128 → 𝔽 S2x16x128x4x128 → 𝔽 S16x2x4x128x128),
    unary main_v220 main_v221 ((transpose S2x16x128x4x128 [1, 0, 4, 2, 3] · transposes_S16x2x4x128x128_S2x16x128x4x128_1_0_4_2_3) : 𝔽 S16x2x4x128x128 → 𝔽 S2x16x128x4x128),
    unary main_v109 main_v222 (broadcastInDim S2x16x128x4x128 ![0, 1, 2, 3, 4] bcast_S1x1x128x4x1_S2x16x128x4x128_0_1_2_3_4 : 𝔽 S1x1x128x4x1 → 𝔽 S2x16x128x4x128),
    binary main_v221 main_v222 main_v223 (mulf : 𝔽 S2x16x128x4x128 → 𝔽 S2x16x128x4x128 → 𝔽 S2x16x128x4x128),
    unary main_v207 main_v224 ((transpose S2x16x4x128x128 [0, 1, 3, 4, 2] · transposes_S2x16x128x4x128_S2x16x4x128x128_0_1_3_4_2) : 𝔽 S2x16x128x4x128 → 𝔽 S2x16x4x128x128),
    binary main_v224 main_v93 main_v225 ((fun l r => Host.dotGeneral dot_S2x16x4x128x128_S2x16x128x4x128_S2x16x4x128x128_3_4_4_2_012_013 none l r) : 𝔽 S2x16x4x128x128 → 𝔽 S2x16x128x4x128 → 𝔽 S2x16x4x128x128),
    unary main_v225 main_v226 ((transpose S2x4x16x128x128 [0, 2, 1, 3, 4] · transposes_S2x16x4x128x128_S2x4x16x128x128_0_2_1_3_4) : 𝔽 S2x16x4x128x128 → 𝔽 S2x4x16x128x128),
    binary main_v224 main_v97 main_v227 ((fun l r => Host.dotGeneral dot_S2x16x4x128x128_S2x4x16x128x128_S2x16x4x128x128_4_3_3_4_012_021 none l r) : 𝔽 S2x16x4x128x128 → 𝔽 S2x4x16x128x128 → 𝔽 S2x16x4x128x128),
    unary main_v227 main_v228 ((transpose S2x16x128x4x128 [0, 1, 4, 2, 3] · transposes_S2x16x4x128x128_S2x16x128x4x128_0_1_4_2_3) : 𝔽 S2x16x4x128x128 → 𝔽 S2x16x128x4x128),
    binary main_v219 main_v228 main_v229 (addf : 𝔽 S2x16x128x4x128 → 𝔽 S2x16x128x4x128 → 𝔽 S2x16x128x4x128),
    unary main_v95 main_v230 (broadcastInDim S2x4x16x128x128 ![0, 1, 2, 3, 4] bcast_S1x4x1x128x128_S2x4x16x128x128_0_1_2_3_4 : 𝔽 S1x4x1x128x128 → 𝔽 S2x4x16x128x128),
    binary main_v226 main_v230 main_v231 (mulf : 𝔽 S2x4x16x128x128 → 𝔽 S2x4x16x128x128 → 𝔽 S2x4x16x128x128),
    binary main_v231 main_v91 main_v232 ((fun l r => Host.dotGeneral dot_S2x4x16x128x128_S2x16x128x4x128_S2x4x16x128x128_3_2_4_4_012_031 none l r) : 𝔽 S2x4x16x128x128 → 𝔽 S2x16x128x4x128 → 𝔽 S2x4x16x128x128),
    unary main_v232 main_v233 ((transpose S2x16x128x4x128 [0, 2, 3, 1, 4] · transposes_S2x4x16x128x128_S2x16x128x4x128_0_2_3_1_4) : 𝔽 S2x4x16x128x128 → 𝔽 S2x16x128x4x128),
    binary main_v223 main_v233 main_v234 (addf : 𝔽 S2x16x128x4x128 → 𝔽 S2x16x128x4x128 → 𝔽 S2x16x128x4x128),
    binary main_v231 main_v92 main_v235 ((fun l r => Host.dotGeneral dot_S2x4x16x128x128_S2x16x128x4x128_S2x4x16x128x128_4_2_3_4_012_031 none l r) : 𝔽 S2x4x16x128x128 → 𝔽 S2x16x128x4x128 → 𝔽 S2x4x16x128x128),
    unary main_v235 main_v236 ((transpose S2x16x128x4x128 [0, 2, 3, 1, 4] · transposes_S2x4x16x128x128_S2x16x128x4x128_0_2_3_1_4) : 𝔽 S2x4x16x128x128 → 𝔽 S2x16x128x4x128),
    binary main_v214 main_v236 main_v237 (addf : 𝔽 S2x16x128x4x128 → 𝔽 S2x16x128x4x128 → 𝔽 S2x16x128x4x128),
    reshape main_v229 main_v238 (rfl : (.f32 : EltTy) = .f32) shapeCasts_S2x16x128x4x128_S2x2048x4x128,
    reshape main_v234 main_v239 (rfl : (.f32 : EltTy) = .f32) shapeCasts_S2x16x128x4x128_S2x2048x4x128,
    reshape main_v237 main_v240 (rfl : (.f32 : EltTy) = .f32) shapeCasts_S2x16x128x4x128_S2x2048x4x128,
    nullary main_cst_34 (constant S_ .f32 0x3DB504F3#32),
    unary main_cst_34 main_v241 (broadcastInDim S2x2048x4x128 ![] bcast_S_S2x2048x4x128 : 𝔽 S_ → 𝔽 S2x2048x4x128),
    binary main_v239 main_v241 main_v242 (mulf : 𝔽 S2x2048x4x128 → 𝔽 S2x2048x4x128 → 𝔽 S2x2048x4x128),
    unary main_v242 main_v243 ((extractStridedSlice S2x2048x4x64 ![0, 0, 0, 0] · slices_S2x2048x4x128_S2x2048x4x64_0_0_0_0) : 𝔽 S2x2048x4x128 → 𝔽 S2x2048x4x64),
    unary main_v242 main_v244 ((extractStridedSlice S2x2048x4x64 ![0, 0, 0, 64] · slices_S2x2048x4x128_S2x2048x4x64_0_0_0_64) : 𝔽 S2x2048x4x128 → 𝔽 S2x2048x4x64),
    unary main_v49 main_v245 (broadcastInDim S2x2048x4x64 ![0, 1, 2, 3] bcast_S1x2048x1x64_S2x2048x4x64_0_1_2_3 : 𝔽 S1x2048x1x64 → 𝔽 S2x2048x4x64),
    binary main_v244 main_v245 main_v246 (mulf : 𝔽 S2x2048x4x64 → 𝔽 S2x2048x4x64 → 𝔽 S2x2048x4x64),
    unary main_v51 main_v247 (broadcastInDim S2x2048x4x64 ![0, 1, 2, 3] bcast_S1x2048x1x64_S2x2048x4x64_0_1_2_3 : 𝔽 S1x2048x1x64 → 𝔽 S2x2048x4x64),
    binary main_v244 main_v247 main_v248 (mulf : 𝔽 S2x2048x4x64 → 𝔽 S2x2048x4x64 → 𝔽 S2x2048x4x64),
    unary main_v243 main_v249 (Host.negf : 𝔽 S2x2048x4x64 → 𝔽 S2x2048x4x64),
    unary main_v51 main_v250 (broadcastInDim S2x2048x4x64 ![0, 1, 2, 3] bcast_S1x2048x1x64_S2x2048x4x64_0_1_2_3 : 𝔽 S1x2048x1x64 → 𝔽 S2x2048x4x64),
    binary main_v249 main_v250 main_v251 (mulf : 𝔽 S2x2048x4x64 → 𝔽 S2x2048x4x64 → 𝔽 S2x2048x4x64),
    binary main_v246 main_v251 main_v252 (addf : 𝔽 S2x2048x4x64 → 𝔽 S2x2048x4x64 → 𝔽 S2x2048x4x64) ]

theorem post0_sub : (post0 (F := F)).Forall fun op => op.bufs ⊆ StableHlo.tcRefs τ sig := by
  simp only [List.Forall, binary_bufs_sub, nullary_bufs_sub, reshape_bufs_sub, unary_bufs_sub, and_self]

/-- The operations of @main after the second loop, stretch 1. -/
abbrev post1 : List (HloOp τ sig (Elt F)) :=
  [ unary main_v49 main_v253 (broadcastInDim S2x2048x4x64 ![0, 1, 2, 3] bcast_S1x2048x1x64_S2x2048x4x64_0_1_2_3 : 𝔽 S1x2048x1x64 → 𝔽 S2x2048x4x64),
    binary main_v243 main_v253 main_v254 (mulf : 𝔽 S2x2048x4x64 → 𝔽 S2x2048x4x64 → 𝔽 S2x2048x4x64),
    binary main_v248 main_v254 main_v255 (addf : 𝔽 S2x2048x4x64 → 𝔽 S2x2048x4x64 → 𝔽 S2x2048x4x64),
    nullary main_cst_35 (constant S_ .f32 0x00000000#32),
    binary main_v252 main_cst_35 main_v256 ((fun x v => pad S2x2048x4x128 ![0, 0, 0, 64] ![0, 0, 0, 0] ![0, 0, 0, 0] x v pads_S2x2048x4x64_S2x2048x4x128_000_000_000_6400 h_S_) : 𝔽 S2x2048x4x64 → 𝔽 S_ → 𝔽 S2x2048x4x128),
    nullary main_cst_36 (constant S_ .f32 0x00000000#32),
    binary main_v255 main_cst_36 main_v257 ((fun x v => pad S2x2048x4x128 ![0, 0, 0, 0] ![0, 0, 0, 64] ![0, 0, 0, 0] x v pads_S2x2048x4x64_S2x2048x4x128_000_000_000_0640 h_S_) : 𝔽 S2x2048x4x64 → 𝔽 S_ → 𝔽 S2x2048x4x128),
    binary main_v256 main_v257 main_v258 (addf : 𝔽 S2x2048x4x128 → 𝔽 S2x2048x4x128 → 𝔽 S2x2048x4x128),
    unary main_v240 main_v259 ((extractStridedSlice S2x2048x4x64 ![0, 0, 0, 0] · slices_S2x2048x4x128_S2x2048x4x64_0_0_0_0) : 𝔽 S2x2048x4x128 → 𝔽 S2x2048x4x64),
    unary main_v240 main_v260 ((extractStridedSlice S2x2048x4x64 ![0, 0, 0, 64] · slices_S2x2048x4x128_S2x2048x4x64_0_0_0_64) : 𝔽 S2x2048x4x128 → 𝔽 S2x2048x4x64),
    unary main_v20 main_v261 (broadcastInDim S2x2048x4x64 ![0, 1, 2, 3] bcast_S1x2048x1x64_S2x2048x4x64_0_1_2_3 : 𝔽 S1x2048x1x64 → 𝔽 S2x2048x4x64),
    binary main_v260 main_v261 main_v262 (mulf : 𝔽 S2x2048x4x64 → 𝔽 S2x2048x4x64 → 𝔽 S2x2048x4x64),
    unary main_v22 main_v263 (broadcastInDim S2x2048x4x64 ![0, 1, 2, 3] bcast_S1x2048x1x64_S2x2048x4x64_0_1_2_3 : 𝔽 S1x2048x1x64 → 𝔽 S2x2048x4x64),
    binary main_v260 main_v263 main_v264 (mulf : 𝔽 S2x2048x4x64 → 𝔽 S2x2048x4x64 → 𝔽 S2x2048x4x64),
    unary main_v259 main_v265 (Host.negf : 𝔽 S2x2048x4x64 → 𝔽 S2x2048x4x64),
    unary main_v22 main_v266 (broadcastInDim S2x2048x4x64 ![0, 1, 2, 3] bcast_S1x2048x1x64_S2x2048x4x64_0_1_2_3 : 𝔽 S1x2048x1x64 → 𝔽 S2x2048x4x64),
    binary main_v265 main_v266 main_v267 (mulf : 𝔽 S2x2048x4x64 → 𝔽 S2x2048x4x64 → 𝔽 S2x2048x4x64),
    binary main_v262 main_v267 main_v268 (addf : 𝔽 S2x2048x4x64 → 𝔽 S2x2048x4x64 → 𝔽 S2x2048x4x64),
    unary main_v20 main_v269 (broadcastInDim S2x2048x4x64 ![0, 1, 2, 3] bcast_S1x2048x1x64_S2x2048x4x64_0_1_2_3 : 𝔽 S1x2048x1x64 → 𝔽 S2x2048x4x64),
    binary main_v259 main_v269 main_v270 (mulf : 𝔽 S2x2048x4x64 → 𝔽 S2x2048x4x64 → 𝔽 S2x2048x4x64),
    binary main_v264 main_v270 main_v271 (addf : 𝔽 S2x2048x4x64 → 𝔽 S2x2048x4x64 → 𝔽 S2x2048x4x64),
    nullary main_cst_37 (constant S_ .f32 0x00000000#32),
    binary main_v268 main_cst_37 main_v272 ((fun x v => pad S2x2048x4x128 ![0, 0, 0, 64] ![0, 0, 0, 0] ![0, 0, 0, 0] x v pads_S2x2048x4x64_S2x2048x4x128_000_000_000_6400 h_S_) : 𝔽 S2x2048x4x64 → 𝔽 S_ → 𝔽 S2x2048x4x128),
    nullary main_cst_38 (constant S_ .f32 0x00000000#32),
    binary main_v271 main_cst_38 main_v273 ((fun x v => pad S2x2048x4x128 ![0, 0, 0, 0] ![0, 0, 0, 64] ![0, 0, 0, 0] x v pads_S2x2048x4x64_S2x2048x4x128_000_000_000_0640 h_S_) : 𝔽 S2x2048x4x64 → 𝔽 S_ → 𝔽 S2x2048x4x128),
    binary main_v272 main_v273 main_v274 (addf : 𝔽 S2x2048x4x128 → 𝔽 S2x2048x4x128 → 𝔽 S2x2048x4x128),
    reshape main_v238 main_v275 (rfl : (.f32 : EltTy) = .f32) shapeCasts_S2x2048x4x128_S4096x512,
    reshape main_v258 main_v276 (rfl : (.f32 : EltTy) = .f32) shapeCasts_S2x2048x4x128_S4096x512,
    reshape main_v274 main_v277 (rfl : (.f32 : EltTy) = .f32) shapeCasts_S2x2048x4x128_S4096x512 ]

theorem post1_sub : (post1 (F := F)).Forall fun op => op.bufs ⊆ StableHlo.tcRefs τ sig := by
  simp only [List.Forall, binary_bufs_sub, nullary_bufs_sub, reshape_bufs_sub, unary_bufs_sub, and_self]

/-- The operations of the condition of a loop, stretch 0. -/
abbrev cond0 : List (HloOp τ sig (Elt F)) :=
  [ nullary main_while0c_c_43 (constantI S_ 32 16#32),
    binary main_v119_2 main_while0c_c_43 main_while0c_v278 (cmpi .slt : 𝔸 ⟨S_, .i32⟩ → 𝔸 ⟨S_, .i32⟩ → 𝔸 ⟨S_, .i1⟩) ]

/-- The operations of the body of a loop, stretch 0. -/
abbrev body0 : List (HloOp τ sig (Elt F)) :=
  [ nullary main_while0b_call1_c (constantI S_ 32 0#32),
    nullary main_while0b_call1_c_0 (constantI S_ 32 0#32),
    nullary main_while0b_call1_c_1 (constantI S_ 32 0#32),
    nullary main_while0b_call1_c_2 (constantI S_ 32 0#32),
    StableHlo.TRef.unaryIndexed (.of main_v119_0 : StableHlo.TRef sig ⟨S16x2x4x128x128, .f32⟩) ![(.of main_v119_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x2x4x128x128, .f32⟩) (fun x i => Host.dynamicSlice S1x2x4x128x128 x (fun k => (i k (Shape.Idx.first h_S_)).toInt) sliceFits_S16x2x4x128x128_S1x2x4x128x128),
    reshape main_while0b_call1_v0 main_while0b_v278 (rfl : (.f32 : EltTy) = .f32) shapeCasts_S1x2x4x128x128_S2x4x128x128,
    unary main_v119_1 main_while0b_v279 (broadcastInDim S2x4x128x128 ![0, 1, 2, 3] bcast_S1x4x1x1_S2x4x128x128_0_1_2_3 : 𝔽 S1x4x1x1 → 𝔽 S2x4x128x128),
    binary main_v119_3 main_while0b_v279 main_while0b_v280 (mulf : 𝔽 S2x4x128x128 → 𝔽 S2x4x128x128 → 𝔽 S2x4x128x128),
    binary main_while0b_v280 main_while0b_v278 main_while0b_v281 (addf : 𝔽 S2x4x128x128 → 𝔽 S2x4x128x128 → 𝔽 S2x4x128x128),
    unary main_v119_3 main_while0b_call2_v0 ((broadcastInDim S1x2x4x128x128 ![1, 2, 3, 4] bcast_S2x4x128x128_S1x2x4x128x128_1_2_3_4) : 𝔽 S2x4x128x128 → 𝔽 S1x2x4x128x128),
    nullary main_while0b_call2_c (constantI S_ 32 0#32),
    nullary main_while0b_call2_c_0 (constantI S_ 32 0#32),
    nullary main_while0b_call2_c_1 (constantI S_ 32 0#32),
    nullary main_while0b_call2_c_2 (constantI S_ 32 0#32),
    StableHlo.TRef.binaryIndexed (.of main_v119_4 : StableHlo.TRef sig ⟨S16x2x4x128x128, .f32⟩) (.of main_while0b_call2_v0 : StableHlo.TRef sig ⟨S1x2x4x128x128, .f32⟩) ![(.of main_v119_2 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_v282 : StableHlo.TRef sig ⟨S16x2x4x128x128, .f32⟩) (fun x u i => Host.dynamicUpdateSlice x u (fun k => (i k (Shape.Idx.first h_S_)).toInt) updateFits_S16x2x4x128x128_S1x2x4x128x128),
    nullary main_while0b_c_43 (constantI S_ 32 1#32),
    binary main_v119_2 main_while0b_c_43 main_while0b_v283 (addi : 𝔸 ⟨S_, .i32⟩ → 𝔸 ⟨S_, .i32⟩ → 𝔸 ⟨S_, .i32⟩),
    unary main_while0b_v283 main_v119_2 id,
    unary main_while0b_v281 main_v119_3 id,
    unary main_while0b_v282 main_v119_4 id ]

theorem body0_sub : (body0 (F := F)).Forall fun op => op.bufs ⊆ StableHlo.tcRefs τ sig := by
  simp only [List.Forall, StableHlo.binaryIndexed_bufs_sub, StableHlo.unaryIndexed_bufs_sub, binary_bufs_sub, nullary_bufs_sub, reshape_bufs_sub, unary_bufs_sub, and_self]

/-- The operations of the condition of a loop, stretch 1. -/
abbrev cond1 : List (HloOp τ sig (Elt F)) :=
  [ nullary main_while1c_c_43 (constantI S_ 32 16#32),
    binary main_v217_2 main_while1c_c_43 main_while1c_v278 (cmpi .slt : 𝔸 ⟨S_, .i32⟩ → 𝔸 ⟨S_, .i32⟩ → 𝔸 ⟨S_, .i1⟩) ]

/-- The operations of the body of a loop, stretch 1. -/
abbrev body1 : List (HloOp τ sig (Elt F)) :=
  [ nullary main_while1b_c_43 (constantI S_ 32 16#32),
    binary main_while1b_c_43 main_v217_2 main_while1b_v278 (subi : 𝔸 ⟨S_, .i32⟩ → 𝔸 ⟨S_, .i32⟩ → 𝔸 ⟨S_, .i32⟩),
    nullary main_while1b_c_44 (constantI S_ 32 1#32),
    binary main_while1b_v278 main_while1b_c_44 main_while1b_v279 (subi : 𝔸 ⟨S_, .i32⟩ → 𝔸 ⟨S_, .i32⟩ → 𝔸 ⟨S_, .i32⟩),
    nullary main_while1b_call5_c (constantI S_ 32 0#32),
    nullary main_while1b_call5_c_0 (constantI S_ 32 0#32),
    nullary main_while1b_call5_c_1 (constantI S_ 32 0#32),
    nullary main_while1b_call5_c_2 (constantI S_ 32 0#32),
    StableHlo.TRef.unaryIndexed (.of main_v217_0 : StableHlo.TRef sig ⟨S16x2x4x128x128, .f32⟩) ![(.of main_while1b_v279 : StableHlo.TRef sig ⟨S_, .i32⟩), (.of main_while1b_call5_c : StableHlo.TRef sig ⟨S_, .i32⟩), (.of main_while1b_call5_c_0 : StableHlo.TRef sig ⟨S_, .i32⟩), (.of main_while1b_call5_c_1 : StableHlo.TRef sig ⟨S_, .i32⟩), (.of main_while1b_call5_c_2 : StableHlo.TRef sig ⟨S_, .i32⟩)] (.of main_while1b_call5_v0 : StableHlo.TRef sig ⟨S1x2x4x128x128, .f32⟩) (fun x i => Host.dynamicSlice S1x2x4x128x128 x (fun k => (i k (Shape.Idx.first h_S_)).toInt) sliceFits_S16x2x4x128x128_S1x2x4x128x128),
    reshape main_while1b_call5_v0 main_while1b_v280 (rfl : (.f32 : EltTy) = .f32) shapeCasts_S1x2x4x128x128_S2x4x128x128,
    unary main_v217_1 main_while1b_v281 (broadcastInDim S2x4x128x128 ![0, 1, 2, 3] bcast_S1x4x1x1_S2x4x128x128_0_1_2_3 : 𝔽 S1x4x1x1 → 𝔽 S2x4x128x128),
    binary main_v217_3 main_while1b_v281 main_while1b_v282 (mulf : 𝔽 S2x4x128x128 → 𝔽 S2x4x128x128 → 𝔽 S2x4x128x128),
    binary main_while1b_v280 main_while1b_v282 main_while1b_v283 (addf : 𝔽 S2x4x128x128 → 𝔽 S2x4x128x128 → 𝔽 S2x4x128x128),
    unary main_v217_3 main_while1b_call6_v0 ((broadcastInDim S1x2x4x128x128 ![1, 2, 3, 4] bcast_S2x4x128x128_S1x2x4x128x128_1_2_3_4) : 𝔽 S2x4x128x128 → 𝔽 S1x2x4x128x128),
    nullary main_while1b_call6_c (constantI S_ 32 0#32),
    nullary main_while1b_call6_c_0 (constantI S_ 32 0#32),
    nullary main_while1b_call6_c_1 (constantI S_ 32 0#32),
    nullary main_while1b_call6_c_2 (constantI S_ 32 0#32),
    StableHlo.TRef.binaryIndexed (.of main_v217_4 : StableHlo.TRef sig ⟨S16x2x4x128x128, .f32⟩) (.of main_while1b_call6_v0 : StableHlo.TRef sig ⟨S1x2x4x128x128, .f32⟩) ![(.of main_while1b_v279 : StableHlo.TRef sig ⟨S_, .i32⟩), (.of main_while1b_call6_c : StableHlo.TRef sig ⟨S_, .i32⟩), (.of main_while1b_call6_c_0 : StableHlo.TRef sig ⟨S_, .i32⟩), (.of main_while1b_call6_c_1 : StableHlo.TRef sig ⟨S_, .i32⟩), (.of main_while1b_call6_c_2 : StableHlo.TRef sig ⟨S_, .i32⟩)] (.of main_while1b_v284 : StableHlo.TRef sig ⟨S16x2x4x128x128, .f32⟩) (fun x u i => Host.dynamicUpdateSlice x u (fun k => (i k (Shape.Idx.first h_S_)).toInt) updateFits_S16x2x4x128x128_S1x2x4x128x128),
    nullary main_while1b_c_45 (constantI S_ 32 1#32),
    binary main_v217_2 main_while1b_c_45 main_while1b_v285 (addi : 𝔸 ⟨S_, .i32⟩ → 𝔸 ⟨S_, .i32⟩ → 𝔸 ⟨S_, .i32⟩),
    unary main_while1b_v285 main_v217_2 id,
    unary main_while1b_v283 main_v217_3 id,
    unary main_while1b_v284 main_v217_4 id ]

theorem body1_sub : (body1 (F := F)).Forall fun op => op.bufs ⊆ StableHlo.tcRefs τ sig := by
  simp only [List.Forall, StableHlo.binaryIndexed_bufs_sub, StableHlo.unaryIndexed_bufs_sub, binary_bufs_sub, nullary_bufs_sub, reshape_bufs_sub, unary_bufs_sub, and_self]

/-! ## @main is these operations -/

theorem part0_eq (c : Dev nD) : main_part0 (F := F) c = StableHlo.seq pre0 := by chain_rfl
theorem part1_eq (c : Dev nD) : main_part1 (F := F) c = StableHlo.seq pre1 := by chain_rfl
theorem part2_eq (c : Dev nD) : main_part2 (F := F) c = Pipeline.chain [StableHlo.seq pre2, HostLoop.enter 0, StableHlo.seq mid0] := by chain_rfl
theorem part3_eq (c : Dev nD) : main_part3 (F := F) c = StableHlo.seq mid1 := by chain_rfl
theorem part4_eq (c : Dev nD) : main_part4 (F := F) c = Pipeline.chain [StableHlo.seq mid2, HostLoop.enter 1, StableHlo.seq post0] := by chain_rfl
theorem part5_eq (c : Dev nD) : main_part5 (F := F) c = StableHlo.seq post1 := by chain_rfl

/-- The stretches before the first loop, between the loops and after the second. -/
abbrev pre : List (List (HloOp τ sig (Elt F))) := [pre0, pre1, pre2]
abbrev mid : List (List (HloOp τ sig (Elt F))) := [mid0, mid1, mid2]
abbrev post : List (List (HloOp τ sig (Elt F))) := [post0, post1]

theorem main_eq (c : Dev nD) : main (F := F) c = Pipeline.chain
    ((pre.map fun ops => (StableHlo.seq ops : Prog _ PUnit)) ++ HostLoop.enter 0 :: ((mid.map fun ops => (StableHlo.seq ops : Prog _ PUnit)) ++
      HostLoop.enter 1 :: (post.map fun ops => (StableHlo.seq ops : Prog _ PUnit)))) := by
  show (main_part0 c >>= fun _ => main_part1 c >>= fun _ => main_part2 c >>= fun _ => main_part3 c >>= fun _ => main_part4 c >>= fun _ => main_part5 c) = _
  rw [part0_eq, part1_eq, part2_eq, part3_eq, part4_eq, part5_eq]
  simp only [List.map_cons, List.map_nil, List.cons_append, List.nil_append, Pipeline.chain_cons, Pipeline.chain_nil, Prog.bind_assoc, bind_assoc, pure_bind, bind_pure_unit]

theorem body0_eq : main_while0_body (F := F) = Pipeline.chain (([body0] : List (List (HloOp τ sig (Elt F)))).map fun ops => (StableHlo.seq ops : Prog _ PUnit)) := by
  chain_rfl
theorem body1_eq : main_while1_body (F := F) = Pipeline.chain (([body1] : List (List (HloOp τ sig (Elt F)))).map fun ops => (StableHlo.seq ops : Prog _ PUnit)) := by
  chain_rfl

end Cert.Reference6Ideal.Ret

end
-- ==== Proof.RetTrip.lean ====
/-
  One trip of each loop of the retention reference: the state is carried on and stored at the trip's place.
-/
module

public import proofs.«01_k».proof.Proof.RetHost
public import proofs.«01_k».proof.Proof.RetOps
public import Idealize.ShloMosaic.Lib.StableHlo.RunRead
public import Idealize.ShloMosaic.Lib.StableHlo.ReadAt
public import Idealize.ShloMosaic.Lib.DynamicIndex
public import Idealize.ShloMosaic.Lib.Pipeline.Value

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (after afterL)

/-- A stack of states over chunks, and the states of one chunk. -/
abbrev K5 := FVec Ideal S16x2x4x128x128 .f32
abbrev K4 := FVec Ideal S2x4x128x128 .f32

/-- The place of chunk `k` in a stack. -/
def slot (k : ℕ) : Fin 5 → ℤ := fun a => ((if a.val = 0 then k else 0 : ℕ) : ℤ)
def slotN (k : ℕ) : Fin 5 → ℕ := fun a => if a.val = 0 then k else 0

theorem slot_fits (k : ℕ) (hk : k < 16) : S16x2x4x128x128.Slices (slotN k) S1x2x4x128x128 :=
  ⟨rfl, fun a => match a with
    | 0 => by show k + 1 ≤ 16; omega
    | 1 => by show 0 + 2 ≤ 2; omega
    | 2 => by show 0 + 4 ≤ 4; omega
    | 3 => by show 0 + 128 ≤ 128; omega
    | 4 => by show 0 + 128 ≤ 128; omega⟩

/-- Reading a stack at a chunk's place. -/
theorem slice_slot (X : K5) (k : ℕ) (hk : k < 16) (b : Fin 2) (h : Fin 4) (r c : Fin 128) :
    shapeCast S2x4x128x128 (Host.dynamicSlice S1x2x4x128x128 X (slot k) sliceFits_S16x2x4x128x128_S1x2x4x128x128)
      shapeCasts_S1x2x4x128x128_S2x4x128x128 (ix4 b h r c) = X (ix5 ⟨k, hk⟩ b h r c) := by
  rw [Host.dynamicSlice_eq_extractStridedSlice S1x2x4x128x128 X (slot k) (slotN k) _ (slot_fits k hk) (fun a => rfl)]
  pointwise []
  simp [slotN]

/-- Writing a stack at a chunk's place. -/
theorem update_slot (X : K5) (y : K4) (k : ℕ) (hk : k < 16) (n : Fin 16) (b : Fin 2) (h : Fin 4) (r c : Fin 128) :
    Host.dynamicUpdateSlice X (broadcastInDim S1x2x4x128x128 ![1, 2, 3, 4] bcast_S2x4x128x128_S1x2x4x128x128_1_2_3_4 y) (slot k)
      updateFits_S16x2x4x128x128_S1x2x4x128x128 (ix5 n b h r c) = if n.val = k then y (ix4 b h r c) else X (ix5 n b h r c) := by
  rw [Host.dynamicUpdateSlice_eq_updateSlice X _ (slot k) _ (slotN k) (fun a => by
    have := (slot_fits k hk).2 a
    show (min (max ((slotN k a : ℕ) : ℤ) 0) _).toNat = slotN k a
    omega) (slot_fits k hk)]
  rw [updateSlice_apply]
  split
  · rename_i hin
    have e := hin 0
    have e' : k ≤ n.val ∧ n.val < k + 1 := e
    rw [if_pos (by omega)]
    pointwise []
    rfl
  · rename_i hin
    rw [if_neg]
    intro e
    apply hin
    intro a
    match a with
    | 0 => show k ≤ n.val ∧ n.val < k + 1; omega
    | 1 => exact ⟨Nat.zero_le _, by show b.val < 0 + 2; omega⟩
    | 2 => exact ⟨Nat.zero_le _, by show h.val < 0 + 4; omega⟩
    | 3 => exact ⟨Nat.zero_le _, by show r.val < 0 + 128; omega⟩
    | 4 => exact ⟨Nat.zero_le _, by show c.val < 0 + 128; omega⟩

section Trip

variable (V : Valuation τ sig (Elt Ideal))

/-- The carried state after a trip of the first loop. -/
theorem body0_v3 (k : ℕ) (hk : k < 16) (hc : V (Proc.devRef .tc main_v119_2) = fun _ => (BitVec.ofNat 32 k : BitVec 32)) :
    (after body0 V (Proc.devRef .tc main_v119_3) : K4) = (addf (mulf (V (Proc.devRef .tc main_v119_3) : K4) (broadcastInDim S2x4x128x128 ![0, 1, 2, 3] bcast_S1x4x1x1_S2x4x128x128_0_1_2_3 (V (Proc.devRef .tc main_v119_1))))
      (shapeCast S2x4x128x128 (Host.dynamicSlice S1x2x4x128x128 (V (Proc.devRef .tc main_v119_0) : K5) (slot (k))
      sliceFits_S16x2x4x128x128_S1x2x4x128x128) shapeCasts_S1x2x4x128x128_S2x4x128x128) : K4) := by
  after_reads_simp
  refine congrArg (fun st => (addf (mulf (V (Proc.devRef .tc main_v119_3) : K4) (broadcastInDim S2x4x128x128 ![0, 1, 2, 3] bcast_S1x4x1x1_S2x4x128x128_0_1_2_3 (V (Proc.devRef .tc main_v119_1)))) (shapeCast S2x4x128x128 (Host.dynamicSlice S1x2x4x128x128 (V (Proc.devRef .tc main_v119_0) : K5) st
      sliceFits_S16x2x4x128x128_S1x2x4x128x128) shapeCasts_S1x2x4x128x128_S2x4x128x128) : K4)) (funext fun a => ?_)
  match a with
  | 0 =>
    show (StableHlo.upto body0 V 4 (Proc.tc.devRef main_v119_2) (Shape.Idx.first h_S_) : BitVec 32).toInt = _
    after_reads_simp
    rw [hc]
    exact toInt_ofNat_of_lt (by omega)
  | 1 => show (StableHlo.upto body0 V 4 (Proc.tc.devRef main_while0b_call1_c) (Shape.Idx.first h_S_) : BitVec 32).toInt = 0; after_reads_simp; rfl
  | 2 => show (StableHlo.upto body0 V 4 (Proc.tc.devRef main_while0b_call1_c_0) (Shape.Idx.first h_S_) : BitVec 32).toInt = 0; after_reads_simp; rfl
  | 3 => show (StableHlo.upto body0 V 4 (Proc.tc.devRef main_while0b_call1_c_1) (Shape.Idx.first h_S_) : BitVec 32).toInt = 0; after_reads_simp; rfl
  | 4 => show (StableHlo.upto body0 V 4 (Proc.tc.devRef main_while0b_call1_c_2) (Shape.Idx.first h_S_) : BitVec 32).toInt = 0; after_reads_simp; rfl

/-- The stored states after a trip of the first loop. -/
theorem body0_v4 (k : ℕ) (hk : k < 16) (hc : V (Proc.devRef .tc main_v119_2) = fun _ => (BitVec.ofNat 32 k : BitVec 32)) :
    (after body0 V (Proc.devRef .tc main_v119_4) : K5) = (Host.dynamicUpdateSlice (V (Proc.devRef .tc main_v119_4) : K5)
      (broadcastInDim S1x2x4x128x128 ![1, 2, 3, 4] bcast_S2x4x128x128_S1x2x4x128x128_1_2_3_4 (V (Proc.devRef .tc main_v119_3) : K4)) (slot (k))
      updateFits_S16x2x4x128x128_S1x2x4x128x128 : K5) := by
  after_reads_simp
  refine congrArg (fun st => (Host.dynamicUpdateSlice (V (Proc.devRef .tc main_v119_4) : K5)
    (broadcastInDim S1x2x4x128x128 ![1, 2, 3, 4] bcast_S2x4x128x128_S1x2x4x128x128_1_2_3_4 (V (Proc.devRef .tc main_v119_3) : K4)) st
    updateFits_S16x2x4x128x128_S1x2x4x128x128 : K5)) (funext fun a => ?_)
  match a with
  | 0 =>
    show (StableHlo.upto body0 V 14 (Proc.tc.devRef main_v119_2) (Shape.Idx.first h_S_) : BitVec 32).toInt = _
    after_reads_simp
    rw [hc]
    exact toInt_ofNat_of_lt (by omega)
  | 1 => show (StableHlo.upto body0 V 14 (Proc.tc.devRef main_while0b_call2_c) (Shape.Idx.first h_S_) : BitVec 32).toInt = 0; after_reads_simp; rfl
  | 2 => show (StableHlo.upto body0 V 14 (Proc.tc.devRef main_while0b_call2_c_0) (Shape.Idx.first h_S_) : BitVec 32).toInt = 0; after_reads_simp; rfl
  | 3 => show (StableHlo.upto body0 V 14 (Proc.tc.devRef main_while0b_call2_c_1) (Shape.Idx.first h_S_) : BitVec 32).toInt = 0; after_reads_simp; rfl
  | 4 => show (StableHlo.upto body0 V 14 (Proc.tc.devRef main_while0b_call2_c_2) (Shape.Idx.first h_S_) : BitVec 32).toInt = 0; after_reads_simp; rfl

/-- The state's cotangent after a trip of the second loop. -/
theorem body1_v3 (k : ℕ) (hk : k < 16) (hc : V (Proc.devRef .tc main_v217_2) = fun _ => (BitVec.ofNat 32 k : BitVec 32)) :
    (after body1 V (Proc.devRef .tc main_v217_3) : K4) = (addf (shapeCast S2x4x128x128 (Host.dynamicSlice S1x2x4x128x128 (V (Proc.devRef .tc main_v217_0) : K5) (slot (15 - k))
      sliceFits_S16x2x4x128x128_S1x2x4x128x128) shapeCasts_S1x2x4x128x128_S2x4x128x128)
      (mulf (V (Proc.devRef .tc main_v217_3) : K4) (broadcastInDim S2x4x128x128 ![0, 1, 2, 3] bcast_S1x4x1x1_S2x4x128x128_0_1_2_3 (V (Proc.devRef .tc main_v217_1)))) : K4) := by
  after_reads_simp
  refine congrArg (fun st => (addf (shapeCast S2x4x128x128 (Host.dynamicSlice S1x2x4x128x128 (V (Proc.devRef .tc main_v217_0) : K5) st
      sliceFits_S16x2x4x128x128_S1x2x4x128x128) shapeCasts_S1x2x4x128x128_S2x4x128x128) (mulf (V (Proc.devRef .tc main_v217_3) : K4) (broadcastInDim S2x4x128x128 ![0, 1, 2, 3] bcast_S1x4x1x1_S2x4x128x128_0_1_2_3 (V (Proc.devRef .tc main_v217_1)))) : K4)) (funext fun a => ?_)
  match a with
  | 0 =>
    show (StableHlo.upto body1 V 8 (Proc.tc.devRef main_while1b_v279) (Shape.Idx.first h_S_) : BitVec 32).toInt = _
    after_reads_simp
    rw [hc]
    show (16#32 - BitVec.ofNat 32 k - 1#32).toInt = ((15 - k : ℕ) : ℤ)
    interval_cases k <;> decide
  | 1 => show (StableHlo.upto body1 V 8 (Proc.tc.devRef main_while1b_call5_c) (Shape.Idx.first h_S_) : BitVec 32).toInt = 0; after_reads_simp; rfl
  | 2 => show (StableHlo.upto body1 V 8 (Proc.tc.devRef main_while1b_call5_c_0) (Shape.Idx.first h_S_) : BitVec 32).toInt = 0; after_reads_simp; rfl
  | 3 => show (StableHlo.upto body1 V 8 (Proc.tc.devRef main_while1b_call5_c_1) (Shape.Idx.first h_S_) : BitVec 32).toInt = 0; after_reads_simp; rfl
  | 4 => show (StableHlo.upto body1 V 8 (Proc.tc.devRef main_while1b_call5_c_2) (Shape.Idx.first h_S_) : BitVec 32).toInt = 0; after_reads_simp; rfl

/-- The stored cotangents after a trip of the second loop. -/
theorem body1_v4 (k : ℕ) (hk : k < 16) (hc : V (Proc.devRef .tc main_v217_2) = fun _ => (BitVec.ofNat 32 k : BitVec 32)) :
    (after body1 V (Proc.devRef .tc main_v217_4) : K5) = (Host.dynamicUpdateSlice (V (Proc.devRef .tc main_v217_4) : K5)
      (broadcastInDim S1x2x4x128x128 ![1, 2, 3, 4] bcast_S2x4x128x128_S1x2x4x128x128_1_2_3_4 (V (Proc.devRef .tc main_v217_3) : K4)) (slot (15 - k))
      updateFits_S16x2x4x128x128_S1x2x4x128x128 : K5) := by
  after_reads_simp
  refine congrArg (fun st => (Host.dynamicUpdateSlice (V (Proc.devRef .tc main_v217_4) : K5)
    (broadcastInDim S1x2x4x128x128 ![1, 2, 3, 4] bcast_S2x4x128x128_S1x2x4x128x128_1_2_3_4 (V (Proc.devRef .tc main_v217_3) : K4)) st
    updateFits_S16x2x4x128x128_S1x2x4x128x128 : K5)) (funext fun a => ?_)
  match a with
  | 0 =>
    show (StableHlo.upto body1 V 18 (Proc.tc.devRef main_while1b_v279) (Shape.Idx.first h_S_) : BitVec 32).toInt = _
    after_reads_simp
    rw [hc]
    show (16#32 - BitVec.ofNat 32 k - 1#32).toInt = ((15 - k : ℕ) : ℤ)
    interval_cases k <;> decide
  | 1 => show (StableHlo.upto body1 V 18 (Proc.tc.devRef main_while1b_call6_c) (Shape.Idx.first h_S_) : BitVec 32).toInt = 0; after_reads_simp; rfl
  | 2 => show (StableHlo.upto body1 V 18 (Proc.tc.devRef main_while1b_call6_c_0) (Shape.Idx.first h_S_) : BitVec 32).toInt = 0; after_reads_simp; rfl
  | 3 => show (StableHlo.upto body1 V 18 (Proc.tc.devRef main_while1b_call6_c_1) (Shape.Idx.first h_S_) : BitVec 32).toInt = 0; after_reads_simp; rfl
  | 4 => show (StableHlo.upto body1 V 18 (Proc.tc.devRef main_while1b_call6_c_2) (Shape.Idx.first h_S_) : BitVec 32).toInt = 0; after_reads_simp; rfl

end Trip

end Cert.Reference6Ideal.Ret

end
-- ==== Proof.RetRun.lean ====
/-
  The run of the retention reference: three stretches of plain operations with a counted loop of sixteen trips between each
  two. Every execution ends, and every tensor buffer ends at the fold of the operations over the launch contents.
-/
module

public import proofs.«01_k».proof.Proof.RetOps
public import Idealize.ShloMosaic.Lib.StableHlo.RunRead
public import Idealize.ShloMosaic.Lib.StableHlo.ReadAt

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (after afterL atTrip Plain segsOf segsOf_chains segsOf_prog loopSeg LoopCond launchContents held)
open Idealize.ShloMosaic.Pipeline (CSeg Ticket PCfg ucRefs)
open Idealize.ShloMosaic.Tactic Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (Option PUnit) ℕ

/-! ## The two counters -/

section Counter

variable (W : Dev nD → Valuation τ sig (Elt F))

theorem counter0 (h0 : ∀ c, W c (Proc.devRef .tc main_v119_2) = fun _ => (0#32 : BitVec 32)) (c : Dev nD) :
    ∀ k, atTrip cond0 [body0] W k c (Proc.devRef .tc main_v119_2) = fun _ => (BitVec.ofNat 32 k : BitVec 32)
  | 0 => h0 c
  | k + 1 => by
    have ih := counter0 h0 c k
    rw [StableHlo.atTrip_succ, StableHlo.afterL_cons, StableHlo.afterL_nil]
    generalize atTrip cond0 [body0] W k c = V at ih ⊢
    unfold body0 cond0
    after_reads_simp
    rw [ih]
    funext i
    show BitVec.ofNat 32 k + 1#32 = BitVec.ofNat 32 (k + 1)
    rw [BitVec.ofNat_add]

theorem counter1 (h0 : ∀ c, W c (Proc.devRef .tc main_v217_2) = fun _ => (0#32 : BitVec 32)) (c : Dev nD) :
    ∀ k, atTrip cond1 [body1] W k c (Proc.devRef .tc main_v217_2) = fun _ => (BitVec.ofNat 32 k : BitVec 32)
  | 0 => h0 c
  | k + 1 => by
    have ih := counter1 h0 c k
    rw [StableHlo.atTrip_succ, StableHlo.afterL_cons, StableHlo.afterL_nil]
    generalize atTrip cond1 [body1] W k c = V at ih ⊢
    unfold body1 cond1
    after_reads_simp
    rw [ih]
    funext i
    show BitVec.ofNat 32 k + 1#32 = BitVec.ofNat 32 (k + 1)
    rw [BitVec.ofNat_add]

end Counter

/-- The counter's comparison against sixteen reads one exactly while it is below. -/
theorem below_iff (k : ℕ) (hk : k ≤ 16) : IntOp.cmpi .slt (BitVec.ofNat 32 k) 16#32 = 1#1 ↔ k < 16 := by
  interval_cases k <;> decide

/-! ## The conditions -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cellOf_injective : Function.Injective (Pipeline.cellOf (nD := nD) (τ := τ) (Pipeline.pin (pcfgs (F := F)) adm)) :=
  fun k => k.1.elim0

/-- What each core carries beside its buffers. -/
abbrev Rw (c : Dev nD) : sProp 𝕄 := iprop(∃ W, owes (c : Thread nD τ) (0 : CellTallies nD τ sig Unit) W)

set_option backward.isDefEq.respectTransparency.types false in
/-- Loop 0's condition: the comparison reads whether a trip is left, and the carried state is handed on. -/
theorem loopCond0 (W : Dev nD → Valuation τ sig (Elt F)) (h0 : ∀ c, W c (Proc.devRef .tc main_v119_2) = fun _ => (0#32 : BitVec 32)) :
    LoopCond (Ix := Unit) (Name := ℕ) (U := Option PUnit) (Lvl := ℕ) (pcfgs (F := F)) defs₀ Variants.none loops Rw main_while0_cond cond0 [body0] W 16 := fun k hk c bd => by
  have hc := counter0 W h0 c k
  generalize atTrip cond0 [body0] W k c = V at hc ⊢
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v119_2 HostLoop.idx0) (HloOp.result _ V main_while0c_c_43 HostLoop.idx0) = 1#1) (k < 16)
    rw [StableHlo.nullary_result_ne _ _ _ _ (by decide), StableHlo.nullary_result, hc]
    exact below_iff k hk
  isplitl [Hb]; · iexact Hb
  isplitl [Hh]; · unfold cond0; rw [StableHlo.after_cons, StableHlo.after_cons, StableHlo.after_nil]; iexact Hh
  iexact HR

set_option backward.isDefEq.respectTransparency.types false in
/-- Loop 1's condition: the comparison reads whether a trip is left, and the carried state is handed on. -/
theorem loopCond1 (W : Dev nD → Valuation τ sig (Elt F)) (h0 : ∀ c, W c (Proc.devRef .tc main_v217_2) = fun _ => (0#32 : BitVec 32)) :
    LoopCond (Ix := Unit) (Name := ℕ) (U := Option PUnit) (Lvl := ℕ) (pcfgs (F := F)) defs₀ Variants.none loops Rw main_while1_cond cond1 [body1] W 16 := fun k hk c bd => by
  have hc := counter1 W h0 c k
  generalize atTrip cond1 [body1] W k c = V at hc ⊢
  unfold main_while1_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v217_2 HostLoop.idx0) (HloOp.result _ V main_while1c_c_43 HostLoop.idx0) = 1#1) (k < 16)
    rw [StableHlo.nullary_result_ne _ _ _ _ (by decide), StableHlo.nullary_result, hc]
    exact below_iff k hk
  isplitl [Hb]; · iexact Hb
  isplitl [Hh]; · unfold cond1; rw [StableHlo.after_cons, StableHlo.after_cons, StableHlo.after_nil]; iexact Hh
  iexact HR

/-! ## The contents, stretch by stretch -/

section Fold

variable (m : (ℓ : Loc nD τ sig) → Buf (Elt F) ℓ) (c : Dev nD)

/-- At the first loop's entry, -/
def U0 (c : Dev nD) : Valuation τ sig (Elt F) := afterL pre (launchContents m c)
/-- before its `k`-th condition, -/
def U1 (k : ℕ) : Dev nD → Valuation τ sig (Elt F) := atTrip cond0 [body0] (U0 m) k
/-- at the second loop's entry, -/
def U2 (c : Dev nD) : Valuation τ sig (Elt F) := afterL mid (after cond0 (U1 m 16 c))
/-- before its `k`-th condition, -/
def U3 (k : ℕ) : Dev nD → Valuation τ sig (Elt F) := atTrip cond1 [body1] (U2 m) k
/-- and at the end. -/
def U4 (c : Dev nD) : Valuation τ sig (Elt F) := afterL post (after cond1 (U3 m 16 c))

theorem entry0 (c : Dev nD) : U0 m c (Proc.devRef .tc main_v119_2) = fun _ => (0#32 : BitVec 32) := by
  unfold U0
  rw [StableHlo.afterL_cons, StableHlo.afterL_cons, StableHlo.afterL_cons, StableHlo.afterL_nil]
  generalize after (pre1 (F := F)) _ = V
  unfold pre2
  after_reads_simp
  rfl

theorem entry1 (c : Dev nD) : U2 m c (Proc.devRef .tc main_v217_2) = fun _ => (0#32 : BitVec 32) := by
  unfold U2
  rw [StableHlo.afterL_cons, StableHlo.afterL_cons, StableHlo.afterL_cons, StableHlo.afterL_nil]
  generalize after (mid1 (F := F)) _ = V
  unfold mid2
  after_reads_simp
  rfl

end Fold

theorem pre_plain : Plain (pre (F := F)) := .cons pre0_sub (.cons pre1_sub (.cons pre2_sub .nil))
theorem mid_plain : Plain (mid (F := F)) := .cons mid0_sub (.cons mid1_sub (.cons mid2_sub .nil))
theorem post_plain : Plain (post (F := F)) := .cons post0_sub (.cons post1_sub .nil)
theorem body0_plain : Plain ([body0] : List (List (HloOp τ sig (Elt F)))) := .cons body0_sub .nil
theorem body1_plain : Plain ([body1] : List (List (HloOp τ sig (Elt F)))) := .cons body1_sub .nil

/-! ## The run -/

section Run

variable (m : (ℓ : Loc nD τ sig) → Buf (Elt F) ℓ) (ρ : Dev nD → PrngReg)

abbrev loopSeg0 : CSeg (pcfgs (F := F)) adm defs₀ Variants.none L lv loops tk :=
  loopSeg _ _ _ _ _ _ _ _ 0 main_while0_cond main_while0_body rfl cond0 [body0] body0_plain body0_eq 16 (U0 m) Rw (loopCond0 (U0 m) (entry0 m))
abbrev loopSeg1 : CSeg (pcfgs (F := F)) adm defs₀ Variants.none L lv loops tk :=
  loopSeg _ _ _ _ _ _ _ _ 1 main_while1_cond main_while1_body rfl cond1 [body1] body1_plain body1_eq 16 (U2 m) Rw (loopCond1 (U2 m) (entry1 m))

/-- @main's segments. -/
def segs : List (CSeg (pcfgs (F := F)) adm defs₀ Variants.none L lv loops tk) :=
  segsOf _ _ _ _ _ _ _ _ Rw pre pre_plain (launchContents m) ++ loopSeg0 m ::
    (segsOf _ _ _ _ _ _ _ _ Rw mid mid_plain (fun c => after cond0 (U1 m 16 c)) ++ loopSeg1 m ::
      segsOf _ _ _ _ _ _ _ _ Rw post post_plain (fun c => after cond1 (U3 m 16 c)))

theorem segs_prog : (segs m).map CSeg.prog =
    (pre.map fun ops => (StableHlo.seq ops : Prog _ PUnit)) ++ HostLoop.enter 0 :: ((mid.map fun ops => (StableHlo.seq ops : Prog _ PUnit)) ++
      HostLoop.enter 1 :: (post.map fun ops => (StableHlo.seq ops : Prog _ PUnit))) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (U4 m c)) ∗ ∃ W, owes (c : Thread nD τ) (0 : CellTallies nD τ sig Unit) W)) := by
  unfold segs
  exact CSeg.Chains.append (segsOf_chains _ _ _ _ _ _ _ _ Rw pre pre_plain _) ⟨fun _ => .rfl,
    CSeg.Chains.append (segsOf_chains _ _ _ _ _ _ _ _ Rw mid mid_plain _) ⟨fun _ => .rfl, segsOf_chains _ _ _ _ _ _ _ _ Rw post post_plain _⟩⟩

theorem main_run (c : Dev nD) : main (F := F) c = CSeg.runL (segs m) :=
  (main_eq c).trans (congrArg Pipeline.chain (segs_prog m).symm)

/-- Every execution ends, and every tensor buffer ends at the fold `U4`. -/
theorem run : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = U4 m c (Proc.devRef .tc b)) :=
  Pipeline.θ_run_regions_loop_kit (Ix := Unit) (Name := ℕ) (U := Option PUnit) (Lvl := ℕ) (J := Fin 0) (P := Fin 0) (Val := Elt F)
    (pcfgs (F := F)) adm cellOf_injective defs₀ Variants.none L lv loops tk m ρ main (segs m)
    (fun c Q => by rw [main_run m c])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (U4 m c)))
    (hch := segs_chains m)
    (hinit := by
      refine Pipeline.initEach L lv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = U4 m c b)
    (hfin := fun c s' => by
      unfold held
      iintro ⟨Hh, HSI⟩
      ihave Hr := (pointsTo_read_all (ucRefs τ sig) (fun b => ((c : Dev nD), b)) (fun b => U4 m c b) s') $$ [Hh HSI]
      · isplitl [Hh] <;> iassumption
      icases Hr with ⟨%h, HSI⟩
      imodintro
      isplitr; · ipureintro; exact h
      iexact HSI)
    (hQ := fun _ h c b hb => h c _ (StableHlo.devRef_mem_ucRefs b hb))

end Run

end Cert.Reference6Ideal.Ret

end
-- ==== Proof.RetCarry.lean ====
/-
  What the runs and loops of the retention reference leave alone: a buffer that a stretch does not write holds what it held.
-/
module

public import proofs.«01_k».proof.Proof.RetRun

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (after afterL atTrip after_unwritten launchContents)

variable {F : FTy → Type} [FloatOps F]

abbrev pre0_W : List (Ref sig .tc) := [
  main_v0, main_v1, main_v2, main_v3, main_v4, main_v5, main_v6, main_v7, main_v8, main_cst, main_v9, main_v10, main_cst_0, main_v11,
  main_v12, main_v13, main_v14, main_v15, main_v16, main_v17, main_v18, main_v19, main_v20, main_v21, main_v22, main_v23, main_v24,
  main_v25, main_v26, main_v27, main_v28, main_v29, main_v30, main_v31, main_v32, main_v33, main_v34, main_v35, main_v36, main_v37,
  main_cst_1, main_v38, main_v39, main_cst_2, main_v40, main_v41, main_v42, main_v43, main_v44, main_v45, main_v46, main_v47,
  main_v48, main_v49, main_v50, main_v51, main_v52, main_v53, main_v54, main_v55]
theorem pre0_writes : (pre0 (F := F)).map HloOp.writes = pre0_W.map fun w => {Proc.devRef (τ := τ) .tc w} := rfl
abbrev pre1_W : List (Ref sig .tc) := [
  main_v56, main_v57, main_v58, main_v59, main_v60, main_v61, main_v62, main_v63, main_v64, main_cst_3, main_v65, main_v66, main_v67,
  main_cst_4, main_v68, main_v69, main_cst_5, main_v70, main_v71, main_v72, main_v73, main_v74, main_v75, main_v76, main_v77,
  main_v78, main_v79, main_cst_6, main_v80, main_v81, main_v82, main_cst_7, main_v83, main_v84, main_v85, main_v86, main_v87,
  main_v88, main_v89, main_cst_8, main_call0_v0, main_call0_v1, main_call0_v2, main_v90, main_v91, main_v92, main_v93, main_v94,
  main_v95, main_v96, main_v97, main_v98, main_v99, main_v100, main_cst_9, main_v101, main_v102, main_v103, main_v104, main_v105,
  main_v106, main_v107, main_v108]
theorem pre1_writes : (pre1 (F := F)).map HloOp.writes = pre1_W.map fun w => {Proc.devRef (τ := τ) .tc w} := rfl
abbrev pre2_W : List (Ref sig .tc) := [
  main_v109, main_v110, main_v111, main_v112, main_cst_10, main_v113, main_v114, main_v115, main_v116, main_cst_11, main_v117,
  main_cst_12, main_v118, main_c, main_v119_0, main_v119_1, main_v119_2, main_v119_3, main_v119_4]
theorem pre2_writes : (pre2 (F := F)).map HloOp.writes = pre2_W.map fun w => {Proc.devRef (τ := τ) .tc w} := rfl
abbrev cond0_W : List (Ref sig .tc) := [
  main_while0c_c_43, main_while0c_v278]
theorem cond0_writes : (cond0 (F := F)).map HloOp.writes = cond0_W.map fun w => {Proc.devRef (τ := τ) .tc w} := rfl
abbrev body0_W : List (Ref sig .tc) := [
  main_while0b_call1_c, main_while0b_call1_c_0, main_while0b_call1_c_1, main_while0b_call1_c_2, main_while0b_call1_v0,
  main_while0b_v278, main_while0b_v279, main_while0b_v280, main_while0b_v281, main_while0b_call2_v0, main_while0b_call2_c,
  main_while0b_call2_c_0, main_while0b_call2_c_1, main_while0b_call2_c_2, main_while0b_v282, main_while0b_c_43, main_while0b_v283,
  main_v119_2, main_v119_3, main_v119_4]
theorem body0_writes : (body0 (F := F)).map HloOp.writes = body0_W.map fun w => {Proc.devRef (τ := τ) .tc w} := rfl
abbrev mid0_W : List (Ref sig .tc) := [
  main_v120, main_cst_13, main_v121, main_v122, main_v123, main_v124, main_v125, main_v126, main_v127, main_v128, main_v129,
  main_v130, main_v131, main_v132, main_v133, main_v134, main_v135, main_v136, main_cst_14, main_v137, main_v138, main_cst_15,
  main_v139, main_v140, main_v141, main_v142, main_v143, main_cst_16, main_v144, main_v145, main_cst_17, main_v146, main_v147,
  main_cst_18, main_v148, main_v149, main_v150, main_v151, main_cst_19, main_v152]
theorem mid0_writes : (mid0 (F := F)).map HloOp.writes = mid0_W.map fun w => {Proc.devRef (τ := τ) .tc w} := rfl
abbrev mid1_W : List (Ref sig .tc) := [
  main_v153, main_v154, main_v155, main_cst_20, main_v156, main_v157, main_v158, main_v159, main_v160, main_v161, main_v162,
  main_v163, main_v164, main_call3_v0, main_call3_v1, main_call3_cst, main_call3_v2, main_call3_v3, main_call3_cst_0, main_call3_v4,
  main_v165_2, main_call3_cst_1, main_call3_v6, main_call3_v7, main_v165_1, main_v165_0, main_v166, main_v167, main_v168,
  main_cst_21, main_v169, main_v170, main_v171, main_v172, main_call4_v0, main_call4_v1, main_call4_v2, main_v173, main_v174,
  main_v175, main_cst_22, main_v176, main_v177, main_v178, main_v179, main_cst_23, main_v180, main_v181, main_v182, main_cst_24,
  main_v183, main_v184, main_v185, main_v186, main_v187, main_v188, main_cst_25, main_v189, main_v190, main_cst_26, main_v191,
  main_v192, main_cst_27, main_v193, main_v194, main_v195, main_v196, main_cst_28, main_v197, main_v198, main_v199, main_v200,
  main_cst_29, main_v201, main_v202]
theorem mid1_writes : (mid1 (F := F)).map HloOp.writes = mid1_W.map fun w => {Proc.devRef (τ := τ) .tc w} := rfl
abbrev mid2_W : List (Ref sig .tc) := [
  main_cst_30, main_v203, main_v204, main_v205, main_v206, main_v207, main_v208, main_v209, main_v210, main_v211, main_v212,
  main_v213, main_v214, main_cst_31, main_v215, main_cst_32, main_v216, main_c_33, main_v217_0, main_v217_1, main_v217_2,
  main_v217_3, main_v217_4]
theorem mid2_writes : (mid2 (F := F)).map HloOp.writes = mid2_W.map fun w => {Proc.devRef (τ := τ) .tc w} := rfl
abbrev cond1_W : List (Ref sig .tc) := [
  main_while1c_c_43, main_while1c_v278]
theorem cond1_writes : (cond1 (F := F)).map HloOp.writes = cond1_W.map fun w => {Proc.devRef (τ := τ) .tc w} := rfl
abbrev body1_W : List (Ref sig .tc) := [
  main_while1b_c_43, main_while1b_v278, main_while1b_c_44, main_while1b_v279, main_while1b_call5_c, main_while1b_call5_c_0,
  main_while1b_call5_c_1, main_while1b_call5_c_2, main_while1b_call5_v0, main_while1b_v280, main_while1b_v281, main_while1b_v282,
  main_while1b_v283, main_while1b_call6_v0, main_while1b_call6_c, main_while1b_call6_c_0, main_while1b_call6_c_1,
  main_while1b_call6_c_2, main_while1b_v284, main_while1b_c_45, main_while1b_v285, main_v217_2, main_v217_3, main_v217_4]
theorem body1_writes : (body1 (F := F)).map HloOp.writes = body1_W.map fun w => {Proc.devRef (τ := τ) .tc w} := rfl
abbrev post0_W : List (Ref sig .tc) := [
  main_v218, main_v219, main_v220, main_v221, main_v222, main_v223, main_v224, main_v225, main_v226, main_v227, main_v228, main_v229,
  main_v230, main_v231, main_v232, main_v233, main_v234, main_v235, main_v236, main_v237, main_v238, main_v239, main_v240,
  main_cst_34, main_v241, main_v242, main_v243, main_v244, main_v245, main_v246, main_v247, main_v248, main_v249, main_v250,
  main_v251, main_v252]
theorem post0_writes : (post0 (F := F)).map HloOp.writes = post0_W.map fun w => {Proc.devRef (τ := τ) .tc w} := rfl
abbrev post1_W : List (Ref sig .tc) := [
  main_v253, main_v254, main_v255, main_cst_35, main_v256, main_cst_36, main_v257, main_v258, main_v259, main_v260, main_v261,
  main_v262, main_v263, main_v264, main_v265, main_v266, main_v267, main_v268, main_v269, main_v270, main_v271, main_cst_37,
  main_v272, main_cst_38, main_v273, main_v274, main_v275, main_v276, main_v277]
theorem post1_writes : (post1 (F := F)).map HloOp.writes = post1_W.map fun w => {Proc.devRef (τ := τ) .tc w} := rfl

variable (m : (ℓ : Loc nD τ sig) → Buf (Elt F) ℓ) (c : Dev nD) (r : Ref sig .tc)

theorem U0_of (h0 : r ∉ pre0_W) (h1 : r ∉ pre1_W) (h2 : r ∉ pre2_W) :
    U0 m c (Proc.devRef .tc r) = launchContents m c (Proc.devRef .tc r) := by
  show afterL pre (launchContents m c) (Proc.devRef .tc r) = _
  rw [StableHlo.afterL_cons, StableHlo.afterL_cons, StableHlo.afterL_cons, StableHlo.afterL_nil,
    after_unwritten pre2_W pre2_writes h2, after_unwritten pre1_W pre1_writes h1, after_unwritten pre0_W pre0_writes h0]

theorem U1_of (hc : r ∉ cond0_W) (hb : r ∉ body0_W) (k : ℕ) : U1 m k c (Proc.devRef .tc r) = U0 m c (Proc.devRef .tc r) := by
  induction k with
  | zero => rfl
  | succ k ih =>
    refine Eq.trans ?_ ih
    show afterL [body0] (after cond0 (U1 m k c)) (Proc.devRef .tc r) = _
    rw [StableHlo.afterL_cons, StableHlo.afterL_nil, after_unwritten body0_W body0_writes hb, after_unwritten cond0_W cond0_writes hc]

theorem U2_of (hc : r ∉ cond0_W) (h0 : r ∉ mid0_W) (h1 : r ∉ mid1_W) (h2 : r ∉ mid2_W) :
    U2 m c (Proc.devRef .tc r) = U1 m 16 c (Proc.devRef .tc r) := by
  show afterL mid (after cond0 (U1 m 16 c)) (Proc.devRef .tc r) = _
  rw [StableHlo.afterL_cons, StableHlo.afterL_cons, StableHlo.afterL_cons, StableHlo.afterL_nil,
    after_unwritten mid2_W mid2_writes h2, after_unwritten mid1_W mid1_writes h1, after_unwritten mid0_W mid0_writes h0,
    after_unwritten cond0_W cond0_writes hc]

theorem U3_of (hc : r ∉ cond1_W) (hb : r ∉ body1_W) (k : ℕ) : U3 m k c (Proc.devRef .tc r) = U2 m c (Proc.devRef .tc r) := by
  induction k with
  | zero => rfl
  | succ k ih =>
    refine Eq.trans ?_ ih
    show afterL [body1] (after cond1 (U3 m k c)) (Proc.devRef .tc r) = _
    rw [StableHlo.afterL_cons, StableHlo.afterL_nil, after_unwritten body1_W body1_writes hb, after_unwritten cond1_W cond1_writes hc]

theorem U4_of (hc : r ∉ cond1_W) (h0 : r ∉ post0_W) (h1 : r ∉ post1_W) :
    U4 m c (Proc.devRef .tc r) = U3 m 16 c (Proc.devRef .tc r) := by
  show afterL post (after cond1 (U3 m 16 c)) (Proc.devRef .tc r) = _
  rw [StableHlo.afterL_cons, StableHlo.afterL_cons, StableHlo.afterL_nil,
    after_unwritten post1_W post1_writes h1, after_unwritten post0_W post0_writes h0, after_unwritten cond1_W cond1_writes hc]

end Cert.Reference6Ideal.Ret

end
-- ==== Proof.RetEqs.lean ====
/-
  The retention reference's intermediate values, each as a function of earlier ones: what the runs of plain operations leave in
  the buffers, stretch by stretch.
-/
module

public import proofs.«01_k».proof.Proof.RetHost
public import proofs.«01_k».proof.Proof.RetOps
public import Idealize.ShloMosaic.Lib.StableHlo.RunRead
public import Idealize.ShloMosaic.Lib.StableHlo.ReadAt

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (after afterL)

variable (V : Valuation τ sig (Elt Ideal))

theorem pre_v4 : (afterL pre V (Proc.devRef .tc main_v4) : FVec Ideal S2x2048x4x128 .f32) = qIn (afterL pre V (Proc.devRef .tc main_arg1)) := by
  simp only [StableHlo.afterL_cons, StableHlo.afterL_nil]
  after_reads_simp
  rfl

theorem pre_v5 : (afterL pre V (Proc.devRef .tc main_v5) : FVec Ideal S2x2048x4x128 .f32) = kIn (afterL pre V (Proc.devRef .tc main_arg1)) := by
  simp only [StableHlo.afterL_cons, StableHlo.afterL_nil]
  after_reads_simp
  rfl

theorem pre_v6 : (afterL pre V (Proc.devRef .tc main_v6) : FVec Ideal S2x2048x4x128 .f32) = vIn (afterL pre V (Proc.devRef .tc main_arg1)) := by
  simp only [StableHlo.afterL_cons, StableHlo.afterL_nil]
  after_reads_simp
  rfl

theorem pre_v3 : (afterL pre V (Proc.devRef .tc main_v3) : FVec Ideal S4096x512 .f32) = gIn (afterL pre V (Proc.devRef .tc main_arg1)) := by
  simp only [StableHlo.afterL_cons, StableHlo.afterL_nil]
  after_reads_simp
  rfl

theorem pre_v20 : (afterL pre V (Proc.devRef .tc main_v20) : FVec Ideal S1x2048x1x64 .f32) = cosT := by
  simp only [StableHlo.afterL_cons, StableHlo.afterL_nil]
  after_reads_simp
  rfl

theorem pre_v22 : (afterL pre V (Proc.devRef .tc main_v22) : FVec Ideal S1x2048x1x64 .f32) = sinT := by
  simp only [StableHlo.afterL_cons, StableHlo.afterL_nil]
  after_reads_simp
  rfl

theorem pre_v49 : (afterL pre V (Proc.devRef .tc main_v49) : FVec Ideal S1x2048x1x64 .f32) = cosT := by
  simp only [StableHlo.afterL_cons, StableHlo.afterL_nil]
  after_reads_simp
  rfl

theorem pre_v51 : (afterL pre V (Proc.devRef .tc main_v51) : FVec Ideal S1x2048x1x64 .f32) = sinT := by
  simp only [StableHlo.afterL_cons, StableHlo.afterL_nil]
  after_reads_simp
  rfl

theorem pre_v35 : (afterL pre V (Proc.devRef .tc main_v35) : FVec Ideal S2x2048x4x128 .f32) = rope4 (afterL pre V (Proc.devRef .tc main_v4)) (afterL pre V (Proc.devRef .tc main_v20)) (afterL pre V (Proc.devRef .tc main_v22)) := by
  simp only [StableHlo.afterL_cons, StableHlo.afterL_nil]
  after_reads_simp
  rfl

theorem pre_v64 : (afterL pre V (Proc.devRef .tc main_v64) : FVec Ideal S2x2048x4x128 .f32) = rope4 (afterL pre V (Proc.devRef .tc main_v5)) (afterL pre V (Proc.devRef .tc main_v49)) (afterL pre V (Proc.devRef .tc main_v51)) := by
  simp only [StableHlo.afterL_cons, StableHlo.afterL_nil]
  after_reads_simp
  rfl

theorem pre_v66 : (afterL pre V (Proc.devRef .tc main_v66) : FVec Ideal S2x2048x4x128 .f32) = scl4 (afterL pre V (Proc.devRef .tc main_v64)) := by
  simp only [StableHlo.afterL_cons, StableHlo.afterL_nil]
  after_reads_simp
  rfl

theorem pre_v73 : (afterL pre V (Proc.devRef .tc main_v73) : FVec Ideal S4 .f32) = lgT := by
  simp only [StableHlo.afterL_cons, StableHlo.afterL_nil]
  after_reads_simp
  rfl

theorem pre_v74 : (afterL pre V (Proc.devRef .tc main_v74) : FVec Ideal S128 .f32) = posT := by
  simp only [StableHlo.afterL_cons, StableHlo.afterL_nil]
  after_reads_simp
  rfl

theorem pre_v95 : (afterL pre V (Proc.devRef .tc main_v95) : FVec Ideal S1x4x1x128x128 .f32) = decT (afterL pre V (Proc.devRef .tc main_v73)) := by
  simp only [StableHlo.afterL_cons, StableHlo.afterL_nil]
  after_reads_simp
  rfl

theorem pre_v91 : (afterL pre V (Proc.devRef .tc main_v91) : FVec Ideal S2x16x128x4x128 .f32) = chunk5 (afterL pre V (Proc.devRef .tc main_v35)) := by
  simp only [StableHlo.afterL_cons, StableHlo.afterL_nil]
  after_reads_simp
  rfl

theorem pre_v92 : (afterL pre V (Proc.devRef .tc main_v92) : FVec Ideal S2x16x128x4x128 .f32) = chunk5 (afterL pre V (Proc.devRef .tc main_v66)) := by
  simp only [StableHlo.afterL_cons, StableHlo.afterL_nil]
  after_reads_simp
  rfl

theorem pre_v93 : (afterL pre V (Proc.devRef .tc main_v93) : FVec Ideal S2x16x128x4x128 .f32) = chunk5 (afterL pre V (Proc.devRef .tc main_v6)) := by
  simp only [StableHlo.afterL_cons, StableHlo.afterL_nil]
  after_reads_simp
  rfl

theorem pre_v97 : (afterL pre V (Proc.devRef .tc main_v97) : FVec Ideal S2x4x16x128x128 .f32) = sco5 (afterL pre V (Proc.devRef .tc main_v91)) (afterL pre V (Proc.devRef .tc main_v92)) (afterL pre V (Proc.devRef .tc main_v95)) := by
  simp only [StableHlo.afterL_cons, StableHlo.afterL_nil]
  after_reads_simp
  rfl

theorem pre_v99 : (afterL pre V (Proc.devRef .tc main_v99) : FVec Ideal S2x16x128x4x128 .f32) = intra5 (afterL pre V (Proc.devRef .tc main_v93)) (afterL pre V (Proc.devRef .tc main_v97)) := by
  simp only [StableHlo.afterL_cons, StableHlo.afterL_nil]
  after_reads_simp
  rfl

theorem pre_v109 : (afterL pre V (Proc.devRef .tc main_v109) : FVec Ideal S1x1x128x4x1 .f32) = kdT (afterL pre V (Proc.devRef .tc main_v73)) := by
  simp only [StableHlo.afterL_cons, StableHlo.afterL_nil]
  after_reads_simp
  rfl

theorem pre_v111 : (afterL pre V (Proc.devRef .tc main_v111) : FVec Ideal S2x16x128x4x128 .f32) = dec5 (afterL pre V (Proc.devRef .tc main_v92)) (afterL pre V (Proc.devRef .tc main_v109)) := by
  simp only [StableHlo.afterL_cons, StableHlo.afterL_nil]
  after_reads_simp
  rfl

theorem pre_v119_0 : (afterL pre V (Proc.devRef .tc main_v119_0) : FVec Ideal S16x2x4x128x128 .f32) = kv5 (afterL pre V (Proc.devRef .tc main_v111)) (afterL pre V (Proc.devRef .tc main_v93)) := by
  simp only [StableHlo.afterL_cons, StableHlo.afterL_nil]
  after_reads_simp
  rfl

theorem pre_v116 : (afterL pre V (Proc.devRef .tc main_v116) : FVec Ideal S1x4x1x1 .f32) = gcT (afterL pre V (Proc.devRef .tc main_v73)) := by
  simp only [StableHlo.afterL_cons, StableHlo.afterL_nil]
  after_reads_simp
  rfl

theorem pre_v119_1 : (afterL pre V (Proc.devRef .tc main_v119_1) : FVec Ideal S1x4x1x1 .f32) = gcT (afterL pre V (Proc.devRef .tc main_v73)) := by
  simp only [StableHlo.afterL_cons, StableHlo.afterL_nil]
  after_reads_simp
  rfl

theorem pre_v119_3 : (afterL pre V (Proc.devRef .tc main_v119_3) : FVec Ideal S2x4x128x128 .f32) = zero4 := by
  simp only [StableHlo.afterL_cons, StableHlo.afterL_nil]
  after_reads_simp
  rfl

theorem pre_v119_4 : (afterL pre V (Proc.devRef .tc main_v119_4) : FVec Ideal S16x2x4x128x128 .f32) = zero5 := by
  simp only [StableHlo.afterL_cons, StableHlo.afterL_nil]
  after_reads_simp
  rfl

theorem post_v219 : (afterL post V (Proc.devRef .tc main_v219) : FVec Ideal S2x16x128x4x128 .f32) = dv1 (afterL post V (Proc.devRef .tc main_v217_4)) (afterL post V (Proc.devRef .tc main_v111)) := by
  simp only [StableHlo.afterL_cons, StableHlo.afterL_nil]
  after_reads_simp
  rfl

theorem post_v221 : (afterL post V (Proc.devRef .tc main_v221) : FVec Ideal S2x16x128x4x128 .f32) = dk1 (afterL post V (Proc.devRef .tc main_v217_4)) (afterL post V (Proc.devRef .tc main_v93)) := by
  simp only [StableHlo.afterL_cons, StableHlo.afterL_nil]
  after_reads_simp
  rfl

theorem post_v223 : (afterL post V (Proc.devRef .tc main_v223) : FVec Ideal S2x16x128x4x128 .f32) = dec5 (afterL post V (Proc.devRef .tc main_v221)) (afterL post V (Proc.devRef .tc main_v109)) := by
  simp only [StableHlo.afterL_cons, StableHlo.afterL_nil]
  after_reads_simp
  rfl

theorem post_v224 : (afterL post V (Proc.devRef .tc main_v224) : FVec Ideal S2x16x4x128x128 .f32) = tr5 (afterL post V (Proc.devRef .tc main_v207)) := by
  simp only [StableHlo.afterL_cons, StableHlo.afterL_nil]
  after_reads_simp
  rfl

theorem post_v228 : (afterL post V (Proc.devRef .tc main_v228) : FVec Ideal S2x16x128x4x128 .f32) = dv2 (afterL post V (Proc.devRef .tc main_v224)) (afterL post V (Proc.devRef .tc main_v97)) := by
  simp only [StableHlo.afterL_cons, StableHlo.afterL_nil]
  after_reads_simp
  rfl

theorem post_v231 : (afterL post V (Proc.devRef .tc main_v231) : FVec Ideal S2x4x16x128x128 .f32) = ds5 (afterL post V (Proc.devRef .tc main_v224)) (afterL post V (Proc.devRef .tc main_v93)) (afterL post V (Proc.devRef .tc main_v95)) := by
  simp only [StableHlo.afterL_cons, StableHlo.afterL_nil]
  after_reads_simp
  rfl

theorem post_v233 : (afterL post V (Proc.devRef .tc main_v233) : FVec Ideal S2x16x128x4x128 .f32) = dk2 (afterL post V (Proc.devRef .tc main_v231)) (afterL post V (Proc.devRef .tc main_v91)) := by
  simp only [StableHlo.afterL_cons, StableHlo.afterL_nil]
  after_reads_simp
  rfl

theorem post_v236 : (afterL post V (Proc.devRef .tc main_v236) : FVec Ideal S2x16x128x4x128 .f32) = dq2 (afterL post V (Proc.devRef .tc main_v231)) (afterL post V (Proc.devRef .tc main_v92)) := by
  simp only [StableHlo.afterL_cons, StableHlo.afterL_nil]
  after_reads_simp
  rfl

theorem post_v238 : (afterL post V (Proc.devRef .tc main_v238) : FVec Ideal S2x2048x4x128 .f32) = sum4 (afterL post V (Proc.devRef .tc main_v219)) (afterL post V (Proc.devRef .tc main_v228)) := by
  simp only [StableHlo.afterL_cons, StableHlo.afterL_nil]
  after_reads_simp
  rfl

theorem post_v242 : (afterL post V (Proc.devRef .tc main_v242) : FVec Ideal S2x2048x4x128 .f32) = dkx4 (afterL post V (Proc.devRef .tc main_v223)) (afterL post V (Proc.devRef .tc main_v233)) := by
  simp only [StableHlo.afterL_cons, StableHlo.afterL_nil]
  after_reads_simp
  rfl

theorem post_v240 : (afterL post V (Proc.devRef .tc main_v240) : FVec Ideal S2x2048x4x128 .f32) = sum4 (afterL post V (Proc.devRef .tc main_v214)) (afterL post V (Proc.devRef .tc main_v236)) := by
  simp only [StableHlo.afterL_cons, StableHlo.afterL_nil]
  after_reads_simp
  rfl

theorem post_v258 : (afterL post V (Proc.devRef .tc main_v258) : FVec Ideal S2x2048x4x128 .f32) = ropeT4 (afterL post V (Proc.devRef .tc main_v242)) (afterL post V (Proc.devRef .tc main_v49)) (afterL post V (Proc.devRef .tc main_v51)) := by
  simp only [StableHlo.afterL_cons, StableHlo.afterL_nil]
  after_reads_simp
  rfl

theorem post_v274 : (afterL post V (Proc.devRef .tc main_v274) : FVec Ideal S2x2048x4x128 .f32) = ropeT4 (afterL post V (Proc.devRef .tc main_v240)) (afterL post V (Proc.devRef .tc main_v20)) (afterL post V (Proc.devRef .tc main_v22)) := by
  simp only [StableHlo.afterL_cons, StableHlo.afterL_nil]
  after_reads_simp
  rfl

theorem post_v275 : (afterL post V (Proc.devRef .tc main_v275) : FVec Ideal S4096x512 .f32) = flat2 (afterL post V (Proc.devRef .tc main_v238)) := by
  simp only [StableHlo.afterL_cons, StableHlo.afterL_nil]
  after_reads_simp
  rfl

theorem post_v276 : (afterL post V (Proc.devRef .tc main_v276) : FVec Ideal S4096x512 .f32) = flat2 (afterL post V (Proc.devRef .tc main_v258)) := by
  simp only [StableHlo.afterL_cons, StableHlo.afterL_nil]
  after_reads_simp
  rfl

theorem post_v277 : (afterL post V (Proc.devRef .tc main_v277) : FVec Ideal S4096x512 .f32) = flat2 (afterL post V (Proc.devRef .tc main_v274)) := by
  simp only [StableHlo.afterL_cons, StableHlo.afterL_nil]
  after_reads_simp
  rfl

end Cert.Reference6Ideal.Ret

end
-- ==== Proof.RetMid.lean ====
/-
  The retention reference's intermediate values, each as a function of earlier ones: what the runs of plain operations leave in
  the buffers, stretch by stretch.
-/
module

public import proofs.«01_k».proof.Proof.RetHost
public import proofs.«01_k».proof.Proof.RetOps
public import Idealize.ShloMosaic.Lib.StableHlo.RunRead
public import Idealize.ShloMosaic.Lib.StableHlo.ReadAt

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (after afterL)

variable (V : Valuation τ sig (Elt Ideal))

theorem mid_v129 : (afterL mid V (Proc.devRef .tc main_v129) : FVec Ideal S1x1x128x4x1 .f32) = qdT (afterL mid V (Proc.devRef .tc main_v73)) (afterL mid V (Proc.devRef .tc main_v74)) := by
  simp only [StableHlo.afterL_cons, StableHlo.afterL_nil]
  after_reads_simp
  rfl

theorem mid_v131 : (afterL mid V (Proc.devRef .tc main_v131) : FVec Ideal S2x16x128x4x128 .f32) = dec5 (afterL mid V (Proc.devRef .tc main_v91)) (afterL mid V (Proc.devRef .tc main_v129)) := by
  simp only [StableHlo.afterL_cons, StableHlo.afterL_nil]
  after_reads_simp
  rfl

theorem mid_v133 : (afterL mid V (Proc.devRef .tc main_v133) : FVec Ideal S2x16x128x4x128 .f32) = cross5 (afterL mid V (Proc.devRef .tc main_v119_4)) (afterL mid V (Proc.devRef .tc main_v131)) := by
  simp only [StableHlo.afterL_cons, StableHlo.afterL_nil]
  after_reads_simp
  rfl

theorem mid_v135 : (afterL mid V (Proc.devRef .tc main_v135) : FVec Ideal S2x2048x4x128 .f32) = out4 (afterL mid V (Proc.devRef .tc main_v99)) (afterL mid V (Proc.devRef .tc main_v133)) := by
  simp only [StableHlo.afterL_cons, StableHlo.afterL_nil]
  after_reads_simp
  rfl

theorem mid_v140 : (afterL mid V (Proc.devRef .tc main_v140) : FVec Ideal S2x2048x4x1 .f32) = mu4 (afterL mid V (Proc.devRef .tc main_v135)) := by
  simp only [StableHlo.afterL_cons, StableHlo.afterL_nil]
  after_reads_simp
  rfl

theorem mid_v151 : (afterL mid V (Proc.devRef .tc main_v151) : FVec Ideal S2x2048x4x128 .f32) = cen4 (afterL mid V (Proc.devRef .tc main_v135)) (afterL mid V (Proc.devRef .tc main_v140)) := by
  simp only [StableHlo.afterL_cons, StableHlo.afterL_nil]
  after_reads_simp
  rfl

theorem mid_v153 : (afterL mid V (Proc.devRef .tc main_v153) : FVec Ideal S2x2048x4x1 .f32) = var4 (afterL mid V (Proc.devRef .tc main_v151)) := by
  simp only [StableHlo.afterL_cons, StableHlo.afterL_nil]
  after_reads_simp
  rfl

theorem mid_v154 : (afterL mid V (Proc.devRef .tc main_v154) : FVec Ideal S2x2048x4x1 .f32) = rst4 (afterL mid V (Proc.devRef .tc main_v153)) := by
  simp only [StableHlo.afterL_cons, StableHlo.afterL_nil]
  after_reads_simp
  rfl

theorem mid_v157 : (afterL mid V (Proc.devRef .tc main_v157) : FVec Ideal S2x2048x4x1 .f32) = slope4 (afterL mid V (Proc.devRef .tc main_v153)) (afterL mid V (Proc.devRef .tc main_v154)) := by
  simp only [StableHlo.afterL_cons, StableHlo.afterL_nil]
  after_reads_simp
  rfl

theorem mid_v145 : (afterL mid V (Proc.devRef .tc main_v145) : FVec Ideal S2x2048x4x128 .f32) = twice4 (afterL mid V (Proc.devRef .tc main_v151)) := by
  simp only [StableHlo.afterL_cons, StableHlo.afterL_nil]
  after_reads_simp
  rfl

theorem mid_v160 : (afterL mid V (Proc.devRef .tc main_v160) : FVec Ideal S2x2048x512 .f32) = nrm3 (afterL mid V (Proc.devRef .tc main_v151)) (afterL mid V (Proc.devRef .tc main_v154)) := by
  simp only [StableHlo.afterL_cons, StableHlo.afterL_nil]
  after_reads_simp
  rfl

theorem mid_v161 : (afterL mid V (Proc.devRef .tc main_v161) : FVec Ideal S1x1x512 .f32) = gain3 (afterL mid V (Proc.devRef .tc main_arg2)) := by
  simp only [StableHlo.afterL_cons, StableHlo.afterL_nil]
  after_reads_simp
  rfl

theorem mid_v163 : (afterL mid V (Proc.devRef .tc main_v163) : FVec Ideal S2x2048x512 .f32) = gn3 (afterL mid V (Proc.devRef .tc main_v160)) (afterL mid V (Proc.devRef .tc main_v161)) := by
  simp only [StableHlo.afterL_cons, StableHlo.afterL_nil]
  after_reads_simp
  rfl

theorem mid_v164 : (afterL mid V (Proc.devRef .tc main_v164) : FVec Ideal S2x2048x512 .f32) = gate3 (afterL mid V (Proc.devRef .tc main_v3)) := by
  simp only [StableHlo.afterL_cons, StableHlo.afterL_nil]
  after_reads_simp
  rfl

theorem mid_v165_2 : (afterL mid V (Proc.devRef .tc main_v165_2) : FVec Ideal S2x2048x512 .f32) = sig3 (afterL mid V (Proc.devRef .tc main_v164)) := by
  simp only [StableHlo.afterL_cons, StableHlo.afterL_nil]
  after_reads_simp
  rfl

theorem mid_v165_1 : (afterL mid V (Proc.devRef .tc main_v165_1) : FVec Ideal S2x2048x512 .f32) = dsig3 (afterL mid V (Proc.devRef .tc main_v165_2)) := by
  simp only [StableHlo.afterL_cons, StableHlo.afterL_nil]
  after_reads_simp
  rfl

theorem mid_v165_0 : (afterL mid V (Proc.devRef .tc main_v165_0) : FVec Ideal S2x2048x512 .f32) = silu3 (afterL mid V (Proc.devRef .tc main_v164)) (afterL mid V (Proc.devRef .tc main_v165_2)) := by
  simp only [StableHlo.afterL_cons, StableHlo.afterL_nil]
  after_reads_simp
  rfl

theorem mid_v167 : (afterL mid V (Proc.devRef .tc main_v167) : FVec Ideal S4096x512 .f32) = mer2 (afterL mid V (Proc.devRef .tc main_v163)) (afterL mid V (Proc.devRef .tc main_v165_0)) := by
  simp only [StableHlo.afterL_cons, StableHlo.afterL_nil]
  after_reads_simp
  rfl

theorem mid_v170 : (afterL mid V (Proc.devRef .tc main_v170) : FVec Ideal S2x2048x512 .f32) = dm3 (afterL mid V (Proc.devRef .tc main_arg0)) := by
  simp only [StableHlo.afterL_cons, StableHlo.afterL_nil]
  after_reads_simp
  rfl

theorem mid_v174 : (afterL mid V (Proc.devRef .tc main_v174) : FVec Ideal S4096x512 .f32) = dgt2 (afterL mid V (Proc.devRef .tc main_v163)) (afterL mid V (Proc.devRef .tc main_v170)) (afterL mid V (Proc.devRef .tc main_v164)) (afterL mid V (Proc.devRef .tc main_v165_2)) (afterL mid V (Proc.devRef .tc main_v165_1)) := by
  simp only [StableHlo.afterL_cons, StableHlo.afterL_nil]
  after_reads_simp
  rfl

theorem mid_v172 : (afterL mid V (Proc.devRef .tc main_v172) : FVec Ideal S2x2048x512 .f32) = dn3 (afterL mid V (Proc.devRef .tc main_v170)) (afterL mid V (Proc.devRef .tc main_v165_0)) := by
  simp only [StableHlo.afterL_cons, StableHlo.afterL_nil]
  after_reads_simp
  rfl

theorem mid_v206 : (afterL mid V (Proc.devRef .tc main_v206) : FVec Ideal S1x512 .f32) = dgn2 (afterL mid V (Proc.devRef .tc main_v160)) (afterL mid V (Proc.devRef .tc main_v172)) := by
  simp only [StableHlo.afterL_cons, StableHlo.afterL_nil]
  after_reads_simp
  rfl

theorem mid_v181 : (afterL mid V (Proc.devRef .tc main_v181) : FVec Ideal S2x2048x4x128 .f32) = d4 (afterL mid V (Proc.devRef .tc main_v172)) (afterL mid V (Proc.devRef .tc main_v161)) := by
  simp only [StableHlo.afterL_cons, StableHlo.afterL_nil]
  after_reads_simp
  rfl

theorem mid_v186 : (afterL mid V (Proc.devRef .tc main_v186) : FVec Ideal S2x2048x4x128 .f32) = pull4 (afterL mid V (Proc.devRef .tc main_v181)) (afterL mid V (Proc.devRef .tc main_v154)) := by
  simp only [StableHlo.afterL_cons, StableHlo.afterL_nil]
  after_reads_simp
  rfl

theorem mid_v187 : (afterL mid V (Proc.devRef .tc main_v187) : FVec Ideal S2x2048x4x1 .f32) = coef4 (afterL mid V (Proc.devRef .tc main_v151)) (afterL mid V (Proc.devRef .tc main_v181)) (afterL mid V (Proc.devRef .tc main_v157)) := by
  simp only [StableHlo.afterL_cons, StableHlo.afterL_nil]
  after_reads_simp
  rfl

theorem mid_v195 : (afterL mid V (Proc.devRef .tc main_v195) : FVec Ideal S2x2048x4x128 .f32) = back4 (afterL mid V (Proc.devRef .tc main_v187)) (afterL mid V (Proc.devRef .tc main_v145)) := by
  simp only [StableHlo.afterL_cons, StableHlo.afterL_nil]
  after_reads_simp
  rfl

theorem mid_v205 : (afterL mid V (Proc.devRef .tc main_v205) : FVec Ideal S2x2048x4x128 .f32) = dout4 (afterL mid V (Proc.devRef .tc main_v186)) (afterL mid V (Proc.devRef .tc main_v195)) := by
  simp only [StableHlo.afterL_cons, StableHlo.afterL_nil]
  after_reads_simp
  rfl

theorem mid_v207 : (afterL mid V (Proc.devRef .tc main_v207) : FVec Ideal S2x16x128x4x128 .f32) = chunk5 (afterL mid V (Proc.devRef .tc main_v205)) := by
  simp only [StableHlo.afterL_cons, StableHlo.afterL_nil]
  after_reads_simp
  rfl

theorem mid_v208 : (afterL mid V (Proc.devRef .tc main_v208) : FVec Ideal S2x16x4x128x128 .f32) = tr5 (afterL mid V (Proc.devRef .tc main_v207)) := by
  simp only [StableHlo.afterL_cons, StableHlo.afterL_nil]
  after_reads_simp
  rfl

theorem mid_v210 : (afterL mid V (Proc.devRef .tc main_v210) : FVec Ideal S2x16x128x4x128 .f32) = dq1 (afterL mid V (Proc.devRef .tc main_v208)) (afterL mid V (Proc.devRef .tc main_v119_4)) := by
  simp only [StableHlo.afterL_cons, StableHlo.afterL_nil]
  after_reads_simp
  rfl

theorem mid_v214 : (afterL mid V (Proc.devRef .tc main_v214) : FVec Ideal S2x16x128x4x128 .f32) = dec5 (afterL mid V (Proc.devRef .tc main_v210)) (afterL mid V (Proc.devRef .tc main_v129)) := by
  simp only [StableHlo.afterL_cons, StableHlo.afterL_nil]
  after_reads_simp
  rfl

theorem mid_v217_0 : (afterL mid V (Proc.devRef .tc main_v217_0) : FVec Ideal S16x2x4x128x128 .f32) = dkv5 (afterL mid V (Proc.devRef .tc main_v208)) (afterL mid V (Proc.devRef .tc main_v131)) := by
  simp only [StableHlo.afterL_cons, StableHlo.afterL_nil]
  after_reads_simp
  rfl

theorem mid_v217_3 : (afterL mid V (Proc.devRef .tc main_v217_3) : FVec Ideal S2x4x128x128 .f32) = zero4 := by
  simp only [StableHlo.afterL_cons, StableHlo.afterL_nil]
  after_reads_simp
  rfl

theorem mid_v217_4 : (afterL mid V (Proc.devRef .tc main_v217_4) : FVec Ideal S16x2x4x128x128 .f32) = zero5 := by
  simp only [StableHlo.afterL_cons, StableHlo.afterL_nil]
  after_reads_simp
  rfl

end Cert.Reference6Ideal.Ret

end
-- ==== Proof.RetPay.lean ====
/-
  The arithmetic of the two retention kernels, payload by payload, as the operations of RetMath.lean.
-/
module

public import proofs.«01_k».proof.Proof.RetMath
public import proofs.«01_k».proof.Proof.Gen.Kernel6Ideal.Frame
public import Idealize.ShloMosaic.Lib.Tactic
public import Idealize.ShloMosaic.Lib.Pointwise
public import Idealize.ShloMosaic.Lib.Pipeline.Value

@[expose] public section

set_option maxRecDepth 16384

noncomputable section

namespace Cert.Kernel6Ideal.Ret

open Cert.Kernel6Ideal Cert.Kernel6Ideal.Gen Idealize.ShloMosaic Idealize.ShloMosaic.TcCoe Idealize.SL.Sem
open scoped BigOperators
open Cert.Ret

/-- A block held by the kernels, and a column of one. -/
abbrev A := FVec Ideal S128x128 .f32
abbrev A1 := FVec Ideal S128x1 .f32

/-- The block, the column, the row as functions of their coordinates. -/
def mt (X : A) : Mat := fun r c => X (ix2 r c)
def co (X : A1) : Col := fun r => X (ix2 r 0)
def ro (X : FVec Ideal S1x128 .f32) : Col := fun c => X (ix2 0 c)

abbrev B := FVec Ideal S128x128 .bf16
def mb (X : B) : Mat := fun r c => X (ix2 r c)
def m5 (X : FVec Ideal S1x1x1x128x128 .f32) : Mat := fun r c => X (ix5 0 0 0 r c)

/-! ### The forward call -/

section Forward

variable (c s q k v gate D R : A) (v63 : B) (kd qd : A1) (v73 v60 v157 : A) (v76 : B) (v161 : A1) (g : FVec Ideal S1x128 .f32)

theorem fpay13 : mt (k0_pay13 c s k) = scaled (rope (mt k) (mt c) (mt s)) := by
  funext r l; unfold mt; pointwise [k0_pay13, k0_pay10, k0_pay11]; rfl
theorem fpay14 : mb (k0_pay14 v) = mt v := by
  funext r l; unfold mb; pointwise [k0_pay14]; rfl
theorem fpay15 : m5 (k0_pay15 R) = mt R := by
  funext r l; unfold m5; pointwise [k0_pay15]; rfl
theorem fpay16 : mt (k0_pay16 D c s q k v) = fun r l =>
    ∑ x, score (mt D) (rope (mt q) (mt c) (mt s)) (scaled (rope (mt k) (mt c) (mt s))) r x * mt v x l := by
  funext r l; unfold mt; pointwise [k0_pay16, k0_pay10, k0_pay11, k0_pay12, k0_pay13, k0_pay14]; rfl
theorem fpay17 : mb (k0_pay17 qd c s q) = fun r l => rope (mt q) (mt c) (mt s) r l * co qd r := by
  funext r l; unfold mb; pointwise [k0_pay17, k0_pay10, k0_pay11, k0_pay12]; rfl
theorem fpay18 : mt (k0_pay18 R v73 v76) = fun r l => mt v73 r l + ∑ x, mb v76 r x * mt R x l := by
  funext r l; unfold mt; pointwise [k0_pay18]; rfl
theorem fpay19 : mt (k0_pay19 g R v73 v76 gate) = merged (mt (k0_pay18 R v73 v76)) (mt gate) (ro g) := by
  funext r l; rw [fpay18]; unfold mt; pointwise [k0_pay19, k0_pay18]; rfl
theorem fpay20 (gc : EReal) : mt (k0_pay20 kd gc R v60 v63) = next gc (co kd) (mt v60) (mb v63) (mt R) := by
  funext r l; unfold mt; pointwise [k0_pay20]; rfl
theorem fpay23 : mt (k0_pay23 c s k) = scaled (rope (mt k) (mt c) (mt s)) := by
  funext r l; unfold mt; pointwise [k0_pay23, k0_pay21, k0_pay22]; rfl
theorem fpay24 : mb (k0_pay24 v) = mt v := by
  funext r l; unfold mb; pointwise [k0_pay24]; rfl
theorem fpay25 : m5 (k0_pay25 R) = mt R := by
  funext r l; unfold m5; pointwise [k0_pay25]; rfl
theorem fpay26 : mt (k0_pay26 D qd R c s q k v)
    = outp (mt D) (rope (mt q) (mt c) (mt s)) (scaled (rope (mt k) (mt c) (mt s))) (mt v) (mt R) (co qd) := by
  funext r l; unfold mt; pointwise [k0_pay26, k0_pay21, k0_pay22, k0_pay23, k0_pay24]; rfl
theorem fpay27 : co (k0_pay27 D qd R c s q k v) = fun r => ∑ x, mt (k0_pay26 D qd R c s q k v) r x := by
  funext r; rw [fpay26]; unfold co mt; pointwise [k0_pay27, k0_pay26, k0_pay21, k0_pay22, k0_pay23, k0_pay24]; rfl
theorem fpay8 (h : co v161 = fun r => ∑ x, mt v157 r x) : mt (k0_pay8 g v157 v161 c128 gate) = merged (mt v157) (mt gate) (ro g) := by
  have h' : ∀ r, v161 (ix2 r 0) = ∑ x, v157 (ix2 r x) := fun r => congrFun h r
  funext r l; unfold mt; pointwise [k0_pay8]; simp only [h']; rfl
theorem fkd (i : grid0.Coords) : co (k0_pay4 (F := Ideal) i) = fun r =>
    Ideal.exp (k0_pay1 (F := Ideal) i * (Ideal.ofBits .f32 1123942400#32 - FloatOps.sitofp (F := Ideal) .f32 (BitVec.ofNat 32 r.val))) := by
  funext r; unfold co; pointwise [k0_pay4, k0_pay3]
theorem fqd (i : grid0.Coords) : co (k0_pay5 (F := Ideal) i) = fun r =>
    Ideal.exp (k0_pay1 (F := Ideal) i * (FloatOps.sitofp (F := Ideal) .f32 (BitVec.ofNat 32 r.val) + 1)) := by
  funext r; unfold co; pointwise [k0_pay5, k0_pay3]
theorem fgc (i : grid0.Coords) : k0_pay6 (F := Ideal) i = Ideal.exp (k0_pay1 (F := Ideal) i * c128) := rfl
theorem fdecay (i : grid0.Coords) : mt (k0_pay2 (F := Ideal) i) = fun r c =>
    Scalar.select (IntOp.cmpi .sge (BitVec.ofNat 32 r.val) (BitVec.ofNat 32 c.val)) (Ideal.exp (k0_pay1 (F := Ideal) i
      * max (FloatOps.sitofp (F := Ideal) .f32 (IntOp.subi (BitVec.ofNat 32 r.val) (BitVec.ofNat 32 c.val))) 0)) 0 := by
  funext r c; unfold mt; pointwise [k0_pay2]
theorem fpay9 (i : grid0.Coords) : mt (k0_pay9 i R v60 v63) = next (k0_pay6 (F := Ideal) i) (co (k0_pay4 (F := Ideal) i)) (mt v60) (mb v63) (mt R) := by
  funext r l; unfold mt; rw [fkd]; pointwise [k0_pay9, k0_pay4, k0_pay3]; rfl

end Forward

/-! ### The backward call, first sequence -/

section Payloads

variable (c s q k v o gate dm D R dr : A) (v71 v68 v67 : B) (kd qd v90 v129 : A1) (v92 v124 v82 v83 v66 v73 : A) (g : FVec Ideal S1x128 .f32) (R5 : FVec Ideal S1x1x1x128x128 .f32)

def doutP (rs : Col) (y e : Mat) (m : Col) : Mat := fun r c => rs r * (e r c - y r c * m r)

theorem bpay2 : mt (k1_pay2 c) = mt c := by
  funext r l; unfold mt; pointwise [k1_pay2]
theorem bpay3 : mt (k1_pay3 c) = mt c := by
  funext r l; unfold mt; pointwise [k1_pay3]
theorem bpay4 : mt (k1_pay4 c s q) = rope (mt q) (mt c) (mt s) := by
  funext r l; unfold mt; pointwise [k1_pay2, k1_pay3, k1_pay4]; rfl
theorem bpay5 : mt (k1_pay5 c s k) = scaled (rope (mt k) (mt c) (mt s)) := by
  funext r l; unfold mt; pointwise [k1_pay2, k1_pay3, k1_pay5]; rfl
theorem bpay6 : mb (k1_pay6 c s q) = rope (mt q) (mt c) (mt s) := by
  funext r l; unfold mb; pointwise [k1_pay2, k1_pay3, k1_pay6, k1_pay4]; rfl
theorem bpay7 : mb (k1_pay7 c s k) = scaled (rope (mt k) (mt c) (mt s)) := by
  funext r l; unfold mb; pointwise [k1_pay2, k1_pay3, k1_pay7, k1_pay5]; rfl
theorem bpay8 : mb (k1_pay8 v) = mt v := by
  funext r l; unfold mb; pointwise [k1_pay2, k1_pay3, k1_pay8]; rfl
theorem bpay9 : mt (k1_pay9 D c s q k) = score (mt D) (rope (mt q) (mt c) (mt s)) (scaled (rope (mt k) (mt c) (mt s))) := by
  funext r l; unfold mt; pointwise [k1_pay2, k1_pay3, k1_pay9, k1_pay6, k1_pay7, k1_pay4, k1_pay5]; rfl
theorem bpay10 : mt (k1_pay10 o) = center (mt o) := by
  funext r l; unfold mt; pointwise [k1_pay2, k1_pay3, k1_pay10]; rfl
theorem bpay11 : mt (k1_pay11 o) = fun r c => center (mt o) r c * center (mt o) r c := by
  funext r l; unfold mt; pointwise [k1_pay2, k1_pay3, k1_pay11, k1_pay10]; rfl
theorem bpay12 : co (k1_pay12 v83) = fun r => Ideal.rsqrt (Ideal.div (∑ c, mt v83 r c) c128 + guard) := by
  funext r; unfold co; pointwise [k1_pay2, k1_pay3, k1_pay12]; rfl
theorem bpay13 : mt (k1_pay13 v82 v83) = fun r c => mt v82 r c * co (k1_pay12 v83) r := by
  funext r l; rw [bpay12]; unfold mt; pointwise [k1_pay2, k1_pay3, k1_pay13, k1_pay12]
theorem bpay16 : mt (k1_pay16 g v82 v83 gate dm) = fun r c => mt dm r c * mt (k1_pay13 v82 v83) r c * ro g c
  * (Ideal.logistic (mt gate r c) * (1 + mt gate r c * (1 - Ideal.logistic (mt gate r c)))) := by
  funext r l; rw [bpay13, bpay12]; unfold mt; pointwise [k1_pay2, k1_pay3, k1_pay16, k1_pay13, k1_pay12, k1_pay14, k1_pay15, k1_pay17]; rfl
theorem bpay18 : ro (k1_pay18 g v82 v83 gate dm) = fun c => ro g c + ∑ x, mt dm x c * mt (k1_pay13 v82 v83) x c * silu (mt gate x c) := by
  funext l; rw [bpay13, bpay12]; unfold mt ro; pointwise [k1_pay2, k1_pay3, k1_pay18, k1_pay13, k1_pay12, k1_pay14, k1_pay15]; rfl
theorem bpay19 : mt (k1_pay19 g gate dm) = fun r c => dnormed (mt dm) (mt gate) (ro g) r c - mean (dnormed (mt dm) (mt gate) (ro g)) r := by
  funext r l; unfold mt; pointwise [k1_pay2, k1_pay3, k1_pay19, k1_pay17, k1_pay14, k1_pay15]; rfl
theorem bpay20 : co (k1_pay20 g v82 v83 gate dm) = mean (fun r c => dnormed (mt dm) (mt gate) (ro g) r c * mt (k1_pay13 v82 v83) r c) := by
  funext r; rw [bpay13, bpay12]; unfold co; pointwise [k1_pay2, k1_pay3, k1_pay20, k1_pay17, k1_pay13, k1_pay12, k1_pay14, k1_pay15]; rfl
theorem bpay21 : mb (k1_pay21 v90 v92 v124 v129) = doutP (co v90) (mt v92) (mt v124) (co v129) := by
  funext r l; unfold mb; pointwise [k1_pay2, k1_pay3, k1_pay21]; rfl
theorem bpay24 : mb (k1_pay24 qd q) = fun r c => mt q r c * co qd r := by
  funext r l; unfold mb; pointwise [k1_pay2, k1_pay3, k1_pay24]; rfl
theorem bpay25 : mt (k1_pay25 D kd dr v67 v71 v90 v92 v124 v129)
    = dkey (mt D) (doutP (co v90) (mt v92) (mt v124) (co v129)) (mb v71) (mb v67) (mt dr) (co kd) := by
  funext r l; unfold mt; pointwise [k1_pay2, k1_pay3, k1_pay25, k1_pay21, k1_pay22, k1_pay23]; rfl
theorem bpay26 : mt (k1_pay26 kd dr v66 v73 v90 v92 v124 v129)
    = fun r c => ∑ x, mt v73 x r * doutP (co v90) (mt v92) (mt v124) (co v129) x c + ∑ x, mt v66 r x * co kd r * mt dr x c := by
  funext r l; unfold mt; pointwise [k1_pay2, k1_pay3, k1_pay26, k1_pay21, k1_pay22]; rfl
theorem bpay27 : mt (k1_pay27 D qd c s v68 v71 v90 v92 v124 v129 R5)
    = ropeT (dquery (mt D) (doutP (co v90) (mt v92) (mt v124) (co v129)) (mb v71) (mb v68) (m5 R5) (co qd)) (mt c) (mt s) := by
  funext r l; unfold mt; pointwise [k1_pay2, k1_pay3, k1_pay27, k1_pay21, k1_pay23]; rfl
theorem bpay29 : mt (k1_pay29 c s R k1_pay28) = ropeT (scaled (mt R)) (mt c) (mt s) := by
  funext r l; unfold mt; pointwise [k1_pay2, k1_pay3, k1_pay29, k1_pay28]; rfl
theorem bpay30 (gc : EReal) : mt (k1_pay30 gc dr v71 v68) = fun r c => mt dr r c * gc + ∑ x, mb v68 x r * mb v71 x c := by
  funext r l; unfold mt; pointwise [k1_pay2, k1_pay3, k1_pay30]; rfl

/-! ### The backward call, second sequence -/
theorem bpay31 : mt (k1_pay31 c) = mt c := by
  funext r l; unfold mt; pointwise [k1_pay31]
theorem bpay32 : mt (k1_pay32 c) = mt c := by
  funext r l; unfold mt; pointwise [k1_pay32]
theorem bpay33 : mt (k1_pay33 c s q) = rope (mt q) (mt c) (mt s) := by
  funext r l; unfold mt; pointwise [k1_pay31, k1_pay32, k1_pay33]; rfl
theorem bpay34 : mt (k1_pay34 c s k) = scaled (rope (mt k) (mt c) (mt s)) := by
  funext r l; unfold mt; pointwise [k1_pay31, k1_pay32, k1_pay34]; rfl
theorem bpay35 : mb (k1_pay35 c s q) = rope (mt q) (mt c) (mt s) := by
  funext r l; unfold mb; pointwise [k1_pay31, k1_pay32, k1_pay35, k1_pay33]; rfl
theorem bpay36 : mb (k1_pay36 c s k) = scaled (rope (mt k) (mt c) (mt s)) := by
  funext r l; unfold mb; pointwise [k1_pay31, k1_pay32, k1_pay36, k1_pay34]; rfl
theorem bpay37 : mb (k1_pay37 v) = mt v := by
  funext r l; unfold mb; pointwise [k1_pay31, k1_pay32, k1_pay37]; rfl
theorem bpay39 : mt (k1_pay39 D (k1_pay38 c s q k)) = score (mt D) (rope (mt q) (mt c) (mt s)) (scaled (rope (mt k) (mt c) (mt s))) := by
  funext r l; unfold mt; pointwise [k1_pay31, k1_pay32, k1_pay39, k1_pay38, k1_pay35, k1_pay36, k1_pay33, k1_pay34]; rfl
theorem bpay41 : co (k1_pay41 o) = rstd (mt o) := by
  funext r; unfold co; pointwise [k1_pay31, k1_pay32, k1_pay41, k1_pay40]; rfl
theorem bpay42 : mt (k1_pay42 o) = normed (mt o) := by
  funext r l; unfold mt; pointwise [k1_pay31, k1_pay32, k1_pay42, k1_pay41, k1_pay40]; rfl
theorem bpay45 : mt (k1_pay45 g o gate dm) = dgate (mt o) (mt dm) (mt gate) (ro g) := by
  funext r l; unfold mt; pointwise [k1_pay31, k1_pay32, k1_pay45, k1_pay42, k1_pay41, k1_pay40, k1_pay43, k1_pay44]; rfl
theorem bpay46 : mt (k1_pay46 g gate dm) = dnormed (mt dm) (mt gate) (ro g) := by
  funext r l; unfold mt; pointwise [k1_pay31, k1_pay32, k1_pay46, k1_pay43, k1_pay44]; rfl
theorem bpay47 : ro (k1_pay47 g o gate dm) = dgain (mt o) (mt dm) (mt gate) (ro g) := by
  funext l; unfold ro; pointwise [k1_pay31, k1_pay32, k1_pay47, k1_pay42, k1_pay41, k1_pay40, k1_pay43, k1_pay44]; rfl

def doutQ (rs : Col) (y d : Mat) : Mat := fun r c => rs r * (d r c - mean d r - y r c * mean (fun r c => d r c * y r c) r)
theorem bpay48 : mb (k1_pay48 v90 v92 v124) = doutQ (co v90) (mt v92) (mt v124) := by
  funext r l; unfold mb; pointwise [k1_pay31, k1_pay32, k1_pay48]; rfl
theorem bpay51 : mb (k1_pay51 qd q) = fun r c => mt q r c * co qd r := by
  funext r l; unfold mb; pointwise [k1_pay31, k1_pay32, k1_pay51]; rfl
theorem bpay52 : mt (k1_pay52 D qd v68 v71 v90 v92 v124 R5)
    = dquery (mt D) (doutQ (co v90) (mt v92) (mt v124)) (mb v71) (mb v68) (m5 R5) (co qd) := by
  funext r l; unfold mt; pointwise [k1_pay31, k1_pay32, k1_pay52, k1_pay48, k1_pay50]; rfl
theorem bpay53 : mt (k1_pay53 D kd dr v67 v71 v90 v92 v124)
    = dkey (mt D) (doutQ (co v90) (mt v92) (mt v124)) (mb v71) (mb v67) (mt dr) (co kd) := by
  funext r l; unfold mt; pointwise [k1_pay31, k1_pay32, k1_pay53, k1_pay48, k1_pay49, k1_pay50]; rfl
theorem bpay54 : mt (k1_pay54 kd dr v66 v73 v90 v92 v124)
    = fun r c => ∑ x, mt v73 x r * doutQ (co v90) (mt v92) (mt v124) x c + ∑ x, mt v66 r x * co kd r * mt dr x c := by
  funext r l; unfold mt; pointwise [k1_pay31, k1_pay32, k1_pay54, k1_pay48, k1_pay49]; rfl
theorem bpay63 : mt (k1_pay63 c s R) = ropeT (mt R) (mt c) (mt s) := by
  funext r l; unfold mt; pointwise [k1_pay31, k1_pay32, k1_pay63]; rfl
theorem bpay64 : mt (k1_pay64 c s R) = ropeT (scaled (mt R)) (mt c) (mt s) := by
  funext r l; unfold mt; pointwise [k1_pay31, k1_pay32, k1_pay64]; rfl
theorem bpay65 (i : grid1.Coords) : mt (k1_pay65 i dr v71 v68) = fun r c => mt dr r c * k1_pay60 (F := Ideal) i + ∑ x, mb v68 x r * mb v71 x c := by
  funext r l; unfold mt; pointwise [k1_pay31, k1_pay32, k1_pay65, k1_pay60, k1_pay55]; rfl
theorem bkd (i : grid1.Coords) : co (k1_pay58 (F := Ideal) i) = fun r =>
    Ideal.exp (k1_pay55 (F := Ideal) i * (Ideal.ofBits .f32 1123942400#32 - FloatOps.sitofp (F := Ideal) .f32 (BitVec.ofNat 32 r.val))) := by
  funext r; unfold co; pointwise [k1_pay58, k1_pay57]
theorem bqd (i : grid1.Coords) : co (k1_pay59 (F := Ideal) i) = fun r =>
    Ideal.exp (k1_pay55 (F := Ideal) i * (FloatOps.sitofp (F := Ideal) .f32 (BitVec.ofNat 32 r.val) + 1)) := by
  funext r; unfold co; pointwise [k1_pay59, k1_pay57]
theorem bgc (i : grid1.Coords) : k1_pay60 (F := Ideal) i = Ideal.exp (k1_pay55 (F := Ideal) i * c128) := rfl
theorem bdecay (i : grid1.Coords) : mt (k1_pay56 (F := Ideal) i) = fun r c =>
    Scalar.select (IntOp.cmpi .sge (BitVec.ofNat 32 r.val) (BitVec.ofNat 32 c.val)) (Ideal.exp (k1_pay55 (F := Ideal) i
      * max (FloatOps.sitofp (F := Ideal) .f32 (IntOp.subi (BitVec.ofNat 32 r.val) (BitVec.ofNat 32 c.val))) 0)) 0 := by
  funext r c; unfold mt; pointwise [k1_pay56]
end Payloads

end Cert.Kernel6Ideal.Ret

end
-- ==== Proof.RetFwd.lean ====
/-
  What the forward retention kernel leaves on one head: the outputs, the states and the gated outputs, chunk by chunk.
-/
module

public import proofs.«01_k».proof.Proof.RetPay
public import proofs.«01_k».proof.Proof.Gen.Kernel6Ideal.Frame
public import Idealize.ShloMosaic.Lib.Tactic
public import Idealize.ShloMosaic.Lib.Pointwise
public import Idealize.ShloMosaic.Lib.Pipeline.Value
public import Idealize.ShloMosaic.Lib.WholeRead

@[expose] public section

set_option maxRecDepth 16384

noncomputable section

namespace Cert.Kernel6Ideal.Ret

open Cert.Kernel6Ideal Cert.Kernel6Ideal.Gen Idealize.ShloMosaic Idealize.ShloMosaic.TcCoe Idealize.SL.Sem
open scoped BigOperators
open Cert.Ret

/-- A column block as the programs hold it, and as a function of its coordinates. -/
abbrev W := FVec Ideal S4096x128 .f32
abbrev T := FVec Ideal S2048x128 .f32
abbrev N := FVec Ideal S2x1x16x128x128 .f32
def rw2 (X : W) : Rows := fun i c => X (ix2 i c)
def tb2 (X : T) : Fin 2048 → Fin 128 → EReal := fun i c => X (ix2 i c)

/-- Chunk `n` of sequence `b`. -/
def ld (X : W) (b : Fin 2) (n : ℕ) : A := fun j => X (ix2 (row b n (j 0)) (j 1))
def ldt (X : T) (n : ℕ) : A := fun j => X (ix2 (pos n (j 0)) (j 1))

theorem eta (j : S128x128.Idx) : j = ix2 (n0 := 128) (n1 := 128) (j 0) (j 1) := by
  funext x
  match x with
  | ⟨0, _⟩ => rfl
  | ⟨1, _⟩ => rfl

/-! ### Where a trip reads and writes -/

theorem trips0 : k0_t1_loop.trips = 16 := by decide +kernel
theorem off1 : ∀ k : Fin k0_t1_loop.trips, k0_off1 k = ![128 * k.val, 0] := by decide +kernel
theorem off2_0 : ∀ k : Fin k0_t1_loop.trips, k0_off2 k 0#32 = ![128 * k.val, 0] := by decide +kernel
theorem off2_1 : ∀ k : Fin k0_t1_loop.trips, k0_off2 k 2048#32 = ![2048 + 128 * k.val, 0] := by decide +kernel
theorem off3 : ∀ k : Fin k0_t1_loop.trips, k0_off3 k = ![0, 0, k.val, 0, 0] := by decide +kernel
theorem off4 : ∀ k : Fin k0_t1_loop.trips, k0_off4 k = ![1, 0, k.val, 0, 0] := by decide +kernel

/-- A rectangle of 128 rows from row `2048 b + 128 n` on is chunk `n` of sequence `b`. -/
theorem emb_row {off : Fin 2 → ℕ} (b : Fin 2) (n : ℕ) (hn : n < 16) (ho : off = ![2048 * b.val + 128 * n, 0])
    (hb : ∀ a, off a + S128x128.size a ≤ S4096x128.size a) (j : S128x128.Idx) :
    (Rect.unit (s := S4096x128) off S128x128.size hb).emb j = ix2 (n0 := 4096) (n1 := 128) (row b n (j 0)) (j 1) := by
  subst ho
  have hb := b.isLt
  have hr : (j 0).val < 128 := (j 0).isLt
  funext x
  apply Fin.ext
  match x with
  | ⟨0, _⟩ =>
    show 2048 * b.val + 128 * n + 1 * (j 0).val = (2048 * b.val + 128 * n + (j 0).val) % 4096
    rw [Nat.mod_eq_of_lt (by omega)]; omega
  | ⟨1, _⟩ => show 0 + 1 * (j 1).val = (j 1).val; omega

theorem emb_pos {off : Fin 2 → ℕ} (n : ℕ) (hn : n < 16) (ho : off = ![128 * n, 0])
    (hb : ∀ a, off a + S128x128.size a ≤ S2048x128.size a) (j : S128x128.Idx) :
    (Rect.unit (s := S2048x128) off S128x128.size hb).emb j = ix2 (n0 := 2048) (n1 := 128) (pos n (j 0)) (j 1) := by
  subst ho
  have hr : (j 0).val < 128 := (j 0).isLt
  funext x
  apply Fin.ext
  match x with
  | ⟨0, _⟩ =>
    show 128 * n + 1 * (j 0).val = (128 * n + (j 0).val) % 2048
    rw [Nat.mod_eq_of_lt (by omega)]; omega
  | ⟨1, _⟩ => show 0 + 1 * (j 1).val = (j 1).val; omega

theorem read_row (m : Memref sig .tc .vmem S4096x128 .f32) (h : m.IsWhole) (X : W) {off : Fin 2 → ℕ} (b : Fin 2) (n : ℕ)
    (hn : n < 16) (ho : off = ![2048 * b.val + 128 * n, 0]) (hb : ∀ a, off a + S128x128.size a ≤ S4096x128.size a) :
    View.readAt (Elt Ideal) m.view (Rect.unit (s := S4096x128) off S128x128.size hb).toLoadRect (h.unread X) = ld X b n := by
  funext j
  rw [Memref.IsWhole.readAt_unread]
  exact congrArg X (emb_row b n hn ho hb j)

theorem read_pos (m : Memref sig .tc .vmem S2048x128 .f32) (h : m.IsWhole) (X : T) {off : Fin 2 → ℕ} (n : ℕ)
    (hn : n < 16) (ho : off = ![128 * n, 0]) (hb : ∀ a, off a + S128x128.size a ≤ S2048x128.size a) :
    View.readAt (Elt Ideal) m.view (Rect.unit (s := S2048x128) off S128x128.size hb).toLoadRect (h.unread X) = ldt X n := by
  funext j
  rw [Memref.IsWhole.readAt_unread]
  exact congrArg X (emb_pos n hn ho hb j)

/-- The buffers of a call, and what its inputs hold. -/
structure Bufs0 where
  a1 : Memref sig .tc .vmem S4096x128 .f32
  h1 : a1.IsWhole
  a2 : Memref sig .tc .vmem S4096x128 .f32
  h2 : a2.IsWhole
  a3 : Memref sig .tc .vmem S4096x128 .f32
  h3 : a3.IsWhole
  a4 : Memref sig .tc .vmem S4096x128 .f32
  h4 : a4.IsWhole
  a5 : Memref sig .tc .vmem S2048x128 .f32
  h5 : a5.IsWhole
  a6 : Memref sig .tc .vmem S2048x128 .f32
  h6 : a6.IsWhole
  a7 : Memref sig .tc .vmem S1x128 .f32
  h7 : a7.IsWhole
  a8 : Memref sig .tc .vmem S4096x128 .f32
  h8 : a8.IsWhole
  a9 : Memref sig .tc .vmem S2x1x16x128x128 .f32
  h9 : a9.IsWhole
  a10 : Memref sig .tc .vmem S4096x128 .f32
  h10 : a10.IsWhole

structure Ins0 where
  q : W
  k : W
  v : W
  gate : W
  c : T
  s : T
  g : FVec Ideal S1x128 .f32

abbrev trip0R (d : Dev nD) (i : grid0.Coords) (M : Bufs0) (I : Ins0) (k : Fin k0_t1_loop.trips) (acc : A × A) :=
  tripR_k0_t1 (F := Ideal) Variants.none d none i M.a1 M.h1 M.a2 M.h2 M.a3 M.h3 M.a4 M.h4 M.a5 M.h5 M.a6 M.h6 M.a7 M.h7 M.a8 M.h8 M.a9 M.h9 M.a10 M.h10 I.g (M.h1.unread I.q) (M.h2.unread I.k) (M.h3.unread I.v) (M.h4.unread I.gate) (M.h5.unread I.c) (M.h6.unread I.s) k acc
abbrev trip0L (d : Dev nD) (i : grid0.Coords) (M : Bufs0) (I : Ins0) (k : Fin k0_t1_loop.trips) (acc : A × A) :=
  tripL_k0_t1 (F := Ideal) Variants.none d none i M.a1 M.h1 M.a2 M.h2 M.a3 M.h3 M.a4 M.h4 M.a5 M.h5 M.a6 M.h6 M.a7 M.h7 M.a8 M.h8 M.a9 M.h9 M.a10 M.h10 I.g (M.h1.unread I.q) (M.h2.unread I.k) (M.h3.unread I.v) (M.h4.unread I.gate) (M.h5.unread I.c) (M.h6.unread I.s) k acc
abbrev st0 (d : Dev nD) (i : grid0.Coords) (M : Bufs0) (I : Ins0) (k : ℕ) :=
  st_k0_t1 (F := Ideal) Variants.none d none i M.a1 M.h1 M.a2 M.h2 M.a3 M.h3 M.a4 M.h4 M.a5 M.h5 M.a6 M.h6 M.a7 M.h7 M.a8 M.h8 M.a9 M.h9 M.a10 M.h10 I.g (M.h1.unread I.q) (M.h2.unread I.k) (M.h3.unread I.v) (M.h4.unread I.gate) (M.h5.unread I.c) (M.h6.unread I.s) (k0_pay7 (F := Ideal), k0_pay7 (F := Ideal)) k

/-- The head that a grid point computes. -/
def head0 (i : grid0.Coords) (I : Ins0) : Head where
  decay := mt (k0_pay2 (F := Ideal) i)
  kd := co (k0_pay4 (F := Ideal) i)
  qd := co (k0_pay5 (F := Ideal) i)
  gc := k0_pay6 (F := Ideal) i
  q := rw2 I.q
  k := rw2 I.k
  v := rw2 I.v
  gate := rw2 I.gate
  co := tb2 I.c
  si := tb2 I.s
  g := ro I.g

variable (d : Dev nD) (i : grid0.Coords) (M : Bufs0) (I : Ins0)

/-- The blocks that a trip computes. -/
abbrev oA (n : ℕ) (R : A) : A := k0_pay18 R (k0_pay16 (k0_pay2 i) (ldt I.c n) (ldt I.s n) (ld I.q 0 n) (ld I.k 0 n) (ld I.v 0 n))
  (k0_pay17 (k0_pay5 i) (ldt I.c n) (ldt I.s n) (ld I.q 0 n))
abbrev mA (n : ℕ) (R : A) : A := k0_pay19 I.g R (k0_pay16 (k0_pay2 i) (ldt I.c n) (ldt I.s n) (ld I.q 0 n) (ld I.k 0 n) (ld I.v 0 n))
  (k0_pay17 (k0_pay5 i) (ldt I.c n) (ldt I.s n) (ld I.q 0 n)) (ld I.gate 0 n)
abbrev sA (n : ℕ) (R : A) : A := k0_pay20 (k0_pay4 i) (k0_pay6 i) R (k0_pay13 (ldt I.c n) (ldt I.s n) (ld I.k 0 n)) (k0_pay14 (ld I.v 0 n))
abbrev oB (n : ℕ) (R : A) : A := k0_pay26 (k0_pay2 i) (k0_pay5 i) R (ldt I.c n) (ldt I.s n) (ld I.q 1 n) (ld I.k 1 n) (ld I.v 1 n)
abbrev mB (n : ℕ) (R : A) : A := k0_pay8 I.g (oB i I n R)
  (k0_pay27 (k0_pay2 i) (k0_pay5 i) R (ldt I.c n) (ldt I.s n) (ld I.q 1 n) (ld I.k 1 n) (ld I.v 1 n)) c128 (ld I.gate 1 n)
abbrev sB (n : ℕ) (R : A) : A := k0_pay9 i R (k0_pay23 (ldt I.c n) (ldt I.s n) (ld I.k 1 n)) (k0_pay24 (ld I.v 1 n))

theorem lt16 (k : Fin k0_t1_loop.trips) : k.val < 16 := lt_of_lt_of_eq k.isLt trips0
theorem o20 (k : Fin k0_t1_loop.trips) : k0_off2 k 0#32 = ![2048 * (0 : Fin 2).val + 128 * k.val, 0] := by
  rw [off2_0]; congr 1; show _ = 2048 * 0 + _; omega
theorem o21 (k : Fin k0_t1_loop.trips) : k0_off2 k 2048#32 = ![2048 * (1 : Fin 2).val + 128 * k.val, 0] := by
  rw [off2_1]; rfl

theorem trip0R_eq (k : Fin k0_t1_loop.trips) (acc : A × A) : trip0R d i M I k acc = (sA i I k.val acc.1, sB i I k.val acc.2) := by
  unfold trip0R tripR_k0_t1 trip_k0_t1 sA sB
  dsimp only
  rw [← read_row M.a2 M.h2 I.k 0 k.val (lt16 k) (o20 k) (k0_off2_inb k 0),
    ← read_row M.a2 M.h2 I.k 1 k.val (lt16 k) (o21 k) (k0_off2_inb k 1),
    ← read_row M.a3 M.h3 I.v 0 k.val (lt16 k) (o20 k) (k0_off2_inb k 0),
    ← read_row M.a3 M.h3 I.v 1 k.val (lt16 k) (o21 k) (k0_off2_inb k 1),
    ← read_pos M.a5 M.h5 I.c k.val (lt16 k) (off1 k) (k0_off1_inb k),
    ← read_pos M.a6 M.h6 I.s k.val (lt16 k) (off1 k) (k0_off1_inb k)]
  rfl

theorem trip0L_eq (k : Fin k0_t1_loop.trips) (acc : A × A) : trip0L d i M I k acc =
   ([⟨Rect.unit (s := S4096x128) (k0_off2 k 2048#32) S128x128.size (k0_off2_inb k 1), oB i I k.val acc.2⟩,
     ⟨Rect.unit (s := S4096x128) (k0_off2 k 0#32) S128x128.size (k0_off2_inb k 0), oA i I k.val acc.1⟩],
    [⟨Rect.unit (s := S2x1x16x128x128) (k0_off4 k) S1x1x1x128x128.size (k0_off4_inb k), k0_pay25 acc.2⟩,
     ⟨Rect.unit (s := S2x1x16x128x128) (k0_off3 k) S1x1x1x128x128.size (k0_off3_inb k), k0_pay15 acc.1⟩],
    [⟨Rect.unit (s := S4096x128) (k0_off2 k 2048#32) S128x128.size (k0_off2_inb k 1), mB i I k.val acc.2⟩,
     ⟨Rect.unit (s := S4096x128) (k0_off2 k 0#32) S128x128.size (k0_off2_inb k 0), mA i I k.val acc.1⟩]) := by
  unfold trip0L tripL_k0_t1 trip_k0_t1 oA mA mB oB
  dsimp only
  rw [← read_row M.a1 M.h1 I.q 0 k.val (lt16 k) (o20 k) (k0_off2_inb k 0),
    ← read_row M.a1 M.h1 I.q 1 k.val (lt16 k) (o21 k) (k0_off2_inb k 1),
    ← read_row M.a2 M.h2 I.k 0 k.val (lt16 k) (o20 k) (k0_off2_inb k 0),
    ← read_row M.a2 M.h2 I.k 1 k.val (lt16 k) (o21 k) (k0_off2_inb k 1),
    ← read_row M.a3 M.h3 I.v 0 k.val (lt16 k) (o20 k) (k0_off2_inb k 0),
    ← read_row M.a3 M.h3 I.v 1 k.val (lt16 k) (o21 k) (k0_off2_inb k 1),
    ← read_row M.a4 M.h4 I.gate 0 k.val (lt16 k) (o20 k) (k0_off2_inb k 0),
    ← read_row M.a4 M.h4 I.gate 1 k.val (lt16 k) (o21 k) (k0_off2_inb k 1),
    ← read_pos M.a5 M.h5 I.c k.val (lt16 k) (off1 k) (k0_off1_inb k),
    ← read_pos M.a6 M.h6 I.s k.val (lt16 k) (off1 k) (k0_off1_inb k)]
  rfl

/-! ### The carried states -/

theorem m_oA (n : ℕ) (R : A) (hR : mt R = (head0 i I).state 0 n) : mt (oA i I n R) = (head0 i I).out 0 n := by
  unfold oA; rw [fpay18, fpay16, fpay17, hR]; rfl
theorem m_mA (n : ℕ) (R : A) (hR : mt R = (head0 i I).state 0 n) : mt (mA i I n R) = (head0 i I).mer 0 n := by
  unfold mA; rw [fpay19]; exact congrArg (fun z => merged z _ _) (m_oA i I n R hR)
theorem m_sA (n : ℕ) (R : A) (hR : mt R = (head0 i I).state 0 n) : mt (sA i I n R) = (head0 i I).state 0 (n + 1) := by
  unfold sA; rw [fpay20, fpay13, fpay14, hR]; rfl
theorem m_oB (n : ℕ) (R : A) (hR : mt R = (head0 i I).state 1 n) : mt (oB i I n R) = (head0 i I).out 1 n := by
  unfold oB; rw [fpay26, hR]; rfl
theorem m_mB (n : ℕ) (R : A) (hR : mt R = (head0 i I).state 1 n) : mt (mB i I n R) = (head0 i I).mer 1 n := by
  unfold mB; rw [fpay8 _ _ _ _ (fpay27 ..)]; exact congrArg (fun z => merged z _ _) (m_oB i I n R hR)
theorem m_sB (n : ℕ) (R : A) (hR : mt R = (head0 i I).state 1 n) : mt (sB i I n R) = (head0 i I).state 1 (n + 1) := by
  unfold sB; rw [fpay9, fpay23, fpay24, hR]; rfl

theorem pay7_zero : mt (k0_pay7 (F := Ideal)) = fun _ _ => 0 := by
  funext r c; unfold mt; pointwise [k0_pay7]

/-- What the three outputs of the call hold. -/
def O0 : W := fun j => unchunk (head0 i I).out (j 0) (j 1)
def M0 : W := fun j => unchunk (head0 i I).mer (j 0) (j 1)
def R0 : N := fun j => (head0 i I).state (j 0) (j 2).val (j 3) (j 4)

/-- The writes of the trips before `k` agree with these, and the carried pair is the pair of the states. -/
structure Good0 (k : ℕ) (x : (A × A) × List (View.Piece (Elt Ideal) S4096x128 .f32) × List (View.Piece (Elt Ideal) S2x1x16x128x128 .f32) × List (View.Piece (Elt Ideal) S4096x128 .f32)) : Prop where
  a : mt x.1.1 = (head0 i I).state 0 k
  b : mt x.1.2 = (head0 i I).state 1 k
  o : ∀ p ∈ x.2.1, ∀ y, p.2 y = O0 i I (p.1.emb y)
  r : ∀ p ∈ x.2.2.1, ∀ y, p.2 y = R0 i I (p.1.emb y)
  m : ∀ p ∈ x.2.2.2, ∀ y, p.2 y = M0 i I (p.1.emb y)

/-- A block stored at chunk `n` of sequence `b` agrees with the whole. -/
theorem agree (f : Fin 2 → ℕ → Mat) (z : A) {off : Fin 2 → ℕ} (b : Fin 2) (n : ℕ) (hn : n < 16) (ho : off = ![2048 * b.val + 128 * n, 0])
    (hb : ∀ a, off a + S128x128.size a ≤ S4096x128.size a) (hz : mt z = f b n) (y : S128x128.Idx) :
    z y = (fun j => unchunk f (j 0) (j 1) : W) ((Rect.unit (s := S4096x128) off S128x128.size hb).emb y) := by
  rw [emb_row b n hn ho hb y]
  exact (congrArg z (eta y)).trans ((congrFun (congrFun hz (y 0)) (y 1)).trans (unchunk_row f b n hn (y 0) (y 1)).symm)

theorem eta5 (j : S1x1x1x128x128.Idx) : j = ix5 (n0 := 1) (n1 := 1) (n2 := 1) (n3 := 128) (n4 := 128) 0 0 0 (j 3) (j 4) := by
  funext x
  match x with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem agree5 (f : Fin 2 → ℕ → Mat) (z : FVec Ideal S1x1x1x128x128 .f32) {off : Fin 5 → ℕ} (b : Fin 2) (n : ℕ) (ho : off = ![b.val, 0, n, 0, 0])
    (hb : ∀ a, off a + S1x1x1x128x128.size a ≤ S2x1x16x128x128.size a) (hz : m5 z = f b n) (y : S1x1x1x128x128.Idx) :
    z y = (fun j => f (j 0) (j 2).val (j 3) (j 4) : N) ((Rect.unit (s := S2x1x16x128x128) off S1x1x1x128x128.size hb).emb y) := by
  subst ho
  have e0 : ((Rect.unit (s := S2x1x16x128x128) _ S1x1x1x128x128.size hb).emb y) 0 = b :=
    Fin.ext (by show b.val + 1 * (y 0).val = b.val; have : (y 0).val < 1 := (y 0).isLt; omega)
  have e2 : (((Rect.unit (s := S2x1x16x128x128) _ S1x1x1x128x128.size hb).emb y) 2).val = n := by
    show n + 1 * (y 2).val = n; have : (y 2).val < 1 := (y 2).isLt; omega
  have e3 : ((Rect.unit (s := S2x1x16x128x128) _ S1x1x1x128x128.size hb).emb y) 3 = y 3 :=
    Fin.ext (by show 0 + 1 * (y 3).val = (y 3).val; omega)
  have e4 : ((Rect.unit (s := S2x1x16x128x128) _ S1x1x1x128x128.size hb).emb y) 4 = y 4 :=
    Fin.ext (by show 0 + 1 * (y 4).val = (y 4).val; omega)
  show z y = f _ (Fin.val _) _ _
  rw [e0, e2, e3, e4]
  exact (congrArg z (eta5 y)).trans (congrFun (congrFun hz (y 3)) (y 4))

theorem st0_succ (k : Fin k0_t1_loop.trips) : st0 d i M I (k.val + 1) = (trip0R d i M I k (st0 d i M I k.val).1,
    (trip0L d i M I k (st0 d i M I k.val).1).1 ++ (st0 d i M I k.val).2.1,
    (trip0L d i M I k (st0 d i M I k.val).1).2.1 ++ (st0 d i M I k.val).2.2.1,
    (trip0L d i M I k (st0 d i M I k.val).1).2.2 ++ (st0 d i M I k.val).2.2.2) :=
  st_k0_t1_succ ..

theorem good0 : ∀ k, k ≤ 16 → Good0 i I k (st0 d i M I k)
  | 0, _ => ⟨pay7_zero, pay7_zero, fun _ h => absurd h List.not_mem_nil, fun _ h => absurd h List.not_mem_nil, fun _ h => absurd h List.not_mem_nil⟩
  | k + 1, hk => by
    have ih := good0 k (by omega)
    have hk' : k < k0_t1_loop.trips := by rw [trips0]; omega
    have e := st0_succ d i M I ⟨k, hk'⟩
    rw [trip0R_eq, trip0L_eq] at e
    change st0 d i M I (k + 1) = _ at e
    rw [e]
    change Good0 i I k (st0 d i M I k) at ih
    generalize st0 d i M I k = x at ih ⊢
    refine ⟨m_sA i I k _ ih.a, m_sB i I k _ ih.b, fun p hp => ?_, fun p hp => ?_, fun p hp => ?_⟩
    · rcases List.mem_cons.1 hp with rfl | hp
      · exact agree (head0 i I).out _ 1 k (by omega) (o21 ⟨k, hk'⟩) (k0_off2_inb ⟨k, hk'⟩ 1) (m_oB i I k _ ih.b)
      rcases List.mem_cons.1 hp with rfl | hp
      · exact agree (head0 i I).out _ 0 k (by omega) (o20 ⟨k, hk'⟩) (k0_off2_inb ⟨k, hk'⟩ 0) (m_oA i I k _ ih.a)
      exact ih.o p hp
    · rcases List.mem_cons.1 hp with rfl | hp
      · exact agree5 (head0 i I).state _ 1 k (off4 ⟨k, hk'⟩) (k0_off4_inb ⟨k, hk'⟩) ((fpay25 _).trans ih.b)
      rcases List.mem_cons.1 hp with rfl | hp
      · exact agree5 (head0 i I).state _ 0 k (off3 ⟨k, hk'⟩) (k0_off3_inb ⟨k, hk'⟩) ((fpay15 _).trans ih.a)
      exact ih.r p hp
    · rcases List.mem_cons.1 hp with rfl | hp
      · exact agree (head0 i I).mer _ 1 k (by omega) (o21 ⟨k, hk'⟩) (k0_off2_inb ⟨k, hk'⟩ 1) (m_mB i I k _ ih.b)
      rcases List.mem_cons.1 hp with rfl | hp
      · exact agree (head0 i I).mer _ 0 k (by omega) (o20 ⟨k, hk'⟩) (k0_off2_inb ⟨k, hk'⟩ 0) (m_mA i I k _ ih.a)
      exact ih.m p hp

/-! ### The outputs -/

theorem read_gain (m : Memref sig .tc .vmem S1x128 .f32) (h : m.IsWhole) (g : FVec Ideal S1x128 .f32)
    (hb : ∀ a, (![0, 0] : Fin 2 → ℕ) a + S1x128.size a ≤ S1x128.size a) :
    View.readAt (Elt Ideal) m.view (Rect.unit (s := S1x128) ![0, 0] S1x128.size hb).toLoadRect (h.unread g) = g := by
  funext j
  rw [Memref.IsWhole.readAt_unread]
  refine congrArg g (funext fun x => Fin.ext ?_)
  match x with
  | ⟨0, _⟩ => show 0 + 1 * (j 0).val = (j 0).val; omega
  | ⟨1, _⟩ => show 0 + 1 * (j 1).val = (j 1).val; omega

abbrev run0 (d : Dev nD) (i : grid0.Coords) (M : Bufs0) (I : Ins0) := kernelRun0_A (F := Ideal) d i M.a1 M.h1 M.a2 M.h2 M.a3 M.h3 M.a4 M.h4 M.a5 M.h5 M.a6 M.h6 M.a7 M.h7 M.a8 M.h8 M.a9 M.h9 M.a10 M.h10 I.q I.k I.v I.gate I.c I.s I.g

theorem run0_eq : (run0 d i M I).1 = (st0 d i M I 16).2.1 ∧ (run0 d i M I).2.1 = (st0 d i M I 16).2.2.1
    ∧ (run0 d i M I).2.2.1 = (st0 d i M I 16).2.2.2 := by
  have h := read_gain M.a7 M.h7 I.g inb_S1x128_S1x128_0_0
  have ht : Scf.trips (0#32) (Scalar.addi 0#32 16#32) 1#32 = 16 := trips0
  unfold run0 kernelRun0_A
  dsimp only
  rw [ht]
  erw [h]
  exact ⟨rfl, rfl, rfl⟩

theorem left_o : out0_A_7 (F := Ideal) d i M.a1 M.h1 M.a2 M.h2 M.a3 M.h3 M.a4 M.h4 M.a5 M.h5 M.a6 M.h6 M.a7 M.h7 M.a8 M.h8 M.a9 M.h9 M.a10 M.h10 I.q I.k I.v I.gate I.c I.s I.g = O0 i I := by
  funext y
  unfold out0_A_7
  refine View.read_writes_apply_of_pieces _ _ (O0 i I) _ ?_ y (cover0_A_7 (F := Ideal) d i M.a1 M.h1 M.a2 M.h2 M.a3 M.h3 M.a4 M.h4 M.a5 M.h5 M.a6 M.h6 M.a7 M.h7 M.a8 M.h8 M.a9 M.h9 M.a10 M.h10 I.q I.k I.v I.gate I.c I.s I.g y)
  have h := (run0_eq d i M I).1
  unfold run0 at h
  rw [h]
  exact (good0 d i M I 16 le_rfl).o

theorem left_r : out0_A_8 (F := Ideal) d i M.a1 M.h1 M.a2 M.h2 M.a3 M.h3 M.a4 M.h4 M.a5 M.h5 M.a6 M.h6 M.a7 M.h7 M.a8 M.h8 M.a9 M.h9 M.a10 M.h10 I.q I.k I.v I.gate I.c I.s I.g = R0 i I := by
  funext y
  unfold out0_A_8
  refine View.read_writes_apply_of_pieces _ _ (R0 i I) _ ?_ y (cover0_A_8 (F := Ideal) d i M.a1 M.h1 M.a2 M.h2 M.a3 M.h3 M.a4 M.h4 M.a5 M.h5 M.a6 M.h6 M.a7 M.h7 M.a8 M.h8 M.a9 M.h9 M.a10 M.h10 I.q I.k I.v I.gate I.c I.s I.g y)
  have h := (run0_eq d i M I).2.1
  unfold run0 at h
  rw [h]
  exact (good0 d i M I 16 le_rfl).r

theorem left_m : out0_A_9 (F := Ideal) d i M.a1 M.h1 M.a2 M.h2 M.a3 M.h3 M.a4 M.h4 M.a5 M.h5 M.a6 M.h6 M.a7 M.h7 M.a8 M.h8 M.a9 M.h9 M.a10 M.h10 I.q I.k I.v I.gate I.c I.s I.g = M0 i I := by
  funext y
  unfold out0_A_9
  refine View.read_writes_apply_of_pieces _ _ (M0 i I) _ ?_ y (cover0_A_9 (F := Ideal) d i M.a1 M.h1 M.a2 M.h2 M.a3 M.h3 M.a4 M.h4 M.a5 M.h5 M.a6 M.h6 M.a7 M.h7 M.a8 M.h8 M.a9 M.h9 M.a10 M.h10 I.q I.k I.v I.gate I.c I.s I.g y)
  have h := (run0_eq d i M I).2.2
  unfold run0 at h
  rw [h]
  exact (good0 d i M I 16 le_rfl).m

end Cert.Kernel6Ideal.Ret

end
-- ==== Proof.RetBwd.lean ====
/-
  What the backward retention kernel leaves on one head: the gradients of the queries, the keys, the values, the gate and
  the gain, chunk by chunk from the last to the first.
-/
module

public import proofs.«01_k».proof.Proof.RetFwd
public import proofs.«01_k».proof.Proof.Gen.Kernel6Ideal.Frame
public import Idealize.ShloMosaic.Lib.Tactic
public import Idealize.ShloMosaic.Lib.Pointwise
public import Idealize.ShloMosaic.Lib.Pipeline.Value
public import Idealize.ShloMosaic.Lib.WholeRead

@[expose] public section

set_option maxRecDepth 16384

noncomputable section

namespace Cert.Kernel6Ideal.Ret

open Cert.Kernel6Ideal Cert.Kernel6Ideal.Gen Idealize.ShloMosaic Idealize.ShloMosaic.TcCoe Idealize.SL.Sem
open scoped BigOperators
open Cert.Ret

/-! ### Where a trip reads and writes -/

theorem trips1 : k1_t1_loop.trips = 16 := by decide +kernel
theorem b1 : ∀ k : Fin k1_t1_loop.trips, k1_off1 k = ![128 * (15 - k.val), 0] := by decide +kernel
theorem b20 : ∀ k : Fin k1_t1_loop.trips, k1_off2 k 0#32 = ![2048 * (0 : Fin 2).val + 128 * (15 - k.val), 0] := by decide +kernel
theorem b21 : ∀ k : Fin k1_t1_loop.trips, k1_off2 k 2048#32 = ![2048 * (1 : Fin 2).val + 128 * (15 - k.val), 0] := by decide +kernel
theorem b3 : ∀ k : Fin k1_t1_loop.trips, k1_off3 k = ![(0 : Fin 2).val, 0, 15 - k.val, 0, 0] := by decide +kernel
theorem b4 : ∀ k : Fin k1_t1_loop.trips, k1_off4 k = ![(1 : Fin 2).val, 0, 15 - k.val, 0, 0] := by decide +kernel

/-- State `n` of sequence `b`. -/
def ld5 (X : N) (b : Fin 2) (n : ℕ) : FVec Ideal S1x1x1x128x128 .f32 := fun j => X (ix5 b 0 ⟨n % 16, Nat.mod_lt _ (by decide)⟩ (j 3) (j 4))
def st5 (X : N) (b : Fin 2) (n : ℕ) : Mat := fun r c => X (ix5 b 0 ⟨n % 16, Nat.mod_lt _ (by decide)⟩ r c)

theorem read_state (m : Memref sig .tc .vmem S2x1x16x128x128 .f32) (h : m.IsWhole) (X : N) {off : Fin 5 → ℕ} (b : Fin 2) (n : ℕ)
    (hn : n < 16) (ho : off = ![b.val, 0, n, 0, 0]) (hb : ∀ a, off a + S1x1x1x128x128.size a ≤ S2x1x16x128x128.size a) :
    View.readAt (Elt Ideal) m.view (Rect.unit (s := S2x1x16x128x128) off S1x1x1x128x128.size hb).toLoadRect (h.unread X) = ld5 X b n := by
  subst ho
  funext j
  rw [Memref.IsWhole.readAt_unread]
  refine congrArg X (funext fun x => Fin.ext ?_)
  match x with
  | ⟨0, _⟩ => show b.val + 1 * (j 0).val = b.val; have : (j 0).val < 1 := (j 0).isLt; omega
  | ⟨1, _⟩ => show 0 + 1 * (j 1).val = 0; have : (j 1).val < 1 := (j 1).isLt; omega
  | ⟨2, _⟩ => show n + 1 * (j 2).val = n % 16; have : (j 2).val < 1 := (j 2).isLt; omega
  | ⟨3, _⟩ => show 0 + 1 * (j 3).val = (j 3).val; omega
  | ⟨4, _⟩ => show 0 + 1 * (j 4).val = (j 4).val; omega

structure Bufs1 where
  a1 : Memref sig .tc .vmem S4096x128 .f32
  h1 : a1.IsWhole
  a2 : Memref sig .tc .vmem S4096x128 .f32
  h2 : a2.IsWhole
  a3 : Memref sig .tc .vmem S2x1x16x128x128 .f32
  h3 : a3.IsWhole
  a4 : Memref sig .tc .vmem S4096x128 .f32
  h4 : a4.IsWhole
  a5 : Memref sig .tc .vmem S4096x128 .f32
  h5 : a5.IsWhole
  a6 : Memref sig .tc .vmem S4096x128 .f32
  h6 : a6.IsWhole
  a7 : Memref sig .tc .vmem S4096x128 .f32
  h7 : a7.IsWhole
  a8 : Memref sig .tc .vmem S2048x128 .f32
  h8 : a8.IsWhole
  a9 : Memref sig .tc .vmem S2048x128 .f32
  h9 : a9.IsWhole
  a10 : Memref sig .tc .vmem S1x128 .f32
  h10 : a10.IsWhole
  a11 : Memref sig .tc .vmem S4096x128 .f32
  h11 : a11.IsWhole
  a12 : Memref sig .tc .vmem S4096x128 .f32
  h12 : a12.IsWhole
  a13 : Memref sig .tc .vmem S4096x128 .f32
  h13 : a13.IsWhole
  a14 : Memref sig .tc .vmem S4096x128 .f32
  h14 : a14.IsWhole
  a15 : Memref sig .tc .vmem S1x128 .f32
  h15 : a15.IsWhole

structure Ins1 extends Ins0 where
  dm : W
  o : W
  rp : N

abbrev Acc1 := A × FVec Ideal S1x128 .f32 × A × FVec Ideal S1x128 .f32
abbrev trip1R (d : Dev nD) (i : grid1.Coords) (M : Bufs1) (I : Ins1) (k : Fin k1_t1_loop.trips) (acc : Acc1) :=
  tripR_k1_t1 (F := Ideal) Variants.none d none i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.g (M.h1.unread I.dm) (M.h2.unread I.o) (M.h3.unread I.rp) (M.h4.unread I.q) (M.h5.unread I.k) (M.h6.unread I.v) (M.h7.unread I.gate) (M.h8.unread I.c) (M.h9.unread I.s) k acc
abbrev trip1L (d : Dev nD) (i : grid1.Coords) (M : Bufs1) (I : Ins1) (k : Fin k1_t1_loop.trips) (acc : Acc1) :=
  tripL_k1_t1 (F := Ideal) Variants.none d none i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.g (M.h1.unread I.dm) (M.h2.unread I.o) (M.h3.unread I.rp) (M.h4.unread I.q) (M.h5.unread I.k) (M.h6.unread I.v) (M.h7.unread I.gate) (M.h8.unread I.c) (M.h9.unread I.s) k acc
abbrev st1 (d : Dev nD) (i : grid1.Coords) (M : Bufs1) (I : Ins1) (k : ℕ) :=
  st_k1_t1 (F := Ideal) Variants.none d none i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.g (M.h1.unread I.dm) (M.h2.unread I.o) (M.h3.unread I.rp) (M.h4.unread I.q) (M.h5.unread I.k) (M.h6.unread I.v) (M.h7.unread I.gate) (M.h8.unread I.c) (M.h9.unread I.s) (k1_pay61 (F := Ideal), k1_pay62 (F := Ideal), k1_pay61 (F := Ideal), k1_pay62 (F := Ideal)) k

/-- The head that a grid point computes. -/
def head1 (i : grid1.Coords) (I : Ins1) : Head where
  decay := mt (k1_pay56 (F := Ideal) i)
  kd := co (k1_pay58 (F := Ideal) i)
  qd := co (k1_pay59 (F := Ideal) i)
  gc := k1_pay60 (F := Ideal) i
  q := rw2 I.q
  k := rw2 I.k
  v := rw2 I.v
  gate := rw2 I.gate
  co := tb2 I.c
  si := tb2 I.s
  g := ro I.g

variable (d : Dev nD) (i : grid1.Coords) (M : Bufs1) (I : Ins1)

/-- The blocks that a trip computes from chunk `n` of the first sequence, the state's cotangent `dr` and the gain's sum. -/
abbrev dqA (n : ℕ) : A := k1_pay27 (k1_pay56 i) (k1_pay59 i) (k1_pay2 (ldt I.c n)) (k1_pay3 (ldt I.s n)) (k1_pay7 (ldt I.c n) (ldt I.s n) (ld I.k 0 n)) (k1_pay8 (ld I.v 0 n)) (k1_pay12 (k1_pay11 (ld I.o 0 n))) (k1_pay13 (k1_pay10 (ld I.o 0 n)) (k1_pay11 (ld I.o 0 n))) (k1_pay19 I.g (ld I.gate 0 n) (ld I.dm 0 n)) (k1_pay20 I.g (k1_pay10 (ld I.o 0 n)) (k1_pay11 (ld I.o 0 n)) (ld I.gate 0 n) (ld I.dm 0 n)) (ld5 I.rp 0 n)
abbrev dkA (n : ℕ) (dr : A) : A := k1_pay29 (k1_pay2 (ldt I.c n)) (k1_pay3 (ldt I.s n)) (k1_pay25 (k1_pay56 i) (k1_pay58 i) dr (k1_pay6 (ldt I.c n) (ldt I.s n) (ld I.q 0 n)) (k1_pay8 (ld I.v 0 n)) (k1_pay12 (k1_pay11 (ld I.o 0 n))) (k1_pay13 (k1_pay10 (ld I.o 0 n)) (k1_pay11 (ld I.o 0 n))) (k1_pay19 I.g (ld I.gate 0 n) (ld I.dm 0 n)) (k1_pay20 I.g (k1_pay10 (ld I.o 0 n)) (k1_pay11 (ld I.o 0 n)) (ld I.gate 0 n) (ld I.dm 0 n))) (k1_pay28 (F := Ideal))
abbrev dvA (n : ℕ) (dr : A) : A := k1_pay26 (k1_pay58 i) dr (k1_pay5 (ldt I.c n) (ldt I.s n) (ld I.k 0 n)) (k1_pay9 (k1_pay56 i) (ldt I.c n) (ldt I.s n) (ld I.q 0 n) (ld I.k 0 n)) (k1_pay12 (k1_pay11 (ld I.o 0 n))) (k1_pay13 (k1_pay10 (ld I.o 0 n)) (k1_pay11 (ld I.o 0 n))) (k1_pay19 I.g (ld I.gate 0 n) (ld I.dm 0 n)) (k1_pay20 I.g (k1_pay10 (ld I.o 0 n)) (k1_pay11 (ld I.o 0 n)) (ld I.gate 0 n) (ld I.dm 0 n))
abbrev dgtA (n : ℕ) : A := k1_pay16 I.g (k1_pay10 (ld I.o 0 n)) (k1_pay11 (ld I.o 0 n)) (ld I.gate 0 n) (ld I.dm 0 n)
abbrev drA (n : ℕ) (dr : A) : A := k1_pay30 (k1_pay60 i) dr (k1_pay21 (k1_pay12 (k1_pay11 (ld I.o 0 n))) (k1_pay13 (k1_pay10 (ld I.o 0 n)) (k1_pay11 (ld I.o 0 n))) (k1_pay19 I.g (ld I.gate 0 n) (ld I.dm 0 n)) (k1_pay20 I.g (k1_pay10 (ld I.o 0 n)) (k1_pay11 (ld I.o 0 n)) (ld I.gate 0 n) (ld I.dm 0 n))) (k1_pay24 (k1_pay59 i) (k1_pay4 (ldt I.c n) (ldt I.s n) (ld I.q 0 n)))
abbrev dgA (n : ℕ) (a : FVec Ideal S1x128 .f32) : FVec Ideal S1x128 .f32 := k1_pay18 a (k1_pay10 (ld I.o 0 n)) (k1_pay11 (ld I.o 0 n)) (ld I.gate 0 n) (ld I.dm 0 n)
/-- And of the second. -/
abbrev dqB (n : ℕ) : A := k1_pay63 (k1_pay31 (ldt I.c n)) (k1_pay32 (ldt I.s n)) (k1_pay52 (k1_pay56 i) (k1_pay59 i) (k1_pay36 (ldt I.c n) (ldt I.s n) (ld I.k 1 n)) (k1_pay37 (ld I.v 1 n)) (k1_pay41 (ld I.o 1 n)) (k1_pay42 (ld I.o 1 n)) (k1_pay46 I.g (ld I.gate 1 n) (ld I.dm 1 n)) (ld5 I.rp 1 n))
abbrev dkB (n : ℕ) (dr : A) : A := k1_pay64 (k1_pay31 (ldt I.c n)) (k1_pay32 (ldt I.s n)) (k1_pay53 (k1_pay56 i) (k1_pay58 i) dr (k1_pay35 (ldt I.c n) (ldt I.s n) (ld I.q 1 n)) (k1_pay37 (ld I.v 1 n)) (k1_pay41 (ld I.o 1 n)) (k1_pay42 (ld I.o 1 n)) (k1_pay46 I.g (ld I.gate 1 n) (ld I.dm 1 n)))
abbrev dvB (n : ℕ) (dr : A) : A := k1_pay54 (k1_pay58 i) dr (k1_pay34 (ldt I.c n) (ldt I.s n) (ld I.k 1 n)) (k1_pay39 (k1_pay56 i) (k1_pay38 (ldt I.c n) (ldt I.s n) (ld I.q 1 n) (ld I.k 1 n))) (k1_pay41 (ld I.o 1 n)) (k1_pay42 (ld I.o 1 n)) (k1_pay46 I.g (ld I.gate 1 n) (ld I.dm 1 n))
abbrev dgtB (n : ℕ) : A := k1_pay45 I.g (ld I.o 1 n) (ld I.gate 1 n) (ld I.dm 1 n)
abbrev drB (n : ℕ) (dr : A) : A := k1_pay65 i dr (k1_pay48 (k1_pay41 (ld I.o 1 n)) (k1_pay42 (ld I.o 1 n)) (k1_pay46 I.g (ld I.gate 1 n) (ld I.dm 1 n))) (k1_pay51 (k1_pay59 i) (k1_pay33 (ldt I.c n) (ldt I.s n) (ld I.q 1 n)))
abbrev dgB (n : ℕ) (a : FVec Ideal S1x128 .f32) : FVec Ideal S1x128 .f32 := k1_pay47 a (ld I.o 1 n) (ld I.gate 1 n) (ld I.dm 1 n)

theorem trip1R_eq (k : Fin k1_t1_loop.trips) (acc : Acc1) : trip1R d i M I k acc =
    (drA i I (15 - k.val) acc.1, dgA I (15 - k.val) acc.2.1, drB i I (15 - k.val) acc.2.2.1, dgB I (15 - k.val) acc.2.2.2) := by
  unfold trip1R tripR_k1_t1 trip_k1_t1 drA dgA drB dgB
  dsimp only
  rw [← read_row M.a1 M.h1 I.dm 0 (15 - k.val) (by omega) (b20 k) (k1_off2_inb k 0),
    ← read_row M.a1 M.h1 I.dm 1 (15 - k.val) (by omega) (b21 k) (k1_off2_inb k 1),
    ← read_row M.a2 M.h2 I.o 0 (15 - k.val) (by omega) (b20 k) (k1_off2_inb k 0),
    ← read_row M.a2 M.h2 I.o 1 (15 - k.val) (by omega) (b21 k) (k1_off2_inb k 1),
    ← read_row M.a4 M.h4 I.q 0 (15 - k.val) (by omega) (b20 k) (k1_off2_inb k 0),
    ← read_row M.a4 M.h4 I.q 1 (15 - k.val) (by omega) (b21 k) (k1_off2_inb k 1),
    ← read_row M.a7 M.h7 I.gate 0 (15 - k.val) (by omega) (b20 k) (k1_off2_inb k 0),
    ← read_row M.a7 M.h7 I.gate 1 (15 - k.val) (by omega) (b21 k) (k1_off2_inb k 1),
    ← read_pos M.a8 M.h8 I.c (15 - k.val) (by omega) (b1 k) (k1_off1_inb k),
    ← read_pos M.a9 M.h9 I.s (15 - k.val) (by omega) (b1 k) (k1_off1_inb k)]
  rfl

theorem trip1L_eq (k : Fin k1_t1_loop.trips) (acc : Acc1) : trip1L d i M I k acc =
    ([⟨Rect.unit (s := S4096x128) (k1_off2 k 2048#32) S128x128.size (k1_off2_inb k 1), dqB i I (15 - k.val)⟩,
      ⟨Rect.unit (s := S4096x128) (k1_off2 k 0#32) S128x128.size (k1_off2_inb k 0), dqA i I (15 - k.val)⟩],
    [⟨Rect.unit (s := S4096x128) (k1_off2 k 2048#32) S128x128.size (k1_off2_inb k 1), dkB i I (15 - k.val) acc.2.2.1⟩,
      ⟨Rect.unit (s := S4096x128) (k1_off2 k 0#32) S128x128.size (k1_off2_inb k 0), dkA i I (15 - k.val) acc.1⟩],
    [⟨Rect.unit (s := S4096x128) (k1_off2 k 2048#32) S128x128.size (k1_off2_inb k 1), dvB i I (15 - k.val) acc.2.2.1⟩,
      ⟨Rect.unit (s := S4096x128) (k1_off2 k 0#32) S128x128.size (k1_off2_inb k 0), dvA i I (15 - k.val) acc.1⟩],
    [⟨Rect.unit (s := S4096x128) (k1_off2 k 2048#32) S128x128.size (k1_off2_inb k 1), dgtB I (15 - k.val)⟩,
      ⟨Rect.unit (s := S4096x128) (k1_off2 k 0#32) S128x128.size (k1_off2_inb k 0), dgtA I (15 - k.val)⟩]) := by
  unfold trip1L tripL_k1_t1 trip_k1_t1 dqA dqB dkA dkB dvA dvB dgtA dgtB
  dsimp only
  rw [← read_row M.a1 M.h1 I.dm 0 (15 - k.val) (by omega) (b20 k) (k1_off2_inb k 0),
    ← read_row M.a1 M.h1 I.dm 1 (15 - k.val) (by omega) (b21 k) (k1_off2_inb k 1),
    ← read_row M.a2 M.h2 I.o 0 (15 - k.val) (by omega) (b20 k) (k1_off2_inb k 0),
    ← read_row M.a2 M.h2 I.o 1 (15 - k.val) (by omega) (b21 k) (k1_off2_inb k 1),
    ← read_row M.a4 M.h4 I.q 0 (15 - k.val) (by omega) (b20 k) (k1_off2_inb k 0),
    ← read_row M.a4 M.h4 I.q 1 (15 - k.val) (by omega) (b21 k) (k1_off2_inb k 1),
    ← read_row M.a5 M.h5 I.k 0 (15 - k.val) (by omega) (b20 k) (k1_off2_inb k 0),
    ← read_row M.a5 M.h5 I.k 1 (15 - k.val) (by omega) (b21 k) (k1_off2_inb k 1),
    ← read_row M.a6 M.h6 I.v 0 (15 - k.val) (by omega) (b20 k) (k1_off2_inb k 0),
    ← read_row M.a6 M.h6 I.v 1 (15 - k.val) (by omega) (b21 k) (k1_off2_inb k 1),
    ← read_row M.a7 M.h7 I.gate 0 (15 - k.val) (by omega) (b20 k) (k1_off2_inb k 0),
    ← read_row M.a7 M.h7 I.gate 1 (15 - k.val) (by omega) (b21 k) (k1_off2_inb k 1),
    ← read_pos M.a8 M.h8 I.c (15 - k.val) (by omega) (b1 k) (k1_off1_inb k),
    ← read_pos M.a9 M.h9 I.s (15 - k.val) (by omega) (b1 k) (k1_off1_inb k),
    ← read_state M.a3 M.h3 I.rp 0 (15 - k.val) (by omega) (b3 k) (k1_off3_inb k),
    ← read_state M.a3 M.h3 I.rp 1 (15 - k.val) (by omega) (b4 k) (k1_off4_inb k)]
  rfl

/-! ### The carried cotangents -/

abbrev dmR : Rows := rw2 I.dm

theorem doutA (n : ℕ) : doutP (co (k1_pay12 (k1_pay11 (ld I.o 0 n)))) (mt (k1_pay13 (k1_pay10 (ld I.o 0 n)) (k1_pay11 (ld I.o 0 n))))
      (mt (k1_pay19 I.g (ld I.gate 0 n) (ld I.dm 0 n)))
      (co (k1_pay20 I.g (k1_pay10 (ld I.o 0 n)) (k1_pay11 (ld I.o 0 n)) (ld I.gate 0 n) (ld I.dm 0 n)))
    = (head1 i I).dO (rw2 I.dm) (rw2 I.o) 0 n := by
  rw [bpay20, bpay19, bpay13, bpay12, bpay11, bpay10]; rfl
theorem doutB (n : ℕ) : doutQ (co (k1_pay41 (ld I.o 1 n))) (mt (k1_pay42 (ld I.o 1 n))) (mt (k1_pay46 I.g (ld I.gate 1 n) (ld I.dm 1 n)))
    = (head1 i I).dO (rw2 I.dm) (rw2 I.o) 1 n := by
  rw [bpay41, bpay42, bpay46]; rfl
theorem m_dqA (n : ℕ) : mt (dqA i I n) = (head1 i I).dq (rw2 I.dm) (rw2 I.o) (st5 I.rp) 0 n := by
  unfold dqA; rw [bpay27, doutA i, bpay7, bpay8, bpay2, bpay3]; rfl
theorem m_dqB (n : ℕ) : mt (dqB i I n) = (head1 i I).dq (rw2 I.dm) (rw2 I.o) (st5 I.rp) 1 n := by
  unfold dqB; rw [bpay63, bpay52, doutB i, bpay36, bpay37, bpay31, bpay32]; rfl
theorem m_dgtA (n : ℕ) : mt (dgtA I n) = (head1 i I).dgt (rw2 I.dm) (rw2 I.o) 0 n := by
  unfold dgtA; rw [bpay16, bpay13, bpay12, bpay11, bpay10]; rfl
theorem m_dgtB (n : ℕ) : mt (dgtB I n) = (head1 i I).dgt (rw2 I.dm) (rw2 I.o) 1 n := by
  unfold dgtB; rw [bpay45]; rfl
theorem m_dgA (n : ℕ) (hn : n ≤ 15) (a : FVec Ideal S1x128 .f32) (ha : ro a = (head1 i I).dg (rw2 I.dm) (rw2 I.o) 0 (15 - n)) :
    ro (dgA I n a) = (head1 i I).dg (rw2 I.dm) (rw2 I.o) 0 (15 - n + 1) := by
  have e : 15 - (15 - n) = n := by omega
  unfold dgA Head.dg; rw [bpay18, bpay13, bpay12, bpay11, bpay10, ha, e]; rfl
theorem m_dgB (n : ℕ) (hn : n ≤ 15) (a : FVec Ideal S1x128 .f32) (ha : ro a = (head1 i I).dg (rw2 I.dm) (rw2 I.o) 1 (15 - n)) :
    ro (dgB I n a) = (head1 i I).dg (rw2 I.dm) (rw2 I.o) 1 (15 - n + 1) := by
  have e : 15 - (15 - n) = n := by omega
  unfold dgB Head.dg; rw [bpay47, ha, e]; rfl

section States
variable (n : ℕ) (hn : n ≤ 15) (dr : A)
include hn

theorem m_dkA (hr : mt dr = (head1 i I).dstate (rw2 I.dm) (rw2 I.o) 0 (15 - n)) : mt (dkA i I n dr) = (head1 i I).dk (rw2 I.dm) (rw2 I.o) 0 n := by
  unfold dkA; rw [bpay29, bpay25, doutA i, bpay6, bpay8, bpay2, bpay3, hr]; rfl
theorem m_dkB (hr : mt dr = (head1 i I).dstate (rw2 I.dm) (rw2 I.o) 1 (15 - n)) : mt (dkB i I n dr) = (head1 i I).dk (rw2 I.dm) (rw2 I.o) 1 n := by
  unfold dkB; rw [bpay64, bpay53, doutB i, bpay35, bpay37, bpay31, bpay32, hr]; rfl
theorem m_dvA (hr : mt dr = (head1 i I).dstate (rw2 I.dm) (rw2 I.o) 0 (15 - n)) : mt (dvA i I n dr) = (head1 i I).dv (rw2 I.dm) (rw2 I.o) 0 n := by
  unfold dvA; rw [bpay26, doutA i, bpay5, bpay9, hr]; rfl
theorem m_dvB (hr : mt dr = (head1 i I).dstate (rw2 I.dm) (rw2 I.o) 1 (15 - n)) : mt (dvB i I n dr) = (head1 i I).dv (rw2 I.dm) (rw2 I.o) 1 n := by
  unfold dvB; rw [bpay54, doutB i, bpay34, bpay39, hr]; rfl
theorem m_drA (hr : mt dr = (head1 i I).dstate (rw2 I.dm) (rw2 I.o) 0 (15 - n)) : mt (drA i I n dr) = (head1 i I).dstate (rw2 I.dm) (rw2 I.o) 0 (15 - n + 1) := by
  have e : 15 - (15 - n) = n := by omega
  unfold drA Head.dstate; rw [bpay30, bpay21, doutA i, bpay24, bpay4, hr, e]; rfl
theorem m_drB (hr : mt dr = (head1 i I).dstate (rw2 I.dm) (rw2 I.o) 1 (15 - n)) : mt (drB i I n dr) = (head1 i I).dstate (rw2 I.dm) (rw2 I.o) 1 (15 - n + 1) := by
  have e : 15 - (15 - n) = n := by omega
  unfold drB Head.dstate; rw [bpay65, bpay48, doutB i, bpay51, bpay33, hr, e]; rfl
end States

theorem pay61_zero : mt (k1_pay61 (F := Ideal)) = fun _ _ => 0 := by
  funext r c; unfold mt; pointwise [k1_pay61]
theorem pay62_zero : ro (k1_pay62 (F := Ideal)) = fun _ => 0 := by
  funext c; unfold ro; pointwise [k1_pay62]

/-- What the outputs of the call hold. -/
def DQ1 : W := fun j => unchunk ((head1 i I).dq (rw2 I.dm) (rw2 I.o) (st5 I.rp)) (j 0) (j 1)
def DK1 : W := fun j => unchunk ((head1 i I).dk (rw2 I.dm) (rw2 I.o)) (j 0) (j 1)
def DV1 : W := fun j => unchunk ((head1 i I).dv (rw2 I.dm) (rw2 I.o)) (j 0) (j 1)
def DT1 : W := fun j => unchunk ((head1 i I).dgt (rw2 I.dm) (rw2 I.o)) (j 0) (j 1)
def DG1 : FVec Ideal S1x128 .f32 := fun j => (head1 i I).dg (rw2 I.dm) (rw2 I.o) 0 16 (j 1) + (head1 i I).dg (rw2 I.dm) (rw2 I.o) 1 16 (j 1)

abbrev Pcs := List (View.Piece (Elt Ideal) S4096x128 .f32)

/-- The writes of the trips before `k` agree with these, and the carried values are the cotangents of the states and the
    sums of the gain. -/
structure Good1 (k : ℕ) (x : Acc1 × Pcs × Pcs × Pcs × Pcs) : Prop where
  a : mt x.1.1 = (head1 i I).dstate (rw2 I.dm) (rw2 I.o) 0 k
  ag : ro x.1.2.1 = (head1 i I).dg (rw2 I.dm) (rw2 I.o) 0 k
  b : mt x.1.2.2.1 = (head1 i I).dstate (rw2 I.dm) (rw2 I.o) 1 k
  bg : ro x.1.2.2.2 = (head1 i I).dg (rw2 I.dm) (rw2 I.o) 1 k
  q : ∀ p ∈ x.2.1, ∀ y, p.2 y = DQ1 i I (p.1.emb y)
  k : ∀ p ∈ x.2.2.1, ∀ y, p.2 y = DK1 i I (p.1.emb y)
  v : ∀ p ∈ x.2.2.2.1, ∀ y, p.2 y = DV1 i I (p.1.emb y)
  t : ∀ p ∈ x.2.2.2.2, ∀ y, p.2 y = DT1 i I (p.1.emb y)

theorem st1_succ (k : Fin k1_t1_loop.trips) : st1 d i M I (k.val + 1) = (trip1R d i M I k (st1 d i M I k.val).1,
    (trip1L d i M I k (st1 d i M I k.val).1).1 ++ (st1 d i M I k.val).2.1,
    (trip1L d i M I k (st1 d i M I k.val).1).2.1 ++ (st1 d i M I k.val).2.2.1,
    (trip1L d i M I k (st1 d i M I k.val).1).2.2.1 ++ (st1 d i M I k.val).2.2.2.1,
    (trip1L d i M I k (st1 d i M I k.val).1).2.2.2 ++ (st1 d i M I k.val).2.2.2.2) :=
  st_k1_t1_succ ..

theorem good1 : ∀ k, k ≤ 16 → Good1 i I k (st1 d i M I k)
  | 0, _ => ⟨pay61_zero, pay62_zero, pay61_zero, pay62_zero, fun _ h => absurd h List.not_mem_nil, fun _ h => absurd h List.not_mem_nil,
      fun _ h => absurd h List.not_mem_nil, fun _ h => absurd h List.not_mem_nil⟩
  | k + 1, hk => by
    have ih := good1 k (by omega)
    have hk' : k < k1_t1_loop.trips := by rw [trips1]; omega
    have e := st1_succ d i M I ⟨k, hk'⟩
    rw [trip1R_eq, trip1L_eq] at e
    change st1 d i M I (k + 1) = _ at e
    rw [e]
    change Good1 i I k (st1 d i M I k) at ih
    generalize st1 d i M I k = x at ih ⊢
    have ek : 15 - (15 - k) = k := by omega
    have h15 : 15 - k ≤ 15 := by omega
    have ha := ih.a; have hb := ih.b; have hag := ih.ag; have hbg := ih.bg
    rw [← ek] at ha hb hag hbg
    have ra := m_drA i I _ h15 _ ha; have rb := m_drB i I _ h15 _ hb
    have ga := m_dgA i I _ h15 _ hag; have gb := m_dgB i I _ h15 _ hbg
    rw [ek] at ra rb ga gb
    refine ⟨ra, ga, rb, gb, fun p hp => ?_, fun p hp => ?_, fun p hp => ?_, fun p hp => ?_⟩
    · rcases List.mem_cons.1 hp with rfl | hp
      · exact agree ((head1 i I).dq (rw2 I.dm) (rw2 I.o) (st5 I.rp)) _ 1 (15 - k) (by omega) (b21 ⟨k, hk'⟩) (k1_off2_inb ⟨k, hk'⟩ 1) (m_dqB i I _)
      rcases List.mem_cons.1 hp with rfl | hp
      · exact agree ((head1 i I).dq (rw2 I.dm) (rw2 I.o) (st5 I.rp)) _ 0 (15 - k) (by omega) (b20 ⟨k, hk'⟩) (k1_off2_inb ⟨k, hk'⟩ 0) (m_dqA i I _)
      exact ih.q p hp
    · rcases List.mem_cons.1 hp with rfl | hp
      · exact agree ((head1 i I).dk (rw2 I.dm) (rw2 I.o)) _ 1 (15 - k) (by omega) (b21 ⟨k, hk'⟩) (k1_off2_inb ⟨k, hk'⟩ 1) (m_dkB i I _ h15 _ hb)
      rcases List.mem_cons.1 hp with rfl | hp
      · exact agree ((head1 i I).dk (rw2 I.dm) (rw2 I.o)) _ 0 (15 - k) (by omega) (b20 ⟨k, hk'⟩) (k1_off2_inb ⟨k, hk'⟩ 0) (m_dkA i I _ h15 _ ha)
      exact ih.k p hp
    · rcases List.mem_cons.1 hp with rfl | hp
      · exact agree ((head1 i I).dv (rw2 I.dm) (rw2 I.o)) _ 1 (15 - k) (by omega) (b21 ⟨k, hk'⟩) (k1_off2_inb ⟨k, hk'⟩ 1) (m_dvB i I _ h15 _ hb)
      rcases List.mem_cons.1 hp with rfl | hp
      · exact agree ((head1 i I).dv (rw2 I.dm) (rw2 I.o)) _ 0 (15 - k) (by omega) (b20 ⟨k, hk'⟩) (k1_off2_inb ⟨k, hk'⟩ 0) (m_dvA i I _ h15 _ ha)
      exact ih.v p hp
    · rcases List.mem_cons.1 hp with rfl | hp
      · exact agree ((head1 i I).dgt (rw2 I.dm) (rw2 I.o)) _ 1 (15 - k) (by omega) (b21 ⟨k, hk'⟩) (k1_off2_inb ⟨k, hk'⟩ 1) (m_dgtB i I _)
      rcases List.mem_cons.1 hp with rfl | hp
      · exact agree ((head1 i I).dgt (rw2 I.dm) (rw2 I.o)) _ 0 (15 - k) (by omega) (b20 ⟨k, hk'⟩) (k1_off2_inb ⟨k, hk'⟩ 0) (m_dgtA i I _)
      exact ih.t p hp

/-! ### The outputs -/

abbrev run1 (d : Dev nD) (i : grid1.Coords) (M : Bufs1) (I : Ins1) := kernelRun1_A (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g

theorem run1_eq : (run1 d i M I).1 = (st1 d i M I 16).2.1 ∧ (run1 d i M I).2.1 = (st1 d i M I 16).2.2.1
    ∧ (run1 d i M I).2.2.1 = (st1 d i M I 16).2.2.2.1 ∧ (run1 d i M I).2.2.2.1 = (st1 d i M I 16).2.2.2.2
    ∧ (run1 d i M I).2.2.2.2.1 = [⟨Rect.unit (s := S1x128) ![0, 0] S1x128.size inb_S1x128_S1x128_0_0,
        k1_pay1 (st1 d i M I 16).1.2.1 (st1 d i M I 16).1.2.2.2 (k1_pay66 (F := Ideal))⟩] := by
  have h := read_gain M.a10 M.h10 I.g inb_S1x128_S1x128_0_0
  have ht : Scf.trips (0#32) (Scalar.addi 0#32 16#32) 1#32 = 16 := trips1
  unfold run1 kernelRun1_A kernelRun1_A.sl.r kernelRun1_A.sl.r_1
  dsimp only
  rw [ht]
  erw [h]
  exact ⟨rfl, rfl, rfl, rfl, rfl⟩

theorem left_dq : out1_A_10 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g = DQ1 i I := by
  funext y
  unfold out1_A_10
  refine View.read_writes_apply_of_pieces _ _ (DQ1 i I) _ ?_ y (cover1_A_10 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g y)
  have h := (run1_eq d i M I).1
  unfold run1 at h
  rw [h]
  exact (good1 d i M I 16 le_rfl).q

theorem left_dk : out1_A_11 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g = DK1 i I := by
  funext y
  unfold out1_A_11
  refine View.read_writes_apply_of_pieces _ _ (DK1 i I) _ ?_ y (cover1_A_11 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g y)
  have h := (run1_eq d i M I).2.1
  unfold run1 at h
  rw [h]
  exact (good1 d i M I 16 le_rfl).k

theorem left_dv : out1_A_12 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g = DV1 i I := by
  funext y
  unfold out1_A_12
  refine View.read_writes_apply_of_pieces _ _ (DV1 i I) _ ?_ y (cover1_A_12 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g y)
  have h := (run1_eq d i M I).2.2.1
  unfold run1 at h
  rw [h]
  exact (good1 d i M I 16 le_rfl).v

theorem left_dt : out1_A_13 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g = DT1 i I := by
  funext y
  unfold out1_A_13
  refine View.read_writes_apply_of_pieces _ _ (DT1 i I) _ ?_ y (cover1_A_13 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g y)
  have h := (run1_eq d i M I).2.2.2.1
  unfold run1 at h
  rw [h]
  exact (good1 d i M I 16 le_rfl).t

theorem eta1 (j : S1x128.Idx) : j = ix2 (n0 := 1) (n1 := 128) 0 (j 1) := by
  funext x
  match x with
  | ⟨0, _⟩ => exact Subsingleton.elim (α := Fin 1) _ _
  | ⟨1, _⟩ => rfl

theorem bpay1 (a b : FVec Ideal S1x128 .f32) : ro (k1_pay1 a b (k1_pay66 (F := Ideal))) = fun c => ro a c + ro b c := by
  funext c; unfold ro; pointwise [k1_pay1, k1_pay66]

theorem left_dg : out1_A_14 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g = DG1 i I := by
  funext y
  unfold out1_A_14
  refine View.read_writes_apply_of_pieces _ _ (DG1 i I) _ ?_ y (cover1_A_14 (F := Ideal) d i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 I.dm I.o I.rp I.q I.k I.v I.gate I.c I.s I.g y)
  have h := (run1_eq d i M I).2.2.2.2
  unfold run1 at h
  rw [h]
  have H := good1 d i M I 16 le_rfl
  intro p hp z
  rcases List.mem_cons.1 hp with rfl | hp
  · have e : ((Rect.unit (s := S1x128) ![0, 0] S1x128.size inb_S1x128_S1x128_0_0).emb z) 1 = z 1 :=
      Fin.ext (by show 0 + 1 * (z 1).val = (z 1).val; omega)
    unfold DG1
    rw [e, ← H.ag, ← H.bg]
    exact (congrArg _ (eta1 z)).trans (congrFun (bpay1 (st1 d i M I 16).1.2.1 (st1 d i M I 16).1.2.2.2) (z 1))
  · exact absurd hp List.not_mem_nil

end Cert.Kernel6Ideal.Ret

end
-- ==== Proof.RetArr.lean ====
/-
  What the two calls of chunkwise retention leave in their arrays: column block `h` of each array is what head `h` computes.
-/
module

public import proofs.«01_k».proof.Proof.RetBwd
public import Idealize.ShloMosaic.Lib.Pipeline.Value

@[expose] public section

set_option maxRecDepth 16384

noncomputable section

namespace Cert.Kernel6Ideal.Ret

open Cert.Kernel6Ideal Cert.Kernel6Ideal.Gen Idealize.ShloMosaic Idealize.ShloMosaic.TcCoe Idealize.SL.Sem
open Idealize.ShloMosaic.Pipeline (Dat)
open scoped BigOperators
open Cert.Ret

/-- The four heads' decays per row. -/
def LG : ℕ → EReal
  | 0 => ((Real.log (31 / 32) : ℝ) : EReal)
  | 1 => ((Real.log (63 / 64) : ℝ) : EReal)
  | 2 => ((Real.log (127 / 128) : ℝ) : EReal)
  | _ => ((Real.log (255 / 256) : ℝ) : EReal)

/-- The decays that a head reads from its decay per row. -/
def decayOf (lg : EReal) : Mat := fun r c =>
  Scalar.select (IntOp.cmpi .sge (BitVec.ofNat 32 r.val) (BitVec.ofNat 32 c.val)) (Ideal.exp (lg
    * max (FloatOps.sitofp (F := Ideal) .f32 (IntOp.subi (BitVec.ofNat 32 r.val) (BitVec.ofNat 32 c.val))) 0)) 0
def kdOf (lg : EReal) : Col := fun r =>
  Ideal.exp (lg * (Ideal.ofBits .f32 1123942400#32 - FloatOps.sitofp (F := Ideal) .f32 (BitVec.ofNat 32 r.val)))
def qdOf (lg : EReal) : Col := fun r =>
  Ideal.exp (lg * (FloatOps.sitofp (F := Ideal) .f32 (BitVec.ofNat 32 r.val) + 1))
def gcOf (lg : EReal) : EReal := Ideal.exp (lg * c128)

abbrev P4 := FVec Ideal S4096x3072 .f32
abbrev M4 := FVec Ideal S4096x1024 .f32
abbrev O4 := FVec Ideal S4096x512 .f32
abbrev R4 := FVec Ideal S2x4x16x128x128 .f32
abbrev G4 := FVec Ideal S1x512 .f32

/-- Column `c` of block `j` in 24, eight and four blocks. -/
def col24 (j : ℕ) (c : Fin 128) : Fin 3072 := ⟨(128 * j + c.val) % 3072, Nat.mod_lt _ (by decide)⟩
def col8 (j : ℕ) (c : Fin 128) : Fin 1024 := ⟨(128 * j + c.val) % 1024, Nat.mod_lt _ (by decide)⟩
def col4 (j : ℕ) (c : Fin 128) : Fin 512 := ⟨(128 * j + c.val) % 512, Nat.mod_lt _ (by decide)⟩
def cols24 (X : P4) (j : ℕ) : Rows := fun i c => X (ix2 i (col24 j c))
def cols8 (X : M4) (j : ℕ) : Rows := fun i c => X (ix2 i (col8 j c))
def cols4 (X : O4) (j : ℕ) : Rows := fun i c => X (ix2 i (col4 j c))

/-- Head `h` of the projections, the tables and the gains. -/
def theHead (X : P4) (co si : T) (g : G4) (h : ℕ) : Head where
  decay := decayOf (LG h)
  kd := kdOf (LG h)
  qd := qdOf (LG h)
  gc := gcOf (LG h)
  q := cols24 X h
  k := cols24 X (4 + h)
  v := cols24 X (8 + h)
  gate := cols24 X (12 + h)
  co := tb2 co
  si := tb2 si
  g := fun c => g (ix2 0 (col4 h c))

/-- An array of four column blocks from its heads. -/
def heads4 (f : ℕ → Rows) : O4 := fun j => f ((j 1).val / 128) (j 0) ⟨(j 1).val % 128, Nat.mod_lt _ (by decide)⟩

theorem cols4_heads4 (f : ℕ → Rows) (h : ℕ) (hh : h < 4) : cols4 (heads4 f) h = f h := by
  funext i c
  have hc := c.isLt
  have e : (col4 h c).val = 128 * h + c.val := Nat.mod_eq_of_lt (by omega)
  have e1 : (col4 h c).val / 128 = h := by omega
  have e2 : (⟨(col4 h c).val % 128, Nat.mod_lt _ (by decide)⟩ : Fin 128) = c := Fin.ext (by show (col4 h c).val % 128 = c.val; omega)
  show f ((col4 h c).val / 128) i ⟨(col4 h c).val % 128, _⟩ = _
  rw [e1, e2]

theorem lg0 : ∀ t : Fin cfg0.N, (grid0.coords t 0).val = t.val := (by decide +kernel : ∀ t : Fin grid0.N, _)
theorem lg1 : ∀ t : Fin cfg1.N, (grid1.coords t 0).val = t.val := (by decide +kernel : ∀ t : Fin grid1.N, _)

theorem pay_lg (n : ℕ) (hn : n < 4) :
    Scalar.select (Scalar.cmpi .eq (BitVec.ofNat 32 n) 0#32) (Named.named (F := Ideal) (φ := .f32) κ "log_gamma_0" 0xBD020AEC#32)
      (Scalar.select (Scalar.cmpi .eq (BitVec.ofNat 32 n) 1#32) (Named.named (F := Ideal) (φ := .f32) κ "log_gamma_1" 0xBC8102B3#32)
        (Scalar.select (Scalar.cmpi .eq (BitVec.ofNat 32 n) 2#32) (Named.named (F := Ideal) (φ := .f32) κ "log_gamma_2" 0xBC0080AC#32)
          (Named.named (F := Ideal) (φ := .f32) κ "log_gamma_3" 0xBB80402B#32))) = LG n := by
  match n, hn with
  | 0, _ => rfl
  | 1, _ => rfl
  | 2, _ => rfl
  | 3, _ => rfl

theorem pay1_lg (t : Fin cfg0.N) : k0_pay1 (F := Ideal) (grid0.coords t) = LG t.val := by
  have hN : cfg0.N = 4 := N_0
  have h := pay_lg t.val (by have := t.isLt; omega)
  rw [← lg0 t] at h ⊢
  exact h
theorem pay55_lg (t : Fin cfg1.N) : k1_pay55 (F := Ideal) (grid1.coords t) = LG t.val := by
  have hN : cfg1.N = 4 := N_1
  have h := pay_lg t.val (by have := t.isLt; omega)
  rw [← lg1 t] at h ⊢
  exact h

section Arrays

variable (V : (c : Dev nD) → (b : Ref sig .tc) → Buf (Elt Ideal) ((c : Thread nD τ).loc b))

/-! ### What each window reads and where each window writes -/

theorem idx0_0 : ∀ t : Fin cfg0.N, win0_0.index t 0 = 0 ∧ win0_0.index t 1 = t.val := (by decide +kernel : ∀ t : Fin grid0.N, _)
theorem idx0_1 : ∀ t : Fin cfg0.N, win0_1.index t 0 = 0 ∧ win0_1.index t 1 = 4 + t.val := (by decide +kernel : ∀ t : Fin grid0.N, _)
theorem idx0_2 : ∀ t : Fin cfg0.N, win0_2.index t 0 = 0 ∧ win0_2.index t 1 = 8 + t.val := (by decide +kernel : ∀ t : Fin grid0.N, _)
theorem idx0_3 : ∀ t : Fin cfg0.N, win0_3.index t 0 = 0 ∧ win0_3.index t 1 = 12 + t.val := (by decide +kernel : ∀ t : Fin grid0.N, _)
theorem idx0_4 : ∀ t : Fin cfg0.N, win0_4.index t 0 = 0 ∧ win0_4.index t 1 = 0 := (by decide +kernel : ∀ t : Fin grid0.N, _)
theorem idx0_5 : ∀ t : Fin cfg0.N, win0_5.index t 0 = 0 ∧ win0_5.index t 1 = 0 := (by decide +kernel : ∀ t : Fin grid0.N, _)
theorem idx0_6 : ∀ t : Fin cfg0.N, win0_6.index t 0 = 0 ∧ win0_6.index t 1 = t.val := (by decide +kernel : ∀ t : Fin grid0.N, _)
theorem idx0_7 : ∀ t : Fin cfg0.N, win0_7.index t 0 = 0 ∧ win0_7.index t 1 = t.val := (by decide +kernel : ∀ t : Fin grid0.N, _)
theorem idx0_9 : ∀ t : Fin cfg0.N, win0_9.index t 0 = 0 ∧ win0_9.index t 1 = t.val := (by decide +kernel : ∀ t : Fin grid0.N, _)
theorem idx1_0 : ∀ t : Fin cfg1.N, win1_0.index t 0 = 0 ∧ win1_0.index t 1 = t.val := (by decide +kernel : ∀ t : Fin grid1.N, _)
theorem idx1_1 : ∀ t : Fin cfg1.N, win1_1.index t 0 = 0 ∧ win1_1.index t 1 = t.val := (by decide +kernel : ∀ t : Fin grid1.N, _)
theorem idx1_9 : ∀ t : Fin cfg1.N, win1_9.index t 0 = 0 ∧ win1_9.index t 1 = t.val := (by decide +kernel : ∀ t : Fin grid1.N, _)
theorem idx1_10 : ∀ t : Fin cfg1.N, win1_10.index t 0 = 0 ∧ win1_10.index t 1 = t.val := (by decide +kernel : ∀ t : Fin grid1.N, _)
theorem idx1_11 : ∀ t : Fin cfg1.N, win1_11.index t 0 = 0 ∧ win1_11.index t 1 = t.val := (by decide +kernel : ∀ t : Fin grid1.N, _)
theorem idx1_12 : ∀ t : Fin cfg1.N, win1_12.index t 0 = 0 ∧ win1_12.index t 1 = t.val := (by decide +kernel : ∀ t : Fin grid1.N, _)
theorem idx1_13 : ∀ t : Fin cfg1.N, win1_13.index t 0 = 0 ∧ win1_13.index t 1 = t.val := (by decide +kernel : ∀ t : Fin grid1.N, _)
theorem idx1_14 : ∀ t : Fin cfg1.N, win1_14.index t 0 = 0 ∧ win1_14.index t 1 = t.val := (by decide +kernel : ∀ t : Fin grid1.N, _)
theorem idx1_3 : ∀ t : Fin cfg1.N, win1_3.index t 0 = 0 ∧ win1_3.index t 1 = t.val := (by decide +kernel : ∀ t : Fin grid1.N, _)
theorem idx1_4 : ∀ t : Fin cfg1.N, win1_4.index t 0 = 0 ∧ win1_4.index t 1 = 4 + t.val := (by decide +kernel : ∀ t : Fin grid1.N, _)
theorem idx1_5 : ∀ t : Fin cfg1.N, win1_5.index t 0 = 0 ∧ win1_5.index t 1 = 8 + t.val := (by decide +kernel : ∀ t : Fin grid1.N, _)
theorem idx1_6 : ∀ t : Fin cfg1.N, win1_6.index t 0 = 0 ∧ win1_6.index t 1 = 12 + t.val := (by decide +kernel : ∀ t : Fin grid1.N, _)
theorem idx1_7 : ∀ t : Fin cfg1.N, win1_7.index t 0 = 0 ∧ win1_7.index t 1 = 0 := (by decide +kernel : ∀ t : Fin grid1.N, _)
theorem idx1_8 : ∀ t : Fin cfg1.N, win1_8.index t 0 = 0 ∧ win1_8.index t 1 = 0 := (by decide +kernel : ∀ t : Fin grid1.N, _)

theorem idx0_8 : ∀ t : Fin cfg0.N, win0_8.index t 0 = 0 ∧ win0_8.index t 1 = t.val ∧ win0_8.index t 2 = 0 ∧ win0_8.index t 3 = 0
    ∧ win0_8.index t 4 = 0 := (by decide +kernel : ∀ t : Fin grid0.N, _)

theorem idx1_2 : ∀ t : Fin cfg1.N, win1_2.index t 0 = 0 ∧ win1_2.index t 1 = t.val ∧ win1_2.index t 2 = 0 ∧ win1_2.index t 3 = 0
    ∧ win1_2.index t 4 = 0 := (by decide +kernel : ∀ t : Fin grid1.N, _)

theorem blk0_0 (c : Dev nD) (t : Fin cfg0.N) : rw2 (iblk0 V c 0 t) = cols24 (V c main_arg1) (t.val) := by
  have h := idx0_0 t
  have hN : cfg0.N = 4 := N_0
  have ht := t.isLt
  funext i b
  have hb := b.isLt
  unfold rw2 iblk0
  rw [View.read_apply]
  show V c main_arg1 _ = V c main_arg1 _
  congr 1
  funext x
  apply Fin.ext
  match x with
  | ⟨0, _⟩ => show win0_0.index t 0 * 4096 + 1 * i.val = i.val; rw [h.1]; omega
  | ⟨1, _⟩ => show win0_0.index t 1 * 128 + 1 * b.val = (128 * (t.val) + b.val) % 3072; rw [h.2]; omega

theorem blk0_1 (c : Dev nD) (t : Fin cfg0.N) : rw2 (iblk0 V c 1 t) = cols24 (V c main_arg1) (4 + t.val) := by
  have h := idx0_1 t
  have hN : cfg0.N = 4 := N_0
  have ht := t.isLt
  funext i b
  have hb := b.isLt
  unfold rw2 iblk0
  rw [View.read_apply]
  show V c main_arg1 _ = V c main_arg1 _
  congr 1
  funext x
  apply Fin.ext
  match x with
  | ⟨0, _⟩ => show win0_1.index t 0 * 4096 + 1 * i.val = i.val; rw [h.1]; omega
  | ⟨1, _⟩ => show win0_1.index t 1 * 128 + 1 * b.val = (128 * (4 + t.val) + b.val) % 3072; rw [h.2]; omega

theorem blk0_2 (c : Dev nD) (t : Fin cfg0.N) : rw2 (iblk0 V c 2 t) = cols24 (V c main_arg1) (8 + t.val) := by
  have h := idx0_2 t
  have hN : cfg0.N = 4 := N_0
  have ht := t.isLt
  funext i b
  have hb := b.isLt
  unfold rw2 iblk0
  rw [View.read_apply]
  show V c main_arg1 _ = V c main_arg1 _
  congr 1
  funext x
  apply Fin.ext
  match x with
  | ⟨0, _⟩ => show win0_2.index t 0 * 4096 + 1 * i.val = i.val; rw [h.1]; omega
  | ⟨1, _⟩ => show win0_2.index t 1 * 128 + 1 * b.val = (128 * (8 + t.val) + b.val) % 3072; rw [h.2]; omega

theorem blk0_3 (c : Dev nD) (t : Fin cfg0.N) : rw2 (iblk0 V c 3 t) = cols24 (V c main_arg1) (12 + t.val) := by
  have h := idx0_3 t
  have hN : cfg0.N = 4 := N_0
  have ht := t.isLt
  funext i b
  have hb := b.isLt
  unfold rw2 iblk0
  rw [View.read_apply]
  show V c main_arg1 _ = V c main_arg1 _
  congr 1
  funext x
  apply Fin.ext
  match x with
  | ⟨0, _⟩ => show win0_3.index t 0 * 4096 + 1 * i.val = i.val; rw [h.1]; omega
  | ⟨1, _⟩ => show win0_3.index t 1 * 128 + 1 * b.val = (128 * (12 + t.val) + b.val) % 3072; rw [h.2]; omega

theorem blk0_4 (c : Dev nD) (t : Fin cfg0.N) : tb2 (iblk0 V c 4 t) = tb2 (V c main_v14) := by
  have h := idx0_4 t
  funext i b
  unfold tb2 iblk0
  rw [View.read_apply]
  show V c main_v14 _ = V c main_v14 _
  congr 1
  funext x
  apply Fin.ext
  match x with
  | ⟨0, _⟩ => show win0_4.index t 0 * 2048 + 1 * i.val = i.val; rw [h.1]; omega
  | ⟨1, _⟩ => show win0_4.index t 1 * 128 + 1 * b.val = b.val; rw [h.2]; omega

theorem blk0_5 (c : Dev nD) (t : Fin cfg0.N) : tb2 (iblk0 V c 5 t) = tb2 (V c main_v16) := by
  have h := idx0_5 t
  funext i b
  unfold tb2 iblk0
  rw [View.read_apply]
  show V c main_v16 _ = V c main_v16 _
  congr 1
  funext x
  apply Fin.ext
  match x with
  | ⟨0, _⟩ => show win0_5.index t 0 * 2048 + 1 * i.val = i.val; rw [h.1]; omega
  | ⟨1, _⟩ => show win0_5.index t 1 * 128 + 1 * b.val = b.val; rw [h.2]; omega

theorem blk0_6 (c : Dev nD) (t : Fin cfg0.N) : ro (iblk0 V c 6 t) = fun b => (V c main_arg2 : G4) (ix2 0 (col4 t.val b)) := by
  have h := idx0_6 t
  have hN : cfg0.N = 4 := N_0
  have ht := t.isLt
  funext b
  have hb := b.isLt
  unfold ro iblk0
  rw [View.read_apply]
  show V c main_arg2 _ = V c main_arg2 _
  congr 1
  funext x
  apply Fin.ext
  match x with
  | ⟨0, _⟩ => show win0_6.index t 0 * 1 + 1 * 0 = 0; rw [h.1]
  | ⟨1, _⟩ => show win0_6.index t 1 * 128 + 1 * b.val = (128 * t.val + b.val) % 512; rw [h.2]; omega

theorem blk1_0 (c : Dev nD) (t : Fin cfg1.N) : rw2 (iblk1 V c 0 t) = cols8 (V c main_arg0) (t.val) := by
  have h := idx1_0 t
  have hN : cfg1.N = 4 := N_1
  have ht := t.isLt
  funext i b
  have hb := b.isLt
  unfold rw2 iblk1
  rw [View.read_apply]
  show V c main_arg0 _ = V c main_arg0 _
  congr 1
  funext x
  apply Fin.ext
  match x with
  | ⟨0, _⟩ => show win1_0.index t 0 * 4096 + 1 * i.val = i.val; rw [h.1]; omega
  | ⟨1, _⟩ => show win1_0.index t 1 * 128 + 1 * b.val = (128 * (t.val) + b.val) % 1024; rw [h.2]; omega

theorem blk1_1 (c : Dev nD) (t : Fin cfg1.N) : rw2 (iblk1 V c 1 t) = cols4 (V c main_v17_0) (t.val) := by
  have h := idx1_1 t
  have hN : cfg1.N = 4 := N_1
  have ht := t.isLt
  funext i b
  have hb := b.isLt
  unfold rw2 iblk1
  rw [View.read_apply]
  show V c main_v17_0 _ = V c main_v17_0 _
  congr 1
  funext x
  apply Fin.ext
  match x with
  | ⟨0, _⟩ => show win1_1.index t 0 * 4096 + 1 * i.val = i.val; rw [h.1]; omega
  | ⟨1, _⟩ => show win1_1.index t 1 * 128 + 1 * b.val = (128 * (t.val) + b.val) % 512; rw [h.2]; omega

theorem blk1_2 (c : Dev nD) (t : Fin cfg1.N) : st5 (iblk1 V c 2 t) = fun b n r k => (V c main_v17_1 : R4) (ix5 b ⟨t.val % 4, Nat.mod_lt _ (by decide)⟩ ⟨n % 16, Nat.mod_lt _ (by decide)⟩ r k) := by
  obtain ⟨h0, h1, h2, h3, h4⟩ := idx1_2 t
  have hN : cfg1.N = 4 := N_1
  have ht := t.isLt
  funext b n r k
  unfold st5 iblk1
  rw [View.read_apply]
  show V c main_v17_1 _ = V c main_v17_1 _
  congr 1
  funext x
  apply Fin.ext
  match x with
  | ⟨0, _⟩ => show win1_2.index t 0 * 2 + 1 * b.val = b.val; rw [h0]; omega
  | ⟨1, _⟩ => show win1_2.index t 1 * 1 + 1 * 0 = t.val % 4; rw [h1]; omega
  | ⟨2, _⟩ => show win1_2.index t 2 * 16 + 1 * (n % 16) = n % 16; rw [h2]; omega
  | ⟨3, _⟩ => show win1_2.index t 3 * 128 + 1 * r.val = r.val; rw [h3]; omega
  | ⟨4, _⟩ => show win1_2.index t 4 * 128 + 1 * k.val = k.val; rw [h4]; omega

theorem blk1_3 (c : Dev nD) (t : Fin cfg1.N) : rw2 (iblk1 V c 3 t) = cols24 (V c main_arg1) (t.val) := by
  have h := idx1_3 t
  have hN : cfg1.N = 4 := N_1
  have ht := t.isLt
  funext i b
  have hb := b.isLt
  unfold rw2 iblk1
  rw [View.read_apply]
  show V c main_arg1 _ = V c main_arg1 _
  congr 1
  funext x
  apply Fin.ext
  match x with
  | ⟨0, _⟩ => show win1_3.index t 0 * 4096 + 1 * i.val = i.val; rw [h.1]; omega
  | ⟨1, _⟩ => show win1_3.index t 1 * 128 + 1 * b.val = (128 * (t.val) + b.val) % 3072; rw [h.2]; omega

theorem blk1_4 (c : Dev nD) (t : Fin cfg1.N) : rw2 (iblk1 V c 4 t) = cols24 (V c main_arg1) (4 + t.val) := by
  have h := idx1_4 t
  have hN : cfg1.N = 4 := N_1
  have ht := t.isLt
  funext i b
  have hb := b.isLt
  unfold rw2 iblk1
  rw [View.read_apply]
  show V c main_arg1 _ = V c main_arg1 _
  congr 1
  funext x
  apply Fin.ext
  match x with
  | ⟨0, _⟩ => show win1_4.index t 0 * 4096 + 1 * i.val = i.val; rw [h.1]; omega
  | ⟨1, _⟩ => show win1_4.index t 1 * 128 + 1 * b.val = (128 * (4 + t.val) + b.val) % 3072; rw [h.2]; omega

theorem blk1_5 (c : Dev nD) (t : Fin cfg1.N) : rw2 (iblk1 V c 5 t) = cols24 (V c main_arg1) (8 + t.val) := by
  have h := idx1_5 t
  have hN : cfg1.N = 4 := N_1
  have ht := t.isLt
  funext i b
  have hb := b.isLt
  unfold rw2 iblk1
  rw [View.read_apply]
  show V c main_arg1 _ = V c main_arg1 _
  congr 1
  funext x
  apply Fin.ext
  match x with
  | ⟨0, _⟩ => show win1_5.index t 0 * 4096 + 1 * i.val = i.val; rw [h.1]; omega
  | ⟨1, _⟩ => show win1_5.index t 1 * 128 + 1 * b.val = (128 * (8 + t.val) + b.val) % 3072; rw [h.2]; omega

theorem blk1_6 (c : Dev nD) (t : Fin cfg1.N) : rw2 (iblk1 V c 6 t) = cols24 (V c main_arg1) (12 + t.val) := by
  have h := idx1_6 t
  have hN : cfg1.N = 4 := N_1
  have ht := t.isLt
  funext i b
  have hb := b.isLt
  unfold rw2 iblk1
  rw [View.read_apply]
  show V c main_arg1 _ = V c main_arg1 _
  congr 1
  funext x
  apply Fin.ext
  match x with
  | ⟨0, _⟩ => show win1_6.index t 0 * 4096 + 1 * i.val = i.val; rw [h.1]; omega
  | ⟨1, _⟩ => show win1_6.index t 1 * 128 + 1 * b.val = (128 * (12 + t.val) + b.val) % 3072; rw [h.2]; omega

theorem blk1_7 (c : Dev nD) (t : Fin cfg1.N) : tb2 (iblk1 V c 7 t) = tb2 (V c main_v14) := by
  have h := idx1_7 t
  funext i b
  unfold tb2 iblk1
  rw [View.read_apply]
  show V c main_v14 _ = V c main_v14 _
  congr 1
  funext x
  apply Fin.ext
  match x with
  | ⟨0, _⟩ => show win1_7.index t 0 * 2048 + 1 * i.val = i.val; rw [h.1]; omega
  | ⟨1, _⟩ => show win1_7.index t 1 * 128 + 1 * b.val = b.val; rw [h.2]; omega

theorem blk1_8 (c : Dev nD) (t : Fin cfg1.N) : tb2 (iblk1 V c 8 t) = tb2 (V c main_v16) := by
  have h := idx1_8 t
  funext i b
  unfold tb2 iblk1
  rw [View.read_apply]
  show V c main_v16 _ = V c main_v16 _
  congr 1
  funext x
  apply Fin.ext
  match x with
  | ⟨0, _⟩ => show win1_8.index t 0 * 2048 + 1 * i.val = i.val; rw [h.1]; omega
  | ⟨1, _⟩ => show win1_8.index t 1 * 128 + 1 * b.val = b.val; rw [h.2]; omega

theorem blk1_9 (c : Dev nD) (t : Fin cfg1.N) : ro (iblk1 V c 9 t) = fun b => (V c main_arg2 : G4) (ix2 0 (col4 t.val b)) := by
  have h := idx1_9 t
  have hN : cfg1.N = 4 := N_1
  have ht := t.isLt
  funext b
  have hb := b.isLt
  unfold ro iblk1
  rw [View.read_apply]
  show V c main_arg2 _ = V c main_arg2 _
  congr 1
  funext x
  apply Fin.ext
  match x with
  | ⟨0, _⟩ => show win1_9.index t 0 * 1 + 1 * 0 = 0; rw [h.1]
  | ⟨1, _⟩ => show win1_9.index t 1 * 128 + 1 * b.val = (128 * t.val + b.val) % 512; rw [h.2]; omega

/-! ### The head of a grid point -/

abbrev I0 (c : Dev nD) (t : Fin cfg0.N) : Ins0 where
  q := iblk0 V c 0 t
  k := iblk0 V c 1 t
  v := iblk0 V c 2 t
  gate := iblk0 V c 3 t
  c := iblk0 V c 4 t
  s := iblk0 V c 5 t
  g := iblk0 V c 6 t
abbrev I1 (c : Dev nD) (t : Fin cfg1.N) : Ins1 where
  dm := iblk1 V c 0 t
  o := iblk1 V c 1 t
  rp := iblk1 V c 2 t
  q := iblk1 V c 3 t
  k := iblk1 V c 4 t
  v := iblk1 V c 5 t
  gate := iblk1 V c 6 t
  c := iblk1 V c 7 t
  s := iblk1 V c 8 t
  g := iblk1 V c 9 t

/-- Head `h` of the arrays that a call finds. -/
abbrev hd (c : Dev nD) (h : ℕ) : Head := theHead (V c main_arg1) (V c main_v14) (V c main_v16) (V c main_arg2) h

theorem head0_eq (c : Dev nD) (t : Fin cfg0.N) : head0 (grid0.coords t) (I0 V c t) = hd V c t.val := by
  unfold head0
  rw [fdecay, fkd, fqd, fgc, pay1_lg, blk0_0, blk0_1, blk0_2, blk0_3, blk0_4, blk0_5, blk0_6]
  rfl
theorem head1_eq (c : Dev nD) (t : Fin cfg1.N) : head1 (grid1.coords t) (I1 V c t) = hd V c t.val := by
  unfold head1
  rw [bdecay, bkd, bqd, bgc, pay55_lg, blk1_3, blk1_4, blk1_5, blk1_6, blk1_7, blk1_8, blk1_9]
  rfl

abbrev B0 (t : Fin cfg0.N) : Bufs0 := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t⟩
abbrev B1 (t : Fin cfg1.N) : Bufs1 := ⟨ms1_0 t, hs1_0 t, ms1_1 t, hs1_1 t, ms1_2 t, hs1_2 t, ms1_3 t, hs1_3 t, ms1_4 t, hs1_4 t, ms1_5 t, hs1_5 t, ms1_6 t, hs1_6 t, ms1_7 t, hs1_7 t, ms1_8 t, hs1_8 t, ms1_9 t, hs1_9 t, ms1_10 t, hs1_10 t, ms1_11 t, hs1_11 t, ms1_12 t, hs1_12 t, ms1_13 t, hs1_13 t, ms1_14 t, hs1_14 t⟩

/-- What the second call's head reads besides: the cotangent, the saved outputs and the saved states. -/
abbrev dm (c : Dev nD) (h : ℕ) : Rows := cols8 (V c main_arg0) h
abbrev so (c : Dev nD) (h : ℕ) : Rows := cols4 (V c main_v17_0) h
abbrev sr (c : Dev nD) (h : ℕ) (b : Fin 2) (n : ℕ) : Mat := fun r k =>
  (V c main_v17_1 : R4) (ix5 b ⟨h % 4, Nat.mod_lt _ (by decide)⟩ ⟨n % 16, Nat.mod_lt _ (by decide)⟩ r k)

theorem size0_7 : ∀ t : Fin cfg0.N, win0_7.size 0 = 4096 ∧ win0_7.xsize (grid0.coords t) 0 = 4096 ∧ win0_7.size 1 = 128 ∧ win0_7.xsize (grid0.coords t) 1 = 128 ∧ (cfg0.win 7).flush t = true :=
  (by decide +kernel : ∀ t : Fin grid0.N, _)

theorem final_o (c : Dev nD) : (dat0 V c).arrAt 7 cfg0.N = heads4 (fun h => unchunk ((hd V c h).out)) :=
  (dat0 V c).arrAt_eq_of_cover 7 (heads4 (fun h => unchunk ((hd V c h).out))) (fun t _ => by
    have h := idx0_7 t
    have hN : cfg0.N = 4 := N_0
    have ht := t.isLt
    have hl := left_o c (grid0.coords t) (B0 t) (I0 V c t)
    have hh := head0_eq V c t
    show (cfg0.win 7).cut (grid0.coords t) ((dat0 V c).after 7 t) = _
    rw [after0_7]
    funext j
    rw [View.read_apply]
    have h1 : (j 1).val < 128 := (j 1).isLt
    refine (congrFun hl j).trans ?_
    unfold O0
    rw [hh]
    show _ = heads4 (fun h => unchunk ((hd V c h).out)) (((cfg0.win 7).blk t).view.emb j)
    unfold heads4
    have e0 : ((((cfg0.win 7).blk t).view.emb j) 1).val = 128 * t.val + (j 1).val := by
      show win0_7.index t 1 * 128 + 1 * (j 1).val = _
      rw [h.2]; omega
    have e1 : ((((cfg0.win 7).blk t).view.emb j) 1).val / 128 = t.val := by omega
    rw [e1]
    congr 1
    · apply Fin.ext
      show (j 0).val = win0_7.index t 0 * 4096 + 1 * (j 0).val
      rw [h.1]; omega
    · apply Fin.ext
      show (j 1).val = ((((cfg0.win 7).blk t).view.emb j) 1).val % 128
      omega) fun i => by
    have h0 : (i 0 : Nat) < 4096 := (i 0).isLt
    have h1 : (i 1 : Nat) < 512 := (i 1).isLt
    have hN : cfg0.N = 4 := N_0
    let t : Fin cfg0.N := ⟨(i 1 : Nat) / 128, by omega⟩
    obtain ⟨s0, x0, s1, x1, hf⟩ := size0_7 t
    have hi := idx0_7 t
    have ht : t.val = (i 1 : Nat) / 128 := rfl
    refine ⟨t, hf, ?_⟩
    show i ∈ ((View.whole main_v17_0).slice (win0_7.rect t)).set
    rw [View.set_slice_whole, Rect.mem_set_unit]
    intro a
    match a with
    | ⟨0, _⟩ => show win0_7.index t 0 * win0_7.size 0 ≤ (i 0 : Nat) ∧ (i 0 : Nat) < win0_7.index t 0 * win0_7.size 0 + win0_7.xsize (grid0.coords t) 0
                rw [hi.1, s0, x0]; omega
    | ⟨1, _⟩ => show win0_7.index t 1 * win0_7.size 1 ≤ (i 1 : Nat) ∧ (i 1 : Nat) < win0_7.index t 1 * win0_7.size 1 + win0_7.xsize (grid0.coords t) 1
                rw [hi.2, s1, x1]; omega

theorem size0_9 : ∀ t : Fin cfg0.N, win0_9.size 0 = 4096 ∧ win0_9.xsize (grid0.coords t) 0 = 4096 ∧ win0_9.size 1 = 128 ∧ win0_9.xsize (grid0.coords t) 1 = 128 ∧ (cfg0.win 9).flush t = true :=
  (by decide +kernel : ∀ t : Fin grid0.N, _)

theorem final_m (c : Dev nD) : (dat0 V c).arrAt 9 cfg0.N = heads4 (fun h => unchunk ((hd V c h).mer)) :=
  (dat0 V c).arrAt_eq_of_cover 9 (heads4 (fun h => unchunk ((hd V c h).mer))) (fun t _ => by
    have h := idx0_9 t
    have hN : cfg0.N = 4 := N_0
    have ht := t.isLt
    have hl := left_m c (grid0.coords t) (B0 t) (I0 V c t)
    have hh := head0_eq V c t
    show (cfg0.win 9).cut (grid0.coords t) ((dat0 V c).after 9 t) = _
    rw [after0_9]
    funext j
    rw [View.read_apply]
    have h1 : (j 1).val < 128 := (j 1).isLt
    refine (congrFun hl j).trans ?_
    unfold M0
    rw [hh]
    show _ = heads4 (fun h => unchunk ((hd V c h).mer)) (((cfg0.win 9).blk t).view.emb j)
    unfold heads4
    have e0 : ((((cfg0.win 9).blk t).view.emb j) 1).val = 128 * t.val + (j 1).val := by
      show win0_9.index t 1 * 128 + 1 * (j 1).val = _
      rw [h.2]; omega
    have e1 : ((((cfg0.win 9).blk t).view.emb j) 1).val / 128 = t.val := by omega
    rw [e1]
    congr 1
    · apply Fin.ext
      show (j 0).val = win0_9.index t 0 * 4096 + 1 * (j 0).val
      rw [h.1]; omega
    · apply Fin.ext
      show (j 1).val = ((((cfg0.win 9).blk t).view.emb j) 1).val % 128
      omega) fun i => by
    have h0 : (i 0 : Nat) < 4096 := (i 0).isLt
    have h1 : (i 1 : Nat) < 512 := (i 1).isLt
    have hN : cfg0.N = 4 := N_0
    let t : Fin cfg0.N := ⟨(i 1 : Nat) / 128, by omega⟩
    obtain ⟨s0, x0, s1, x1, hf⟩ := size0_9 t
    have hi := idx0_9 t
    have ht : t.val = (i 1 : Nat) / 128 := rfl
    refine ⟨t, hf, ?_⟩
    show i ∈ ((View.whole main_v17_2).slice (win0_9.rect t)).set
    rw [View.set_slice_whole, Rect.mem_set_unit]
    intro a
    match a with
    | ⟨0, _⟩ => show win0_9.index t 0 * win0_9.size 0 ≤ (i 0 : Nat) ∧ (i 0 : Nat) < win0_9.index t 0 * win0_9.size 0 + win0_9.xsize (grid0.coords t) 0
                rw [hi.1, s0, x0]; omega
    | ⟨1, _⟩ => show win0_9.index t 1 * win0_9.size 1 ≤ (i 1 : Nat) ∧ (i 1 : Nat) < win0_9.index t 1 * win0_9.size 1 + win0_9.xsize (grid0.coords t) 1
                rw [hi.2, s1, x1]; omega

theorem size1_10 : ∀ t : Fin cfg1.N, win1_10.size 0 = 4096 ∧ win1_10.xsize (grid1.coords t) 0 = 4096 ∧ win1_10.size 1 = 128 ∧ win1_10.xsize (grid1.coords t) 1 = 128 ∧ (cfg1.win 10).flush t = true :=
  (by decide +kernel : ∀ t : Fin grid1.N, _)

theorem final_dq (c : Dev nD) : (dat1 V c).arrAt 10 cfg1.N = heads4 (fun h => unchunk ((hd V c h).dq (dm V c h) (so V c h) (sr V c h))) :=
  (dat1 V c).arrAt_eq_of_cover 10 (heads4 (fun h => unchunk ((hd V c h).dq (dm V c h) (so V c h) (sr V c h)))) (fun t _ => by
    have h := idx1_10 t
    have hN : cfg1.N = 4 := N_1
    have ht := t.isLt
    have hl := left_dq c (grid1.coords t) (B1 t) (I1 V c t)
    have hh := head1_eq V c t
    show (cfg1.win 10).cut (grid1.coords t) ((dat1 V c).after 10 t) = _
    rw [after1_10]
    funext j
    rw [View.read_apply]
    have h1 : (j 1).val < 128 := (j 1).isLt
    refine (congrFun hl j).trans ?_
    unfold DQ1
    rw [hh, blk1_0, blk1_1, blk1_2]
    show _ = heads4 (fun h => unchunk ((hd V c h).dq (dm V c h) (so V c h) (sr V c h))) (((cfg1.win 10).blk t).view.emb j)
    unfold heads4
    have e0 : ((((cfg1.win 10).blk t).view.emb j) 1).val = 128 * t.val + (j 1).val := by
      show win1_10.index t 1 * 128 + 1 * (j 1).val = _
      rw [h.2]; omega
    have e1 : ((((cfg1.win 10).blk t).view.emb j) 1).val / 128 = t.val := by omega
    rw [e1]
    congr 1
    · apply Fin.ext
      show (j 0).val = win1_10.index t 0 * 4096 + 1 * (j 0).val
      rw [h.1]; omega
    · apply Fin.ext
      show (j 1).val = ((((cfg1.win 10).blk t).view.emb j) 1).val % 128
      omega) fun i => by
    have h0 : (i 0 : Nat) < 4096 := (i 0).isLt
    have h1 : (i 1 : Nat) < 512 := (i 1).isLt
    have hN : cfg1.N = 4 := N_1
    let t : Fin cfg1.N := ⟨(i 1 : Nat) / 128, by omega⟩
    obtain ⟨s0, x0, s1, x1, hf⟩ := size1_10 t
    have hi := idx1_10 t
    have ht : t.val = (i 1 : Nat) / 128 := rfl
    refine ⟨t, hf, ?_⟩
    show i ∈ ((View.whole main_v18_0).slice (win1_10.rect t)).set
    rw [View.set_slice_whole, Rect.mem_set_unit]
    intro a
    match a with
    | ⟨0, _⟩ => show win1_10.index t 0 * win1_10.size 0 ≤ (i 0 : Nat) ∧ (i 0 : Nat) < win1_10.index t 0 * win1_10.size 0 + win1_10.xsize (grid1.coords t) 0
                rw [hi.1, s0, x0]; omega
    | ⟨1, _⟩ => show win1_10.index t 1 * win1_10.size 1 ≤ (i 1 : Nat) ∧ (i 1 : Nat) < win1_10.index t 1 * win1_10.size 1 + win1_10.xsize (grid1.coords t) 1
                rw [hi.2, s1, x1]; omega

theorem size1_11 : ∀ t : Fin cfg1.N, win1_11.size 0 = 4096 ∧ win1_11.xsize (grid1.coords t) 0 = 4096 ∧ win1_11.size 1 = 128 ∧ win1_11.xsize (grid1.coords t) 1 = 128 ∧ (cfg1.win 11).flush t = true :=
  (by decide +kernel : ∀ t : Fin grid1.N, _)

theorem final_dk (c : Dev nD) : (dat1 V c).arrAt 11 cfg1.N = heads4 (fun h => unchunk ((hd V c h).dk (dm V c h) (so V c h))) :=
  (dat1 V c).arrAt_eq_of_cover 11 (heads4 (fun h => unchunk ((hd V c h).dk (dm V c h) (so V c h)))) (fun t _ => by
    have h := idx1_11 t
    have hN : cfg1.N = 4 := N_1
    have ht := t.isLt
    have hl := left_dk c (grid1.coords t) (B1 t) (I1 V c t)
    have hh := head1_eq V c t
    show (cfg1.win 11).cut (grid1.coords t) ((dat1 V c).after 11 t) = _
    rw [after1_11]
    funext j
    rw [View.read_apply]
    have h1 : (j 1).val < 128 := (j 1).isLt
    refine (congrFun hl j).trans ?_
    unfold DK1
    rw [hh, blk1_0, blk1_1]
    show _ = heads4 (fun h => unchunk ((hd V c h).dk (dm V c h) (so V c h))) (((cfg1.win 11).blk t).view.emb j)
    unfold heads4
    have e0 : ((((cfg1.win 11).blk t).view.emb j) 1).val = 128 * t.val + (j 1).val := by
      show win1_11.index t 1 * 128 + 1 * (j 1).val = _
      rw [h.2]; omega
    have e1 : ((((cfg1.win 11).blk t).view.emb j) 1).val / 128 = t.val := by omega
    rw [e1]
    congr 1
    · apply Fin.ext
      show (j 0).val = win1_11.index t 0 * 4096 + 1 * (j 0).val
      rw [h.1]; omega
    · apply Fin.ext
      show (j 1).val = ((((cfg1.win 11).blk t).view.emb j) 1).val % 128
      omega) fun i => by
    have h0 : (i 0 : Nat) < 4096 := (i 0).isLt
    have h1 : (i 1 : Nat) < 512 := (i 1).isLt
    have hN : cfg1.N = 4 := N_1
    let t : Fin cfg1.N := ⟨(i 1 : Nat) / 128, by omega⟩
    obtain ⟨s0, x0, s1, x1, hf⟩ := size1_11 t
    have hi := idx1_11 t
    have ht : t.val = (i 1 : Nat) / 128 := rfl
    refine ⟨t, hf, ?_⟩
    show i ∈ ((View.whole main_v18_1).slice (win1_11.rect t)).set
    rw [View.set_slice_whole, Rect.mem_set_unit]
    intro a
    match a with
    | ⟨0, _⟩ => show win1_11.index t 0 * win1_11.size 0 ≤ (i 0 : Nat) ∧ (i 0 : Nat) < win1_11.index t 0 * win1_11.size 0 + win1_11.xsize (grid1.coords t) 0
                rw [hi.1, s0, x0]; omega
    | ⟨1, _⟩ => show win1_11.index t 1 * win1_11.size 1 ≤ (i 1 : Nat) ∧ (i 1 : Nat) < win1_11.index t 1 * win1_11.size 1 + win1_11.xsize (grid1.coords t) 1
                rw [hi.2, s1, x1]; omega

theorem size1_12 : ∀ t : Fin cfg1.N, win1_12.size 0 = 4096 ∧ win1_12.xsize (grid1.coords t) 0 = 4096 ∧ win1_12.size 1 = 128 ∧ win1_12.xsize (grid1.coords t) 1 = 128 ∧ (cfg1.win 12).flush t = true :=
  (by decide +kernel : ∀ t : Fin grid1.N, _)

theorem final_dv (c : Dev nD) : (dat1 V c).arrAt 12 cfg1.N = heads4 (fun h => unchunk ((hd V c h).dv (dm V c h) (so V c h))) :=
  (dat1 V c).arrAt_eq_of_cover 12 (heads4 (fun h => unchunk ((hd V c h).dv (dm V c h) (so V c h)))) (fun t _ => by
    have h := idx1_12 t
    have hN : cfg1.N = 4 := N_1
    have ht := t.isLt
    have hl := left_dv c (grid1.coords t) (B1 t) (I1 V c t)
    have hh := head1_eq V c t
    show (cfg1.win 12).cut (grid1.coords t) ((dat1 V c).after 12 t) = _
    rw [after1_12]
    funext j
    rw [View.read_apply]
    have h1 : (j 1).val < 128 := (j 1).isLt
    refine (congrFun hl j).trans ?_
    unfold DV1
    rw [hh, blk1_0, blk1_1]
    show _ = heads4 (fun h => unchunk ((hd V c h).dv (dm V c h) (so V c h))) (((cfg1.win 12).blk t).view.emb j)
    unfold heads4
    have e0 : ((((cfg1.win 12).blk t).view.emb j) 1).val = 128 * t.val + (j 1).val := by
      show win1_12.index t 1 * 128 + 1 * (j 1).val = _
      rw [h.2]; omega
    have e1 : ((((cfg1.win 12).blk t).view.emb j) 1).val / 128 = t.val := by omega
    rw [e1]
    congr 1
    · apply Fin.ext
      show (j 0).val = win1_12.index t 0 * 4096 + 1 * (j 0).val
      rw [h.1]; omega
    · apply Fin.ext
      show (j 1).val = ((((cfg1.win 12).blk t).view.emb j) 1).val % 128
      omega) fun i => by
    have h0 : (i 0 : Nat) < 4096 := (i 0).isLt
    have h1 : (i 1 : Nat) < 512 := (i 1).isLt
    have hN : cfg1.N = 4 := N_1
    let t : Fin cfg1.N := ⟨(i 1 : Nat) / 128, by omega⟩
    obtain ⟨s0, x0, s1, x1, hf⟩ := size1_12 t
    have hi := idx1_12 t
    have ht : t.val = (i 1 : Nat) / 128 := rfl
    refine ⟨t, hf, ?_⟩
    show i ∈ ((View.whole main_v18_2).slice (win1_12.rect t)).set
    rw [View.set_slice_whole, Rect.mem_set_unit]
    intro a
    match a with
    | ⟨0, _⟩ => show win1_12.index t 0 * win1_12.size 0 ≤ (i 0 : Nat) ∧ (i 0 : Nat) < win1_12.index t 0 * win1_12.size 0 + win1_12.xsize (grid1.coords t) 0
                rw [hi.1, s0, x0]; omega
    | ⟨1, _⟩ => show win1_12.index t 1 * win1_12.size 1 ≤ (i 1 : Nat) ∧ (i 1 : Nat) < win1_12.index t 1 * win1_12.size 1 + win1_12.xsize (grid1.coords t) 1
                rw [hi.2, s1, x1]; omega

theorem size1_13 : ∀ t : Fin cfg1.N, win1_13.size 0 = 4096 ∧ win1_13.xsize (grid1.coords t) 0 = 4096 ∧ win1_13.size 1 = 128 ∧ win1_13.xsize (grid1.coords t) 1 = 128 ∧ (cfg1.win 13).flush t = true :=
  (by decide +kernel : ∀ t : Fin grid1.N, _)

theorem final_dt (c : Dev nD) : (dat1 V c).arrAt 13 cfg1.N = heads4 (fun h => unchunk ((hd V c h).dgt (dm V c h) (so V c h))) :=
  (dat1 V c).arrAt_eq_of_cover 13 (heads4 (fun h => unchunk ((hd V c h).dgt (dm V c h) (so V c h)))) (fun t _ => by
    have h := idx1_13 t
    have hN : cfg1.N = 4 := N_1
    have ht := t.isLt
    have hl := left_dt c (grid1.coords t) (B1 t) (I1 V c t)
    have hh := head1_eq V c t
    show (cfg1.win 13).cut (grid1.coords t) ((dat1 V c).after 13 t) = _
    rw [after1_13]
    funext j
    rw [View.read_apply]
    have h1 : (j 1).val < 128 := (j 1).isLt
    refine (congrFun hl j).trans ?_
    unfold DT1
    rw [hh, blk1_0, blk1_1]
    show _ = heads4 (fun h => unchunk ((hd V c h).dgt (dm V c h) (so V c h))) (((cfg1.win 13).blk t).view.emb j)
    unfold heads4
    have e0 : ((((cfg1.win 13).blk t).view.emb j) 1).val = 128 * t.val + (j 1).val := by
      show win1_13.index t 1 * 128 + 1 * (j 1).val = _
      rw [h.2]; omega
    have e1 : ((((cfg1.win 13).blk t).view.emb j) 1).val / 128 = t.val := by omega
    rw [e1]
    congr 1
    · apply Fin.ext
      show (j 0).val = win1_13.index t 0 * 4096 + 1 * (j 0).val
      rw [h.1]; omega
    · apply Fin.ext
      show (j 1).val = ((((cfg1.win 13).blk t).view.emb j) 1).val % 128
      omega) fun i => by
    have h0 : (i 0 : Nat) < 4096 := (i 0).isLt
    have h1 : (i 1 : Nat) < 512 := (i 1).isLt
    have hN : cfg1.N = 4 := N_1
    let t : Fin cfg1.N := ⟨(i 1 : Nat) / 128, by omega⟩
    obtain ⟨s0, x0, s1, x1, hf⟩ := size1_13 t
    have hi := idx1_13 t
    have ht : t.val = (i 1 : Nat) / 128 := rfl
    refine ⟨t, hf, ?_⟩
    show i ∈ ((View.whole main_v18_3).slice (win1_13.rect t)).set
    rw [View.set_slice_whole, Rect.mem_set_unit]
    intro a
    match a with
    | ⟨0, _⟩ => show win1_13.index t 0 * win1_13.size 0 ≤ (i 0 : Nat) ∧ (i 0 : Nat) < win1_13.index t 0 * win1_13.size 0 + win1_13.xsize (grid1.coords t) 0
                rw [hi.1, s0, x0]; omega
    | ⟨1, _⟩ => show win1_13.index t 1 * win1_13.size 1 ≤ (i 1 : Nat) ∧ (i 1 : Nat) < win1_13.index t 1 * win1_13.size 1 + win1_13.xsize (grid1.coords t) 1
                rw [hi.2, s1, x1]; omega

theorem size0_8 : ∀ t : Fin cfg0.N, win0_8.size 0 = 2 ∧ win0_8.xsize (grid0.coords t) 0 = 2 ∧ win0_8.size 1 = 1 ∧ win0_8.xsize (grid0.coords t) 1 = 1 ∧ win0_8.size 2 = 16 ∧ win0_8.xsize (grid0.coords t) 2 = 16 ∧ win0_8.size 3 = 128 ∧ win0_8.xsize (grid0.coords t) 3 = 128 ∧ win0_8.size 4 = 128 ∧ win0_8.xsize (grid0.coords t) 4 = 128 ∧ (cfg0.win 8).flush t = true :=
  (by decide +kernel : ∀ t : Fin grid0.N, _)

/-- The saved states, head by head. -/
def states (c : Dev nD) : R4 := fun j => (hd V c (j 1).val).state (j 0) (j 2).val (j 3) (j 4)

set_option maxHeartbeats 2000000 in
theorem final_r (c : Dev nD) : (dat0 V c).arrAt 8 cfg0.N = states V c :=
  (dat0 V c).arrAt_eq_of_cover 8 (states V c) (fun t _ => by
    obtain ⟨h0, h1, h2, h3, h4⟩ := idx0_8 t
    have hl := left_r c (grid0.coords t) (B0 t) (I0 V c t)
    have hh := head0_eq V c t
    show (cfg0.win 8).cut (grid0.coords t) ((dat0 V c).after 8 t) = _
    rw [after0_8]
    funext j
    rw [View.read_apply]
    refine (congrFun hl j).trans ?_
    have j1 : (j 1).val < 1 := (j 1).isLt
    unfold R0
    rw [hh]
    have e1 : ((((cfg0.win 8).blk t).view.emb j) 1).val = t.val := by
      show win0_8.index t 1 * 1 + 1 * (j 1).val = _
      rw [h1]; omega
    have e0 : (((cfg0.win 8).blk t).view.emb j) 0 = j 0 := Fin.ext (by
      show win0_8.index t 0 * 2 + 1 * (j 0).val = (j 0).val
      rw [h0]; omega)
    have e2 : ((((cfg0.win 8).blk t).view.emb j) 2).val = (j 2).val := by
      show win0_8.index t 2 * 16 + 1 * (j 2).val = (j 2).val
      rw [h2]; omega
    have e3 : (((cfg0.win 8).blk t).view.emb j) 3 = j 3 := Fin.ext (by
      show win0_8.index t 3 * 128 + 1 * (j 3).val = (j 3).val
      rw [h3]; omega)
    have e4 : (((cfg0.win 8).blk t).view.emb j) 4 = j 4 := Fin.ext (by
      show win0_8.index t 4 * 128 + 1 * (j 4).val = (j 4).val
      rw [h4]; omega)
    show _ = states V c (((cfg0.win 8).blk t).view.emb j)
    unfold states
    rw [e1, e2]
    exact (congr (congr (congrFun (congrArg (hd V c t.val).state e0) _) e3) e4).symm) fun i => by
    have i0 : (i 0 : Nat) < 2 := (i 0).isLt
    have i1 : (i 1 : Nat) < 4 := (i 1).isLt
    have i2 : (i 2 : Nat) < 16 := (i 2).isLt
    have i3 : (i 3 : Nat) < 128 := (i 3).isLt
    have i4 : (i 4 : Nat) < 128 := (i 4).isLt
    have hN : cfg0.N = 4 := N_0
    let t : Fin cfg0.N := ⟨(i 1 : Nat), by omega⟩
    obtain ⟨s0, x0, s1, x1, s2, x2, s3, x3, s4, x4, hf⟩ := size0_8 t
    obtain ⟨h0, h1, h2, h3, h4⟩ := idx0_8 t
    have ht : t.val = (i 1 : Nat) := rfl
    refine ⟨t, hf, ?_⟩
    show i ∈ ((View.whole main_v17_1).slice (win0_8.rect t)).set
    rw [View.set_slice_whole, Rect.mem_set_unit]
    intro a
    match a with

    | ⟨0, _⟩ => show win0_8.index t 0 * win0_8.size 0 ≤ (i 0 : Nat) ∧ (i 0 : Nat) < win0_8.index t 0 * win0_8.size 0 + win0_8.xsize (grid0.coords t) 0
                rw [h0, s0, x0]; omega
    | ⟨1, _⟩ => show win0_8.index t 1 * win0_8.size 1 ≤ (i 1 : Nat) ∧ (i 1 : Nat) < win0_8.index t 1 * win0_8.size 1 + win0_8.xsize (grid0.coords t) 1
                rw [h1, s1, x1]; omega
    | ⟨2, _⟩ => show win0_8.index t 2 * win0_8.size 2 ≤ (i 2 : Nat) ∧ (i 2 : Nat) < win0_8.index t 2 * win0_8.size 2 + win0_8.xsize (grid0.coords t) 2
                rw [h2, s2, x2]; omega
    | ⟨3, _⟩ => show win0_8.index t 3 * win0_8.size 3 ≤ (i 3 : Nat) ∧ (i 3 : Nat) < win0_8.index t 3 * win0_8.size 3 + win0_8.xsize (grid0.coords t) 3
                rw [h3, s3, x3]; omega
    | ⟨4, _⟩ => show win0_8.index t 4 * win0_8.size 4 ≤ (i 4 : Nat) ∧ (i 4 : Nat) < win0_8.index t 4 * win0_8.size 4 + win0_8.xsize (grid0.coords t) 4
                rw [h4, s4, x4]; omega
theorem size1_14 : ∀ t : Fin cfg1.N, win1_14.size 0 = 1 ∧ win1_14.xsize (grid1.coords t) 0 = 1 ∧ win1_14.size 1 = 128 ∧ win1_14.xsize (grid1.coords t) 1 = 128 ∧ (cfg1.win 14).flush t = true :=
  (by decide +kernel : ∀ t : Fin grid1.N, _)

/-- The gain's gradient, head by head. -/
def gains (c : Dev nD) : G4 := fun j =>
  (hd V c ((j 1).val / 128)).dg (dm V c ((j 1).val / 128)) (so V c ((j 1).val / 128)) 0 16 ⟨(j 1).val % 128, Nat.mod_lt _ (by decide)⟩
    + (hd V c ((j 1).val / 128)).dg (dm V c ((j 1).val / 128)) (so V c ((j 1).val / 128)) 1 16 ⟨(j 1).val % 128, Nat.mod_lt _ (by decide)⟩

set_option maxHeartbeats 2000000 in
theorem final_dg (c : Dev nD) : (dat1 V c).arrAt 14 cfg1.N = gains V c :=
  (dat1 V c).arrAt_eq_of_cover 14 (gains V c) (fun t _ => by
    have h := idx1_14 t
    have hN : cfg1.N = 4 := N_1
    have ht := t.isLt
    have hl := left_dg c (grid1.coords t) (B1 t) (I1 V c t)
    have hh := head1_eq V c t
    show (cfg1.win 14).cut (grid1.coords t) ((dat1 V c).after 14 t) = _
    rw [after1_14]
    funext j
    rw [View.read_apply]
    have h1 : (j 1).val < 128 := (j 1).isLt
    refine (congrFun hl j).trans ?_
    unfold DG1
    rw [hh, blk1_0, blk1_1]
    show _ = gains V c (((cfg1.win 14).blk t).view.emb j)
    have e0 : ((((cfg1.win 14).blk t).view.emb j) 1).val = 128 * t.val + (j 1).val := by
      show win1_14.index t 1 * 128 + 1 * (j 1).val = _
      rw [h.2]; omega
    have e1 : ((((cfg1.win 14).blk t).view.emb j) 1).val / 128 = t.val := by omega
    have e2 : (⟨((((cfg1.win 14).blk t).view.emb j) 1).val % 128, Nat.mod_lt _ (by decide)⟩ : Fin 128) = j 1 := Fin.ext (by
      show ((((cfg1.win 14).blk t).view.emb j) 1).val % 128 = (j 1).val
      omega)
    unfold gains
    rw [e1, e2]) fun i => by
    have h0 : (i 0 : Nat) < 1 := (i 0).isLt
    have h1 : (i 1 : Nat) < 512 := (i 1).isLt
    have hN : cfg1.N = 4 := N_1
    let t : Fin cfg1.N := ⟨(i 1 : Nat) / 128, by omega⟩
    obtain ⟨s0, x0, s1, x1, hf⟩ := size1_14 t
    have hi := idx1_14 t
    have ht : t.val = (i 1 : Nat) / 128 := rfl
    refine ⟨t, hf, ?_⟩
    show i ∈ ((View.whole main_v18_4).slice (win1_14.rect t)).set
    rw [View.set_slice_whole, Rect.mem_set_unit]
    intro a
    match a with
    | ⟨0, _⟩ => show win1_14.index t 0 * win1_14.size 0 ≤ (i 0 : Nat) ∧ (i 0 : Nat) < win1_14.index t 0 * win1_14.size 0 + win1_14.xsize (grid1.coords t) 0
                rw [hi.1, s0, x0]; omega
    | ⟨1, _⟩ => show win1_14.index t 1 * win1_14.size 1 ≤ (i 1 : Nat) ∧ (i 1 : Nat) < win1_14.index t 1 * win1_14.size 1 + win1_14.xsize (grid1.coords t) 1
                rw [hi.2, s1, x1]; omega

end Arrays

end Cert.Kernel6Ideal.Ret

end
-- ==== Proof.RetHead.lean ====
/-
  The head that both programs of chunkwise retention compute with: the rotary tables as one formula, and the decays.
-/
module

public import proofs.«01_k».proof.Proof.RetArr

@[expose] public section

set_option maxRecDepth 16384

noncomputable section

namespace Cert.Kernel6Ideal.Ret

open Cert.Kernel6Ideal Cert.Kernel6Ideal.Gen Idealize.ShloMosaic Idealize.ShloMosaic.TcCoe Idealize.SL.Sem
open Cert.Ret

/-- The angle of a position at a frequency. -/
def ang (i l : ℕ) : EReal := FloatOps.sitofp (F := Ideal) .f32 (BitVec.ofNat 32 i) *
  Ideal.pow (Ideal.ofBits .f32 1176256512#32) (Ideal.div (-FloatOps.sitofp (F := Ideal) .f32 (BitVec.ofNat 32 l)) (Ideal.ofBits .f32 1115684864#32))
/-- The rotary tables, the sines with their signs. -/
def coT : T := fun j => if (j 1).val < 64 then Ideal.cos (ang (j 0).val (j 1).val) else Ideal.cos (ang (j 0).val ((j 1).val - 64))
def siT : T := fun j => if (j 1).val < 64 then -Ideal.sin (ang (j 0).val (j 1).val) else Ideal.sin (ang (j 0).val ((j 1).val - 64))

/-- Head `h` of the projections and the gains. -/
abbrev Hd (X : P4) (g : G4) (h : ℕ) : Head := theHead X coT siT g h

variable (m : (ℓ : Loc nD τ sig) → Buf (Elt Ideal) ℓ) (ρ : Dev nD → PrngReg)

theorem V1_co (c : Dev nD) : (V1 m ρ c main_v14 : T) = coT := by
  funext j
  idx_vars j
  show (W1 m ρ c (Proc.devRef .tc main_v14) : T) (ix2 j0 j1) = _
  unfold W1
  after_results
  pointwise []
  rfl
theorem V1_si (c : Dev nD) : (V1 m ρ c main_v16 : T) = siT := by
  funext j
  idx_vars j
  show (W1 m ρ c (Proc.devRef .tc main_v16) : T) (ix2 j0 j1) = _
  unfold W1
  after_results
  pointwise []
  rfl

end Cert.Kernel6Ideal.Ret

end
-- ==== Proof.RetRefFwd.lean ====
/-
  The retention reference's forward values: each named intermediate value, read at a head, a chunk and a row, is what the head
  computes.
-/
module

public import proofs.«01_k».proof.Proof.RetHost
public import proofs.«01_k».proof.Proof.RetHead
public import Idealize.ShloMosaic.Lib.DynamicIndex
public import proofs.«01_k».proof.Proof.Finite

@[expose] public section

set_option maxRecDepth 16384

noncomputable section

namespace Cert.Reference6Ideal.Ret

open Cert.Reference6Ideal Cert.Reference6Ideal.Gen Idealize.ShloMosaic Idealize.ShloMosaic.TcCoe Idealize.SL.Sem
open Cert.Ret
open Cert.Kernel6Ideal.Ret (theHead LG col24 col8 col4 cols24 cols8 cols4 decayOf kdOf qdOf gcOf ang coT siT Hd)
open scoped BigOperators

abbrev PX := FVec Ideal S4096x3072 .f32
abbrev MX := FVec Ideal S4096x1024 .f32
abbrev GX := FVec Ideal S1x512 .f32
abbrev T4 := FVec Ideal S2x2048x4x128 .f32
abbrev T5 := FVec Ideal S2x16x128x4x128 .f32
abbrev S5 := FVec Ideal S2x4x16x128x128 .f32
abbrev K5' := FVec Ideal S16x2x4x128x128 .f32

/-! ### Positions -/

theorem pos_mk (n : Fin 16) (r : Fin 128) (p) : (⟨n.val * 128 + r.val, p⟩ : Fin 2048) = pos n.val r :=
  Fin.ext (by have := n.isLt; have := r.isLt; show n.val * 128 + r.val = (128 * n.val + r.val) % 2048; omega)
theorem row_mk (b : Fin 2) (n : Fin 16) (r : Fin 128) (p) : (⟨b.val * 2048 + (pos n.val r).val, p⟩ : Fin 4096) = row b n.val r :=
  Fin.ext (by
    have := n.isLt; have := r.isLt; have := b.isLt
    show b.val * 2048 + (128 * n.val + r.val) % 2048 = (2048 * b.val + 128 * n.val + r.val) % 4096; omega)
theorem col_mk (h : Fin 4) (j : ℕ) (c : Fin 128) (hj : j ≤ 3) (k : ℕ) (hk : k = j * 512) (p) :
    (⟨k + (h.val * 128 + c.val), p⟩ : Fin 3072) = col24 (4 * j + h.val) c :=
  Fin.ext (by have := h.isLt; have := c.isLt; show k + (h.val * 128 + c.val) = (128 * (4 * j + h.val) + c.val) % 3072; omega)
theorem col_mk0 (h : Fin 4) (c : Fin 128) (p) : (⟨h.val * 128 + c.val, p⟩ : Fin 3072) = col24 h.val c :=
  Fin.ext (by have := h.isLt; have := c.isLt; show h.val * 128 + c.val = (128 * h.val + c.val) % 3072; omega)

/-! ### The rotary turn -/

theorem back_mk (d : Fin 128) (hl : ¬d.val < 64) (p) : (⟨64 + (d.val - 64), p⟩ : Fin 128) = d := Fin.ext (by show 64 + (d.val - 64) = d.val; omega)

theorem rope4_at (x : T4) (b : Fin 2) (i : Fin 2048) (h : Fin 4) (d : Fin 128) :
    rope4 x cosT sinT (ix4 b i h d) = x (ix4 b i h d) * coT (ix2 i d) + x (ix4 b i h (half d)) * siT (ix2 i d) := by
  unfold rope4
  pointwise []
  have hd := d.isLt
  show _ = x (ix4 b i h d) * (if d.val < 64 then Ideal.cos (ang i.val d.val) else Ideal.cos (ang i.val (d.val - 64)))
    + x (ix4 b i h (half d)) * (if d.val < 64 then -Ideal.sin (ang i.val d.val) else Ideal.sin (ang i.val (d.val - 64)))
  split
  · rename_i hl
    rw [cosT_at, sinT_at, show half d = ⟨64 + d.val, by omega⟩ from Fin.ext (by show (d.val + 128 - 64) % 128 = 64 + d.val; omega),
      mul_neg, ← sub_eq_add_neg]
    rfl
  · rename_i hl
    rw [cosT_at, sinT_at, show half d = ⟨d.val - 64, by omega⟩ from Fin.ext (by show (d.val + 128 - 64) % 128 = d.val - 64; omega), add_comm]
    rw [back_mk d hl]
    rfl

theorem ropeT4_at (x : T4) (b : Fin 2) (i : Fin 2048) (h : Fin 4) (d : Fin 128) :
    ropeT4 x cosT sinT (ix4 b i h d) = x (ix4 b i h d) * coT (ix2 i d) + x (ix4 b i h (half d)) * siT (ix2 i (half d)) := by
  unfold ropeT4
  pointwise []
  have hd := d.isLt
  show _ = x (ix4 b i h d) * (if d.val < 64 then Ideal.cos (ang i.val d.val) else Ideal.cos (ang i.val (d.val - 64)))
    + x (ix4 b i h (half d)) * (if (half d).val < 64 then -Ideal.sin (ang i.val (half d).val) else Ideal.sin (ang i.val ((half d).val - 64)))
  by_cases hl : d.val < 64
  · have e : half d = ⟨64 + d.val, by omega⟩ := Fin.ext (by show (d.val + 128 - 64) % 128 = 64 + d.val; omega)
    rw [e, dif_neg (by omega), dif_pos hl, if_pos hl, if_neg (by show ¬(64 + d.val < 64); omega), cosT_at, sinT_at, zero_add, add_comm]
    show _ + x _ * Ideal.sin (ang i.val d.val) = _ + x _ * Ideal.sin (ang i.val (64 + d.val - 64))
    rw [Nat.add_sub_cancel_left]
    rfl
  · have e : half d = ⟨d.val - 64, by omega⟩ := Fin.ext (by show (d.val + 128 - 64) % 128 = d.val - 64; omega)
    rw [e, dif_pos ⟨by omega, by omega⟩, dif_neg hl, if_neg hl, if_pos (by show d.val - 64 < 64; omega), cosT_at, sinT_at, add_zero, neg_mul, mul_neg]
    rw [back_mk d hl]
    rfl

/-! ### The decays -/

/-- A small counter as a number. -/
theorem num_of (k : ℕ) (hk : k < 2 ^ 31) : FloatOps.sitofp (F := Ideal) .f32 (BitVec.ofNat 32 k) = ((k : ℝ) : EReal) := by
  show (((BitVec.ofNat 32 k).toInt : ℝ) : EReal) = _
  rw [toInt_ofNat_of_lt hk, Int.cast_natCast]

theorem ofBits_neg_five : Ideal.ofBits .f32 3231711232#32 = ((-5 : ℝ) : EReal) := by
  simp [Ideal.ofBits, Ideal.ieee]
  rw [← EReal.coe_mul, EReal.coe_eq_coe_iff]; norm_num

/-- The decay per row of a head, from its power of two. -/
theorem log1p_pow (k : ℕ) : Ideal.log1p (-Ideal.pow ((2 : ℝ) : EReal) (((-5 : ℝ) : EReal) - ((k : ℝ) : EReal))) =
    ((Real.log (1 - 1 / 2 ^ (5 + k)) : ℝ) : EReal) := by
  rw [← EReal.coe_sub]
  show Ideal.log (1 + -((Real.rpow 2 (-5 - (k : ℝ)) : ℝ) : EReal)) = _
  have e : Real.rpow 2 (-5 - (k : ℝ)) = 1 / 2 ^ (5 + k) := by
    show (2 : ℝ) ^ (-5 - (k : ℝ)) = _
    rw [show (-5 - (k : ℝ)) = -((5 + k : ℕ) : ℝ) by push_cast; ring, Real.rpow_neg (by norm_num), Real.rpow_natCast, one_div]
  rw [e, ← EReal.coe_neg, ← EReal.coe_one, ← EReal.coe_add, ← sub_eq_add_neg]
  show (if (1 - 1 / 2 ^ (5 + k) : ℝ) ≤ 0 then ⊥ else _) = _
  rw [if_neg]
  have : (1 : ℝ) / 2 ^ (5 + k) < 1 := by
    rw [div_lt_one (by positivity)]
    exact one_lt_pow₀ (by norm_num) (by omega)
  linarith

theorem lgT_LG (h : Fin 4) : lgT (ix1 h) = LG h.val := by
  rw [lgT_at, Fin.ofBits_two, ofBits_neg_five, num_of h.val (by omega), log1p_pow]
  match h with
  | 0 => exact congrArg (fun x : ℝ => ((Real.log x : ℝ) : EReal)) (by norm_num)
  | 1 => exact congrArg (fun x : ℝ => ((Real.log x : ℝ) : EReal)) (by norm_num)
  | 2 => exact congrArg (fun x : ℝ => ((Real.log x : ℝ) : EReal)) (by norm_num)
  | 3 => exact congrArg (fun x : ℝ => ((Real.log x : ℝ) : EReal)) (by norm_num)

theorem decT_of (h : Fin 4) (r c : Fin 128) : decT lgT (ix5 0 h 0 r c) = decayOf (LG h.val) r c := by
  have hr := r.isLt
  have hc := c.isLt
  rw [decT_at, lgT_LG, num_of r.val (by omega), num_of c.val (by omega), ← EReal.coe_sub]
  unfold decayOf
  have e1 : (BitVec.ofNat 32 r.val).toInt = (r.val : ℤ) := toInt_ofNat_of_lt (by omega)
  have e2 : (BitVec.ofNat 32 c.val).toInt = (c.val : ℤ) := toInt_ofNat_of_lt (by omega)
  by_cases hrc : c.val ≤ r.val
  · have e3 : IntOp.cmpi .sge (BitVec.ofNat 32 r.val) (BitVec.ofNat 32 c.val) = 1#1 := by
      show BitVec.ofBool ((BitVec.ofNat 32 c.val).sle (BitVec.ofNat 32 r.val)) = 1#1
      rw [BitVec.sle, e1, e2, decide_eq_true (by omega)]; rfl
    have e4 : FloatOps.sitofp (F := Ideal) .f32 (IntOp.subi (BitVec.ofNat 32 r.val) (BitVec.ofNat 32 c.val)) = (((r.val : ℝ) - (c.val : ℝ) : ℝ) : EReal) := by
      show FloatOps.sitofp (F := Ideal) .f32 (BitVec.ofNat 32 r.val - BitVec.ofNat 32 c.val) = _
      rw [show BitVec.ofNat 32 r.val - BitVec.ofNat 32 c.val = BitVec.ofNat 32 (r.val - c.val) by
        apply BitVec.eq_of_toNat_eq
        simp only [BitVec.toNat_sub, BitVec.toNat_ofNat]
        omega, num_of _ (by omega), Nat.cast_sub hrc]
    rw [e3, e4, if_pos]
    · rfl
    · rw [← EReal.coe_zero, EReal.coe_le_coe_iff, sub_nonneg]
      exact_mod_cast hrc
  · have e3 : IntOp.cmpi .sge (BitVec.ofNat 32 r.val) (BitVec.ofNat 32 c.val) = 0#1 := by
      show BitVec.ofBool ((BitVec.ofNat 32 c.val).sle (BitVec.ofNat 32 r.val)) = 0#1
      rw [BitVec.sle, e1, e2, decide_eq_false (by omega)]; rfl
    rw [e3, if_neg]
    · rfl
    · rw [← EReal.coe_zero, EReal.coe_le_coe_iff, sub_nonneg]
      intro hle
      exact hrc (by exact_mod_cast hle)
theorem kdT_of (h : Fin 4) (r : Fin 128) : kdT lgT (ix5 0 0 r h 0) = kdOf (LG h.val) r := by rw [kdT_at, lgT_LG]; rfl
theorem qdT_of (h : Fin 4) (r : Fin 128) : qdT lgT posT (ix5 0 0 r h 0) = qdOf (LG h.val) r := by rw [qdT_at, lgT_LG, posT_at]; rfl
theorem gcT_of (h : Fin 4) : gcT lgT (ix4 0 h 0 0) = gcOf (LG h.val) := by rw [gcT_at, lgT_LG]; rfl

/-! ### The chunks of the queries, keys and values -/

def q5 (X : PX) : T5 := chunk5 (rope4 (qIn X) cosT sinT)
def k5 (X : PX) : T5 := chunk5 (scl4 (rope4 (kIn X) cosT sinT))
def v5 (X : PX) : T5 := chunk5 (vIn X)

variable (X : PX) (G : GX) (b : Fin 2) (n : Fin 16) (h : Fin 4) (r c : Fin 128)

theorem qIn_of : qIn X (ix4 b (pos n.val r) h c) = chunk (Hd X G h.val).q b n.val r c := by
  rw [qIn_at, row_mk, col_mk0]; rfl
theorem kIn_of : kIn X (ix4 b (pos n.val r) h c) = chunk (Hd X G h.val).k b n.val r c := by
  rw [kIn_at, row_mk, col_mk h 1 c (by omega) 512 rfl]; rfl
theorem vIn_of : vIn X (ix4 b (pos n.val r) h c) = chunk (Hd X G h.val).v b n.val r c := by
  rw [vIn_at, row_mk, col_mk h 2 c (by omega) 1024 rfl]; rfl

theorem q5_of : q5 X (ix5 b n r h c) = (Hd X G h.val).qr b n.val r c := by
  unfold q5
  rw [chunk5_at, pos_mk, rope4_at, qIn_of X G, qIn_of X G]; rfl
theorem k5_of : k5 X (ix5 b n r h c) = (Hd X G h.val).kr b n.val r c := by
  unfold k5
  rw [chunk5_at, pos_mk, scl4_at, rope4_at, kIn_of X G, kIn_of X G]; rfl
theorem v5_of : v5 X (ix5 b n r h c) = chunk (Hd X G h.val).v b n.val r c := by
  unfold v5
  rw [chunk5_at, pos_mk, vIn_of X G]

/-! ### Inside a chunk -/

def s5 (X : PX) : S5 := sco5 (q5 X) (k5 X) (decT lgT)
def i5 (X : PX) : T5 := intra5 (v5 X) (s5 X)
def kd5 (X : PX) : T5 := dec5 (k5 X) (kdT lgT)
def u5 (X : PX) : K5' := kv5 (kd5 X) (v5 X)
def qd5 (X : PX) : T5 := dec5 (q5 X) (qdT lgT posT)

theorem s5_of : s5 X (ix5 b h n r c) =
    score (Hd X G h.val).decay ((Hd X G h.val).qr b n.val) ((Hd X G h.val).kr b n.val) r c := by
  unfold s5
  rw [sco5_at, decT_of]
  simp only [q5_of X G, k5_of X G]
  rfl
theorem i5_of : i5 X (ix5 b n r h c) = ∑ x,
    score (Hd X G h.val).decay ((Hd X G h.val).qr b n.val) ((Hd X G h.val).kr b n.val) r x * chunk (Hd X G h.val).v b n.val x c := by
  unfold i5
  rw [intra5_at]
  simp only [s5_of X G, v5_of X G, mul_comm]
theorem kd5_of : kd5 X (ix5 b n r h c) = (Hd X G h.val).kr b n.val r c * (Hd X G h.val).kd r := by
  unfold kd5
  rw [dec5_at, k5_of X G, kdT_of]
  rfl
theorem qd5_of : qd5 X (ix5 b n r h c) = (Hd X G h.val).qr b n.val r c * (Hd X G h.val).qd r := by
  unfold qd5
  rw [dec5_at, q5_of X G, qdT_of]
  rfl
theorem u5_of : u5 X (ix5 n b h r c) =
    ∑ x, (Hd X G h.val).kr b n.val x r * (Hd X G h.val).kd x * chunk (Hd X G h.val).v b n.val x c := by
  unfold u5
  rw [kv5_at]
  simp only [kd5_of X G, v5_of X G]

/-! ### The output -/

/-- The output from the stack of states. -/
def o4 (X : PX) (S : K5') : T4 := out4 (i5 X) (cross5 S (qd5 X))

theorem pos_div (n : Fin 16) (r : Fin 128) (p) : (⟨(pos n.val r).val / 128, p⟩ : Fin 16) = n :=
  Fin.ext (by have := n.isLt; have := r.isLt; show (128 * n.val + r.val) % 2048 / 128 = n.val; omega)
theorem pos_mod (n : Fin 16) (r : Fin 128) (p) : (⟨(pos n.val r).val % 128, p⟩ : Fin 128) = r :=
  Fin.ext (by have := n.isLt; have := r.isLt; show (128 * n.val + r.val) % 2048 % 128 = r.val; omega)

theorem o4_of (S : K5') (hS : ∀ (n : Fin 16) (b : Fin 2) (h : Fin 4) (r c : Fin 128), S (ix5 n b h r c) = (Hd X G h.val).state b n.val r c) :
    o4 X S (ix4 b (pos n.val r) h c) = (Hd X G h.val).out b n.val r c := by
  unfold o4
  rw [out4_at, pos_div, pos_mod, i5_of X G, cross5_at]
  simp only [hS, qd5_of X G]
  show _ = _ + _
  congr 1
  exact Finset.sum_congr rfl fun x _ => mul_comm _ _

end Cert.Reference6Ideal.Ret

end
-- ==== Proof.RetReal.lean ====
/-
  The norm's and the gate's gradients over the real numbers: the derivative taken operation by operation equals the formula with
  the two means, and the gate's two products are one.
-/
module

public import proofs.«01_k».proof.Proof.RetMath
public import proofs.«01_k».proof.Proof.Finite

@[expose] public section

set_option maxRecDepth 16384

noncomputable section

namespace Cert.Ret

open Idealize.ShloMosaic
open scoped BigOperators

/-- A real number among the extended ones. -/
def Rl (x : EReal) : Prop := ∃ y : ℝ, x = (y : EReal)

theorem Rl.coe (y : ℝ) : Rl (y : EReal) := ⟨y, rfl⟩
theorem Rl.zero : Rl 0 := ⟨0, rfl⟩
theorem Rl.one : Rl 1 := ⟨1, rfl⟩
theorem Rl.add {x y : EReal} (hx : Rl x) (hy : Rl y) : Rl (x + y) := by
  obtain ⟨a, rfl⟩ := hx; obtain ⟨b, rfl⟩ := hy; exact ⟨a + b, (EReal.coe_add a b).symm⟩
theorem Rl.mul {x y : EReal} (hx : Rl x) (hy : Rl y) : Rl (x * y) := by
  obtain ⟨a, rfl⟩ := hx; obtain ⟨b, rfl⟩ := hy; exact ⟨a * b, (EReal.coe_mul a b).symm⟩
theorem Rl.sub {x y : EReal} (hx : Rl x) (hy : Rl y) : Rl (x - y) := by
  obtain ⟨a, rfl⟩ := hx; obtain ⟨b, rfl⟩ := hy; exact ⟨a - b, (EReal.coe_sub a b).symm⟩
theorem Rl.neg {x : EReal} (hx : Rl x) : Rl (-x) := by
  obtain ⟨a, rfl⟩ := hx; exact ⟨-a, (EReal.coe_neg a).symm⟩
theorem Rl.max {x y : EReal} (hx : Rl x) (hy : Rl y) : Rl (max x y) := by
  rcases max_choice x y with h | h <;> rw [h] <;> assumption
theorem Rl.sum {ι : Type} [Fintype ι] {f : ι → EReal} (h : ∀ i, Rl (f i)) : Rl (∑ i, f i) := by
  choose g hg using h
  exact ⟨∑ i, g i, by rw [← Fin.coe_sum]; exact Finset.sum_congr rfl fun i _ => hg i⟩
theorem Rl.exp {x : EReal} (hx : Rl x) : Rl (Ideal.exp x) := by obtain ⟨a, rfl⟩ := hx; exact ⟨Real.exp a, rfl⟩
theorem Rl.cos {x : EReal} (hx : Rl x) : Rl (Ideal.cos x) := by obtain ⟨a, rfl⟩ := hx; exact ⟨Real.cos a, rfl⟩
theorem Rl.sin {x : EReal} (hx : Rl x) : Rl (Ideal.sin x) := by obtain ⟨a, rfl⟩ := hx; exact ⟨Real.sin a, rfl⟩
theorem Rl.pow {x y : EReal} (hx : Rl x) (hy : Rl y) : Rl (Ideal.pow x y) := by
  obtain ⟨a, rfl⟩ := hx; obtain ⟨b, rfl⟩ := hy; exact ⟨Real.rpow a b, rfl⟩
theorem Rl.div {x : EReal} {b : ℝ} (hx : Rl x) (hb : b ≠ 0) : Rl (Ideal.div x (b : EReal)) := by
  obtain ⟨a, rfl⟩ := hx; exact ⟨a / b, Fin.div_coe a b hb⟩
theorem Rl.logistic {x : EReal} (hx : Rl x) : Rl (Ideal.logistic x) := by
  obtain ⟨a, rfl⟩ := hx
  unfold Ideal.logistic
  rw [← EReal.coe_neg]
  show Rl (Ideal.div 1 (1 + ((Real.exp (-a) : ℝ) : EReal)))
  rw [← EReal.coe_one, ← EReal.coe_add]
  exact Rl.div (Rl.coe 1) (by positivity)

theorem ofBits_128 : c128 = ((128 : ℝ) : EReal) := by
  simp [c128, Ideal.ofBits, Ideal.ieee]
  rw [← EReal.coe_mul, EReal.coe_eq_coe_iff]; norm_num
theorem guard_eq : guard = ((Fin.eps : ℝ) : EReal) := Fin.ofBits_eps
theorem scale_real : Rl scale := by
  refine ⟨11863283 * (2 : ℝ) ^ (-27 : Int), ?_⟩
  simp [scale, Ideal.ofBits, Ideal.ieee]

/-! ### The norm -/

/-- The norm's gradient as the derivative gives it: through the row less its mean, and through the guarded variance. -/
def slope (o : Mat) : Col := fun r => Ideal.ofBits .f32 3204448256#32 * Ideal.div (rstd o r)
  (Ideal.div (∑ c, center o r c * center o r c) c128 + guard)
def back (o d : Mat) : Mat := fun r c =>
  (∑ _ : Fin 1, Ideal.div ((∑ x, center o r x * d r x) * slope o r) c128) * (Ideal.ofBits .f32 1073741824#32 * center o r c)
def doutRef (o d : Mat) : Mat := fun r c => d r c * rstd o r + back o d r c
  + ∑ _ : Fin 1, Ideal.div (∑ x, -(d r x * rstd o r) + ∑ x, -back o d r x) c128

theorem doutRef_eq (o d : Mat) (ho : ∀ r c, Rl (o r c)) (hd : ∀ r c, Rl (d r c)) : doutRef o d = dout o d := by
  choose o' ho' using ho
  choose d' hd' using hd
  funext r c
  have hn : (128 : ℝ) ≠ 0 := by norm_num
  have hmean : mean o r = (((∑ x, o' r x) / 128 : ℝ) : EReal) := by
    unfold mean
    rw [ofBits_128, ← Fin.div_coe _ _ hn, ← Fin.coe_sum]
    simp only [ho']
  have hcen : ∀ x, center o r x = ((o' r x - (∑ x, o' r x) / 128 : ℝ) : EReal) := fun x => by
    unfold center
    rw [hmean, ho', ← EReal.coe_sub]
  set e : Fin 128 → ℝ := fun x => o' r x - (∑ x, o' r x) / 128 with he
  have hcen' : ∀ x, center o r x = ((e x : ℝ) : EReal) := hcen
  set w : ℝ := (∑ x, e x * e x) / 128 + Fin.eps with hw
  have hwpos : 0 < w := by
    have : 0 ≤ ∑ x, e x * e x := Finset.sum_nonneg fun x _ => mul_self_nonneg _
    have := Fin.eps_pos
    rw [hw]; positivity
  have hvar : Ideal.div (∑ c, center o r c * center o r c) c128 + guard = ((w : ℝ) : EReal) := by
    rw [ofBits_128, guard_eq, hw, EReal.coe_add, ← Fin.div_coe _ _ hn, ← Fin.coe_sum]
    simp only [hcen', EReal.coe_mul]
  set s : ℝ := (Real.sqrt w)⁻¹ with hs
  have hrstd : rstd o r = ((s : ℝ) : EReal) := by
    unfold rstd
    rw [hvar, Fin.rsqrt_coe w hwpos]
  have hs2 : s * s = w⁻¹ := by
    rw [hs, ← mul_inv, Real.mul_self_sqrt hwpos.le]
  have hesum : ∑ x, e x = 0 := by
    rw [he, Finset.sum_sub_distrib, Finset.sum_const, Finset.card_univ, Fintype.card_fin, nsmul_eq_mul]
    push_cast; ring
  set A : ℝ := ∑ x, e x * d' r x with hA
  have hAe : ∑ x, center o r x * d r x = ((A : ℝ) : EReal) := by
    rw [hA, ← Fin.coe_sum]
    simp only [hcen', hd', EReal.coe_mul]
  have hslope : slope o r = ((-(1 / 2) * (s / w) : ℝ) : EReal) := by
    unfold slope
    rw [hvar, hrstd, Fin.div_coe _ _ hwpos.ne', EReal.coe_mul]
    exact congrArg (· * _) Fin.ofBits_neg_half
  have hback : ∀ x, back o d r x = ((A * (-(1 / 2) * (s / w)) / 128 * (2 * e x) : ℝ) : EReal) := fun x => by
    unfold back
    rw [hAe, hslope, hcen', Fin.sum_univ_one, ofBits_128, Fin.ofBits_two, ← EReal.coe_mul, Fin.div_coe _ _ hn, ← EReal.coe_mul, ← EReal.coe_mul]
  have hD : ∑ x, -(d r x * rstd o r) = ((-(∑ x, d' r x) * s : ℝ) : EReal) := by
    rw [show (-(∑ x, d' r x) * s : ℝ) = ∑ x, -(d' r x * s) by rw [Finset.sum_neg_distrib, ← Finset.sum_mul, neg_mul], ← Fin.coe_sum]
    simp only [hd', hrstd, EReal.coe_neg, EReal.coe_mul]
  have hB : ∑ x, -back o d r x = ((0 : ℝ) : EReal) := by
    rw [show (0 : ℝ) = ∑ x, -(A * (-(1 / 2) * (s / w)) / 128 * (2 * e x)) by
      rw [Finset.sum_neg_distrib, ← Finset.mul_sum, ← Finset.mul_sum, hesum]; ring, ← Fin.coe_sum]
    simp only [hback, EReal.coe_neg]
  have hmd : mean d r = (((∑ x, d' r x) / 128 : ℝ) : EReal) := by
    unfold mean
    rw [ofBits_128, ← Fin.div_coe _ _ hn, ← Fin.coe_sum]
    simp only [hd']
  have hnorm : ∀ x, normed o r x = ((e x * s : ℝ) : EReal) := fun x => by
    unfold normed
    rw [hcen', hrstd, EReal.coe_mul]
  have hmn : mean (fun r c => d r c * normed o r c) r = ((A * s / 128 : ℝ) : EReal) := by
    unfold mean
    rw [ofBits_128, ← Fin.div_coe _ _ hn, hA, Finset.sum_mul, ← Fin.coe_sum]
    congr 1
    refine Finset.sum_congr rfl fun x _ => ?_
    show d r x * normed o r x = _
    rw [hnorm, hd', ← EReal.coe_mul]
    congr 1
    ring
  unfold doutRef dout
  rw [hback, hB, hD, hmd, hmn, hnorm, hrstd, hd', Fin.sum_univ_one, ofBits_128]
  simp only [← EReal.coe_mul, ← EReal.coe_add, ← EReal.coe_sub, Fin.div_coe _ _ hn]
  congr 1
  have hsw : s / w = s * (s * s) := by rw [hs2]; ring
  rw [hsw]
  ring

/-! ### The gate -/

theorem gate_eq {x y s : EReal} (hx : Rl x) (hy : Rl y) (hs : Rl s) : x * s + y * x * (s * (1 - s)) = x * (s * (1 + y * (1 - s))) := by
  obtain ⟨x, rfl⟩ := hx; obtain ⟨y, rfl⟩ := hy; obtain ⟨s, rfl⟩ := hs
  rw [← EReal.coe_one]
  simp only [← EReal.coe_mul, ← EReal.coe_add, ← EReal.coe_sub]
  congr 1
  ring

theorem normed_real (o : Mat) (ho : ∀ r c, Rl (o r c)) (r c : Fin 128) : Rl (normed o r c) := by
  have hn : (128 : ℝ) ≠ 0 := by norm_num
  have hm : ∀ r, Rl (mean o r) := fun r => by unfold mean; rw [ofBits_128]; exact Rl.div (Rl.sum fun x => ho r x) hn
  have hc : ∀ r c, Rl (center o r c) := fun r c => (ho r c).sub (hm r)
  choose e he using hc
  have hv : Ideal.div (∑ c, center o r c * center o r c) c128 + guard = (((∑ x, e r x * e r x) / 128 + Fin.eps : ℝ) : EReal) := by
    rw [ofBits_128, guard_eq, EReal.coe_add, ← Fin.div_coe _ _ hn, ← Fin.coe_sum]
    simp only [he, EReal.coe_mul]
  have hw : 0 < (∑ x, e r x * e r x) / 128 + Fin.eps := by
    have : 0 ≤ ∑ x, e r x * e r x := Finset.sum_nonneg fun x _ => mul_self_nonneg _
    have := Fin.eps_pos
    positivity
  unfold normed rstd
  rw [hv, Fin.rsqrt_coe _ hw, he]
  exact (Rl.coe _).mul (Rl.coe _)

/-! ### A head of real numbers -/

namespace Head

/-- Everything that the head reads is a real number. -/
structure Real (H : Head) : Prop where
  decay : ∀ r c, Rl (H.decay r c)
  kd : ∀ r, Rl (H.kd r)
  qd : ∀ r, Rl (H.qd r)
  gc : Rl H.gc
  q : ∀ r c, Rl (H.q r c)
  k : ∀ r c, Rl (H.k r c)
  v : ∀ r c, Rl (H.v r c)
  gate : ∀ r c, Rl (H.gate r c)
  co : ∀ r c, Rl (H.co r c)
  si : ∀ r c, Rl (H.si r c)
  g : ∀ c, Rl (H.g c)

variable {H : Head} (hH : H.Real)
include hH

theorem Real.qr (b : Fin 2) (n : ℕ) (r c : Fin 128) : Rl (H.qr b n r c) :=
  ((hH.q _ _).mul (hH.co _ _)).add ((hH.q _ _).mul (hH.si _ _))
theorem Real.kr (b : Fin 2) (n : ℕ) (r c : Fin 128) : Rl (H.kr b n r c) :=
  (((hH.k _ _).mul (hH.co _ _)).add ((hH.k _ _).mul (hH.si _ _))).mul scale_real
theorem Real.state (b : Fin 2) (n : ℕ) : ∀ r c, Rl (H.state b n r c) := by
  induction n with
  | zero => exact fun _ _ => Rl.zero
  | succ n ih => exact fun r c => ((ih r c).mul hH.gc).add (Rl.sum fun x => ((hH.kr b n x r).mul (hH.kd x)).mul (hH.v _ _))
theorem Real.out (b : Fin 2) (n : ℕ) (r c : Fin 128) : Rl (H.out b n r c) :=
  (Rl.sum fun x => ((Rl.sum fun y => (hH.qr b n r y).mul (hH.kr b n x y)).mul (hH.decay r x)).mul (hH.v _ _)).add
    (Rl.sum fun x => ((hH.qr b n r x).mul (hH.qd r)).mul (hH.state b n x c))

variable {dm : Rows} (hd : ∀ r c, Rl (dm r c))
include hd
theorem Real.dnormed (b : Fin 2) (n : ℕ) (r c : Fin 128) : Rl (dnormed (chunk dm b n) (chunk H.gate b n) H.g r c) :=
  ((hd _ _).mul (hH.g _)).mul ((hH.gate _ _).mul (hH.gate _ _).logistic)

end Head

end Cert.Ret

end
-- ==== Proof.RetRefNorm.lean ====
/-
  The retention reference's backward values up to the gradient of the output: the norm, the gate and their gradients, read at a
  head, a chunk and a row.
-/
module

public import proofs.«01_k».proof.Proof.RetRefFwd
public import proofs.«01_k».proof.Proof.RetReal

@[expose] public section

set_option maxRecDepth 16384

noncomputable section

namespace Cert.Reference6Ideal.Ret

open Cert.Reference6Ideal Cert.Reference6Ideal.Gen Idealize.ShloMosaic Idealize.ShloMosaic.TcCoe Idealize.SL.Sem
open Cert.Ret
open Cert.Kernel6Ideal.Ret (theHead LG col24 col8 col4 cols24 cols8 cols4 decayOf kdOf qdOf gcOf ang coT siT Hd heads4)
open scoped BigOperators

abbrev T3 := FVec Ideal S2x2048x512 .f32
abbrev OX := FVec Ideal S4096x512 .f32

/-! ### Columns -/

theorem col4_div (h : Fin 4) (c : Fin 128) (p) : (⟨(col4 h.val c).val / 128, p⟩ : Fin 4) = h :=
  Fin.ext (by have := h.isLt; have := c.isLt; show (128 * h.val + c.val) % 512 / 128 = h.val; omega)
theorem col4_mod (h : Fin 4) (c : Fin 128) (p) : (⟨(col4 h.val c).val % 128, p⟩ : Fin 128) = c :=
  Fin.ext (by have := h.isLt; have := c.isLt; show (128 * h.val + c.val) % 512 % 128 = c.val; omega)
theorem col4_mk (h : Fin 4) (c : Fin 128) (p) : (⟨h.val * 128 + c.val, p⟩ : Fin 512) = col4 h.val c :=
  Fin.ext (by have := h.isLt; have := c.isLt; show h.val * 128 + c.val = (128 * h.val + c.val) % 512; omega)
theorem col8_mk (h : Fin 4) (c : Fin 128) (p) : (⟨(col4 h.val c).val, p⟩ : Fin 1024) = col8 h.val c :=
  Fin.ext (by have := h.isLt; have := c.isLt; show (128 * h.val + c.val) % 512 = (128 * h.val + c.val) % 1024; omega)
theorem col24_mk (h : Fin 4) (c : Fin 128) (p) : (⟨1536 + (col4 h.val c).val, p⟩ : Fin 3072) = col24 (12 + h.val) c :=
  Fin.ext (by have := h.isLt; have := c.isLt; show 1536 + (128 * h.val + c.val) % 512 = (128 * (12 + h.val) + c.val) % 3072; omega)
theorem row_div (b : Fin 2) (n : Fin 16) (r : Fin 128) (p) : (⟨(row b n.val r).val / 2048, p⟩ : Fin 2) = b :=
  Fin.ext (by have := b.isLt; have := n.isLt; have := r.isLt; show (2048 * b.val + 128 * n.val + r.val) % 4096 / 2048 = b.val; omega)
theorem row_mod (b : Fin 2) (n : Fin 16) (r : Fin 128) (p) : (⟨(row b n.val r).val % 2048, p⟩ : Fin 2048) = pos n.val r :=
  Fin.ext (by have := b.isLt; have := n.isLt; have := r.isLt
              show (2048 * b.val + 128 * n.val + r.val) % 4096 % 2048 = (128 * n.val + r.val) % 2048; omega)

/-- An array of rows and columns is known from its heads, sequences and chunks. -/
theorem heads_ext (Y : OX) (f : ℕ → Fin 2 → ℕ → Mat)
    (e : ∀ (h : Fin 4) (b : Fin 2) (n : Fin 16) (r c : Fin 128), Y (ix2 (row b n.val r) (col4 h.val c)) = f h.val b n.val r c) :
    Y = heads4 (fun h => unchunk (f h)) := by
  funext j
  idx_vars j
  have h0 := j0.isLt
  have h1 := j1.isLt
  have e0 : row ⟨j0.val / 2048, by omega⟩ (j0.val % 2048 / 128) ⟨j0.val % 128, by omega⟩ = j0 :=
    Fin.ext (by show (2048 * (j0.val / 2048) + 128 * (j0.val % 2048 / 128) + j0.val % 128) % 4096 = j0.val; omega)
  have e1 : col4 (j1.val / 128) ⟨j1.val % 128, by omega⟩ = j1 :=
    Fin.ext (by show (128 * (j1.val / 128) + j1.val % 128) % 512 = j1.val; omega)
  have := e ⟨j1.val / 128, by omega⟩ ⟨j0.val / 2048, by omega⟩ ⟨j0.val % 2048 / 128, by omega⟩ ⟨j0.val % 128, by omega⟩ ⟨j1.val % 128, by omega⟩
  simp only [] at this
  rw [e0, e1] at this
  exact this

/-! ### The norm -/

def cenR (o : T4) := cen4 o (mu4 o)
def rstR (o : T4) := rst4 (var4 (cenR o))
def slopeR (o : T4) := slope4 (var4 (cenR o)) (rstR o)
def nrmR (o : T4) : T3 := nrm3 (cenR o) (rstR o)

/-- A chunk of one head. -/
def mat4 (o : T4) (b : Fin 2) (n : Fin 16) (h : Fin 4) : Mat := fun r c => o (ix4 b (pos n.val r) h c)

variable (o : T4) (X : PX) (G : GX) (D : MX) (b : Fin 2) (n : Fin 16) (h : Fin 4) (r c : Fin 128)

theorem cenR_of : cenR o (ix4 b (pos n.val r) h c) = center (mat4 o b n h) r c := by
  unfold cenR
  rw [cen4_at, mu4_at]; rfl
theorem var_of : var4 (cenR o) (ix4 b (pos n.val r) h 0) =
    Ideal.div (∑ c, center (mat4 o b n h) r c * center (mat4 o b n h) r c) c128 + guard := by
  rw [var4_at]
  simp only [cenR_of]
theorem rstR_of : rstR o (ix4 b (pos n.val r) h 0) = rstd (mat4 o b n h) r := by
  unfold rstR
  rw [rst4_at, var_of]; rfl
theorem slopeR_of : slopeR o (ix4 b (pos n.val r) h 0) = slope (mat4 o b n h) r := by
  unfold slopeR
  rw [slope4_at, rstR_of, var_of]; rfl
theorem nrmR_of : nrmR o (ix3 b (pos n.val r) (col4 h.val c)) = normed (mat4 o b n h) r c := by
  unfold nrmR
  rw [nrm3_at, col4_div, col4_mod, cenR_of, rstR_of]; rfl

/-! ### The gate -/

def gnR (o : T4) (G : GX) : T3 := gn3 (nrmR o) (gain3 G)
def gateR (X : PX) : T3 := gate3 (gIn X)
def sigR (X : PX) : T3 := sig3 (gateR X)
def dsigR (X : PX) : T3 := dsig3 (sigR X)
def siluR (X : PX) : T3 := silu3 (gateR X) (sigR X)
def merR (o : T4) (X : PX) (G : GX) : OX := mer2 (gnR o G) (siluR X)
def dmR (D : MX) : T3 := dm3 D
def dgtR (o : T4) (X : PX) (G : GX) (D : MX) : OX := dgt2 (gnR o G) (dmR D) (gateR X) (sigR X) (dsigR X)
def dnR (X : PX) (D : MX) : T3 := dn3 (dmR D) (siluR X)

theorem gain_of : gain3 G (ix3 0 0 (col4 h.val c)) = (Hd X G h.val).g c := by rw [gain3_at]; rfl
theorem gnR_of : gnR o G (ix3 b (pos n.val r) (col4 h.val c)) = normed (mat4 o b n h) r c * (Hd X G h.val).g c := by
  unfold gnR
  rw [gn3_at, nrmR_of, gain_of X]
theorem gateR_of : gateR X (ix3 b (pos n.val r) (col4 h.val c)) = chunk (Hd X G h.val).gate b n.val r c := by
  unfold gateR
  rw [gate3_at, row_mk, gIn_at, col24_mk]; rfl
theorem sigR_of : sigR X (ix3 b (pos n.val r) (col4 h.val c)) = Ideal.logistic (chunk (Hd X G h.val).gate b n.val r c) := by
  unfold sigR
  rw [sig3_at, gateR_of X G]; rfl
theorem siluR_of : siluR X (ix3 b (pos n.val r) (col4 h.val c)) = silu (chunk (Hd X G h.val).gate b n.val r c) := by
  unfold siluR
  rw [silu3_at, gateR_of X G, sigR_of X G]; rfl
theorem dmR_of : dmR D (ix3 b (pos n.val r) (col4 h.val c)) = chunk (cols8 D h.val) b n.val r c := by
  unfold dmR
  rw [dm3_at, row_mk, col8_mk]; rfl
theorem merR_of : merR o X G (ix2 (row b n.val r) (col4 h.val c)) =
    merged (mat4 o b n h) (chunk (Hd X G h.val).gate b n.val) (Hd X G h.val).g r c := by
  unfold merR
  rw [mer2_at, row_div, row_mod, gnR_of o X G, siluR_of X G]; rfl
theorem dnR_of : dnR X D (ix3 b (pos n.val r) (col4 h.val c)) =
    chunk (cols8 D h.val) b n.val r c * silu (chunk (Hd X G h.val).gate b n.val r c) := by
  unfold dnR
  rw [dn3_at, dmR_of, siluR_of X G]
theorem dgtR_of (hH : (Hd X G h.val).Real) (hd : ∀ i c, Rl (cols8 D h.val i c)) (ho : ∀ r c, Rl (mat4 o b n h r c)) :
    dgtR o X G D (ix2 (row b n.val r) (col4 h.val c)) =
      dgate (mat4 o b n h) (chunk (cols8 D h.val) b n.val) (chunk (Hd X G h.val).gate b n.val) (Hd X G h.val).g r c := by
  unfold dgtR dsigR
  rw [dgt2_at, row_div, row_mod, dsig3_at, gnR_of o X G, dmR_of, gateR_of X G, sigR_of X G]
  unfold dgate
  have e : normed (mat4 o b n h) r c * (Hd X G h.val).g c * chunk (cols8 D h.val) b n.val r c
      = chunk (cols8 D h.val) b n.val r c * normed (mat4 o b n h) r c * (Hd X G h.val).g c := by
    rw [mul_comm, mul_assoc]
  rw [e]
  exact gate_eq (((hd _ _).mul (normed_real _ ho _ _)).mul (hH.g _)) (hH.gate _ _) (hH.gate _ _).logistic

/-! ### The gradient of the output -/

def dR (X : PX) (G : GX) (D : MX) : T4 := d4 (dnR X D) (gain3 G)
def pullR (o : T4) (X : PX) (G : GX) (D : MX) := pull4 (dR X G D) (rstR o)
def coefR (o : T4) (X : PX) (G : GX) (D : MX) := coef4 (cenR o) (dR X G D) (slopeR o)
def backR (o : T4) (X : PX) (G : GX) (D : MX) := back4 (coefR o X G D) (twice4 (cenR o))
def doR (o : T4) (X : PX) (G : GX) (D : MX) : T4 := dout4 (pullR o X G D) (backR o X G D)

abbrev dnM (X : PX) (G : GX) (D : MX) (b : Fin 2) (n : Fin 16) (h : Fin 4) : Mat :=
  dnormed (chunk (cols8 D h.val) b n.val) (chunk (Hd X G h.val).gate b n.val) (Hd X G h.val).g

theorem dR_of : dR X G D (ix4 b (pos n.val r) h c) = dnM X G D b n h r c := by
  unfold dR
  rw [d4_at, col4_mk, dnR_of X G, gain_of X]
  unfold dnM dnormed
  rw [mul_right_comm]
theorem pullR_of : pullR o X G D (ix4 b (pos n.val r) h c) = dnM X G D b n h r c * rstd (mat4 o b n h) r := by
  unfold pullR
  rw [pull4_at, dR_of, rstR_of]
theorem coefR_of : coefR o X G D (ix4 b (pos n.val r) h 0) =
    (∑ x, center (mat4 o b n h) r x * dnM X G D b n h r x) * slope (mat4 o b n h) r := by
  unfold coefR
  rw [coef4_at, slopeR_of]
  simp only [cenR_of, dR_of]
theorem backR_of : backR o X G D (ix4 b (pos n.val r) h c) = back (mat4 o b n h) (dnM X G D b n h) r c := by
  unfold backR
  rw [back4_at, twice4_at, cenR_of]
  unfold back
  congr 1
  refine Finset.sum_congr rfl fun x _ => ?_
  rw [show x = 0 from Subsingleton.elim _ _, coefR_of]
theorem doR_of (hH : (Hd X G h.val).Real) (hd : ∀ i c, Rl (cols8 D h.val i c)) (ho : ∀ r c, Rl (mat4 o b n h r c)) :
    doR o X G D (ix4 b (pos n.val r) h c) = dout (mat4 o b n h) (dnM X G D b n h) r c := by
  rw [← doutRef_eq _ _ ho (fun r c => hH.dnormed hd b n.val r c)]
  unfold doR
  rw [dout4_at]
  simp only [pullR_of, backR_of]
  rfl

end Cert.Reference6Ideal.Ret

end
-- ==== Proof.RetRefBwd.lean ====
/-
  The retention reference's gradients, read at a head, a chunk and a row, from the two stacks that its loops leave.
-/
module

public import proofs.«01_k».proof.Proof.RetRefNorm
public import proofs.«01_k».proof.Proof.Sums

@[expose] public section

set_option maxRecDepth 16384

noncomputable section

namespace Cert.Reference6Ideal.Ret

open Cert.Reference6Ideal Cert.Reference6Ideal.Gen Idealize.ShloMosaic Idealize.ShloMosaic.TcCoe Idealize.SL.Sem
open Cert.Ret
open Cert.Kernel6Ideal.Ret (theHead LG col24 col8 col4 cols24 cols8 cols4 decayOf kdOf qdOf gcOf ang coT siT Hd heads4)
open scoped BigOperators

variable (o : T4) (X : PX) (G : GX) (D : MX) (b : Fin 2) (n : Fin 16) (h : Fin 4) (r c : Fin 128)

/-! ### The chunks of the output's gradient -/

abbrev P5 := FVec Ideal S2x16x4x128x128 .f32

def do5 (o : T4) (X : PX) (G : GX) (D : MX) : T5 := chunk5 (doR o X G D)

/-- What the reals give: the output's gradient is the head's. -/
def DoIs (O : T5) (f : Fin 4 → Fin 2 → ℕ → Mat) : Prop :=
  ∀ (b : Fin 2) (n : Fin 16) (r : Fin 128) (h : Fin 4) (c : Fin 128), O (ix5 b n r h c) = f h b n.val r c

theorem do5_of (f : Fin 4 → Fin 2 → ℕ → Mat) (hH : ∀ h : Fin 4, (Hd X G h.val).Real) (hd : ∀ (h : Fin 4) i c, Rl (cols8 D h.val i c))
    (ho : ∀ b n h, mat4 o b n h = (Hd X G h.val).out b n.val)
    (hf : ∀ (h : Fin 4) b (n : Fin 16), f h b n.val = dout ((Hd X G h.val).out b n.val) (dnM X G D b n h)) : DoIs (do5 o X G D) f := by
  intro b n r h c
  unfold do5
  rw [chunk5_at, pos_mk, doR_of o X G D b n h r c (hH h) (hd h) (fun r c => by rw [ho]; exact (hH h).out b n.val r c), ho, hf]

/-! ### The gradients from the two stacks -/

section
variable (O : T5) (S Z : K5')

def t5 (O : T5) : P5 := tr5 O
def dq1v (O : T5) (S : K5') : T5 := dq1 (t5 O) S
def ds5v (X : PX) (O : T5) : S5 := ds5 (t5 O) (v5 X) (decT lgT)
def dqv (X : PX) (O : T5) (S : K5') : OX :=
  flat2 (ropeT4 (sum4 (dec5 (dq1v O S) (qdT lgT posT)) (dq2 (ds5v X O) (k5 X))) cosT sinT)
def dkv (X : PX) (O : T5) (Z : K5') : OX :=
  flat2 (ropeT4 (dkx4 (dec5 (dk1 Z (v5 X)) (kdT lgT)) (dk2 (ds5v X O) (q5 X))) cosT sinT)
def dvv (X : PX) (O : T5) (Z : K5') : OX := flat2 (sum4 (dv1 Z (kd5 X)) (dv2 (t5 O) (s5 X)))

variable (f : Fin 4 → Fin 2 → ℕ → Mat) (hO : DoIs O f)
variable (R RZ : Fin 4 → Fin 2 → ℕ → Mat)
variable (hS : ∀ (n : Fin 16) (b : Fin 2) (h : Fin 4) (r c : Fin 128), S (ix5 n b h r c) = R h b n.val r c)
variable (hZ : ∀ (n : Fin 16) (b : Fin 2) (h : Fin 4) (r c : Fin 128), Z (ix5 n b h r c) = RZ h b n.val r c)
include hO

theorem t5_of : t5 O (ix5 b n h c r) = f h b n.val r c := by unfold t5; rw [tr5_at, hO]
theorem ds5v_of : ds5v X O (ix5 b h n r c) =
    dscore (Hd X G h.val).decay (f h b n.val) (chunk (Hd X G h.val).v b n.val) r c := by
  unfold ds5v
  rw [ds5_at, decT_of]
  simp only [t5_of (hO := hO), v5_of X G]
  rfl
/-- One chunk of the recurrence of the state's cotangent. -/
theorem dkv5_of : dkv5 (t5 O) (qd5 X) (ix5 n b h r c) =
    ∑ x, (Hd X G h.val).qr b n.val x r * (Hd X G h.val).qd x * f h b n.val x c := by
  rw [dkv5_at]
  simp only [t5_of (hO := hO), qd5_of X G]
  exact Finset.sum_congr rfl fun x _ => mul_comm _ _

include hS in
theorem dqv_of : dqv X O S (ix2 (row b n.val r) (col4 h.val c)) =
    ropeT (dquery (Hd X G h.val).decay (f h b n.val) (chunk (Hd X G h.val).v b n.val) ((Hd X G h.val).kr b n.val) (R h b n.val)
      (Hd X G h.val).qd) ((Hd X G h.val).con n.val) ((Hd X G h.val).sin n.val) r c := by
  have e : ∀ c, sum4 (dec5 (dq1v O S) (qdT lgT posT)) (dq2 (ds5v X O) (k5 X)) (ix4 b (pos n.val r) h c) =
      dquery (Hd X G h.val).decay (f h b n.val) (chunk (Hd X G h.val).v b n.val) ((Hd X G h.val).kr b n.val) (R h b n.val)
      (Hd X G h.val).qd r c := fun c => by
    unfold dq1v
    rw [sum4_at, pos_div, pos_mod, dec5_at, dq1_at, qdT_of, dq2_at, add_comm]
    simp only [t5_of (hO := hO), hS, ds5v_of X G b _ h _ _ O f hO, k5_of X G]
    rfl
  unfold dqv
  rw [flat2_at, row_div, row_mod, col4_div, col4_mod, ropeT4_at, e, e]
  rfl

include hZ in
theorem dkv_of : dkv X O Z (ix2 (row b n.val r) (col4 h.val c)) =
    ropeT (scaled (dkey (Hd X G h.val).decay (f h b n.val) (chunk (Hd X G h.val).v b n.val) ((Hd X G h.val).qr b n.val) (RZ h b n.val)
      (Hd X G h.val).kd)) ((Hd X G h.val).con n.val) ((Hd X G h.val).sin n.val) r c := by
  have e : ∀ c, dkx4 (dec5 (dk1 Z (v5 X)) (kdT lgT)) (dk2 (ds5v X O) (q5 X)) (ix4 b (pos n.val r) h c) =
      scaled (dkey (Hd X G h.val).decay (f h b n.val) (chunk (Hd X G h.val).v b n.val) ((Hd X G h.val).qr b n.val) (RZ h b n.val)
      (Hd X G h.val).kd) r c := fun c => by
    rw [dkx4_at, pos_div, pos_mod, dec5_at, dk1_at, kdT_of, dk2_at, add_comm]
    simp only [hZ, ds5v_of X G b _ h _ _ O f hO, q5_of X G, v5_of X G, mul_comm (RZ _ _ _ _ _)]
    rfl
  unfold dkv
  rw [flat2_at, row_div, row_mod, col4_div, col4_mod, ropeT4_at, e, e]
  rfl

include hZ in
theorem dvv_of : dvv X O Z (ix2 (row b n.val r) (col4 h.val c)) =
    dvalue (Hd X G h.val).decay ((Hd X G h.val).qr b n.val) ((Hd X G h.val).kr b n.val) (f h b n.val) (RZ h b n.val)
      (Hd X G h.val).kd r c := by
  unfold dvv
  rw [flat2_at, row_div, row_mod, col4_div, col4_mod, sum4_at, pos_div, pos_mod, dv1_at, dv2_at, add_comm]
  simp only [t5_of (hO := hO), hZ, kd5_of X G, s5_of X G, mul_comm (f _ _ _ _ _), mul_comm (RZ _ _ _ _ _)]
  rfl

end

/-! ### The gain's gradient: a sum over the sequences and their positions -/

theorem rank_two {a1 a2 a3 : ℕ} {t : Shape} (hr : (⟨3, ![a1, a2, a3]⟩ : Shape).ReducesTo [0, 1] t) : t.rank = 1 := hr.1
theorem lt_two {a1 a2 a3 : ℕ} {t : Shape} (hr : (⟨3, ![a1, a2, a3]⟩ : Shape).ReducesTo [0, 1] t) : 0 < t.rank := by
  rw [rank_two hr]; decide
/-- A sum over the first two of three axes. -/
theorem sum_two {a1 a2 a3 : ℕ} (t : Shape) (hr : (⟨3, ![a1, a2, a3]⟩ : Shape).ReducesTo [0, 1] t) (j : t.Idx) (k : Fin a3)
    (hk : (j ⟨0, lt_two hr⟩).val = k.val) (v : (⟨3, ![a1, a2, a3]⟩ : Shape).Idx → EReal) :
    ∑ i ∈ Finset.univ.filter (fun i => hr.drop i = j), v i = ∑ x : Fin a1, ∑ y : Fin a2, v (ix3 x y k) := by
  have h1 : t.rank = 1 := rank_two hr
  refine (Finset.sum_filter_eq_sum_of_fiber _ (fun p : Fin a1 × Fin a2 => ix3 p.1 p.2 k)
    (fun _ _ e => Prod.ext (congrFun e 0) (congrFun e 1)) (fun i => ?_) v).trans (by simp only [Fintype.sum_prod_type])
  constructor
  · intro e
    refine ⟨(i 0, i 1), ?_⟩
    funext a; apply Fin.ext
    match a with
    | ⟨0, _⟩ => rfl
    | ⟨1, _⟩ => rfl
    | ⟨2, _⟩ => exact hk.symm.trans (congrArg Fin.val (congrFun e ⟨0, lt_two hr⟩)).symm
  · rintro ⟨p, rfl⟩
    funext q
    apply Fin.ext
    match q with
    | ⟨0, _⟩ => exact hk.symm
    | ⟨_ + 1, hq⟩ => exact absurd hq (by omega)

theorem dgn2_at (x0 x1 : T3) (j : Fin 512) : dgn2 x0 x1 (ix2 0 j) = ∑ b : Fin 2, ∑ i : Fin 2048, x0 (ix3 b i j) * x1 (ix3 b i j) := by
  unfold dgn2
  pointwise []
  show (0 : EReal) + ∑ i ∈ Finset.univ.filter (fun i => reducesTo_S1x1x512_S512_d0_1.drop i = _), _ = _
  rw [zero_add, sum_two _ _ _ j rfl, Fin.sum_univ_one, Fin.sum_univ_one]
  pointwise []
  show (0 : EReal) + ∑ i ∈ Finset.univ.filter (fun i => reducesTo_S2x2048x512_S512_d0_1.drop i = _), _ = _
  rw [zero_add, sum_two _ _ _ j rfl]
  rfl

/-- The head's sum, from the last chunk to the first, is the sum over the chunks. -/
theorem dg_sum (H : Head) (dm o : Rows) (b : Fin 2) (c : Fin 128) : H.dg dm o b 16 c =
    ∑ n : Fin 16, ∑ x, chunk dm b n.val x c * normed (chunk o b n.val) x c * silu (chunk H.gate b n.val x c) := by
  have e : ∀ t, H.dg dm o b t c = ∑ s ∈ Finset.range t,
      (fun n => ∑ x, chunk dm b n x c * normed (chunk o b n) x c * silu (chunk H.gate b n x c)) (16 - 1 - s) := fun t => by
    induction t with
    | zero => rfl
    | succ t ih => rw [Finset.sum_range_succ, ← ih]; rfl
  rw [e 16, Finset.sum_range_reflect (fun n => ∑ x, chunk dm b n x c * normed (chunk o b n) x c * silu (chunk H.gate b n x c)) 16, Finset.sum_range]

/-- A sum over the positions, chunk by chunk. -/
theorem sum_pos (f : Fin 2048 → EReal) : ∑ i, f i = ∑ n : Fin 16, ∑ r : Fin 128, f (pos n.val r) := by
  rw [Fin.sum_univ_tiles 16 128 (by decide) f]
  refine Finset.sum_congr rfl fun n _ => Finset.sum_congr rfl fun r _ => ?_
  rw [pos_mk]

def dgR (o : T4) (X : PX) (D : MX) : GX := dgn2 (nrmR o) (dnR X D)

theorem dgR_of (O : Rows) (ho : ∀ (b : Fin 2) (n : Fin 16), mat4 o b n h = chunk O b n.val) : dgR o X D (ix2 0 (col4 h.val c)) =
    (Hd X G h.val).dg (cols8 D h.val) O 0 16 c + (Hd X G h.val).dg (cols8 D h.val) O 1 16 c := by
  unfold dgR
  rw [dgn2_at, Fin.sum_univ_two, dg_sum, dg_sum, sum_pos, sum_pos]
  have e : ∀ (b : Fin 2) (n : Fin 16) (r : Fin 128), nrmR o (ix3 b (pos n.val r) (col4 h.val c)) * dnR X D (ix3 b (pos n.val r) (col4 h.val c)) =
      chunk (cols8 D h.val) b n.val r c * normed (chunk O b n.val) r c * silu (chunk (Hd X G h.val).gate b n.val r c) := fun b n r => by
    rw [nrmR_of, dnR_of X G, ho, ← mul_assoc, mul_comm (normed _ _ _)]
  simp only [e]

end Cert.Reference6Ideal.Ret

end
-- ==== Proof.RetStage.lean ====
/-
  The retention reference's buffers, stage by stage, as the named values of its arguments and of the two stacks that its loops leave.
-/
module

public import proofs.«01_k».proof.Proof.RetCarry
public import proofs.«01_k».proof.Proof.RetEqs
public import proofs.«01_k».proof.Proof.RetMid
public import proofs.«01_k».proof.Proof.RetRefBwd

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (after afterL atTrip launchContents)

variable (m : (ℓ : Loc nD τ sig) → Buf (Elt Ideal) ℓ) (c : Dev nD)

/-- The arguments. -/
abbrev aD : MX := launchContents m c (Proc.devRef .tc main_arg0)
abbrev aX : PX := launchContents m c (Proc.devRef .tc main_arg1)
abbrev aG : GX := launchContents m c (Proc.devRef .tc main_arg2)

/-- The stacks of states and of their cotangents. -/
abbrev stS : K5' := U1 m 16 c (Proc.devRef .tc main_v119_4)
abbrev stZ : K5' := U3 m 16 c (Proc.devRef .tc main_v217_4)
/-- The output and its gradient. -/
abbrev ov : T4 := o4 (aX m c) (stS m c)
abbrev dov : T5 := do5 (ov m c) (aX m c) (aG m c) (aD m c)

/-! ### Before the first loop -/

theorem U0_arg0 : (U0 m c (Proc.devRef .tc main_arg0) : MX) = aD m c :=
  U0_of m c main_arg0 (by decide) (by decide) (by decide)
theorem U0_arg1 : (U0 m c (Proc.devRef .tc main_arg1) : PX) = aX m c :=
  U0_of m c main_arg1 (by decide) (by decide) (by decide)
theorem U0_arg2 : (U0 m c (Proc.devRef .tc main_arg2) : GX) = aG m c :=
  U0_of m c main_arg2 (by decide) (by decide) (by decide)
theorem U0_v4 : (U0 m c (Proc.devRef .tc main_v4) : FVec Ideal S2x2048x4x128 .f32) = qIn (aX m c) :=
  (pre_v4 _).trans (congrArg qIn (U0_arg1 m c))
theorem U0_v5 : (U0 m c (Proc.devRef .tc main_v5) : FVec Ideal S2x2048x4x128 .f32) = kIn (aX m c) :=
  (pre_v5 _).trans (congrArg kIn (U0_arg1 m c))
theorem U0_v6 : (U0 m c (Proc.devRef .tc main_v6) : FVec Ideal S2x2048x4x128 .f32) = vIn (aX m c) :=
  (pre_v6 _).trans (congrArg vIn (U0_arg1 m c))
theorem U0_v3 : (U0 m c (Proc.devRef .tc main_v3) : FVec Ideal S4096x512 .f32) = gIn (aX m c) :=
  (pre_v3 _).trans (congrArg gIn (U0_arg1 m c))
theorem U0_v20 : (U0 m c (Proc.devRef .tc main_v20) : FVec Ideal S1x2048x1x64 .f32) = cosT :=
  pre_v20 _
theorem U0_v22 : (U0 m c (Proc.devRef .tc main_v22) : FVec Ideal S1x2048x1x64 .f32) = sinT :=
  pre_v22 _
theorem U0_v49 : (U0 m c (Proc.devRef .tc main_v49) : FVec Ideal S1x2048x1x64 .f32) = cosT :=
  pre_v49 _
theorem U0_v51 : (U0 m c (Proc.devRef .tc main_v51) : FVec Ideal S1x2048x1x64 .f32) = sinT :=
  pre_v51 _
theorem U0_v35 : (U0 m c (Proc.devRef .tc main_v35) : FVec Ideal S2x2048x4x128 .f32) = rope4 (qIn (aX m c)) cosT sinT :=
  (pre_v35 _).trans (congr (congr (congrArg rope4 (U0_v4 m c)) (U0_v20 m c)) (U0_v22 m c))
theorem U0_v64 : (U0 m c (Proc.devRef .tc main_v64) : FVec Ideal S2x2048x4x128 .f32) = rope4 (kIn (aX m c)) cosT sinT :=
  (pre_v64 _).trans (congr (congr (congrArg rope4 (U0_v5 m c)) (U0_v49 m c)) (U0_v51 m c))
theorem U0_v66 : (U0 m c (Proc.devRef .tc main_v66) : FVec Ideal S2x2048x4x128 .f32) = scl4 (rope4 (kIn (aX m c)) cosT sinT) :=
  (pre_v66 _).trans (congrArg scl4 (U0_v64 m c))
theorem U0_v73 : (U0 m c (Proc.devRef .tc main_v73) : FVec Ideal S4 .f32) = lgT :=
  pre_v73 _
theorem U0_v74 : (U0 m c (Proc.devRef .tc main_v74) : FVec Ideal S128 .f32) = posT :=
  pre_v74 _
theorem U0_v95 : (U0 m c (Proc.devRef .tc main_v95) : FVec Ideal S1x4x1x128x128 .f32) = decT lgT :=
  (pre_v95 _).trans (congrArg decT (U0_v73 m c))
theorem U0_v91 : (U0 m c (Proc.devRef .tc main_v91) : FVec Ideal S2x16x128x4x128 .f32) = q5 (aX m c) :=
  (pre_v91 _).trans (congrArg chunk5 (U0_v35 m c))
theorem U0_v92 : (U0 m c (Proc.devRef .tc main_v92) : FVec Ideal S2x16x128x4x128 .f32) = k5 (aX m c) :=
  (pre_v92 _).trans (congrArg chunk5 (U0_v66 m c))
theorem U0_v93 : (U0 m c (Proc.devRef .tc main_v93) : FVec Ideal S2x16x128x4x128 .f32) = v5 (aX m c) :=
  (pre_v93 _).trans (congrArg chunk5 (U0_v6 m c))
theorem U0_v97 : (U0 m c (Proc.devRef .tc main_v97) : FVec Ideal S2x4x16x128x128 .f32) = s5 (aX m c) :=
  (pre_v97 _).trans (congr (congr (congrArg sco5 (U0_v91 m c)) (U0_v92 m c)) (U0_v95 m c))
theorem U0_v99 : (U0 m c (Proc.devRef .tc main_v99) : FVec Ideal S2x16x128x4x128 .f32) = i5 (aX m c) :=
  (pre_v99 _).trans (congr (congrArg intra5 (U0_v93 m c)) (U0_v97 m c))
theorem U0_v109 : (U0 m c (Proc.devRef .tc main_v109) : FVec Ideal S1x1x128x4x1 .f32) = kdT lgT :=
  (pre_v109 _).trans (congrArg kdT (U0_v73 m c))
theorem U0_v111 : (U0 m c (Proc.devRef .tc main_v111) : FVec Ideal S2x16x128x4x128 .f32) = kd5 (aX m c) :=
  (pre_v111 _).trans (congr (congrArg dec5 (U0_v92 m c)) (U0_v109 m c))
theorem U0_v119_0 : (U0 m c (Proc.devRef .tc main_v119_0) : FVec Ideal S16x2x4x128x128 .f32) = u5 (aX m c) :=
  (pre_v119_0 _).trans (congr (congrArg kv5 (U0_v111 m c)) (U0_v93 m c))
theorem U0_v116 : (U0 m c (Proc.devRef .tc main_v116) : FVec Ideal S1x4x1x1 .f32) = gcT lgT :=
  (pre_v116 _).trans (congrArg gcT (U0_v73 m c))
theorem U0_v119_1 : (U0 m c (Proc.devRef .tc main_v119_1) : FVec Ideal S1x4x1x1 .f32) = gcT lgT :=
  (pre_v119_1 _).trans (congrArg gcT (U0_v73 m c))
theorem U0_v119_3 : (U0 m c (Proc.devRef .tc main_v119_3) : FVec Ideal S2x4x128x128 .f32) = zero4 :=
  pre_v119_3 _

/-! ### Between the loops -/

theorem U2_arg0 : (U2 m c (Proc.devRef .tc main_arg0) : MX) = aD m c :=
  (U2_of m c main_arg0 (by decide) (by decide) (by decide) (by decide)).trans ((U1_of m c main_arg0 (by decide) (by decide) 16).trans (U0_arg0 m c))
theorem U2_arg1 : (U2 m c (Proc.devRef .tc main_arg1) : PX) = aX m c :=
  (U2_of m c main_arg1 (by decide) (by decide) (by decide) (by decide)).trans ((U1_of m c main_arg1 (by decide) (by decide) 16).trans (U0_arg1 m c))
theorem U2_arg2 : (U2 m c (Proc.devRef .tc main_arg2) : GX) = aG m c :=
  (U2_of m c main_arg2 (by decide) (by decide) (by decide) (by decide)).trans ((U1_of m c main_arg2 (by decide) (by decide) 16).trans (U0_arg2 m c))
theorem U2_v3 : (U2 m c (Proc.devRef .tc main_v3) : FVec Ideal S4096x512 .f32) = gIn (aX m c) :=
  (U2_of m c main_v3 (by decide) (by decide) (by decide) (by decide)).trans ((U1_of m c main_v3 (by decide) (by decide) 16).trans (U0_v3 m c))
theorem U2_v73 : (U2 m c (Proc.devRef .tc main_v73) : FVec Ideal S4 .f32) = lgT :=
  (U2_of m c main_v73 (by decide) (by decide) (by decide) (by decide)).trans ((U1_of m c main_v73 (by decide) (by decide) 16).trans (U0_v73 m c))
theorem U2_v74 : (U2 m c (Proc.devRef .tc main_v74) : FVec Ideal S128 .f32) = posT :=
  (U2_of m c main_v74 (by decide) (by decide) (by decide) (by decide)).trans ((U1_of m c main_v74 (by decide) (by decide) 16).trans (U0_v74 m c))
theorem U2_v91 : (U2 m c (Proc.devRef .tc main_v91) : FVec Ideal S2x16x128x4x128 .f32) = q5 (aX m c) :=
  (U2_of m c main_v91 (by decide) (by decide) (by decide) (by decide)).trans ((U1_of m c main_v91 (by decide) (by decide) 16).trans (U0_v91 m c))
theorem U2_v93 : (U2 m c (Proc.devRef .tc main_v93) : FVec Ideal S2x16x128x4x128 .f32) = v5 (aX m c) :=
  (U2_of m c main_v93 (by decide) (by decide) (by decide) (by decide)).trans ((U1_of m c main_v93 (by decide) (by decide) 16).trans (U0_v93 m c))
theorem U2_v99 : (U2 m c (Proc.devRef .tc main_v99) : FVec Ideal S2x16x128x4x128 .f32) = i5 (aX m c) :=
  (U2_of m c main_v99 (by decide) (by decide) (by decide) (by decide)).trans ((U1_of m c main_v99 (by decide) (by decide) 16).trans (U0_v99 m c))
theorem U2_v116 : (U2 m c (Proc.devRef .tc main_v116) : FVec Ideal S1x4x1x1 .f32) = gcT lgT :=
  (U2_of m c main_v116 (by decide) (by decide) (by decide) (by decide)).trans ((U1_of m c main_v116 (by decide) (by decide) 16).trans (U0_v116 m c))
theorem U2_v95 : (U2 m c (Proc.devRef .tc main_v95) : FVec Ideal S1x4x1x128x128 .f32) = decT lgT :=
  (U2_of m c main_v95 (by decide) (by decide) (by decide) (by decide)).trans ((U1_of m c main_v95 (by decide) (by decide) 16).trans (U0_v95 m c))
theorem U2_v92 : (U2 m c (Proc.devRef .tc main_v92) : FVec Ideal S2x16x128x4x128 .f32) = k5 (aX m c) :=
  (U2_of m c main_v92 (by decide) (by decide) (by decide) (by decide)).trans ((U1_of m c main_v92 (by decide) (by decide) 16).trans (U0_v92 m c))
theorem U2_v97 : (U2 m c (Proc.devRef .tc main_v97) : FVec Ideal S2x4x16x128x128 .f32) = s5 (aX m c) :=
  (U2_of m c main_v97 (by decide) (by decide) (by decide) (by decide)).trans ((U1_of m c main_v97 (by decide) (by decide) 16).trans (U0_v97 m c))
theorem U2_v111 : (U2 m c (Proc.devRef .tc main_v111) : FVec Ideal S2x16x128x4x128 .f32) = kd5 (aX m c) :=
  (U2_of m c main_v111 (by decide) (by decide) (by decide) (by decide)).trans ((U1_of m c main_v111 (by decide) (by decide) 16).trans (U0_v111 m c))
theorem U2_v20 : (U2 m c (Proc.devRef .tc main_v20) : FVec Ideal S1x2048x1x64 .f32) = cosT :=
  (U2_of m c main_v20 (by decide) (by decide) (by decide) (by decide)).trans ((U1_of m c main_v20 (by decide) (by decide) 16).trans (U0_v20 m c))
theorem U2_v22 : (U2 m c (Proc.devRef .tc main_v22) : FVec Ideal S1x2048x1x64 .f32) = sinT :=
  (U2_of m c main_v22 (by decide) (by decide) (by decide) (by decide)).trans ((U1_of m c main_v22 (by decide) (by decide) 16).trans (U0_v22 m c))
theorem U2_v49 : (U2 m c (Proc.devRef .tc main_v49) : FVec Ideal S1x2048x1x64 .f32) = cosT :=
  (U2_of m c main_v49 (by decide) (by decide) (by decide) (by decide)).trans ((U1_of m c main_v49 (by decide) (by decide) 16).trans (U0_v49 m c))
theorem U2_v51 : (U2 m c (Proc.devRef .tc main_v51) : FVec Ideal S1x2048x1x64 .f32) = sinT :=
  (U2_of m c main_v51 (by decide) (by decide) (by decide) (by decide)).trans ((U1_of m c main_v51 (by decide) (by decide) 16).trans (U0_v51 m c))
theorem U2_v119_4 : (U2 m c (Proc.devRef .tc main_v119_4) : K5') = stS m c :=
  U2_of m c main_v119_4 (by decide) (by decide) (by decide) (by decide)
theorem mid_v217_1 (V : Valuation τ sig (Elt Ideal)) : (afterL mid V (Proc.devRef .tc main_v217_1) : FVec Ideal S1x4x1x1 .f32) = (afterL mid V (Proc.devRef .tc main_v116) : FVec Ideal S1x4x1x1 .f32) := by
  simp only [StableHlo.afterL_cons, StableHlo.afterL_nil]
  after_reads_simp
  rfl
theorem U2_v129 : (U2 m c (Proc.devRef .tc main_v129) : FVec Ideal S1x1x128x4x1 .f32) = qdT lgT posT :=
  (mid_v129 _).trans (congr (congrArg qdT (U2_v73 m c)) (U2_v74 m c))
theorem U2_v131 : (U2 m c (Proc.devRef .tc main_v131) : FVec Ideal S2x16x128x4x128 .f32) = qd5 (aX m c) :=
  (mid_v131 _).trans (congr (congrArg dec5 (U2_v91 m c)) (U2_v129 m c))
theorem U2_v133 : (U2 m c (Proc.devRef .tc main_v133) : FVec Ideal S2x16x128x4x128 .f32) = cross5 (stS m c) (qd5 (aX m c)) :=
  (mid_v133 _).trans (congr (congrArg cross5 (U2_v119_4 m c)) (U2_v131 m c))
theorem U2_v135 : (U2 m c (Proc.devRef .tc main_v135) : FVec Ideal S2x2048x4x128 .f32) = ov m c :=
  (mid_v135 _).trans (congr (congrArg out4 (U2_v99 m c)) (U2_v133 m c))
theorem U2_v140 : (U2 m c (Proc.devRef .tc main_v140) : FVec Ideal S2x2048x4x1 .f32) = mu4 (ov m c) :=
  (mid_v140 _).trans (congrArg mu4 (U2_v135 m c))
theorem U2_v151 : (U2 m c (Proc.devRef .tc main_v151) : FVec Ideal S2x2048x4x128 .f32) = cenR (ov m c) :=
  (mid_v151 _).trans (congr (congrArg cen4 (U2_v135 m c)) (U2_v140 m c))
theorem U2_v153 : (U2 m c (Proc.devRef .tc main_v153) : FVec Ideal S2x2048x4x1 .f32) = var4 (cenR (ov m c)) :=
  (mid_v153 _).trans (congrArg var4 (U2_v151 m c))
theorem U2_v154 : (U2 m c (Proc.devRef .tc main_v154) : FVec Ideal S2x2048x4x1 .f32) = rstR (ov m c) :=
  (mid_v154 _).trans (congrArg rst4 (U2_v153 m c))
theorem U2_v157 : (U2 m c (Proc.devRef .tc main_v157) : FVec Ideal S2x2048x4x1 .f32) = slopeR (ov m c) :=
  (mid_v157 _).trans (congr (congrArg slope4 (U2_v153 m c)) (U2_v154 m c))
theorem U2_v145 : (U2 m c (Proc.devRef .tc main_v145) : FVec Ideal S2x2048x4x128 .f32) = twice4 (cenR (ov m c)) :=
  (mid_v145 _).trans (congrArg twice4 (U2_v151 m c))
theorem U2_v160 : (U2 m c (Proc.devRef .tc main_v160) : FVec Ideal S2x2048x512 .f32) = nrmR (ov m c) :=
  (mid_v160 _).trans (congr (congrArg nrm3 (U2_v151 m c)) (U2_v154 m c))
theorem U2_v161 : (U2 m c (Proc.devRef .tc main_v161) : FVec Ideal S1x1x512 .f32) = gain3 (aG m c) :=
  (mid_v161 _).trans (congrArg gain3 (U2_arg2 m c))
theorem U2_v163 : (U2 m c (Proc.devRef .tc main_v163) : FVec Ideal S2x2048x512 .f32) = gnR (ov m c) (aG m c) :=
  (mid_v163 _).trans (congr (congrArg gn3 (U2_v160 m c)) (U2_v161 m c))
theorem U2_v164 : (U2 m c (Proc.devRef .tc main_v164) : FVec Ideal S2x2048x512 .f32) = gateR (aX m c) :=
  (mid_v164 _).trans (congrArg gate3 (U2_v3 m c))
theorem U2_v165_2 : (U2 m c (Proc.devRef .tc main_v165_2) : FVec Ideal S2x2048x512 .f32) = sigR (aX m c) :=
  (mid_v165_2 _).trans (congrArg sig3 (U2_v164 m c))
theorem U2_v165_1 : (U2 m c (Proc.devRef .tc main_v165_1) : FVec Ideal S2x2048x512 .f32) = dsigR (aX m c) :=
  (mid_v165_1 _).trans (congrArg dsig3 (U2_v165_2 m c))
theorem U2_v165_0 : (U2 m c (Proc.devRef .tc main_v165_0) : FVec Ideal S2x2048x512 .f32) = siluR (aX m c) :=
  (mid_v165_0 _).trans (congr (congrArg silu3 (U2_v164 m c)) (U2_v165_2 m c))
theorem U2_v167 : (U2 m c (Proc.devRef .tc main_v167) : FVec Ideal S4096x512 .f32) = merR (ov m c) (aX m c) (aG m c) :=
  (mid_v167 _).trans (congr (congrArg mer2 (U2_v163 m c)) (U2_v165_0 m c))
theorem U2_v170 : (U2 m c (Proc.devRef .tc main_v170) : FVec Ideal S2x2048x512 .f32) = dmR (aD m c) :=
  (mid_v170 _).trans (congrArg dm3 (U2_arg0 m c))
theorem U2_v174 : (U2 m c (Proc.devRef .tc main_v174) : FVec Ideal S4096x512 .f32) = dgtR (ov m c) (aX m c) (aG m c) (aD m c) :=
  (mid_v174 _).trans (congr (congr (congr (congr (congrArg dgt2 (U2_v163 m c)) (U2_v170 m c)) (U2_v164 m c)) (U2_v165_2 m c)) (U2_v165_1 m c))
theorem U2_v172 : (U2 m c (Proc.devRef .tc main_v172) : FVec Ideal S2x2048x512 .f32) = dnR (aX m c) (aD m c) :=
  (mid_v172 _).trans (congr (congrArg dn3 (U2_v170 m c)) (U2_v165_0 m c))
theorem U2_v206 : (U2 m c (Proc.devRef .tc main_v206) : FVec Ideal S1x512 .f32) = dgR (ov m c) (aX m c) (aD m c) :=
  (mid_v206 _).trans (congr (congrArg dgn2 (U2_v160 m c)) (U2_v172 m c))
theorem U2_v181 : (U2 m c (Proc.devRef .tc main_v181) : FVec Ideal S2x2048x4x128 .f32) = dR (aX m c) (aG m c) (aD m c) :=
  (mid_v181 _).trans (congr (congrArg d4 (U2_v172 m c)) (U2_v161 m c))
theorem U2_v186 : (U2 m c (Proc.devRef .tc main_v186) : FVec Ideal S2x2048x4x128 .f32) = pullR (ov m c) (aX m c) (aG m c) (aD m c) :=
  (mid_v186 _).trans (congr (congrArg pull4 (U2_v181 m c)) (U2_v154 m c))
theorem U2_v187 : (U2 m c (Proc.devRef .tc main_v187) : FVec Ideal S2x2048x4x1 .f32) = coefR (ov m c) (aX m c) (aG m c) (aD m c) :=
  (mid_v187 _).trans (congr (congr (congrArg coef4 (U2_v151 m c)) (U2_v181 m c)) (U2_v157 m c))
theorem U2_v195 : (U2 m c (Proc.devRef .tc main_v195) : FVec Ideal S2x2048x4x128 .f32) = backR (ov m c) (aX m c) (aG m c) (aD m c) :=
  (mid_v195 _).trans (congr (congrArg back4 (U2_v187 m c)) (U2_v145 m c))
theorem U2_v205 : (U2 m c (Proc.devRef .tc main_v205) : FVec Ideal S2x2048x4x128 .f32) = doR (ov m c) (aX m c) (aG m c) (aD m c) :=
  (mid_v205 _).trans (congr (congrArg dout4 (U2_v186 m c)) (U2_v195 m c))
theorem U2_v207 : (U2 m c (Proc.devRef .tc main_v207) : FVec Ideal S2x16x128x4x128 .f32) = dov m c :=
  (mid_v207 _).trans (congrArg chunk5 (U2_v205 m c))
theorem U2_v208 : (U2 m c (Proc.devRef .tc main_v208) : FVec Ideal S2x16x4x128x128 .f32) = t5 (dov m c) :=
  (mid_v208 _).trans (congrArg tr5 (U2_v207 m c))
theorem U2_v210 : (U2 m c (Proc.devRef .tc main_v210) : FVec Ideal S2x16x128x4x128 .f32) = dq1v (dov m c) (stS m c) :=
  (mid_v210 _).trans (congr (congrArg dq1 (U2_v208 m c)) (U2_v119_4 m c))
theorem U2_v214 : (U2 m c (Proc.devRef .tc main_v214) : FVec Ideal S2x16x128x4x128 .f32) = dec5 (dq1v (dov m c) (stS m c)) (qdT lgT posT) :=
  (mid_v214 _).trans (congr (congrArg dec5 (U2_v210 m c)) (U2_v129 m c))
theorem U2_v217_0 : (U2 m c (Proc.devRef .tc main_v217_0) : FVec Ideal S16x2x4x128x128 .f32) = dkv5 (t5 (dov m c)) (qd5 (aX m c)) :=
  (mid_v217_0 _).trans (congr (congrArg dkv5 (U2_v208 m c)) (U2_v131 m c))
theorem U2_v217_3 : (U2 m c (Proc.devRef .tc main_v217_3) : FVec Ideal S2x4x128x128 .f32) = zero4 :=
  mid_v217_3 _
theorem U2_v217_1 : (U2 m c (Proc.devRef .tc main_v217_1) : FVec Ideal S1x4x1x1 .f32) = gcT lgT :=
  (mid_v217_1 _).trans (U2_v116 m c)

/-! ### After the second loop -/

theorem U4_arg0 : (U4 m c (Proc.devRef .tc main_arg0) : MX) = aD m c :=
  (U4_of m c main_arg0 (by decide) (by decide) (by decide)).trans ((U3_of m c main_arg0 (by decide) (by decide) 16).trans (U2_arg0 m c))
theorem U4_arg1 : (U4 m c (Proc.devRef .tc main_arg1) : PX) = aX m c :=
  (U4_of m c main_arg1 (by decide) (by decide) (by decide)).trans ((U3_of m c main_arg1 (by decide) (by decide) 16).trans (U2_arg1 m c))
theorem U4_arg2 : (U4 m c (Proc.devRef .tc main_arg2) : GX) = aG m c :=
  (U4_of m c main_arg2 (by decide) (by decide) (by decide)).trans ((U3_of m c main_arg2 (by decide) (by decide) 16).trans (U2_arg2 m c))
theorem U4_v111 : (U4 m c (Proc.devRef .tc main_v111) : FVec Ideal S2x16x128x4x128 .f32) = kd5 (aX m c) :=
  (U4_of m c main_v111 (by decide) (by decide) (by decide)).trans ((U3_of m c main_v111 (by decide) (by decide) 16).trans (U2_v111 m c))
theorem U4_v93 : (U4 m c (Proc.devRef .tc main_v93) : FVec Ideal S2x16x128x4x128 .f32) = v5 (aX m c) :=
  (U4_of m c main_v93 (by decide) (by decide) (by decide)).trans ((U3_of m c main_v93 (by decide) (by decide) 16).trans (U2_v93 m c))
theorem U4_v207 : (U4 m c (Proc.devRef .tc main_v207) : FVec Ideal S2x16x128x4x128 .f32) = dov m c :=
  (U4_of m c main_v207 (by decide) (by decide) (by decide)).trans ((U3_of m c main_v207 (by decide) (by decide) 16).trans (U2_v207 m c))
theorem U4_v97 : (U4 m c (Proc.devRef .tc main_v97) : FVec Ideal S2x4x16x128x128 .f32) = s5 (aX m c) :=
  (U4_of m c main_v97 (by decide) (by decide) (by decide)).trans ((U3_of m c main_v97 (by decide) (by decide) 16).trans (U2_v97 m c))
theorem U4_v95 : (U4 m c (Proc.devRef .tc main_v95) : FVec Ideal S1x4x1x128x128 .f32) = decT lgT :=
  (U4_of m c main_v95 (by decide) (by decide) (by decide)).trans ((U3_of m c main_v95 (by decide) (by decide) 16).trans (U2_v95 m c))
theorem U4_v91 : (U4 m c (Proc.devRef .tc main_v91) : FVec Ideal S2x16x128x4x128 .f32) = q5 (aX m c) :=
  (U4_of m c main_v91 (by decide) (by decide) (by decide)).trans ((U3_of m c main_v91 (by decide) (by decide) 16).trans (U2_v91 m c))
theorem U4_v92 : (U4 m c (Proc.devRef .tc main_v92) : FVec Ideal S2x16x128x4x128 .f32) = k5 (aX m c) :=
  (U4_of m c main_v92 (by decide) (by decide) (by decide)).trans ((U3_of m c main_v92 (by decide) (by decide) 16).trans (U2_v92 m c))
theorem U4_v214 : (U4 m c (Proc.devRef .tc main_v214) : FVec Ideal S2x16x128x4x128 .f32) = dec5 (dq1v (dov m c) (stS m c)) (qdT lgT posT) :=
  (U4_of m c main_v214 (by decide) (by decide) (by decide)).trans ((U3_of m c main_v214 (by decide) (by decide) 16).trans (U2_v214 m c))
theorem U4_v20 : (U4 m c (Proc.devRef .tc main_v20) : FVec Ideal S1x2048x1x64 .f32) = cosT :=
  (U4_of m c main_v20 (by decide) (by decide) (by decide)).trans ((U3_of m c main_v20 (by decide) (by decide) 16).trans (U2_v20 m c))
theorem U4_v22 : (U4 m c (Proc.devRef .tc main_v22) : FVec Ideal S1x2048x1x64 .f32) = sinT :=
  (U4_of m c main_v22 (by decide) (by decide) (by decide)).trans ((U3_of m c main_v22 (by decide) (by decide) 16).trans (U2_v22 m c))
theorem U4_v49 : (U4 m c (Proc.devRef .tc main_v49) : FVec Ideal S1x2048x1x64 .f32) = cosT :=
  (U4_of m c main_v49 (by decide) (by decide) (by decide)).trans ((U3_of m c main_v49 (by decide) (by decide) 16).trans (U2_v49 m c))
theorem U4_v51 : (U4 m c (Proc.devRef .tc main_v51) : FVec Ideal S1x2048x1x64 .f32) = sinT :=
  (U4_of m c main_v51 (by decide) (by decide) (by decide)).trans ((U3_of m c main_v51 (by decide) (by decide) 16).trans (U2_v51 m c))
theorem U4_v167 : (U4 m c (Proc.devRef .tc main_v167) : FVec Ideal S4096x512 .f32) = merR (ov m c) (aX m c) (aG m c) :=
  (U4_of m c main_v167 (by decide) (by decide) (by decide)).trans ((U3_of m c main_v167 (by decide) (by decide) 16).trans (U2_v167 m c))
theorem U4_v174 : (U4 m c (Proc.devRef .tc main_v174) : FVec Ideal S4096x512 .f32) = dgtR (ov m c) (aX m c) (aG m c) (aD m c) :=
  (U4_of m c main_v174 (by decide) (by decide) (by decide)).trans ((U3_of m c main_v174 (by decide) (by decide) 16).trans (U2_v174 m c))
theorem U4_v206 : (U4 m c (Proc.devRef .tc main_v206) : FVec Ideal S1x512 .f32) = dgR (ov m c) (aX m c) (aD m c) :=
  (U4_of m c main_v206 (by decide) (by decide) (by decide)).trans ((U3_of m c main_v206 (by decide) (by decide) 16).trans (U2_v206 m c))
theorem U4_v217_4 : (U4 m c (Proc.devRef .tc main_v217_4) : K5') = stZ m c :=
  U4_of m c main_v217_4 (by decide) (by decide) (by decide)
theorem U4_v109 : (U4 m c (Proc.devRef .tc main_v109) : FVec Ideal S1x1x128x4x1 .f32) = kdT lgT :=
  (U4_of m c main_v109 (by decide) (by decide) (by decide)).trans ((U3_of m c main_v109 (by decide) (by decide) 16).trans ((U2_of m c main_v109 (by decide) (by decide) (by decide) (by decide)).trans ((U1_of m c main_v109 (by decide) (by decide) 16).trans (U0_v109 m c))))
theorem U4_v219 : (U4 m c (Proc.devRef .tc main_v219) : FVec Ideal S2x16x128x4x128 .f32) = dv1 (stZ m c) (kd5 (aX m c)) :=
  (post_v219 _).trans (congr (congrArg dv1 (U4_v217_4 m c)) (U4_v111 m c))
theorem U4_v221 : (U4 m c (Proc.devRef .tc main_v221) : FVec Ideal S2x16x128x4x128 .f32) = dk1 (stZ m c) (v5 (aX m c)) :=
  (post_v221 _).trans (congr (congrArg dk1 (U4_v217_4 m c)) (U4_v93 m c))
theorem U4_v223 : (U4 m c (Proc.devRef .tc main_v223) : FVec Ideal S2x16x128x4x128 .f32) = dec5 (dk1 (stZ m c) (v5 (aX m c))) (kdT lgT) :=
  (post_v223 _).trans (congr (congrArg dec5 (U4_v221 m c)) (U4_v109 m c))
theorem U4_v224 : (U4 m c (Proc.devRef .tc main_v224) : FVec Ideal S2x16x4x128x128 .f32) = t5 (dov m c) :=
  (post_v224 _).trans (congrArg tr5 (U4_v207 m c))
theorem U4_v228 : (U4 m c (Proc.devRef .tc main_v228) : FVec Ideal S2x16x128x4x128 .f32) = dv2 (t5 (dov m c)) (s5 (aX m c)) :=
  (post_v228 _).trans (congr (congrArg dv2 (U4_v224 m c)) (U4_v97 m c))
theorem U4_v231 : (U4 m c (Proc.devRef .tc main_v231) : FVec Ideal S2x4x16x128x128 .f32) = ds5v (aX m c) (dov m c) :=
  (post_v231 _).trans (congr (congr (congrArg ds5 (U4_v224 m c)) (U4_v93 m c)) (U4_v95 m c))
theorem U4_v233 : (U4 m c (Proc.devRef .tc main_v233) : FVec Ideal S2x16x128x4x128 .f32) = dk2 (ds5v (aX m c) (dov m c)) (q5 (aX m c)) :=
  (post_v233 _).trans (congr (congrArg dk2 (U4_v231 m c)) (U4_v91 m c))
theorem U4_v236 : (U4 m c (Proc.devRef .tc main_v236) : FVec Ideal S2x16x128x4x128 .f32) = dq2 (ds5v (aX m c) (dov m c)) (k5 (aX m c)) :=
  (post_v236 _).trans (congr (congrArg dq2 (U4_v231 m c)) (U4_v92 m c))
theorem U4_v238 : (U4 m c (Proc.devRef .tc main_v238) : FVec Ideal S2x2048x4x128 .f32) = sum4 (dv1 (stZ m c) (kd5 (aX m c))) (dv2 (t5 (dov m c)) (s5 (aX m c))) :=
  (post_v238 _).trans (congr (congrArg sum4 (U4_v219 m c)) (U4_v228 m c))
theorem U4_v242 : (U4 m c (Proc.devRef .tc main_v242) : FVec Ideal S2x2048x4x128 .f32) = dkx4 (dec5 (dk1 (stZ m c) (v5 (aX m c))) (kdT lgT)) (dk2 (ds5v (aX m c) (dov m c)) (q5 (aX m c))) :=
  (post_v242 _).trans (congr (congrArg dkx4 (U4_v223 m c)) (U4_v233 m c))
theorem U4_v240 : (U4 m c (Proc.devRef .tc main_v240) : FVec Ideal S2x2048x4x128 .f32) = sum4 (dec5 (dq1v (dov m c) (stS m c)) (qdT lgT posT)) (dq2 (ds5v (aX m c) (dov m c)) (k5 (aX m c))) :=
  (post_v240 _).trans (congr (congrArg sum4 (U4_v214 m c)) (U4_v236 m c))
theorem U4_v258 : (U4 m c (Proc.devRef .tc main_v258) : FVec Ideal S2x2048x4x128 .f32) = ropeT4 (dkx4 (dec5 (dk1 (stZ m c) (v5 (aX m c))) (kdT lgT)) (dk2 (ds5v (aX m c) (dov m c)) (q5 (aX m c)))) cosT sinT :=
  (post_v258 _).trans (congr (congr (congrArg ropeT4 (U4_v242 m c)) (U4_v49 m c)) (U4_v51 m c))
theorem U4_v274 : (U4 m c (Proc.devRef .tc main_v274) : FVec Ideal S2x2048x4x128 .f32) = ropeT4 (sum4 (dec5 (dq1v (dov m c) (stS m c)) (qdT lgT posT)) (dq2 (ds5v (aX m c) (dov m c)) (k5 (aX m c)))) cosT sinT :=
  (post_v274 _).trans (congr (congr (congrArg ropeT4 (U4_v240 m c)) (U4_v20 m c)) (U4_v22 m c))
theorem U4_v275 : (U4 m c (Proc.devRef .tc main_v275) : FVec Ideal S4096x512 .f32) = dvv (aX m c) (dov m c) (stZ m c) :=
  (post_v275 _).trans (congrArg flat2 (U4_v238 m c))
theorem U4_v276 : (U4 m c (Proc.devRef .tc main_v276) : FVec Ideal S4096x512 .f32) = dkv (aX m c) (dov m c) (stZ m c) :=
  (post_v276 _).trans (congrArg flat2 (U4_v258 m c))
theorem U4_v277 : (U4 m c (Proc.devRef .tc main_v277) : FVec Ideal S4096x512 .f32) = dqv (aX m c) (dov m c) (stS m c) :=
  (post_v277 _).trans (congrArg flat2 (U4_v274 m c))

end Cert.Reference6Ideal.Ret

end
-- ==== Proof.RetLoops.lean ====
/-
  The retention reference's two loops: the stack of states that the first leaves and the stack of cotangents that the second leaves;
  then every result of the reference as what the heads compute.
-/
module

public import proofs.«01_k».proof.Proof.RetTrip
public import proofs.«01_k».proof.Proof.RetStage

@[expose] public section

set_option maxRecDepth 16384

noncomputable section

namespace Cert.Reference6Ideal.Ret

open Cert.Reference6Ideal Cert.Reference6Ideal.Gen Idealize.ShloMosaic Idealize.ShloMosaic.TcCoe Idealize.SL.Sem
open Idealize.ShloMosaic.StableHlo (after afterL atTrip after_unwritten launchContents)
open Cert.Ret
open Cert.Kernel6Ideal.Ret (theHead LG col24 col8 col4 cols24 cols8 cols4 gcOf Hd heads4)
open scoped BigOperators

variable (m : (ℓ : Loc nD τ sig) → Buf (Elt Ideal) ℓ) (c : Dev nD)

/-! ### The first loop -/

theorem gc_row (h : Fin 4) (b : Fin 2) (r x : Fin 128) (Y : FVec Ideal S1x4x1x1 .f32) (hY : Y = gcT lgT) :
    broadcastInDim S2x4x128x128 ![0, 1, 2, 3] bcast_S1x4x1x1_S2x4x128x128_0_1_2_3 Y (ix4 b h r x) = gcOf (LG h.val) := by
  subst hY
  pointwise []
  exact gcT_of h

theorem step0 (A B C : K4) (i) : addf (mulf A B) C i = A i * B i + C i := rfl
theorem step1 (A B C : K4) (i) : addf A (mulf B C) i = A i + B i * C i := rfl

/-- Before trip `k` the carried state is the state before chunk `k`, and the stack holds the states of the chunks before `k`. -/
theorem loop0 (k : ℕ) (hk : k ≤ 16) :
    (∀ (b : Fin 2) (h : Fin 4) (r x : Fin 128), (U1 m k c (Proc.devRef .tc main_v119_3) : K4) (ix4 b h r x) =
      (Hd (aX m c) (aG m c) h.val).state b k r x) ∧
    ∀ (n : Fin 16) (b : Fin 2) (h : Fin 4) (r x : Fin 128), n.val < k → (U1 m k c (Proc.devRef .tc main_v119_4) : K5) (ix5 n b h r x) =
      (Hd (aX m c) (aG m c) h.val).state b n.val r x := by
  induction k with
  | zero =>
    refine ⟨fun b h r x => ?_, fun n b h r x hn => absurd hn (Nat.not_lt_zero _)⟩
    exact (congrFun (U0_v119_3 m c) _).trans (zero4_at b h r x)
  | succ k ih =>
    have hk' : k < 16 := hk
    obtain ⟨i1, i2⟩ := ih (Nat.le_of_succ_le hk)
    have keep : ∀ r : Ref sig .tc, r ∉ cond0_W → after cond0 (U1 m k c) (Proc.devRef .tc r) = U1 m k c (Proc.devRef .tc r) :=
      fun r hr => after_unwritten cond0_W (cond0_writes (F := Ideal)) hr _
    have hc : after cond0 (U1 m k c) (Proc.devRef .tc main_v119_2) = fun _ => (BitVec.ofNat 32 k : BitVec 32) :=
      (keep main_v119_2 (by decide)).trans (counter0 (U0 m) (entry0 m) c k)
    have k3 := keep main_v119_3 (by decide)
    have k4 := keep main_v119_4 (by decide)
    have k0 := (keep main_v119_0 (by decide)).trans ((U1_of m c main_v119_0 (by decide) (by decide) k).trans (U0_v119_0 m c))
    have k1 := (keep main_v119_1 (by decide)).trans ((U1_of m c main_v119_1 (by decide) (by decide) k).trans (U0_v119_1 m c))
    constructor
    · intro b h r x
      refine (congrFun (body0_v3 (after cond0 (U1 m k c)) k hk' hc) (ix4 b h r x)).trans ?_
      rw [step0, slice_slot _ k hk', gc_row h b r x _ k1, k3, i1, k0]
      rw [u5_of (aX m c) (aG m c) b ⟨k, hk'⟩ h r x]
      rfl
    · intro n b h r x hn
      refine (congrFun (body0_v4 (after cond0 (U1 m k c)) k hk' hc) (ix5 n b h r x)).trans ?_
      rw [update_slot _ _ k hk']
      split
      · rename_i e
        rw [k3, i1, e]
      · rw [k4, i2 n b h r x (by omega)]

theorem stS_of (n : Fin 16) (b : Fin 2) (h : Fin 4) (r x : Fin 128) :
    stS m c (ix5 n b h r x) = (Hd (aX m c) (aG m c) h.val).state b n.val r x := (loop0 m c 16 le_rfl).2 n b h r x n.isLt

theorem ov_of (b : Fin 2) (n : Fin 16) (h : Fin 4) : mat4 (ov m c) b n h = (Hd (aX m c) (aG m c) h.val).out b n.val :=
  funext fun r => funext fun x => o4_of (aX m c) (aG m c) b n h r x (stS m c) (stS_of m c)

/-! ### The heads with the saved output and states in place -/

/-- The output's gradient, and the states' cotangents, of a head. -/
abbrev dOf (X : PX) (G : GX) (D : MX) (h : Fin 4) : Fin 2 → ℕ → Mat :=
  (Hd X G h.val).dO (cols8 D h.val) (unchunk (Hd X G h.val).out)
abbrev dRof (X : PX) (G : GX) (D : MX) (h : Fin 4) : Fin 2 → ℕ → Mat := fun b t =>
  (Hd X G h.val).dstate (cols8 D h.val) (unchunk (Hd X G h.val).out) b t

variable (hH : ∀ h : Fin 4, (Hd (aX m c) (aG m c) h.val).Real) (hd : ∀ (h : Fin 4) i x, Rl (cols8 (aD m c) h.val i x))
include hH hd

theorem dov_of : DoIs (dov m c) (dOf (aX m c) (aG m c) (aD m c)) :=
  do5_of (ov m c) (aX m c) (aG m c) (aD m c) _ hH hd (ov_of m c) (fun h b n => by
    show dout (chunk (unchunk _) b n.val) _ = _
    rw [chunk_unchunk _ b n.val n.isLt])

/-- Before trip `k` the carried cotangent is the one after `k` chunks from the end, and the stack holds those of the chunks done. -/
theorem loop1 (k : ℕ) (hk : k ≤ 16) :
    (∀ (b : Fin 2) (h : Fin 4) (r x : Fin 128), (U3 m k c (Proc.devRef .tc main_v217_3) : K4) (ix4 b h r x) =
      dRof (aX m c) (aG m c) (aD m c) h b k r x) ∧
    ∀ (n : Fin 16) (b : Fin 2) (h : Fin 4) (r x : Fin 128), 16 ≤ n.val + k → (U3 m k c (Proc.devRef .tc main_v217_4) : K5) (ix5 n b h r x) =
      dRof (aX m c) (aG m c) (aD m c) h b (15 - n.val) r x := by
  induction k with
  | zero =>
    refine ⟨fun b h r x => ?_, fun n b h r x hn => absurd hn (by have := n.isLt; omega)⟩
    exact (congrFun (U2_v217_3 m c) _).trans (zero4_at b h r x)
  | succ k ih =>
    have hk' : k < 16 := hk
    obtain ⟨i1, i2⟩ := ih (Nat.le_of_succ_le hk)
    have keep : ∀ r : Ref sig .tc, r ∉ cond1_W → after cond1 (U3 m k c) (Proc.devRef .tc r) = U3 m k c (Proc.devRef .tc r) :=
      fun r hr => after_unwritten cond1_W (cond1_writes (F := Ideal)) hr _
    have hc : after cond1 (U3 m k c) (Proc.devRef .tc main_v217_2) = fun _ => (BitVec.ofNat 32 k : BitVec 32) :=
      (keep main_v217_2 (by decide)).trans (counter1 (U2 m) (entry1 m) c k)
    have k3 := keep main_v217_3 (by decide)
    have k4 := keep main_v217_4 (by decide)
    have k0 := (keep main_v217_0 (by decide)).trans ((U3_of m c main_v217_0 (by decide) (by decide) k).trans (U2_v217_0 m c))
    have k1 := (keep main_v217_1 (by decide)).trans ((U3_of m c main_v217_1 (by decide) (by decide) k).trans (U2_v217_1 m c))
    constructor
    · intro b h r x
      refine (congrFun (body1_v3 (after cond1 (U3 m k c)) k hk' hc) (ix4 b h r x)).trans ?_
      rw [step1, slice_slot _ (15 - k) (by omega), gc_row h b r x _ k1, k3, i1, k0]
      rw [dkv5_of (aX m c) (aG m c) b ⟨15 - k, by omega⟩ h r x (dov m c) _ (dov_of m c hH hd), add_comm]
      rfl
    · intro n b h r x hn
      have hn' := n.isLt
      refine (congrFun (body1_v4 (after cond1 (U3 m k c)) k hk' hc) (ix5 n b h r x)).trans ?_
      rw [update_slot _ _ (15 - k) (by omega)]
      split
      · rename_i e
        rw [k3, i1, e, show 15 - (15 - k) = k by omega]
      · rw [k4, i2 n b h r x (by omega)]

theorem stZ_of (n : Fin 16) (b : Fin 2) (h : Fin 4) (r x : Fin 128) :
    stZ m c (ix5 n b h r x) = dRof (aX m c) (aG m c) (aD m c) h b (15 - n.val) r x :=
  (loop1 m c hH hd 16 le_rfl).2 n b h r x (Nat.le_add_left _ _)

/-! ### The results -/

omit hH hd in
theorem res_m : (U4 m c (Proc.devRef .tc main_v167) : OX) = heads4 (fun h => unchunk (Hd (aX m c) (aG m c) h).mer) :=
  (U4_v167 m c).trans (heads_ext _ _ fun h b n r x => by rw [merR_of, ov_of]; rfl)

/-- The saved output of a head, and its states. -/
abbrev oOf (X : PX) (G : GX) (h : ℕ) : Rows := unchunk (Hd X G h).out

theorem res_dq : (U4 m c (Proc.devRef .tc main_v277) : OX) = heads4 (fun h => unchunk ((Hd (aX m c) (aG m c) h).dq (cols8 (aD m c) h)
    (oOf (aX m c) (aG m c) h) (Hd (aX m c) (aG m c) h).state)) :=
  (U4_v277 m c).trans (heads_ext _ _ fun h b n r x => dqv_of (aX m c) (aG m c) b n h r x (dov m c) (stS m c) _ (dov_of m c hH hd)
    (fun h => (Hd (aX m c) (aG m c) h.val).state) (stS_of m c))
theorem res_dk : (U4 m c (Proc.devRef .tc main_v276) : OX) = heads4 (fun h => unchunk ((Hd (aX m c) (aG m c) h).dk (cols8 (aD m c) h)
    (oOf (aX m c) (aG m c) h))) :=
  (U4_v276 m c).trans (heads_ext _ _ fun h b n r x => dkv_of (aX m c) (aG m c) b n h r x (dov m c) (stZ m c) _ (dov_of m c hH hd)
    (fun h b n => dRof (aX m c) (aG m c) (aD m c) h b (15 - n)) (stZ_of m c hH hd))
theorem res_dv : (U4 m c (Proc.devRef .tc main_v275) : OX) = heads4 (fun h => unchunk ((Hd (aX m c) (aG m c) h).dv (cols8 (aD m c) h)
    (oOf (aX m c) (aG m c) h))) :=
  (U4_v275 m c).trans (heads_ext _ _ fun h b n r x => dvv_of (aX m c) (aG m c) b n h r x (dov m c) (stZ m c) _ (dov_of m c hH hd)
    (fun h b n => dRof (aX m c) (aG m c) (aD m c) h b (15 - n)) (stZ_of m c hH hd))
theorem res_dt : (U4 m c (Proc.devRef .tc main_v174) : OX) = heads4 (fun h => unchunk ((Hd (aX m c) (aG m c) h).dgt (cols8 (aD m c) h)
    (oOf (aX m c) (aG m c) h))) :=
  (U4_v174 m c).trans (heads_ext _ _ fun h b n r x => by
    rw [dgtR_of (ov m c) (aX m c) (aG m c) (aD m c) b n h r x (hH h) (hd h) (fun r x => by rw [ov_of]; exact (hH h).out b n.val r x), ov_of]
    show _ = dgate (chunk (unchunk _) b n.val) _ _ _ r x
    rw [chunk_unchunk _ b n.val n.isLt])
omit hH hd in
theorem res_dg (j : Fin 512) : (U4 m c (Proc.devRef .tc main_v206) : GX) (ix2 0 j) =
    (Hd (aX m c) (aG m c) (j.val / 128)).dg (cols8 (aD m c) (j.val / 128)) (oOf (aX m c) (aG m c) (j.val / 128)) 0 16 ⟨j.val % 128, Nat.mod_lt _ (by decide)⟩
    + (Hd (aX m c) (aG m c) (j.val / 128)).dg (cols8 (aD m c) (j.val / 128)) (oOf (aX m c) (aG m c) (j.val / 128)) 1 16 ⟨j.val % 128, Nat.mod_lt _ (by decide)⟩ := by
  have hj := j.isLt
  have e : j = col4 (j.val / 128) ⟨j.val % 128, Nat.mod_lt _ (by decide)⟩ := Fin.ext (by show j.val = (128 * (j.val / 128) + j.val % 128) % 512; omega)
  refine (congrFun (U4_v206 m c) _).trans ?_
  have := dgR_of (ov m c) (aX m c) (aG m c) (aD m c) ⟨j.val / 128, by omega⟩ ⟨j.val % 128, Nat.mod_lt _ (by decide)⟩
    (oOf (aX m c) (aG m c) (j.val / 128)) (fun b n => by rw [ov_of, chunk_unchunk _ b n.val n.isLt])
  rw [← this, ← e]

end Cert.Reference6Ideal.Ret

end
-- ==== Proof.RetClaim.lean ====
/-
  Chunkwise retention's forward and backward calls are the reference's: the gated output and the gradients of the projections and of
  the gain agree for finite cotangents, projections and gains.
-/
module

public import proofs.«01_k».proof.Proof.RetLoops
public import proofs.«01_k».proof.Proof.Gen.Pre_finite6
public import Idealize.ShloMosaic.Lib.ReduceAll

@[expose] public section

set_option maxRecDepth 16384

noncomputable section

namespace Cert.Kernel6Ideal.Ret

open Cert.Kernel6Ideal Cert.Kernel6Ideal.Gen Idealize.ShloMosaic Idealize.ShloMosaic.TcCoe Idealize.SL.Sem
open Idealize.SL.BI
open scoped BigOperators
open Cert.Ret
open Cert.Reference6Ideal.Ret (heads_ext aD aX aG)

/-! ## The run, with every buffer at its last contents -/

section Run

open Idealize.ShloMosaic.Tactic Idealize.SL Idealize.SL.RA
open scoped Idealize.SL.BI
open Idealize.SL.BI.BIBase Idealize.SL.BI.Laws Idealize.SL.ProofMode Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at the contents folded through the two calls. -/
theorem run_mem : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Run

/-! ## The contents at the end -/

section Ends

variable (m : (ℓ : Loc nD τ sig) → Buf (Elt Ideal) ℓ) (ρ : Dev nD → PrngReg) (c : Dev nD)

abbrev kD : M4 := m ((c : Thread nD τ).loc main_arg0)
abbrev kX : P4 := m ((c : Thread nD τ).loc main_arg1)
abbrev kG : G4 := m ((c : Thread nD τ).loc main_arg2)

/-- What the heads compute, from the arguments. -/
abbrev hk (h : ℕ) : Head := Hd (kX m c) (kG m c) h
abbrev ok (h : ℕ) : Rows := unchunk (hk m c h).out
abbrev dk (h : ℕ) : Rows := cols8 (kD m c) h
def gk : G4 := fun j =>
  (hk m c ((j 1).val / 128)).dg (dk m c ((j 1).val / 128)) (ok m c ((j 1).val / 128)) 0 16 ⟨(j 1).val % 128, Nat.mod_lt _ (by decide)⟩
    + (hk m c ((j 1).val / 128)).dg (dk m c ((j 1).val / 128)) (ok m c ((j 1).val / 128)) 1 16 ⟨(j 1).val % 128, Nat.mod_lt _ (by decide)⟩

theorem V1_x : (V1 m ρ c main_arg1 : P4) = kX m c := W1_args m ρ c main_arg1 (by decide)
theorem V1_g : (V1 m ρ c main_arg2 : G4) = kG m c := W1_args m ρ c main_arg2 (by decide)
theorem hd1 (h : ℕ) : hd (V1 m ρ) c h = hk m c h := by
  show theHead (V1 m ρ c main_arg1) (V1 m ρ c main_v14) (V1 m ρ c main_v16) (V1 m ρ c main_arg2) h = _
  rw [V1_x, V1_g, V1_co, V1_si]

theorem V2_co : (V2 m ρ c main_v14 : T) = coT := (W2_of m ρ c main_v14 (by decide)).trans (V1_co m ρ c)
theorem V2_si : (V2 m ρ c main_v16 : T) = siT := (W2_of m ρ c main_v16 (by decide)).trans (V1_si m ρ c)
theorem V2_d : (V2 m ρ c main_arg0 : M4) = kD m c := W2_args m ρ c main_arg0 (by decide)
theorem V2_x : (V2 m ρ c main_arg1 : P4) = kX m c := W2_args m ρ c main_arg1 (by decide)
theorem V2_g : (V2 m ρ c main_arg2 : G4) = kG m c := W2_args m ρ c main_arg2 (by decide)
theorem V2_o : (V2 m ρ c main_v17_0 : O4) = heads4 (ok m c) :=
  (W2_arr m ρ c 7).trans ((final_o (V1 m ρ) c).trans (congrArg heads4 (funext fun h => by rw [hd1])))
theorem V2_r : (V2 m ρ c main_v17_1 : R4) = fun j => (hk m c (j 1).val).state (j 0) (j 2).val (j 3) (j 4) :=
  (W2_arr m ρ c 8).trans ((final_r (V1 m ρ) c).trans (funext fun j => by unfold states; rw [hd1]))
theorem V2_m : (V2 m ρ c main_v17_2 : O4) = heads4 (fun h => unchunk (hk m c h).mer) :=
  (W2_arr m ρ c 9).trans ((final_m (V1 m ρ) c).trans (congrArg heads4 (funext fun h => by rw [hd1])))

theorem hd2 (h : ℕ) : hd (V2 m ρ) c h = hk m c h := by
  show theHead (V2 m ρ c main_arg1) (V2 m ρ c main_v14) (V2 m ρ c main_v16) (V2 m ρ c main_arg2) h = _
  rw [V2_x, V2_g, V2_co, V2_si]
theorem dm2 (h : ℕ) : dm (V2 m ρ) c h = dk m c h := by show cols8 (V2 m ρ c main_arg0) h = _; rw [V2_d]
theorem so2 (h : ℕ) (hh : h < 4) : so (V2 m ρ) c h = ok m c h := by
  show cols4 (V2 m ρ c main_v17_0) h = _
  rw [V2_o, cols4_heads4 _ _ hh]
theorem sr2 (h : ℕ) (hh : h < 4) (b : Fin 2) (n : ℕ) (hn : n < 16) : sr (V2 m ρ) c h b n = (hk m c h).state b n := by
  funext r k
  show (V2 m ρ c main_v17_1 : R4) (ix5 b ⟨h % 4, _⟩ ⟨n % 16, _⟩ r k) = _
  rw [V2_r]
  show (hk m c (h % 4)).state b (n % 16) r k = _
  rw [Nat.mod_eq_of_lt hh, Nat.mod_eq_of_lt hn]

/-- Two arrays of heads that agree on the four heads and the 16 chunks. -/
theorem heads4_congr (f g : ℕ → Fin 2 → ℕ → Mat) (e : ∀ h < 4, ∀ b, ∀ n < 16, f h b n = g h b n) :
    heads4 (fun h => unchunk (f h)) = heads4 (fun h => unchunk (g h)) :=
  heads_ext _ _ fun h b n r x => by
    refine (congrFun (congrFun (cols4_heads4 (fun h => unchunk (f h)) h.val h.isLt) (row b n.val r)) x).trans ?_
    rw [unchunk_row _ b n.val n.isLt, e _ h.isLt _ _ n.isLt]

theorem E_m : W3 m ρ c (Proc.devRef .tc main_v17_2) = heads4 (fun h => unchunk (hk m c h).mer) :=
  (W3_of m ρ c main_v17_2 (by decide)).trans (V2_m m ρ c)
theorem E_dq : W3 m ρ c (Proc.devRef .tc main_v18_0) =
    heads4 (fun h => unchunk ((hk m c h).dq (dk m c h) (ok m c h) (hk m c h).state)) :=
  (W3_arr m ρ c 10).trans ((final_dq (V2 m ρ) c).trans (heads4_congr _ _ fun h hh b n hn => by
    unfold Head.dq
    rw [hd2, dm2, so2 _ _ _ _ hh, sr2 _ _ _ _ hh _ _ hn]))
theorem E_dk : W3 m ρ c (Proc.devRef .tc main_v18_1) = heads4 (fun h => unchunk ((hk m c h).dk (dk m c h) (ok m c h))) :=
  (W3_arr m ρ c 11).trans ((final_dk (V2 m ρ) c).trans (heads4_congr _ _ fun h hh b n hn => by
    rw [hd2, dm2, so2 _ _ _ _ hh]))
theorem E_dv : W3 m ρ c (Proc.devRef .tc main_v18_2) = heads4 (fun h => unchunk ((hk m c h).dv (dk m c h) (ok m c h))) :=
  (W3_arr m ρ c 12).trans ((final_dv (V2 m ρ) c).trans (heads4_congr _ _ fun h hh b n hn => by
    rw [hd2, dm2, so2 _ _ _ _ hh]))
theorem E_dt : W3 m ρ c (Proc.devRef .tc main_v18_3) = heads4 (fun h => unchunk ((hk m c h).dgt (dk m c h) (ok m c h))) :=
  (W3_arr m ρ c 13).trans ((final_dt (V2 m ρ) c).trans (heads4_congr _ _ fun h hh b n hn => by
    rw [hd2, dm2, so2 _ _ _ _ hh]))
theorem E_dg : W3 m ρ c (Proc.devRef .tc main_v18_4) = gk m c :=
  (W3_arr m ρ c 14).trans ((final_dg (V2 m ρ) c).trans (funext fun j => by
    have hj : (j 1).val < 512 := (j 1).isLt
    unfold gains gk
    rw [hd2, dm2, so2 _ _ _ _ (by omega)]))

end Ends

/-! ## Real numbers -/

theorem sitofp_real (b : BitVec 32) : Rl (FloatOps.sitofp (F := Ideal) .f32 b) := ⟨_, rfl⟩
theorem ofBits_127 : Rl (Ideal.ofBits .f32 1123942400#32) := ⟨127, by
  simp [Ideal.ofBits, Ideal.ieee]; rw [← EReal.coe_mul, EReal.coe_eq_coe_iff]; norm_num⟩
theorem ofBits_10000 : Rl (Ideal.ofBits .f32 1176256512#32) := ⟨10000, by
  simp [Ideal.ofBits, Ideal.ieee]; rw [← EReal.coe_mul, EReal.coe_eq_coe_iff]; norm_num⟩
theorem ofBits_64 : Ideal.ofBits .f32 1115684864#32 = ((64 : ℝ) : EReal) := by
  simp [Ideal.ofBits, Ideal.ieee]; rw [← EReal.coe_mul, EReal.coe_eq_coe_iff]; norm_num
theorem LG_real (h : ℕ) : Rl (LG h) := by
  match h with
  | 0 => exact ⟨_, rfl⟩
  | 1 => exact ⟨_, rfl⟩
  | 2 => exact ⟨_, rfl⟩
  | _ + 3 => exact ⟨_, rfl⟩
theorem ang_real (i l : ℕ) : Rl (ang i l) := by
  unfold ang
  rw [ofBits_64]
  exact (sitofp_real _).mul (Rl.pow ofBits_10000 ((sitofp_real _).neg.div (by norm_num)))

theorem Hd_real (X : P4) (G : G4) (h : ℕ) (hh : h < 4) (hX : ∀ i (k : Fin 3072), k.val < 2048 → Rl (X (ix2 i k))) (hG : ∀ i, Rl (G i)) :
    (Hd X G h).Real where
  decay := fun r c => by
    show Rl (Scalar.select _ _ _)
    unfold Scalar.select
    split
    · exact ((LG_real h).mul ((sitofp_real _).max Rl.zero)).exp
    · exact Rl.zero
  kd := fun r => ((LG_real h).mul (ofBits_127.sub (sitofp_real _))).exp
  qd := fun r => ((LG_real h).mul ((sitofp_real _).add Rl.one)).exp
  gc := ((LG_real h).mul ⟨_, ofBits_128⟩).exp
  q := fun r c => hX _ _ (by have := c.isLt; show (128 * h + c.val) % 3072 < 2048; omega)
  k := fun r c => hX _ _ (by have := c.isLt; show (128 * (4 + h) + c.val) % 3072 < 2048; omega)
  v := fun r c => hX _ _ (by have := c.isLt; show (128 * (8 + h) + c.val) % 3072 < 2048; omega)
  gate := fun r c => hX _ _ (by have := c.isLt; show (128 * (12 + h) + c.val) % 3072 < 2048; omega)
  co := fun r c => by
    show Rl (if _ then _ else _)
    split
    · exact (ang_real _ _).cos
    · exact (ang_real _ _).cos
  si := fun r c => by
    show Rl (if _ then _ else _)
    split
    · exact (ang_real _ _).sin.neg
    · exact (ang_real _ _).sin
  g := fun c => hG _

/-- The printed precondition: the cotangent's first 512 columns, the projections' first 2048 and the gains are real. -/
theorem pre_real {D : M4} {X : P4} {G : G4}
    (h : Cert.Pre_finite6.fn (F := Ideal) D X G = fun _ => 1#1) :
    (∀ i (k : Fin 1024), k.val < 512 → Rl (D (ix2 i k))) ∧ (∀ i (k : Fin 3072), k.val < 2048 → Rl (X (ix2 i k))) ∧ (∀ i, Rl (G i)) := by
  have e := congrFun h ix0
  unfold Cert.Pre_finite6.fn at e
  dsimp only at e
  obtain ⟨e12, e3⟩ := IntOp.andi_eq_one.1 e
  obtain ⟨e1, e2⟩ := IntOp.andi_eq_one.1 e12
  refine ⟨fun i k hk => ?_, fun i k hk => ?_, fun i => Fin.exists_real_of_cmp _ (Host.reduce_andi_all _ _ _ _ _ e3 i)⟩
  · obtain ⟨y, hy⟩ := Fin.exists_real_of_cmp _ (Host.reduce_andi_all _ _ _ _ _ e1 (ix2 i ⟨k.val, hk⟩))
    refine ⟨y, Eq.trans ?_ hy⟩
    pointwise []
  · obtain ⟨y, hy⟩ := Fin.exists_real_of_cmp _ (Host.reduce_andi_all _ _ _ _ _ e2 (ix2 i ⟨k.val, hk⟩))
    refine ⟨y, Eq.trans ?_ hy⟩
    pointwise []

/-! ## The claim -/

/-- The named constants have the values that the claim gives them. -/
theorem preserves : Cert.preserves_Kernel6_Kernel6Ideal :=
  ⟨IdealRules.named_const.statement Cert.Kernel6Ideal.κ "log_gamma_2" .f32 0xBC0080AC#32 ((Real.log (127 / 128) : ℝ) : EReal) rfl,
   IdealRules.named_const.statement Cert.Kernel6Ideal.κ "log_gamma_3" .f32 0xBB80402B#32 ((Real.log (255 / 256) : ℝ) : EReal) rfl,
   IdealRules.named_const.statement Cert.Kernel6Ideal.κ "log_gamma_1" .f32 0xBC8102B3#32 ((Real.log (63 / 64) : ℝ) : EReal) rfl,
   IdealRules.named_const.statement Cert.Kernel6Ideal.κ "log_gamma_0" .f32 0xBD020AEC#32 ((Real.log (31 / 32) : ℝ) : EReal) rfl⟩

/-- Both programs run, and their six results are equal. -/
theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m ρ m' ρ' hpre hag
  refine ⟨fun c => heads4 (fun h => unchunk (hk m c h).mer),
    fun c => heads4 (fun h => unchunk ((hk m c h).dq (dk m c h) (ok m c h) (hk m c h).state)),
    fun c => heads4 (fun h => unchunk ((hk m c h).dk (dk m c h) (ok m c h))),
    fun c => heads4 (fun h => unchunk ((hk m c h).dv (dk m c h) (ok m c h))),
    fun c => heads4 (fun h => unchunk ((hk m c h).dgt (dk m c h) (ok m c h))), fun c => gk m c, ?_, ?_⟩
  · refine (θ_run _ _ _).mono (fun r h c => ?_) (run_mem (F := Ideal) m ρ)
    exact ⟨(h c _ (mem_uc main_v17_2 (by decide))).trans (E_m m ρ c), (h c _ (mem_uc main_v18_0 (by decide))).trans (E_dq m ρ c),
      (h c _ (mem_uc main_v18_1 (by decide))).trans (E_dk m ρ c), (h c _ (mem_uc main_v18_2 (by decide))).trans (E_dv m ρ c),
      (h c _ (mem_uc main_v18_3 (by decide))).trans (E_dt m ρ c), (h c _ (mem_uc main_v18_4 (by decide))).trans (E_dg m ρ c),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c)⟩
  · refine (θ_run _ _ _).mono (fun r h c => ?_) (Cert.Reference6Ideal.Ret.run (F := Ideal) m' ρ')
    obtain ⟨a0, a1, a2⟩ := hag c
    obtain ⟨f0, f1, f2⟩ := pre_real (hpre c)
    have b0 : aD m' c = kD m c := a0
    have b1 : aX m' c = kX m c := a1
    have b2 : aG m' c = kG m c := a2
    have hH : ∀ h : Fin 4, (Hd (aX m' c) (aG m' c) h.val).Real := fun h => by
      rw [b1, b2]; exact Hd_real _ _ h.val h.isLt f1 f2
    have hd : ∀ (h : Fin 4) i x, Rl (cols8 (aD m' c) h.val i x) := fun h i x => by
      rw [b0]
      exact f0 _ _ (by have := h.isLt; have := x.isLt; show (128 * h.val + x.val) % 1024 < 512; omega)
    refine ⟨(h c Cert.Reference6Ideal.main_v167 rfl).trans ((Cert.Reference6Ideal.Ret.res_m m' c).trans ?_),
      (h c Cert.Reference6Ideal.main_v277 rfl).trans ((Cert.Reference6Ideal.Ret.res_dq m' c hH hd).trans ?_),
      (h c Cert.Reference6Ideal.main_v276 rfl).trans ((Cert.Reference6Ideal.Ret.res_dk m' c hH hd).trans ?_),
      (h c Cert.Reference6Ideal.main_v275 rfl).trans ((Cert.Reference6Ideal.Ret.res_dv m' c hH hd).trans ?_),
      (h c Cert.Reference6Ideal.main_v174 rfl).trans ((Cert.Reference6Ideal.Ret.res_dt m' c hH hd).trans ?_),
      (h c Cert.Reference6Ideal.main_v206 rfl).trans (funext fun j => ?_),
      (h c Cert.Reference6Ideal.main_arg0 rfl).trans (Cert.Reference6Ideal.Ret.U4_arg0 m' c),
      (h c Cert.Reference6Ideal.main_arg1 rfl).trans (Cert.Reference6Ideal.Ret.U4_arg1 m' c),
      (h c Cert.Reference6Ideal.main_arg2 rfl).trans (Cert.Reference6Ideal.Ret.U4_arg2 m' c)⟩
    · rw [b1, b2]
    · rw [b0, b1, b2]
    · rw [b0, b1, b2]
    · rw [b0, b1, b2]
    · rw [b0, b1, b2]
    · idx_vars j
      have ej : j0 = 0 := Subsingleton.elim _ _
      subst ej
      refine (Cert.Reference6Ideal.Ret.res_dg m' c j1).trans ?_
      rw [b0, b1, b2]
      rfl

end Cert.Kernel6Ideal.Ret

end
-- ==== Proof.FfnMath.lean ====
/-
  The gradient of a gated feed-forward layer with respect to its normalised row, hidden unit by hidden unit, and the sum over
  units that lie in eight shards padded with zeros.
-/
module

public import proofs.«01_k».proof.Proof.RetReal

@[expose] public section

set_option maxRecDepth 16384

noncomputable section

namespace Cert.Ffn

open Cert.Ret (Rl)
open Idealize.ShloMosaic
open scoped BigOperators

variable {n : ℕ}

/-- What the gate `silu(a) · b` gives back to `a` and to `b`, of the gradient `du` of its value. -/
def da (du a b : EReal) : EReal := du * b * (Ideal.logistic a * (1 + a * (1 - Ideal.logistic a)))
def db (du a : EReal) : EReal := du * (a * Ideal.logistic a)

/-- One hidden unit's part of the gradient at `l`: `y` is the normalised row, `d` the gradient of the layer's row, `u` and `v` the
    unit's weights into the gate, `w` its weights out of it. -/
def part (y d u v w : Fin n → EReal) (l : Fin n) : EReal :=
  da (∑ k, d k * w k) (∑ k, y k * u k) (∑ k, y k * v k) * u l + db (∑ k, d k * w k) (∑ k, y k * u k) * v l

theorem part_real {y d u v w : Fin n → EReal} (hy : ∀ k, Rl (y k)) (hd : ∀ k, Rl (d k)) (hu : ∀ k, Rl (u k)) (hv : ∀ k, Rl (v k))
    (hw : ∀ k, Rl (w k)) (l : Fin n) : Rl (part y d u v w l) := by
  have hdu : Rl (∑ k, d k * w k) := Rl.sum fun k => (hd k).mul (hw k)
  have ha : Rl (∑ k, y k * u k) := Rl.sum fun k => (hy k).mul (hu k)
  have hb : Rl (∑ k, y k * v k) := Rl.sum fun k => (hy k).mul (hv k)
  exact (((hdu.mul hb).mul (ha.logistic.mul (Rl.one.add (ha.mul (Rl.one.sub ha.logistic))))).mul (hu l)).add
    ((hdu.mul (ha.mul ha.logistic)).mul (hv l))

/-- The derivative of the gate taken operation by operation gives the same. -/
theorem da_eq {du a b : EReal} (hdu : Rl du) (ha : Rl a) (hb : Rl b) :
    du * b * Ideal.logistic a + a * (du * b) * (Ideal.logistic a * (1 - Ideal.logistic a)) = da du a b :=
  Ret.gate_eq (hdu.mul hb) ha ha.logistic

/-- Where unit `c` lies: two shards of 384 rows, 352 of them used, make one of four blocks. -/
def blk (c : Fin 2816) : Fin 4 := ⟨c.val / 704, by have := c.isLt; omega⟩
def pos (c : Fin 2816) : Fin 768 := ⟨c.val / 352 % 2 * 384 + c.val % 352, by have := c.isLt; omega⟩

/-- A sum over the blocks that is zero on the padding is the sum over the units. -/
theorem sum_units (F : Fin 4 → Fin 768 → EReal) (g : Fin 2816 → EReal) (hin : ∀ c, F (blk c) (pos c) = g c)
    (h0 : ∀ j f, 352 ≤ f.val % 384 → F j f = 0) : ∑ j, ∑ f, F j f = ∑ c, g c := by
  rw [← Fintype.sum_prod_type' F]
  refine (Fintype.sum_of_injective (fun c => (blk c, pos c)) (fun c d h => ?_) g (fun p => F p.1 p.2) (fun p hp => ?_)
    fun c => (hin c).symm).symm
  · have h1 : c.val / 704 = d.val / 704 := congrArg (fun p => p.1.val) h
    have h2 : c.val / 352 % 2 * 384 + c.val % 352 = d.val / 352 % 2 * 384 + d.val % 352 := congrArg (fun p => p.2.val) h
    exact Fin.ext (by omega)
  · refine h0 _ _ (not_lt.1 fun h => hp ?_)
    have h1 := p.1.isLt
    have h2 := p.2.isLt
    refine ⟨⟨704 * p.1.val + 352 * (p.2.val / 384) + p.2.val % 384, by omega⟩, Prod.ext (Fin.ext ?_) (Fin.ext ?_)⟩
    · show (704 * p.1.val + 352 * (p.2.val / 384) + p.2.val % 384) / 704 = p.1.val
      omega
    · show (704 * p.1.val + 352 * (p.2.val / 384) + p.2.val % 384) / 352 % 2 * 384
        + (704 * p.1.val + 352 * (p.2.val / 384) + p.2.val % 384) % 352 = p.2.val
      omega

end Cert.Ffn

end
-- ==== Proof.FfnPay.lean ====
/-
  The arithmetic of the feed-forward layer's gradient kernel: what its body makes of a block of rows, the saved inputs of the gate
  and the four blocks of weights.
-/
module

public import proofs.«01_k».proof.Proof.FfnMath
public import proofs.«01_k».proof.Proof.RmsMath
public import proofs.«01_k».proof.Proof.Gen.Kernel5Ideal.Skeleton
public import Idealize.ShloMosaic.Lib.Tactic
public import Idealize.ShloMosaic.Lib.Pointwise

@[expose] public section

set_option maxRecDepth 16384

noncomputable section

namespace Cert.Kernel5Ideal.Ffn

open Cert.Kernel5Ideal Cert.Kernel5Ideal.Gen Idealize.ShloMosaic Idealize.ShloMosaic.TcCoe Idealize.SL.Sem
open scoped BigOperators

section AnyF

variable {F : FTy → Type} [FloatOps F]

/-- What a point reads of the saved inputs of the gate and of the weights: four blocks each. -/
structure Reads (F : FTy → Type) where
  a : Fin 4 → Vec F S1x256x768 .bf16
  b : Fin 4 → Vec F S1x256x768 .bf16
  w1 : Fin 4 → Vec F S1x768x1024 .bf16
  w3 : Fin 4 → Vec F S1x768x1024 .bf16
  w2 : Fin 4 → Vec F S1x768x1024 .bf16

variable (R : Reads F) (x0 x1 : Vec F S256x1024 .f32) (x2 : Vec F S1x1024 .f32)

/-- The gradient of the gate's value, block by block, and the gradient of the normalised rows after each block. -/
def du0 : FVec F S256x768 .f32 := k0_pay9 x0 (R.w2 0)
def du1 : FVec F S256x768 .f32 := k0_pay11 (k0_pay7 x0) (k0_pay10 (R.w2 1)) (constant S256x768 .f32 0x00000000#32)
def du2 : FVec F S256x768 .f32 := k0_pay12 (k0_pay7 x0) (R.w2 2)
def du3 : FVec F S256x768 .f32 := k0_pay13 (k0_pay7 x0) (R.w2 3)
def dh0 : FVec F S256x1024 .f32 :=
  k0_pay23 (k0_pay8 (F := F)) (k0_pay19 (du0 R x0) (R.a 0) (R.b 0)) (k0_pay20 (du0 R x0) (R.a 0)) (R.w1 0) (R.w3 0)
def dh1 : FVec F S256x1024 .f32 :=
  k0_pay33 (dh0 R x0) (k0_pay29 (du1 R x0) (R.a 1) (R.b 1)) (k0_pay30 (du1 R x0) (R.a 1)) (R.w1 1) (R.w3 1)
def dh2 : FVec F S256x1024 .f32 :=
  k0_pay46 (du2 R x0) (dh1 R x0) (k0_pay36 (R.a 2)) (k0_pay37 (R.a 2)) (k0_pay39 (du2 R x0) (R.b 2)) (k0_pay40 (R.a 2))
    (k0_pay41 (F := F)) (R.w1 2) (R.w3 2)
def dh3 : FVec F S256x1024 .f32 :=
  k0_pay56 (du3 R x0) (dh2 R x0) (k0_pay47 (R.a 3)) (k0_pay48 (R.b 3)) (k0_pay49 (R.a 3)) (k0_pay50 (R.a 3)) (R.w1 3) (R.w3 3)
/-- The block of `dx`, and `dg` onto what stands there. -/
def pdx : FVec F S256x1024 .f32 :=
  k0_pay1 x0 (k0_pay57 x2 (k0_pay4 x1) (k0_pay5 x1) (du3 R x0) (dh2 R x0) (k0_pay47 (R.a 3)) (k0_pay48 (R.b 3)) (k0_pay49 (R.a 3))
    (k0_pay50 (R.a 3)) (R.w1 3) (R.w3 3))
def pdg (acc : Vec F S1x1024 .f32) : FVec F S1x1024 .f32 :=
  k0_pay3 (k0_pay58 (k0_pay5 x1) (du3 R x0) (dh2 R x0) (k0_pay47 (R.a 3)) (k0_pay48 (R.b 3)) (k0_pay49 (R.a 3)) (k0_pay50 (R.a 3))
    (R.w1 3) (R.w3 3)) acc

end AnyF

variable (R : Reads Ideal) (x0 x1 : FVec Ideal S256x1024 .f32) (x2 : FVec Ideal S1x1024 .f32)

/-- One half, as the programs have it. -/
abbrev half : EReal := Ideal.ofBits .f32 0x3F000000#32

/-- The gradient of a hidden unit's value. -/
def du (j : Fin 4) (r : Fin 256) (f : Fin 768) : EReal := ∑ k : Fin 1024, half * x0 (ix2 r k) * R.w2 j (ix3 0 f k)

theorem du0_at (r : Fin 256) (f : Fin 768) : du0 R x0 (ix2 r f) = du R x0 0 r f := by
  unfold du0 du; pointwise [k0_pay9, k0_pay7]
theorem du1_at (r : Fin 256) (f : Fin 768) : du1 R x0 (ix2 r f) = du R x0 1 r f := by
  unfold du1 du; pointwise [k0_pay11, k0_pay10, k0_pay7]
theorem du2_at (r : Fin 256) (f : Fin 768) : du2 R x0 (ix2 r f) = du R x0 2 r f := by
  unfold du2 du; pointwise [k0_pay12, k0_pay7]
theorem du3_at (r : Fin 256) (f : Fin 768) : du3 R x0 (ix2 r f) = du R x0 3 r f := by
  unfold du3 du; pointwise [k0_pay13, k0_pay7]

/-- Block `j`'s part of the gradient of the normalised rows: through `w1`, through `w3`. -/
def through1 (j : Fin 4) (r : Fin 256) (l : Fin 1024) : EReal := ∑ f : Fin 768,
  Cert.Ffn.da (du R x0 j r f) (R.a j (ix3 0 r f)) (R.b j (ix3 0 r f)) * R.w1 j (ix3 0 f l)
def through3 (j : Fin 4) (r : Fin 256) (l : Fin 1024) : EReal := ∑ f : Fin 768,
  Cert.Ffn.db (du R x0 j r f) (R.a j (ix3 0 r f)) * R.w3 j (ix3 0 f l)

theorem dh0_at (r : Fin 256) (l : Fin 1024) : dh0 R x0 (ix2 r l) = 0 + through1 R x0 0 r l + through3 R x0 0 r l := by
  simp only [through1, through3, ← du0_at]
  unfold dh0 Cert.Ffn.da Cert.Ffn.db
  pointwise [k0_pay23, k0_pay8, k0_pay19, k0_pay20, k0_pay14, k0_pay15, k0_pay16, k0_pay17]
theorem dh1_at (r : Fin 256) (l : Fin 1024) : dh1 R x0 (ix2 r l) = dh0 R x0 (ix2 r l) + through1 R x0 1 r l + through3 R x0 1 r l := by
  simp only [through1, through3, ← du1_at]
  unfold dh1 Cert.Ffn.da Cert.Ffn.db
  pointwise [k0_pay33, k0_pay29, k0_pay30, k0_pay24, k0_pay25, k0_pay26, k0_pay27]
theorem dh2_at (r : Fin 256) (l : Fin 1024) : dh2 R x0 (ix2 r l) = dh1 R x0 (ix2 r l) + through1 R x0 2 r l + through3 R x0 2 r l := by
  simp only [through1, through3, ← du2_at]
  unfold dh2 Cert.Ffn.da Cert.Ffn.db
  pointwise [k0_pay46, k0_pay42, k0_pay43, k0_pay34, k0_pay35, k0_pay36, k0_pay37, k0_pay39, k0_pay40, k0_pay41]
theorem dh3_at (r : Fin 256) (l : Fin 1024) : dh3 R x0 (ix2 r l) = dh2 R x0 (ix2 r l) + through1 R x0 3 r l + through3 R x0 3 r l := by
  simp only [through1, through3, ← du3_at]
  unfold dh3 Cert.Ffn.da Cert.Ffn.db
  pointwise [k0_pay56, k0_pay52, k0_pay53, k0_pay47, k0_pay48, k0_pay49, k0_pay50]

/-- The gradient of the normalised rows: the sum over the blocks. -/
theorem dh_at (r : Fin 256) (l : Fin 1024) : dh3 R x0 (ix2 r l) = ∑ j, (through1 R x0 j r l + through3 R x0 j r l) := by
  rw [dh3_at, dh2_at, dh1_at, dh0_at, Fin.sum_univ_four, zero_add]
  simp only [add_assoc]

theorem pdx_at (r : Fin 256) (l : Fin 1024) : pdx R x0 x1 x2 (ix2 r l) = x0 (ix2 r l)
    + Rms.dxK (fun k => dh3 R x0 (ix2 r k)) (fun k => x1 (ix2 r k)) (fun k => x2 (ix2 0 k)) l := by
  have e : pdx R x0 x1 x2 (ix2 r l) = x0 (ix2 r l) + k0_pay57 x2 (k0_pay4 x1) (k0_pay5 x1) (du3 R x0) (dh2 R x0) (k0_pay47 (R.a 3))
      (k0_pay48 (R.b 3)) (k0_pay49 (R.a 3)) (k0_pay50 (R.a 3)) (R.w1 3) (R.w3 3) (ix2 r l) := rfl
  rw [e]
  unfold k0_pay57
  change _ + _ = _ + _
  generalize hD : k0_pay56 (du3 R x0) (dh2 R x0) (k0_pay47 (R.a 3)) (k0_pay48 (R.b 3)) (k0_pay49 (R.a 3)) (k0_pay50 (R.a 3)) (R.w1 3)
    (R.w3 3) = D
  have hD' : dh3 R x0 = D := hD
  rw [hD']
  unfold Rms.dxK Rms.er
  pointwise [k0_pay4, k0_pay5]

theorem pdg_at (acc : FVec Ideal S1x1024 .f32) (l : Fin 1024) : pdg R x0 x1 acc (ix2 0 l) = acc (ix2 0 l)
    + ∑ r : Fin 256, dh3 R x0 (ix2 r l) * (x1 (ix2 r l) * Rms.er fun k => x1 (ix2 r k)) := by
  unfold pdg k0_pay58
  generalize hD : k0_pay56 (du3 R x0) (dh2 R x0) (k0_pay47 (R.a 3)) (k0_pay48 (R.b 3)) (k0_pay49 (R.a 3)) (k0_pay50 (R.a 3)) (R.w1 3)
    (R.w3 3) = D
  have hD' : dh3 R x0 = D := hD
  rw [hD']
  unfold Rms.er
  pointwise [k0_pay3, k0_pay4, k0_pay5]

theorem pay2_at (i : S1x1024.Idx) : k0_pay2 (F := Ideal) i = 0 := by
  pointwise [k0_pay2]

end Cert.Kernel5Ideal.Ffn

end
-- ==== Proof.FfnBody.lean ====
/-
  What one point of the feed-forward gradient's kernel leaves, as the arithmetic of the blocks it reads: at the first point, which
  copies the weights, and at a later one, which finds them.
-/
module

public import proofs.«01_k».proof.Proof.FfnPay
public import proofs.«01_k».proof.Proof.Gen.Kernel5Ideal.Frame
public import Idealize.ShloMosaic.Lib.Tactic
public import Idealize.ShloMosaic.Lib.Pointwise

@[expose] public section

set_option maxRecDepth 16384

noncomputable section

namespace Cert.Kernel5Ideal.Ffn

open Cert.Kernel5Ideal Cert.Kernel5Ideal.Gen Idealize.ShloMosaic Idealize.ShloMosaic.TcCoe Idealize.SL.Sem
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-- What a load of a box reads where one copy has filled the whole buffer. -/
theorem cov {Val : EltTy → Type} [∀ e, Nonempty (Val e)] {sg : RefSig} {κ : Kind} {sp : Space} {s : Shape} {e : EltTy} (v : View sg κ sp s e)
    (w : s.Idx → Val e) (r : Rect s) : v.readCov [⟨Rect.whole s, w⟩] r.toLoadRect = View.ld w r := by
  rw [View.readCov_eq_canon']
  funext j
  have h := View.canon_cons_emb (Rect.whole s) w [] (r.toLoadRect.idx j)
  have e1 : (Rect.whole s).emb (r.toLoadRect.idx j) = r.toLoadRect.idx j := funext fun a => Fin.ext (by simp [Rect.whole])
  rw [e1] at h
  exact h

theorem canon_whole {Val : EltTy → Type} [∀ e, Nonempty (Val e)] {s : Shape} {e : EltTy} (w : s.Idx → Val e) :
    View.canon [⟨Rect.whole s, w⟩] = w := funext fun j => by
  have h := View.canon_cons_emb (Rect.whole s) w [] j
  have e1 : (Rect.whole s).emb j = j := funext fun a => Fin.ext (by simp [Rect.whole])
  rw [e1] at h
  exact h

section AnyF

variable {F : FTy → Type} [FloatOps F]

/-- Block `j` of the gate's saved inputs, and of the weights. -/
def blkA (x : Vec F S4x256x768 .bf16) (j : Fin 4) : Vec F S1x256x768 .bf16 :=
  View.ld x (Rect.unit ![j.val, 0, 0] ![1, 256, 768] fun a => by have := j.isLt; fin_cases a <;> simp [S4x256x768] <;> omega)
def blkW (x : Vec F S4x768x1024 .bf16) (j : Fin 4) : Vec F S1x768x1024 .bf16 :=
  View.ld x (Rect.unit ![j.val, 0, 0] ![1, 768, 1024] fun a => by have := j.isLt; fin_cases a <;> simp [S4x768x1024] <;> omega)

/-- The blocks a point reads. -/
def reads (x3 x4 : Vec F S4x256x768 .bf16) (s1 s3 s2 : Vec F S4x768x1024 .bf16) : Reads F :=
  ⟨blkA x3, blkA x4, blkW s1, blkW s3, blkW s2⟩

/-- The eight shards of a weight as the four blocks they make. -/
def four (f : Vec F S8x384x1024 .bf16) : Vec F S4x768x1024 .bf16 := shapeCast S4x768x1024 f shapeCasts_S8x384x1024_S4x768x1024

variable (c : Dev nD) (i : grid0.Coords) (a1 a2 : Memref sig .tc .vmem S256x1024 .f32) (h1 : a1.IsWhole) (h2 : a2.IsWhole)
  (a3 : Memref sig .tc .vmem S1x1024 .f32) (h3 : a3.IsWhole) (a7 a8 : Memref sig .tc .vmem S4x256x768 .bf16) (h7 : a7.IsWhole)
  (h8 : a8.IsWhole) (a9 : Memref sig .tc .vmem S256x1024 .f32) (h9 : a9.IsWhole) (a10 : Memref sig .tc .vmem S1x1024 .f32)
  (h10 : a10.IsWhole) (a11 : Memref sig .tc .vmem S1024x256 .bf16) (h11 : a11.IsWhole) (a12 : Memref sig .tc .vmem S256x1024 .bf16)
  (h12 : a12.IsWhole) (a13 : Memref sig .tc .vmem S4x768x256 .bf16) (h13 : a13.IsWhole) (a14 a15 : Memref sig .tc .vmem S4x256x768 .bf16)
  (h14 : a14.IsWhole) (h15 : a15.IsWhole) (a16 a17 a18 : Memref sig .tc .vmem S4x768x1024 .bf16) (h16 : a16.IsWhole)
  (h17 : a17.IsWhole) (h18 : a18.IsWhole) (x0 x1 : Vec F S256x1024 .f32) (x2 : Vec F S1x1024 .f32) (x3 x4 : Vec F S4x256x768 .bf16)
  (fh0 : HbBuf0 (F := F) c hbM0_0) (fh1 : HbBuf0 (F := F) c hbM0_1) (fh2 : HbBuf0 (F := F) c hbM0_2)

/-- The block of `dx` at the first point; -/
theorem out_A_5 (hc0 : cond0_0 i) (hc1 : cond0_1 i) :
    out0_A_5 c i a1 h1 a2 h2 a3 h3 a7 h7 a8 h8 a9 h9 a10 h10 a11 h11 a12 h12 a13 h13 a14 h14 a15 h15 a16 h16 a17 h17 a18 h18 hc0 hc1
      x0 x1 x2 x3 x4 fh0 fh1 fh2 = pdx (reads x3 x4 (four fh0) (four fh1) (four fh2)) x0 x1 x2 := by
  unfold out0_A_5
  rw [View.read_writes_eq_canon _ _ _ (cover0_A_5 c i a1 h1 a2 h2 a3 h3 a7 h7 a8 h8 a9 h9 a10 h10 a11 h11 a12 h12 a13 h13 a14 h14 a15 h15 a16 h16 a17 h17 a18 h18 hc0 hc1
    x0 x1 x2 x3 x4 fh0 fh1 fh2)]
  unfold kernelRun0_A
  dsimp only
  sl_unfold_words
  rw [View.canon_unit_zero hz]
  simp only [View.readAt_eq_ld, h1.read_unread, h2.read_unread, h3.read_unread, h7.read_unread, h8.read_unread, cov,
    View.ld_unit_zero (S := S256x1024) hz, View.ld_unit_zero (S := S1x1024) hz]
  rfl

/-- at a later one. -/
theorem out_B_5 (hc0 : ¬cond0_0 i) (hc1 : ¬cond0_1 i) (x6 : Vec F S1x1024 .f32) (s1 s3 s2 : Vec F S4x768x1024 .bf16) :
    out0_B_5 c i a1 h1 a2 h2 a3 h3 a7 h7 a8 h8 a9 h9 a10 h10 a11 h11 a12 h12 a13 h13 a14 h14 a15 h15 a16 h16 a17 h17 a18 h18 hc0 hc1
      x0 x1 x2 x3 x4 x6 s1 s3 s2 fh0 fh1 fh2 = pdx (reads x3 x4 s1 s3 s2) x0 x1 x2 := by
  unfold out0_B_5
  rw [View.read_writes_eq_canon _ _ _ (cover0_B_5 c i a1 h1 a2 h2 a3 h3 a7 h7 a8 h8 a9 h9 a10 h10 a11 h11 a12 h12 a13 h13 a14 h14 a15 h15 a16 h16 a17 h17 a18 h18 hc0 hc1
    x0 x1 x2 x3 x4 x6 s1 s3 s2 fh0 fh1 fh2)]
  unfold kernelRun0_B
  dsimp only
  sl_unfold_words
  rw [View.canon_unit_zero hz]
  simp only [View.readAt_eq_ld, h1.read_unread, h2.read_unread, h3.read_unread, h7.read_unread, h8.read_unread, h10.read_unread, h16.read_unread, h17.read_unread, h18.read_unread,
    View.ld_unit_zero (S := S256x1024) hz, View.ld_unit_zero (S := S1x1024) hz]
  rfl

/-- `dg` after the first point, onto the zero just stored; -/
theorem out_A_6 (hc0 : cond0_0 i) (hc1 : cond0_1 i) :
    out0_A_6 c i a1 h1 a2 h2 a3 h3 a7 h7 a8 h8 a9 h9 a10 h10 a11 h11 a12 h12 a13 h13 a14 h14 a15 h15 a16 h16 a17 h17 a18 h18 hc0 hc1
      x0 x1 x2 x3 x4 fh0 fh1 fh2 = pdg (reads x3 x4 (four fh0) (four fh1) (four fh2)) x0 x1 (k0_pay2 (F := F)) := by
  unfold out0_A_6
  rw [View.read_writes_eq_canon _ _ _ (cover0_A_6 c i a1 h1 a2 h2 a3 h3 a7 h7 a8 h8 a9 h9 a10 h10 a11 h11 a12 h12 a13 h13 a14 h14 a15 h15 a16 h16 a17 h17 a18 h18 hc0 hc1
    x0 x1 x2 x3 x4 fh0 fh1 fh2)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h7.read_unread, h8.read_unread, cov,
    View.ld_unit_zero (S := S256x1024) hz, View.ld_unit_zero (S := S1x1024) hz]
  rfl

/-- after a later one, onto what stands there. -/
theorem out_B_6 (hc0 : ¬cond0_0 i) (hc1 : ¬cond0_1 i) (x6 : Vec F S1x1024 .f32) (s1 s3 s2 : Vec F S4x768x1024 .bf16) :
    out0_B_6 c i a1 h1 a2 h2 a3 h3 a7 h7 a8 h8 a9 h9 a10 h10 a11 h11 a12 h12 a13 h13 a14 h14 a15 h15 a16 h16 a17 h17 a18 h18 hc0 hc1
      x0 x1 x2 x3 x4 x6 s1 s3 s2 fh0 fh1 fh2 = pdg (reads x3 x4 s1 s3 s2) x0 x1 x6 := by
  unfold out0_B_6
  rw [View.read_writes_eq_canon _ _ _ (cover0_B_6 c i a1 h1 a2 h2 a3 h3 a7 h7 a8 h8 a9 h9 a10 h10 a11 h11 a12 h12 a13 h13 a14 h14 a15 h15 a16 h16 a17 h17 a18 h18 hc0 hc1
    x0 x1 x2 x3 x4 x6 s1 s3 s2 fh0 fh1 fh2)]
  unfold kernelRun0_B
  dsimp only
  sl_unfold_words
  rw [View.canon_unit_zero (S := S1x1024) hz]
  simp only [View.readAt_eq_ld, h1.read_unread, h2.read_unread, h3.read_unread, h7.read_unread, h8.read_unread, h10.read_unread, h16.read_unread, h17.read_unread, h18.read_unread,
    View.ld_unit_zero (S := S256x1024) hz, View.ld_unit_zero (S := S1x1024) hz]
  rfl

/-- What the first point leaves of the weights. -/
theorem sout_A_0 (hc0 : cond0_0 i) (hc1 : cond0_1 i) :
    sout0_A_0 c i a1 h1 a2 h2 a3 h3 a7 h7 a8 h8 a9 h9 a10 h10 a11 h11 a12 h12 a13 h13 a14 h14 a15 h15 a16 h16 a17 h17 a18 h18 hc0 hc1
      x0 x1 x2 x3 x4 fh0 fh1 fh2 = four fh0 := by
  unfold sout0_A_0
  rw [View.read_writes_eq_canon _ _ _ (scover0_A_0 c i a1 h1 a2 h2 a3 h3 a7 h7 a8 h8 a9 h9 a10 h10 a11 h11 a12 h12 a13 h13 a14 h14 a15 h15 a16 h16 a17 h17 a18 h18 hc0 hc1
    x0 x1 x2 x3 x4 fh0 fh1 fh2)]
  unfold kernelRun0_A
  dsimp only
  sl_unfold_words
  exact canon_whole _

theorem sout_A_1 (hc0 : cond0_0 i) (hc1 : cond0_1 i) :
    sout0_A_1 c i a1 h1 a2 h2 a3 h3 a7 h7 a8 h8 a9 h9 a10 h10 a11 h11 a12 h12 a13 h13 a14 h14 a15 h15 a16 h16 a17 h17 a18 h18 hc0 hc1
      x0 x1 x2 x3 x4 fh0 fh1 fh2 = four fh1 := by
  unfold sout0_A_1
  rw [View.read_writes_eq_canon _ _ _ (scover0_A_1 c i a1 h1 a2 h2 a3 h3 a7 h7 a8 h8 a9 h9 a10 h10 a11 h11 a12 h12 a13 h13 a14 h14 a15 h15 a16 h16 a17 h17 a18 h18 hc0 hc1
    x0 x1 x2 x3 x4 fh0 fh1 fh2)]
  unfold kernelRun0_A
  dsimp only
  sl_unfold_words
  exact canon_whole _

theorem sout_A_2 (hc0 : cond0_0 i) (hc1 : cond0_1 i) :
    sout0_A_2 c i a1 h1 a2 h2 a3 h3 a7 h7 a8 h8 a9 h9 a10 h10 a11 h11 a12 h12 a13 h13 a14 h14 a15 h15 a16 h16 a17 h17 a18 h18 hc0 hc1
      x0 x1 x2 x3 x4 fh0 fh1 fh2 = four fh2 := by
  unfold sout0_A_2
  rw [View.read_writes_eq_canon _ _ _ (scover0_A_2 c i a1 h1 a2 h2 a3 h3 a7 h7 a8 h8 a9 h9 a10 h10 a11 h11 a12 h12 a13 h13 a14 h14 a15 h15 a16 h16 a17 h17 a18 h18 hc0 hc1
    x0 x1 x2 x3 x4 fh0 fh1 fh2)]
  unfold kernelRun0_A
  dsimp only
  sl_unfold_words
  exact canon_whole _

end AnyF

end Cert.Kernel5Ideal.Ffn

end
-- ==== Proof.FfnValue.lean ====
/-
  What the feed-forward gradient's kernel leaves: `dx` block by block, `dg` as the sum over all rows, of the arrays its call takes.
-/
module

public import proofs.«01_k».proof.Proof.FfnBody
public import proofs.«01_k».proof.Proof.Sums
public import Idealize.ShloMosaic.Lib.Pipeline.Value

@[expose] public section

set_option maxRecDepth 16384

noncomputable section

namespace Cert.Kernel5Ideal.Ffn

open Cert.Kernel5Ideal Cert.Kernel5Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The call's arrays: `dy`, `x`, the gain, the gate's saved inputs, the weights. -/
abbrev DY (c : Dev nD) : FVec Ideal S4096x1024 .f32 := V m c main_arg0
abbrev X (c : Dev nD) : FVec Ideal S4096x1024 .f32 := V m c main_arg1
abbrev G (c : Dev nD) : FVec Ideal S1x1024 .f32 := V m c main_arg2
abbrev A (c : Dev nD) : FVec Ideal S4x4096x768 .bf16 := V m c main_v27
abbrev B (c : Dev nD) : FVec Ideal S4x4096x768 .bf16 := V m c main_v31
abbrev W1 (c : Dev nD) : FVec Ideal S4x768x1024 .bf16 := four (V m c main_v5)
abbrev W3 (c : Dev nD) : FVec Ideal S4x768x1024 .bf16 := four (V m c main_v8)
abbrev W2 (c : Dev nD) : FVec Ideal S4x768x1024 .bf16 := four (V m c main_v10)

/-- Row `a` of block `t`, in the whole array. -/
abbrev row (t : Fin cfg0.N) (a : Fin 256) : Fin 4096 := ⟨256 * t.val + a.val, by have := t.isLt; have : cfg0.N = 16 := N_0; omega⟩

theorem idx_row : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = t.val ∧ win0_5.index t 1 = 0) ∧ (win0_6.index t 0 = 0 ∧ win0_6.index t 1 = 0) :=
  (by decide +kernel : ∀ t : Fin grid0.N, _)

theorem blk0 (c : Dev nD) (t : Fin cfg0.N) (a : Fin 256) (b : Fin 1024) :
    (iblk m c 0 t : FVec Ideal S256x1024 .f32) (ix2 a b) = DY m c (ix2 (row t a) b) := by
  have h := (idx_row t).1
  unfold iblk
  rw [View.read_apply]
  show V m c main_arg0 _ = V m c main_arg0 _
  congr 1
  funext x
  apply Fin.ext
  match x with
  | ⟨0, _⟩ => show win0_0.index t 0 * 256 + 1 * a.val = 256 * t.val + a.val; rw [h.1]; omega
  | ⟨1, _⟩ => show win0_0.index t 1 * 1024 + 1 * b.val = b.val; rw [h.2]; omega

theorem blk1 (c : Dev nD) (t : Fin cfg0.N) (a : Fin 256) (b : Fin 1024) :
    (iblk m c 1 t : FVec Ideal S256x1024 .f32) (ix2 a b) = X m c (ix2 (row t a) b) := by
  have h := (idx_row t).2.1
  unfold iblk
  rw [View.read_apply]
  show V m c main_arg1 _ = V m c main_arg1 _
  congr 1
  funext x
  apply Fin.ext
  match x with
  | ⟨0, _⟩ => show win0_1.index t 0 * 256 + 1 * a.val = 256 * t.val + a.val; rw [h.1]; omega
  | ⟨1, _⟩ => show win0_1.index t 1 * 1024 + 1 * b.val = b.val; rw [h.2]; omega

theorem blk2 (c : Dev nD) (t : Fin cfg0.N) (a : Fin 1) (b : Fin 1024) :
    (iblk m c 2 t : FVec Ideal S1x1024 .f32) (ix2 a b) = G m c (ix2 (0) b) := by
  have h := (idx_row t).2.2.1
  unfold iblk
  rw [View.read_apply]
  show V m c main_arg2 _ = V m c main_arg2 _
  congr 1
  funext x
  apply Fin.ext
  match x with
  | ⟨0, _⟩ => show win0_2.index t 0 * 1 + 1 * a.val = 0; rw [h.1]; omega
  | ⟨1, _⟩ => show win0_2.index t 1 * 1024 + 1 * b.val = b.val; rw [h.2]; omega

theorem blk3 (c : Dev nD) (t : Fin cfg0.N) (j : Fin 4) (a : Fin 256) (b : Fin 768) :
    (iblk m c 3 t : FVec Ideal S4x256x768 .bf16) (ix3 j a b) = A m c (ix3 j (row t a) b) := by
  have h := (idx_row t).2.2.2.1
  unfold iblk
  rw [View.read_apply]
  show V m c main_v27 _ = V m c main_v27 _
  congr 1
  funext x
  apply Fin.ext
  match x with
  | ⟨0, _⟩ => show win0_3.index t 0 * 4 + 1 * j.val = j.val; rw [h.1]; omega
  | ⟨1, _⟩ => show win0_3.index t 1 * 256 + 1 * a.val = 256 * t.val + a.val; rw [h.2.1]; omega
  | ⟨2, _⟩ => show win0_3.index t 2 * 768 + 1 * b.val = b.val; rw [h.2.2]; omega

theorem blk4 (c : Dev nD) (t : Fin cfg0.N) (j : Fin 4) (a : Fin 256) (b : Fin 768) :
    (iblk m c 4 t : FVec Ideal S4x256x768 .bf16) (ix3 j a b) = B m c (ix3 j (row t a) b) := by
  have h := (idx_row t).2.2.2.2.1
  unfold iblk
  rw [View.read_apply]
  show V m c main_v31 _ = V m c main_v31 _
  congr 1
  funext x
  apply Fin.ext
  match x with
  | ⟨0, _⟩ => show win0_4.index t 0 * 4 + 1 * j.val = j.val; rw [h.1]; omega
  | ⟨1, _⟩ => show win0_4.index t 1 * 256 + 1 * a.val = 256 * t.val + a.val; rw [h.2.1]; omega
  | ⟨2, _⟩ => show win0_4.index t 2 * 768 + 1 * b.val = b.val; rw [h.2.2]; omega

/-- A block of a stack at an index. -/
theorem blkA_at (x : FVec Ideal S4x256x768 .bf16) (j : Fin 4) (r : Fin 256) (f : Fin 768) : blkA (F := Ideal) x j (ix3 0 r f) = x (ix3 j r f) := by
  unfold blkA
  show x _ = x _
  congr 1
  funext a
  apply Fin.ext
  match a with
  | ⟨0, _⟩ => show j.val + 1 * 0 = j.val; omega
  | ⟨1, _⟩ => show 0 + 1 * r.val = r.val; omega
  | ⟨2, _⟩ => show 0 + 1 * f.val = f.val; omega

theorem blkW_at (x : FVec Ideal S4x768x1024 .bf16) (j : Fin 4) (f : Fin 768) (l : Fin 1024) : blkW (F := Ideal) x j (ix3 0 f l) = x (ix3 j f l) := by
  unfold blkW
  show x _ = x _
  congr 1
  funext a
  apply Fin.ext
  match a with
  | ⟨0, _⟩ => show j.val + 1 * 0 = j.val; omega
  | ⟨1, _⟩ => show 0 + 1 * f.val = f.val; omega
  | ⟨2, _⟩ => show 0 + 1 * l.val = l.val; omega

/-- The gradient of a hidden unit's value at a row, and of the normalised row. -/
def dU (c : Dev nD) (j : Fin 4) (r : Fin 4096) (f : Fin 768) : EReal := ∑ k : Fin 1024, half * DY m c (ix2 r k) * W2 m c (ix3 j f k)
def dH (c : Dev nD) (r : Fin 4096) (l : Fin 1024) : EReal := ∑ j : Fin 4,
  ((∑ f : Fin 768, Cert.Ffn.da (dU m c j r f) (A m c (ix3 j r f)) (B m c (ix3 j r f)) * W1 m c (ix3 j f l))
    + ∑ f : Fin 768, Cert.Ffn.db (dU m c j r f) (A m c (ix3 j r f)) * W3 m c (ix3 j f l))

/-- What point `t` reads. -/
abbrev rd (c : Dev nD) (t : Fin cfg0.N) : Reads Ideal :=
  reads (F := Ideal) (iblk m c 3 t) (iblk m c 4 t) (W1 m c) (W3 m c) (W2 m c)

theorem dh_row (c : Dev nD) (t : Fin cfg0.N) (a : Fin 256) (l : Fin 1024) :
    dh3 (rd m c t) (iblk m c 0 t) (ix2 a l) = dH m c (row t a) l := by
  rw [dh_at]
  simp only [through1, through3, du, reads, blkA_at, blkW_at, blk0, blk3, blk4]
  rfl

/-- `dx`: the residual's gradient and the row's gradient of the norm. -/
def dx (c : Dev nD) : FVec Ideal S4096x1024 .f32 := fun i =>
  DY m c i + Rms.dxK (fun k => dH m c (i 0) k) (fun k => X m c (ix2 (i 0) k)) (fun k => G m c (ix2 0 k)) (i 1)

/-- One row's part of `dg`. -/
def dgRow (c : Dev nD) (r : Fin 4096) (j : Fin 1024) : EReal := dH m c r j * (X m c (ix2 r j) * Rms.er fun k => X m c (ix2 r k))

/-- `dg`: the sum over the rows. -/
def dg (c : Dev nD) : FVec Ideal S1x1024 .f32 := fun i => ∑ r : Fin 4096, dgRow m c r (i 1)

/-- The weights lie in the scratch after every point. -/
theorem outs_w (c : Dev nD) : ∀ (n : ℕ) (h : n < cfg0.N), (outsAt0 m c n h).2.2.2.2.2.2.2.1 = W1 m c
    ∧ (outsAt0 m c n h).2.2.2.2.2.2.2.2.1 = W3 m c ∧ (outsAt0 m c n h).2.2.2.2.2.2.2.2.2 = W2 m c
  | 0, h => by
    rw [outsAt0_A m c ⟨0, h⟩ rfl rfl]
    dsimp only
    exact ⟨sout_A_0 .., sout_A_1 .., sout_A_2 ..⟩
  | n + 1, h => by
    have hN : cfg0.N = 16 := N_0
    have hB : ¬(⟨n + 1, h⟩ : Fin cfg0.N).val % 16 = 0 := by dsimp only; omega
    rw [outsAt0_B m c ⟨n + 1, h⟩ hB hB]
    dsimp only
    exact outs_w c n (Nat.lt_of_succ_lt h)

/-- What the two outputs' buffers hold after a point: the block of `dx`, and the sum of `dg`'s rows so far. -/
theorem outs_dx (c : Dev nD) (t : Fin cfg0.N) (a : Fin 256) (b : Fin 1024) :
    (outsAt0 m c t.val t.isLt).1 (ix2 a b) = dx m c (ix2 (row t a) b) := by
  have h : (outsAt0 m c t.val t.isLt).1 = pdx (rd m c t) (iblk m c 0 t) (iblk m c 1 t) (iblk m c 2 t) := by
    by_cases h0 : t.val % 16 = 0
    · rw [outsAt0_A m c t h0 h0]; dsimp only; rw [out_A_5]
    · obtain ⟨e1, e3, e2⟩ := outs_w m c (t.val - 1) (Nat.lt_of_le_of_lt (Nat.sub_le _ _) t.isLt)
      rw [outsAt0_B m c t h0 h0]; dsimp only; rw [out_B_5, e1, e3, e2]
  rw [h, pdx_at]
  have d0 : (fun k => dh3 (rd m c t) (iblk m c 0 t) (ix2 a k)) = fun k => dH m c (row t a) k := funext (dh_row m c t a)
  have d1 : (fun k => (iblk m c 1 t : FVec Ideal S256x1024 .f32) (ix2 a k)) = fun k => X m c (ix2 (row t a) k) := funext (blk1 m c t a)
  have d2 : (fun k => (iblk m c 2 t : FVec Ideal S1x1024 .f32) (ix2 0 k)) = fun k => G m c (ix2 0 k) := funext (blk2 m c t 0)
  rw [d0, d1, d2, blk0 m c t a b]
  rfl

theorem outs_dg (c : Dev nD) : ∀ (n : ℕ) (h : n < cfg0.N) (b : Fin 1024),
    (outsAt0 m c n h).2.1 (ix2 0 b) = Sums.upto (fun r => dgRow m c r b) (256 * n + 256)
  | 0, h, b => by
    rw [outsAt0_A m c ⟨0, h⟩ rfl rfl]
    dsimp only
    rw [out_A_6, pdg_at, pay2_at, Sums.upto_add _ _ _ (by norm_num)]
    refine congrArg₂ (· + ·) rfl ?_
    exact Finset.sum_congr rfl fun a _ => by rw [dh_row m c ⟨0, h⟩]; simp only [blk1]; rfl
  | n + 1, h, b => by
    have hN : cfg0.N = 16 := N_0
    have hB : ¬(⟨n + 1, h⟩ : Fin cfg0.N).val % 16 = 0 := by dsimp only; omega
    obtain ⟨e1, e3, e2⟩ := outs_w m c n (Nat.lt_of_succ_lt h)
    rw [outsAt0_B m c ⟨n + 1, h⟩ hB hB]
    dsimp only
    rw [out_B_6, pdg_at, Sums.upto_add _ _ _ (by omega)]
    refine congrArg₂ (· + ·) (outs_dg c n (Nat.lt_of_succ_lt h) b) ?_
    refine Finset.sum_congr rfl fun a _ => ?_
    simp only [Nat.add_sub_cancel, e1, e3, e2]
    rw [dh_row m c ⟨n + 1, h⟩]
    simp only [blk1]
    rfl

/-- Every point writes its block of `dx`; -/
theorem flushed_dx (c : Dev nD) (t : Fin cfg0.N) (_ : (cfg0.win 5).flush t = true) :
    (dats m 0 c).flushed 5 t = ((cfg0.win 5).blk t).view.read (Elt Ideal) (dx m c) := by
  show (cfg0.win 5).cut (grid0.coords t) ((dats m 0 c).after 5 t) = _
  rw [after0_5]
  funext j
  have h := (idx_row t).2.2.2.2.2.1
  have e : j = ix2 (n0 := 256) (n1 := 1024) ⟨(j 0).val, (j 0).isLt⟩ ⟨(j 1).val, (j 1).isLt⟩ := by
    funext x
    match x with
    | ⟨0, _⟩ => rfl
    | ⟨1, _⟩ => rfl
  rw [View.read_apply]
  show (outsAt0 m c t.val t.isLt).1 j = dx m c _
  rw [e, outs_dx m c t]
  congr 1
  funext x
  apply Fin.ext
  match x with
  | ⟨0, _⟩ => show 256 * t.val + (j 0).val = win0_5.index t 0 * 256 + 1 * (j 0).val; rw [h.1]; omega
  | ⟨1, _⟩ => show (j 1).val = win0_5.index t 1 * 1024 + 1 * (j 1).val; rw [h.2]; omega

theorem size_5 : ∀ t : Fin cfg0.N, win0_5.size 0 = 256 ∧ win0_5.size 1 = 1024 ∧ win0_5.xsize (grid0.coords t) 0 = 256
    ∧ win0_5.xsize (grid0.coords t) 1 = 1024 ∧ (cfg0.win 5).flush t = true :=
  (by decide +kernel : ∀ t : Fin grid0.N, _)

/-- and the blocks are the whole array. -/
theorem final_dx (c : Dev nD) : (dats m 0 c).arrAt 5 cfg0.N = dx m c :=
  (dats m 0 c).arrAt_eq_of_cover 5 (dx m c) (flushed_dx m c) fun i => by
    have h0 : (i 0 : Nat) < 4096 := (i 0).isLt
    have h1 : (i 1 : Nat) < 1024 := (i 1).isLt
    have hN : cfg0.N = 16 := N_0
    let t : Fin cfg0.N := ⟨(i 0 : Nat) / 256, by omega⟩
    obtain ⟨s0, s1, x0, x1, hf⟩ := size_5 t
    have hi := (idx_row t).2.2.2.2.2.1
    have ht : t.val = (i 0 : Nat) / 256 := rfl
    refine ⟨t, hf, ?_⟩
    show i ∈ ((View.whole main_v32_0).slice (win0_5.rect t)).set
    rw [View.set_slice_whole, Rect.mem_set_unit]
    intro a
    match a with
    | ⟨0, _⟩ => show win0_5.index t 0 * win0_5.size 0 ≤ (i 0 : Nat) ∧ (i 0 : Nat) < win0_5.index t 0 * win0_5.size 0 + win0_5.xsize (grid0.coords t) 0
                rw [hi.1, s0, x0]; omega
    | ⟨1, _⟩ => show win0_5.index t 1 * win0_5.size 1 ≤ (i 1 : Nat) ∧ (i 1 : Nat) < win0_5.index t 1 * win0_5.size 1 + win0_5.xsize (grid0.coords t) 1
                rw [hi.2, s1, x1]; omega

theorem last_6 : ∀ t : Fin cfg0.N, (cfg0.win 6).flush t = true → t.val = 15 :=
  (by decide +kernel : ∀ t : Fin grid0.N, _)

theorem size_6 : ∀ t : Fin cfg0.N, win0_6.size 0 = 1 ∧ win0_6.size 1 = 1024 ∧ win0_6.xsize (grid0.coords t) 0 = 1
    ∧ win0_6.xsize (grid0.coords t) 1 = 1024 ∧ (t.val = 15 → (cfg0.win 6).flush t = true) :=
  (by decide +kernel : ∀ t : Fin grid0.N, _)

/-- The last point writes `dg`, when all rows are in; -/
theorem flushed_dg (c : Dev nD) (t : Fin cfg0.N) (hf : (cfg0.win 6).flush t = true) :
    (dats m 0 c).flushed 6 t = ((cfg0.win 6).blk t).view.read (Elt Ideal) (dg m c) := by
  have h15 := last_6 t hf
  show (cfg0.win 6).cut (grid0.coords t) ((dats m 0 c).after 6 t) = _
  rw [after0_6]
  funext j
  have h := (idx_row t).2.2.2.2.2.2
  have hj : (j 0).val = 0 := Nat.lt_one_iff.mp (j 0).isLt
  rw [View.read_apply]
  have e : j = ix2 (n0 := 1) (n1 := 1024) 0 ⟨(j 1).val, (j 1).isLt⟩ := by
    funext x
    match x with
    | ⟨0, _⟩ => exact Fin.ext hj
    | ⟨1, _⟩ => rfl
  show (outsAt0 m c t.val t.isLt).2.1 j = dg m c _
  rw [e, outs_dg m c t.val t.isLt, h15]
  refine (Sums.upto_all _).trans ?_
  unfold dg
  have e1 : ∀ k : Fin 1024, k.val = win0_6.index t 1 * 1024 + 1 * k.val := fun k => by rw [h.2]; omega
  exact Finset.sum_congr rfl fun r _ => congrArg (dgRow m c r) (Fin.ext (e1 _))

/-- and its block is the whole array. -/
theorem final_dg (c : Dev nD) : (dats m 0 c).arrAt 6 cfg0.N = dg m c :=
  (dats m 0 c).arrAt_eq_of_cover 6 (dg m c) (flushed_dg m c) fun i => by
    have h0 : (i 0 : Nat) < 1 := (i 0).isLt
    have h1 : (i 1 : Nat) < 1024 := (i 1).isLt
    have hN : cfg0.N = 16 := N_0
    let t : Fin cfg0.N := ⟨15, by omega⟩
    obtain ⟨s0, s1, x0, x1, hf⟩ := size_6 t
    have hi := (idx_row t).2.2.2.2.2.2
    refine ⟨t, hf rfl, ?_⟩
    show i ∈ ((View.whole main_v32_1).slice (win0_6.rect t)).set
    rw [View.set_slice_whole, Rect.mem_set_unit]
    intro a
    match a with
    | ⟨0, _⟩ => show win0_6.index t 0 * win0_6.size 0 ≤ (i 0 : Nat) ∧ (i 0 : Nat) < win0_6.index t 0 * win0_6.size 0 + win0_6.xsize (grid0.coords t) 0
                rw [hi.1, s0, x0]; omega
    | ⟨1, _⟩ => show win0_6.index t 1 * win0_6.size 1 ≤ (i 1 : Nat) ∧ (i 1 : Nat) < win0_6.index t 1 * win0_6.size 1 + win0_6.xsize (grid0.coords t) 1
                rw [hi.2, s1, x1]; omega

end Cert.Kernel5Ideal.Ffn

end
-- ==== Proof.FfnHost.lean ====
/-
  What the host gives the feed-forward gradient's call: the weights in padded shards with a hidden unit per row, and the gate's
  inputs of the normalised rows.
-/
module

public import proofs.«01_k».proof.Proof.FfnBody
public import proofs.«01_k».proof.Proof.FfnMath
public import proofs.«01_k».proof.Proof.RmsMath
public import Idealize.ShloMosaic.Lib.KernelVsHost
public import Idealize.ShloMosaic.Lib.Tactic
public import Idealize.ShloMosaic.Lib.Pointwise

@[expose] public section

set_option maxRecDepth 16384

noncomputable section

namespace Cert.Kernel5Ideal.Ffn

open Cert.Kernel5Ideal Cert.Kernel5Ideal.Gen Idealize.ShloMosaic Idealize.ShloMosaic.TcCoe Idealize.SL.Sem
open scoped BigOperators

/-- Eight shards of 352 units, each padded to 384 with zeros. -/
def shards (x : FVec Ideal S2816x1024 .bf16) : FVec Ideal S8x384x1024 .bf16 :=
  pad S8x384x1024 ![0, 0, 0] ![0, 32, 0] ![0, 0, 0] (shapeCast S8x352x1024 x shapeCasts_S2816x1024_S8x352x1024)
    (sitofp .bf16 (constantI S_ 32 0#32) : FVec Ideal S_ .bf16) pads_S8x352x1024_S8x384x1024_000_0320_000 h_S_

/-- Units of columns as rows. -/
def rows (x : FVec Ideal S1024x2816 .f32) : FVec Ideal S2816x1024 .bf16 :=
  transpose S2816x1024 [1, 0] (truncf .bf16 x bitsLt_bf16_f32 : FVec Ideal S1024x2816 .bf16) transposes_S1024x2816_S2816x1024_1_0

/-- The normalised rows. -/
def norm (x : FVec Ideal S4096x1024 .f32) (g : FVec Ideal S1x1024 .f32) : FVec Ideal S4096x1024 .bf16 :=
  truncf .bf16 (mulf (mulf x (broadcastInDim S4096x1024 ![0, 1] bcast_S4096x1_S4096x1024_0_1 (Host.rsqrt (addf (Host.divf
    (broadcastInDim S4096x1 ![0] bcast_S4096_S4096x1_0 (Host.reduceAdd (mulf x x) (constant S_ .f32 0x00000000#32 : FVec Ideal S_ .f32) reducesTo_S4096x1024_S4096_d1 h_S_))
    (broadcastInDim S4096x1 ![] bcast_S_S4096x1 (constant S_ .f32 0x44800000#32 : FVec Ideal S_ .f32)))
    (broadcastInDim S4096x1 ![] bcast_S_S4096x1 (constant S_ .f32 0x358637BD#32 : FVec Ideal S_ .f32))))))
    (broadcastInDim S4096x1024 ![0, 1] bcast_S1x1024_S4096x1024_0_1 g) : FVec Ideal S4096x1024 .f32) bitsLt_bf16_f32

/-- The gate's input of the shards `w` for the normalised rows `h`. -/
def saved (w : FVec Ideal S8x384x1024 .bf16) (h : FVec Ideal S4096x1024 .bf16) : FVec Ideal S4x4096x768 .bf16 :=
  truncf .bf16 (transpose S4x4096x768 [0, 2, 1] (Host.dotGeneral (φ₁ := .bf16) (φ₂ := .bf16) dot_S4x768x1024_S4096x1024_S4x768x4096_2_1_01_0_n_n none
    (four (F := Ideal) w : FVec Ideal S4x768x1024 .bf16) h : FVec Ideal S4x768x4096 .f32) transposes_S4x768x4096_S4x4096x768_0_2_1 : FVec Ideal S4x4096x768 .f32) bitsLt_bf16_f32

variable (m : (ℓ : Loc nD τ sig) → Buf (Elt Ideal) ℓ)

abbrev mDY (c : Dev nD) : FVec Ideal S4096x1024 .f32 := m ((c : Thread nD τ).loc main_arg0)
abbrev mX (c : Dev nD) : FVec Ideal S4096x1024 .f32 := m ((c : Thread nD τ).loc main_arg1)
abbrev mG (c : Dev nD) : FVec Ideal S1x1024 .f32 := m ((c : Thread nD τ).loc main_arg2)
abbrev mW1 (c : Dev nD) : FVec Ideal S1024x2816 .f32 := m ((c : Thread nD τ).loc main_arg3)
abbrev mW3 (c : Dev nD) : FVec Ideal S1024x2816 .f32 := m ((c : Thread nD τ).loc main_arg4)
abbrev mW2 (c : Dev nD) : FVec Ideal S2816x1024 .f32 := m ((c : Thread nD τ).loc main_arg5)

theorem V_s1 (c : Dev nD) : (V m c main_v5 : FVec Ideal S8x384x1024 .bf16) = shards (rows (mW1 m c)) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl
theorem V_s3 (c : Dev nD) : (V m c main_v8 : FVec Ideal S8x384x1024 .bf16) = shards (rows (mW3 m c)) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl
theorem V_s2 (c : Dev nD) : (V m c main_v10 : FVec Ideal S8x384x1024 .bf16) =
    shards (truncf .bf16 (mW2 m c) bitsLt_bf16_f32 : FVec Ideal S2816x1024 .bf16) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl
theorem V_a (c : Dev nD) : (V m c main_v27 : FVec Ideal S4x4096x768 .bf16) = saved (shards (rows (mW1 m c))) (norm (mX m c) (mG m c)) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl
theorem V_b (c : Dev nD) : (V m c main_v31 : FVec Ideal S4x4096x768 .bf16) = saved (shards (rows (mW3 m c))) (norm (mX m c) (mG m c)) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl

/-! ## At an index -/

theorem rows_at (x : FVec Ideal S1024x2816 .f32) (u : Fin 2816) (l : Fin 1024) : rows x (ix2 u l) = x (ix2 l u) := by
  unfold rows; pointwise []

theorem norm_at (x : FVec Ideal S4096x1024 .f32) (g : FVec Ideal S1x1024 .f32) (r : Fin 4096) (l : Fin 1024) :
    norm x g (ix2 r l) = x (ix2 r l) * Rms.er (fun k => x (ix2 r k)) * g (ix2 0 l) := by
  unfold norm Rms.er; pointwise []

theorem four_at (w : FVec Ideal S8x384x1024 .bf16) (j : Fin 4) (f : Fin 768) (l : Fin 1024) :
    four (F := Ideal) w (ix3 j f l) = w (ix3 ⟨2 * j.val + f.val / 384, by have := j.isLt; have := f.isLt; omega⟩ ⟨f.val % 384, Nat.mod_lt _ (by norm_num)⟩ l) := by
  unfold four
  refine shapeCast_apply _ _ _ _ ?_
  have := j.isLt
  have := f.isLt
  refine (Shape.rowMajor_val_three _).trans (Eq.trans ?_ (Shape.rowMajor_val_three _).symm)
  show ((2 * j.val + f.val / 384) * 384 + f.val % 384) * 1024 + l.val = (j.val * 768 + f.val) * 1024 + l.val
  omega

/-- A padded shard at a unit. -/
theorem unit_at (x : FVec Ideal S2816x1024 .bf16) (c : Fin 2816) (l : Fin 1024) :
    four (F := Ideal) (shards x) (ix3 (Cert.Ffn.blk c) (Cert.Ffn.pos c) l) = x (ix2 c l) := by
  rw [four_at]
  unfold shards
  have := c.isLt
  have h1 : (Cert.Ffn.blk c).val = c.val / 704 := rfl
  have h2 : (Cert.Ffn.pos c).val = c.val / 352 % 2 * 384 + c.val % 352 := rfl
  refine (pad_apply_of_inside _ _ _ _ _ _ _ _ (ix3 ⟨c.val / 352, by omega⟩ ⟨c.val % 352, Nat.mod_lt _ (by norm_num)⟩ l) fun a => ?_).trans ?_
  · match a with
    | ⟨0, _⟩ => show 2 * (Cert.Ffn.blk c).val + (Cert.Ffn.pos c).val / 384 = 0 + c.val / 352 * (0 + 1); omega
    | ⟨1, _⟩ => show (Cert.Ffn.pos c).val % 384 = 0 + c.val % 352 * (0 + 1); omega
    | ⟨2, _⟩ => show l.val = 0 + l.val * (0 + 1); omega
  · refine shapeCast_apply _ _ _ _ ?_
    refine (Shape.rowMajor_val_two _).trans (Eq.trans ?_ (Shape.rowMajor_val_three _).symm)
    show c.val * 1024 + l.val = (c.val / 352 * 352 + c.val % 352) * 1024 + l.val
    omega

/-- A padded shard at the padding. -/
theorem pad_at (x : FVec Ideal S2816x1024 .bf16) (j : Fin 4) (f : Fin 768) (l : Fin 1024) (h : 352 ≤ f.val % 384) :
    four (F := Ideal) (shards x) (ix3 j f l) = 0 := by
  rw [four_at]
  unfold shards
  refine (pad_apply_of_not_inside _ _ _ _ _ _ _ _ 1 ?_).trans ?_
  · show ¬(0 ≤ f.val % 384 ∧ (f.val % 384 - 0) % (0 + 1) = 0 ∧ (f.val % 384 - 0) / (0 + 1) < 352)
    omega
  · show (((0#32 : BitVec 32).toInt : ℝ) : EReal) = 0
    simp

theorem saved_at (w : FVec Ideal S8x384x1024 .bf16) (h : FVec Ideal S4096x1024 .bf16) (j : Fin 4) (r : Fin 4096) (f : Fin 768) :
    saved w h (ix3 j r f) = ∑ k : Fin 1024, four (F := Ideal) w (ix3 j f k) * h (ix2 r k) := by
  unfold saved; pointwise []

end Cert.Kernel5Ideal.Ffn

end
-- ==== Proof.FfnRef.lean ====
/-
  The feed-forward gradient as the reference computes it: its intermediate values by name, and its two results at an index as sums
  over the hidden units.
-/
module

public import proofs.«01_k».proof.Proof.FfnMath
public import proofs.«01_k».proof.Proof.RmsMath
public import proofs.«01_k».proof.Proof.Gen.Reference5Ideal.Run
public import Idealize.ShloMosaic.Lib.Tactic
public import Idealize.ShloMosaic.Lib.Pointwise

@[expose] public section

set_option maxRecDepth 16384

noncomputable section

namespace Cert.Reference5Ideal.Ffn

open Cert.Reference5Ideal Cert.Reference5Ideal.Gen Idealize.ShloMosaic Idealize.ShloMosaic.TcCoe Idealize.SL.Sem
open Cert.Ret (Rl)
open scoped BigOperators

/-! ## The intermediate values -/

/-- The mean squares of the rows. -/
def msR (x : FVec Ideal S4096x1024 .f32) : FVec Ideal S4096x1 .f32 :=
  addf (Host.divf (broadcastInDim S4096x1 ![0] bcast_S4096_S4096x1_0
      (Host.reduceAdd (mulf x x) (constant S_ .f32 0x00000000#32 : FVec Ideal S_ .f32) reducesTo_S4096x1024_S4096_d1 h_S_))
    (broadcastInDim S4096x1 ![] bcast_S_S4096x1 (constant S_ .f32 0x44800000#32 : FVec Ideal S_ .f32)))
    (broadcastInDim S4096x1 ![] bcast_S_S4096x1 (constant S_ .f32 0x358637BD#32 : FVec Ideal S_ .f32))
/-- The rows over their root mean squares. -/
def xnR (x : FVec Ideal S4096x1024 .f32) : FVec Ideal S4096x1024 .f32 :=
  mulf x (broadcastInDim S4096x1024 ![0, 1] bcast_S4096x1_S4096x1024_0_1 (Host.rsqrt (msR x)))
/-- The gain for every row. -/
def gR (g : FVec Ideal S1x1024 .f32) : FVec Ideal S4096x1024 .f32 :=
  broadcastInDim S4096x1024 ![0, 1] bcast_S1x1024_S4096x1024_0_1
    (broadcastInDim S1x1024 ![1] bcast_S1024_S1x1024_1 (shapeCast S1024 g shapeCasts_S1x1024_S1024))
/-- The normalised rows. -/
def hR (x : FVec Ideal S4096x1024 .f32) (g : FVec Ideal S1x1024 .f32) : FVec Ideal S4096x1024 .f32 := mulf (xnR x) (gR g)
/-- The rows into the hidden units. -/
def upR (h : FVec Ideal S4096x1024 .f32) (w : FVec Ideal S1024x2816 .f32) : FVec Ideal S4096x2816 .f32 :=
  Host.dotGeneral (φ₁ := .f32) (φ₂ := .f32) dot_S4096x1024_S1024x2816_S4096x2816_1_0_0_1_n_n none h w
/-- One for every unit. -/
def oneR : FVec Ideal S4096x2816 .f32 := broadcastInDim S4096x2816 ![] bcast_S_S4096x2816 (constant S_ .f32 0x3F800000#32 : FVec Ideal S_ .f32)
/-- The logistic function of the units. -/
def sgR (a : FVec Ideal S4096x2816 .f32) : FVec Ideal S4096x2816 .f32 := Host.divf oneR (addf oneR (Host.exp (Host.negf a)))
/-- The gradient of the units' values. -/
def duR (dy : FVec Ideal S4096x1024 .f32) (w : FVec Ideal S2816x1024 .f32) : FVec Ideal S4096x2816 .f32 :=
  Host.dotGeneral (φ₁ := .f32) (φ₂ := .f32) dot_S4096x1024_S2816x1024_S4096x2816_1_1_0_0_n_n none
    (mulf (broadcastInDim S4096x1024 ![] bcast_S_S4096x1024 (constant S_ .f32 0x3F000000#32 : FVec Ideal S_ .f32))
      (shapeCast S4096x1024 dy shapeCasts_S4096x1024_S4096x1024)) w
/-- The gradients of the gate's two inputs. -/
def dbR (du a : FVec Ideal S4096x2816 .f32) : FVec Ideal S4096x2816 .f32 := mulf (mulf a (sgR a)) du
def daR (du a b : FVec Ideal S4096x2816 .f32) : FVec Ideal S4096x2816 .f32 :=
  addf (mulf (mulf du b) (sgR a)) (mulf (mulf a (mulf du b)) (mulf (sgR a) (subf oneR (sgR a))))
/-- The units' gradients back to the rows. -/
def downR (d : FVec Ideal S4096x2816 .f32) (w : FVec Ideal S1024x2816 .f32) : FVec Ideal S4096x1024 .f32 :=
  Host.dotGeneral (φ₁ := .f32) (φ₂ := .f32) dot_S4096x2816_S1024x2816_S4096x1024_1_1_0_0_n_n none d w
/-- The gradient of the normalised rows. -/
def dhR (h dy : FVec Ideal S4096x1024 .f32) (w1 w3 : FVec Ideal S1024x2816 .f32) (w2 : FVec Ideal S2816x1024 .f32) : FVec Ideal S4096x1024 .f32 :=
  addf (downR (dbR (duR dy w2) (upR h w1)) w3) (downR (daR (duR dy w2) (upR h w1) (upR h w3)) w1)
/-- The quotient of a row's mean square, for every column. -/
def cR (x dh : FVec Ideal S4096x1024 .f32) (g : FVec Ideal S1x1024 .f32) : FVec Ideal S4096x1024 .f32 :=
  broadcastInDim S4096x1024 ![0] bcast_S4096_S4096x1024_0 (Host.reduceAdd (Host.divf (mulf
      (shapeCast S4096x1 (Host.reduceAdd (mulf x (mulf dh (gR g))) (constant S_ .f32 0x00000000#32 : FVec Ideal S_ .f32)
        reducesTo_S4096x1024_S4096_d1 h_S_) shapeCasts_S4096_S4096x1)
      (mulf (broadcastInDim S4096x1 ![] bcast_S_S4096x1 (constant S_ .f32 0xBF000000#32 : FVec Ideal S_ .f32))
        (Host.divf (Host.rsqrt (msR x)) (msR x))))
    (broadcastInDim S4096x1 ![] bcast_S_S4096x1 (constant S_ .f32 0x44800000#32 : FVec Ideal S_ .f32)))
    (constant S_ .f32 0x00000000#32 : FVec Ideal S_ .f32) reducesTo_S4096x1_S4096_d1 h_S_)
/-- The two results of the gradient of the normalised rows. -/
def dxR (dy x dh : FVec Ideal S4096x1024 .f32) (g : FVec Ideal S1x1024 .f32) : FVec Ideal S4096x1024 .f32 :=
  addf (addf (addf dy (mulf (mulf dh (gR g)) (broadcastInDim S4096x1024 ![0, 1] bcast_S4096x1_S4096x1024_0_1 (Host.rsqrt (msR x)))))
    (mulf x (cR x dh g))) (mulf (cR x dh g) x)
def dgR (x dh : FVec Ideal S4096x1024 .f32) : FVec Ideal S1x1024 .f32 :=
  broadcastInDim S1x1024 ![1] bcast_S1024_S1x1024_1 (Host.reduceAdd (shapeCast S1x1024 (Host.reduceAdd (mulf (xnR x) dh)
      (constant S_ .f32 0x00000000#32 : FVec Ideal S_ .f32) reducesTo_S4096x1024_S1024_d0 h_S_) shapeCasts_S1024_S1x1024)
    (constant S_ .f32 0x00000000#32 : FVec Ideal S_ .f32) reducesTo_S1x1024_S1024_d0 h_S_)

variable (m : (ℓ : Loc nD τ sig) → Buf (Elt Ideal) ℓ)

abbrev aDY (c : Dev nD) : FVec Ideal S4096x1024 .f32 := m ((c.tc : Thread nD τ).loc main_arg0)
abbrev aX (c : Dev nD) : FVec Ideal S4096x1024 .f32 := m ((c.tc : Thread nD τ).loc main_arg1)
abbrev aG (c : Dev nD) : FVec Ideal S1x1024 .f32 := m ((c.tc : Thread nD τ).loc main_arg2)
abbrev aW1 (c : Dev nD) : FVec Ideal S1024x2816 .f32 := m ((c.tc : Thread nD τ).loc main_arg3)
abbrev aW3 (c : Dev nD) : FVec Ideal S1024x2816 .f32 := m ((c.tc : Thread nD τ).loc main_arg4)
abbrev aW2 (c : Dev nD) : FVec Ideal S2816x1024 .f32 := m ((c.tc : Thread nD τ).loc main_arg5)
abbrev aDH (c : Dev nD) : FVec Ideal S4096x1024 .f32 := dhR (hR (aX m c) (aG m c)) (aDY m c) (aW1 m c) (aW3 m c) (aW2 m c)

theorem res_dx (c : Dev nD) : (Value.res_main_v55 m c : FVec Ideal S4096x1024 .f32) = dxR (aDY m c) (aX m c) (aDH m c) (aG m c) := rfl
theorem res_dg (c : Dev nD) : (Value.res_main_v56 m c : FVec Ideal S1x1024 .f32) = dgR (aX m c) (aDH m c) := rfl

/-! ## At an index -/

theorem gR_at (g : FVec Ideal S1x1024 .f32) (r : Fin 4096) (l : Fin 1024) : gR g (ix2 r l) = g (ix2 0 l) := by
  unfold gR; pointwise []
theorem hR_at (x : FVec Ideal S4096x1024 .f32) (g : FVec Ideal S1x1024 .f32) (r : Fin 4096) (l : Fin 1024) :
    hR x g (ix2 r l) = x (ix2 r l) * Rms.er (fun k => x (ix2 r k)) * g (ix2 0 l) := by
  unfold hR gR xnR msR Rms.er; pointwise []
theorem upR_at (h : FVec Ideal S4096x1024 .f32) (w : FVec Ideal S1024x2816 .f32) (r : Fin 4096) (u : Fin 2816) :
    upR h w (ix2 r u) = ∑ k : Fin 1024, h (ix2 r k) * w (ix2 k u) := by
  unfold upR; pointwise []
theorem sgR_at (a : FVec Ideal S4096x2816 .f32) (r : Fin 4096) (u : Fin 2816) : sgR a (ix2 r u) = Ideal.logistic (a (ix2 r u)) := by
  unfold sgR oneR Ideal.logistic; pointwise []
theorem duR_at (dy : FVec Ideal S4096x1024 .f32) (w : FVec Ideal S2816x1024 .f32) (r : Fin 4096) (u : Fin 2816) :
    duR dy w (ix2 r u) = ∑ k : Fin 1024, Ideal.ofBits .f32 0x3F000000#32 * dy (ix2 r k) * w (ix2 u k) := by
  unfold duR; pointwise []
theorem downR_at (d : FVec Ideal S4096x2816 .f32) (w : FVec Ideal S1024x2816 .f32) (r : Fin 4096) (l : Fin 1024) :
    downR d w (ix2 r l) = ∑ u : Fin 2816, d (ix2 r u) * w (ix2 l u) := by
  unfold downR; pointwise []
theorem dbR_at (du a : FVec Ideal S4096x2816 .f32) (r : Fin 4096) (u : Fin 2816) :
    dbR du a (ix2 r u) = Cert.Ffn.db (du (ix2 r u)) (a (ix2 r u)) := by
  show a (ix2 r u) * sgR a (ix2 r u) * du (ix2 r u) = _
  rw [sgR_at, mul_comm]
  rfl
theorem daR_at (du a b : FVec Ideal S4096x2816 .f32) (r : Fin 4096) (u : Fin 2816) (hd : Rl (du (ix2 r u))) (ha : Rl (a (ix2 r u)))
    (hb : Rl (b (ix2 r u))) : daR du a b (ix2 r u) = Cert.Ffn.da (du (ix2 r u)) (a (ix2 r u)) (b (ix2 r u)) := by
  show du (ix2 r u) * b (ix2 r u) * sgR a (ix2 r u) + a (ix2 r u) * (du (ix2 r u) * b (ix2 r u))
    * (sgR a (ix2 r u) * (Ideal.ofBits .f32 0x3F800000#32 - sgR a (ix2 r u))) = _
  rw [sgR_at, Fin.ofBits_one]
  exact Cert.Ffn.da_eq hd ha hb

/-- The gradient of the normalised rows: one part for every hidden unit. -/
theorem dhR_at (h dy : FVec Ideal S4096x1024 .f32) (w1 w3 : FVec Ideal S1024x2816 .f32) (w2 : FVec Ideal S2816x1024 .f32)
    (fh : ∀ i, Rl (h i)) (fy : ∀ i, Rl (dy i)) (f1 : ∀ i, Rl (w1 i)) (f3 : ∀ i, Rl (w3 i)) (f2 : ∀ i, Rl (w2 i)) (r : Fin 4096) (l : Fin 1024) :
    dhR h dy w1 w3 w2 (ix2 r l) = ∑ u : Fin 2816, Cert.Ffn.part (fun k => h (ix2 r k)) (fun k => Ideal.ofBits .f32 0x3F000000#32 * dy (ix2 r k))
      (fun k => w1 (ix2 k u)) (fun k => w3 (ix2 k u)) (fun k => w2 (ix2 u k)) l := by
  have hc : Rl (Ideal.ofBits .f32 0x3F000000#32) := ⟨_, Fin.ofBits_half⟩
  show downR _ _ _ + downR _ _ _ = _
  rw [downR_at, downR_at, add_comm, ← Finset.sum_add_distrib]
  refine Finset.sum_congr rfl fun u _ => ?_
  rw [daR_at _ _ _ _ _ (by rw [duR_at]; exact Rl.sum fun k => (hc.mul (fy _)).mul (f2 _))
    (by rw [upR_at]; exact Rl.sum fun k => (fh _).mul (f1 _)) (by rw [upR_at]; exact Rl.sum fun k => (fh _).mul (f3 _)), dbR_at]
  simp only [duR_at, upR_at]
  rfl

theorem cR_at (x dh : FVec Ideal S4096x1024 .f32) (g : FVec Ideal S1x1024 .f32) (r : Fin 4096) (l : Fin 1024) :
    cR x dh g (ix2 r l) = Rms.cR (fun k => dh (ix2 r k)) (fun k => x (ix2 r k)) (fun k => g (ix2 0 k)) := by
  unfold cR Rms.cR gR msR Rms.er
  pointwise []
  simp only [Fin.sum_univ_one]

theorem dxR_at (dy x dh : FVec Ideal S4096x1024 .f32) (g : FVec Ideal S1x1024 .f32) (r : Fin 4096) (l : Fin 1024) :
    dxR dy x dh g (ix2 r l) = dy (ix2 r l) + dh (ix2 r l) * g (ix2 0 l) * Rms.er (fun k => x (ix2 r k))
      + x (ix2 r l) * Rms.cR (fun k => dh (ix2 r k)) (fun k => x (ix2 r k)) (fun k => g (ix2 0 k))
      + Rms.cR (fun k => dh (ix2 r k)) (fun k => x (ix2 r k)) (fun k => g (ix2 0 k)) * x (ix2 r l) := by
  have e : (broadcastInDim S4096x1024 ![0, 1] bcast_S4096x1_S4096x1024_0_1 (Host.rsqrt (msR x)) : FVec Ideal S4096x1024 .f32) (ix2 r l)
      = Rms.er (fun k => x (ix2 r k)) := by unfold msR Rms.er; pointwise []
  show dy (ix2 r l) + dh (ix2 r l) * gR g (ix2 r l) * (broadcastInDim S4096x1024 ![0, 1] bcast_S4096x1_S4096x1024_0_1 (Host.rsqrt (msR x)) :
    FVec Ideal S4096x1024 .f32) (ix2 r l) + x (ix2 r l) * cR x dh g (ix2 r l) + cR x dh g (ix2 r l) * x (ix2 r l) = _
  rw [e, gR_at, cR_at]

theorem dgR_at (x dh : FVec Ideal S4096x1024 .f32) (l : Fin 1024) :
    dgR x dh (ix2 0 l) = ∑ r : Fin 4096, x (ix2 r l) * Rms.er (fun k => x (ix2 r k)) * dh (ix2 r l) := by
  unfold dgR xnR msR Rms.er
  pointwise []
  simp only [Fin.sum_univ_one]

end Cert.Reference5Ideal.Ffn

end
-- ==== Proof.FfnClaim.lean ====
/-
  The feed-forward gradient is the reference's: `dx` and `dg` agree for finite `dy`, `x`, `g` and weights. A hidden unit's part
  is the same whether the units lie in padded shards or in columns.
-/
module

public import proofs.«01_k».proof.Proof.FfnValue
public import proofs.«01_k».proof.Proof.FfnHost
public import proofs.«01_k».proof.Proof.FfnRef
public import proofs.«01_k».proof.Proof.Gen.Pre_finite5
public import Idealize.ShloMosaic.Lib.ReduceAll

@[expose] public section

set_option maxRecDepth 16384

noncomputable section

namespace Cert.Kernel5Ideal.Ffn

open Cert.Kernel5Ideal Cert.Kernel5Ideal.Gen Idealize.ShloMosaic Idealize.ShloMosaic.TcCoe Idealize.SL.Sem
open Cert.Ret (Rl)
open scoped BigOperators

/-- Arrays whose entries have finite magnitudes hold real numbers. -/
theorem pre_real {dy x : FVec Ideal Cert.Pre_finite5.S4096x1024 .f32} {g : FVec Ideal Cert.Pre_finite5.S1x1024 .f32}
    {w1 w3 : FVec Ideal Cert.Pre_finite5.S1024x2816 .f32} {w2 : FVec Ideal Cert.Pre_finite5.S2816x1024 .f32}
    (h : Cert.Pre_finite5.fn (F := Ideal) dy x g w1 w3 w2 = fun _ => 1#1) :
    (∀ i, Rl (dy i)) ∧ (∀ i, Rl (x i)) ∧ (∀ i, Rl (g i)) ∧ (∀ i, Rl (w1 i)) ∧ (∀ i, Rl (w3 i)) ∧ (∀ i, Rl (w2 i)) := by
  have e := congrFun h ix0
  unfold Cert.Pre_finite5.fn Cert.Pre_finite5.fn_part1 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fun i => Fin.exists_real_of_cmp _ (Host.reduce_andi_all _ _ _ _ _ e1 i),
    fun i => Fin.exists_real_of_cmp _ (Host.reduce_andi_all _ _ _ _ _ e2 i),
    fun i => Fin.exists_real_of_cmp _ (Host.reduce_andi_all _ _ _ _ _ e3 i),
    fun i => Fin.exists_real_of_cmp _ (Host.reduce_andi_all _ _ _ _ _ e4 i),
    fun i => Fin.exists_real_of_cmp _ (Host.reduce_andi_all _ _ _ _ _ e5 i),
    fun i => Fin.exists_real_of_cmp _ (Host.reduce_andi_all _ _ _ _ _ e6 i)⟩

theorem er_real (x : Fin 1024 → EReal) (h : ∀ k, Rl (x k)) : Rl (Rms.er x) := by
  choose y hy using h
  obtain rfl : x = fun k => (y k : EReal) := funext hy
  exact ⟨_, Rms.er_coe y⟩

variable (m : (ℓ : Loc nD τ sig) → Buf (Elt Ideal) ℓ)

/-- One hidden unit's part of the gradient of the normalised rows, of the programs' arguments. -/
def unit (dy x : FVec Ideal S4096x1024 .f32) (g : FVec Ideal S1x1024 .f32) (w1 w3 : FVec Ideal S1024x2816 .f32)
    (w2 : FVec Ideal S2816x1024 .f32) (r : Fin 4096) (u : Fin 2816) (l : Fin 1024) : EReal :=
  Cert.Ffn.part (fun k => x (ix2 r k) * Rms.er (fun k => x (ix2 r k)) * g (ix2 0 k)) (fun k => half * dy (ix2 r k))
    (fun k => w1 (ix2 k u)) (fun k => w3 (ix2 k u)) (fun k => w2 (ix2 u k)) l

theorem DY_eq (c : Dev nD) : DY m c = mDY m c := V_main_arg0 m c
theorem X_eq (c : Dev nD) : X m c = mX m c := V_main_arg1 m c
theorem G_eq (c : Dev nD) : G m c = mG m c := V_main_arg2 m c
theorem W1_eq (c : Dev nD) : W1 m c = four (F := Ideal) (shards (rows (mW1 m c))) := congrArg (four (F := Ideal)) (V_s1 m c)
theorem W3_eq (c : Dev nD) : W3 m c = four (F := Ideal) (shards (rows (mW3 m c))) := congrArg (four (F := Ideal)) (V_s3 m c)
theorem W2_eq (c : Dev nD) : W2 m c = four (F := Ideal) (shards (truncf .bf16 (mW2 m c) bitsLt_bf16_f32 : FVec Ideal S2816x1024 .bf16)) :=
  congrArg (four (F := Ideal)) (V_s2 m c)

/-- What the kernel adds up over the padded units is one part for every unit. -/
theorem dH_eq (c : Dev nD) (r : Fin 4096) (l : Fin 1024) :
    dH m c r l = ∑ u : Fin 2816, unit (mDY m c) (mX m c) (mG m c) (mW1 m c) (mW3 m c) (mW2 m c) r u l := by
  unfold dH
  simp only [← Finset.sum_add_distrib]
  refine Cert.Ffn.sum_units _ _ (fun u => ?_) fun j f h => ?_
  · unfold dU unit Cert.Ffn.part
    rw [DY_eq, W1_eq, W3_eq, W2_eq, A, B, V_a, V_b]
    simp only [saved_at, unit_at, rows_at, norm_at]
    simp only [mul_comm (mW1 m c _), mul_comm (mW3 m c _)]
    rfl
  · rw [W1_eq, W3_eq, pad_at _ _ _ _ h, pad_at _ _ _ _ h, mul_zero, mul_zero, add_zero]

theorem unit_real {dy x : FVec Ideal S4096x1024 .f32} {g : FVec Ideal S1x1024 .f32} {w1 w3 : FVec Ideal S1024x2816 .f32}
    {w2 : FVec Ideal S2816x1024 .f32} (f0 : ∀ i, Rl (dy i)) (f1 : ∀ i, Rl (x i)) (f2 : ∀ i, Rl (g i)) (f3 : ∀ i, Rl (w1 i))
    (f4 : ∀ i, Rl (w3 i)) (f5 : ∀ i, Rl (w2 i)) (r : Fin 4096) (u : Fin 2816) (l : Fin 1024) : Rl (unit dy x g w1 w3 w2 r u l) :=
  Cert.Ffn.part_real (fun k => ((f1 _).mul (er_real _ fun k => f1 _)).mul (f2 _)) (fun k => (show Rl half from ⟨_, Fin.ofBits_half⟩).mul (f0 _))
    (fun k => f3 _) (fun k => f4 _) (fun k => f5 _) l

/-- The reference's gradient of the normalised rows is the same sum. -/
theorem ref_eq {dy x : FVec Ideal S4096x1024 .f32} {g : FVec Ideal S1x1024 .f32} {w1 w3 : FVec Ideal S1024x2816 .f32}
    {w2 : FVec Ideal S2816x1024 .f32} (f0 : ∀ i, Rl (dy i)) (f1 : ∀ i, Rl (x i)) (f2 : ∀ i, Rl (g i)) (f3 : ∀ i, Rl (w1 i))
    (f4 : ∀ i, Rl (w3 i)) (f5 : ∀ i, Rl (w2 i)) (r : Fin 4096) (l : Fin 1024) :
    Cert.Reference5Ideal.Ffn.dhR (Cert.Reference5Ideal.Ffn.hR x g) dy w1 w3 w2 (ix2 r l) = ∑ u : Fin 2816, unit dy x g w1 w3 w2 r u l := by
  rw [Cert.Reference5Ideal.Ffn.dhR_at _ _ _ _ _ (fun i => ?_) f0 f3 f4 f5]
  · simp only [Cert.Reference5Ideal.Ffn.hR_at]
    rfl
  · idx_vars i
    rw [Cert.Reference5Ideal.Ffn.hR_at]
    exact ((f1 _).mul (er_real _ fun k => f1 _)).mul (f2 _)

/-- The kernel's program ends with the two gradients, its arguments kept. -/
theorem run (ρ : Dev nD → PrngReg) : θ_run defs (onTc (τ := τ) (main (F := Ideal))) ⟨m, fun _ => 0, ρ⟩ fun r => ∀ c : Dev nD,
    r.2.mem ((c.tc : Thread nD τ).loc main_v32_0) = dx m c ∧ r.2.mem ((c.tc : Thread nD τ).loc main_v32_1) = dg m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run _ _ _).mono (fun r h c => ⟨((h c).1 5).trans (final_dx m c), ((h c).1 6).trans (final_dg m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

/-- The two forms of the norm's gradient, of the same gradient of the normalised rows. -/
theorem dx_same (c : Dev nD) (dh : FVec Ideal S4096x1024 .f32) (bh : ∀ (r : Fin 4096) (l : Fin 1024), dh (ix2 r l) = dH m c r l)
    (hd : ∀ (r : Fin 4096) (l : Fin 1024), Rl (dH m c r l)) (f1 : ∀ i, Rl (mX m c i)) (f2 : ∀ i, Rl (mG m c i)) :
    Cert.Reference5Ideal.Ffn.dxR (mDY m c) (mX m c) dh (mG m c) = dx m c := by
  funext i
  idx_vars i
  refine (Cert.Reference5Ideal.Ffn.dxR_at _ _ _ _ _ _).trans ?_
  have e : (fun k => dh (ix2 i0 k)) = fun k => dH m c i0 k := funext (bh i0)
  rw [e, bh, add_assoc, add_assoc, ← add_assoc (_ * _ * _)]
  refine (congrArg _ (Rms.dx_eq (fun k => dH m c i0 k) _ _ (fun k => hd _ _) (fun k => f1 _) (fun k => f2 _) _).symm).trans ?_
  unfold dx
  rw [DY_eq, X_eq, G_eq]
  rfl

theorem dg_same (c : Dev nD) (dh : FVec Ideal S4096x1024 .f32) (bh : ∀ (r : Fin 4096) (l : Fin 1024), dh (ix2 r l) = dH m c r l) :
    Cert.Reference5Ideal.Ffn.dgR (mX m c) dh = dg m c := by
  funext i
  idx_vars i
  have ej : i0 = 0 := Subsingleton.elim _ _
  subst ej
  refine (Cert.Reference5Ideal.Ffn.dgR_at _ _ _).trans ?_
  unfold dg dgRow
  rw [X_eq]
  refine Finset.sum_congr rfl fun r _ => ?_
  rw [bh]
  exact mul_comm _ _

/-- The claim: both programs run, and their two results are equal. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m ρ m' ρ' hpre hag
  refine ⟨fun c => dx m c, fun c => dg m c, run m ρ, ?_⟩
  refine (θ_run _ _ _).mono (fun r h c => ?_) (Cert.Reference5Ideal.Value.run (F := Ideal) m' ρ')
  obtain ⟨a0, a1, a2, a3, a4, a5⟩ := hag c
  obtain ⟨f0, f1, f2, f3, f4, f5⟩ := pre_real (hpre c)
  have b0 : Cert.Reference5Ideal.Ffn.aDY m' c = mDY m c := a0
  have b1 : Cert.Reference5Ideal.Ffn.aX m' c = mX m c := a1
  have b2 : Cert.Reference5Ideal.Ffn.aG m' c = mG m c := a2
  have b3 : Cert.Reference5Ideal.Ffn.aW1 m' c = mW1 m c := a3
  have b4 : Cert.Reference5Ideal.Ffn.aW3 m' c = mW3 m c := a4
  have b5 : Cert.Reference5Ideal.Ffn.aW2 m' c = mW2 m c := a5
  have bh : ∀ (r : Fin 4096) (l : Fin 1024), Cert.Reference5Ideal.Ffn.aDH m' c (ix2 r l) = dH m c r l := fun r l => by
    unfold Cert.Reference5Ideal.Ffn.aDH
    rw [b0, b1, b2, b3, b4, b5, dH_eq]
    exact ref_eq f0 f1 f2 f3 f4 f5 r l
  have hd : ∀ (r : Fin 4096) (l : Fin 1024), Rl (dH m c r l) := fun r l => by
    rw [dH_eq]; exact Rl.sum fun u => unit_real f0 f1 f2 f3 f4 f5 r u l
  refine ⟨(h c).1.trans ((Cert.Reference5Ideal.Ffn.res_dx m' c).trans ?_),
    (h c).2.1.trans ((Cert.Reference5Ideal.Ffn.res_dg m' c).trans ?_), (h c).2.2⟩
  · rw [b0, b1, b2]
    exact dx_same m c _ bh hd f1 f2
  · rw [b1]
    exact dg_same m c _ bh

end Cert.Kernel5Ideal.Ffn

end
-- ==== Proof.FwdPay.lean ====
/-
  The arithmetic of the feed-forward layer's forward kernel: what its body makes of a block of rows and the four blocks of weights.
-/
module

public import proofs.«01_k».proof.Proof.RmsMath
public import proofs.«01_k».proof.Proof.Gen.Kernel9Ideal.Skeleton
public import Idealize.ShloMosaic.Lib.Tactic
public import Idealize.ShloMosaic.Lib.Pointwise

@[expose] public section

set_option maxRecDepth 16384

noncomputable section

namespace Cert.Kernel9Ideal.Fwd

open Cert.Kernel9Ideal Cert.Kernel9Ideal.Gen Idealize.ShloMosaic Idealize.ShloMosaic.TcCoe Idealize.SL.Sem
open scoped BigOperators

section AnyF

variable {F : FTy → Type} [FloatOps F]

/-- What a point reads of the weights: four blocks each. -/
structure Reads (F : FTy → Type) where
  w1 : Fin 4 → Vec F S1x768x1024 .bf16
  w3 : Fin 4 → Vec F S1x768x1024 .bf16
  w2 : Fin 4 → Vec F S1x768x1024 .bf16

variable (R : Reads F) (x0 : Vec F S512x1024 .f32) (x1 : Vec F S1x1024 .f32)

/-- The blocks of the gate's two inputs that a point stores. -/
def pa : Fin 4 → FVec F S1x512x768 .bf16 :=
  ![k0_pay7 x0 x1 (R.w1 0), k0_pay11 (k0_pay3 x0 x1) (R.w1 1), k0_pay17 (k0_pay3 x0 x1) (k0_pay14 (R.w1 2)), k0_pay22 (k0_pay3 x0 x1) (R.w1 3)]
def pb : Fin 4 → FVec F S1x512x768 .bf16 :=
  ![k0_pay8 x0 x1 (R.w3 0), k0_pay12 (k0_pay3 x0 x1) (R.w3 1), k0_pay18 (k0_pay3 x0 x1) (R.w3 2), k0_pay1 (k0_pay23 (k0_pay3 x0 x1) (R.w3 3))]
/-- The layer's sum after two blocks of hidden units and after three, and the block of the output. -/
def acc1 : FVec F S512x1024 .f32 :=
  k0_pay13 (k0_pay3 x0 x1) (k0_pay4 (F := F)) (k0_pay5 x0 x1 (R.w1 0)) (k0_pay6 x0 x1 (R.w3 0)) (R.w2 0) (R.w1 1) (R.w3 1) (R.w2 1)
def acc2 : FVec F S512x1024 .f32 := k0_pay19 (k0_pay3 x0 x1) (acc1 R x0 x1) (k0_pay14 (R.w1 2)) (R.w3 2) (R.w2 2)
def py : FVec F S512x1024 .f32 :=
  k0_pay2 x0 (acc2 R x0 x1) (k0_pay20 (k0_pay3 x0 x1) (R.w1 3)) (k0_pay21 (k0_pay3 x0 x1) (R.w3 3)) (R.w2 3)

end AnyF

variable (R : Reads Ideal) (x0 : FVec Ideal S512x1024 .f32) (x1 : FVec Ideal S1x1024 .f32)

/-- One half, as the programs have it. -/
abbrev half : EReal := Ideal.ofBits .f32 0x3F000000#32

theorem h_at (r : Fin 512) (k : Fin 1024) : k0_pay3 (F := Ideal) x0 x1 (ix2 r k) = x0 (ix2 r k) * Rms.er (fun k => x0 (ix2 r k)) * x1 (ix2 0 k) := by
  unfold Rms.er; pointwise [k0_pay3]

/-- A hidden unit's input of the gate. -/
def hid (w : Fin 4 → FVec Ideal S1x768x1024 .bf16) (j : Fin 4) (r : Fin 512) (f : Fin 768) : EReal :=
  ∑ k : Fin 1024, x0 (ix2 r k) * Rms.er (fun k => x0 (ix2 r k)) * x1 (ix2 0 k) * w j (ix3 0 f k)

variable (w : Fin 4 → FVec Ideal S1x768x1024 .bf16)

theorem a0_at (r : Fin 512) (f : Fin 768) : k0_pay5 (F := Ideal) x0 x1 (w 0) (ix2 r f) = hid x0 x1 w 0 r f := by
  simp only [hid, ← h_at]; pointwise [k0_pay5]
theorem b0_at (r : Fin 512) (f : Fin 768) : k0_pay6 (F := Ideal) x0 x1 (w 0) (ix2 r f) = hid x0 x1 w 0 r f := by
  simp only [hid, ← h_at]; pointwise [k0_pay6]
theorem a1_at (r : Fin 512) (f : Fin 768) : k0_pay9 (F := Ideal) (k0_pay3 x0 x1) (w 1) (ix2 r f) = hid x0 x1 w 1 r f := by
  simp only [hid, ← h_at]; pointwise [k0_pay9]
theorem b1_at (r : Fin 512) (f : Fin 768) : k0_pay10 (F := Ideal) (k0_pay3 x0 x1) (w 1) (ix2 r f) = hid x0 x1 w 1 r f := by
  simp only [hid, ← h_at]; pointwise [k0_pay10]
theorem a2_at (r : Fin 512) (f : Fin 768) : k0_pay15 (F := Ideal) (k0_pay3 x0 x1) (k0_pay14 (w 2)) (ix2 r f) = hid x0 x1 w 2 r f := by
  simp only [hid, ← h_at]; pointwise [k0_pay15, k0_pay14]
theorem b2_at (r : Fin 512) (f : Fin 768) : k0_pay16 (F := Ideal) (k0_pay3 x0 x1) (w 2) (ix2 r f) = hid x0 x1 w 2 r f := by
  simp only [hid, ← h_at]; pointwise [k0_pay16]
theorem a3_at (r : Fin 512) (f : Fin 768) : k0_pay20 (F := Ideal) (k0_pay3 x0 x1) (w 3) (ix2 r f) = hid x0 x1 w 3 r f := by
  simp only [hid, ← h_at]; pointwise [k0_pay20]
theorem b3_at (r : Fin 512) (f : Fin 768) : k0_pay21 (F := Ideal) (k0_pay3 x0 x1) (w 3) (ix2 r f) = hid x0 x1 w 3 r f := by
  simp only [hid, ← h_at]; pointwise [k0_pay21]

theorem pa_at (j : Fin 4) (r : Fin 512) (f : Fin 768) : pa R x0 x1 j (ix3 0 r f) = hid x0 x1 R.w1 j r f := by
  match j with
  | 0 => rw [← a0_at]; show k0_pay7 _ _ _ _ = _; pointwise [k0_pay7]
  | 1 => rw [← a1_at]; show k0_pay11 _ _ _ = _; pointwise [k0_pay11]
  | 2 => rw [← a2_at]; show k0_pay17 _ _ _ = _; pointwise [k0_pay17]
  | 3 => rw [← a3_at]; show k0_pay22 _ _ _ = _; pointwise [k0_pay22]

theorem pb_at (j : Fin 4) (r : Fin 512) (f : Fin 768) : pb R x0 x1 j (ix3 0 r f) = hid x0 x1 R.w3 j r f := by
  match j with
  | 0 => rw [← b0_at]; show k0_pay8 _ _ _ _ = _; pointwise [k0_pay8]
  | 1 => rw [← b1_at]; show k0_pay12 _ _ _ = _; pointwise [k0_pay12]
  | 2 => rw [← b2_at]; show k0_pay18 _ _ _ = _; pointwise [k0_pay18]
  | 3 => rw [← b3_at]; show k0_pay1 (k0_pay23 (k0_pay3 x0 x1) (R.w3 3)) (ix3 0 r f) = _; pointwise [k0_pay1, k0_pay23]

/-- Block `j`'s part of the layer's sum. -/
def through (j : Fin 4) (r : Fin 512) (l : Fin 1024) : EReal := ∑ f : Fin 768,
  hid x0 x1 R.w1 j r f * Ideal.logistic (hid x0 x1 R.w1 j r f) * hid x0 x1 R.w3 j r f * R.w2 j (ix3 0 f l)

theorem acc1_at (r : Fin 512) (l : Fin 1024) : acc1 R x0 x1 (ix2 r l) = 0 + through R x0 x1 0 r l + through R x0 x1 1 r l := by
  simp only [through, ← a0_at x0 x1 R.w1, ← b0_at x0 x1 R.w3, ← a1_at x0 x1 R.w1, ← b1_at x0 x1 R.w3]
  unfold acc1
  pointwise [k0_pay13, k0_pay4]
theorem acc2_at (r : Fin 512) (l : Fin 1024) : acc2 R x0 x1 (ix2 r l) = acc1 R x0 x1 (ix2 r l) + through R x0 x1 2 r l := by
  simp only [through, ← a2_at x0 x1 R.w1, ← b2_at x0 x1 R.w3]
  unfold acc2
  pointwise [k0_pay19]

/-- The block of the output: the row and half the layer's sum over the blocks. -/
theorem py_at (r : Fin 512) (l : Fin 1024) : py R x0 x1 (ix2 r l) = x0 (ix2 r l) + half * ∑ j, through R x0 x1 j r l := by
  have e : py R x0 x1 (ix2 r l) = x0 (ix2 r l) + half * (acc2 R x0 x1 (ix2 r l) + through R x0 x1 3 r l) := by
    simp only [through, ← a3_at x0 x1 R.w1, ← b3_at x0 x1 R.w3]
    unfold py
    pointwise [k0_pay2]
  rw [e, acc2_at, acc1_at, Fin.sum_univ_four, zero_add]

end Cert.Kernel9Ideal.Fwd

end
-- ==== Proof.FwdBody.lean ====
/-
  What one point of the feed-forward layer's forward kernel leaves, as the arithmetic of the blocks it reads: at the first point,
  which copies the weights, and at a later one, which finds them.
-/
module

public import proofs.«01_k».proof.Proof.FwdPay
public import proofs.«01_k».proof.Proof.FfnBody
public import proofs.«01_k».proof.Proof.Gen.Kernel9Ideal.Frame
public import Idealize.ShloMosaic.Lib.Pipeline.ValueKit.Tiles
public import Idealize.ShloMosaic.Lib.Tactic
public import Idealize.ShloMosaic.Lib.Pointwise

@[expose] public section

set_option maxRecDepth 16384

noncomputable section

namespace Cert.Kernel9Ideal.Fwd

open Cert.Kernel9Ideal Cert.Kernel9Ideal.Gen Idealize.ShloMosaic Idealize.ShloMosaic.TcCoe Idealize.SL.Sem
open Cert.Kernel5Ideal.Ffn (hz cov canon_whole blkW four)
open scoped BigOperators

section AnyF

variable {F : FTy → Type} [FloatOps F]

/-- The blocks a point reads of the weights. -/
def reads (s1 s3 s2 : Vec F S4x768x1024 .bf16) : Reads F := ⟨blkW s1, blkW s3, blkW s2⟩

/-- Four blocks, one on the other. -/
def stack (p : Fin 4 → FVec F S1x512x768 .bf16) : Vec F S4x512x768 .bf16 := fun y => p (y 0) (ix3 0 (y 1) (y 2))

/-- Four stores, a block each, leave the stack. -/
theorem canon_four (p : Fin 4 → FVec F S1x512x768 .bf16) :
    View.canon ([⟨Rect.unit ![3, 0, 0] S1x512x768.size inb_S4x512x768_S1x512x768_3_0_0, p 3⟩,
      ⟨Rect.unit ![2, 0, 0] S1x512x768.size inb_S4x512x768_S1x512x768_2_0_0, p 2⟩,
      ⟨Rect.unit ![1, 0, 0] S1x512x768.size inb_S4x512x768_S1x512x768_1_0_0, p 1⟩,
      ⟨Rect.unit ![0, 0, 0] S1x512x768.size inb_S4x512x768_S1x512x768_0_0_0, p 0⟩] : List (View.Piece (Elt F) S4x512x768 .bf16)) = stack p := by
  funext y
  have key : ∀ (j : Fin 4) (x : S1x512x768.Idx), (∀ a, (y a : Nat) = (![j.val, 0, 0] : Fin 3 → Nat) a + x a) → p j x = stack p y := by
    intro j x h
    have h0 : (y 0 : Nat) = j.val + x 0 := h 0
    have h1 : (y 1 : Nat) = 0 + x 1 := h 1
    have h2 : (y 2 : Nat) = 0 + x 2 := h 2
    have x0 : (x 0 : Nat) = 0 := Nat.lt_one_iff.mp (x 0).isLt
    have ej : y 0 = j := Fin.ext (by omega)
    unfold stack
    rw [ej]
    congr 1
    funext a
    apply Fin.ext
    match a with
    | ⟨0, _⟩ => exact x0
    | ⟨1, _⟩ => show (x 1 : Nat) = y 1; omega
    | ⟨2, _⟩ => show (x 2 : Nat) = y 2; omega
  refine View.canon_eq_of_allAt _ y _ (View.cover_of_tiled_head _ _ _ (by rfl) y) ?_
  exact View.allAt_cons_unit _ _ _ _ _ (key 3) (View.allAt_cons_unit _ _ _ _ _ (key 2) (View.allAt_cons_unit _ _ _ _ _ (key 1)
    (View.allAt_cons_unit _ _ _ _ _ (key 0) (View.allAt_nil _ _))))

variable (c : Dev nD) (i : grid0.Coords) (a1 : Memref sig .tc .vmem S512x1024 .f32) (h1 : a1.IsWhole)
  (a2 : Memref sig .tc .vmem S1x1024 .f32) (h2 : a2.IsWhole) (a6 : Memref sig .tc .vmem S512x1024 .f32) (h6 : a6.IsWhole)
  (a7 a8 : Memref sig .tc .vmem S4x512x768 .bf16) (h7 : a7.IsWhole) (h8 : a8.IsWhole)
  (a9 a10 a11 : Memref sig .tc .vmem S4x768x1024 .bf16) (h9 : a9.IsWhole) (h10 : a10.IsWhole) (h11 : a11.IsWhole)
  (x0 : Vec F S512x1024 .f32) (x1 : Vec F S1x1024 .f32)
  (fh0 : HbBuf0 (F := F) c hbM0_0) (fh1 : HbBuf0 (F := F) c hbM0_1) (fh2 : HbBuf0 (F := F) c hbM0_2)

/-- The block of the output at the first point; -/
theorem out_A_2 (hc0 : cond0_0 i) :
    out0_A_2 c i a1 h1 a2 h2 a6 h6 a7 h7 a8 h8 a9 h9 a10 h10 a11 h11 hc0 x0 x1 fh0 fh1 fh2
      = py (reads (four fh0) (four fh1) (four fh2)) x0 x1 := by
  unfold out0_A_2
  rw [View.read_writes_eq_canon _ _ _ (cover0_A_2 c i a1 h1 a2 h2 a6 h6 a7 h7 a8 h8 a9 h9 a10 h10 a11 h11 hc0 x0 x1 fh0 fh1 fh2)]
  unfold kernelRun0_A
  dsimp only
  sl_unfold_words
  rw [View.canon_unit_zero hz]
  simp only [View.readAt_eq_ld, h1.read_unread, h2.read_unread, cov, View.ld_unit_zero (S := S512x1024) hz,
    View.ld_unit_zero (S := S1x1024) hz]
  rfl

/-- the blocks of the gate's inputs. -/
theorem out_A_3 (hc0 : cond0_0 i) :
    out0_A_3 c i a1 h1 a2 h2 a6 h6 a7 h7 a8 h8 a9 h9 a10 h10 a11 h11 hc0 x0 x1 fh0 fh1 fh2
      = stack (pa (reads (four fh0) (four fh1) (four fh2)) x0 x1) := by
  unfold out0_A_3
  rw [View.read_writes_eq_canon _ _ _ (cover0_A_3 c i a1 h1 a2 h2 a6 h6 a7 h7 a8 h8 a9 h9 a10 h10 a11 h11 hc0 x0 x1 fh0 fh1 fh2)]
  unfold kernelRun0_A
  dsimp only
  sl_unfold_words
  simp only [View.readAt_eq_ld, h1.read_unread, h2.read_unread, cov, View.ld_unit_zero (S := S512x1024) hz,
    View.ld_unit_zero (S := S1x1024) hz]
  exact canon_four (pa (reads (four fh0) (four fh1) (four fh2)) x0 x1)

theorem out_A_4 (hc0 : cond0_0 i) :
    out0_A_4 c i a1 h1 a2 h2 a6 h6 a7 h7 a8 h8 a9 h9 a10 h10 a11 h11 hc0 x0 x1 fh0 fh1 fh2
      = stack (pb (reads (four fh0) (four fh1) (four fh2)) x0 x1) := by
  unfold out0_A_4
  rw [View.read_writes_eq_canon _ _ _ (cover0_A_4 c i a1 h1 a2 h2 a6 h6 a7 h7 a8 h8 a9 h9 a10 h10 a11 h11 hc0 x0 x1 fh0 fh1 fh2)]
  unfold kernelRun0_A
  dsimp only
  sl_unfold_words
  simp only [View.readAt_eq_ld, h1.read_unread, h2.read_unread, cov, View.ld_unit_zero (S := S512x1024) hz,
    View.ld_unit_zero (S := S1x1024) hz]
  exact canon_four (pb (reads (four fh0) (four fh1) (four fh2)) x0 x1)

variable (s1 s3 s2 : Vec F S4x768x1024 .bf16)

/-- The three at a later point. -/
theorem out_B_2 (hc0 : ¬cond0_0 i) :
    out0_B_2 c i a1 h1 a2 h2 a6 h6 a7 h7 a8 h8 a9 h9 a10 h10 a11 h11 hc0 x0 x1 s1 s3 s2 fh0 fh1 fh2 = py (reads s1 s3 s2) x0 x1 := by
  unfold out0_B_2
  rw [View.read_writes_eq_canon _ _ _ (cover0_B_2 c i a1 h1 a2 h2 a6 h6 a7 h7 a8 h8 a9 h9 a10 h10 a11 h11 hc0 x0 x1 s1 s3 s2 fh0 fh1 fh2)]
  unfold kernelRun0_B
  dsimp only
  sl_unfold_words
  rw [View.canon_unit_zero hz]
  simp only [View.readAt_eq_ld, h1.read_unread, h2.read_unread, h9.read_unread, h10.read_unread, h11.read_unread,
    View.ld_unit_zero (S := S512x1024) hz, View.ld_unit_zero (S := S1x1024) hz]
  rfl

theorem out_B_3 (hc0 : ¬cond0_0 i) :
    out0_B_3 c i a1 h1 a2 h2 a6 h6 a7 h7 a8 h8 a9 h9 a10 h10 a11 h11 hc0 x0 x1 s1 s3 s2 fh0 fh1 fh2 = stack (pa (reads s1 s3 s2) x0 x1) := by
  unfold out0_B_3
  rw [View.read_writes_eq_canon _ _ _ (cover0_B_3 c i a1 h1 a2 h2 a6 h6 a7 h7 a8 h8 a9 h9 a10 h10 a11 h11 hc0 x0 x1 s1 s3 s2 fh0 fh1 fh2)]
  unfold kernelRun0_B
  dsimp only
  sl_unfold_words
  simp only [View.readAt_eq_ld, h1.read_unread, h2.read_unread, h9.read_unread, h10.read_unread, h11.read_unread,
    View.ld_unit_zero (S := S512x1024) hz, View.ld_unit_zero (S := S1x1024) hz]
  exact canon_four (pa (reads s1 s3 s2) x0 x1)

theorem out_B_4 (hc0 : ¬cond0_0 i) :
    out0_B_4 c i a1 h1 a2 h2 a6 h6 a7 h7 a8 h8 a9 h9 a10 h10 a11 h11 hc0 x0 x1 s1 s3 s2 fh0 fh1 fh2 = stack (pb (reads s1 s3 s2) x0 x1) := by
  unfold out0_B_4
  rw [View.read_writes_eq_canon _ _ _ (cover0_B_4 c i a1 h1 a2 h2 a6 h6 a7 h7 a8 h8 a9 h9 a10 h10 a11 h11 hc0 x0 x1 s1 s3 s2 fh0 fh1 fh2)]
  unfold kernelRun0_B
  dsimp only
  sl_unfold_words
  simp only [View.readAt_eq_ld, h1.read_unread, h2.read_unread, h9.read_unread, h10.read_unread, h11.read_unread,
    View.ld_unit_zero (S := S512x1024) hz, View.ld_unit_zero (S := S1x1024) hz]
  exact canon_four (pb (reads s1 s3 s2) x0 x1)

/-- What the first point leaves of the weights. -/
theorem sout_A_0 (hc0 : cond0_0 i) :
    sout0_A_0 c i a1 h1 a2 h2 a6 h6 a7 h7 a8 h8 a9 h9 a10 h10 a11 h11 hc0 x0 x1 fh0 fh1 fh2 = four fh0 := by
  unfold sout0_A_0
  rw [View.read_writes_eq_canon _ _ _ (scover0_A_0 c i a1 h1 a2 h2 a6 h6 a7 h7 a8 h8 a9 h9 a10 h10 a11 h11 hc0 x0 x1 fh0 fh1 fh2)]
  unfold kernelRun0_A
  dsimp only
  sl_unfold_words
  exact canon_whole _

theorem sout_A_1 (hc0 : cond0_0 i) :
    sout0_A_1 c i a1 h1 a2 h2 a6 h6 a7 h7 a8 h8 a9 h9 a10 h10 a11 h11 hc0 x0 x1 fh0 fh1 fh2 = four fh1 := by
  unfold sout0_A_1
  rw [View.read_writes_eq_canon _ _ _ (scover0_A_1 c i a1 h1 a2 h2 a6 h6 a7 h7 a8 h8 a9 h9 a10 h10 a11 h11 hc0 x0 x1 fh0 fh1 fh2)]
  unfold kernelRun0_A
  dsimp only
  sl_unfold_words
  exact canon_whole _

theorem sout_A_2 (hc0 : cond0_0 i) :
    sout0_A_2 c i a1 h1 a2 h2 a6 h6 a7 h7 a8 h8 a9 h9 a10 h10 a11 h11 hc0 x0 x1 fh0 fh1 fh2 = four fh2 := by
  unfold sout0_A_2
  rw [View.read_writes_eq_canon _ _ _ (scover0_A_2 c i a1 h1 a2 h2 a6 h6 a7 h7 a8 h8 a9 h9 a10 h10 a11 h11 hc0 x0 x1 fh0 fh1 fh2)]
  unfold kernelRun0_A
  dsimp only
  sl_unfold_words
  exact canon_whole _

end AnyF

end Cert.Kernel9Ideal.Fwd

end
-- ==== Proof.FwdValue.lean ====
/-
  What the feed-forward layer's forward kernel leaves: the output and the gate's two inputs, block by block, of the arrays its call
  takes.
-/
module

public import proofs.«01_k».proof.Proof.FwdBody
public import proofs.«01_k».proof.Proof.FfnValue
public import Idealize.ShloMosaic.Lib.Pipeline.Value

@[expose] public section

set_option maxRecDepth 16384

noncomputable section

namespace Cert.Kernel9Ideal.Fwd

open Cert.Kernel9Ideal Cert.Kernel9Ideal.Gen Idealize.ShloMosaic Idealize.ShloMosaic.TcCoe Idealize.SL.Sem
open Cert.Kernel5Ideal.Ffn (four blkW_at)
open Idealize.ShloMosaic.Pipeline (Dat)
open scoped BigOperators

variable (m : (ℓ : Loc nD τ sig) → Buf (Elt Ideal) ℓ)

/-- The call's arrays: the rows, the gain, the weights. -/
abbrev X (c : Dev nD) : FVec Ideal S4096x1024 .f32 := V m c main_arg0
abbrev G (c : Dev nD) : FVec Ideal S1x1024 .f32 := V m c main_arg1
abbrev W1 (c : Dev nD) : FVec Ideal S4x768x1024 .bf16 := four (V m c main_v5)
abbrev W3 (c : Dev nD) : FVec Ideal S4x768x1024 .bf16 := four (V m c main_v8)
abbrev W2 (c : Dev nD) : FVec Ideal S4x768x1024 .bf16 := four (V m c main_v10)

/-- Row `a` of block `t`, in the whole array. -/
abbrev row (t : Fin cfg0.N) (a : Fin 512) : Fin 4096 := ⟨512 * t.val + a.val, by have := t.isLt; have : cfg0.N = 8 := N_0; omega⟩

theorem idx_row : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = 0 ∧ win0_4.index t 1 = t.val ∧ win0_4.index t 2 = 0) :=
  (by decide +kernel : ∀ t : Fin grid0.N, _)

theorem blk0 (c : Dev nD) (t : Fin cfg0.N) (a : Fin 512) (b : Fin 1024) :
    (iblk m c 0 t : FVec Ideal S512x1024 .f32) (ix2 a b) = X m c (ix2 (row t a) b) := by
  have h := (idx_row t).1
  unfold iblk
  rw [View.read_apply]
  show V m c main_arg0 _ = V m c main_arg0 _
  congr 1
  funext x
  apply Fin.ext
  match x with
  | ⟨0, _⟩ => show win0_0.index t 0 * 512 + 1 * a.val = 512 * t.val + a.val; rw [h.1]; omega
  | ⟨1, _⟩ => show win0_0.index t 1 * 1024 + 1 * b.val = b.val; rw [h.2]; omega

theorem blk1 (c : Dev nD) (t : Fin cfg0.N) (a : Fin 1) (b : Fin 1024) :
    (iblk m c 1 t : FVec Ideal S1x1024 .f32) (ix2 a b) = G m c (ix2 (0) b) := by
  have h := (idx_row t).2.1
  unfold iblk
  rw [View.read_apply]
  show V m c main_arg1 _ = V m c main_arg1 _
  congr 1
  funext x
  apply Fin.ext
  match x with
  | ⟨0, _⟩ => show win0_1.index t 0 * 1 + 1 * a.val = 0; rw [h.1]; omega
  | ⟨1, _⟩ => show win0_1.index t 1 * 1024 + 1 * b.val = b.val; rw [h.2]; omega

/-- A hidden unit's input of the gate at a row, for the weights `w`. -/
def inp (c : Dev nD) (w : FVec Ideal S4x768x1024 .bf16) (j : Fin 4) (r : Fin 4096) (f : Fin 768) : EReal :=
  ∑ k : Fin 1024, X m c (ix2 r k) * Rms.er (fun k => X m c (ix2 r k)) * G m c (ix2 0 k) * w (ix3 j f k)

/-- The three results: the gate's inputs, and the rows with half the layer's sum. -/
def av (c : Dev nD) : FVec Ideal S4x4096x768 .bf16 := fun i => inp m c (W1 m c) (i 0) (i 1) (i 2)
def bv (c : Dev nD) : FVec Ideal S4x4096x768 .bf16 := fun i => inp m c (W3 m c) (i 0) (i 1) (i 2)
def yv (c : Dev nD) : FVec Ideal S4096x1024 .f32 := fun i => X m c i + half * ∑ j : Fin 4, ∑ f : Fin 768,
  inp m c (W1 m c) j (i 0) f * Ideal.logistic (inp m c (W1 m c) j (i 0) f) * inp m c (W3 m c) j (i 0) f * W2 m c (ix3 j f (i 1))

/-- What a point reads. -/
abbrev rd (c : Dev nD) : Reads Ideal := reads (F := Ideal) (W1 m c) (W3 m c) (W2 m c)

theorem hid1_row (c : Dev nD) (t : Fin cfg0.N) (j : Fin 4) (a : Fin 512) (f : Fin 768) :
    hid (iblk m c 0 t) (iblk m c 1 t) (rd m c).w1 j a f = inp m c (W1 m c) j (row t a) f := by
  simp only [hid, reads, blkW_at, blk0, blk1]; rfl
theorem hid3_row (c : Dev nD) (t : Fin cfg0.N) (j : Fin 4) (a : Fin 512) (f : Fin 768) :
    hid (iblk m c 0 t) (iblk m c 1 t) (rd m c).w3 j a f = inp m c (W3 m c) j (row t a) f := by
  simp only [hid, reads, blkW_at, blk0, blk1]; rfl

/-- The weights lie in the scratch after every point. -/
theorem outs_w (c : Dev nD) : ∀ (n : ℕ) (h : n < cfg0.N), (outsAt0 m c n h).2.2.2.1 = W1 m c
    ∧ (outsAt0 m c n h).2.2.2.2.1 = W3 m c ∧ (outsAt0 m c n h).2.2.2.2.2 = W2 m c
  | 0, h => by
    rw [outsAt0_A m c ⟨0, h⟩ rfl]
    dsimp only
    exact ⟨sout_A_0 .., sout_A_1 .., sout_A_2 ..⟩
  | n + 1, h => by
    have hN : cfg0.N = 8 := N_0
    have hB : ¬(⟨n + 1, h⟩ : Fin cfg0.N).val % 8 = 0 := by dsimp only; omega
    rw [outsAt0_B m c ⟨n + 1, h⟩ hB]
    dsimp only
    exact outs_w c n (Nat.lt_of_succ_lt h)

/-- What the three outputs' buffers hold after a point. -/
theorem outs_eq (c : Dev nD) (t : Fin cfg0.N) : (outsAt0 m c t.val t.isLt).1 = py (rd m c) (iblk m c 0 t) (iblk m c 1 t)
    ∧ (outsAt0 m c t.val t.isLt).2.1 = stack (pa (rd m c) (iblk m c 0 t) (iblk m c 1 t))
    ∧ (outsAt0 m c t.val t.isLt).2.2.1 = stack (pb (rd m c) (iblk m c 0 t) (iblk m c 1 t)) := by
  by_cases h0 : t.val % 8 = 0
  · rw [outsAt0_A m c t h0]; dsimp only; exact ⟨out_A_2 .., out_A_3 .., out_A_4 ..⟩
  · obtain ⟨e1, e3, e2⟩ := outs_w m c (t.val - 1) (Nat.lt_of_le_of_lt (Nat.sub_le _ _) t.isLt)
    rw [outsAt0_B m c t h0]; dsimp only; rw [out_B_2, out_B_3, out_B_4, e1, e3, e2]; exact ⟨rfl, rfl, rfl⟩

/-- One block's part of the layer's sum. -/
theorem through_row (c : Dev nD) (t : Fin cfg0.N) (j : Fin 4) (a : Fin 512) (b : Fin 1024) :
    through (rd m c) (iblk m c 0 t) (iblk m c 1 t) j a b = ∑ f : Fin 768, inp m c (W1 m c) j (row t a) f
      * Ideal.logistic (inp m c (W1 m c) j (row t a) f) * inp m c (W3 m c) j (row t a) f * W2 m c (ix3 j f b) := by
  unfold through
  refine Finset.sum_congr rfl fun f _ => ?_
  rw [hid1_row, hid3_row]
  exact congrArg _ (blkW_at (W2 m c) j f b)

theorem outs_y (c : Dev nD) (t : Fin cfg0.N) (a : Fin 512) (b : Fin 1024) :
    (outsAt0 m c t.val t.isLt).1 (ix2 a b) = yv m c (ix2 (row t a) b) := by
  rw [(outs_eq m c t).1, py_at, blk0]
  exact congrArg (fun s => X m c (ix2 (row t a) b) + half * s) (Finset.sum_congr rfl fun j _ => through_row m c t j a b)
theorem outs_a (c : Dev nD) (t : Fin cfg0.N) (j : Fin 4) (a : Fin 512) (f : Fin 768) :
    (outsAt0 m c t.val t.isLt).2.1 (ix3 j a f) = av m c (ix3 j (row t a) f) := by
  rw [(outs_eq m c t).2.1]
  exact (pa_at _ _ _ j a f).trans (hid1_row m c t j a f)
theorem outs_b (c : Dev nD) (t : Fin cfg0.N) (j : Fin 4) (a : Fin 512) (f : Fin 768) :
    (outsAt0 m c t.val t.isLt).2.2.1 (ix3 j a f) = bv m c (ix3 j (row t a) f) := by
  rw [(outs_eq m c t).2.2]
  exact (pb_at _ _ _ j a f).trans (hid3_row m c t j a f)

/-- Every point writes its blocks, and the blocks are the whole arrays: of the output, -/
theorem flushed_y (c : Dev nD) (t : Fin cfg0.N) (_ : (cfg0.win 2).flush t = true) :
    (dats m 0 c).flushed 2 t = ((cfg0.win 2).blk t).view.read (Elt Ideal) (yv m c) := by
  show (cfg0.win 2).cut (grid0.coords t) ((dats m 0 c).after 2 t) = _
  rw [after0_2]
  funext j
  have h := (idx_row t).2.2.1
  have e : j = ix2 (n0 := 512) (n1 := 1024) ⟨(j 0).val, (j 0).isLt⟩ ⟨(j 1).val, (j 1).isLt⟩ := by
    funext x
    match x with
    | ⟨0, _⟩ => rfl
    | ⟨1, _⟩ => rfl
  rw [View.read_apply]
  show (outsAt0 m c t.val t.isLt).1 j = yv m c _
  rw [e, outs_y m c t]
  congr 1
  funext x
  apply Fin.ext
  match x with
  | ⟨0, _⟩ => show 512 * t.val + (j 0).val = win0_2.index t 0 * 512 + 1 * (j 0).val; rw [h.1]; omega
  | ⟨1, _⟩ => show (j 1).val = win0_2.index t 1 * 1024 + 1 * (j 1).val; rw [h.2]; omega

theorem size_2 : ∀ t : Fin cfg0.N, win0_2.size 0 = 512 ∧ win0_2.size 1 = 1024 ∧ win0_2.xsize (grid0.coords t) 0 = 512
    ∧ win0_2.xsize (grid0.coords t) 1 = 1024 ∧ (cfg0.win 2).flush t = true :=
  (by decide +kernel : ∀ t : Fin grid0.N, _)

theorem final_y (c : Dev nD) : (dats m 0 c).arrAt 2 cfg0.N = yv m c :=
  (dats m 0 c).arrAt_eq_of_cover 2 (yv m c) (flushed_y m c) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨s0, s1, x0, x1, hf⟩ := size_2 t
    have hi := (idx_row t).2.2.1
    have ht : t.val = (i 0 : Nat) / 512 := rfl
    refine ⟨t, hf, ?_⟩
    show i ∈ ((View.whole main_v11_0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [hi.1, s0, x0]; omega
    | ⟨1, _⟩ => show win0_2.index t 1 * win0_2.size 1 ≤ (i 1 : Nat) ∧ (i 1 : Nat) < win0_2.index t 1 * win0_2.size 1 + win0_2.xsize (grid0.coords t) 1
                rw [hi.2, s1, x1]; omega

/-- An index of a block of the gate's inputs by its three parts. -/
theorem ix_eta (j : S4x512x768.Idx) : j = ix3 (n0 := 4) (n1 := 512) (n2 := 768) (j 0) (j 1) (j 2) := by
  funext x
  match x with
  | ⟨0, _⟩ => rfl
  | ⟨1, _⟩ => rfl
  | ⟨2, _⟩ => rfl

/-- of the gate's first input, -/
theorem flushed_a (c : Dev nD) (t : Fin cfg0.N) (_ : (cfg0.win 3).flush t = true) :
    (dats m 0 c).flushed 3 t = ((cfg0.win 3).blk t).view.read (Elt Ideal) (av m c) := by
  show (cfg0.win 3).cut (grid0.coords t) ((dats m 0 c).after 3 t) = _
  rw [after0_3]
  funext j
  have h := (idx_row t).2.2.2.1
  rw [View.read_apply]
  show (outsAt0 m c t.val t.isLt).2.1 j = av m c _
  refine (congrArg _ (ix_eta j)).trans ((outs_a m c t (j 0) (j 1) (j 2)).trans ?_)
  congr 1
  funext x
  apply Fin.ext
  match x with
  | ⟨0, _⟩ => show (j 0).val = win0_3.index t 0 * 4 + 1 * (j 0).val; rw [h.1]; omega
  | ⟨1, _⟩ => show 512 * t.val + (j 1).val = win0_3.index t 1 * 512 + 1 * (j 1).val; rw [h.2.1]; omega
  | ⟨2, _⟩ => show (j 2).val = win0_3.index t 2 * 768 + 1 * (j 2).val; rw [h.2.2]; omega

theorem size_3 : ∀ t : Fin cfg0.N, (win0_3.size 0 = 4 ∧ win0_3.size 1 = 512 ∧ win0_3.size 2 = 768) ∧ (win0_3.xsize (grid0.coords t) 0 = 4
    ∧ win0_3.xsize (grid0.coords t) 1 = 512 ∧ win0_3.xsize (grid0.coords t) 2 = 768) ∧ (cfg0.win 3).flush t = true :=
  (by decide +kernel : ∀ t : Fin grid0.N, _)

theorem final_a (c : Dev nD) : (dats m 0 c).arrAt 3 cfg0.N = av m c :=
  (dats m 0 c).arrAt_eq_of_cover 3 (av m c) (flushed_a m c) fun i => by
    have h0 : (i 0 : Nat) < 4 := (i 0).isLt
    have h1 : (i 1 : Nat) < 4096 := (i 1).isLt
    have h2 : (i 2 : Nat) < 768 := (i 2).isLt
    have hN : cfg0.N = 8 := N_0
    let t : Fin cfg0.N := ⟨(i 1 : Nat) / 512, by omega⟩
    obtain ⟨⟨s0, s1, s2⟩, ⟨x0, x1, x2⟩, hf⟩ := size_3 t
    have hi := (idx_row t).2.2.2.1
    have ht : t.val = (i 1 : Nat) / 512 := rfl
    refine ⟨t, hf, ?_⟩
    show i ∈ ((View.whole main_v11_1).slice (win0_3.rect t)).set
    rw [View.set_slice_whole, Rect.mem_set_unit]
    intro a
    match a with
    | ⟨0, _⟩ => show win0_3.index t 0 * win0_3.size 0 ≤ (i 0 : Nat) ∧ (i 0 : Nat) < win0_3.index t 0 * win0_3.size 0 + win0_3.xsize (grid0.coords t) 0
                rw [hi.1, s0, x0]; omega
    | ⟨1, _⟩ => show win0_3.index t 1 * win0_3.size 1 ≤ (i 1 : Nat) ∧ (i 1 : Nat) < win0_3.index t 1 * win0_3.size 1 + win0_3.xsize (grid0.coords t) 1
                rw [hi.2.1, s1, x1]; omega
    | ⟨2, _⟩ => show win0_3.index t 2 * win0_3.size 2 ≤ (i 2 : Nat) ∧ (i 2 : Nat) < win0_3.index t 2 * win0_3.size 2 + win0_3.xsize (grid0.coords t) 2
                rw [hi.2.2, s2, x2]; omega

/-- and of its second. -/
theorem flushed_b (c : Dev nD) (t : Fin cfg0.N) (_ : (cfg0.win 4).flush t = true) :
    (dats m 0 c).flushed 4 t = ((cfg0.win 4).blk t).view.read (Elt Ideal) (bv m c) := by
  show (cfg0.win 4).cut (grid0.coords t) ((dats m 0 c).after 4 t) = _
  rw [after0_4]
  funext j
  have h := (idx_row t).2.2.2.2
  rw [View.read_apply]
  show (outsAt0 m c t.val t.isLt).2.2.1 j = bv m c _
  refine (congrArg _ (ix_eta j)).trans ((outs_b m c t (j 0) (j 1) (j 2)).trans ?_)
  congr 1
  funext x
  apply Fin.ext
  match x with
  | ⟨0, _⟩ => show (j 0).val = win0_4.index t 0 * 4 + 1 * (j 0).val; rw [h.1]; omega
  | ⟨1, _⟩ => show 512 * t.val + (j 1).val = win0_4.index t 1 * 512 + 1 * (j 1).val; rw [h.2.1]; omega
  | ⟨2, _⟩ => show (j 2).val = win0_4.index t 2 * 768 + 1 * (j 2).val; rw [h.2.2]; omega

theorem size_4 : ∀ t : Fin cfg0.N, (win0_4.size 0 = 4 ∧ win0_4.size 1 = 512 ∧ win0_4.size 2 = 768) ∧ (win0_4.xsize (grid0.coords t) 0 = 4
    ∧ win0_4.xsize (grid0.coords t) 1 = 512 ∧ win0_4.xsize (grid0.coords t) 2 = 768) ∧ (cfg0.win 4).flush t = true :=
  (by decide +kernel : ∀ t : Fin grid0.N, _)

theorem final_b (c : Dev nD) : (dats m 0 c).arrAt 4 cfg0.N = bv m c :=
  (dats m 0 c).arrAt_eq_of_cover 4 (bv m c) (flushed_b m c) fun i => by
    have h0 : (i 0 : Nat) < 4 := (i 0).isLt
    have h1 : (i 1 : Nat) < 4096 := (i 1).isLt
    have h2 : (i 2 : Nat) < 768 := (i 2).isLt
    have hN : cfg0.N = 8 := N_0
    let t : Fin cfg0.N := ⟨(i 1 : Nat) / 512, by omega⟩
    obtain ⟨⟨s0, s1, s2⟩, ⟨x0, x1, x2⟩, hf⟩ := size_4 t
    have hi := (idx_row t).2.2.2.2
    have ht : t.val = (i 1 : Nat) / 512 := rfl
    refine ⟨t, hf, ?_⟩
    show i ∈ ((View.whole main_v11_2).slice (win0_4.rect t)).set
    rw [View.set_slice_whole, Rect.mem_set_unit]
    intro a
    match a with
    | ⟨0, _⟩ => show win0_4.index t 0 * win0_4.size 0 ≤ (i 0 : Nat) ∧ (i 0 : Nat) < win0_4.index t 0 * win0_4.size 0 + win0_4.xsize (grid0.coords t) 0
                rw [hi.1, s0, x0]; omega
    | ⟨1, _⟩ => show win0_4.index t 1 * win0_4.size 1 ≤ (i 1 : Nat) ∧ (i 1 : Nat) < win0_4.index t 1 * win0_4.size 1 + win0_4.xsize (grid0.coords t) 1
                rw [hi.2.1, s1, x1]; omega
    | ⟨2, _⟩ => show win0_4.index t 2 * win0_4.size 2 ≤ (i 2 : Nat) ∧ (i 2 : Nat) < win0_4.index t 2 * win0_4.size 2 + win0_4.xsize (grid0.coords t) 2
                rw [hi.2.2, s2, x2]; omega

end Cert.Kernel9Ideal.Fwd

end
-- ==== Proof.FwdClaim.lean ====
/-
  The feed-forward layer's forward call is the reference's layer: its output and the gate's two inputs agree for all arrays. A
  sum over the padded shards is the sum over the hidden units, and a unit of the padding has input zero.
-/
module

public import proofs.«01_k».proof.Proof.FwdValue
public import proofs.«01_k».proof.Proof.FfnHost
public import proofs.«01_k».proof.Proof.FfnRef
public import proofs.«01_k».proof.Proof.Gen.Reference9Ideal.Run
public import Idealize.ShloMosaic.Lib.KernelVsHost

@[expose] public section

set_option maxRecDepth 16384

noncomputable section

/-! ## The reference -/

namespace Cert.Reference9Ideal.Fwd

open Cert.Reference9Ideal Cert.Reference9Ideal.Gen Idealize.ShloMosaic Idealize.ShloMosaic.TcCoe Idealize.SL.Sem
open Cert.Reference5Ideal.Ffn (hR upR sgR)
open scoped BigOperators

/-- The layer: the rows and half the hidden units' sum. -/
def yR (x : FVec Ideal S4096x1024 .f32) (a b : FVec Ideal S4096x2816 .f32) (w2 : FVec Ideal S2816x1024 .f32) : FVec Ideal S4096x1024 .f32 :=
  addf x (mulf (broadcastInDim S4096x1024 ![] bcast_S_S4096x1024 (constant S_ .f32 0x3F000000#32 : FVec Ideal S_ .f32))
    (Host.dotGeneral (φ₁ := .f32) (φ₂ := .f32) dot_S4096x2816_S2816x1024_S4096x1024_1_0_0_1_n_n none (mulf (mulf a (sgR a)) b) w2))

/-- The hidden units of every row split into blocks of two shards, each with zeros after it. -/
def padR (a : FVec Ideal S4096x2816 .f32) : FVec Ideal S4096x4x2x384 .f32 :=
  pad S4096x4x2x384 ![0, 0, 0, 0] ![0, 0, 0, 32] ![0, 0, 0, 0] (shapeCast S4096x4x2x352 a shapeCasts_S4096x2816_S4096x4x2x352)
    (sitofp .f32 (constantI S_ 32 0#32) : FVec Ideal S_ .f32) pads_S4096x4x2x352_S4096x4x2x384_000_000_000_0320 h_S_
/-- The same, a block of all rows after the other. -/
def shardR (a : FVec Ideal S4096x2816 .f32) : FVec Ideal S4x4096x768 .bf16 :=
  truncf .bf16 (transpose S4x4096x768 [1, 0, 2] (shapeCast S4096x4x768 (padR a) shapeCasts_S4096x4x2x384_S4096x4x768 : FVec Ideal S4096x4x768 .f32)
    transposes_S4096x4x768_S4x4096x768_1_0_2 : FVec Ideal S4x4096x768 .f32) bitsLt_bf16_f32

theorem yR_at (x : FVec Ideal S4096x1024 .f32) (a b : FVec Ideal S4096x2816 .f32) (w2 : FVec Ideal S2816x1024 .f32) (r : Fin 4096) (l : Fin 1024) :
    yR x a b w2 (ix2 r l) = x (ix2 r l) + Ideal.ofBits .f32 0x3F000000#32 * ∑ u : Fin 2816,
      a (ix2 r u) * Ideal.logistic (a (ix2 r u)) * b (ix2 r u) * w2 (ix2 u l) := by
  simp only [← Cert.Reference5Ideal.Ffn.sgR_at]
  unfold yR
  pointwise []

/-- A hidden unit in its block, and the padding. -/
theorem shardR_at (a : FVec Ideal S4096x2816 .f32) (j : Fin 4) (r : Fin 4096) (f : Fin 768) : shardR a (ix3 j r f)
    = padR a (ix4 r j ⟨f.val / 384, by have := f.isLt; omega⟩ ⟨f.val % 384, Nat.mod_lt _ (by norm_num)⟩) := by
  have e : shardR a (ix3 j r f) = (shapeCast S4096x4x768 (padR a) shapeCasts_S4096x4x2x384_S4096x4x768 : FVec Ideal S4096x4x768 .f32) (ix3 r j f) := by
    unfold shardR; pointwise []
  rw [e]
  refine shapeCast_apply _ _ _ _ ?_
  have := f.isLt
  refine (Shape.rowMajor_val_four _).trans (Eq.trans ?_ (Shape.rowMajor_val_three _).symm)
  show ((r.val * 4 + j.val) * 2 + f.val / 384) * 384 + f.val % 384 = (r.val * 4 + j.val) * 768 + f.val
  omega

theorem shardR_unit (a : FVec Ideal S4096x2816 .f32) (r : Fin 4096) (u : Fin 2816) :
    shardR a (ix3 (Cert.Ffn.blk u) r (Cert.Ffn.pos u)) = a (ix2 r u) := by
  rw [shardR_at]
  unfold padR
  have := u.isLt
  have h1 : (Cert.Ffn.blk u).val = u.val / 704 := rfl
  have h2 : (Cert.Ffn.pos u).val = u.val / 352 % 2 * 384 + u.val % 352 := rfl
  refine (pad_apply_of_inside _ _ _ _ _ _ _ _ (ix4 r (Cert.Ffn.blk u) ⟨u.val / 352 % 2, Nat.mod_lt _ (by norm_num)⟩
    ⟨u.val % 352, Nat.mod_lt _ (by norm_num)⟩) fun x => ?_).trans ?_
  · match x with
    | ⟨0, _⟩ => show r.val = 0 + r.val * (0 + 1); omega
    | ⟨1, _⟩ => show (Cert.Ffn.blk u).val = 0 + (Cert.Ffn.blk u).val * (0 + 1); omega
    | ⟨2, _⟩ => show (Cert.Ffn.pos u).val / 384 = 0 + u.val / 352 % 2 * (0 + 1); omega
    | ⟨3, _⟩ => show (Cert.Ffn.pos u).val % 384 = 0 + u.val % 352 * (0 + 1); omega
  · refine shapeCast_apply _ _ _ _ ?_
    refine (Shape.rowMajor_val_two _).trans (Eq.trans ?_ (Shape.rowMajor_val_four _).symm)
    show r.val * 2816 + u.val = ((r.val * 4 + (Cert.Ffn.blk u).val) * 2 + u.val / 352 % 2) * 352 + u.val % 352
    omega

theorem shardR_pad (a : FVec Ideal S4096x2816 .f32) (j : Fin 4) (r : Fin 4096) (f : Fin 768) (h : 352 ≤ f.val % 384) :
    shardR a (ix3 j r f) = 0 := by
  rw [shardR_at]
  unfold padR
  refine (pad_apply_of_not_inside _ _ _ _ _ _ _ _ 3 ?_).trans ?_
  · show ¬(0 ≤ f.val % 384 ∧ (f.val % 384 - 0) % (0 + 1) = 0 ∧ (f.val % 384 - 0) / (0 + 1) < 352)
    omega
  · show (((0#32 : BitVec 32).toInt : ℝ) : EReal) = 0
    simp

variable (m : (ℓ : Loc nD τ sig) → Buf (Elt Ideal) ℓ)

abbrev aX (c : Dev nD) : FVec Ideal S4096x1024 .f32 := m ((c.tc : Thread nD τ).loc main_arg0)
abbrev aG (c : Dev nD) : FVec Ideal S1x1024 .f32 := m ((c.tc : Thread nD τ).loc main_arg1)
abbrev aW1 (c : Dev nD) : FVec Ideal S1024x2816 .f32 := m ((c.tc : Thread nD τ).loc main_arg2)
abbrev aW3 (c : Dev nD) : FVec Ideal S1024x2816 .f32 := m ((c.tc : Thread nD τ).loc main_arg3)
abbrev aW2 (c : Dev nD) : FVec Ideal S2816x1024 .f32 := m ((c.tc : Thread nD τ).loc main_arg4)

/-- The reference's program ends with the layer and the gate's inputs in blocks. -/
theorem run (ρ : Dev nD → PrngReg) : θ_run defs (onTc (τ := τ) (main (F := Ideal))) ⟨m, fun _ => 0, ρ⟩ fun r => ∀ c : Dev nD,
    r.2.mem ((c.tc : Thread nD τ).loc main_v21) = yR (aX m c) (upR (hR (aX m c) (aG m c)) (aW1 m c)) (upR (hR (aX m c) (aG m c)) (aW3 m c)) (aW2 m c)
    ∧ r.2.mem ((c.tc : Thread nD τ).loc main_v27) = shardR (upR (hR (aX m c) (aG m c)) (aW1 m c))
    ∧ r.2.mem ((c.tc : Thread nD τ).loc main_v33) = shardR (upR (hR (aX m c) (aG m c)) (aW3 m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run _ _ _).mono (fun r h c => ⟨(h c).1.trans rfl, (h c).2.1.trans rfl, (h c).2.2.1.trans rfl, (h c).2.2.2⟩) (Value.run (F := Ideal) m ρ)

end Cert.Reference9Ideal.Fwd

/-! ## The kernel -/

namespace Cert.Kernel9Ideal.Fwd

open Cert.Kernel9Ideal Cert.Kernel9Ideal.Gen Idealize.ShloMosaic Idealize.ShloMosaic.TcCoe Idealize.SL.Sem
open Cert.Kernel5Ideal.Ffn (four shards rows rows_at unit_at pad_at)
open Cert.Reference5Ideal.Ffn (hR upR hR_at upR_at)
open Cert.Reference9Ideal.Fwd (yR yR_at shardR shardR_unit shardR_pad)
open scoped BigOperators

variable (m : (ℓ : Loc nD τ sig) → Buf (Elt Ideal) ℓ)

abbrev mX (c : Dev nD) : FVec Ideal S4096x1024 .f32 := m ((c : Thread nD τ).loc main_arg0)
abbrev mG (c : Dev nD) : FVec Ideal S1x1024 .f32 := m ((c : Thread nD τ).loc main_arg1)
abbrev mW1 (c : Dev nD) : FVec Ideal S1024x2816 .f32 := m ((c : Thread nD τ).loc main_arg2)
abbrev mW3 (c : Dev nD) : FVec Ideal S1024x2816 .f32 := m ((c : Thread nD τ).loc main_arg3)
abbrev mW2 (c : Dev nD) : FVec Ideal S2816x1024 .f32 := m ((c : Thread nD τ).loc main_arg4)

/-- What the host makes of the weights. -/
theorem V_s1 (c : Dev nD) : (V m c main_v5 : FVec Ideal S8x384x1024 .bf16) = shards (rows (mW1 m c)) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl
theorem V_s3 (c : Dev nD) : (V m c main_v8 : FVec Ideal S8x384x1024 .bf16) = shards (rows (mW3 m c)) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl
theorem V_s2 (c : Dev nD) : (V m c main_v10 : FVec Ideal S8x384x1024 .bf16) =
    shards (truncf .bf16 (mW2 m c) bitsLt_bf16_f32 : FVec Ideal S2816x1024 .bf16) := by
  unfold V
  simp only [StableHlo.TRef.binary, StableHlo.TRef.unary, StableHlo.TRef.toBuf, StableHlo.TRef.ofBuf, cast_eq, List.flatten_cons, List.flatten_nil,
    List.append_nil, List.cons_append, List.nil_append]
  after_results_simp <;> rfl

theorem X_eq (c : Dev nD) : X m c = mX m c := V_main_arg0 m c
theorem G_eq (c : Dev nD) : G m c = mG m c := V_main_arg1 m c
theorem W1_eq (c : Dev nD) : W1 m c = four (F := Ideal) (shards (rows (mW1 m c))) := congrArg (four (F := Ideal)) (V_s1 m c)
theorem W3_eq (c : Dev nD) : W3 m c = four (F := Ideal) (shards (rows (mW3 m c))) := congrArg (four (F := Ideal)) (V_s3 m c)
theorem W2_eq (c : Dev nD) : W2 m c = four (F := Ideal) (shards (truncf .bf16 (mW2 m c) bitsLt_bf16_f32 : FVec Ideal S2816x1024 .bf16)) :=
  congrArg (four (F := Ideal)) (V_s2 m c)

/-- The gate's input of a hidden unit is the reference's; of the padding it is zero. -/
theorem inp_unit (c : Dev nD) (w : FVec Ideal S1024x2816 .f32) (r : Fin 4096) (u : Fin 2816) :
    inp m c (four (F := Ideal) (shards (rows w))) (Cert.Ffn.blk u) r (Cert.Ffn.pos u) = upR (hR (mX m c) (mG m c)) w (ix2 r u) := by
  unfold inp
  rw [X_eq, G_eq, upR_at]
  exact Finset.sum_congr rfl fun k _ => by rw [unit_at, rows_at, hR_at]
theorem inp_pad (c : Dev nD) (w : FVec Ideal S1024x2816 .f32) (j : Fin 4) (r : Fin 4096) (f : Fin 768) (h : 352 ≤ f.val % 384) :
    inp m c (four (F := Ideal) (shards (rows w))) j r f = 0 :=
  Finset.sum_eq_zero fun k _ => by rw [pad_at _ _ _ _ h, mul_zero]

/-- Every place of the blocks is a unit's or padding. -/
theorem unit_of (j : Fin 4) (f : Fin 768) (h : f.val % 384 < 352) : ∃ u, Cert.Ffn.blk u = j ∧ Cert.Ffn.pos u = f := by
  have h1 := j.isLt
  have h2 := f.isLt
  refine ⟨⟨704 * j.val + 352 * (f.val / 384) + f.val % 384, by omega⟩, Fin.ext ?_, Fin.ext ?_⟩
  · show (704 * j.val + 352 * (f.val / 384) + f.val % 384) / 704 = j.val
    omega
  · show (704 * j.val + 352 * (f.val / 384) + f.val % 384) / 352 % 2 * 384 + (704 * j.val + 352 * (f.val / 384) + f.val % 384) % 352 = f.val
    omega

theorem shard_eq (c : Dev nD) (w : FVec Ideal S1024x2816 .f32) (j : Fin 4) (r : Fin 4096) (f : Fin 768) :
    inp m c (four (F := Ideal) (shards (rows w))) j r f = shardR (upR (hR (mX m c) (mG m c)) w) (ix3 j r f) := by
  by_cases h : f.val % 384 < 352
  · obtain ⟨u, rfl, rfl⟩ := unit_of j f h
    rw [inp_unit, shardR_unit]
  · rw [inp_pad m c w j r f (not_lt.1 h), shardR_pad _ j r f (not_lt.1 h)]

theorem a_same (c : Dev nD) : shardR (upR (hR (mX m c) (mG m c)) (mW1 m c)) = av m c := by
  funext i
  idx_vars i
  show _ = inp m c (W1 m c) _ _ _
  rw [W1_eq]
  exact (shard_eq m c _ _ _ _).symm
theorem b_same (c : Dev nD) : shardR (upR (hR (mX m c) (mG m c)) (mW3 m c)) = bv m c := by
  funext i
  idx_vars i
  show _ = inp m c (W3 m c) _ _ _
  rw [W3_eq]
  exact (shard_eq m c _ _ _ _).symm

theorem y_same (c : Dev nD) : yR (mX m c) (upR (hR (mX m c) (mG m c)) (mW1 m c)) (upR (hR (mX m c) (mG m c)) (mW3 m c)) (mW2 m c) = yv m c := by
  funext i
  idx_vars i
  refine (yR_at _ _ _ _ _ _).trans ?_
  unfold yv
  rw [W1_eq, W3_eq, W2_eq, X_eq]
  refine congrArg (fun s => mX m c (ix2 i0 i1) + half * s) (Cert.Ffn.sum_units _ _ (fun u => ?_) fun j f h => ?_).symm
  · show inp m c _ _ i0 _ * Ideal.logistic (inp m c _ _ i0 _) * inp m c _ _ i0 _ * four (F := Ideal) _ (ix3 _ _ i1) = _
    rw [inp_unit, inp_unit, unit_at]
    rfl
  · show inp m c _ _ i0 _ * Ideal.logistic (inp m c _ _ i0 _) * inp m c _ _ i0 _ * four (F := Ideal) _ (ix3 _ _ i1) = _
    rw [pad_at _ _ _ _ h, mul_zero]

/-- The kernel's program ends with its three results, its arguments kept. -/
theorem run (ρ : Dev nD → PrngReg) : θ_run defs (onTc (τ := τ) (main (F := Ideal))) ⟨m, fun _ => 0, ρ⟩ fun r => ∀ c : Dev nD,
    r.2.mem ((c.tc : Thread nD τ).loc main_v11_0) = yv m c ∧ r.2.mem ((c.tc : Thread nD τ).loc main_v11_1) = av m c
    ∧ r.2.mem ((c.tc : Thread nD τ).loc main_v11_2) = bv m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run _ _ _).mono (fun r h c => ⟨((h c).1 2).trans (final_y m c), ((h c).1 3).trans (final_a m c), ((h c).1 4).trans (final_b m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

/-- The claim: both programs run, and their three results are equal. -/
theorem algebraic : Cert.algebraic_Kernel9Ideal_Reference9Ideal (hKernel9Ideal := Cert.Kernel9Ideal.Gen.facts)
    (hReference9Ideal := Cert.Reference9Ideal.Gen.facts) := by
  intro m ρ m' ρ' _ hag
  refine ⟨fun c => yv m c, fun c => av m c, fun c => bv m c, run m ρ, ?_⟩
  refine (θ_run _ _ _).mono (fun r h c => ?_) (Cert.Reference9Ideal.Fwd.run m' ρ')
  obtain ⟨a0, a1, a2, a3, a4⟩ := hag c
  have b0 : Cert.Reference9Ideal.Fwd.aX m' c = mX m c := a0
  have b1 : Cert.Reference9Ideal.Fwd.aG m' c = mG m c := a1
  have b2 : Cert.Reference9Ideal.Fwd.aW1 m' c = mW1 m c := a2
  have b3 : Cert.Reference9Ideal.Fwd.aW3 m' c = mW3 m c := a3
  have b4 : Cert.Reference9Ideal.Fwd.aW2 m' c = mW2 m c := a4
  obtain ⟨hy, ha, hb, hr⟩ := h c
  rw [b0, b1, b2, b3, b4] at hy
  rw [b0, b1, b2] at ha
  rw [b0, b1, b3] at hb
  exact ⟨hy.trans (y_same m c), ha.trans (a_same m c), hb.trans (b_same m c), hr⟩

end Cert.Kernel9Ideal.Fwd

end
-- ==== Proof.PreValue.lean ====
/-
  What the two norms before the mixers leave, block by block: every row times its reciprocal root mean square and the gain.
-/
module

public import proofs.«01_k».proof.Defs
public import proofs.«01_k».proof.Proof.Gen.Kernel10Ideal.Frame
public import proofs.«01_k».proof.Proof.RmsMath
public import Idealize.ShloMosaic.Lib.Tactic
public import Idealize.ShloMosaic.Lib.Pointwise
public import Idealize.ShloMosaic.Lib.Pipeline.Value

@[expose] public section

set_option maxRecDepth 16384

noncomputable section

namespace Cert.Kernel10Ideal.Pre

open Cert.Kernel10Ideal Cert.Kernel10Ideal.Gen Idealize.ShloMosaic Idealize.ShloMosaic.TcCoe Idealize.SL.Sem
open Idealize.ShloMosaic.Pipeline (Dat)
open Idealize.SL.BI
open scoped BigOperators

theorem hz : (![0, 0] : Fin 2 → Nat) = fun _ => 0 := funext fun a => by fin_cases a <;> rfl

/-- A rank-2 index is the pair of its two coordinates. -/
theorem eta2 (j : S512x1024.Idx) : j = ix2 (n0 := 512) (n1 := 1024) ⟨(j 0).val, (j 0).isLt⟩ ⟨(j 1).val, (j 1).isLt⟩ := by
  funext x
  match x with
  | ⟨0, _⟩ => rfl
  | ⟨1, _⟩ => rfl

/-- The normalised rows times the gain. -/
def nrm (x : FVec Ideal S4096x1024 .f32) (g : FVec Ideal S1x1024 .f32) : FVec Ideal S4096x1024 .f32 := fun i =>
  x i * Rms.er (fun k : Fin 1024 => x (ix2 (i 0) k)) * g (ix2 0 (i 1))

/-- Both bodies do the same to a block of rows. -/
theorem pay_at (x : FVec Ideal S512x1024 .f32) (g : FVec Ideal S1x1024 .f32) (a : Fin 512) (b : Fin 1024) :
    k0_pay1 (F := Ideal) x g (ix2 a b) = x (ix2 a b) * Rms.er (fun k => x (ix2 a k)) * g (ix2 0 b)
      ∧ k1_pay1 (F := Ideal) x g (ix2 a b) = x (ix2 a b) * Rms.er (fun k => x (ix2 a k)) * g (ix2 0 b) := by
  unfold Rms.er
  constructor
  · pointwise [k0_pay1]
  · pointwise [k1_pay1]

variable (V : (c : Dev nD) → (b : Ref sig .tc) → Buf (Elt Ideal) ((c : Thread nD τ).loc b))

/-! ## The first call -/

/-- Row `a` of block `t`, in the whole array. -/
abbrev row0 (t : Fin cfg0.N) (a : Fin 512) : Fin 4096 := ⟨512 * t.val + a.val, by have := t.isLt; have : cfg0.N = 8 := N_0; omega⟩

theorem idx0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

theorem rows0 (c : Dev nD) (t : Fin cfg0.N) (a : Fin 512) (b : Fin 1024) :
    (iblk0 V c 0 t : FVec Ideal S512x1024 .f32) (ix2 a b) = (V c main_arg0 : FVec Ideal S4096x1024 .f32) (ix2 (row0 t a) b) := by
  have h := (idx0 t).1
  unfold iblk0
  rw [View.read_apply]
  show V c main_arg0 _ = V c main_arg0 _
  congr 1
  funext x
  apply Fin.ext
  match x with
  | ⟨0, _⟩ => show win0_0.index t 0 * 512 + 1 * a.val = 512 * t.val + a.val; rw [h.1]; omega
  | ⟨1, _⟩ => show win0_0.index t 1 * 1024 + 1 * b.val = b.val; rw [h.2]; omega

theorem gain0 (c : Dev nD) (t : Fin cfg0.N) (a : Fin 1) (b : Fin 1024) :
    (iblk0 V c 1 t : FVec Ideal S1x1024 .f32) (ix2 a b) = (V c main_arg1 : FVec Ideal S1x1024 .f32) (ix2 a b) := by
  have h := (idx0 t).2.1
  unfold iblk0
  rw [View.read_apply]
  show V c main_arg1 _ = V c main_arg1 _
  congr 1
  funext x
  apply Fin.ext
  match x with
  | ⟨0, _⟩ => show win0_1.index t 0 * 1 + 1 * a.val = a.val; rw [h.1]; omega
  | ⟨1, _⟩ => show win0_1.index t 1 * 1024 + 1 * b.val = b.val; rw [h.2]; omega

theorem left0 (c : Dev nD) (t : Fin cfg0.N) (a : Fin 512) (b : Fin 1024) :
    out0_2 (iblk0 V c 0 t) (iblk0 V c 1 t) (ix2 a b) = nrm (V c main_arg0) (V c main_arg1) (ix2 (row0 t a) b) := by
  unfold out0_2
  rw [View.canon_unit_zero hz, View.ld_unit_zero (S := S512x1024) hz, View.ld_unit_zero (S := S1x1024) hz, (pay_at _ _ a b).1]
  simp only [rows0, gain0]
  rfl

theorem size0 : ∀ t : Fin cfg0.N, win0_2.size 0 = 512 ∧ win0_2.size 1 = 1024 ∧ win0_2.xsize (grid0.coords t) 0 = 512
    ∧ win0_2.xsize (grid0.coords t) 1 = 1024 ∧ (cfg0.win 2).flush t = true :=
  (by decide +kernel : ∀ t : Fin grid0.N, _)

/-- The eight blocks cover the result. -/
theorem final0 (c : Dev nD) : (dat0 V c).arrAt 2 cfg0.N = nrm (V c main_arg0) (V c main_arg1) :=
  (dat0 V c).arrAt_eq_of_cover 2 (nrm (V c main_arg0) (V c main_arg1)) (fun t _ => by
    have h := (idx0 t).2.2
    show (cfg0.win 2).cut (grid0.coords t) ((dat0 V c).after 2 t) = _
    rw [after0_2]
    funext j
    rw [View.read_apply]
    show out0_2 (iblk0 V c 0 t) (iblk0 V c 1 t) j = nrm (V c main_arg0) (V c main_arg1) _
    rw [eta2 j, left0]
    refine congrArg (nrm (V c main_arg0) (V c main_arg1)) ?_
    funext x
    apply Fin.ext
    match x with
    | ⟨0, _⟩ => show 512 * t.val + (j 0).val = win0_2.index t 0 * 512 + 1 * (j 0).val; rw [h.1]; omega
    | ⟨1, _⟩ => show (j 1).val = win0_2.index t 1 * 1024 + 1 * (j 1).val; rw [h.2]; omega) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨s0, s1, x0, x1, hf⟩ := size0 t
    have hi := (idx0 t).2.2
    have ht : t.val = (i 0 : Nat) / 512 := rfl
    refine ⟨t, hf, ?_⟩
    show i ∈ ((View.whole main_v0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [hi.1, s0, x0]; omega
    | ⟨1, _⟩ => show win0_2.index t 1 * win0_2.size 1 ≤ (i 1 : Nat) ∧ (i 1 : Nat) < win0_2.index t 1 * win0_2.size 1 + win0_2.xsize (grid0.coords t) 1
                rw [hi.2, s1, x1]; omega

/-! ## The second call -/

/-- Row `a` of block `t`, in the whole array. -/
abbrev row1 (t : Fin cfg1.N) (a : Fin 512) : Fin 4096 := ⟨512 * t.val + a.val, by have := t.isLt; have : cfg1.N = 8 := N_1; omega⟩

theorem idx1 : ∀ t : Fin cfg1.N, (win1_0.index t 0 = t.val ∧ win1_0.index t 1 = 0) ∧ (win1_1.index t 0 = 0 ∧ win1_1.index t 1 = 0)
    ∧ (win1_2.index t 0 = t.val ∧ win1_2.index t 1 = 0) :=
  (by decide +kernel : ∀ t : Fin grid1.N, _)

theorem rows1 (c : Dev nD) (t : Fin cfg1.N) (a : Fin 512) (b : Fin 1024) :
    (iblk1 V c 0 t : FVec Ideal S512x1024 .f32) (ix2 a b) = (V c main_arg2 : FVec Ideal S4096x1024 .f32) (ix2 (row1 t a) b) := by
  have h := (idx1 t).1
  unfold iblk1
  rw [View.read_apply]
  show V c main_arg2 _ = V c main_arg2 _
  congr 1
  funext x
  apply Fin.ext
  match x with
  | ⟨0, _⟩ => show win1_0.index t 0 * 512 + 1 * a.val = 512 * t.val + a.val; rw [h.1]; omega
  | ⟨1, _⟩ => show win1_0.index t 1 * 1024 + 1 * b.val = b.val; rw [h.2]; omega

theorem gain1 (c : Dev nD) (t : Fin cfg1.N) (a : Fin 1) (b : Fin 1024) :
    (iblk1 V c 1 t : FVec Ideal S1x1024 .f32) (ix2 a b) = (V c main_arg3 : FVec Ideal S1x1024 .f32) (ix2 a b) := by
  have h := (idx1 t).2.1
  unfold iblk1
  rw [View.read_apply]
  show V c main_arg3 _ = V c main_arg3 _
  congr 1
  funext x
  apply Fin.ext
  match x with
  | ⟨0, _⟩ => show win1_1.index t 0 * 1 + 1 * a.val = a.val; rw [h.1]; omega
  | ⟨1, _⟩ => show win1_1.index t 1 * 1024 + 1 * b.val = b.val; rw [h.2]; omega

theorem left1 (c : Dev nD) (t : Fin cfg1.N) (a : Fin 512) (b : Fin 1024) :
    out1_2 (iblk1 V c 0 t) (iblk1 V c 1 t) (ix2 a b) = nrm (V c main_arg2) (V c main_arg3) (ix2 (row1 t a) b) := by
  unfold out1_2
  rw [View.canon_unit_zero hz, View.ld_unit_zero (S := S512x1024) hz, View.ld_unit_zero (S := S1x1024) hz, (pay_at _ _ a b).2]
  simp only [rows1, gain1]
  rfl

theorem size1 : ∀ t : Fin cfg1.N, win1_2.size 0 = 512 ∧ win1_2.size 1 = 1024 ∧ win1_2.xsize (grid1.coords t) 0 = 512
    ∧ win1_2.xsize (grid1.coords t) 1 = 1024 ∧ (cfg1.win 2).flush t = true :=
  (by decide +kernel : ∀ t : Fin grid1.N, _)

/-- The eight blocks cover the result. -/
theorem final1 (c : Dev nD) : (dat1 V c).arrAt 2 cfg1.N = nrm (V c main_arg2) (V c main_arg3) :=
  (dat1 V c).arrAt_eq_of_cover 2 (nrm (V c main_arg2) (V c main_arg3)) (fun t _ => by
    have h := (idx1 t).2.2
    show (cfg1.win 2).cut (grid1.coords t) ((dat1 V c).after 2 t) = _
    rw [after1_2]
    funext j
    rw [View.read_apply]
    show out1_2 (iblk1 V c 0 t) (iblk1 V c 1 t) j = nrm (V c main_arg2) (V c main_arg3) _
    rw [eta2 j, left1]
    refine congrArg (nrm (V c main_arg2) (V c main_arg3)) ?_
    funext x
    apply Fin.ext
    match x with
    | ⟨0, _⟩ => show 512 * t.val + (j 0).val = win1_2.index t 0 * 512 + 1 * (j 0).val; rw [h.1]; omega
    | ⟨1, _⟩ => show (j 1).val = win1_2.index t 1 * 1024 + 1 * (j 1).val; rw [h.2]; omega) fun i => by
    have h0 : (i 0 : Nat) < 4096 := (i 0).isLt
    have h1 : (i 1 : Nat) < 1024 := (i 1).isLt
    have hN : cfg1.N = 8 := N_1
    let t : Fin cfg1.N := ⟨(i 0 : Nat) / 512, by omega⟩
    obtain ⟨s0, s1, x0, x1, hf⟩ := size1 t
    have hi := (idx1 t).2.2
    have ht : t.val = (i 0 : Nat) / 512 := rfl
    refine ⟨t, hf, ?_⟩
    show i ∈ ((View.whole main_v1).slice (win1_2.rect t)).set
    rw [View.set_slice_whole, Rect.mem_set_unit]
    intro a
    match a with
    | ⟨0, _⟩ => show win1_2.index t 0 * win1_2.size 0 ≤ (i 0 : Nat) ∧ (i 0 : Nat) < win1_2.index t 0 * win1_2.size 0 + win1_2.xsize (grid1.coords t) 0
                rw [hi.1, s0, x0]; omega
    | ⟨1, _⟩ => show win1_2.index t 1 * win1_2.size 1 ≤ (i 1 : Nat) ∧ (i 1 : Nat) < win1_2.index t 1 * win1_2.size 1 + win1_2.xsize (grid1.coords t) 1
                rw [hi.2, s1, x1]; omega

end Cert.Kernel10Ideal.Pre

end
-- ==== Proof.PreClaim.lean ====
/-
  The norms before the mixers are the reference's.
-/
module

public import proofs.«01_k».proof.Proof.PreValue
public import proofs.«01_k».proof.Proof.Gen.Reference10Ideal.Run

@[expose] public section

set_option maxRecDepth 16384

noncomputable section

namespace Cert.Kernel10Ideal.Pre

open Cert.Kernel10Ideal Cert.Kernel10Ideal.Gen Idealize.ShloMosaic Idealize.ShloMosaic.TcCoe Idealize.SL.Sem
open Idealize.SL.BI
open scoped BigOperators

/-! ## The run, with every buffer at its last contents -/

section Run

open Idealize.ShloMosaic.Tactic Idealize.SL Idealize.SL.RA
open scoped Idealize.SL.BI
open Idealize.SL.BI.BIBase Idealize.SL.BI.Laws Idealize.SL.ProofMode Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at the contents folded through the two calls. -/
theorem run_mem : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

end Run

/-! ## The contents at the end -/

variable (m : (ℓ : Loc nD τ sig) → Buf (Elt Ideal) ℓ) (ρ : Dev nD → PrngReg)

abbrev mX (c : Dev nD) : FVec Ideal S4096x1024 .f32 := m ((c : Thread nD τ).loc main_arg0)
abbrev mG (c : Dev nD) : FVec Ideal S1x1024 .f32 := m ((c : Thread nD τ).loc main_arg1)
abbrev mX' (c : Dev nD) : FVec Ideal S4096x1024 .f32 := m ((c : Thread nD τ).loc main_arg2)
abbrev mG' (c : Dev nD) : FVec Ideal S1x1024 .f32 := m ((c : Thread nD τ).loc main_arg3)

theorem end0 (c : Dev nD) : W2 m ρ c (Proc.devRef .tc main_v0) = nrm (mX m c) (mG m c) :=
  (W2_of m ρ c main_v0 (by decide)).trans ((W1_arr m ρ c 2).trans (final0 (V0 m ρ) c))
theorem end1 (c : Dev nD) : W2 m ρ c (Proc.devRef .tc main_v1) = nrm (mX' m c) (mG' m c) := by
  refine (W2_arr m ρ c 2).trans ((final1 (V1 m ρ) c).trans ?_)
  show nrm (W1 m ρ c (Proc.devRef .tc main_arg2)) (W1 m ρ c (Proc.devRef .tc main_arg3)) = _
  rw [W1_args m ρ c main_arg2 (by decide), W1_args m ρ c main_arg3 (by decide)]

set_option maxHeartbeats 2000000 in
/-- The claim: both programs run, and their two results are equal. -/
theorem algebraic : Cert.algebraic_Kernel10Ideal_Reference10Ideal (hKernel10Ideal := Cert.Kernel10Ideal.Gen.facts)
    (hReference10Ideal := Cert.Reference10Ideal.Gen.facts) := by
  intro m ρ m' ρ' _ hag
  refine ⟨fun c => nrm (mX m c) (mG m c), fun c => nrm (mX' m c) (mG' m c), ?_, ?_⟩
  · refine (θ_run _ _ _).mono (fun r h c => ?_) (run_mem (F := Ideal) m ρ)
    exact ⟨(h c _ (mem_uc main_v0 (by decide))).trans (end0 m ρ c), (h c _ (mem_uc main_v1 (by decide))).trans (end1 m ρ c),
      (h c _ (mem_uc main_arg0 (by decide))).trans (W2_main_arg0 m ρ c), (h c _ (mem_uc main_arg1 (by decide))).trans (W2_main_arg1 m ρ c),
      (h c _ (mem_uc main_arg2 (by decide))).trans (W2_main_arg2 m ρ c), (h c _ (mem_uc main_arg3 (by decide))).trans (W2_main_arg3 m ρ c)⟩
  · refine (θ_run _ _ _).mono (fun r h c => ?_) (Cert.Reference10Ideal.Value.run (F := Ideal) m' ρ')
    obtain ⟨a0, a1, a2, a3⟩ := hag c
    obtain ⟨h0, h1, hrest⟩ := h c
    refine ⟨h0.trans ?_, h1.trans ?_, hrest⟩
    · rw [a0, a1]
      funext i
      idx_vars i
      unfold nrm Rms.er
      pointwise []
    · rw [a2, a3]
      funext i
      idx_vars i
      unfold nrm Rms.er
      pointwise []

end Cert.Kernel10Ideal.Pre

end
-- ==== Proof.lean ====
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite5
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite6
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference1Ideal.Run
public import proofs.«01_k».proof.Proof.Gen.Pre_finite2
public import proofs.«01_k».proof.Proof.Gen.Pre_finite3
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.GluClaim
public import proofs.«01_k».proof.Proof.NormClaim
public import proofs.«01_k».proof.Proof.LossClaim
public import proofs.«01_k».proof.Proof.DiscClaim
public import proofs.«01_k».proof.Proof.RetClaim
public import proofs.«01_k».proof.Proof.FfnClaim
public import proofs.«01_k».proof.Proof.FwdClaim
public import proofs.«01_k».proof.Proof.PreClaim
public import Idealize.ShloMosaic.Adequacy
public import Idealize.ShloMosaic.Init

@[expose] public section

noncomputable section

namespace Cert.Proof

open Idealize.ShloMosaic Idealize.SL.Sem

theorem frame_reference1 : Cert.quiescent_Reference1Ideal (hReference1Ideal := Cert.Reference1Ideal.Gen.facts) := fun m ρ _ =>
  (θ_run _ _ _).mono (fun r h => ⟨fun c => (h c).2.2.2.2.2, sem_eq_zero_of_no_sems (by decide) r.2⟩) (Cert.Reference1Ideal.Value.run (F := Ideal) m ρ)
theorem frame_reference2 : Cert.quiescent_Reference2Ideal (hReference2Ideal := Cert.Reference2Ideal.Gen.facts) := fun m ρ _ =>
  (θ_run _ _ _).mono (fun r h => ⟨fun c => (h c).2.2, sem_eq_zero_of_no_sems (by decide) r.2⟩) (Cert.Reference2Ideal.Value.run (F := Ideal) m ρ)
theorem frame_reference3 : Cert.quiescent_Reference3Ideal (hReference3Ideal := Cert.Reference3Ideal.Gen.facts) := fun m ρ _ =>
  (θ_run _ _ _).mono (fun r h => ⟨fun c => (h c).2.2.2, sem_eq_zero_of_no_sems (by decide) r.2⟩) (Cert.Reference3Ideal.Value.run (F := Ideal) m ρ)
theorem frame_reference4 : Cert.quiescent_Reference4Ideal (hReference4Ideal := Cert.Reference4Ideal.Gen.facts) := fun m ρ _ =>
  (θ_run _ _ _).mono (fun r h => ⟨fun c => (h c).2.2.2.2.2.2.2.2.2, sem_eq_zero_of_no_sems (by decide) r.2⟩) (Cert.Reference4Ideal.Value.run (F := Ideal) m ρ)
theorem frame_reference6 : Cert.quiescent_Reference6Ideal (hReference6Ideal := Cert.Reference6Ideal.Gen.facts) := fun m ρ _ =>
  (θ_run _ _ _).mono (fun r h => ⟨fun c => ⟨(h c _ rfl).trans (Cert.Reference6Ideal.Ret.U4_arg0 m c), (h c _ rfl).trans (Cert.Reference6Ideal.Ret.U4_arg1 m c),
    (h c _ rfl).trans (Cert.Reference6Ideal.Ret.U4_arg2 m c)⟩, sem_eq_zero_of_no_sems (by decide) r.2⟩) (Cert.Reference6Ideal.Ret.run (F := Ideal) m ρ)
theorem frame_reference5 : Cert.quiescent_Reference5Ideal (hReference5Ideal := Cert.Reference5Ideal.Gen.facts) := fun m ρ _ =>
  (θ_run _ _ _).mono (fun r h => ⟨fun c => (h c).2.2, sem_eq_zero_of_no_sems (by decide) r.2⟩) (Cert.Reference5Ideal.Value.run (F := Ideal) m ρ)
theorem frame_reference9 : Cert.quiescent_Reference9Ideal (hReference9Ideal := Cert.Reference9Ideal.Gen.facts) := fun m ρ _ =>
  (θ_run _ _ _).mono (fun r h => ⟨fun c => (h c).2.2.2, sem_eq_zero_of_no_sems (by decide) r.2⟩) (Cert.Reference9Ideal.Value.run (F := Ideal) m ρ)
theorem frame_reference10 : Cert.quiescent_Reference10Ideal (hReference10Ideal := Cert.Reference10Ideal.Gen.facts) := fun m ρ _ =>
  (θ_run _ _ _).mono (fun r h => ⟨fun c => (h c).2.2, sem_eq_zero_of_no_sems (by decide) r.2⟩) (Cert.Reference10Ideal.Value.run (F := Ideal) m ρ)

theorem claim : Cert.Claim := ⟨Cert.Kernel1.Gen.facts, Cert.Kernel1Ideal.Gen.facts, Cert.Reference1Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts,
  Cert.Kernel5.Gen.facts, Cert.Kernel5Ideal.Gen.facts, Cert.Reference5Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite2.Gen.facts, Cert.Pre_finite3.Gen.facts, Cert.Pre_finite6.Gen.facts, Cert.Pre_finite5.Gen.facts,
  fun m ρ _ => Cert.Kernel1.Gen.frame m ρ, fun m ρ _ => Cert.Kernel1Ideal.Gen.frame m ρ, frame_reference1,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, frame_reference4,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  trivial, Cert.Kernel1Ideal.Glu.algebraic, trivial, Cert.NormClaim.algebraic, trivial, Cert.LossClaim.algebraic, trivial, Cert.Disc.algebraic,
  Cert.Kernel6Ideal.Ret.preserves, Cert.Kernel6Ideal.Ret.algebraic,
  trivial, Cert.Kernel5Ideal.Ffn.algebraic, trivial, Cert.Kernel9Ideal.Fwd.algebraic,
  trivial, Cert.Kernel10Ideal.Pre.algebraic⟩

end Cert.Proof

end
